-- ==== Defs.lean ====
def Pre_Kernel [hPre_idx_in_rows : Cert.Pre_idx_in_rows.Facts] (m : (ℓ : Loc Cert.Kernel.nD Cert.Kernel.τ Cert.Kernel.sig) → Buf (Elt Bits) ℓ) : Prop :=
  ∀ c : Dev Cert.Kernel.nD,
    (Cert.Pre_idx_in_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_idx_in_rows : Cert.Pre_idx_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_finite_in_rows [hPre_finite_in_rows : Cert.Pre_finite_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_rows [hPre_finite_in_rows : Cert.Pre_finite_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Select (m : (ℓ : Loc Cert.Select.nD Cert.Select.τ Cert.Select.sig) → Buf (Elt Bits) ℓ) : Prop :=
  True

def Pre_SelectIdeal (m : (ℓ : Loc Cert.SelectIdeal.nD Cert.SelectIdeal.τ Cert.SelectIdeal.sig) → Buf (Elt Ideal) ℓ) : Prop :=
  True

def Pre_SelectIdeal_near_apart [hPre_near_apart : Cert.Pre_near_apart.Facts] (m : (ℓ : Loc Cert.SelectIdeal.nD Cert.SelectIdeal.τ Cert.SelectIdeal.sig) → Buf (Elt Ideal) ℓ) : Prop :=
  ∀ c : Dev Cert.SelectIdeal.nD,
    (Cert.Pre_near_apart.fn (F := Ideal) (m ((c.tc : Thread Cert.SelectIdeal.nD Cert.SelectIdeal.τ).loc Cert.SelectIdeal.main_arg0))) = (fun _ => 1#1)

def Pre_SelectRefIdeal (m : (ℓ : Loc Cert.SelectRefIdeal.nD Cert.SelectRefIdeal.τ Cert.SelectRefIdeal.sig) → Buf (Elt Ideal) ℓ) : Prop :=
  True

def Pre_SelectRefIdeal_near_apart [hPre_near_apart : Cert.Pre_near_apart.Facts] (m : (ℓ : Loc Cert.SelectRefIdeal.nD Cert.SelectRefIdeal.τ Cert.SelectRefIdeal.sig) → Buf (Elt Ideal) ℓ) : Prop :=
  ∀ c : Dev Cert.SelectRefIdeal.nD,
    (Cert.Pre_near_apart.fn (F := Ideal) (m ((c.tc : Thread Cert.SelectRefIdeal.nD Cert.SelectRefIdeal.τ).loc Cert.SelectRefIdeal.main_arg0))) = (fun _ => 1#1)

def quiescent_Kernel [hKernel : Cert.Kernel.Facts] [hPre_idx_in_rows : Cert.Pre_idx_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_in_rows [hKernelIdeal : Cert.KernelIdeal.Facts] [hPre_finite_in_rows : Cert.Pre_finite_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_rows m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_in_rows [hReferenceIdeal : Cert.ReferenceIdeal.Facts] [hPre_finite_in_rows : Cert.Pre_finite_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Select [hSelect : Cert.Select.Facts] : Prop :=
  ∀ (m : (ℓ : Loc Cert.Select.nD Cert.Select.τ Cert.Select.sig) → Buf (Elt Bits) ℓ) (g : Dev Cert.Select.nD → PrngReg), Pre_Select m →
    θ_run (Cert.Select.defs (F := Bits)) (onTc (τ := Cert.Select.τ) (Cert.Select.main (F := Bits))) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0))
      ∧ r.2.sem = fun _ => 0)

def quiescent_SelectIdeal [hSelectIdeal : Cert.SelectIdeal.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0))
      ∧ r.2.sem = fun _ => 0)

def quiescent_SelectIdeal_pre_near_apart [hSelectIdeal : Cert.SelectIdeal.Facts] [hPre_near_apart : Cert.Pre_near_apart.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal_near_apart m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0))
      ∧ r.2.sem = fun _ => 0)

def quiescent_SelectRefIdeal [hSelectRefIdeal : Cert.SelectRefIdeal.Facts] : Prop :=
  ∀ (m : (ℓ : Loc Cert.SelectRefIdeal.nD Cert.SelectRefIdeal.τ Cert.SelectRefIdeal.sig) → Buf (Elt Ideal) ℓ) (g : Dev Cert.SelectRefIdeal.nD → PrngReg), Pre_SelectRefIdeal m →
    θ_run (Cert.SelectRefIdeal.defs (F := Ideal)) (onTc (τ := Cert.SelectRefIdeal.τ) (Cert.SelectRefIdeal.main (F := Ideal))) ⟨m, fun _ => 0, g⟩ (fun r => (∀ c : Dev Cert.SelectRefIdeal.nD,
      r.2.mem ((c.tc : Thread Cert.SelectRefIdeal.nD Cert.SelectRefIdeal.τ).loc Cert.SelectRefIdeal.main_arg0) = m ((c.tc : Thread Cert.SelectRefIdeal.nD Cert.SelectRefIdeal.τ).loc Cert.SelectRefIdeal.main_arg0))
      ∧ r.2.sem = fun _ => 0)

def quiescent_SelectRefIdeal_pre_near_apart [hSelectRefIdeal : Cert.SelectRefIdeal.Facts] [hPre_near_apart : Cert.Pre_near_apart.Facts] : Prop :=
  ∀ (m : (ℓ : Loc Cert.SelectRefIdeal.nD Cert.SelectRefIdeal.τ Cert.SelectRefIdeal.sig) → Buf (Elt Ideal) ℓ) (g : Dev Cert.SelectRefIdeal.nD → PrngReg), Pre_SelectRefIdeal_near_apart m →
    θ_run (Cert.SelectRefIdeal.defs (F := Ideal)) (onTc (τ := Cert.SelectRefIdeal.τ) (Cert.SelectRefIdeal.main (F := Ideal))) ⟨m, fun _ => 0, g⟩ (fun r => (∀ c : Dev Cert.SelectRefIdeal.nD,
      r.2.mem ((c.tc : Thread Cert.SelectRefIdeal.nD Cert.SelectRefIdeal.τ).loc Cert.SelectRefIdeal.main_arg0) = m ((c.tc : Thread Cert.SelectRefIdeal.nD Cert.SelectRefIdeal.τ).loc Cert.SelectRefIdeal.main_arg0))
      ∧ r.2.sem = fun _ => 0)

def preserves_Kernel_KernelIdeal : Prop :=
  True

def algebraic_KernelIdeal_ReferenceIdeal_pre_finite_in_rows [hKernelIdeal : Cert.KernelIdeal.Facts] [hReferenceIdeal : Cert.ReferenceIdeal.Facts] [hPre_finite_in_rows : Cert.Pre_finite_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v5)) (v1 : (c : Dev Cert.QkvIdeal.nD) → Buf (Elt Ideal) ((c.tc : Thread Cert.QkvIdeal.nD Cert.QkvIdeal.τ).loc Cert.QkvIdeal.main_v7)) (v2 : (c : Dev Cert.QkvIdeal.nD) → Buf (Elt Ideal) ((c.tc : Thread Cert.QkvIdeal.nD Cert.QkvIdeal.τ).loc Cert.QkvIdeal.main_v9)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v5) = v0 c
          ∧ r.2.mem ((c.tc : Thread Cert.QkvIdeal.nD Cert.QkvIdeal.τ).loc Cert.QkvIdeal.main_v7) = v1 c
          ∧ r.2.mem ((c.tc : Thread Cert.QkvIdeal.nD Cert.QkvIdeal.τ).loc Cert.QkvIdeal.main_v9) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v8) = v0 c
          ∧ r.2.mem ((c.tc : Thread Cert.QkvRefIdeal.nD Cert.QkvRefIdeal.τ).loc Cert.QkvRefIdeal.main_v10) = v1 c
          ∧ r.2.mem ((c.tc : Thread Cert.QkvRefIdeal.nD Cert.QkvRefIdeal.τ).loc Cert.QkvRefIdeal.main_v12) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v5) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Select_SelectIdeal : Prop :=
  True

def algebraic_SelectIdeal_SelectRefIdeal_pre_near_apart [hSelectIdeal : Cert.SelectIdeal.Facts] [hSelectRefIdeal : Cert.SelectRefIdeal.Facts] [hPre_near_apart : Cert.Pre_near_apart.Facts] : Prop :=
  ∀ (m : (ℓ : Loc Cert.SelectIdeal.nD Cert.SelectIdeal.τ Cert.SelectIdeal.sig) → Buf (Elt Ideal) ℓ) (g : Dev Cert.SelectIdeal.nD → PrngReg)
    (m' : (ℓ : Loc Cert.SelectRefIdeal.nD Cert.SelectRefIdeal.τ Cert.SelectRefIdeal.sig) → Buf (Elt Ideal) ℓ) (g' : Dev Cert.SelectRefIdeal.nD → PrngReg), Pre_SelectIdeal_near_apart m →
    (∀ c : Dev Cert.SelectIdeal.nD,
      m' ((c.tc : Thread Cert.SelectRefIdeal.nD Cert.SelectRefIdeal.τ).loc Cert.SelectRefIdeal.main_arg0) = m ((c.tc : Thread Cert.SelectIdeal.nD Cert.SelectIdeal.τ).loc Cert.SelectIdeal.main_arg0)) →
    ∃ (v0 : (c : Dev Cert.SelectIdeal.nD) → Buf (Elt Ideal) ((c.tc : Thread Cert.SelectIdeal.nD Cert.SelectIdeal.τ).loc Cert.SelectIdeal.main_v0)),
      θ_run (Cert.SelectIdeal.defs (F := Ideal)) (onTc (τ := Cert.SelectIdeal.τ) (Cert.SelectIdeal.main (F := Ideal))) ⟨m, fun _ => 0, g⟩ (fun r => ∀ c : Dev Cert.SelectIdeal.nD,
          r.2.mem ((c.tc : Thread Cert.SelectIdeal.nD Cert.SelectIdeal.τ).loc Cert.SelectIdeal.main_v0) = v0 c
          ∧ r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0))
      ∧ θ_run (Cert.SelectRefIdeal.defs (F := Ideal)) (onTc (τ := Cert.SelectRefIdeal.τ) (Cert.SelectRefIdeal.main (F := Ideal))) ⟨m', fun _ => 0, g'⟩ (fun r => ∀ c : Dev Cert.SelectRefIdeal.nD,
          r.2.mem ((c.tc : Thread Cert.SelectRefIdeal.nD Cert.SelectRefIdeal.τ).loc Cert.SelectRefIdeal.main_v12) = v0 c
          ∧ r.2.mem ((c.tc : Thread Cert.SelectRefIdeal.nD Cert.SelectRefIdeal.τ).loc Cert.SelectRefIdeal.main_arg0) = m' ((c.tc : Thread Cert.SelectRefIdeal.nD Cert.SelectRefIdeal.τ).loc Cert.SelectRefIdeal.main_arg0))

def Claim : Prop :=
  ∃ (hKernel : Cert.Kernel.Facts) (hKernelIdeal : Cert.KernelIdeal.Facts) (hReferenceIdeal : Cert.ReferenceIdeal.Facts) (hQkv : Cert.Qkv.Facts) (hQkvIdeal : Cert.QkvIdeal.Facts) (hQkvRefIdeal : Cert.QkvRefIdeal.Facts) (hOut : Cert.Out.Facts) (hOutIdeal : Cert.OutIdeal.Facts) (hOutRefIdeal : Cert.OutRefIdeal.Facts) (hSelect : Cert.Select.Facts) (hSelectIdeal : Cert.SelectIdeal.Facts) (hSelectRefIdeal : Cert.SelectRefIdeal.Facts) (hPre_idx_in_rows : Cert.Pre_idx_in_rows.Facts) (hPre_finite_in_rows : Cert.Pre_finite_in_rows.Facts) (hPre_near_apart : Cert.Pre_near_apart.Facts),
    quiescent_Kernel (hKernel := hKernel) (hPre_idx_in_rows := hPre_idx_in_rows)
    ∧ quiescent_KernelIdeal (hKernelIdeal := hKernelIdeal) (hPre_idx_in_rows := hPre_idx_in_rows)
    ∧ quiescent_KernelIdeal_pre_finite_in_rows (hKernelIdeal := hKernelIdeal) (hPre_finite_in_rows := hPre_finite_in_rows)
    ∧ quiescent_ReferenceIdeal (hReferenceIdeal := hReferenceIdeal)
    ∧ quiescent_ReferenceIdeal_pre_finite_in_rows (hReferenceIdeal := hReferenceIdeal) (hPre_finite_in_rows := hPre_finite_in_rows)
    ∧ quiescent_Qkv (hQkv := hQkv)
    ∧ quiescent_QkvIdeal (hQkvIdeal := hQkvIdeal)
    ∧ quiescent_QkvRefIdeal (hQkvRefIdeal := hQkvRefIdeal)
    ∧ quiescent_Out (hOut := hOut)
    ∧ quiescent_OutIdeal (hOutIdeal := hOutIdeal)
    ∧ quiescent_OutRefIdeal (hOutRefIdeal := hOutRefIdeal)
    ∧ quiescent_Select (hSelect := hSelect)
    ∧ quiescent_SelectIdeal (hSelectIdeal := hSelectIdeal)
    ∧ quiescent_SelectIdeal_pre_near_apart (hSelectIdeal := hSelectIdeal) (hPre_near_apart := hPre_near_apart)
    ∧ quiescent_SelectRefIdeal (hSelectRefIdeal := hSelectRefIdeal)
    ∧ quiescent_SelectRefIdeal_pre_near_apart (hSelectRefIdeal := hSelectRefIdeal) (hPre_near_apart := hPre_near_apart)
    ∧ preserves_Kernel_KernelIdeal
    ∧ algebraic_KernelIdeal_ReferenceIdeal_pre_finite_in_rows (hKernelIdeal := hKernelIdeal) (hReferenceIdeal := hReferenceIdeal) (hPre_finite_in_rows := hPre_finite_in_rows)
    ∧ preserves_Qkv_QkvIdeal
    ∧ algebraic_QkvIdeal_QkvRefIdeal (hQkvIdeal := hQkvIdeal) (hQkvRefIdeal := hQkvRefIdeal)
    ∧ preserves_Out_OutIdeal
    ∧ algebraic_OutIdeal_OutRefIdeal (hOutIdeal := hOutIdeal) (hOutRefIdeal := hOutRefIdeal)
    ∧ preserves_Select_SelectIdeal
    ∧ algebraic_SelectIdeal_SelectRefIdeal_pre_near_apart (hSelectIdeal := hSelectIdeal) (hSelectRefIdeal := hSelectRefIdeal) (hPre_near_apart := hPre_near_apart)
-- ==== Pre_finite_in_rows.lean ====
abbrev S12x2048x64 : Shape := ⟨3, ![12, 2048, 64]⟩
abbrev S12x2048x16 : Shape := ⟨3, ![12, 2048, 16]⟩
abbrev S_ : Shape := ⟨0, ![]⟩

class Facts : Prop where
  bcast_S_S12x2048x16 : S_.BroadcastsInDim S12x2048x16 (![] : Fin 0 → Fin S12x2048x16.rank)
  reducesTo_S12x2048x16_S_d0_1_2 : S12x2048x16.ReducesTo [0, 1, 2] S_
  h_S_ : 0 < S_.numel
  bcast_S_S12x2048x64 : S_.BroadcastsInDim S12x2048x64 (![] : Fin 0 → Fin S12x2048x64.rank)
  reducesTo_S12x2048x64_S_d0_1_2 : S12x2048x64.ReducesTo [0, 1, 2] S_

variable [Facts]

def fn {F : FTy → Type} [FloatOps F] (main_arg0 : FVec F S12x2048x64 .f32) (main_arg1 : FVec F S12x2048x64 .f32) (main_arg2 : FVec F S12x2048x64 .f32) (main_arg3 : IVec S12x2048x16 32) : IVec S_ 1 :=
  let main_c : IVec S_ 32 := constantI S_ 32 0#32
  let main_v0 : IVec S12x2048x16 32 := broadcastInDim S12x2048x16 ![] bcast_S_S12x2048x16 main_c
  let main_v1 : IVec S12x2048x16 1 := cmpi .sge main_arg3 main_v0
  let main_c_0 : IVec S_ 32 := constantI S_ 32 2048#32
  let main_v2 : IVec S12x2048x16 32 := broadcastInDim S12x2048x16 ![] bcast_S_S12x2048x16 main_c_0
  let main_v3 : IVec S12x2048x16 1 := cmpi .slt main_arg3 main_v2
  let main_v4 : IVec S12x2048x16 1 := andi main_v1 main_v3
  let main_c_1 : IVec S_ 1 := constantI S_ 1 1#1
  let main_v5 : IVec S_ 1 := (fun x v => Host.reduce IntOp.andi x v reducesTo_S12x2048x16_S_d0_1_2 h_S_) main_v4 main_c_1
  let main_v6 : FVec F S12x2048x64 .f32 := Host.absf main_arg0
  let main_cst : FVec F S_ .f32 := constant S_ .f32 0x7F800000#32
  let main_v7 : FVec F S12x2048x64 .f32 := broadcastInDim S12x2048x64 ![] bcast_S_S12x2048x64 main_cst
  let main_v8 : IVec S12x2048x64 1 := cmpf .olt main_v6 main_v7
  let main_c_2 : IVec S_ 1 := constantI S_ 1 1#1
  let main_v9 : IVec S_ 1 := (fun x v => Host.reduce IntOp.andi x v reducesTo_S12x2048x64_S_d0_1_2 h_S_) main_v8 main_c_2
  let main_v10 : IVec S_ 1 := andi main_v5 main_v9
  let main_v11 : FVec F S12x2048x64 .f32 := Host.absf main_arg1
  let main_cst_3 : FVec F S_ .f32 := constant S_ .f32 0x7F800000#32
  let main_v12 : FVec F S12x2048x64 .f32 := broadcastInDim S12x2048x64 ![] bcast_S_S12x2048x64 main_cst_3
  let main_v13 : IVec S12x2048x64 1 := cmpf .olt main_v11 main_v12
  let main_c_4 : IVec S_ 1 := constantI S_ 1 1#1
  let main_v14 : IVec S_ 1 := (fun x v => Host.reduce IntOp.andi x v reducesTo_S12x2048x64_S_d0_1_2 h_S_) main_v13 main_c_4
  let main_v15 : IVec S_ 1 := andi main_v10 main_v14
  main_v15
-- ==== Pre_idx_in_rows.lean ====
abbrev S12x2048x64 : Shape := ⟨3, ![12, 2048, 64]⟩
abbrev S12x2048x16 : Shape := ⟨3, ![12, 2048, 16]⟩
abbrev S_ : Shape := ⟨0, ![]⟩

class Facts : Prop where
  bcast_S_S12x2048x16 : S_.BroadcastsInDim S12x2048x16 (![] : Fin 0 → Fin S12x2048x16.rank)
  reducesTo_S12x2048x16_S_d0_1_2 : S12x2048x16.ReducesTo [0, 1, 2] S_
  h_S_ : 0 < S_.numel

variable [Facts]

def fn {F : FTy → Type} [FloatOps F] (main_arg0 : FVec F S12x2048x64 .f32) (main_arg1 : FVec F S12x2048x64 .f32) (main_arg2 : FVec F S12x2048x64 .f32) (main_arg3 : IVec S12x2048x16 32) : IVec S_ 1 :=
  let main_c : IVec S_ 32 := constantI S_ 32 0#32
  let main_v0 : IVec S12x2048x16 32 := broadcastInDim S12x2048x16 ![] bcast_S_S12x2048x16 main_c
  let main_v1 : IVec S12x2048x16 1 := cmpi .sge main_arg3 main_v0
  let main_c_0 : IVec S_ 32 := constantI S_ 32 2048#32
  let main_v2 : IVec S12x2048x16 32 := broadcastInDim S12x2048x16 ![] bcast_S_S12x2048x16 main_c_0
  let main_v3 : IVec S12x2048x16 1 := cmpi .slt main_arg3 main_v2
  let main_v4 : IVec S12x2048x16 1 := andi main_v1 main_v3
  let main_c_1 : IVec S_ 1 := constantI S_ 1 1#1
  let main_v5 : IVec S_ 1 := (fun x v => Host.reduce IntOp.andi x v reducesTo_S12x2048x16_S_d0_1_2 h_S_) main_v4 main_c_1
  main_v5
-- ==== Pre_near_apart.lean ====
abbrev S12x2048x64 : Shape := ⟨3, ![12, 2048, 64]⟩
abbrev S_ : Shape := ⟨0, ![]⟩
abbrev S12x2048 : Shape := ⟨2, ![12, 2048]⟩
abbrev S12x2048x1 : Shape := ⟨3, ![12, 2048, 1]⟩
abbrev S12x1x2048 : Shape := ⟨3, ![12, 1, 2048]⟩
abbrev S12x2048x2048 : Shape := ⟨3, ![12, 2048, 2048]⟩
abbrev S12x2048x16 : Shape := ⟨3, ![12, 2048, 16]⟩

class Facts : Prop where
  reducesTo_S12x2048x64_S12x2048_d2 : S12x2048x64.ReducesTo [2] S12x2048
  h_S_ : 0 < S_.numel
  bcast_S12x2048_S12x2048x1_0_1 : S12x2048.BroadcastsInDim S12x2048x1 (![0, 1] : Fin 2 → Fin S12x2048x1.rank)
  bcast_S12x2048_S12x1x2048_0_2 : S12x2048.BroadcastsInDim S12x1x2048 (![0, 2] : Fin 2 → Fin S12x1x2048.rank)
  bcast_S12x2048x1_S12x2048x2048_0_1_2 : S12x2048x1.BroadcastsInDim S12x2048x2048 (![0, 1, 2] : Fin 3 → Fin S12x2048x2048.rank)
  bcast_S12x1x2048_S12x2048x2048_0_1_2 : S12x1x2048.BroadcastsInDim S12x2048x2048 (![0, 1, 2] : Fin 3 → Fin S12x2048x2048.rank)
  bcast_S_S12x2048x2048 : S_.BroadcastsInDim S12x2048x2048 (![] : Fin 0 → Fin S12x2048x2048.rank)
  slices_S12x2048x2048_S12x2048x16_0_0_0 : S12x2048x2048.Slices ![0, 0, 0] S12x2048x16
  slices_S12x2048x2048_S12x2048x16_0_0_1 : S12x2048x2048.Slices ![0, 0, 1] S12x2048x16
  reducesTo_S12x2048x16_S_d0_1_2 : S12x2048x16.ReducesTo [0, 1, 2] S_
  bcast_S_S12x2048x16 : S_.BroadcastsInDim S12x2048x16 (![] : Fin 0 → Fin S12x2048x16.rank)
  dot_S12x2048x64_S12x2048x64_S12x2048x2048_2_2_1_1_0_0_wf : DotDims.WF S12x2048x64 S12x2048x64 S12x2048x2048 [2] [2] [1] [1] [0] [0]

variable [Facts]

variable {F : FTy → Type} [FloatOps F]
def dot_S12x2048x64_S12x2048x64_S12x2048x2048_2_2_1_1_0_0 : DotDims S12x2048x64 S12x2048x64 S12x2048x2048 where
  lhsContracting := [2]
  rhsContracting := [2]
  lhsNonContracting := [1]
  rhsNonContracting := [1]
  lhsBatch := [0]
  rhsBatch := [0]
  wf := dot_S12x2048x64_S12x2048x64_S12x2048x2048_2_2_1_1_0_0_wf
def comparator_f32_i32_d2 : F .f32 × BitVec 32 → F .f32 × BitVec 32 → BitVec 1 :=
  fun l r =>
    let cst_3 := FloatOps.ofBits .f32 0x00000000#32
    let v22 := FloatOps.cmpf .oeq l.1 cst_3
    let cst_4 := FloatOps.ofBits .f32 0x00000000#32
    let v23 := Scalar.select v22 cst_4 l.1
    let v24 := FloatOps.cmpf .une l.1 l.1
    let cst_5 := FloatOps.ofBits .f32 0x7FC00000#32
    let v25 := Scalar.select v24 cst_5 v23
    let cst_6 := FloatOps.ofBits .f32 0x00000000#32
    let v26 := FloatOps.cmpf .oeq r.1 cst_6
    let cst_7 := FloatOps.ofBits .f32 0x00000000#32
    let v27 := Scalar.select v26 cst_7 r.1
    let v28 := FloatOps.cmpf .une r.1 r.1
    let cst_8 := FloatOps.ofBits .f32 0x7FC00000#32
    let v29 := Scalar.select v28 cst_8 v27
    let v30 := FloatOps.cmpfTotal .lt v25 v29
    v30

def fn_part1 {F : FTy → Type} [FloatOps F] (main_v16 : IVec S_ 1) (main_v17 : FVec F S12x2048x16 .f32) (main_v18 : FVec F S12x2048x16 .f32) : IVec S_ 1 :=
  let main_v19 : IVec S12x2048x16 1 := cmpf .olt main_v17 main_v18
  let main_c_2 : IVec S_ 1 := constantI S_ 1 1#1
  let main_v20 : IVec S_ 1 := (fun x v => Host.reduce IntOp.andi x v reducesTo_S12x2048x16_S_d0_1_2 h_S_) main_v19 main_c_2
  let main_v21 : IVec S_ 1 := andi main_v16 main_v20
  main_v21

def fn {F : FTy → Type} [FloatOps F] (main_arg0 : FVec F S12x2048x64 .f32) : IVec S_ 1 :=
  let main_v0 : FVec F S12x2048x64 .f32 := mulf main_arg0 main_arg0
  let main_cst : FVec F S_ .f32 := constant S_ .f32 0x00000000#32
  let main_v1 : FVec F S12x2048 .f32 := (fun x v => Host.reduceAdd x v reducesTo_S12x2048x64_S12x2048_d2 h_S_) main_v0 main_cst
  let main_v2 : FVec F S12x2048x1 .f32 := broadcastInDim S12x2048x1 ![0, 1] bcast_S12x2048_S12x2048x1_0_1 main_v1
  let main_v3 : FVec F S12x1x2048 .f32 := broadcastInDim S12x1x2048 ![0, 2] bcast_S12x2048_S12x1x2048_0_2 main_v1
  let main_v4 : FVec F S12x2048x2048 .f32 := broadcastInDim S12x2048x2048 ![0, 1, 2] bcast_S12x2048x1_S12x2048x2048_0_1_2 main_v2
  let main_v5 : FVec F S12x2048x2048 .f32 := broadcastInDim S12x2048x2048 ![0, 1, 2] bcast_S12x1x2048_S12x2048x2048_0_1_2 main_v3
  let main_v6 : FVec F S12x2048x2048 .f32 := addf main_v4 main_v5
  let main_v7 : FVec F S12x2048x2048 .f32 := (fun l r => Host.dotGeneral dot_S12x2048x64_S12x2048x64_S12x2048x2048_2_2_1_1_0_0 none l r) main_arg0 main_arg0
  let main_cst_0 : FVec F S_ .f32 := constant S_ .f32 0x40000000#32
  let main_v8 : FVec F S12x2048x2048 .f32 := broadcastInDim S12x2048x2048 ![] bcast_S_S12x2048x2048 main_cst_0
  let main_v9 : FVec F S12x2048x2048 .f32 := mulf main_v8 main_v7
  let main_v10 : FVec F S12x2048x2048 .f32 := subf main_v6 main_v9
  let main_v11 : IVec S12x2048x2048 32 := iotaInDim S12x2048x2048 32 2
  let main_v12_0 : FVec F S12x2048x2048 .f32 := (fun x y => (Host.sort2 S12x2048x2048 2 comparator_f32_i32_d2 x y).1) main_v10 main_v11
  let main_v12_1 : IVec S12x2048x2048 32 := (fun x y => (Host.sort2 S12x2048x2048 2 comparator_f32_i32_d2 x y).2) main_v10 main_v11
  let main_v13 : FVec F S12x2048x16 .f32 := (extractStridedSlice S12x2048x16 ![0, 0, 0] · slices_S12x2048x2048_S12x2048x16_0_0_0) main_v12_0
  let main_v14 : FVec F S12x2048x16 .f32 := (extractStridedSlice S12x2048x16 ![0, 0, 1] · slices_S12x2048x2048_S12x2048x16_0_0_1) main_v12_0
  let main_v15 : IVec S12x2048x16 1 := cmpf .olt main_v13 main_v14
  let main_c : IVec S_ 1 := constantI S_ 1 1#1
  let main_v16 : IVec S_ 1 := (fun x v => Host.reduce IntOp.andi x v reducesTo_S12x2048x16_S_d0_1_2 h_S_) main_v15 main_c
  let main_v17 : FVec F S12x2048x16 .f32 := (extractStridedSlice S12x2048x16 ![0, 0, 0] · slices_S12x2048x2048_S12x2048x16_0_0_0) main_v12_0
  let main_cst_1 : FVec F S_ .f32 := constant S_ .f32 0x7F61B1E6#32
  let main_v18 : FVec F S12x2048x16 .f32 := broadcastInDim S12x2048x16 ![] bcast_S_S12x2048x16 main_cst_1
  fn_part1 (F := F) main_v16 main_v17 main_v18
-- ==== Kernel.lean ====
abbrev S12x2048x64 : Shape := ⟨3, ![12, 2048, 64]⟩
abbrev S12x2048x16 : Shape := ⟨3, ![12, 2048, 16]⟩
abbrev S12x2048x2x32 : Shape := ⟨4, ![12, 2048, 2, 32]⟩
abbrev S12x2x2048x32 : Shape := ⟨4, ![12, 2, 2048, 32]⟩
abbrev S_ : Shape := ⟨0, ![]⟩
abbrev S12x2x2048x33 : Shape := ⟨4, ![12, 2, 2048, 33]⟩
abbrev S12x2x67584 : Shape := ⟨3, ![12, 2, 67584]⟩
abbrev S12x2048x65 : Shape := ⟨3, ![12, 2048, 65]⟩
abbrev S12x133120 : Shape := ⟨2, ![12, 133120]⟩
abbrev S12x2048x17 : Shape := ⟨3, ![12, 2048, 17]⟩
abbrev S12x34816 : Shape := ⟨2, ![12, 34816]⟩
abbrev S67584 : Shape := ⟨1, ![67584]⟩
abbrev S8320 : Shape := ⟨1, ![8320]⟩
abbrev S2176 : Shape := ⟨1, ![2176]⟩
abbrev S12288 : Shape := ⟨1, ![12288]⟩
abbrev S4224 : Shape := ⟨1, ![4224]⟩
abbrev S16 : Shape := ⟨1, ![16]⟩
abbrev S1x1x67584 : Shape := ⟨3, ![1, 1, 67584]⟩
abbrev S1x8320 : Shape := ⟨2, ![1, 8320]⟩
abbrev S1x2176 : Shape := ⟨2, ![1, 2176]⟩
abbrev S1x1x4224 : Shape := ⟨3, ![1, 1, 4224]⟩
abbrev S2048x12x2x32 : Shape := ⟨4, ![2048, 12, 2, 32]⟩
abbrev S2048x768 : Shape := ⟨2, ![2048, 768]⟩

abbrev nBuf : Table → Nat
  | .hbm => 29
  | .local .scVector .vmem => 5
  | _ => 0

abbrev bufTy : (tb : Table) → Fin (nBuf tb) → BufTy
  | .hbm, ⟨0, _⟩ => ⟨S12x2048x64, .f32⟩
  | .hbm, ⟨1, _⟩ => ⟨S12x2048x64, .f32⟩
  | .hbm, ⟨2, _⟩ => ⟨S12x2048x64, .f32⟩
  | .hbm, ⟨3, _⟩ => ⟨S12x2048x16, .i32⟩
  | .hbm, ⟨4, _⟩ => ⟨S12x2048x2x32, .f32⟩
  | .hbm, ⟨5, _⟩ => ⟨S12x2x2048x32, .f32⟩
  | .hbm, ⟨6, _⟩ => ⟨S_, .i32⟩
  | .hbm, ⟨7, _⟩ => ⟨S_, .f32⟩
  | .hbm, ⟨8, _⟩ => ⟨S12x2x2048x33, .f32⟩
  | .hbm, ⟨9, _⟩ => ⟨S12x2x67584, .f32⟩
  | .hbm, ⟨10, _⟩ => ⟨S12x2048x2x32, .f32⟩
  | .hbm, ⟨11, _⟩ => ⟨S12x2x2048x32, .f32⟩
  | .hbm, ⟨12, _⟩ => ⟨S_, .i32⟩
  | .hbm, ⟨13, _⟩ => ⟨S_, .f32⟩
  | .hbm, ⟨14, _⟩ => ⟨S12x2x2048x33, .f32⟩
  | .hbm, ⟨15, _⟩ => ⟨S12x2x67584, .f32⟩
  | .hbm, ⟨16, _⟩ => ⟨S_, .i32⟩
  | .hbm, ⟨17, _⟩ => ⟨S_, .f32⟩
  | .hbm, ⟨18, _⟩ => ⟨S12x2048x65, .f32⟩
  | .hbm, ⟨19, _⟩ => ⟨S12x133120, .f32⟩
  | .hbm, ⟨20, _⟩ => ⟨S_, .i32⟩
  | .hbm, ⟨21, _⟩ => ⟨S_, .i32⟩
  | .hbm, ⟨22, _⟩ => ⟨S12x2048x17, .i32⟩
  | .hbm, ⟨23, _⟩ => ⟨S12x34816, .i32⟩
  | .hbm, ⟨24, _⟩ => ⟨S12x2x67584, .f32⟩
  | .hbm, ⟨25, _⟩ => ⟨S12x2x2048x33, .f32⟩
  | .hbm, ⟨26, _⟩ => ⟨S12x2x2048x32, .f32⟩
  | .hbm, ⟨27, _⟩ => ⟨S2048x12x2x32, .f32⟩
  | .hbm, ⟨28, _⟩ => ⟨S2048x768, .f32⟩
  | .local .scVector .vmem, ⟨0, _⟩ => ⟨S67584, .f32⟩
  | .local .scVector .vmem, ⟨1, _⟩ => ⟨S8320, .f32⟩
  | .local .scVector .vmem, ⟨2, _⟩ => ⟨S2176, .i32⟩
  | .local .scVector .vmem, ⟨3, _⟩ => ⟨S12288, .f32⟩
  | .local .scVector .vmem, ⟨4, _⟩ => ⟨S4224, .f32⟩
  | _, _ => ⟨S12x2048x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 40 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | _ => false

abbrev sig : RefSig :=
  ofTables nBuf rfl bufTy 4 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call2_v0 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_call3_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v3_scv : Ref sig .scVector := ⟨.hbm, 9, rfl⟩
abbrev main_v7_scv : Ref sig .scVector := ⟨.hbm, 15, rfl⟩
abbrev main_v9_scv : Ref sig .scVector := ⟨.hbm, 19, rfl⟩
abbrev main_v11_scv : Ref sig .scVector := ⟨.hbm, 23, rfl⟩
abbrev main_v12_scv : Ref sig .scVector := ⟨.hbm, 24, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c0_i32_16 : BitVec 32 := 0#32
  let c0_i32_48_r0 : BitVec 32 := 0#32
  ![v19.toNat, 0, 0]
@[reducible] def k0_t1_loop (i : grid0.Coords) : Scf.Loop 32 :=
  let c0_i32_17 : BitVec 32 := 0#32
  let c6_i32_15 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let v44 : BitVec 32 := Scalar.subi v42 c0_i32_17
  let c1_i32_19 : BitVec 32 := 1#32
  let v46 : BitVec 32 := Scalar.divsi v44 c1_i32_19
  let v47 : BitVec 32 := Scalar.muli v46 c1_i32_19
  let v48 : BitVec 32 := Scalar.addi c0_i32_17 v47
  let c1_i32_20 : BitVec 32 := 1#32
  ⟨c0_i32_17, v48, c1_i32_20⟩
def k0_off2 (i : grid0.Coords) (k0_t1 : Fin (k0_t1_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c0_i32_17 : BitVec 32 := 0#32
  let c1_i32_20 : BitVec 32 := 1#32
  let arg12 : BitVec 32 := Scf.iv c0_i32_17 c1_i32_20 k0_t1
  let v82 : BitVec 32 := Scalar.addi v2 arg12
  let c16_i32_48 : BitVec 32 := 16#32
  let c0_i32_49 : BitVec 32 := 0#32
  let v83 : BitVec 1 := Scalar.cmpi .eq c16_i32_48 c0_i32_49
  let c1_i32_50 : BitVec 32 := 1#32
  let v84 : BitVec 32 := Scalar.select v83 c1_i32_50 c16_i32_48
  let v85 : BitVec 32 := Scalar.remsi v82 v84
  let c0_i32_52 : BitVec 32 := 0#32
  let v87 : BitVec 1 := Scalar.cmpi .slt v85 c0_i32_52
  let c0_i32_53 : BitVec 32 := 0#32
  let v88 : BitVec 1 := Scalar.cmpi .slt v84 c0_i32_53
  let v89 : BitVec 1 := Scalar.xori v87 v88
  let c0_i32_51 : BitVec 32 := 0#32
  let v86 : BitVec 1 := Scalar.cmpi .ne v85 c0_i32_51
  let v90 : BitVec 1 := Scalar.andi v89 v86
  let v91 : BitVec 32 := Scalar.addi v85 v84
  let v92 : BitVec 32 := Scalar.select v90 v91 v85
  let c8320_i32 : BitVec 32 := 8320#32
  let v93 : BitVec 32 := Scalar.muli v92 c8320_i32
  ![v19.toNat, v93.toNat]
def k0_off3 (i : grid0.Coords) (k0_t1 : Fin (k0_t1_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c0_i32_17 : BitVec 32 := 0#32
  let c1_i32_20 : BitVec 32 := 1#32
  let arg12 : BitVec 32 := Scf.iv c0_i32_17 c1_i32_20 k0_t1
  let v82 : BitVec 32 := Scalar.addi v2 arg12
  let c16_i32_48 : BitVec 32 := 16#32
  let c0_i32_49 : BitVec 32 := 0#32
  let v83 : BitVec 1 := Scalar.cmpi .eq c16_i32_48 c0_i32_49
  let c1_i32_50 : BitVec 32 := 1#32
  let v84 : BitVec 32 := Scalar.select v83 c1_i32_50 c16_i32_48
  let v85 : BitVec 32 := Scalar.remsi v82 v84
  let c0_i32_52 : BitVec 32 := 0#32
  let v87 : BitVec 1 := Scalar.cmpi .slt v85 c0_i32_52
  let c0_i32_53 : BitVec 32 := 0#32
  let v88 : BitVec 1 := Scalar.cmpi .slt v84 c0_i32_53
  let v89 : BitVec 1 := Scalar.xori v87 v88
  let c0_i32_51 : BitVec 32 := 0#32
  let v86 : BitVec 1 := Scalar.cmpi .ne v85 c0_i32_51
  let v90 : BitVec 1 := Scalar.andi v89 v86
  let v91 : BitVec 32 := Scalar.addi v85 v84
  let v92 : BitVec 32 := Scalar.select v90 v91 v85
  let c2176_i32 : BitVec 32 := 2176#32
  let v94 : BitVec 32 := Scalar.muli v92 c2176_i32
  ![v19.toNat, v94.toNat]
@[reducible] def k0_t2_loop : Scf.Loop 32 :=
  let c0_i32_55 : BitVec 32 := 0#32
  let c8_i32 : BitVec 32 := 8#32
  let v95 : BitVec 32 := Scalar.addi c0_i32_55 c8_i32
  let c1_i32_56 : BitVec 32 := 1#32
  ⟨c0_i32_55, v95, c1_i32_56⟩

def k0_chk1 (v110 : IVec S16 32) : Prop :=
  (∀ a x, ((![v110] : Fin 1 → IVec S16 32) a x).toNat < S2176.size a)
theorem k0_idx1_inb : ∀ (v110 : IVec S16 32) (k0_hw1 : k0_chk1 v110), ∀ a x, ((![v110] : Fin 1 → IVec S16 32) a x).toNat < S2176.size a := fun v110 k0_hw1 => k0_hw1

def k0_chk2 (v117 : IVec S16 32) : Prop :=
  (∀ a x, ((![v117] : Fin 1 → IVec S16 32) a x).toNat < S2176.size a)
theorem k0_idx2_inb : ∀ (v117 : IVec S16 32) (k0_hw2 : k0_chk2 v117), ∀ a x, ((![v117] : Fin 1 → IVec S16 32) a x).toNat < S2176.size a := fun v117 k0_hw2 => k0_hw2

def k0_chk3 (v124 : IVec S16 32) : Prop :=
  (∀ a x, ((![v124] : Fin 1 → IVec S16 32) a x).toNat < S2176.size a)
theorem k0_idx3_inb : ∀ (v124 : IVec S16 32) (k0_hw3 : k0_chk3 v124), ∀ a x, ((![v124] : Fin 1 → IVec S16 32) a x).toNat < S2176.size a := fun v124 k0_hw3 => k0_hw3

def k0_chk4 (v131 : IVec S16 32) : Prop :=
  (∀ a x, ((![v131] : Fin 1 → IVec S16 32) a x).toNat < S2176.size a)
theorem k0_idx4_inb : ∀ (v131 : IVec S16 32) (k0_hw4 : k0_chk4 v131), ∀ a x, ((![v131] : Fin 1 → IVec S16 32) a x).toNat < S2176.size a := fun v131 k0_hw4 => k0_hw4

def k0_chk5 (v138 : IVec S16 32) : Prop :=
  (∀ a x, ((![v138] : Fin 1 → IVec S16 32) a x).toNat < S2176.size a)
theorem k0_idx5_inb : ∀ (v138 : IVec S16 32) (k0_hw5 : k0_chk5 v138), ∀ a x, ((![v138] : Fin 1 → IVec S16 32) a x).toNat < S2176.size a := fun v138 k0_hw5 => k0_hw5

def k0_chk6 (v145 : IVec S16 32) : Prop :=
  (∀ a x, ((![v145] : Fin 1 → IVec S16 32) a x).toNat < S2176.size a)
theorem k0_idx6_inb : ∀ (v145 : IVec S16 32) (k0_hw6 : k0_chk6 v145), ∀ a x, ((![v145] : Fin 1 → IVec S16 32) a x).toNat < S2176.size a := fun v145 k0_hw6 => k0_hw6

def k0_chk7 (v152 : IVec S16 32) : Prop :=
  (∀ a x, ((![v152] : Fin 1 → IVec S16 32) a x).toNat < S2176.size a)
theorem k0_idx7_inb : ∀ (v152 : IVec S16 32) (k0_hw7 : k0_chk7 v152), ∀ a x, ((![v152] : Fin 1 → IVec S16 32) a x).toNat < S2176.size a := fun v152 k0_hw7 => k0_hw7

def k0_chk8 (v159 : IVec S16 32) : Prop :=
  (∀ a x, ((![v159] : Fin 1 → IVec S16 32) a x).toNat < S2176.size a)
theorem k0_idx8_inb : ∀ (v159 : IVec S16 32) (k0_hw8 : k0_chk8 v159), ∀ a x, ((![v159] : Fin 1 → IVec S16 32) a x).toNat < S2176.size a := fun v159 k0_hw8 => k0_hw8

def k0_chk9 (v166 : IVec S16 32) : Prop :=
  (∀ a x, ((![v166] : Fin 1 → IVec S16 32) a x).toNat < S2176.size a)
theorem k0_idx9_inb : ∀ (v166 : IVec S16 32) (k0_hw9 : k0_chk9 v166), ∀ a x, ((![v166] : Fin 1 → IVec S16 32) a x).toNat < S2176.size a := fun v166 k0_hw9 => k0_hw9

def k0_chk10 (v173 : IVec S16 32) : Prop :=
  (∀ a x, ((![v173] : Fin 1 → IVec S16 32) a x).toNat < S2176.size a)
theorem k0_idx10_inb : ∀ (v173 : IVec S16 32) (k0_hw10 : k0_chk10 v173), ∀ a x, ((![v173] : Fin 1 → IVec S16 32) a x).toNat < S2176.size a := fun v173 k0_hw10 => k0_hw10

def k0_chk11 (v180 : IVec S16 32) : Prop :=
  (∀ a x, ((![v180] : Fin 1 → IVec S16 32) a x).toNat < S2176.size a)
theorem k0_idx11_inb : ∀ (v180 : IVec S16 32) (k0_hw11 : k0_chk11 v180), ∀ a x, ((![v180] : Fin 1 → IVec S16 32) a x).toNat < S2176.size a := fun v180 k0_hw11 => k0_hw11

def k0_chk12 (v187 : IVec S16 32) : Prop :=
  (∀ a x, ((![v187] : Fin 1 → IVec S16 32) a x).toNat < S2176.size a)
theorem k0_idx12_inb : ∀ (v187 : IVec S16 32) (k0_hw12 : k0_chk12 v187), ∀ a x, ((![v187] : Fin 1 → IVec S16 32) a x).toNat < S2176.size a := fun v187 k0_hw12 => k0_hw12

def k0_chk13 (v194 : IVec S16 32) : Prop :=
  (∀ a x, ((![v194] : Fin 1 → IVec S16 32) a x).toNat < S2176.size a)
theorem k0_idx13_inb : ∀ (v194 : IVec S16 32) (k0_hw13 : k0_chk13 v194), ∀ a x, ((![v194] : Fin 1 → IVec S16 32) a x).toNat < S2176.size a := fun v194 k0_hw13 => k0_hw13

def k0_chk14 (v201 : IVec S16 32) : Prop :=
  (∀ a x, ((![v201] : Fin 1 → IVec S16 32) a x).toNat < S2176.size a)
theorem k0_idx14_inb : ∀ (v201 : IVec S16 32) (k0_hw14 : k0_chk14 v201), ∀ a x, ((![v201] : Fin 1 → IVec S16 32) a x).toNat < S2176.size a := fun v201 k0_hw14 => k0_hw14

def k0_chk15 (v208 : IVec S16 32) : Prop :=
  (∀ a x, ((![v208] : Fin 1 → IVec S16 32) a x).toNat < S2176.size a)
theorem k0_idx15_inb : ∀ (v208 : IVec S16 32) (k0_hw15 : k0_chk15 v208), ∀ a x, ((![v208] : Fin 1 → IVec S16 32) a x).toNat < S2176.size a := fun v208 k0_hw15 => k0_hw15

def k0_chk16 (v215 : IVec S16 32) : Prop :=
  (∀ a x, ((![v215] : Fin 1 → IVec S16 32) a x).toNat < S2176.size a)
theorem k0_idx16_inb : ∀ (v215 : IVec S16 32) (k0_hw16 : k0_chk16 v215), ∀ a x, ((![v215] : Fin 1 → IVec S16 32) a x).toNat < S2176.size a := fun v215 k0_hw16 => k0_hw16
@[reducible] def k0_t3_loop : Scf.Loop 32 :=
  let c0_i32_113 : BitVec 32 := 0#32
  let c32_i32 : BitVec 32 := 32#32
  let v235 : BitVec 32 := Scalar.addi c0_i32_113 c32_i32
  let c1_i32_114 : BitVec 32 := 1#32
  ⟨c0_i32_113, v235, c1_i32_114⟩

def k0_chk17 (v286 : IVec S16 32) : Prop :=
  (∀ a x, ((![v286] : Fin 1 → IVec S16 32) a x).toNat < S8320.size a)
theorem k0_idx17_inb : ∀ (v286 : IVec S16 32) (k0_hw17 : k0_chk17 v286), ∀ a x, ((![v286] : Fin 1 → IVec S16 32) a x).toNat < S8320.size a := fun v286 k0_hw17 => k0_hw17

def k0_chk18 (v289 : IVec S16 32) : Prop :=
  (∀ a x, ((![v289] : Fin 1 → IVec S16 32) a x).toNat < S67584.size a)
theorem k0_idx18_inb : ∀ (v289 : IVec S16 32) (k0_hw18 : k0_chk18 v289), ∀ a x, ((![v289] : Fin 1 → IVec S16 32) a x).toNat < S67584.size a := fun v289 k0_hw18 => k0_hw18

def k0_chk19 (v294 : IVec S16 32) : Prop :=
  (∀ a x, ((![v294] : Fin 1 → IVec S16 32) a x).toNat < S67584.size a)
theorem k0_idx19_inb : ∀ (v294 : IVec S16 32) (k0_hw19 : k0_chk19 v294), ∀ a x, ((![v294] : Fin 1 → IVec S16 32) a x).toNat < S67584.size a := fun v294 k0_hw19 => k0_hw19

def k0_chk20 (v299 : IVec S16 32) : Prop :=
  (∀ a x, ((![v299] : Fin 1 → IVec S16 32) a x).toNat < S67584.size a)
theorem k0_idx20_inb : ∀ (v299 : IVec S16 32) (k0_hw20 : k0_chk20 v299), ∀ a x, ((![v299] : Fin 1 → IVec S16 32) a x).toNat < S67584.size a := fun v299 k0_hw20 => k0_hw20

def k0_chk21 (v304 : IVec S16 32) : Prop :=
  (∀ a x, ((![v304] : Fin 1 → IVec S16 32) a x).toNat < S67584.size a)
theorem k0_idx21_inb : ∀ (v304 : IVec S16 32) (k0_hw21 : k0_chk21 v304), ∀ a x, ((![v304] : Fin 1 → IVec S16 32) a x).toNat < S67584.size a := fun v304 k0_hw21 => k0_hw21

def k0_chk22 (v309 : IVec S16 32) : Prop :=
  (∀ a x, ((![v309] : Fin 1 → IVec S16 32) a x).toNat < S67584.size a)
theorem k0_idx22_inb : ∀ (v309 : IVec S16 32) (k0_hw22 : k0_chk22 v309), ∀ a x, ((![v309] : Fin 1 → IVec S16 32) a x).toNat < S67584.size a := fun v309 k0_hw22 => k0_hw22

def k0_chk23 (v314 : IVec S16 32) : Prop :=
  (∀ a x, ((![v314] : Fin 1 → IVec S16 32) a x).toNat < S67584.size a)
theorem k0_idx23_inb : ∀ (v314 : IVec S16 32) (k0_hw23 : k0_chk23 v314), ∀ a x, ((![v314] : Fin 1 → IVec S16 32) a x).toNat < S67584.size a := fun v314 k0_hw23 => k0_hw23

def k0_chk24 (v319 : IVec S16 32) : Prop :=
  (∀ a x, ((![v319] : Fin 1 → IVec S16 32) a x).toNat < S67584.size a)
theorem k0_idx24_inb : ∀ (v319 : IVec S16 32) (k0_hw24 : k0_chk24 v319), ∀ a x, ((![v319] : Fin 1 → IVec S16 32) a x).toNat < S67584.size a := fun v319 k0_hw24 => k0_hw24

def k0_chk25 (v324 : IVec S16 32) : Prop :=
  (∀ a x, ((![v324] : Fin 1 → IVec S16 32) a x).toNat < S67584.size a)
theorem k0_idx25_inb : ∀ (v324 : IVec S16 32) (k0_hw25 : k0_chk25 v324), ∀ a x, ((![v324] : Fin 1 → IVec S16 32) a x).toNat < S67584.size a := fun v324 k0_hw25 => k0_hw25

def k0_chk26 (v329 : IVec S16 32) : Prop :=
  (∀ a x, ((![v329] : Fin 1 → IVec S16 32) a x).toNat < S67584.size a)
theorem k0_idx26_inb : ∀ (v329 : IVec S16 32) (k0_hw26 : k0_chk26 v329), ∀ a x, ((![v329] : Fin 1 → IVec S16 32) a x).toNat < S67584.size a := fun v329 k0_hw26 => k0_hw26

def k0_chk27 (v334 : IVec S16 32) : Prop :=
  (∀ a x, ((![v334] : Fin 1 → IVec S16 32) a x).toNat < S67584.size a)
theorem k0_idx27_inb : ∀ (v334 : IVec S16 32) (k0_hw27 : k0_chk27 v334), ∀ a x, ((![v334] : Fin 1 → IVec S16 32) a x).toNat < S67584.size a := fun v334 k0_hw27 => k0_hw27

def k0_chk28 (v339 : IVec S16 32) : Prop :=
  (∀ a x, ((![v339] : Fin 1 → IVec S16 32) a x).toNat < S67584.size a)
theorem k0_idx28_inb : ∀ (v339 : IVec S16 32) (k0_hw28 : k0_chk28 v339), ∀ a x, ((![v339] : Fin 1 → IVec S16 32) a x).toNat < S67584.size a := fun v339 k0_hw28 => k0_hw28

def k0_chk29 (v344 : IVec S16 32) : Prop :=
  (∀ a x, ((![v344] : Fin 1 → IVec S16 32) a x).toNat < S67584.size a)
theorem k0_idx29_inb : ∀ (v344 : IVec S16 32) (k0_hw29 : k0_chk29 v344), ∀ a x, ((![v344] : Fin 1 → IVec S16 32) a x).toNat < S67584.size a := fun v344 k0_hw29 => k0_hw29

def k0_chk30 (v349 : IVec S16 32) : Prop :=
  (∀ a x, ((![v349] : Fin 1 → IVec S16 32) a x).toNat < S67584.size a)
theorem k0_idx30_inb : ∀ (v349 : IVec S16 32) (k0_hw30 : k0_chk30 v349), ∀ a x, ((![v349] : Fin 1 → IVec S16 32) a x).toNat < S67584.size a := fun v349 k0_hw30 => k0_hw30

def k0_chk31 (v354 : IVec S16 32) : Prop :=
  (∀ a x, ((![v354] : Fin 1 → IVec S16 32) a x).toNat < S67584.size a)
theorem k0_idx31_inb : ∀ (v354 : IVec S16 32) (k0_hw31 : k0_chk31 v354), ∀ a x, ((![v354] : Fin 1 → IVec S16 32) a x).toNat < S67584.size a := fun v354 k0_hw31 => k0_hw31

def k0_chk32 (v359 : IVec S16 32) : Prop :=
  (∀ a x, ((![v359] : Fin 1 → IVec S16 32) a x).toNat < S67584.size a)
theorem k0_idx32_inb : ∀ (v359 : IVec S16 32) (k0_hw32 : k0_chk32 v359), ∀ a x, ((![v359] : Fin 1 → IVec S16 32) a x).toNat < S67584.size a := fun v359 k0_hw32 => k0_hw32

def k0_chk33 (v364 : IVec S16 32) : Prop :=
  (∀ a x, ((![v364] : Fin 1 → IVec S16 32) a x).toNat < S67584.size a)
theorem k0_idx33_inb : ∀ (v364 : IVec S16 32) (k0_hw33 : k0_chk33 v364), ∀ a x, ((![v364] : Fin 1 → IVec S16 32) a x).toNat < S67584.size a := fun v364 k0_hw33 => k0_hw33
def k0_off4 (i : grid0.Coords) (k0_t1 : Fin (k0_t1_loop i).trips) (k0_t2 : Fin k0_t2_loop.trips) (c0_i32_116 : BitVec 32) : Fin 1 → Nat :=
  let c0_i32_17 : BitVec 32 := 0#32
  let c1_i32_20 : BitVec 32 := 1#32
  let arg12 : BitVec 32 := Scf.iv c0_i32_17 c1_i32_20 k0_t1
  let c128_i32 : BitVec 32 := 128#32
  let v104 : BitVec 32 := Scalar.muli arg12 c128_i32
  let c0_i32_55 : BitVec 32 := 0#32
  let c1_i32_56 : BitVec 32 := 1#32
  let arg14 : BitVec 32 := Scf.iv c0_i32_55 c1_i32_56 k0_t2
  let c16_i32_61 : BitVec 32 := 16#32
  let v105 : BitVec 32 := Scalar.muli arg14 c16_i32_61
  let v106 : BitVec 32 := Scalar.addi v104 v105
  let v237 : BitVec 32 := Scalar.addi c0_i32_116 v106
  let v238 : Index := Scalar.indexCast v237
  ![v238.toNat]
@[reducible] def k0_t4_loop (i : grid0.Coords) : Scf.Loop 32 :=
  let c0_i32_17 : BitVec 32 := 0#32
  let c6_i32_15 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let v44 : BitVec 32 := Scalar.subi v42 c0_i32_17
  let c1_i32_19 : BitVec 32 := 1#32
  let v46 : BitVec 32 := Scalar.divsi v44 c1_i32_19
  let v47 : BitVec 32 := Scalar.muli v46 c1_i32_19
  let v48 : BitVec 32 := Scalar.addi c0_i32_17 v47
  let v45 : BitVec 32 := Scalar.addi c0_i32_17 v44
  let c1_i32_21 : BitVec 32 := 1#32
  ⟨v48, v45, c1_i32_21⟩
def k0_off5 (i : grid0.Coords) (k0_t4 : Fin (k0_t4_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c0_i32_17 : BitVec 32 := 0#32
  let c6_i32_15 : BitVec 32 := 6#32
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let v44 : BitVec 32 := Scalar.subi v42 c0_i32_17
  let c1_i32_19 : BitVec 32 := 1#32
  let v46 : BitVec 32 := Scalar.divsi v44 c1_i32_19
  let v47 : BitVec 32 := Scalar.muli v46 c1_i32_19
  let v48 : BitVec 32 := Scalar.addi c0_i32_17 v47
  let c1_i32_21 : BitVec 32 := 1#32
  let arg12 : BitVec 32 := Scf.iv v48 c1_i32_21 k0_t4
  let v82 : BitVec 32 := Scalar.addi v2 arg12
  let c16_i32_48 : BitVec 32 := 16#32
  let c0_i32_49 : BitVec 32 := 0#32
  let v83 : BitVec 1 := Scalar.cmpi .eq c16_i32_48 c0_i32_49
  let c1_i32_50 : BitVec 32 := 1#32
  let v84 : BitVec 32 := Scalar.select v83 c1_i32_50 c16_i32_48
  let v85 : BitVec 32 := Scalar.remsi v82 v84
  let c0_i32_52 : BitVec 32 := 0#32
  let v87 : BitVec 1 := Scalar.cmpi .slt v85 c0_i32_52
  let c0_i32_53 : BitVec 32 := 0#32
  let v88 : BitVec 1 := Scalar.cmpi .slt v84 c0_i32_53
  let v89 : BitVec 1 := Scalar.xori v87 v88
  let c0_i32_51 : BitVec 32 := 0#32
  let v86 : BitVec 1 := Scalar.cmpi .ne v85 c0_i32_51
  let v90 : BitVec 1 := Scalar.andi v89 v86
  let v91 : BitVec 32 := Scalar.addi v85 v84
  let v92 : BitVec 32 := Scalar.select v90 v91 v85
  let c8320_i32 : BitVec 32 := 8320#32
  let v93 : BitVec 32 := Scalar.muli v92 c8320_i32
  ![v19.toNat, v93.toNat]
def k0_off6 (i : grid0.Coords) (k0_t4 : Fin (k0_t4_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c0_i32_17 : BitVec 32 := 0#32
  let c6_i32_15 : BitVec 32 := 6#32
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let v44 : BitVec 32 := Scalar.subi v42 c0_i32_17
  let c1_i32_19 : BitVec 32 := 1#32
  let v46 : BitVec 32 := Scalar.divsi v44 c1_i32_19
  let v47 : BitVec 32 := Scalar.muli v46 c1_i32_19
  let v48 : BitVec 32 := Scalar.addi c0_i32_17 v47
  let c1_i32_21 : BitVec 32 := 1#32
  let arg12 : BitVec 32 := Scf.iv v48 c1_i32_21 k0_t4
  let v82 : BitVec 32 := Scalar.addi v2 arg12
  let c16_i32_48 : BitVec 32 := 16#32
  let c0_i32_49 : BitVec 32 := 0#32
  let v83 : BitVec 1 := Scalar.cmpi .eq c16_i32_48 c0_i32_49
  let c1_i32_50 : BitVec 32 := 1#32
  let v84 : BitVec 32 := Scalar.select v83 c1_i32_50 c16_i32_48
  let v85 : BitVec 32 := Scalar.remsi v82 v84
  let c0_i32_52 : BitVec 32 := 0#32
  let v87 : BitVec 1 := Scalar.cmpi .slt v85 c0_i32_52
  let c0_i32_53 : BitVec 32 := 0#32
  let v88 : BitVec 1 := Scalar.cmpi .slt v84 c0_i32_53
  let v89 : BitVec 1 := Scalar.xori v87 v88
  let c0_i32_51 : BitVec 32 := 0#32
  let v86 : BitVec 1 := Scalar.cmpi .ne v85 c0_i32_51
  let v90 : BitVec 1 := Scalar.andi v89 v86
  let v91 : BitVec 32 := Scalar.addi v85 v84
  let v92 : BitVec 32 := Scalar.select v90 v91 v85
  let c2176_i32 : BitVec 32 := 2176#32
  let v94 : BitVec 32 := Scalar.muli v92 c2176_i32
  ![v19.toNat, v94.toNat]
@[reducible] def k0_t5_loop : Scf.Loop 32 :=
  let c0_i32_55 : BitVec 32 := 0#32
  let c8_i32 : BitVec 32 := 8#32
  let v95 : BitVec 32 := Scalar.addi c0_i32_55 c8_i32
  let c1_i32_56 : BitVec 32 := 1#32
  ⟨c0_i32_55, v95, c1_i32_56⟩

def k0_chk34 (i : grid0.Coords) (k0_t4 : Fin (k0_t4_loop i).trips) (v110 : IVec S16 32) : Prop :=
  (∀ a x, ((![v110] : Fin 1 → IVec S16 32) a x).toNat < S2176.size a)
theorem k0_idx34_inb : ∀ (i : grid0.Coords) (k0_t4 : Fin (k0_t4_loop i).trips) (v110 : IVec S16 32) (k0_hw34 : k0_chk34 i k0_t4 v110), ∀ a x, ((![v110] : Fin 1 → IVec S16 32) a x).toNat < S2176.size a := fun i k0_t4 v110 k0_hw34 => k0_hw34

def k0_chk35 (i : grid0.Coords) (k0_t4 : Fin (k0_t4_loop i).trips) (v117 : IVec S16 32) : Prop :=
  (∀ a x, ((![v117] : Fin 1 → IVec S16 32) a x).toNat < S2176.size a)
theorem k0_idx35_inb : ∀ (i : grid0.Coords) (k0_t4 : Fin (k0_t4_loop i).trips) (v117 : IVec S16 32) (k0_hw35 : k0_chk35 i k0_t4 v117), ∀ a x, ((![v117] : Fin 1 → IVec S16 32) a x).toNat < S2176.size a := fun i k0_t4 v117 k0_hw35 => k0_hw35

def k0_chk36 (i : grid0.Coords) (k0_t4 : Fin (k0_t4_loop i).trips) (v124 : IVec S16 32) : Prop :=
  (∀ a x, ((![v124] : Fin 1 → IVec S16 32) a x).toNat < S2176.size a)
theorem k0_idx36_inb : ∀ (i : grid0.Coords) (k0_t4 : Fin (k0_t4_loop i).trips) (v124 : IVec S16 32) (k0_hw36 : k0_chk36 i k0_t4 v124), ∀ a x, ((![v124] : Fin 1 → IVec S16 32) a x).toNat < S2176.size a := fun i k0_t4 v124 k0_hw36 => k0_hw36

def k0_chk37 (i : grid0.Coords) (k0_t4 : Fin (k0_t4_loop i).trips) (v131 : IVec S16 32) : Prop :=
  (∀ a x, ((![v131] : Fin 1 → IVec S16 32) a x).toNat < S2176.size a)
theorem k0_idx37_inb : ∀ (i : grid0.Coords) (k0_t4 : Fin (k0_t4_loop i).trips) (v131 : IVec S16 32) (k0_hw37 : k0_chk37 i k0_t4 v131), ∀ a x, ((![v131] : Fin 1 → IVec S16 32) a x).toNat < S2176.size a := fun i k0_t4 v131 k0_hw37 => k0_hw37

def k0_chk38 (i : grid0.Coords) (k0_t4 : Fin (k0_t4_loop i).trips) (v138 : IVec S16 32) : Prop :=
  (∀ a x, ((![v138] : Fin 1 → IVec S16 32) a x).toNat < S2176.size a)
theorem k0_idx38_inb : ∀ (i : grid0.Coords) (k0_t4 : Fin (k0_t4_loop i).trips) (v138 : IVec S16 32) (k0_hw38 : k0_chk38 i k0_t4 v138), ∀ a x, ((![v138] : Fin 1 → IVec S16 32) a x).toNat < S2176.size a := fun i k0_t4 v138 k0_hw38 => k0_hw38

def k0_chk39 (i : grid0.Coords) (k0_t4 : Fin (k0_t4_loop i).trips) (v145 : IVec S16 32) : Prop :=
  (∀ a x, ((![v145] : Fin 1 → IVec S16 32) a x).toNat < S2176.size a)
theorem k0_idx39_inb : ∀ (i : grid0.Coords) (k0_t4 : Fin (k0_t4_loop i).trips) (v145 : IVec S16 32) (k0_hw39 : k0_chk39 i k0_t4 v145), ∀ a x, ((![v145] : Fin 1 → IVec S16 32) a x).toNat < S2176.size a := fun i k0_t4 v145 k0_hw39 => k0_hw39

def k0_chk40 (i : grid0.Coords) (k0_t4 : Fin (k0_t4_loop i).trips) (v152 : IVec S16 32) : Prop :=
  (∀ a x, ((![v152] : Fin 1 → IVec S16 32) a x).toNat < S2176.size a)
theorem k0_idx40_inb : ∀ (i : grid0.Coords) (k0_t4 : Fin (k0_t4_loop i).trips) (v152 : IVec S16 32) (k0_hw40 : k0_chk40 i k0_t4 v152), ∀ a x, ((![v152] : Fin 1 → IVec S16 32) a x).toNat < S2176.size a := fun i k0_t4 v152 k0_hw40 => k0_hw40

def k0_chk41 (i : grid0.Coords) (k0_t4 : Fin (k0_t4_loop i).trips) (v159 : IVec S16 32) : Prop :=
  (∀ a x, ((![v159] : Fin 1 → IVec S16 32) a x).toNat < S2176.size a)
theorem k0_idx41_inb : ∀ (i : grid0.Coords) (k0_t4 : Fin (k0_t4_loop i).trips) (v159 : IVec S16 32) (k0_hw41 : k0_chk41 i k0_t4 v159), ∀ a x, ((![v159] : Fin 1 → IVec S16 32) a x).toNat < S2176.size a := fun i k0_t4 v159 k0_hw41 => k0_hw41

def k0_chk42 (i : grid0.Coords) (k0_t4 : Fin (k0_t4_loop i).trips) (v166 : IVec S16 32) : Prop :=
  (∀ a x, ((![v166] : Fin 1 → IVec S16 32) a x).toNat < S2176.size a)
theorem k0_idx42_inb : ∀ (i : grid0.Coords) (k0_t4 : Fin (k0_t4_loop i).trips) (v166 : IVec S16 32) (k0_hw42 : k0_chk42 i k0_t4 v166), ∀ a x, ((![v166] : Fin 1 → IVec S16 32) a x).toNat < S2176.size a := fun i k0_t4 v166 k0_hw42 => k0_hw42

def k0_chk43 (i : grid0.Coords) (k0_t4 : Fin (k0_t4_loop i).trips) (v173 : IVec S16 32) : Prop :=
  (∀ a x, ((![v173] : Fin 1 → IVec S16 32) a x).toNat < S2176.size a)
theorem k0_idx43_inb : ∀ (i : grid0.Coords) (k0_t4 : Fin (k0_t4_loop i).trips) (v173 : IVec S16 32) (k0_hw43 : k0_chk43 i k0_t4 v173), ∀ a x, ((![v173] : Fin 1 → IVec S16 32) a x).toNat < S2176.size a := fun i k0_t4 v173 k0_hw43 => k0_hw43

def k0_chk44 (i : grid0.Coords) (k0_t4 : Fin (k0_t4_loop i).trips) (v180 : IVec S16 32) : Prop :=
  (∀ a x, ((![v180] : Fin 1 → IVec S16 32) a x).toNat < S2176.size a)
theorem k0_idx44_inb : ∀ (i : grid0.Coords) (k0_t4 : Fin (k0_t4_loop i).trips) (v180 : IVec S16 32) (k0_hw44 : k0_chk44 i k0_t4 v180), ∀ a x, ((![v180] : Fin 1 → IVec S16 32) a x).toNat < S2176.size a := fun i k0_t4 v180 k0_hw44 => k0_hw44

def k0_chk45 (i : grid0.Coords) (k0_t4 : Fin (k0_t4_loop i).trips) (v187 : IVec S16 32) : Prop :=
  (∀ a x, ((![v187] : Fin 1 → IVec S16 32) a x).toNat < S2176.size a)
theorem k0_idx45_inb : ∀ (i : grid0.Coords) (k0_t4 : Fin (k0_t4_loop i).trips) (v187 : IVec S16 32) (k0_hw45 : k0_chk45 i k0_t4 v187), ∀ a x, ((![v187] : Fin 1 → IVec S16 32) a x).toNat < S2176.size a := fun i k0_t4 v187 k0_hw45 => k0_hw45

def k0_chk46 (i : grid0.Coords) (k0_t4 : Fin (k0_t4_loop i).trips) (v194 : IVec S16 32) : Prop :=
  (∀ a x, ((![v194] : Fin 1 → IVec S16 32) a x).toNat < S2176.size a)
theorem k0_idx46_inb : ∀ (i : grid0.Coords) (k0_t4 : Fin (k0_t4_loop i).trips) (v194 : IVec S16 32) (k0_hw46 : k0_chk46 i k0_t4 v194), ∀ a x, ((![v194] : Fin 1 → IVec S16 32) a x).toNat < S2176.size a := fun i k0_t4 v194 k0_hw46 => k0_hw46

def k0_chk47 (i : grid0.Coords) (k0_t4 : Fin (k0_t4_loop i).trips) (v201 : IVec S16 32) : Prop :=
  (∀ a x, ((![v201] : Fin 1 → IVec S16 32) a x).toNat < S2176.size a)
theorem k0_idx47_inb : ∀ (i : grid0.Coords) (k0_t4 : Fin (k0_t4_loop i).trips) (v201 : IVec S16 32) (k0_hw47 : k0_chk47 i k0_t4 v201), ∀ a x, ((![v201] : Fin 1 → IVec S16 32) a x).toNat < S2176.size a := fun i k0_t4 v201 k0_hw47 => k0_hw47

def k0_chk48 (i : grid0.Coords) (k0_t4 : Fin (k0_t4_loop i).trips) (v208 : IVec S16 32) : Prop :=
  (∀ a x, ((![v208] : Fin 1 → IVec S16 32) a x).toNat < S2176.size a)
theorem k0_idx48_inb : ∀ (i : grid0.Coords) (k0_t4 : Fin (k0_t4_loop i).trips) (v208 : IVec S16 32) (k0_hw48 : k0_chk48 i k0_t4 v208), ∀ a x, ((![v208] : Fin 1 → IVec S16 32) a x).toNat < S2176.size a := fun i k0_t4 v208 k0_hw48 => k0_hw48

def k0_chk49 (i : grid0.Coords) (k0_t4 : Fin (k0_t4_loop i).trips) (v215 : IVec S16 32) : Prop :=
  (∀ a x, ((![v215] : Fin 1 → IVec S16 32) a x).toNat < S2176.size a)
theorem k0_idx49_inb : ∀ (i : grid0.Coords) (k0_t4 : Fin (k0_t4_loop i).trips) (v215 : IVec S16 32) (k0_hw49 : k0_chk49 i k0_t4 v215), ∀ a x, ((![v215] : Fin 1 → IVec S16 32) a x).toNat < S2176.size a := fun i k0_t4 v215 k0_hw49 => k0_hw49
@[reducible] def k0_t6_loop : Scf.Loop 32 :=
  let c0_i32_113 : BitVec 32 := 0#32
  let c32_i32 : BitVec 32 := 32#32
  let v235 : BitVec 32 := Scalar.addi c0_i32_113 c32_i32
  let c1_i32_114 : BitVec 32 := 1#32
  ⟨c0_i32_113, v235, c1_i32_114⟩

def k0_chk50 (i : grid0.Coords) (k0_t4 : Fin (k0_t4_loop i).trips) (v286 : IVec S16 32) : Prop :=
  (∀ a x, ((![v286] : Fin 1 → IVec S16 32) a x).toNat < S8320.size a)
theorem k0_idx50_inb : ∀ (i : grid0.Coords) (k0_t4 : Fin (k0_t4_loop i).trips) (v286 : IVec S16 32) (k0_hw50 : k0_chk50 i k0_t4 v286), ∀ a x, ((![v286] : Fin 1 → IVec S16 32) a x).toNat < S8320.size a := fun i k0_t4 v286 k0_hw50 => k0_hw50

def k0_chk51 (i : grid0.Coords) (k0_t4 : Fin (k0_t4_loop i).trips) (v289 : IVec S16 32) : Prop :=
  (∀ a x, ((![v289] : Fin 1 → IVec S16 32) a x).toNat < S67584.size a)
theorem k0_idx51_inb : ∀ (i : grid0.Coords) (k0_t4 : Fin (k0_t4_loop i).trips) (v289 : IVec S16 32) (k0_hw51 : k0_chk51 i k0_t4 v289), ∀ a x, ((![v289] : Fin 1 → IVec S16 32) a x).toNat < S67584.size a := fun i k0_t4 v289 k0_hw51 => k0_hw51

def k0_chk52 (i : grid0.Coords) (k0_t4 : Fin (k0_t4_loop i).trips) (v294 : IVec S16 32) : Prop :=
  (∀ a x, ((![v294] : Fin 1 → IVec S16 32) a x).toNat < S67584.size a)
theorem k0_idx52_inb : ∀ (i : grid0.Coords) (k0_t4 : Fin (k0_t4_loop i).trips) (v294 : IVec S16 32) (k0_hw52 : k0_chk52 i k0_t4 v294), ∀ a x, ((![v294] : Fin 1 → IVec S16 32) a x).toNat < S67584.size a := fun i k0_t4 v294 k0_hw52 => k0_hw52

def k0_chk53 (i : grid0.Coords) (k0_t4 : Fin (k0_t4_loop i).trips) (v299 : IVec S16 32) : Prop :=
  (∀ a x, ((![v299] : Fin 1 → IVec S16 32) a x).toNat < S67584.size a)
theorem k0_idx53_inb : ∀ (i : grid0.Coords) (k0_t4 : Fin (k0_t4_loop i).trips) (v299 : IVec S16 32) (k0_hw53 : k0_chk53 i k0_t4 v299), ∀ a x, ((![v299] : Fin 1 → IVec S16 32) a x).toNat < S67584.size a := fun i k0_t4 v299 k0_hw53 => k0_hw53

def k0_chk54 (i : grid0.Coords) (k0_t4 : Fin (k0_t4_loop i).trips) (v304 : IVec S16 32) : Prop :=
  (∀ a x, ((![v304] : Fin 1 → IVec S16 32) a x).toNat < S67584.size a)
theorem k0_idx54_inb : ∀ (i : grid0.Coords) (k0_t4 : Fin (k0_t4_loop i).trips) (v304 : IVec S16 32) (k0_hw54 : k0_chk54 i k0_t4 v304), ∀ a x, ((![v304] : Fin 1 → IVec S16 32) a x).toNat < S67584.size a := fun i k0_t4 v304 k0_hw54 => k0_hw54

def k0_chk55 (i : grid0.Coords) (k0_t4 : Fin (k0_t4_loop i).trips) (v309 : IVec S16 32) : Prop :=
  (∀ a x, ((![v309] : Fin 1 → IVec S16 32) a x).toNat < S67584.size a)
theorem k0_idx55_inb : ∀ (i : grid0.Coords) (k0_t4 : Fin (k0_t4_loop i).trips) (v309 : IVec S16 32) (k0_hw55 : k0_chk55 i k0_t4 v309), ∀ a x, ((![v309] : Fin 1 → IVec S16 32) a x).toNat < S67584.size a := fun i k0_t4 v309 k0_hw55 => k0_hw55

def k0_chk56 (i : grid0.Coords) (k0_t4 : Fin (k0_t4_loop i).trips) (v314 : IVec S16 32) : Prop :=
  (∀ a x, ((![v314] : Fin 1 → IVec S16 32) a x).toNat < S67584.size a)
theorem k0_idx56_inb : ∀ (i : grid0.Coords) (k0_t4 : Fin (k0_t4_loop i).trips) (v314 : IVec S16 32) (k0_hw56 : k0_chk56 i k0_t4 v314), ∀ a x, ((![v314] : Fin 1 → IVec S16 32) a x).toNat < S67584.size a := fun i k0_t4 v314 k0_hw56 => k0_hw56

def k0_chk57 (i : grid0.Coords) (k0_t4 : Fin (k0_t4_loop i).trips) (v319 : IVec S16 32) : Prop :=
  (∀ a x, ((![v319] : Fin 1 → IVec S16 32) a x).toNat < S67584.size a)
theorem k0_idx57_inb : ∀ (i : grid0.Coords) (k0_t4 : Fin (k0_t4_loop i).trips) (v319 : IVec S16 32) (k0_hw57 : k0_chk57 i k0_t4 v319), ∀ a x, ((![v319] : Fin 1 → IVec S16 32) a x).toNat < S67584.size a := fun i k0_t4 v319 k0_hw57 => k0_hw57

def k0_chk58 (i : grid0.Coords) (k0_t4 : Fin (k0_t4_loop i).trips) (v324 : IVec S16 32) : Prop :=
  (∀ a x, ((![v324] : Fin 1 → IVec S16 32) a x).toNat < S67584.size a)
theorem k0_idx58_inb : ∀ (i : grid0.Coords) (k0_t4 : Fin (k0_t4_loop i).trips) (v324 : IVec S16 32) (k0_hw58 : k0_chk58 i k0_t4 v324), ∀ a x, ((![v324] : Fin 1 → IVec S16 32) a x).toNat < S67584.size a := fun i k0_t4 v324 k0_hw58 => k0_hw58

def k0_chk59 (i : grid0.Coords) (k0_t4 : Fin (k0_t4_loop i).trips) (v329 : IVec S16 32) : Prop :=
  (∀ a x, ((![v329] : Fin 1 → IVec S16 32) a x).toNat < S67584.size a)
theorem k0_idx59_inb : ∀ (i : grid0.Coords) (k0_t4 : Fin (k0_t4_loop i).trips) (v329 : IVec S16 32) (k0_hw59 : k0_chk59 i k0_t4 v329), ∀ a x, ((![v329] : Fin 1 → IVec S16 32) a x).toNat < S67584.size a := fun i k0_t4 v329 k0_hw59 => k0_hw59

def k0_chk60 (i : grid0.Coords) (k0_t4 : Fin (k0_t4_loop i).trips) (v334 : IVec S16 32) : Prop :=
  (∀ a x, ((![v334] : Fin 1 → IVec S16 32) a x).toNat < S67584.size a)
theorem k0_idx60_inb : ∀ (i : grid0.Coords) (k0_t4 : Fin (k0_t4_loop i).trips) (v334 : IVec S16 32) (k0_hw60 : k0_chk60 i k0_t4 v334), ∀ a x, ((![v334] : Fin 1 → IVec S16 32) a x).toNat < S67584.size a := fun i k0_t4 v334 k0_hw60 => k0_hw60

def k0_chk61 (i : grid0.Coords) (k0_t4 : Fin (k0_t4_loop i).trips) (v339 : IVec S16 32) : Prop :=
  (∀ a x, ((![v339] : Fin 1 → IVec S16 32) a x).toNat < S67584.size a)
theorem k0_idx61_inb : ∀ (i : grid0.Coords) (k0_t4 : Fin (k0_t4_loop i).trips) (v339 : IVec S16 32) (k0_hw61 : k0_chk61 i k0_t4 v339), ∀ a x, ((![v339] : Fin 1 → IVec S16 32) a x).toNat < S67584.size a := fun i k0_t4 v339 k0_hw61 => k0_hw61

def k0_chk62 (i : grid0.Coords) (k0_t4 : Fin (k0_t4_loop i).trips) (v344 : IVec S16 32) : Prop :=
  (∀ a x, ((![v344] : Fin 1 → IVec S16 32) a x).toNat < S67584.size a)
theorem k0_idx62_inb : ∀ (i : grid0.Coords) (k0_t4 : Fin (k0_t4_loop i).trips) (v344 : IVec S16 32) (k0_hw62 : k0_chk62 i k0_t4 v344), ∀ a x, ((![v344] : Fin 1 → IVec S16 32) a x).toNat < S67584.size a := fun i k0_t4 v344 k0_hw62 => k0_hw62

def k0_chk63 (i : grid0.Coords) (k0_t4 : Fin (k0_t4_loop i).trips) (v349 : IVec S16 32) : Prop :=
  (∀ a x, ((![v349] : Fin 1 → IVec S16 32) a x).toNat < S67584.size a)
theorem k0_idx63_inb : ∀ (i : grid0.Coords) (k0_t4 : Fin (k0_t4_loop i).trips) (v349 : IVec S16 32) (k0_hw63 : k0_chk63 i k0_t4 v349), ∀ a x, ((![v349] : Fin 1 → IVec S16 32) a x).toNat < S67584.size a := fun i k0_t4 v349 k0_hw63 => k0_hw63

def k0_chk64 (i : grid0.Coords) (k0_t4 : Fin (k0_t4_loop i).trips) (v354 : IVec S16 32) : Prop :=
  (∀ a x, ((![v354] : Fin 1 → IVec S16 32) a x).toNat < S67584.size a)
theorem k0_idx64_inb : ∀ (i : grid0.Coords) (k0_t4 : Fin (k0_t4_loop i).trips) (v354 : IVec S16 32) (k0_hw64 : k0_chk64 i k0_t4 v354), ∀ a x, ((![v354] : Fin 1 → IVec S16 32) a x).toNat < S67584.size a := fun i k0_t4 v354 k0_hw64 => k0_hw64

def k0_chk65 (i : grid0.Coords) (k0_t4 : Fin (k0_t4_loop i).trips) (v359 : IVec S16 32) : Prop :=
  (∀ a x, ((![v359] : Fin 1 → IVec S16 32) a x).toNat < S67584.size a)
theorem k0_idx65_inb : ∀ (i : grid0.Coords) (k0_t4 : Fin (k0_t4_loop i).trips) (v359 : IVec S16 32) (k0_hw65 : k0_chk65 i k0_t4 v359), ∀ a x, ((![v359] : Fin 1 → IVec S16 32) a x).toNat < S67584.size a := fun i k0_t4 v359 k0_hw65 => k0_hw65

def k0_chk66 (i : grid0.Coords) (k0_t4 : Fin (k0_t4_loop i).trips) (v364 : IVec S16 32) : Prop :=
  (∀ a x, ((![v364] : Fin 1 → IVec S16 32) a x).toNat < S67584.size a)
theorem k0_idx66_inb : ∀ (i : grid0.Coords) (k0_t4 : Fin (k0_t4_loop i).trips) (v364 : IVec S16 32) (k0_hw66 : k0_chk66 i k0_t4 v364), ∀ a x, ((![v364] : Fin 1 → IVec S16 32) a x).toNat < S67584.size a := fun i k0_t4 v364 k0_hw66 => k0_hw66
def k0_off7 (i : grid0.Coords) (k0_t4 : Fin (k0_t4_loop i).trips) (k0_t5 : Fin k0_t5_loop.trips) (c0_i32_116 : BitVec 32) : Fin 1 → Nat :=
  let c0_i32_17 : BitVec 32 := 0#32
  let c6_i32_15 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let v44 : BitVec 32 := Scalar.subi v42 c0_i32_17
  let c1_i32_19 : BitVec 32 := 1#32
  let v46 : BitVec 32 := Scalar.divsi v44 c1_i32_19
  let v47 : BitVec 32 := Scalar.muli v46 c1_i32_19
  let v48 : BitVec 32 := Scalar.addi c0_i32_17 v47
  let c1_i32_21 : BitVec 32 := 1#32
  let arg12 : BitVec 32 := Scf.iv v48 c1_i32_21 k0_t4
  let c128_i32 : BitVec 32 := 128#32
  let v104 : BitVec 32 := Scalar.muli arg12 c128_i32
  let c0_i32_55 : BitVec 32 := 0#32
  let c1_i32_56 : BitVec 32 := 1#32
  let arg14 : BitVec 32 := Scf.iv c0_i32_55 c1_i32_56 k0_t5
  let c16_i32_61 : BitVec 32 := 16#32
  let v105 : BitVec 32 := Scalar.muli arg14 c16_i32_61
  let v106 : BitVec 32 := Scalar.addi v104 v105
  let v237 : BitVec 32 := Scalar.addi c0_i32_116 v106
  let v238 : Index := Scalar.indexCast v237
  ![v238.toNat]
def k0_off8 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_22 : BitVec 32 := 1#32
  let c0_i32_48_r5 : BitVec 32 := 0#32
  ![v19.toNat, 1, 0]
@[reducible] def k0_t7_loop (i : grid0.Coords) : Scf.Loop 32 :=
  let c0_i32_23 : BitVec 32 := 0#32
  let c6_i32_15 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let v51 : BitVec 32 := Scalar.subi v42 c0_i32_23
  let c1_i32_25 : BitVec 32 := 1#32
  let v53 : BitVec 32 := Scalar.divsi v51 c1_i32_25
  let v54 : BitVec 32 := Scalar.muli v53 c1_i32_25
  let v55 : BitVec 32 := Scalar.addi c0_i32_23 v54
  let c1_i32_26 : BitVec 32 := 1#32
  ⟨c0_i32_23, v55, c1_i32_26⟩
def k0_off9 (i : grid0.Coords) (k0_t7 : Fin (k0_t7_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c0_i32_23 : BitVec 32 := 0#32
  let c1_i32_26 : BitVec 32 := 1#32
  let arg12 : BitVec 32 := Scf.iv c0_i32_23 c1_i32_26 k0_t7
  let v82 : BitVec 32 := Scalar.addi v2 arg12
  let c16_i32_48 : BitVec 32 := 16#32
  let c0_i32_49 : BitVec 32 := 0#32
  let v83 : BitVec 1 := Scalar.cmpi .eq c16_i32_48 c0_i32_49
  let c1_i32_50 : BitVec 32 := 1#32
  let v84 : BitVec 32 := Scalar.select v83 c1_i32_50 c16_i32_48
  let v85 : BitVec 32 := Scalar.remsi v82 v84
  let c0_i32_52 : BitVec 32 := 0#32
  let v87 : BitVec 1 := Scalar.cmpi .slt v85 c0_i32_52
  let c0_i32_53 : BitVec 32 := 0#32
  let v88 : BitVec 1 := Scalar.cmpi .slt v84 c0_i32_53
  let v89 : BitVec 1 := Scalar.xori v87 v88
  let c0_i32_51 : BitVec 32 := 0#32
  let v86 : BitVec 1 := Scalar.cmpi .ne v85 c0_i32_51
  let v90 : BitVec 1 := Scalar.andi v89 v86
  let v91 : BitVec 32 := Scalar.addi v85 v84
  let v92 : BitVec 32 := Scalar.select v90 v91 v85
  let c8320_i32 : BitVec 32 := 8320#32
  let v93 : BitVec 32 := Scalar.muli v92 c8320_i32
  ![v19.toNat, v93.toNat]
def k0_off10 (i : grid0.Coords) (k0_t7 : Fin (k0_t7_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c0_i32_23 : BitVec 32 := 0#32
  let c1_i32_26 : BitVec 32 := 1#32
  let arg12 : BitVec 32 := Scf.iv c0_i32_23 c1_i32_26 k0_t7
  let v82 : BitVec 32 := Scalar.addi v2 arg12
  let c16_i32_48 : BitVec 32 := 16#32
  let c0_i32_49 : BitVec 32 := 0#32
  let v83 : BitVec 1 := Scalar.cmpi .eq c16_i32_48 c0_i32_49
  let c1_i32_50 : BitVec 32 := 1#32
  let v84 : BitVec 32 := Scalar.select v83 c1_i32_50 c16_i32_48
  let v85 : BitVec 32 := Scalar.remsi v82 v84
  let c0_i32_52 : BitVec 32 := 0#32
  let v87 : BitVec 1 := Scalar.cmpi .slt v85 c0_i32_52
  let c0_i32_53 : BitVec 32 := 0#32
  let v88 : BitVec 1 := Scalar.cmpi .slt v84 c0_i32_53
  let v89 : BitVec 1 := Scalar.xori v87 v88
  let c0_i32_51 : BitVec 32 := 0#32
  let v86 : BitVec 1 := Scalar.cmpi .ne v85 c0_i32_51
  let v90 : BitVec 1 := Scalar.andi v89 v86
  let v91 : BitVec 32 := Scalar.addi v85 v84
  let v92 : BitVec 32 := Scalar.select v90 v91 v85
  let c2176_i32 : BitVec 32 := 2176#32
  let v94 : BitVec 32 := Scalar.muli v92 c2176_i32
  ![v19.toNat, v94.toNat]
@[reducible] def k0_t8_loop : Scf.Loop 32 :=
  let c0_i32_55 : BitVec 32 := 0#32
  let c8_i32 : BitVec 32 := 8#32
  let v95 : BitVec 32 := Scalar.addi c0_i32_55 c8_i32
  let c1_i32_56 : BitVec 32 := 1#32
  ⟨c0_i32_55, v95, c1_i32_56⟩

def k0_chk67 (v110 : IVec S16 32) : Prop :=
  (∀ a x, ((![v110] : Fin 1 → IVec S16 32) a x).toNat < S2176.size a)
theorem k0_idx67_inb : ∀ (v110 : IVec S16 32) (k0_hw67 : k0_chk67 v110), ∀ a x, ((![v110] : Fin 1 → IVec S16 32) a x).toNat < S2176.size a := fun v110 k0_hw67 => k0_hw67

def k0_chk68 (v117 : IVec S16 32) : Prop :=
  (∀ a x, ((![v117] : Fin 1 → IVec S16 32) a x).toNat < S2176.size a)
theorem k0_idx68_inb : ∀ (v117 : IVec S16 32) (k0_hw68 : k0_chk68 v117), ∀ a x, ((![v117] : Fin 1 → IVec S16 32) a x).toNat < S2176.size a := fun v117 k0_hw68 => k0_hw68

def k0_chk69 (v124 : IVec S16 32) : Prop :=
  (∀ a x, ((![v124] : Fin 1 → IVec S16 32) a x).toNat < S2176.size a)
theorem k0_idx69_inb : ∀ (v124 : IVec S16 32) (k0_hw69 : k0_chk69 v124), ∀ a x, ((![v124] : Fin 1 → IVec S16 32) a x).toNat < S2176.size a := fun v124 k0_hw69 => k0_hw69

def k0_chk70 (v131 : IVec S16 32) : Prop :=
  (∀ a x, ((![v131] : Fin 1 → IVec S16 32) a x).toNat < S2176.size a)
theorem k0_idx70_inb : ∀ (v131 : IVec S16 32) (k0_hw70 : k0_chk70 v131), ∀ a x, ((![v131] : Fin 1 → IVec S16 32) a x).toNat < S2176.size a := fun v131 k0_hw70 => k0_hw70

def k0_chk71 (v138 : IVec S16 32) : Prop :=
  (∀ a x, ((![v138] : Fin 1 → IVec S16 32) a x).toNat < S2176.size a)
theorem k0_idx71_inb : ∀ (v138 : IVec S16 32) (k0_hw71 : k0_chk71 v138), ∀ a x, ((![v138] : Fin 1 → IVec S16 32) a x).toNat < S2176.size a := fun v138 k0_hw71 => k0_hw71

def k0_chk72 (v145 : IVec S16 32) : Prop :=
  (∀ a x, ((![v145] : Fin 1 → IVec S16 32) a x).toNat < S2176.size a)
theorem k0_idx72_inb : ∀ (v145 : IVec S16 32) (k0_hw72 : k0_chk72 v145), ∀ a x, ((![v145] : Fin 1 → IVec S16 32) a x).toNat < S2176.size a := fun v145 k0_hw72 => k0_hw72

def k0_chk73 (v152 : IVec S16 32) : Prop :=
  (∀ a x, ((![v152] : Fin 1 → IVec S16 32) a x).toNat < S2176.size a)
theorem k0_idx73_inb : ∀ (v152 : IVec S16 32) (k0_hw73 : k0_chk73 v152), ∀ a x, ((![v152] : Fin 1 → IVec S16 32) a x).toNat < S2176.size a := fun v152 k0_hw73 => k0_hw73

def k0_chk74 (v159 : IVec S16 32) : Prop :=
  (∀ a x, ((![v159] : Fin 1 → IVec S16 32) a x).toNat < S2176.size a)
theorem k0_idx74_inb : ∀ (v159 : IVec S16 32) (k0_hw74 : k0_chk74 v159), ∀ a x, ((![v159] : Fin 1 → IVec S16 32) a x).toNat < S2176.size a := fun v159 k0_hw74 => k0_hw74

def k0_chk75 (v166 : IVec S16 32) : Prop :=
  (∀ a x, ((![v166] : Fin 1 → IVec S16 32) a x).toNat < S2176.size a)
theorem k0_idx75_inb : ∀ (v166 : IVec S16 32) (k0_hw75 : k0_chk75 v166), ∀ a x, ((![v166] : Fin 1 → IVec S16 32) a x).toNat < S2176.size a := fun v166 k0_hw75 => k0_hw75

def k0_chk76 (v173 : IVec S16 32) : Prop :=
  (∀ a x, ((![v173] : Fin 1 → IVec S16 32) a x).toNat < S2176.size a)
theorem k0_idx76_inb : ∀ (v173 : IVec S16 32) (k0_hw76 : k0_chk76 v173), ∀ a x, ((![v173] : Fin 1 → IVec S16 32) a x).toNat < S2176.size a := fun v173 k0_hw76 => k0_hw76

def k0_chk77 (v180 : IVec S16 32) : Prop :=
  (∀ a x, ((![v180] : Fin 1 → IVec S16 32) a x).toNat < S2176.size a)
theorem k0_idx77_inb : ∀ (v180 : IVec S16 32) (k0_hw77 : k0_chk77 v180), ∀ a x, ((![v180] : Fin 1 → IVec S16 32) a x).toNat < S2176.size a := fun v180 k0_hw77 => k0_hw77

def k0_chk78 (v187 : IVec S16 32) : Prop :=
  (∀ a x, ((![v187] : Fin 1 → IVec S16 32) a x).toNat < S2176.size a)
theorem k0_idx78_inb : ∀ (v187 : IVec S16 32) (k0_hw78 : k0_chk78 v187), ∀ a x, ((![v187] : Fin 1 → IVec S16 32) a x).toNat < S2176.size a := fun v187 k0_hw78 => k0_hw78

def k0_chk79 (v194 : IVec S16 32) : Prop :=
  (∀ a x, ((![v194] : Fin 1 → IVec S16 32) a x).toNat < S2176.size a)
theorem k0_idx79_inb : ∀ (v194 : IVec S16 32) (k0_hw79 : k0_chk79 v194), ∀ a x, ((![v194] : Fin 1 → IVec S16 32) a x).toNat < S2176.size a := fun v194 k0_hw79 => k0_hw79

def k0_chk80 (v201 : IVec S16 32) : Prop :=
  (∀ a x, ((![v201] : Fin 1 → IVec S16 32) a x).toNat < S2176.size a)
theorem k0_idx80_inb : ∀ (v201 : IVec S16 32) (k0_hw80 : k0_chk80 v201), ∀ a x, ((![v201] : Fin 1 → IVec S16 32) a x).toNat < S2176.size a := fun v201 k0_hw80 => k0_hw80

def k0_chk81 (v208 : IVec S16 32) : Prop :=
  (∀ a x, ((![v208] : Fin 1 → IVec S16 32) a x).toNat < S2176.size a)
theorem k0_idx81_inb : ∀ (v208 : IVec S16 32) (k0_hw81 : k0_chk81 v208), ∀ a x, ((![v208] : Fin 1 → IVec S16 32) a x).toNat < S2176.size a := fun v208 k0_hw81 => k0_hw81

def k0_chk82 (v215 : IVec S16 32) : Prop :=
  (∀ a x, ((![v215] : Fin 1 → IVec S16 32) a x).toNat < S2176.size a)
theorem k0_idx82_inb : ∀ (v215 : IVec S16 32) (k0_hw82 : k0_chk82 v215), ∀ a x, ((![v215] : Fin 1 → IVec S16 32) a x).toNat < S2176.size a := fun v215 k0_hw82 => k0_hw82
def k0_off11 (i : grid0.Coords) (k0_t7 : Fin (k0_t7_loop i).trips) (k0_t8 : Fin k0_t8_loop.trips) (c0_i32_96 : BitVec 32) : Fin 1 → Nat :=
  let c0_i32_23 : BitVec 32 := 0#32
  let c1_i32_26 : BitVec 32 := 1#32
  let arg12 : BitVec 32 := Scf.iv c0_i32_23 c1_i32_26 k0_t7
  let c128_i32 : BitVec 32 := 128#32
  let v104 : BitVec 32 := Scalar.muli arg12 c128_i32
  let c0_i32_55 : BitVec 32 := 0#32
  let c1_i32_56 : BitVec 32 := 1#32
  let arg14 : BitVec 32 := Scf.iv c0_i32_55 c1_i32_56 k0_t8
  let c16_i32_60 : BitVec 32 := 16#32
  let v105 : BitVec 32 := Scalar.muli arg14 c16_i32_60
  let v106 : BitVec 32 := Scalar.addi v104 v105
  let v219 : BitVec 32 := Scalar.addi c0_i32_96 v106
  let v220 : Index := Scalar.indexCast v219
  ![v220.toNat]
@[reducible] def k0_t9_loop : Scf.Loop 32 :=
  let c0_i32_97 : BitVec 32 := 0#32
  let c32_i32_98 : BitVec 32 := 32#32
  let v267 : BitVec 32 := Scalar.addi c0_i32_97 c32_i32_98
  let c1_i32_99 : BitVec 32 := 1#32
  ⟨c0_i32_97, v267, c1_i32_99⟩

def k0_chk83 (v318 : IVec S16 32) : Prop :=
  (∀ a x, ((![v318] : Fin 1 → IVec S16 32) a x).toNat < S8320.size a)
theorem k0_idx83_inb : ∀ (v318 : IVec S16 32) (k0_hw83 : k0_chk83 v318), ∀ a x, ((![v318] : Fin 1 → IVec S16 32) a x).toNat < S8320.size a := fun v318 k0_hw83 => k0_hw83

def k0_chk84 (v321 : IVec S16 32) : Prop :=
  (∀ a x, ((![v321] : Fin 1 → IVec S16 32) a x).toNat < S67584.size a)
theorem k0_idx84_inb : ∀ (v321 : IVec S16 32) (k0_hw84 : k0_chk84 v321), ∀ a x, ((![v321] : Fin 1 → IVec S16 32) a x).toNat < S67584.size a := fun v321 k0_hw84 => k0_hw84

def k0_chk85 (v326 : IVec S16 32) : Prop :=
  (∀ a x, ((![v326] : Fin 1 → IVec S16 32) a x).toNat < S67584.size a)
theorem k0_idx85_inb : ∀ (v326 : IVec S16 32) (k0_hw85 : k0_chk85 v326), ∀ a x, ((![v326] : Fin 1 → IVec S16 32) a x).toNat < S67584.size a := fun v326 k0_hw85 => k0_hw85

def k0_chk86 (v331 : IVec S16 32) : Prop :=
  (∀ a x, ((![v331] : Fin 1 → IVec S16 32) a x).toNat < S67584.size a)
theorem k0_idx86_inb : ∀ (v331 : IVec S16 32) (k0_hw86 : k0_chk86 v331), ∀ a x, ((![v331] : Fin 1 → IVec S16 32) a x).toNat < S67584.size a := fun v331 k0_hw86 => k0_hw86

def k0_chk87 (v336 : IVec S16 32) : Prop :=
  (∀ a x, ((![v336] : Fin 1 → IVec S16 32) a x).toNat < S67584.size a)
theorem k0_idx87_inb : ∀ (v336 : IVec S16 32) (k0_hw87 : k0_chk87 v336), ∀ a x, ((![v336] : Fin 1 → IVec S16 32) a x).toNat < S67584.size a := fun v336 k0_hw87 => k0_hw87

def k0_chk88 (v341 : IVec S16 32) : Prop :=
  (∀ a x, ((![v341] : Fin 1 → IVec S16 32) a x).toNat < S67584.size a)
theorem k0_idx88_inb : ∀ (v341 : IVec S16 32) (k0_hw88 : k0_chk88 v341), ∀ a x, ((![v341] : Fin 1 → IVec S16 32) a x).toNat < S67584.size a := fun v341 k0_hw88 => k0_hw88

def k0_chk89 (v346 : IVec S16 32) : Prop :=
  (∀ a x, ((![v346] : Fin 1 → IVec S16 32) a x).toNat < S67584.size a)
theorem k0_idx89_inb : ∀ (v346 : IVec S16 32) (k0_hw89 : k0_chk89 v346), ∀ a x, ((![v346] : Fin 1 → IVec S16 32) a x).toNat < S67584.size a := fun v346 k0_hw89 => k0_hw89

def k0_chk90 (v351 : IVec S16 32) : Prop :=
  (∀ a x, ((![v351] : Fin 1 → IVec S16 32) a x).toNat < S67584.size a)
theorem k0_idx90_inb : ∀ (v351 : IVec S16 32) (k0_hw90 : k0_chk90 v351), ∀ a x, ((![v351] : Fin 1 → IVec S16 32) a x).toNat < S67584.size a := fun v351 k0_hw90 => k0_hw90

def k0_chk91 (v356 : IVec S16 32) : Prop :=
  (∀ a x, ((![v356] : Fin 1 → IVec S16 32) a x).toNat < S67584.size a)
theorem k0_idx91_inb : ∀ (v356 : IVec S16 32) (k0_hw91 : k0_chk91 v356), ∀ a x, ((![v356] : Fin 1 → IVec S16 32) a x).toNat < S67584.size a := fun v356 k0_hw91 => k0_hw91

def k0_chk92 (v361 : IVec S16 32) : Prop :=
  (∀ a x, ((![v361] : Fin 1 → IVec S16 32) a x).toNat < S67584.size a)
theorem k0_idx92_inb : ∀ (v361 : IVec S16 32) (k0_hw92 : k0_chk92 v361), ∀ a x, ((![v361] : Fin 1 → IVec S16 32) a x).toNat < S67584.size a := fun v361 k0_hw92 => k0_hw92

def k0_chk93 (v366 : IVec S16 32) : Prop :=
  (∀ a x, ((![v366] : Fin 1 → IVec S16 32) a x).toNat < S67584.size a)
theorem k0_idx93_inb : ∀ (v366 : IVec S16 32) (k0_hw93 : k0_chk93 v366), ∀ a x, ((![v366] : Fin 1 → IVec S16 32) a x).toNat < S67584.size a := fun v366 k0_hw93 => k0_hw93

def k0_chk94 (v371 : IVec S16 32) : Prop :=
  (∀ a x, ((![v371] : Fin 1 → IVec S16 32) a x).toNat < S67584.size a)
theorem k0_idx94_inb : ∀ (v371 : IVec S16 32) (k0_hw94 : k0_chk94 v371), ∀ a x, ((![v371] : Fin 1 → IVec S16 32) a x).toNat < S67584.size a := fun v371 k0_hw94 => k0_hw94

def k0_chk95 (v376 : IVec S16 32) : Prop :=
  (∀ a x, ((![v376] : Fin 1 → IVec S16 32) a x).toNat < S67584.size a)
theorem k0_idx95_inb : ∀ (v376 : IVec S16 32) (k0_hw95 : k0_chk95 v376), ∀ a x, ((![v376] : Fin 1 → IVec S16 32) a x).toNat < S67584.size a := fun v376 k0_hw95 => k0_hw95

def k0_chk96 (v381 : IVec S16 32) : Prop :=
  (∀ a x, ((![v381] : Fin 1 → IVec S16 32) a x).toNat < S67584.size a)
theorem k0_idx96_inb : ∀ (v381 : IVec S16 32) (k0_hw96 : k0_chk96 v381), ∀ a x, ((![v381] : Fin 1 → IVec S16 32) a x).toNat < S67584.size a := fun v381 k0_hw96 => k0_hw96

def k0_chk97 (v386 : IVec S16 32) : Prop :=
  (∀ a x, ((![v386] : Fin 1 → IVec S16 32) a x).toNat < S67584.size a)
theorem k0_idx97_inb : ∀ (v386 : IVec S16 32) (k0_hw97 : k0_chk97 v386), ∀ a x, ((![v386] : Fin 1 → IVec S16 32) a x).toNat < S67584.size a := fun v386 k0_hw97 => k0_hw97

def k0_chk98 (v391 : IVec S16 32) : Prop :=
  (∀ a x, ((![v391] : Fin 1 → IVec S16 32) a x).toNat < S67584.size a)
theorem k0_idx98_inb : ∀ (v391 : IVec S16 32) (k0_hw98 : k0_chk98 v391), ∀ a x, ((![v391] : Fin 1 → IVec S16 32) a x).toNat < S67584.size a := fun v391 k0_hw98 => k0_hw98

def k0_chk99 (v396 : IVec S16 32) : Prop :=
  (∀ a x, ((![v396] : Fin 1 → IVec S16 32) a x).toNat < S67584.size a)
theorem k0_idx99_inb : ∀ (v396 : IVec S16 32) (k0_hw99 : k0_chk99 v396), ∀ a x, ((![v396] : Fin 1 → IVec S16 32) a x).toNat < S67584.size a := fun v396 k0_hw99 => k0_hw99
@[reducible] def k0_t10_loop (i : grid0.Coords) : Scf.Loop 32 :=
  let c0_i32_23 : BitVec 32 := 0#32
  let c6_i32_15 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let v51 : BitVec 32 := Scalar.subi v42 c0_i32_23
  let c1_i32_25 : BitVec 32 := 1#32
  let v53 : BitVec 32 := Scalar.divsi v51 c1_i32_25
  let v54 : BitVec 32 := Scalar.muli v53 c1_i32_25
  let v55 : BitVec 32 := Scalar.addi c0_i32_23 v54
  let v52 : BitVec 32 := Scalar.addi c0_i32_23 v51
  let c1_i32_27 : BitVec 32 := 1#32
  ⟨v55, v52, c1_i32_27⟩
def k0_off12 (i : grid0.Coords) (k0_t10 : Fin (k0_t10_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c0_i32_23 : BitVec 32 := 0#32
  let c6_i32_15 : BitVec 32 := 6#32
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let v51 : BitVec 32 := Scalar.subi v42 c0_i32_23
  let c1_i32_25 : BitVec 32 := 1#32
  let v53 : BitVec 32 := Scalar.divsi v51 c1_i32_25
  let v54 : BitVec 32 := Scalar.muli v53 c1_i32_25
  let v55 : BitVec 32 := Scalar.addi c0_i32_23 v54
  let c1_i32_27 : BitVec 32 := 1#32
  let arg12 : BitVec 32 := Scf.iv v55 c1_i32_27 k0_t10
  let v82 : BitVec 32 := Scalar.addi v2 arg12
  let c16_i32_48 : BitVec 32 := 16#32
  let c0_i32_49 : BitVec 32 := 0#32
  let v83 : BitVec 1 := Scalar.cmpi .eq c16_i32_48 c0_i32_49
  let c1_i32_50 : BitVec 32 := 1#32
  let v84 : BitVec 32 := Scalar.select v83 c1_i32_50 c16_i32_48
  let v85 : BitVec 32 := Scalar.remsi v82 v84
  let c0_i32_52 : BitVec 32 := 0#32
  let v87 : BitVec 1 := Scalar.cmpi .slt v85 c0_i32_52
  let c0_i32_53 : BitVec 32 := 0#32
  let v88 : BitVec 1 := Scalar.cmpi .slt v84 c0_i32_53
  let v89 : BitVec 1 := Scalar.xori v87 v88
  let c0_i32_51 : BitVec 32 := 0#32
  let v86 : BitVec 1 := Scalar.cmpi .ne v85 c0_i32_51
  let v90 : BitVec 1 := Scalar.andi v89 v86
  let v91 : BitVec 32 := Scalar.addi v85 v84
  let v92 : BitVec 32 := Scalar.select v90 v91 v85
  let c8320_i32 : BitVec 32 := 8320#32
  let v93 : BitVec 32 := Scalar.muli v92 c8320_i32
  ![v19.toNat, v93.toNat]
def k0_off13 (i : grid0.Coords) (k0_t10 : Fin (k0_t10_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c0_i32_23 : BitVec 32 := 0#32
  let c6_i32_15 : BitVec 32 := 6#32
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let v51 : BitVec 32 := Scalar.subi v42 c0_i32_23
  let c1_i32_25 : BitVec 32 := 1#32
  let v53 : BitVec 32 := Scalar.divsi v51 c1_i32_25
  let v54 : BitVec 32 := Scalar.muli v53 c1_i32_25
  let v55 : BitVec 32 := Scalar.addi c0_i32_23 v54
  let c1_i32_27 : BitVec 32 := 1#32
  let arg12 : BitVec 32 := Scf.iv v55 c1_i32_27 k0_t10
  let v82 : BitVec 32 := Scalar.addi v2 arg12
  let c16_i32_48 : BitVec 32 := 16#32
  let c0_i32_49 : BitVec 32 := 0#32
  let v83 : BitVec 1 := Scalar.cmpi .eq c16_i32_48 c0_i32_49
  let c1_i32_50 : BitVec 32 := 1#32
  let v84 : BitVec 32 := Scalar.select v83 c1_i32_50 c16_i32_48
  let v85 : BitVec 32 := Scalar.remsi v82 v84
  let c0_i32_52 : BitVec 32 := 0#32
  let v87 : BitVec 1 := Scalar.cmpi .slt v85 c0_i32_52
  let c0_i32_53 : BitVec 32 := 0#32
  let v88 : BitVec 1 := Scalar.cmpi .slt v84 c0_i32_53
  let v89 : BitVec 1 := Scalar.xori v87 v88
  let c0_i32_51 : BitVec 32 := 0#32
  let v86 : BitVec 1 := Scalar.cmpi .ne v85 c0_i32_51
  let v90 : BitVec 1 := Scalar.andi v89 v86
  let v91 : BitVec 32 := Scalar.addi v85 v84
  let v92 : BitVec 32 := Scalar.select v90 v91 v85
  let c2176_i32 : BitVec 32 := 2176#32
  let v94 : BitVec 32 := Scalar.muli v92 c2176_i32
  ![v19.toNat, v94.toNat]
@[reducible] def k0_t11_loop : Scf.Loop 32 :=
  let c0_i32_55 : BitVec 32 := 0#32
  let c8_i32 : BitVec 32 := 8#32
  let v95 : BitVec 32 := Scalar.addi c0_i32_55 c8_i32
  let c1_i32_56 : BitVec 32 := 1#32
  ⟨c0_i32_55, v95, c1_i32_56⟩

def k0_chk100 (i : grid0.Coords) (k0_t10 : Fin (k0_t10_loop i).trips) (v110 : IVec S16 32) : Prop :=
  (∀ a x, ((![v110] : Fin 1 → IVec S16 32) a x).toNat < S2176.size a)
theorem k0_idx100_inb : ∀ (i : grid0.Coords) (k0_t10 : Fin (k0_t10_loop i).trips) (v110 : IVec S16 32) (k0_hw100 : k0_chk100 i k0_t10 v110), ∀ a x, ((![v110] : Fin 1 → IVec S16 32) a x).toNat < S2176.size a := fun i k0_t10 v110 k0_hw100 => k0_hw100

def k0_chk101 (i : grid0.Coords) (k0_t10 : Fin (k0_t10_loop i).trips) (v117 : IVec S16 32) : Prop :=
  (∀ a x, ((![v117] : Fin 1 → IVec S16 32) a x).toNat < S2176.size a)
theorem k0_idx101_inb : ∀ (i : grid0.Coords) (k0_t10 : Fin (k0_t10_loop i).trips) (v117 : IVec S16 32) (k0_hw101 : k0_chk101 i k0_t10 v117), ∀ a x, ((![v117] : Fin 1 → IVec S16 32) a x).toNat < S2176.size a := fun i k0_t10 v117 k0_hw101 => k0_hw101

def k0_chk102 (i : grid0.Coords) (k0_t10 : Fin (k0_t10_loop i).trips) (v124 : IVec S16 32) : Prop :=
  (∀ a x, ((![v124] : Fin 1 → IVec S16 32) a x).toNat < S2176.size a)
theorem k0_idx102_inb : ∀ (i : grid0.Coords) (k0_t10 : Fin (k0_t10_loop i).trips) (v124 : IVec S16 32) (k0_hw102 : k0_chk102 i k0_t10 v124), ∀ a x, ((![v124] : Fin 1 → IVec S16 32) a x).toNat < S2176.size a := fun i k0_t10 v124 k0_hw102 => k0_hw102

def k0_chk103 (i : grid0.Coords) (k0_t10 : Fin (k0_t10_loop i).trips) (v131 : IVec S16 32) : Prop :=
  (∀ a x, ((![v131] : Fin 1 → IVec S16 32) a x).toNat < S2176.size a)
theorem k0_idx103_inb : ∀ (i : grid0.Coords) (k0_t10 : Fin (k0_t10_loop i).trips) (v131 : IVec S16 32) (k0_hw103 : k0_chk103 i k0_t10 v131), ∀ a x, ((![v131] : Fin 1 → IVec S16 32) a x).toNat < S2176.size a := fun i k0_t10 v131 k0_hw103 => k0_hw103

def k0_chk104 (i : grid0.Coords) (k0_t10 : Fin (k0_t10_loop i).trips) (v138 : IVec S16 32) : Prop :=
  (∀ a x, ((![v138] : Fin 1 → IVec S16 32) a x).toNat < S2176.size a)
theorem k0_idx104_inb : ∀ (i : grid0.Coords) (k0_t10 : Fin (k0_t10_loop i).trips) (v138 : IVec S16 32) (k0_hw104 : k0_chk104 i k0_t10 v138), ∀ a x, ((![v138] : Fin 1 → IVec S16 32) a x).toNat < S2176.size a := fun i k0_t10 v138 k0_hw104 => k0_hw104

def k0_chk105 (i : grid0.Coords) (k0_t10 : Fin (k0_t10_loop i).trips) (v145 : IVec S16 32) : Prop :=
  (∀ a x, ((![v145] : Fin 1 → IVec S16 32) a x).toNat < S2176.size a)
theorem k0_idx105_inb : ∀ (i : grid0.Coords) (k0_t10 : Fin (k0_t10_loop i).trips) (v145 : IVec S16 32) (k0_hw105 : k0_chk105 i k0_t10 v145), ∀ a x, ((![v145] : Fin 1 → IVec S16 32) a x).toNat < S2176.size a := fun i k0_t10 v145 k0_hw105 => k0_hw105

def k0_chk106 (i : grid0.Coords) (k0_t10 : Fin (k0_t10_loop i).trips) (v152 : IVec S16 32) : Prop :=
  (∀ a x, ((![v152] : Fin 1 → IVec S16 32) a x).toNat < S2176.size a)
theorem k0_idx106_inb : ∀ (i : grid0.Coords) (k0_t10 : Fin (k0_t10_loop i).trips) (v152 : IVec S16 32) (k0_hw106 : k0_chk106 i k0_t10 v152), ∀ a x, ((![v152] : Fin 1 → IVec S16 32) a x).toNat < S2176.size a := fun i k0_t10 v152 k0_hw106 => k0_hw106

def k0_chk107 (i : grid0.Coords) (k0_t10 : Fin (k0_t10_loop i).trips) (v159 : IVec S16 32) : Prop :=
  (∀ a x, ((![v159] : Fin 1 → IVec S16 32) a x).toNat < S2176.size a)
theorem k0_idx107_inb : ∀ (i : grid0.Coords) (k0_t10 : Fin (k0_t10_loop i).trips) (v159 : IVec S16 32) (k0_hw107 : k0_chk107 i k0_t10 v159), ∀ a x, ((![v159] : Fin 1 → IVec S16 32) a x).toNat < S2176.size a := fun i k0_t10 v159 k0_hw107 => k0_hw107

def k0_chk108 (i : grid0.Coords) (k0_t10 : Fin (k0_t10_loop i).trips) (v166 : IVec S16 32) : Prop :=
  (∀ a x, ((![v166] : Fin 1 → IVec S16 32) a x).toNat < S2176.size a)
theorem k0_idx108_inb : ∀ (i : grid0.Coords) (k0_t10 : Fin (k0_t10_loop i).trips) (v166 : IVec S16 32) (k0_hw108 : k0_chk108 i k0_t10 v166), ∀ a x, ((![v166] : Fin 1 → IVec S16 32) a x).toNat < S2176.size a := fun i k0_t10 v166 k0_hw108 => k0_hw108

def k0_chk109 (i : grid0.Coords) (k0_t10 : Fin (k0_t10_loop i).trips) (v173 : IVec S16 32) : Prop :=
  (∀ a x, ((![v173] : Fin 1 → IVec S16 32) a x).toNat < S2176.size a)
theorem k0_idx109_inb : ∀ (i : grid0.Coords) (k0_t10 : Fin (k0_t10_loop i).trips) (v173 : IVec S16 32) (k0_hw109 : k0_chk109 i k0_t10 v173), ∀ a x, ((![v173] : Fin 1 → IVec S16 32) a x).toNat < S2176.size a := fun i k0_t10 v173 k0_hw109 => k0_hw109

def k0_chk110 (i : grid0.Coords) (k0_t10 : Fin (k0_t10_loop i).trips) (v180 : IVec S16 32) : Prop :=
  (∀ a x, ((![v180] : Fin 1 → IVec S16 32) a x).toNat < S2176.size a)
theorem k0_idx110_inb : ∀ (i : grid0.Coords) (k0_t10 : Fin (k0_t10_loop i).trips) (v180 : IVec S16 32) (k0_hw110 : k0_chk110 i k0_t10 v180), ∀ a x, ((![v180] : Fin 1 → IVec S16 32) a x).toNat < S2176.size a := fun i k0_t10 v180 k0_hw110 => k0_hw110

def k0_chk111 (i : grid0.Coords) (k0_t10 : Fin (k0_t10_loop i).trips) (v187 : IVec S16 32) : Prop :=
  (∀ a x, ((![v187] : Fin 1 → IVec S16 32) a x).toNat < S2176.size a)
theorem k0_idx111_inb : ∀ (i : grid0.Coords) (k0_t10 : Fin (k0_t10_loop i).trips) (v187 : IVec S16 32) (k0_hw111 : k0_chk111 i k0_t10 v187), ∀ a x, ((![v187] : Fin 1 → IVec S16 32) a x).toNat < S2176.size a := fun i k0_t10 v187 k0_hw111 => k0_hw111

def k0_chk112 (i : grid0.Coords) (k0_t10 : Fin (k0_t10_loop i).trips) (v194 : IVec S16 32) : Prop :=
  (∀ a x, ((![v194] : Fin 1 → IVec S16 32) a x).toNat < S2176.size a)
theorem k0_idx112_inb : ∀ (i : grid0.Coords) (k0_t10 : Fin (k0_t10_loop i).trips) (v194 : IVec S16 32) (k0_hw112 : k0_chk112 i k0_t10 v194), ∀ a x, ((![v194] : Fin 1 → IVec S16 32) a x).toNat < S2176.size a := fun i k0_t10 v194 k0_hw112 => k0_hw112

def k0_chk113 (i : grid0.Coords) (k0_t10 : Fin (k0_t10_loop i).trips) (v201 : IVec S16 32) : Prop :=
  (∀ a x, ((![v201] : Fin 1 → IVec S16 32) a x).toNat < S2176.size a)
theorem k0_idx113_inb : ∀ (i : grid0.Coords) (k0_t10 : Fin (k0_t10_loop i).trips) (v201 : IVec S16 32) (k0_hw113 : k0_chk113 i k0_t10 v201), ∀ a x, ((![v201] : Fin 1 → IVec S16 32) a x).toNat < S2176.size a := fun i k0_t10 v201 k0_hw113 => k0_hw113

def k0_chk114 (i : grid0.Coords) (k0_t10 : Fin (k0_t10_loop i).trips) (v208 : IVec S16 32) : Prop :=
  (∀ a x, ((![v208] : Fin 1 → IVec S16 32) a x).toNat < S2176.size a)
theorem k0_idx114_inb : ∀ (i : grid0.Coords) (k0_t10 : Fin (k0_t10_loop i).trips) (v208 : IVec S16 32) (k0_hw114 : k0_chk114 i k0_t10 v208), ∀ a x, ((![v208] : Fin 1 → IVec S16 32) a x).toNat < S2176.size a := fun i k0_t10 v208 k0_hw114 => k0_hw114

def k0_chk115 (i : grid0.Coords) (k0_t10 : Fin (k0_t10_loop i).trips) (v215 : IVec S16 32) : Prop :=
  (∀ a x, ((![v215] : Fin 1 → IVec S16 32) a x).toNat < S2176.size a)
theorem k0_idx115_inb : ∀ (i : grid0.Coords) (k0_t10 : Fin (k0_t10_loop i).trips) (v215 : IVec S16 32) (k0_hw115 : k0_chk115 i k0_t10 v215), ∀ a x, ((![v215] : Fin 1 → IVec S16 32) a x).toNat < S2176.size a := fun i k0_t10 v215 k0_hw115 => k0_hw115
def k0_off14 (i : grid0.Coords) (k0_t10 : Fin (k0_t10_loop i).trips) (k0_t11 : Fin k0_t11_loop.trips) (c0_i32_96 : BitVec 32) : Fin 1 → Nat :=
  let c0_i32_23 : BitVec 32 := 0#32
  let c6_i32_15 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let v51 : BitVec 32 := Scalar.subi v42 c0_i32_23
  let c1_i32_25 : BitVec 32 := 1#32
  let v53 : BitVec 32 := Scalar.divsi v51 c1_i32_25
  let v54 : BitVec 32 := Scalar.muli v53 c1_i32_25
  let v55 : BitVec 32 := Scalar.addi c0_i32_23 v54
  let c1_i32_27 : BitVec 32 := 1#32
  let arg12 : BitVec 32 := Scf.iv v55 c1_i32_27 k0_t10
  let c128_i32 : BitVec 32 := 128#32
  let v104 : BitVec 32 := Scalar.muli arg12 c128_i32
  let c0_i32_55 : BitVec 32 := 0#32
  let c1_i32_56 : BitVec 32 := 1#32
  let arg14 : BitVec 32 := Scf.iv c0_i32_55 c1_i32_56 k0_t11
  let c16_i32_60 : BitVec 32 := 16#32
  let v105 : BitVec 32 := Scalar.muli arg14 c16_i32_60
  let v106 : BitVec 32 := Scalar.addi v104 v105
  let v219 : BitVec 32 := Scalar.addi c0_i32_96 v106
  let v220 : Index := Scalar.indexCast v219
  ![v220.toNat]
@[reducible] def k0_t12_loop : Scf.Loop 32 :=
  let c0_i32_97 : BitVec 32 := 0#32
  let c32_i32_98 : BitVec 32 := 32#32
  let v267 : BitVec 32 := Scalar.addi c0_i32_97 c32_i32_98
  let c1_i32_99 : BitVec 32 := 1#32
  ⟨c0_i32_97, v267, c1_i32_99⟩

def k0_chk116 (i : grid0.Coords) (k0_t10 : Fin (k0_t10_loop i).trips) (v318 : IVec S16 32) : Prop :=
  (∀ a x, ((![v318] : Fin 1 → IVec S16 32) a x).toNat < S8320.size a)
theorem k0_idx116_inb : ∀ (i : grid0.Coords) (k0_t10 : Fin (k0_t10_loop i).trips) (v318 : IVec S16 32) (k0_hw116 : k0_chk116 i k0_t10 v318), ∀ a x, ((![v318] : Fin 1 → IVec S16 32) a x).toNat < S8320.size a := fun i k0_t10 v318 k0_hw116 => k0_hw116

def k0_chk117 (i : grid0.Coords) (k0_t10 : Fin (k0_t10_loop i).trips) (v321 : IVec S16 32) : Prop :=
  (∀ a x, ((![v321] : Fin 1 → IVec S16 32) a x).toNat < S67584.size a)
theorem k0_idx117_inb : ∀ (i : grid0.Coords) (k0_t10 : Fin (k0_t10_loop i).trips) (v321 : IVec S16 32) (k0_hw117 : k0_chk117 i k0_t10 v321), ∀ a x, ((![v321] : Fin 1 → IVec S16 32) a x).toNat < S67584.size a := fun i k0_t10 v321 k0_hw117 => k0_hw117

def k0_chk118 (i : grid0.Coords) (k0_t10 : Fin (k0_t10_loop i).trips) (v326 : IVec S16 32) : Prop :=
  (∀ a x, ((![v326] : Fin 1 → IVec S16 32) a x).toNat < S67584.size a)
theorem k0_idx118_inb : ∀ (i : grid0.Coords) (k0_t10 : Fin (k0_t10_loop i).trips) (v326 : IVec S16 32) (k0_hw118 : k0_chk118 i k0_t10 v326), ∀ a x, ((![v326] : Fin 1 → IVec S16 32) a x).toNat < S67584.size a := fun i k0_t10 v326 k0_hw118 => k0_hw118

def k0_chk119 (i : grid0.Coords) (k0_t10 : Fin (k0_t10_loop i).trips) (v331 : IVec S16 32) : Prop :=
  (∀ a x, ((![v331] : Fin 1 → IVec S16 32) a x).toNat < S67584.size a)
theorem k0_idx119_inb : ∀ (i : grid0.Coords) (k0_t10 : Fin (k0_t10_loop i).trips) (v331 : IVec S16 32) (k0_hw119 : k0_chk119 i k0_t10 v331), ∀ a x, ((![v331] : Fin 1 → IVec S16 32) a x).toNat < S67584.size a := fun i k0_t10 v331 k0_hw119 => k0_hw119

def k0_chk120 (i : grid0.Coords) (k0_t10 : Fin (k0_t10_loop i).trips) (v336 : IVec S16 32) : Prop :=
  (∀ a x, ((![v336] : Fin 1 → IVec S16 32) a x).toNat < S67584.size a)
theorem k0_idx120_inb : ∀ (i : grid0.Coords) (k0_t10 : Fin (k0_t10_loop i).trips) (v336 : IVec S16 32) (k0_hw120 : k0_chk120 i k0_t10 v336), ∀ a x, ((![v336] : Fin 1 → IVec S16 32) a x).toNat < S67584.size a := fun i k0_t10 v336 k0_hw120 => k0_hw120

def k0_chk121 (i : grid0.Coords) (k0_t10 : Fin (k0_t10_loop i).trips) (v341 : IVec S16 32) : Prop :=
  (∀ a x, ((![v341] : Fin 1 → IVec S16 32) a x).toNat < S67584.size a)
theorem k0_idx121_inb : ∀ (i : grid0.Coords) (k0_t10 : Fin (k0_t10_loop i).trips) (v341 : IVec S16 32) (k0_hw121 : k0_chk121 i k0_t10 v341), ∀ a x, ((![v341] : Fin 1 → IVec S16 32) a x).toNat < S67584.size a := fun i k0_t10 v341 k0_hw121 => k0_hw121

def k0_chk122 (i : grid0.Coords) (k0_t10 : Fin (k0_t10_loop i).trips) (v346 : IVec S16 32) : Prop :=
  (∀ a x, ((![v346] : Fin 1 → IVec S16 32) a x).toNat < S67584.size a)
theorem k0_idx122_inb : ∀ (i : grid0.Coords) (k0_t10 : Fin (k0_t10_loop i).trips) (v346 : IVec S16 32) (k0_hw122 : k0_chk122 i k0_t10 v346), ∀ a x, ((![v346] : Fin 1 → IVec S16 32) a x).toNat < S67584.size a := fun i k0_t10 v346 k0_hw122 => k0_hw122

def k0_chk123 (i : grid0.Coords) (k0_t10 : Fin (k0_t10_loop i).trips) (v351 : IVec S16 32) : Prop :=
  (∀ a x, ((![v351] : Fin 1 → IVec S16 32) a x).toNat < S67584.size a)
theorem k0_idx123_inb : ∀ (i : grid0.Coords) (k0_t10 : Fin (k0_t10_loop i).trips) (v351 : IVec S16 32) (k0_hw123 : k0_chk123 i k0_t10 v351), ∀ a x, ((![v351] : Fin 1 → IVec S16 32) a x).toNat < S67584.size a := fun i k0_t10 v351 k0_hw123 => k0_hw123

def k0_chk124 (i : grid0.Coords) (k0_t10 : Fin (k0_t10_loop i).trips) (v356 : IVec S16 32) : Prop :=
  (∀ a x, ((![v356] : Fin 1 → IVec S16 32) a x).toNat < S67584.size a)
theorem k0_idx124_inb : ∀ (i : grid0.Coords) (k0_t10 : Fin (k0_t10_loop i).trips) (v356 : IVec S16 32) (k0_hw124 : k0_chk124 i k0_t10 v356), ∀ a x, ((![v356] : Fin 1 → IVec S16 32) a x).toNat < S67584.size a := fun i k0_t10 v356 k0_hw124 => k0_hw124

def k0_chk125 (i : grid0.Coords) (k0_t10 : Fin (k0_t10_loop i).trips) (v361 : IVec S16 32) : Prop :=
  (∀ a x, ((![v361] : Fin 1 → IVec S16 32) a x).toNat < S67584.size a)
theorem k0_idx125_inb : ∀ (i : grid0.Coords) (k0_t10 : Fin (k0_t10_loop i).trips) (v361 : IVec S16 32) (k0_hw125 : k0_chk125 i k0_t10 v361), ∀ a x, ((![v361] : Fin 1 → IVec S16 32) a x).toNat < S67584.size a := fun i k0_t10 v361 k0_hw125 => k0_hw125

def k0_chk126 (i : grid0.Coords) (k0_t10 : Fin (k0_t10_loop i).trips) (v366 : IVec S16 32) : Prop :=
  (∀ a x, ((![v366] : Fin 1 → IVec S16 32) a x).toNat < S67584.size a)
theorem k0_idx126_inb : ∀ (i : grid0.Coords) (k0_t10 : Fin (k0_t10_loop i).trips) (v366 : IVec S16 32) (k0_hw126 : k0_chk126 i k0_t10 v366), ∀ a x, ((![v366] : Fin 1 → IVec S16 32) a x).toNat < S67584.size a := fun i k0_t10 v366 k0_hw126 => k0_hw126

def k0_chk127 (i : grid0.Coords) (k0_t10 : Fin (k0_t10_loop i).trips) (v371 : IVec S16 32) : Prop :=
  (∀ a x, ((![v371] : Fin 1 → IVec S16 32) a x).toNat < S67584.size a)
theorem k0_idx127_inb : ∀ (i : grid0.Coords) (k0_t10 : Fin (k0_t10_loop i).trips) (v371 : IVec S16 32) (k0_hw127 : k0_chk127 i k0_t10 v371), ∀ a x, ((![v371] : Fin 1 → IVec S16 32) a x).toNat < S67584.size a := fun i k0_t10 v371 k0_hw127 => k0_hw127

def k0_chk128 (i : grid0.Coords) (k0_t10 : Fin (k0_t10_loop i).trips) (v376 : IVec S16 32) : Prop :=
  (∀ a x, ((![v376] : Fin 1 → IVec S16 32) a x).toNat < S67584.size a)
theorem k0_idx128_inb : ∀ (i : grid0.Coords) (k0_t10 : Fin (k0_t10_loop i).trips) (v376 : IVec S16 32) (k0_hw128 : k0_chk128 i k0_t10 v376), ∀ a x, ((![v376] : Fin 1 → IVec S16 32) a x).toNat < S67584.size a := fun i k0_t10 v376 k0_hw128 => k0_hw128

def k0_chk129 (i : grid0.Coords) (k0_t10 : Fin (k0_t10_loop i).trips) (v381 : IVec S16 32) : Prop :=
  (∀ a x, ((![v381] : Fin 1 → IVec S16 32) a x).toNat < S67584.size a)
theorem k0_idx129_inb : ∀ (i : grid0.Coords) (k0_t10 : Fin (k0_t10_loop i).trips) (v381 : IVec S16 32) (k0_hw129 : k0_chk129 i k0_t10 v381), ∀ a x, ((![v381] : Fin 1 → IVec S16 32) a x).toNat < S67584.size a := fun i k0_t10 v381 k0_hw129 => k0_hw129

def k0_chk130 (i : grid0.Coords) (k0_t10 : Fin (k0_t10_loop i).trips) (v386 : IVec S16 32) : Prop :=
  (∀ a x, ((![v386] : Fin 1 → IVec S16 32) a x).toNat < S67584.size a)
theorem k0_idx130_inb : ∀ (i : grid0.Coords) (k0_t10 : Fin (k0_t10_loop i).trips) (v386 : IVec S16 32) (k0_hw130 : k0_chk130 i k0_t10 v386), ∀ a x, ((![v386] : Fin 1 → IVec S16 32) a x).toNat < S67584.size a := fun i k0_t10 v386 k0_hw130 => k0_hw130

def k0_chk131 (i : grid0.Coords) (k0_t10 : Fin (k0_t10_loop i).trips) (v391 : IVec S16 32) : Prop :=
  (∀ a x, ((![v391] : Fin 1 → IVec S16 32) a x).toNat < S67584.size a)
theorem k0_idx131_inb : ∀ (i : grid0.Coords) (k0_t10 : Fin (k0_t10_loop i).trips) (v391 : IVec S16 32) (k0_hw131 : k0_chk131 i k0_t10 v391), ∀ a x, ((![v391] : Fin 1 → IVec S16 32) a x).toNat < S67584.size a := fun i k0_t10 v391 k0_hw131 => k0_hw131

def k0_chk132 (i : grid0.Coords) (k0_t10 : Fin (k0_t10_loop i).trips) (v396 : IVec S16 32) : Prop :=
  (∀ a x, ((![v396] : Fin 1 → IVec S16 32) a x).toNat < S67584.size a)
theorem k0_idx132_inb : ∀ (i : grid0.Coords) (k0_t10 : Fin (k0_t10_loop i).trips) (v396 : IVec S16 32) (k0_hw132 : k0_chk132 i k0_t10 v396), ∀ a x, ((![v396] : Fin 1 → IVec S16 32) a x).toNat < S67584.size a := fun i k0_t10 v396 k0_hw132 => k0_hw132
@[reducible] def k0_t13_loop (i : grid0.Coords) : Scf.Loop 32 :=
  let c0_i32_28 : BitVec 32 := 0#32
  let c6_i32_15 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let v58 : BitVec 32 := Scalar.subi v42 c0_i32_28
  let c1_i32_30 : BitVec 32 := 1#32
  let v60 : BitVec 32 := Scalar.divsi v58 c1_i32_30
  let v61 : BitVec 32 := Scalar.muli v60 c1_i32_30
  let v62 : BitVec 32 := Scalar.addi c0_i32_28 v61
  let c1_i32_31 : BitVec 32 := 1#32
  ⟨c0_i32_28, v62, c1_i32_31⟩
@[reducible] def k0_t14_loop : Scf.Loop 32 :=
  let c0_i32_49 : BitVec 32 := 0#32
  let c8_i32 : BitVec 32 := 8#32
  let v82 : BitVec 32 := Scalar.addi c0_i32_49 c8_i32
  let c1_i32_50 : BitVec 32 := 1#32
  ⟨c0_i32_49, v82, c1_i32_50⟩
def k0_off15 (i : grid0.Coords) (k0_t13 : Fin (k0_t13_loop i).trips) (k0_t14 : Fin k0_t14_loop.trips) (c0_i32_54 : BitVec 32) : Fin 1 → Nat :=
  let c0_i32_28 : BitVec 32 := 0#32
  let c1_i32_31 : BitVec 32 := 1#32
  let arg12 : BitVec 32 := Scf.iv c0_i32_28 c1_i32_31 k0_t13
  let c128_i32 : BitVec 32 := 128#32
  let v84 : BitVec 32 := Scalar.muli arg12 c128_i32
  let c0_i32_49 : BitVec 32 := 0#32
  let c1_i32_50 : BitVec 32 := 1#32
  let arg14 : BitVec 32 := Scf.iv c0_i32_49 c1_i32_50 k0_t14
  let c16_i32_53 : BitVec 32 := 16#32
  let v85 : BitVec 32 := Scalar.muli arg14 c16_i32_53
  let v86 : BitVec 32 := Scalar.addi v84 v85
  let v87 : BitVec 32 := Scalar.addi c0_i32_54 v86
  let v88 : Index := Scalar.indexCast v87
  ![v88.toNat]
@[reducible] def k0_t15_loop (i : grid0.Coords) : Scf.Loop 32 :=
  let c0_i32_28 : BitVec 32 := 0#32
  let c6_i32_15 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let v58 : BitVec 32 := Scalar.subi v42 c0_i32_28
  let c1_i32_30 : BitVec 32 := 1#32
  let v60 : BitVec 32 := Scalar.divsi v58 c1_i32_30
  let v61 : BitVec 32 := Scalar.muli v60 c1_i32_30
  let v62 : BitVec 32 := Scalar.addi c0_i32_28 v61
  let v59 : BitVec 32 := Scalar.addi c0_i32_28 v58
  let c1_i32_32 : BitVec 32 := 1#32
  ⟨v62, v59, c1_i32_32⟩
@[reducible] def k0_t16_loop : Scf.Loop 32 :=
  let c0_i32_49 : BitVec 32 := 0#32
  let c8_i32 : BitVec 32 := 8#32
  let v82 : BitVec 32 := Scalar.addi c0_i32_49 c8_i32
  let c1_i32_50 : BitVec 32 := 1#32
  ⟨c0_i32_49, v82, c1_i32_50⟩
def k0_off16 (i : grid0.Coords) (k0_t15 : Fin (k0_t15_loop i).trips) (k0_t16 : Fin k0_t16_loop.trips) (c0_i32_54 : BitVec 32) : Fin 1 → Nat :=
  let c0_i32_28 : BitVec 32 := 0#32
  let c6_i32_15 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let v58 : BitVec 32 := Scalar.subi v42 c0_i32_28
  let c1_i32_30 : BitVec 32 := 1#32
  let v60 : BitVec 32 := Scalar.divsi v58 c1_i32_30
  let v61 : BitVec 32 := Scalar.muli v60 c1_i32_30
  let v62 : BitVec 32 := Scalar.addi c0_i32_28 v61
  let c1_i32_32 : BitVec 32 := 1#32
  let arg12 : BitVec 32 := Scf.iv v62 c1_i32_32 k0_t15
  let c128_i32 : BitVec 32 := 128#32
  let v84 : BitVec 32 := Scalar.muli arg12 c128_i32
  let c0_i32_49 : BitVec 32 := 0#32
  let c1_i32_50 : BitVec 32 := 1#32
  let arg14 : BitVec 32 := Scf.iv c0_i32_49 c1_i32_50 k0_t16
  let c16_i32_53 : BitVec 32 := 16#32
  let v85 : BitVec 32 := Scalar.muli arg14 c16_i32_53
  let v86 : BitVec 32 := Scalar.addi v84 v85
  let v87 : BitVec 32 := Scalar.addi c0_i32_54 v86
  let v88 : Index := Scalar.indexCast v87
  ![v88.toNat]
@[reducible] def k0_t17_loop (i : grid0.Coords) : Scf.Loop 32 :=
  let c0_i32_34 : BitVec 32 := 0#32
  let c6_i32_15 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let v65 : BitVec 32 := Scalar.subi v42 c0_i32_34
  let c1_i32_36 : BitVec 32 := 1#32
  let v67 : BitVec 32 := Scalar.divsi v65 c1_i32_36
  let v68 : BitVec 32 := Scalar.muli v67 c1_i32_36
  let v69 : BitVec 32 := Scalar.addi c0_i32_34 v68
  let c1_i32_37 : BitVec 32 := 1#32
  ⟨c0_i32_34, v69, c1_i32_37⟩
def k0_off17 (i : grid0.Coords) (k0_t17 : Fin (k0_t17_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c0_i32_34 : BitVec 32 := 0#32
  let c1_i32_37 : BitVec 32 := 1#32
  let arg12 : BitVec 32 := Scf.iv c0_i32_34 c1_i32_37 k0_t17
  let v82 : BitVec 32 := Scalar.addi v2 arg12
  let c16_i32_48 : BitVec 32 := 16#32
  let c0_i32_49 : BitVec 32 := 0#32
  let v83 : BitVec 1 := Scalar.cmpi .eq c16_i32_48 c0_i32_49
  let c1_i32_50 : BitVec 32 := 1#32
  let v84 : BitVec 32 := Scalar.select v83 c1_i32_50 c16_i32_48
  let v85 : BitVec 32 := Scalar.remsi v82 v84
  let c0_i32_52 : BitVec 32 := 0#32
  let v87 : BitVec 1 := Scalar.cmpi .slt v85 c0_i32_52
  let c0_i32_53 : BitVec 32 := 0#32
  let v88 : BitVec 1 := Scalar.cmpi .slt v84 c0_i32_53
  let v89 : BitVec 1 := Scalar.xori v87 v88
  let c0_i32_51 : BitVec 32 := 0#32
  let v86 : BitVec 1 := Scalar.cmpi .ne v85 c0_i32_51
  let v90 : BitVec 1 := Scalar.andi v89 v86
  let v91 : BitVec 32 := Scalar.addi v85 v84
  let v92 : BitVec 32 := Scalar.select v90 v91 v85
  let c2176_i32 : BitVec 32 := 2176#32
  let v93 : BitVec 32 := Scalar.muli v92 c2176_i32
  ![v19.toNat, v93.toNat]
@[reducible] def k0_t18_loop : Scf.Loop 32 :=
  let c0_i32_55 : BitVec 32 := 0#32
  let c8_i32 : BitVec 32 := 8#32
  let v94 : BitVec 32 := Scalar.addi c0_i32_55 c8_i32
  let c1_i32_56 : BitVec 32 := 1#32
  ⟨c0_i32_55, v94, c1_i32_56⟩

def k0_chk133 (v103 : IVec S16 32) : Prop :=
  (∀ a x, ((![v103] : Fin 1 → IVec S16 32) a x).toNat < S2176.size a)
theorem k0_idx133_inb : ∀ (v103 : IVec S16 32) (k0_hw133 : k0_chk133 v103), ∀ a x, ((![v103] : Fin 1 → IVec S16 32) a x).toNat < S2176.size a := fun v103 k0_hw133 => k0_hw133

def k0_chk134 (v110 : IVec S16 32) : Prop :=
  (∀ a x, ((![v110] : Fin 1 → IVec S16 32) a x).toNat < S2176.size a)
theorem k0_idx134_inb : ∀ (v110 : IVec S16 32) (k0_hw134 : k0_chk134 v110), ∀ a x, ((![v110] : Fin 1 → IVec S16 32) a x).toNat < S2176.size a := fun v110 k0_hw134 => k0_hw134

def k0_chk135 (v117 : IVec S16 32) : Prop :=
  (∀ a x, ((![v117] : Fin 1 → IVec S16 32) a x).toNat < S2176.size a)
theorem k0_idx135_inb : ∀ (v117 : IVec S16 32) (k0_hw135 : k0_chk135 v117), ∀ a x, ((![v117] : Fin 1 → IVec S16 32) a x).toNat < S2176.size a := fun v117 k0_hw135 => k0_hw135

def k0_chk136 (v124 : IVec S16 32) : Prop :=
  (∀ a x, ((![v124] : Fin 1 → IVec S16 32) a x).toNat < S2176.size a)
theorem k0_idx136_inb : ∀ (v124 : IVec S16 32) (k0_hw136 : k0_chk136 v124), ∀ a x, ((![v124] : Fin 1 → IVec S16 32) a x).toNat < S2176.size a := fun v124 k0_hw136 => k0_hw136

def k0_chk137 (v131 : IVec S16 32) : Prop :=
  (∀ a x, ((![v131] : Fin 1 → IVec S16 32) a x).toNat < S2176.size a)
theorem k0_idx137_inb : ∀ (v131 : IVec S16 32) (k0_hw137 : k0_chk137 v131), ∀ a x, ((![v131] : Fin 1 → IVec S16 32) a x).toNat < S2176.size a := fun v131 k0_hw137 => k0_hw137

def k0_chk138 (v138 : IVec S16 32) : Prop :=
  (∀ a x, ((![v138] : Fin 1 → IVec S16 32) a x).toNat < S2176.size a)
theorem k0_idx138_inb : ∀ (v138 : IVec S16 32) (k0_hw138 : k0_chk138 v138), ∀ a x, ((![v138] : Fin 1 → IVec S16 32) a x).toNat < S2176.size a := fun v138 k0_hw138 => k0_hw138

def k0_chk139 (v145 : IVec S16 32) : Prop :=
  (∀ a x, ((![v145] : Fin 1 → IVec S16 32) a x).toNat < S2176.size a)
theorem k0_idx139_inb : ∀ (v145 : IVec S16 32) (k0_hw139 : k0_chk139 v145), ∀ a x, ((![v145] : Fin 1 → IVec S16 32) a x).toNat < S2176.size a := fun v145 k0_hw139 => k0_hw139

def k0_chk140 (v152 : IVec S16 32) : Prop :=
  (∀ a x, ((![v152] : Fin 1 → IVec S16 32) a x).toNat < S2176.size a)
theorem k0_idx140_inb : ∀ (v152 : IVec S16 32) (k0_hw140 : k0_chk140 v152), ∀ a x, ((![v152] : Fin 1 → IVec S16 32) a x).toNat < S2176.size a := fun v152 k0_hw140 => k0_hw140

def k0_chk141 (v159 : IVec S16 32) : Prop :=
  (∀ a x, ((![v159] : Fin 1 → IVec S16 32) a x).toNat < S2176.size a)
theorem k0_idx141_inb : ∀ (v159 : IVec S16 32) (k0_hw141 : k0_chk141 v159), ∀ a x, ((![v159] : Fin 1 → IVec S16 32) a x).toNat < S2176.size a := fun v159 k0_hw141 => k0_hw141

def k0_chk142 (v166 : IVec S16 32) : Prop :=
  (∀ a x, ((![v166] : Fin 1 → IVec S16 32) a x).toNat < S2176.size a)
theorem k0_idx142_inb : ∀ (v166 : IVec S16 32) (k0_hw142 : k0_chk142 v166), ∀ a x, ((![v166] : Fin 1 → IVec S16 32) a x).toNat < S2176.size a := fun v166 k0_hw142 => k0_hw142

def k0_chk143 (v173 : IVec S16 32) : Prop :=
  (∀ a x, ((![v173] : Fin 1 → IVec S16 32) a x).toNat < S2176.size a)
theorem k0_idx143_inb : ∀ (v173 : IVec S16 32) (k0_hw143 : k0_chk143 v173), ∀ a x, ((![v173] : Fin 1 → IVec S16 32) a x).toNat < S2176.size a := fun v173 k0_hw143 => k0_hw143

def k0_chk144 (v180 : IVec S16 32) : Prop :=
  (∀ a x, ((![v180] : Fin 1 → IVec S16 32) a x).toNat < S2176.size a)
theorem k0_idx144_inb : ∀ (v180 : IVec S16 32) (k0_hw144 : k0_chk144 v180), ∀ a x, ((![v180] : Fin 1 → IVec S16 32) a x).toNat < S2176.size a := fun v180 k0_hw144 => k0_hw144

def k0_chk145 (v187 : IVec S16 32) : Prop :=
  (∀ a x, ((![v187] : Fin 1 → IVec S16 32) a x).toNat < S2176.size a)
theorem k0_idx145_inb : ∀ (v187 : IVec S16 32) (k0_hw145 : k0_chk145 v187), ∀ a x, ((![v187] : Fin 1 → IVec S16 32) a x).toNat < S2176.size a := fun v187 k0_hw145 => k0_hw145

def k0_chk146 (v194 : IVec S16 32) : Prop :=
  (∀ a x, ((![v194] : Fin 1 → IVec S16 32) a x).toNat < S2176.size a)
theorem k0_idx146_inb : ∀ (v194 : IVec S16 32) (k0_hw146 : k0_chk146 v194), ∀ a x, ((![v194] : Fin 1 → IVec S16 32) a x).toNat < S2176.size a := fun v194 k0_hw146 => k0_hw146

def k0_chk147 (v201 : IVec S16 32) : Prop :=
  (∀ a x, ((![v201] : Fin 1 → IVec S16 32) a x).toNat < S2176.size a)
theorem k0_idx147_inb : ∀ (v201 : IVec S16 32) (k0_hw147 : k0_chk147 v201), ∀ a x, ((![v201] : Fin 1 → IVec S16 32) a x).toNat < S2176.size a := fun v201 k0_hw147 => k0_hw147

def k0_chk148 (v208 : IVec S16 32) : Prop :=
  (∀ a x, ((![v208] : Fin 1 → IVec S16 32) a x).toNat < S2176.size a)
theorem k0_idx148_inb : ∀ (v208 : IVec S16 32) (k0_hw148 : k0_chk148 v208), ∀ a x, ((![v208] : Fin 1 → IVec S16 32) a x).toNat < S2176.size a := fun v208 k0_hw148 => k0_hw148
def k0_off18 (i : grid0.Coords) (k0_t17 : Fin (k0_t17_loop i).trips) (k0_t18 : Fin k0_t18_loop.trips) (c0_i32_97 : BitVec 32) : Fin 1 → Nat :=
  let c0_i32_34 : BitVec 32 := 0#32
  let c1_i32_37 : BitVec 32 := 1#32
  let arg12 : BitVec 32 := Scf.iv c0_i32_34 c1_i32_37 k0_t17
  let c128_i32 : BitVec 32 := 128#32
  let v212 : BitVec 32 := Scalar.muli arg12 c128_i32
  let c0_i32_55 : BitVec 32 := 0#32
  let c1_i32_56 : BitVec 32 := 1#32
  let arg14 : BitVec 32 := Scf.iv c0_i32_55 c1_i32_56 k0_t18
  let c16_i32_96 : BitVec 32 := 16#32
  let v213 : BitVec 32 := Scalar.muli arg14 c16_i32_96
  let v214 : BitVec 32 := Scalar.addi v212 v213
  let v215 : BitVec 32 := Scalar.addi c0_i32_97 v214
  let v216 : Index := Scalar.indexCast v215
  ![v216.toNat]
@[reducible] def k0_t19_loop : Scf.Loop 32 :=
  let c0_i32_100 : BitVec 32 := 0#32
  let c32_i32 : BitVec 32 := 32#32
  let v265 : BitVec 32 := Scalar.addi c0_i32_100 c32_i32
  let c1_i32_101 : BitVec 32 := 1#32
  ⟨c0_i32_100, v265, c1_i32_101⟩

def k0_chk149 (v268 : IVec S16 32) : Prop :=
  (∀ a x, ((![v268] : Fin 1 → IVec S16 32) a x).toNat < S67584.size a)
theorem k0_idx149_inb : ∀ (v268 : IVec S16 32) (k0_hw149 : k0_chk149 v268), ∀ a x, ((![v268] : Fin 1 → IVec S16 32) a x).toNat < S67584.size a := fun v268 k0_hw149 => k0_hw149

def k0_chk150 (v272 : IVec S16 32) : Prop :=
  (∀ a x, ((![v272] : Fin 1 → IVec S16 32) a x).toNat < S67584.size a)
theorem k0_idx150_inb : ∀ (v272 : IVec S16 32) (k0_hw150 : k0_chk150 v272), ∀ a x, ((![v272] : Fin 1 → IVec S16 32) a x).toNat < S67584.size a := fun v272 k0_hw150 => k0_hw150

def k0_chk151 (v277 : IVec S16 32) : Prop :=
  (∀ a x, ((![v277] : Fin 1 → IVec S16 32) a x).toNat < S67584.size a)
theorem k0_idx151_inb : ∀ (v277 : IVec S16 32) (k0_hw151 : k0_chk151 v277), ∀ a x, ((![v277] : Fin 1 → IVec S16 32) a x).toNat < S67584.size a := fun v277 k0_hw151 => k0_hw151

def k0_chk152 (v282 : IVec S16 32) : Prop :=
  (∀ a x, ((![v282] : Fin 1 → IVec S16 32) a x).toNat < S67584.size a)
theorem k0_idx152_inb : ∀ (v282 : IVec S16 32) (k0_hw152 : k0_chk152 v282), ∀ a x, ((![v282] : Fin 1 → IVec S16 32) a x).toNat < S67584.size a := fun v282 k0_hw152 => k0_hw152

def k0_chk153 (v287 : IVec S16 32) : Prop :=
  (∀ a x, ((![v287] : Fin 1 → IVec S16 32) a x).toNat < S67584.size a)
theorem k0_idx153_inb : ∀ (v287 : IVec S16 32) (k0_hw153 : k0_chk153 v287), ∀ a x, ((![v287] : Fin 1 → IVec S16 32) a x).toNat < S67584.size a := fun v287 k0_hw153 => k0_hw153

def k0_chk154 (v292 : IVec S16 32) : Prop :=
  (∀ a x, ((![v292] : Fin 1 → IVec S16 32) a x).toNat < S67584.size a)
theorem k0_idx154_inb : ∀ (v292 : IVec S16 32) (k0_hw154 : k0_chk154 v292), ∀ a x, ((![v292] : Fin 1 → IVec S16 32) a x).toNat < S67584.size a := fun v292 k0_hw154 => k0_hw154

def k0_chk155 (v297 : IVec S16 32) : Prop :=
  (∀ a x, ((![v297] : Fin 1 → IVec S16 32) a x).toNat < S67584.size a)
theorem k0_idx155_inb : ∀ (v297 : IVec S16 32) (k0_hw155 : k0_chk155 v297), ∀ a x, ((![v297] : Fin 1 → IVec S16 32) a x).toNat < S67584.size a := fun v297 k0_hw155 => k0_hw155

def k0_chk156 (v302 : IVec S16 32) : Prop :=
  (∀ a x, ((![v302] : Fin 1 → IVec S16 32) a x).toNat < S67584.size a)
theorem k0_idx156_inb : ∀ (v302 : IVec S16 32) (k0_hw156 : k0_chk156 v302), ∀ a x, ((![v302] : Fin 1 → IVec S16 32) a x).toNat < S67584.size a := fun v302 k0_hw156 => k0_hw156

def k0_chk157 (v307 : IVec S16 32) : Prop :=
  (∀ a x, ((![v307] : Fin 1 → IVec S16 32) a x).toNat < S67584.size a)
theorem k0_idx157_inb : ∀ (v307 : IVec S16 32) (k0_hw157 : k0_chk157 v307), ∀ a x, ((![v307] : Fin 1 → IVec S16 32) a x).toNat < S67584.size a := fun v307 k0_hw157 => k0_hw157

def k0_chk158 (v312 : IVec S16 32) : Prop :=
  (∀ a x, ((![v312] : Fin 1 → IVec S16 32) a x).toNat < S67584.size a)
theorem k0_idx158_inb : ∀ (v312 : IVec S16 32) (k0_hw158 : k0_chk158 v312), ∀ a x, ((![v312] : Fin 1 → IVec S16 32) a x).toNat < S67584.size a := fun v312 k0_hw158 => k0_hw158

def k0_chk159 (v317 : IVec S16 32) : Prop :=
  (∀ a x, ((![v317] : Fin 1 → IVec S16 32) a x).toNat < S67584.size a)
theorem k0_idx159_inb : ∀ (v317 : IVec S16 32) (k0_hw159 : k0_chk159 v317), ∀ a x, ((![v317] : Fin 1 → IVec S16 32) a x).toNat < S67584.size a := fun v317 k0_hw159 => k0_hw159

def k0_chk160 (v322 : IVec S16 32) : Prop :=
  (∀ a x, ((![v322] : Fin 1 → IVec S16 32) a x).toNat < S67584.size a)
theorem k0_idx160_inb : ∀ (v322 : IVec S16 32) (k0_hw160 : k0_chk160 v322), ∀ a x, ((![v322] : Fin 1 → IVec S16 32) a x).toNat < S67584.size a := fun v322 k0_hw160 => k0_hw160

def k0_chk161 (v327 : IVec S16 32) : Prop :=
  (∀ a x, ((![v327] : Fin 1 → IVec S16 32) a x).toNat < S67584.size a)
theorem k0_idx161_inb : ∀ (v327 : IVec S16 32) (k0_hw161 : k0_chk161 v327), ∀ a x, ((![v327] : Fin 1 → IVec S16 32) a x).toNat < S67584.size a := fun v327 k0_hw161 => k0_hw161

def k0_chk162 (v332 : IVec S16 32) : Prop :=
  (∀ a x, ((![v332] : Fin 1 → IVec S16 32) a x).toNat < S67584.size a)
theorem k0_idx162_inb : ∀ (v332 : IVec S16 32) (k0_hw162 : k0_chk162 v332), ∀ a x, ((![v332] : Fin 1 → IVec S16 32) a x).toNat < S67584.size a := fun v332 k0_hw162 => k0_hw162

def k0_chk163 (v337 : IVec S16 32) : Prop :=
  (∀ a x, ((![v337] : Fin 1 → IVec S16 32) a x).toNat < S67584.size a)
theorem k0_idx163_inb : ∀ (v337 : IVec S16 32) (k0_hw163 : k0_chk163 v337), ∀ a x, ((![v337] : Fin 1 → IVec S16 32) a x).toNat < S67584.size a := fun v337 k0_hw163 => k0_hw163

def k0_chk164 (v342 : IVec S16 32) : Prop :=
  (∀ a x, ((![v342] : Fin 1 → IVec S16 32) a x).toNat < S67584.size a)
theorem k0_idx164_inb : ∀ (v342 : IVec S16 32) (k0_hw164 : k0_chk164 v342), ∀ a x, ((![v342] : Fin 1 → IVec S16 32) a x).toNat < S67584.size a := fun v342 k0_hw164 => k0_hw164

def k0_chk165 (v347 : IVec S16 32) : Prop :=
  (∀ a x, ((![v347] : Fin 1 → IVec S16 32) a x).toNat < S4224.size a)
theorem k0_idx165_inb : ∀ (v347 : IVec S16 32) (k0_hw165 : k0_chk165 v347), ∀ a x, ((![v347] : Fin 1 → IVec S16 32) a x).toNat < S4224.size a := fun v347 k0_hw165 => k0_hw165
def k0_off19 (i : grid0.Coords) (k0_t17 : Fin (k0_t17_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c0_i32_58 : BitVec 32 := 0#32
  let c0_i32_34 : BitVec 32 := 0#32
  let c1_i32_37 : BitVec 32 := 1#32
  let arg12 : BitVec 32 := Scf.iv c0_i32_34 c1_i32_37 k0_t17
  let v82 : BitVec 32 := Scalar.addi v2 arg12
  let c16_i32_48 : BitVec 32 := 16#32
  let c0_i32_49 : BitVec 32 := 0#32
  let v83 : BitVec 1 := Scalar.cmpi .eq c16_i32_48 c0_i32_49
  let c1_i32_50 : BitVec 32 := 1#32
  let v84 : BitVec 32 := Scalar.select v83 c1_i32_50 c16_i32_48
  let v85 : BitVec 32 := Scalar.remsi v82 v84
  let c0_i32_52 : BitVec 32 := 0#32
  let v87 : BitVec 1 := Scalar.cmpi .slt v85 c0_i32_52
  let c0_i32_53 : BitVec 32 := 0#32
  let v88 : BitVec 1 := Scalar.cmpi .slt v84 c0_i32_53
  let v89 : BitVec 1 := Scalar.xori v87 v88
  let c0_i32_51 : BitVec 32 := 0#32
  let v86 : BitVec 1 := Scalar.cmpi .ne v85 c0_i32_51
  let v90 : BitVec 1 := Scalar.andi v89 v86
  let v91 : BitVec 32 := Scalar.addi v85 v84
  let v92 : BitVec 32 := Scalar.select v90 v91 v85
  let c4224_i32 : BitVec 32 := 4224#32
  let v96 : BitVec 32 := Scalar.muli v92 c4224_i32
  ![v19.toNat, 0, v96.toNat]
@[reducible] def k0_t20_loop (i : grid0.Coords) : Scf.Loop 32 :=
  let c0_i32_34 : BitVec 32 := 0#32
  let c6_i32_15 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let v65 : BitVec 32 := Scalar.subi v42 c0_i32_34
  let c1_i32_36 : BitVec 32 := 1#32
  let v67 : BitVec 32 := Scalar.divsi v65 c1_i32_36
  let v68 : BitVec 32 := Scalar.muli v67 c1_i32_36
  let v69 : BitVec 32 := Scalar.addi c0_i32_34 v68
  let v66 : BitVec 32 := Scalar.addi c0_i32_34 v65
  let c1_i32_38 : BitVec 32 := 1#32
  ⟨v69, v66, c1_i32_38⟩
def k0_off20 (i : grid0.Coords) (k0_t20 : Fin (k0_t20_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c0_i32_34 : BitVec 32 := 0#32
  let c6_i32_15 : BitVec 32 := 6#32
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let v65 : BitVec 32 := Scalar.subi v42 c0_i32_34
  let c1_i32_36 : BitVec 32 := 1#32
  let v67 : BitVec 32 := Scalar.divsi v65 c1_i32_36
  let v68 : BitVec 32 := Scalar.muli v67 c1_i32_36
  let v69 : BitVec 32 := Scalar.addi c0_i32_34 v68
  let c1_i32_38 : BitVec 32 := 1#32
  let arg12 : BitVec 32 := Scf.iv v69 c1_i32_38 k0_t20
  let v82 : BitVec 32 := Scalar.addi v2 arg12
  let c16_i32_48 : BitVec 32 := 16#32
  let c0_i32_49 : BitVec 32 := 0#32
  let v83 : BitVec 1 := Scalar.cmpi .eq c16_i32_48 c0_i32_49
  let c1_i32_50 : BitVec 32 := 1#32
  let v84 : BitVec 32 := Scalar.select v83 c1_i32_50 c16_i32_48
  let v85 : BitVec 32 := Scalar.remsi v82 v84
  let c0_i32_52 : BitVec 32 := 0#32
  let v87 : BitVec 1 := Scalar.cmpi .slt v85 c0_i32_52
  let c0_i32_53 : BitVec 32 := 0#32
  let v88 : BitVec 1 := Scalar.cmpi .slt v84 c0_i32_53
  let v89 : BitVec 1 := Scalar.xori v87 v88
  let c0_i32_51 : BitVec 32 := 0#32
  let v86 : BitVec 1 := Scalar.cmpi .ne v85 c0_i32_51
  let v90 : BitVec 1 := Scalar.andi v89 v86
  let v91 : BitVec 32 := Scalar.addi v85 v84
  let v92 : BitVec 32 := Scalar.select v90 v91 v85
  let c2176_i32 : BitVec 32 := 2176#32
  let v93 : BitVec 32 := Scalar.muli v92 c2176_i32
  ![v19.toNat, v93.toNat]
@[reducible] def k0_t21_loop : Scf.Loop 32 :=
  let c0_i32_55 : BitVec 32 := 0#32
  let c8_i32 : BitVec 32 := 8#32
  let v94 : BitVec 32 := Scalar.addi c0_i32_55 c8_i32
  let c1_i32_56 : BitVec 32 := 1#32
  ⟨c0_i32_55, v94, c1_i32_56⟩

def k0_chk166 (i : grid0.Coords) (k0_t20 : Fin (k0_t20_loop i).trips) (v103 : IVec S16 32) : Prop :=
  (∀ a x, ((![v103] : Fin 1 → IVec S16 32) a x).toNat < S2176.size a)
theorem k0_idx166_inb : ∀ (i : grid0.Coords) (k0_t20 : Fin (k0_t20_loop i).trips) (v103 : IVec S16 32) (k0_hw166 : k0_chk166 i k0_t20 v103), ∀ a x, ((![v103] : Fin 1 → IVec S16 32) a x).toNat < S2176.size a := fun i k0_t20 v103 k0_hw166 => k0_hw166

def k0_chk167 (i : grid0.Coords) (k0_t20 : Fin (k0_t20_loop i).trips) (v110 : IVec S16 32) : Prop :=
  (∀ a x, ((![v110] : Fin 1 → IVec S16 32) a x).toNat < S2176.size a)
theorem k0_idx167_inb : ∀ (i : grid0.Coords) (k0_t20 : Fin (k0_t20_loop i).trips) (v110 : IVec S16 32) (k0_hw167 : k0_chk167 i k0_t20 v110), ∀ a x, ((![v110] : Fin 1 → IVec S16 32) a x).toNat < S2176.size a := fun i k0_t20 v110 k0_hw167 => k0_hw167

def k0_chk168 (i : grid0.Coords) (k0_t20 : Fin (k0_t20_loop i).trips) (v117 : IVec S16 32) : Prop :=
  (∀ a x, ((![v117] : Fin 1 → IVec S16 32) a x).toNat < S2176.size a)
theorem k0_idx168_inb : ∀ (i : grid0.Coords) (k0_t20 : Fin (k0_t20_loop i).trips) (v117 : IVec S16 32) (k0_hw168 : k0_chk168 i k0_t20 v117), ∀ a x, ((![v117] : Fin 1 → IVec S16 32) a x).toNat < S2176.size a := fun i k0_t20 v117 k0_hw168 => k0_hw168

def k0_chk169 (i : grid0.Coords) (k0_t20 : Fin (k0_t20_loop i).trips) (v124 : IVec S16 32) : Prop :=
  (∀ a x, ((![v124] : Fin 1 → IVec S16 32) a x).toNat < S2176.size a)
theorem k0_idx169_inb : ∀ (i : grid0.Coords) (k0_t20 : Fin (k0_t20_loop i).trips) (v124 : IVec S16 32) (k0_hw169 : k0_chk169 i k0_t20 v124), ∀ a x, ((![v124] : Fin 1 → IVec S16 32) a x).toNat < S2176.size a := fun i k0_t20 v124 k0_hw169 => k0_hw169

def k0_chk170 (i : grid0.Coords) (k0_t20 : Fin (k0_t20_loop i).trips) (v131 : IVec S16 32) : Prop :=
  (∀ a x, ((![v131] : Fin 1 → IVec S16 32) a x).toNat < S2176.size a)
theorem k0_idx170_inb : ∀ (i : grid0.Coords) (k0_t20 : Fin (k0_t20_loop i).trips) (v131 : IVec S16 32) (k0_hw170 : k0_chk170 i k0_t20 v131), ∀ a x, ((![v131] : Fin 1 → IVec S16 32) a x).toNat < S2176.size a := fun i k0_t20 v131 k0_hw170 => k0_hw170

def k0_chk171 (i : grid0.Coords) (k0_t20 : Fin (k0_t20_loop i).trips) (v138 : IVec S16 32) : Prop :=
  (∀ a x, ((![v138] : Fin 1 → IVec S16 32) a x).toNat < S2176.size a)
theorem k0_idx171_inb : ∀ (i : grid0.Coords) (k0_t20 : Fin (k0_t20_loop i).trips) (v138 : IVec S16 32) (k0_hw171 : k0_chk171 i k0_t20 v138), ∀ a x, ((![v138] : Fin 1 → IVec S16 32) a x).toNat < S2176.size a := fun i k0_t20 v138 k0_hw171 => k0_hw171

def k0_chk172 (i : grid0.Coords) (k0_t20 : Fin (k0_t20_loop i).trips) (v145 : IVec S16 32) : Prop :=
  (∀ a x, ((![v145] : Fin 1 → IVec S16 32) a x).toNat < S2176.size a)
theorem k0_idx172_inb : ∀ (i : grid0.Coords) (k0_t20 : Fin (k0_t20_loop i).trips) (v145 : IVec S16 32) (k0_hw172 : k0_chk172 i k0_t20 v145), ∀ a x, ((![v145] : Fin 1 → IVec S16 32) a x).toNat < S2176.size a := fun i k0_t20 v145 k0_hw172 => k0_hw172

def k0_chk173 (i : grid0.Coords) (k0_t20 : Fin (k0_t20_loop i).trips) (v152 : IVec S16 32) : Prop :=
  (∀ a x, ((![v152] : Fin 1 → IVec S16 32) a x).toNat < S2176.size a)
theorem k0_idx173_inb : ∀ (i : grid0.Coords) (k0_t20 : Fin (k0_t20_loop i).trips) (v152 : IVec S16 32) (k0_hw173 : k0_chk173 i k0_t20 v152), ∀ a x, ((![v152] : Fin 1 → IVec S16 32) a x).toNat < S2176.size a := fun i k0_t20 v152 k0_hw173 => k0_hw173

def k0_chk174 (i : grid0.Coords) (k0_t20 : Fin (k0_t20_loop i).trips) (v159 : IVec S16 32) : Prop :=
  (∀ a x, ((![v159] : Fin 1 → IVec S16 32) a x).toNat < S2176.size a)
theorem k0_idx174_inb : ∀ (i : grid0.Coords) (k0_t20 : Fin (k0_t20_loop i).trips) (v159 : IVec S16 32) (k0_hw174 : k0_chk174 i k0_t20 v159), ∀ a x, ((![v159] : Fin 1 → IVec S16 32) a x).toNat < S2176.size a := fun i k0_t20 v159 k0_hw174 => k0_hw174

def k0_chk175 (i : grid0.Coords) (k0_t20 : Fin (k0_t20_loop i).trips) (v166 : IVec S16 32) : Prop :=
  (∀ a x, ((![v166] : Fin 1 → IVec S16 32) a x).toNat < S2176.size a)
theorem k0_idx175_inb : ∀ (i : grid0.Coords) (k0_t20 : Fin (k0_t20_loop i).trips) (v166 : IVec S16 32) (k0_hw175 : k0_chk175 i k0_t20 v166), ∀ a x, ((![v166] : Fin 1 → IVec S16 32) a x).toNat < S2176.size a := fun i k0_t20 v166 k0_hw175 => k0_hw175

def k0_chk176 (i : grid0.Coords) (k0_t20 : Fin (k0_t20_loop i).trips) (v173 : IVec S16 32) : Prop :=
  (∀ a x, ((![v173] : Fin 1 → IVec S16 32) a x).toNat < S2176.size a)
theorem k0_idx176_inb : ∀ (i : grid0.Coords) (k0_t20 : Fin (k0_t20_loop i).trips) (v173 : IVec S16 32) (k0_hw176 : k0_chk176 i k0_t20 v173), ∀ a x, ((![v173] : Fin 1 → IVec S16 32) a x).toNat < S2176.size a := fun i k0_t20 v173 k0_hw176 => k0_hw176

def k0_chk177 (i : grid0.Coords) (k0_t20 : Fin (k0_t20_loop i).trips) (v180 : IVec S16 32) : Prop :=
  (∀ a x, ((![v180] : Fin 1 → IVec S16 32) a x).toNat < S2176.size a)
theorem k0_idx177_inb : ∀ (i : grid0.Coords) (k0_t20 : Fin (k0_t20_loop i).trips) (v180 : IVec S16 32) (k0_hw177 : k0_chk177 i k0_t20 v180), ∀ a x, ((![v180] : Fin 1 → IVec S16 32) a x).toNat < S2176.size a := fun i k0_t20 v180 k0_hw177 => k0_hw177

def k0_chk178 (i : grid0.Coords) (k0_t20 : Fin (k0_t20_loop i).trips) (v187 : IVec S16 32) : Prop :=
  (∀ a x, ((![v187] : Fin 1 → IVec S16 32) a x).toNat < S2176.size a)
theorem k0_idx178_inb : ∀ (i : grid0.Coords) (k0_t20 : Fin (k0_t20_loop i).trips) (v187 : IVec S16 32) (k0_hw178 : k0_chk178 i k0_t20 v187), ∀ a x, ((![v187] : Fin 1 → IVec S16 32) a x).toNat < S2176.size a := fun i k0_t20 v187 k0_hw178 => k0_hw178

def k0_chk179 (i : grid0.Coords) (k0_t20 : Fin (k0_t20_loop i).trips) (v194 : IVec S16 32) : Prop :=
  (∀ a x, ((![v194] : Fin 1 → IVec S16 32) a x).toNat < S2176.size a)
theorem k0_idx179_inb : ∀ (i : grid0.Coords) (k0_t20 : Fin (k0_t20_loop i).trips) (v194 : IVec S16 32) (k0_hw179 : k0_chk179 i k0_t20 v194), ∀ a x, ((![v194] : Fin 1 → IVec S16 32) a x).toNat < S2176.size a := fun i k0_t20 v194 k0_hw179 => k0_hw179

def k0_chk180 (i : grid0.Coords) (k0_t20 : Fin (k0_t20_loop i).trips) (v201 : IVec S16 32) : Prop :=
  (∀ a x, ((![v201] : Fin 1 → IVec S16 32) a x).toNat < S2176.size a)
theorem k0_idx180_inb : ∀ (i : grid0.Coords) (k0_t20 : Fin (k0_t20_loop i).trips) (v201 : IVec S16 32) (k0_hw180 : k0_chk180 i k0_t20 v201), ∀ a x, ((![v201] : Fin 1 → IVec S16 32) a x).toNat < S2176.size a := fun i k0_t20 v201 k0_hw180 => k0_hw180

def k0_chk181 (i : grid0.Coords) (k0_t20 : Fin (k0_t20_loop i).trips) (v208 : IVec S16 32) : Prop :=
  (∀ a x, ((![v208] : Fin 1 → IVec S16 32) a x).toNat < S2176.size a)
theorem k0_idx181_inb : ∀ (i : grid0.Coords) (k0_t20 : Fin (k0_t20_loop i).trips) (v208 : IVec S16 32) (k0_hw181 : k0_chk181 i k0_t20 v208), ∀ a x, ((![v208] : Fin 1 → IVec S16 32) a x).toNat < S2176.size a := fun i k0_t20 v208 k0_hw181 => k0_hw181
def k0_off21 (i : grid0.Coords) (k0_t20 : Fin (k0_t20_loop i).trips) (k0_t21 : Fin k0_t21_loop.trips) (c0_i32_97 : BitVec 32) : Fin 1 → Nat :=
  let c0_i32_34 : BitVec 32 := 0#32
  let c6_i32_15 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let v65 : BitVec 32 := Scalar.subi v42 c0_i32_34
  let c1_i32_36 : BitVec 32 := 1#32
  let v67 : BitVec 32 := Scalar.divsi v65 c1_i32_36
  let v68 : BitVec 32 := Scalar.muli v67 c1_i32_36
  let v69 : BitVec 32 := Scalar.addi c0_i32_34 v68
  let c1_i32_38 : BitVec 32 := 1#32
  let arg12 : BitVec 32 := Scf.iv v69 c1_i32_38 k0_t20
  let c128_i32 : BitVec 32 := 128#32
  let v212 : BitVec 32 := Scalar.muli arg12 c128_i32
  let c0_i32_55 : BitVec 32 := 0#32
  let c1_i32_56 : BitVec 32 := 1#32
  let arg14 : BitVec 32 := Scf.iv c0_i32_55 c1_i32_56 k0_t21
  let c16_i32_96 : BitVec 32 := 16#32
  let v213 : BitVec 32 := Scalar.muli arg14 c16_i32_96
  let v214 : BitVec 32 := Scalar.addi v212 v213
  let v215 : BitVec 32 := Scalar.addi c0_i32_97 v214
  let v216 : Index := Scalar.indexCast v215
  ![v216.toNat]
@[reducible] def k0_t22_loop : Scf.Loop 32 :=
  let c0_i32_100 : BitVec 32 := 0#32
  let c32_i32 : BitVec 32 := 32#32
  let v265 : BitVec 32 := Scalar.addi c0_i32_100 c32_i32
  let c1_i32_101 : BitVec 32 := 1#32
  ⟨c0_i32_100, v265, c1_i32_101⟩

def k0_chk182 (i : grid0.Coords) (k0_t20 : Fin (k0_t20_loop i).trips) (v268 : IVec S16 32) : Prop :=
  (∀ a x, ((![v268] : Fin 1 → IVec S16 32) a x).toNat < S67584.size a)
theorem k0_idx182_inb : ∀ (i : grid0.Coords) (k0_t20 : Fin (k0_t20_loop i).trips) (v268 : IVec S16 32) (k0_hw182 : k0_chk182 i k0_t20 v268), ∀ a x, ((![v268] : Fin 1 → IVec S16 32) a x).toNat < S67584.size a := fun i k0_t20 v268 k0_hw182 => k0_hw182

def k0_chk183 (i : grid0.Coords) (k0_t20 : Fin (k0_t20_loop i).trips) (v272 : IVec S16 32) : Prop :=
  (∀ a x, ((![v272] : Fin 1 → IVec S16 32) a x).toNat < S67584.size a)
theorem k0_idx183_inb : ∀ (i : grid0.Coords) (k0_t20 : Fin (k0_t20_loop i).trips) (v272 : IVec S16 32) (k0_hw183 : k0_chk183 i k0_t20 v272), ∀ a x, ((![v272] : Fin 1 → IVec S16 32) a x).toNat < S67584.size a := fun i k0_t20 v272 k0_hw183 => k0_hw183

def k0_chk184 (i : grid0.Coords) (k0_t20 : Fin (k0_t20_loop i).trips) (v277 : IVec S16 32) : Prop :=
  (∀ a x, ((![v277] : Fin 1 → IVec S16 32) a x).toNat < S67584.size a)
theorem k0_idx184_inb : ∀ (i : grid0.Coords) (k0_t20 : Fin (k0_t20_loop i).trips) (v277 : IVec S16 32) (k0_hw184 : k0_chk184 i k0_t20 v277), ∀ a x, ((![v277] : Fin 1 → IVec S16 32) a x).toNat < S67584.size a := fun i k0_t20 v277 k0_hw184 => k0_hw184

def k0_chk185 (i : grid0.Coords) (k0_t20 : Fin (k0_t20_loop i).trips) (v282 : IVec S16 32) : Prop :=
  (∀ a x, ((![v282] : Fin 1 → IVec S16 32) a x).toNat < S67584.size a)
theorem k0_idx185_inb : ∀ (i : grid0.Coords) (k0_t20 : Fin (k0_t20_loop i).trips) (v282 : IVec S16 32) (k0_hw185 : k0_chk185 i k0_t20 v282), ∀ a x, ((![v282] : Fin 1 → IVec S16 32) a x).toNat < S67584.size a := fun i k0_t20 v282 k0_hw185 => k0_hw185

def k0_chk186 (i : grid0.Coords) (k0_t20 : Fin (k0_t20_loop i).trips) (v287 : IVec S16 32) : Prop :=
  (∀ a x, ((![v287] : Fin 1 → IVec S16 32) a x).toNat < S67584.size a)
theorem k0_idx186_inb : ∀ (i : grid0.Coords) (k0_t20 : Fin (k0_t20_loop i).trips) (v287 : IVec S16 32) (k0_hw186 : k0_chk186 i k0_t20 v287), ∀ a x, ((![v287] : Fin 1 → IVec S16 32) a x).toNat < S67584.size a := fun i k0_t20 v287 k0_hw186 => k0_hw186

def k0_chk187 (i : grid0.Coords) (k0_t20 : Fin (k0_t20_loop i).trips) (v292 : IVec S16 32) : Prop :=
  (∀ a x, ((![v292] : Fin 1 → IVec S16 32) a x).toNat < S67584.size a)
theorem k0_idx187_inb : ∀ (i : grid0.Coords) (k0_t20 : Fin (k0_t20_loop i).trips) (v292 : IVec S16 32) (k0_hw187 : k0_chk187 i k0_t20 v292), ∀ a x, ((![v292] : Fin 1 → IVec S16 32) a x).toNat < S67584.size a := fun i k0_t20 v292 k0_hw187 => k0_hw187

def k0_chk188 (i : grid0.Coords) (k0_t20 : Fin (k0_t20_loop i).trips) (v297 : IVec S16 32) : Prop :=
  (∀ a x, ((![v297] : Fin 1 → IVec S16 32) a x).toNat < S67584.size a)
theorem k0_idx188_inb : ∀ (i : grid0.Coords) (k0_t20 : Fin (k0_t20_loop i).trips) (v297 : IVec S16 32) (k0_hw188 : k0_chk188 i k0_t20 v297), ∀ a x, ((![v297] : Fin 1 → IVec S16 32) a x).toNat < S67584.size a := fun i k0_t20 v297 k0_hw188 => k0_hw188

def k0_chk189 (i : grid0.Coords) (k0_t20 : Fin (k0_t20_loop i).trips) (v302 : IVec S16 32) : Prop :=
  (∀ a x, ((![v302] : Fin 1 → IVec S16 32) a x).toNat < S67584.size a)
theorem k0_idx189_inb : ∀ (i : grid0.Coords) (k0_t20 : Fin (k0_t20_loop i).trips) (v302 : IVec S16 32) (k0_hw189 : k0_chk189 i k0_t20 v302), ∀ a x, ((![v302] : Fin 1 → IVec S16 32) a x).toNat < S67584.size a := fun i k0_t20 v302 k0_hw189 => k0_hw189

def k0_chk190 (i : grid0.Coords) (k0_t20 : Fin (k0_t20_loop i).trips) (v307 : IVec S16 32) : Prop :=
  (∀ a x, ((![v307] : Fin 1 → IVec S16 32) a x).toNat < S67584.size a)
theorem k0_idx190_inb : ∀ (i : grid0.Coords) (k0_t20 : Fin (k0_t20_loop i).trips) (v307 : IVec S16 32) (k0_hw190 : k0_chk190 i k0_t20 v307), ∀ a x, ((![v307] : Fin 1 → IVec S16 32) a x).toNat < S67584.size a := fun i k0_t20 v307 k0_hw190 => k0_hw190

def k0_chk191 (i : grid0.Coords) (k0_t20 : Fin (k0_t20_loop i).trips) (v312 : IVec S16 32) : Prop :=
  (∀ a x, ((![v312] : Fin 1 → IVec S16 32) a x).toNat < S67584.size a)
theorem k0_idx191_inb : ∀ (i : grid0.Coords) (k0_t20 : Fin (k0_t20_loop i).trips) (v312 : IVec S16 32) (k0_hw191 : k0_chk191 i k0_t20 v312), ∀ a x, ((![v312] : Fin 1 → IVec S16 32) a x).toNat < S67584.size a := fun i k0_t20 v312 k0_hw191 => k0_hw191

def k0_chk192 (i : grid0.Coords) (k0_t20 : Fin (k0_t20_loop i).trips) (v317 : IVec S16 32) : Prop :=
  (∀ a x, ((![v317] : Fin 1 → IVec S16 32) a x).toNat < S67584.size a)
theorem k0_idx192_inb : ∀ (i : grid0.Coords) (k0_t20 : Fin (k0_t20_loop i).trips) (v317 : IVec S16 32) (k0_hw192 : k0_chk192 i k0_t20 v317), ∀ a x, ((![v317] : Fin 1 → IVec S16 32) a x).toNat < S67584.size a := fun i k0_t20 v317 k0_hw192 => k0_hw192

def k0_chk193 (i : grid0.Coords) (k0_t20 : Fin (k0_t20_loop i).trips) (v322 : IVec S16 32) : Prop :=
  (∀ a x, ((![v322] : Fin 1 → IVec S16 32) a x).toNat < S67584.size a)
theorem k0_idx193_inb : ∀ (i : grid0.Coords) (k0_t20 : Fin (k0_t20_loop i).trips) (v322 : IVec S16 32) (k0_hw193 : k0_chk193 i k0_t20 v322), ∀ a x, ((![v322] : Fin 1 → IVec S16 32) a x).toNat < S67584.size a := fun i k0_t20 v322 k0_hw193 => k0_hw193

def k0_chk194 (i : grid0.Coords) (k0_t20 : Fin (k0_t20_loop i).trips) (v327 : IVec S16 32) : Prop :=
  (∀ a x, ((![v327] : Fin 1 → IVec S16 32) a x).toNat < S67584.size a)
theorem k0_idx194_inb : ∀ (i : grid0.Coords) (k0_t20 : Fin (k0_t20_loop i).trips) (v327 : IVec S16 32) (k0_hw194 : k0_chk194 i k0_t20 v327), ∀ a x, ((![v327] : Fin 1 → IVec S16 32) a x).toNat < S67584.size a := fun i k0_t20 v327 k0_hw194 => k0_hw194

def k0_chk195 (i : grid0.Coords) (k0_t20 : Fin (k0_t20_loop i).trips) (v332 : IVec S16 32) : Prop :=
  (∀ a x, ((![v332] : Fin 1 → IVec S16 32) a x).toNat < S67584.size a)
theorem k0_idx195_inb : ∀ (i : grid0.Coords) (k0_t20 : Fin (k0_t20_loop i).trips) (v332 : IVec S16 32) (k0_hw195 : k0_chk195 i k0_t20 v332), ∀ a x, ((![v332] : Fin 1 → IVec S16 32) a x).toNat < S67584.size a := fun i k0_t20 v332 k0_hw195 => k0_hw195

def k0_chk196 (i : grid0.Coords) (k0_t20 : Fin (k0_t20_loop i).trips) (v337 : IVec S16 32) : Prop :=
  (∀ a x, ((![v337] : Fin 1 → IVec S16 32) a x).toNat < S67584.size a)
theorem k0_idx196_inb : ∀ (i : grid0.Coords) (k0_t20 : Fin (k0_t20_loop i).trips) (v337 : IVec S16 32) (k0_hw196 : k0_chk196 i k0_t20 v337), ∀ a x, ((![v337] : Fin 1 → IVec S16 32) a x).toNat < S67584.size a := fun i k0_t20 v337 k0_hw196 => k0_hw196

def k0_chk197 (i : grid0.Coords) (k0_t20 : Fin (k0_t20_loop i).trips) (v342 : IVec S16 32) : Prop :=
  (∀ a x, ((![v342] : Fin 1 → IVec S16 32) a x).toNat < S67584.size a)
theorem k0_idx197_inb : ∀ (i : grid0.Coords) (k0_t20 : Fin (k0_t20_loop i).trips) (v342 : IVec S16 32) (k0_hw197 : k0_chk197 i k0_t20 v342), ∀ a x, ((![v342] : Fin 1 → IVec S16 32) a x).toNat < S67584.size a := fun i k0_t20 v342 k0_hw197 => k0_hw197

def k0_chk198 (i : grid0.Coords) (k0_t20 : Fin (k0_t20_loop i).trips) (v347 : IVec S16 32) : Prop :=
  (∀ a x, ((![v347] : Fin 1 → IVec S16 32) a x).toNat < S4224.size a)
theorem k0_idx198_inb : ∀ (i : grid0.Coords) (k0_t20 : Fin (k0_t20_loop i).trips) (v347 : IVec S16 32) (k0_hw198 : k0_chk198 i k0_t20 v347), ∀ a x, ((![v347] : Fin 1 → IVec S16 32) a x).toNat < S4224.size a := fun i k0_t20 v347 k0_hw198 => k0_hw198
def k0_off22 (i : grid0.Coords) (k0_t20 : Fin (k0_t20_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c0_i32_58 : BitVec 32 := 0#32
  let c0_i32_34 : BitVec 32 := 0#32
  let c6_i32_15 : BitVec 32 := 6#32
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let v65 : BitVec 32 := Scalar.subi v42 c0_i32_34
  let c1_i32_36 : BitVec 32 := 1#32
  let v67 : BitVec 32 := Scalar.divsi v65 c1_i32_36
  let v68 : BitVec 32 := Scalar.muli v67 c1_i32_36
  let v69 : BitVec 32 := Scalar.addi c0_i32_34 v68
  let c1_i32_38 : BitVec 32 := 1#32
  let arg12 : BitVec 32 := Scf.iv v69 c1_i32_38 k0_t20
  let v82 : BitVec 32 := Scalar.addi v2 arg12
  let c16_i32_48 : BitVec 32 := 16#32
  let c0_i32_49 : BitVec 32 := 0#32
  let v83 : BitVec 1 := Scalar.cmpi .eq c16_i32_48 c0_i32_49
  let c1_i32_50 : BitVec 32 := 1#32
  let v84 : BitVec 32 := Scalar.select v83 c1_i32_50 c16_i32_48
  let v85 : BitVec 32 := Scalar.remsi v82 v84
  let c0_i32_52 : BitVec 32 := 0#32
  let v87 : BitVec 1 := Scalar.cmpi .slt v85 c0_i32_52
  let c0_i32_53 : BitVec 32 := 0#32
  let v88 : BitVec 1 := Scalar.cmpi .slt v84 c0_i32_53
  let v89 : BitVec 1 := Scalar.xori v87 v88
  let c0_i32_51 : BitVec 32 := 0#32
  let v86 : BitVec 1 := Scalar.cmpi .ne v85 c0_i32_51
  let v90 : BitVec 1 := Scalar.andi v89 v86
  let v91 : BitVec 32 := Scalar.addi v85 v84
  let v92 : BitVec 32 := Scalar.select v90 v91 v85
  let c4224_i32 : BitVec 32 := 4224#32
  let v96 : BitVec 32 := Scalar.muli v92 c4224_i32
  ![v19.toNat, 0, v96.toNat]
@[reducible] def k0_t23_loop (i : grid0.Coords) : Scf.Loop 32 :=
  let c0_i32_40 : BitVec 32 := 0#32
  let c6_i32_15 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let v72 : BitVec 32 := Scalar.subi v42 c0_i32_40
  let c1_i32_42 : BitVec 32 := 1#32
  let v74 : BitVec 32 := Scalar.divsi v72 c1_i32_42
  let v75 : BitVec 32 := Scalar.muli v74 c1_i32_42
  let v76 : BitVec 32 := Scalar.addi c0_i32_40 v75
  let c1_i32_43 : BitVec 32 := 1#32
  ⟨c0_i32_40, v76, c1_i32_43⟩
def k0_off23 (i : grid0.Coords) (k0_t23 : Fin (k0_t23_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c0_i32_40 : BitVec 32 := 0#32
  let c1_i32_43 : BitVec 32 := 1#32
  let arg12 : BitVec 32 := Scf.iv c0_i32_40 c1_i32_43 k0_t23
  let v82 : BitVec 32 := Scalar.addi v2 arg12
  let c16_i32_48 : BitVec 32 := 16#32
  let c0_i32_49 : BitVec 32 := 0#32
  let v83 : BitVec 1 := Scalar.cmpi .eq c16_i32_48 c0_i32_49
  let c1_i32_50 : BitVec 32 := 1#32
  let v84 : BitVec 32 := Scalar.select v83 c1_i32_50 c16_i32_48
  let v85 : BitVec 32 := Scalar.remsi v82 v84
  let c0_i32_52 : BitVec 32 := 0#32
  let v87 : BitVec 1 := Scalar.cmpi .slt v85 c0_i32_52
  let c0_i32_53 : BitVec 32 := 0#32
  let v88 : BitVec 1 := Scalar.cmpi .slt v84 c0_i32_53
  let v89 : BitVec 1 := Scalar.xori v87 v88
  let c0_i32_51 : BitVec 32 := 0#32
  let v86 : BitVec 1 := Scalar.cmpi .ne v85 c0_i32_51
  let v90 : BitVec 1 := Scalar.andi v89 v86
  let v91 : BitVec 32 := Scalar.addi v85 v84
  let v92 : BitVec 32 := Scalar.select v90 v91 v85
  let c2176_i32 : BitVec 32 := 2176#32
  let v93 : BitVec 32 := Scalar.muli v92 c2176_i32
  ![v19.toNat, v93.toNat]
@[reducible] def k0_t24_loop : Scf.Loop 32 :=
  let c0_i32_55 : BitVec 32 := 0#32
  let c8_i32 : BitVec 32 := 8#32
  let v94 : BitVec 32 := Scalar.addi c0_i32_55 c8_i32
  let c1_i32_56 : BitVec 32 := 1#32
  ⟨c0_i32_55, v94, c1_i32_56⟩

def k0_chk199 (v103 : IVec S16 32) : Prop :=
  (∀ a x, ((![v103] : Fin 1 → IVec S16 32) a x).toNat < S2176.size a)
theorem k0_idx199_inb : ∀ (v103 : IVec S16 32) (k0_hw199 : k0_chk199 v103), ∀ a x, ((![v103] : Fin 1 → IVec S16 32) a x).toNat < S2176.size a := fun v103 k0_hw199 => k0_hw199

def k0_chk200 (v110 : IVec S16 32) : Prop :=
  (∀ a x, ((![v110] : Fin 1 → IVec S16 32) a x).toNat < S2176.size a)
theorem k0_idx200_inb : ∀ (v110 : IVec S16 32) (k0_hw200 : k0_chk200 v110), ∀ a x, ((![v110] : Fin 1 → IVec S16 32) a x).toNat < S2176.size a := fun v110 k0_hw200 => k0_hw200

def k0_chk201 (v117 : IVec S16 32) : Prop :=
  (∀ a x, ((![v117] : Fin 1 → IVec S16 32) a x).toNat < S2176.size a)
theorem k0_idx201_inb : ∀ (v117 : IVec S16 32) (k0_hw201 : k0_chk201 v117), ∀ a x, ((![v117] : Fin 1 → IVec S16 32) a x).toNat < S2176.size a := fun v117 k0_hw201 => k0_hw201

def k0_chk202 (v124 : IVec S16 32) : Prop :=
  (∀ a x, ((![v124] : Fin 1 → IVec S16 32) a x).toNat < S2176.size a)
theorem k0_idx202_inb : ∀ (v124 : IVec S16 32) (k0_hw202 : k0_chk202 v124), ∀ a x, ((![v124] : Fin 1 → IVec S16 32) a x).toNat < S2176.size a := fun v124 k0_hw202 => k0_hw202

def k0_chk203 (v131 : IVec S16 32) : Prop :=
  (∀ a x, ((![v131] : Fin 1 → IVec S16 32) a x).toNat < S2176.size a)
theorem k0_idx203_inb : ∀ (v131 : IVec S16 32) (k0_hw203 : k0_chk203 v131), ∀ a x, ((![v131] : Fin 1 → IVec S16 32) a x).toNat < S2176.size a := fun v131 k0_hw203 => k0_hw203

def k0_chk204 (v138 : IVec S16 32) : Prop :=
  (∀ a x, ((![v138] : Fin 1 → IVec S16 32) a x).toNat < S2176.size a)
theorem k0_idx204_inb : ∀ (v138 : IVec S16 32) (k0_hw204 : k0_chk204 v138), ∀ a x, ((![v138] : Fin 1 → IVec S16 32) a x).toNat < S2176.size a := fun v138 k0_hw204 => k0_hw204

def k0_chk205 (v145 : IVec S16 32) : Prop :=
  (∀ a x, ((![v145] : Fin 1 → IVec S16 32) a x).toNat < S2176.size a)
theorem k0_idx205_inb : ∀ (v145 : IVec S16 32) (k0_hw205 : k0_chk205 v145), ∀ a x, ((![v145] : Fin 1 → IVec S16 32) a x).toNat < S2176.size a := fun v145 k0_hw205 => k0_hw205

def k0_chk206 (v152 : IVec S16 32) : Prop :=
  (∀ a x, ((![v152] : Fin 1 → IVec S16 32) a x).toNat < S2176.size a)
theorem k0_idx206_inb : ∀ (v152 : IVec S16 32) (k0_hw206 : k0_chk206 v152), ∀ a x, ((![v152] : Fin 1 → IVec S16 32) a x).toNat < S2176.size a := fun v152 k0_hw206 => k0_hw206

def k0_chk207 (v159 : IVec S16 32) : Prop :=
  (∀ a x, ((![v159] : Fin 1 → IVec S16 32) a x).toNat < S2176.size a)
theorem k0_idx207_inb : ∀ (v159 : IVec S16 32) (k0_hw207 : k0_chk207 v159), ∀ a x, ((![v159] : Fin 1 → IVec S16 32) a x).toNat < S2176.size a := fun v159 k0_hw207 => k0_hw207

def k0_chk208 (v166 : IVec S16 32) : Prop :=
  (∀ a x, ((![v166] : Fin 1 → IVec S16 32) a x).toNat < S2176.size a)
theorem k0_idx208_inb : ∀ (v166 : IVec S16 32) (k0_hw208 : k0_chk208 v166), ∀ a x, ((![v166] : Fin 1 → IVec S16 32) a x).toNat < S2176.size a := fun v166 k0_hw208 => k0_hw208

def k0_chk209 (v173 : IVec S16 32) : Prop :=
  (∀ a x, ((![v173] : Fin 1 → IVec S16 32) a x).toNat < S2176.size a)
theorem k0_idx209_inb : ∀ (v173 : IVec S16 32) (k0_hw209 : k0_chk209 v173), ∀ a x, ((![v173] : Fin 1 → IVec S16 32) a x).toNat < S2176.size a := fun v173 k0_hw209 => k0_hw209

def k0_chk210 (v180 : IVec S16 32) : Prop :=
  (∀ a x, ((![v180] : Fin 1 → IVec S16 32) a x).toNat < S2176.size a)
theorem k0_idx210_inb : ∀ (v180 : IVec S16 32) (k0_hw210 : k0_chk210 v180), ∀ a x, ((![v180] : Fin 1 → IVec S16 32) a x).toNat < S2176.size a := fun v180 k0_hw210 => k0_hw210

def k0_chk211 (v187 : IVec S16 32) : Prop :=
  (∀ a x, ((![v187] : Fin 1 → IVec S16 32) a x).toNat < S2176.size a)
theorem k0_idx211_inb : ∀ (v187 : IVec S16 32) (k0_hw211 : k0_chk211 v187), ∀ a x, ((![v187] : Fin 1 → IVec S16 32) a x).toNat < S2176.size a := fun v187 k0_hw211 => k0_hw211

def k0_chk212 (v194 : IVec S16 32) : Prop :=
  (∀ a x, ((![v194] : Fin 1 → IVec S16 32) a x).toNat < S2176.size a)
theorem k0_idx212_inb : ∀ (v194 : IVec S16 32) (k0_hw212 : k0_chk212 v194), ∀ a x, ((![v194] : Fin 1 → IVec S16 32) a x).toNat < S2176.size a := fun v194 k0_hw212 => k0_hw212

def k0_chk213 (v201 : IVec S16 32) : Prop :=
  (∀ a x, ((![v201] : Fin 1 → IVec S16 32) a x).toNat < S2176.size a)
theorem k0_idx213_inb : ∀ (v201 : IVec S16 32) (k0_hw213 : k0_chk213 v201), ∀ a x, ((![v201] : Fin 1 → IVec S16 32) a x).toNat < S2176.size a := fun v201 k0_hw213 => k0_hw213

def k0_chk214 (v208 : IVec S16 32) : Prop :=
  (∀ a x, ((![v208] : Fin 1 → IVec S16 32) a x).toNat < S2176.size a)
theorem k0_idx214_inb : ∀ (v208 : IVec S16 32) (k0_hw214 : k0_chk214 v208), ∀ a x, ((![v208] : Fin 1 → IVec S16 32) a x).toNat < S2176.size a := fun v208 k0_hw214 => k0_hw214
def k0_off24 (i : grid0.Coords) (k0_t23 : Fin (k0_t23_loop i).trips) (k0_t24 : Fin k0_t24_loop.trips) (c0_i32_97 : BitVec 32) : Fin 1 → Nat :=
  let c0_i32_40 : BitVec 32 := 0#32
  let c1_i32_43 : BitVec 32 := 1#32
  let arg12 : BitVec 32 := Scf.iv c0_i32_40 c1_i32_43 k0_t23
  let c128_i32 : BitVec 32 := 128#32
  let v212 : BitVec 32 := Scalar.muli arg12 c128_i32
  let c0_i32_55 : BitVec 32 := 0#32
  let c1_i32_56 : BitVec 32 := 1#32
  let arg14 : BitVec 32 := Scf.iv c0_i32_55 c1_i32_56 k0_t24
  let c16_i32_96 : BitVec 32 := 16#32
  let v213 : BitVec 32 := Scalar.muli arg14 c16_i32_96
  let v214 : BitVec 32 := Scalar.addi v212 v213
  let v215 : BitVec 32 := Scalar.addi c0_i32_97 v214
  let v216 : Index := Scalar.indexCast v215
  ![v216.toNat]
@[reducible] def k0_t25_loop : Scf.Loop 32 :=
  let c0_i32_100 : BitVec 32 := 0#32
  let c32_i32 : BitVec 32 := 32#32
  let v265 : BitVec 32 := Scalar.addi c0_i32_100 c32_i32
  let c1_i32_101 : BitVec 32 := 1#32
  ⟨c0_i32_100, v265, c1_i32_101⟩

def k0_chk215 (v268 : IVec S16 32) : Prop :=
  (∀ a x, ((![v268] : Fin 1 → IVec S16 32) a x).toNat < S67584.size a)
theorem k0_idx215_inb : ∀ (v268 : IVec S16 32) (k0_hw215 : k0_chk215 v268), ∀ a x, ((![v268] : Fin 1 → IVec S16 32) a x).toNat < S67584.size a := fun v268 k0_hw215 => k0_hw215

def k0_chk216 (v272 : IVec S16 32) : Prop :=
  (∀ a x, ((![v272] : Fin 1 → IVec S16 32) a x).toNat < S67584.size a)
theorem k0_idx216_inb : ∀ (v272 : IVec S16 32) (k0_hw216 : k0_chk216 v272), ∀ a x, ((![v272] : Fin 1 → IVec S16 32) a x).toNat < S67584.size a := fun v272 k0_hw216 => k0_hw216

def k0_chk217 (v277 : IVec S16 32) : Prop :=
  (∀ a x, ((![v277] : Fin 1 → IVec S16 32) a x).toNat < S67584.size a)
theorem k0_idx217_inb : ∀ (v277 : IVec S16 32) (k0_hw217 : k0_chk217 v277), ∀ a x, ((![v277] : Fin 1 → IVec S16 32) a x).toNat < S67584.size a := fun v277 k0_hw217 => k0_hw217

def k0_chk218 (v282 : IVec S16 32) : Prop :=
  (∀ a x, ((![v282] : Fin 1 → IVec S16 32) a x).toNat < S67584.size a)
theorem k0_idx218_inb : ∀ (v282 : IVec S16 32) (k0_hw218 : k0_chk218 v282), ∀ a x, ((![v282] : Fin 1 → IVec S16 32) a x).toNat < S67584.size a := fun v282 k0_hw218 => k0_hw218

def k0_chk219 (v287 : IVec S16 32) : Prop :=
  (∀ a x, ((![v287] : Fin 1 → IVec S16 32) a x).toNat < S67584.size a)
theorem k0_idx219_inb : ∀ (v287 : IVec S16 32) (k0_hw219 : k0_chk219 v287), ∀ a x, ((![v287] : Fin 1 → IVec S16 32) a x).toNat < S67584.size a := fun v287 k0_hw219 => k0_hw219

def k0_chk220 (v292 : IVec S16 32) : Prop :=
  (∀ a x, ((![v292] : Fin 1 → IVec S16 32) a x).toNat < S67584.size a)
theorem k0_idx220_inb : ∀ (v292 : IVec S16 32) (k0_hw220 : k0_chk220 v292), ∀ a x, ((![v292] : Fin 1 → IVec S16 32) a x).toNat < S67584.size a := fun v292 k0_hw220 => k0_hw220

def k0_chk221 (v297 : IVec S16 32) : Prop :=
  (∀ a x, ((![v297] : Fin 1 → IVec S16 32) a x).toNat < S67584.size a)
theorem k0_idx221_inb : ∀ (v297 : IVec S16 32) (k0_hw221 : k0_chk221 v297), ∀ a x, ((![v297] : Fin 1 → IVec S16 32) a x).toNat < S67584.size a := fun v297 k0_hw221 => k0_hw221

def k0_chk222 (v302 : IVec S16 32) : Prop :=
  (∀ a x, ((![v302] : Fin 1 → IVec S16 32) a x).toNat < S67584.size a)
theorem k0_idx222_inb : ∀ (v302 : IVec S16 32) (k0_hw222 : k0_chk222 v302), ∀ a x, ((![v302] : Fin 1 → IVec S16 32) a x).toNat < S67584.size a := fun v302 k0_hw222 => k0_hw222

def k0_chk223 (v307 : IVec S16 32) : Prop :=
  (∀ a x, ((![v307] : Fin 1 → IVec S16 32) a x).toNat < S67584.size a)
theorem k0_idx223_inb : ∀ (v307 : IVec S16 32) (k0_hw223 : k0_chk223 v307), ∀ a x, ((![v307] : Fin 1 → IVec S16 32) a x).toNat < S67584.size a := fun v307 k0_hw223 => k0_hw223

def k0_chk224 (v312 : IVec S16 32) : Prop :=
  (∀ a x, ((![v312] : Fin 1 → IVec S16 32) a x).toNat < S67584.size a)
theorem k0_idx224_inb : ∀ (v312 : IVec S16 32) (k0_hw224 : k0_chk224 v312), ∀ a x, ((![v312] : Fin 1 → IVec S16 32) a x).toNat < S67584.size a := fun v312 k0_hw224 => k0_hw224

def k0_chk225 (v317 : IVec S16 32) : Prop :=
  (∀ a x, ((![v317] : Fin 1 → IVec S16 32) a x).toNat < S67584.size a)
theorem k0_idx225_inb : ∀ (v317 : IVec S16 32) (k0_hw225 : k0_chk225 v317), ∀ a x, ((![v317] : Fin 1 → IVec S16 32) a x).toNat < S67584.size a := fun v317 k0_hw225 => k0_hw225

def k0_chk226 (v322 : IVec S16 32) : Prop :=
  (∀ a x, ((![v322] : Fin 1 → IVec S16 32) a x).toNat < S67584.size a)
theorem k0_idx226_inb : ∀ (v322 : IVec S16 32) (k0_hw226 : k0_chk226 v322), ∀ a x, ((![v322] : Fin 1 → IVec S16 32) a x).toNat < S67584.size a := fun v322 k0_hw226 => k0_hw226

def k0_chk227 (v327 : IVec S16 32) : Prop :=
  (∀ a x, ((![v327] : Fin 1 → IVec S16 32) a x).toNat < S67584.size a)
theorem k0_idx227_inb : ∀ (v327 : IVec S16 32) (k0_hw227 : k0_chk227 v327), ∀ a x, ((![v327] : Fin 1 → IVec S16 32) a x).toNat < S67584.size a := fun v327 k0_hw227 => k0_hw227

def k0_chk228 (v332 : IVec S16 32) : Prop :=
  (∀ a x, ((![v332] : Fin 1 → IVec S16 32) a x).toNat < S67584.size a)
theorem k0_idx228_inb : ∀ (v332 : IVec S16 32) (k0_hw228 : k0_chk228 v332), ∀ a x, ((![v332] : Fin 1 → IVec S16 32) a x).toNat < S67584.size a := fun v332 k0_hw228 => k0_hw228

def k0_chk229 (v337 : IVec S16 32) : Prop :=
  (∀ a x, ((![v337] : Fin 1 → IVec S16 32) a x).toNat < S67584.size a)
theorem k0_idx229_inb : ∀ (v337 : IVec S16 32) (k0_hw229 : k0_chk229 v337), ∀ a x, ((![v337] : Fin 1 → IVec S16 32) a x).toNat < S67584.size a := fun v337 k0_hw229 => k0_hw229

def k0_chk230 (v342 : IVec S16 32) : Prop :=
  (∀ a x, ((![v342] : Fin 1 → IVec S16 32) a x).toNat < S67584.size a)
theorem k0_idx230_inb : ∀ (v342 : IVec S16 32) (k0_hw230 : k0_chk230 v342), ∀ a x, ((![v342] : Fin 1 → IVec S16 32) a x).toNat < S67584.size a := fun v342 k0_hw230 => k0_hw230

def k0_chk231 (v347 : IVec S16 32) : Prop :=
  (∀ a x, ((![v347] : Fin 1 → IVec S16 32) a x).toNat < S4224.size a)
theorem k0_idx231_inb : ∀ (v347 : IVec S16 32) (k0_hw231 : k0_chk231 v347), ∀ a x, ((![v347] : Fin 1 → IVec S16 32) a x).toNat < S4224.size a := fun v347 k0_hw231 => k0_hw231
def k0_off25 (i : grid0.Coords) (k0_t23 : Fin (k0_t23_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_58 : BitVec 32 := 1#32
  let c0_i32_40 : BitVec 32 := 0#32
  let c1_i32_43 : BitVec 32 := 1#32
  let arg12 : BitVec 32 := Scf.iv c0_i32_40 c1_i32_43 k0_t23
  let v82 : BitVec 32 := Scalar.addi v2 arg12
  let c16_i32_48 : BitVec 32 := 16#32
  let c0_i32_49 : BitVec 32 := 0#32
  let v83 : BitVec 1 := Scalar.cmpi .eq c16_i32_48 c0_i32_49
  let c1_i32_50 : BitVec 32 := 1#32
  let v84 : BitVec 32 := Scalar.select v83 c1_i32_50 c16_i32_48
  let v85 : BitVec 32 := Scalar.remsi v82 v84
  let c0_i32_52 : BitVec 32 := 0#32
  let v87 : BitVec 1 := Scalar.cmpi .slt v85 c0_i32_52
  let c0_i32_53 : BitVec 32 := 0#32
  let v88 : BitVec 1 := Scalar.cmpi .slt v84 c0_i32_53
  let v89 : BitVec 1 := Scalar.xori v87 v88
  let c0_i32_51 : BitVec 32 := 0#32
  let v86 : BitVec 1 := Scalar.cmpi .ne v85 c0_i32_51
  let v90 : BitVec 1 := Scalar.andi v89 v86
  let v91 : BitVec 32 := Scalar.addi v85 v84
  let v92 : BitVec 32 := Scalar.select v90 v91 v85
  let c4224_i32 : BitVec 32 := 4224#32
  let v96 : BitVec 32 := Scalar.muli v92 c4224_i32
  ![v19.toNat, 1, v96.toNat]
@[reducible] def k0_t26_loop (i : grid0.Coords) : Scf.Loop 32 :=
  let c0_i32_40 : BitVec 32 := 0#32
  let c6_i32_15 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let v72 : BitVec 32 := Scalar.subi v42 c0_i32_40
  let c1_i32_42 : BitVec 32 := 1#32
  let v74 : BitVec 32 := Scalar.divsi v72 c1_i32_42
  let v75 : BitVec 32 := Scalar.muli v74 c1_i32_42
  let v76 : BitVec 32 := Scalar.addi c0_i32_40 v75
  let v73 : BitVec 32 := Scalar.addi c0_i32_40 v72
  let c1_i32_44 : BitVec 32 := 1#32
  ⟨v76, v73, c1_i32_44⟩
def k0_off26 (i : grid0.Coords) (k0_t26 : Fin (k0_t26_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c0_i32_40 : BitVec 32 := 0#32
  let c6_i32_15 : BitVec 32 := 6#32
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let v72 : BitVec 32 := Scalar.subi v42 c0_i32_40
  let c1_i32_42 : BitVec 32 := 1#32
  let v74 : BitVec 32 := Scalar.divsi v72 c1_i32_42
  let v75 : BitVec 32 := Scalar.muli v74 c1_i32_42
  let v76 : BitVec 32 := Scalar.addi c0_i32_40 v75
  let c1_i32_44 : BitVec 32 := 1#32
  let arg12 : BitVec 32 := Scf.iv v76 c1_i32_44 k0_t26
  let v82 : BitVec 32 := Scalar.addi v2 arg12
  let c16_i32_48 : BitVec 32 := 16#32
  let c0_i32_49 : BitVec 32 := 0#32
  let v83 : BitVec 1 := Scalar.cmpi .eq c16_i32_48 c0_i32_49
  let c1_i32_50 : BitVec 32 := 1#32
  let v84 : BitVec 32 := Scalar.select v83 c1_i32_50 c16_i32_48
  let v85 : BitVec 32 := Scalar.remsi v82 v84
  let c0_i32_52 : BitVec 32 := 0#32
  let v87 : BitVec 1 := Scalar.cmpi .slt v85 c0_i32_52
  let c0_i32_53 : BitVec 32 := 0#32
  let v88 : BitVec 1 := Scalar.cmpi .slt v84 c0_i32_53
  let v89 : BitVec 1 := Scalar.xori v87 v88
  let c0_i32_51 : BitVec 32 := 0#32
  let v86 : BitVec 1 := Scalar.cmpi .ne v85 c0_i32_51
  let v90 : BitVec 1 := Scalar.andi v89 v86
  let v91 : BitVec 32 := Scalar.addi v85 v84
  let v92 : BitVec 32 := Scalar.select v90 v91 v85
  let c2176_i32 : BitVec 32 := 2176#32
  let v93 : BitVec 32 := Scalar.muli v92 c2176_i32
  ![v19.toNat, v93.toNat]
@[reducible] def k0_t27_loop : Scf.Loop 32 :=
  let c0_i32_55 : BitVec 32 := 0#32
  let c8_i32 : BitVec 32 := 8#32
  let v94 : BitVec 32 := Scalar.addi c0_i32_55 c8_i32
  let c1_i32_56 : BitVec 32 := 1#32
  ⟨c0_i32_55, v94, c1_i32_56⟩

def k0_chk232 (i : grid0.Coords) (k0_t26 : Fin (k0_t26_loop i).trips) (v103 : IVec S16 32) : Prop :=
  (∀ a x, ((![v103] : Fin 1 → IVec S16 32) a x).toNat < S2176.size a)
theorem k0_idx232_inb : ∀ (i : grid0.Coords) (k0_t26 : Fin (k0_t26_loop i).trips) (v103 : IVec S16 32) (k0_hw232 : k0_chk232 i k0_t26 v103), ∀ a x, ((![v103] : Fin 1 → IVec S16 32) a x).toNat < S2176.size a := fun i k0_t26 v103 k0_hw232 => k0_hw232

def k0_chk233 (i : grid0.Coords) (k0_t26 : Fin (k0_t26_loop i).trips) (v110 : IVec S16 32) : Prop :=
  (∀ a x, ((![v110] : Fin 1 → IVec S16 32) a x).toNat < S2176.size a)
theorem k0_idx233_inb : ∀ (i : grid0.Coords) (k0_t26 : Fin (k0_t26_loop i).trips) (v110 : IVec S16 32) (k0_hw233 : k0_chk233 i k0_t26 v110), ∀ a x, ((![v110] : Fin 1 → IVec S16 32) a x).toNat < S2176.size a := fun i k0_t26 v110 k0_hw233 => k0_hw233

def k0_chk234 (i : grid0.Coords) (k0_t26 : Fin (k0_t26_loop i).trips) (v117 : IVec S16 32) : Prop :=
  (∀ a x, ((![v117] : Fin 1 → IVec S16 32) a x).toNat < S2176.size a)
theorem k0_idx234_inb : ∀ (i : grid0.Coords) (k0_t26 : Fin (k0_t26_loop i).trips) (v117 : IVec S16 32) (k0_hw234 : k0_chk234 i k0_t26 v117), ∀ a x, ((![v117] : Fin 1 → IVec S16 32) a x).toNat < S2176.size a := fun i k0_t26 v117 k0_hw234 => k0_hw234

def k0_chk235 (i : grid0.Coords) (k0_t26 : Fin (k0_t26_loop i).trips) (v124 : IVec S16 32) : Prop :=
  (∀ a x, ((![v124] : Fin 1 → IVec S16 32) a x).toNat < S2176.size a)
theorem k0_idx235_inb : ∀ (i : grid0.Coords) (k0_t26 : Fin (k0_t26_loop i).trips) (v124 : IVec S16 32) (k0_hw235 : k0_chk235 i k0_t26 v124), ∀ a x, ((![v124] : Fin 1 → IVec S16 32) a x).toNat < S2176.size a := fun i k0_t26 v124 k0_hw235 => k0_hw235

def k0_chk236 (i : grid0.Coords) (k0_t26 : Fin (k0_t26_loop i).trips) (v131 : IVec S16 32) : Prop :=
  (∀ a x, ((![v131] : Fin 1 → IVec S16 32) a x).toNat < S2176.size a)
theorem k0_idx236_inb : ∀ (i : grid0.Coords) (k0_t26 : Fin (k0_t26_loop i).trips) (v131 : IVec S16 32) (k0_hw236 : k0_chk236 i k0_t26 v131), ∀ a x, ((![v131] : Fin 1 → IVec S16 32) a x).toNat < S2176.size a := fun i k0_t26 v131 k0_hw236 => k0_hw236

def k0_chk237 (i : grid0.Coords) (k0_t26 : Fin (k0_t26_loop i).trips) (v138 : IVec S16 32) : Prop :=
  (∀ a x, ((![v138] : Fin 1 → IVec S16 32) a x).toNat < S2176.size a)
theorem k0_idx237_inb : ∀ (i : grid0.Coords) (k0_t26 : Fin (k0_t26_loop i).trips) (v138 : IVec S16 32) (k0_hw237 : k0_chk237 i k0_t26 v138), ∀ a x, ((![v138] : Fin 1 → IVec S16 32) a x).toNat < S2176.size a := fun i k0_t26 v138 k0_hw237 => k0_hw237

def k0_chk238 (i : grid0.Coords) (k0_t26 : Fin (k0_t26_loop i).trips) (v145 : IVec S16 32) : Prop :=
  (∀ a x, ((![v145] : Fin 1 → IVec S16 32) a x).toNat < S2176.size a)
theorem k0_idx238_inb : ∀ (i : grid0.Coords) (k0_t26 : Fin (k0_t26_loop i).trips) (v145 : IVec S16 32) (k0_hw238 : k0_chk238 i k0_t26 v145), ∀ a x, ((![v145] : Fin 1 → IVec S16 32) a x).toNat < S2176.size a := fun i k0_t26 v145 k0_hw238 => k0_hw238

def k0_chk239 (i : grid0.Coords) (k0_t26 : Fin (k0_t26_loop i).trips) (v152 : IVec S16 32) : Prop :=
  (∀ a x, ((![v152] : Fin 1 → IVec S16 32) a x).toNat < S2176.size a)
theorem k0_idx239_inb : ∀ (i : grid0.Coords) (k0_t26 : Fin (k0_t26_loop i).trips) (v152 : IVec S16 32) (k0_hw239 : k0_chk239 i k0_t26 v152), ∀ a x, ((![v152] : Fin 1 → IVec S16 32) a x).toNat < S2176.size a := fun i k0_t26 v152 k0_hw239 => k0_hw239

def k0_chk240 (i : grid0.Coords) (k0_t26 : Fin (k0_t26_loop i).trips) (v159 : IVec S16 32) : Prop :=
  (∀ a x, ((![v159] : Fin 1 → IVec S16 32) a x).toNat < S2176.size a)
theorem k0_idx240_inb : ∀ (i : grid0.Coords) (k0_t26 : Fin (k0_t26_loop i).trips) (v159 : IVec S16 32) (k0_hw240 : k0_chk240 i k0_t26 v159), ∀ a x, ((![v159] : Fin 1 → IVec S16 32) a x).toNat < S2176.size a := fun i k0_t26 v159 k0_hw240 => k0_hw240

def k0_chk241 (i : grid0.Coords) (k0_t26 : Fin (k0_t26_loop i).trips) (v166 : IVec S16 32) : Prop :=
  (∀ a x, ((![v166] : Fin 1 → IVec S16 32) a x).toNat < S2176.size a)
theorem k0_idx241_inb : ∀ (i : grid0.Coords) (k0_t26 : Fin (k0_t26_loop i).trips) (v166 : IVec S16 32) (k0_hw241 : k0_chk241 i k0_t26 v166), ∀ a x, ((![v166] : Fin 1 → IVec S16 32) a x).toNat < S2176.size a := fun i k0_t26 v166 k0_hw241 => k0_hw241

def k0_chk242 (i : grid0.Coords) (k0_t26 : Fin (k0_t26_loop i).trips) (v173 : IVec S16 32) : Prop :=
  (∀ a x, ((![v173] : Fin 1 → IVec S16 32) a x).toNat < S2176.size a)
theorem k0_idx242_inb : ∀ (i : grid0.Coords) (k0_t26 : Fin (k0_t26_loop i).trips) (v173 : IVec S16 32) (k0_hw242 : k0_chk242 i k0_t26 v173), ∀ a x, ((![v173] : Fin 1 → IVec S16 32) a x).toNat < S2176.size a := fun i k0_t26 v173 k0_hw242 => k0_hw242

def k0_chk243 (i : grid0.Coords) (k0_t26 : Fin (k0_t26_loop i).trips) (v180 : IVec S16 32) : Prop :=
  (∀ a x, ((![v180] : Fin 1 → IVec S16 32) a x).toNat < S2176.size a)
theorem k0_idx243_inb : ∀ (i : grid0.Coords) (k0_t26 : Fin (k0_t26_loop i).trips) (v180 : IVec S16 32) (k0_hw243 : k0_chk243 i k0_t26 v180), ∀ a x, ((![v180] : Fin 1 → IVec S16 32) a x).toNat < S2176.size a := fun i k0_t26 v180 k0_hw243 => k0_hw243

def k0_chk244 (i : grid0.Coords) (k0_t26 : Fin (k0_t26_loop i).trips) (v187 : IVec S16 32) : Prop :=
  (∀ a x, ((![v187] : Fin 1 → IVec S16 32) a x).toNat < S2176.size a)
theorem k0_idx244_inb : ∀ (i : grid0.Coords) (k0_t26 : Fin (k0_t26_loop i).trips) (v187 : IVec S16 32) (k0_hw244 : k0_chk244 i k0_t26 v187), ∀ a x, ((![v187] : Fin 1 → IVec S16 32) a x).toNat < S2176.size a := fun i k0_t26 v187 k0_hw244 => k0_hw244

def k0_chk245 (i : grid0.Coords) (k0_t26 : Fin (k0_t26_loop i).trips) (v194 : IVec S16 32) : Prop :=
  (∀ a x, ((![v194] : Fin 1 → IVec S16 32) a x).toNat < S2176.size a)
theorem k0_idx245_inb : ∀ (i : grid0.Coords) (k0_t26 : Fin (k0_t26_loop i).trips) (v194 : IVec S16 32) (k0_hw245 : k0_chk245 i k0_t26 v194), ∀ a x, ((![v194] : Fin 1 → IVec S16 32) a x).toNat < S2176.size a := fun i k0_t26 v194 k0_hw245 => k0_hw245

def k0_chk246 (i : grid0.Coords) (k0_t26 : Fin (k0_t26_loop i).trips) (v201 : IVec S16 32) : Prop :=
  (∀ a x, ((![v201] : Fin 1 → IVec S16 32) a x).toNat < S2176.size a)
theorem k0_idx246_inb : ∀ (i : grid0.Coords) (k0_t26 : Fin (k0_t26_loop i).trips) (v201 : IVec S16 32) (k0_hw246 : k0_chk246 i k0_t26 v201), ∀ a x, ((![v201] : Fin 1 → IVec S16 32) a x).toNat < S2176.size a := fun i k0_t26 v201 k0_hw246 => k0_hw246

def k0_chk247 (i : grid0.Coords) (k0_t26 : Fin (k0_t26_loop i).trips) (v208 : IVec S16 32) : Prop :=
  (∀ a x, ((![v208] : Fin 1 → IVec S16 32) a x).toNat < S2176.size a)
theorem k0_idx247_inb : ∀ (i : grid0.Coords) (k0_t26 : Fin (k0_t26_loop i).trips) (v208 : IVec S16 32) (k0_hw247 : k0_chk247 i k0_t26 v208), ∀ a x, ((![v208] : Fin 1 → IVec S16 32) a x).toNat < S2176.size a := fun i k0_t26 v208 k0_hw247 => k0_hw247
def k0_off27 (i : grid0.Coords) (k0_t26 : Fin (k0_t26_loop i).trips) (k0_t27 : Fin k0_t27_loop.trips) (c0_i32_97 : BitVec 32) : Fin 1 → Nat :=
  let c0_i32_40 : BitVec 32 := 0#32
  let c6_i32_15 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let v72 : BitVec 32 := Scalar.subi v42 c0_i32_40
  let c1_i32_42 : BitVec 32 := 1#32
  let v74 : BitVec 32 := Scalar.divsi v72 c1_i32_42
  let v75 : BitVec 32 := Scalar.muli v74 c1_i32_42
  let v76 : BitVec 32 := Scalar.addi c0_i32_40 v75
  let c1_i32_44 : BitVec 32 := 1#32
  let arg12 : BitVec 32 := Scf.iv v76 c1_i32_44 k0_t26
  let c128_i32 : BitVec 32 := 128#32
  let v212 : BitVec 32 := Scalar.muli arg12 c128_i32
  let c0_i32_55 : BitVec 32 := 0#32
  let c1_i32_56 : BitVec 32 := 1#32
  let arg14 : BitVec 32 := Scf.iv c0_i32_55 c1_i32_56 k0_t27
  let c16_i32_96 : BitVec 32 := 16#32
  let v213 : BitVec 32 := Scalar.muli arg14 c16_i32_96
  let v214 : BitVec 32 := Scalar.addi v212 v213
  let v215 : BitVec 32 := Scalar.addi c0_i32_97 v214
  let v216 : Index := Scalar.indexCast v215
  ![v216.toNat]
@[reducible] def k0_t28_loop : Scf.Loop 32 :=
  let c0_i32_100 : BitVec 32 := 0#32
  let c32_i32 : BitVec 32 := 32#32
  let v265 : BitVec 32 := Scalar.addi c0_i32_100 c32_i32
  let c1_i32_101 : BitVec 32 := 1#32
  ⟨c0_i32_100, v265, c1_i32_101⟩

def k0_chk248 (i : grid0.Coords) (k0_t26 : Fin (k0_t26_loop i).trips) (v268 : IVec S16 32) : Prop :=
  (∀ a x, ((![v268] : Fin 1 → IVec S16 32) a x).toNat < S67584.size a)
theorem k0_idx248_inb : ∀ (i : grid0.Coords) (k0_t26 : Fin (k0_t26_loop i).trips) (v268 : IVec S16 32) (k0_hw248 : k0_chk248 i k0_t26 v268), ∀ a x, ((![v268] : Fin 1 → IVec S16 32) a x).toNat < S67584.size a := fun i k0_t26 v268 k0_hw248 => k0_hw248

def k0_chk249 (i : grid0.Coords) (k0_t26 : Fin (k0_t26_loop i).trips) (v272 : IVec S16 32) : Prop :=
  (∀ a x, ((![v272] : Fin 1 → IVec S16 32) a x).toNat < S67584.size a)
theorem k0_idx249_inb : ∀ (i : grid0.Coords) (k0_t26 : Fin (k0_t26_loop i).trips) (v272 : IVec S16 32) (k0_hw249 : k0_chk249 i k0_t26 v272), ∀ a x, ((![v272] : Fin 1 → IVec S16 32) a x).toNat < S67584.size a := fun i k0_t26 v272 k0_hw249 => k0_hw249

def k0_chk250 (i : grid0.Coords) (k0_t26 : Fin (k0_t26_loop i).trips) (v277 : IVec S16 32) : Prop :=
  (∀ a x, ((![v277] : Fin 1 → IVec S16 32) a x).toNat < S67584.size a)
theorem k0_idx250_inb : ∀ (i : grid0.Coords) (k0_t26 : Fin (k0_t26_loop i).trips) (v277 : IVec S16 32) (k0_hw250 : k0_chk250 i k0_t26 v277), ∀ a x, ((![v277] : Fin 1 → IVec S16 32) a x).toNat < S67584.size a := fun i k0_t26 v277 k0_hw250 => k0_hw250

def k0_chk251 (i : grid0.Coords) (k0_t26 : Fin (k0_t26_loop i).trips) (v282 : IVec S16 32) : Prop :=
  (∀ a x, ((![v282] : Fin 1 → IVec S16 32) a x).toNat < S67584.size a)
theorem k0_idx251_inb : ∀ (i : grid0.Coords) (k0_t26 : Fin (k0_t26_loop i).trips) (v282 : IVec S16 32) (k0_hw251 : k0_chk251 i k0_t26 v282), ∀ a x, ((![v282] : Fin 1 → IVec S16 32) a x).toNat < S67584.size a := fun i k0_t26 v282 k0_hw251 => k0_hw251

def k0_chk252 (i : grid0.Coords) (k0_t26 : Fin (k0_t26_loop i).trips) (v287 : IVec S16 32) : Prop :=
  (∀ a x, ((![v287] : Fin 1 → IVec S16 32) a x).toNat < S67584.size a)
theorem k0_idx252_inb : ∀ (i : grid0.Coords) (k0_t26 : Fin (k0_t26_loop i).trips) (v287 : IVec S16 32) (k0_hw252 : k0_chk252 i k0_t26 v287), ∀ a x, ((![v287] : Fin 1 → IVec S16 32) a x).toNat < S67584.size a := fun i k0_t26 v287 k0_hw252 => k0_hw252

def k0_chk253 (i : grid0.Coords) (k0_t26 : Fin (k0_t26_loop i).trips) (v292 : IVec S16 32) : Prop :=
  (∀ a x, ((![v292] : Fin 1 → IVec S16 32) a x).toNat < S67584.size a)
theorem k0_idx253_inb : ∀ (i : grid0.Coords) (k0_t26 : Fin (k0_t26_loop i).trips) (v292 : IVec S16 32) (k0_hw253 : k0_chk253 i k0_t26 v292), ∀ a x, ((![v292] : Fin 1 → IVec S16 32) a x).toNat < S67584.size a := fun i k0_t26 v292 k0_hw253 => k0_hw253

def k0_chk254 (i : grid0.Coords) (k0_t26 : Fin (k0_t26_loop i).trips) (v297 : IVec S16 32) : Prop :=
  (∀ a x, ((![v297] : Fin 1 → IVec S16 32) a x).toNat < S67584.size a)
theorem k0_idx254_inb : ∀ (i : grid0.Coords) (k0_t26 : Fin (k0_t26_loop i).trips) (v297 : IVec S16 32) (k0_hw254 : k0_chk254 i k0_t26 v297), ∀ a x, ((![v297] : Fin 1 → IVec S16 32) a x).toNat < S67584.size a := fun i k0_t26 v297 k0_hw254 => k0_hw254

def k0_chk255 (i : grid0.Coords) (k0_t26 : Fin (k0_t26_loop i).trips) (v302 : IVec S16 32) : Prop :=
  (∀ a x, ((![v302] : Fin 1 → IVec S16 32) a x).toNat < S67584.size a)
theorem k0_idx255_inb : ∀ (i : grid0.Coords) (k0_t26 : Fin (k0_t26_loop i).trips) (v302 : IVec S16 32) (k0_hw255 : k0_chk255 i k0_t26 v302), ∀ a x, ((![v302] : Fin 1 → IVec S16 32) a x).toNat < S67584.size a := fun i k0_t26 v302 k0_hw255 => k0_hw255

def k0_chk256 (i : grid0.Coords) (k0_t26 : Fin (k0_t26_loop i).trips) (v307 : IVec S16 32) : Prop :=
  (∀ a x, ((![v307] : Fin 1 → IVec S16 32) a x).toNat < S67584.size a)
theorem k0_idx256_inb : ∀ (i : grid0.Coords) (k0_t26 : Fin (k0_t26_loop i).trips) (v307 : IVec S16 32) (k0_hw256 : k0_chk256 i k0_t26 v307), ∀ a x, ((![v307] : Fin 1 → IVec S16 32) a x).toNat < S67584.size a := fun i k0_t26 v307 k0_hw256 => k0_hw256

def k0_chk257 (i : grid0.Coords) (k0_t26 : Fin (k0_t26_loop i).trips) (v312 : IVec S16 32) : Prop :=
  (∀ a x, ((![v312] : Fin 1 → IVec S16 32) a x).toNat < S67584.size a)
theorem k0_idx257_inb : ∀ (i : grid0.Coords) (k0_t26 : Fin (k0_t26_loop i).trips) (v312 : IVec S16 32) (k0_hw257 : k0_chk257 i k0_t26 v312), ∀ a x, ((![v312] : Fin 1 → IVec S16 32) a x).toNat < S67584.size a := fun i k0_t26 v312 k0_hw257 => k0_hw257

def k0_chk258 (i : grid0.Coords) (k0_t26 : Fin (k0_t26_loop i).trips) (v317 : IVec S16 32) : Prop :=
  (∀ a x, ((![v317] : Fin 1 → IVec S16 32) a x).toNat < S67584.size a)
theorem k0_idx258_inb : ∀ (i : grid0.Coords) (k0_t26 : Fin (k0_t26_loop i).trips) (v317 : IVec S16 32) (k0_hw258 : k0_chk258 i k0_t26 v317), ∀ a x, ((![v317] : Fin 1 → IVec S16 32) a x).toNat < S67584.size a := fun i k0_t26 v317 k0_hw258 => k0_hw258

def k0_chk259 (i : grid0.Coords) (k0_t26 : Fin (k0_t26_loop i).trips) (v322 : IVec S16 32) : Prop :=
  (∀ a x, ((![v322] : Fin 1 → IVec S16 32) a x).toNat < S67584.size a)
theorem k0_idx259_inb : ∀ (i : grid0.Coords) (k0_t26 : Fin (k0_t26_loop i).trips) (v322 : IVec S16 32) (k0_hw259 : k0_chk259 i k0_t26 v322), ∀ a x, ((![v322] : Fin 1 → IVec S16 32) a x).toNat < S67584.size a := fun i k0_t26 v322 k0_hw259 => k0_hw259

def k0_chk260 (i : grid0.Coords) (k0_t26 : Fin (k0_t26_loop i).trips) (v327 : IVec S16 32) : Prop :=
  (∀ a x, ((![v327] : Fin 1 → IVec S16 32) a x).toNat < S67584.size a)
theorem k0_idx260_inb : ∀ (i : grid0.Coords) (k0_t26 : Fin (k0_t26_loop i).trips) (v327 : IVec S16 32) (k0_hw260 : k0_chk260 i k0_t26 v327), ∀ a x, ((![v327] : Fin 1 → IVec S16 32) a x).toNat < S67584.size a := fun i k0_t26 v327 k0_hw260 => k0_hw260

def k0_chk261 (i : grid0.Coords) (k0_t26 : Fin (k0_t26_loop i).trips) (v332 : IVec S16 32) : Prop :=
  (∀ a x, ((![v332] : Fin 1 → IVec S16 32) a x).toNat < S67584.size a)
theorem k0_idx261_inb : ∀ (i : grid0.Coords) (k0_t26 : Fin (k0_t26_loop i).trips) (v332 : IVec S16 32) (k0_hw261 : k0_chk261 i k0_t26 v332), ∀ a x, ((![v332] : Fin 1 → IVec S16 32) a x).toNat < S67584.size a := fun i k0_t26 v332 k0_hw261 => k0_hw261

def k0_chk262 (i : grid0.Coords) (k0_t26 : Fin (k0_t26_loop i).trips) (v337 : IVec S16 32) : Prop :=
  (∀ a x, ((![v337] : Fin 1 → IVec S16 32) a x).toNat < S67584.size a)
theorem k0_idx262_inb : ∀ (i : grid0.Coords) (k0_t26 : Fin (k0_t26_loop i).trips) (v337 : IVec S16 32) (k0_hw262 : k0_chk262 i k0_t26 v337), ∀ a x, ((![v337] : Fin 1 → IVec S16 32) a x).toNat < S67584.size a := fun i k0_t26 v337 k0_hw262 => k0_hw262

def k0_chk263 (i : grid0.Coords) (k0_t26 : Fin (k0_t26_loop i).trips) (v342 : IVec S16 32) : Prop :=
  (∀ a x, ((![v342] : Fin 1 → IVec S16 32) a x).toNat < S67584.size a)
theorem k0_idx263_inb : ∀ (i : grid0.Coords) (k0_t26 : Fin (k0_t26_loop i).trips) (v342 : IVec S16 32) (k0_hw263 : k0_chk263 i k0_t26 v342), ∀ a x, ((![v342] : Fin 1 → IVec S16 32) a x).toNat < S67584.size a := fun i k0_t26 v342 k0_hw263 => k0_hw263

def k0_chk264 (i : grid0.Coords) (k0_t26 : Fin (k0_t26_loop i).trips) (v347 : IVec S16 32) : Prop :=
  (∀ a x, ((![v347] : Fin 1 → IVec S16 32) a x).toNat < S4224.size a)
theorem k0_idx264_inb : ∀ (i : grid0.Coords) (k0_t26 : Fin (k0_t26_loop i).trips) (v347 : IVec S16 32) (k0_hw264 : k0_chk264 i k0_t26 v347), ∀ a x, ((![v347] : Fin 1 → IVec S16 32) a x).toNat < S4224.size a := fun i k0_t26 v347 k0_hw264 => k0_hw264
def k0_off28 (i : grid0.Coords) (k0_t26 : Fin (k0_t26_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_58 : BitVec 32 := 1#32
  let c0_i32_40 : BitVec 32 := 0#32
  let c6_i32_15 : BitVec 32 := 6#32
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let v72 : BitVec 32 := Scalar.subi v42 c0_i32_40
  let c1_i32_42 : BitVec 32 := 1#32
  let v74 : BitVec 32 := Scalar.divsi v72 c1_i32_42
  let v75 : BitVec 32 := Scalar.muli v74 c1_i32_42
  let v76 : BitVec 32 := Scalar.addi c0_i32_40 v75
  let c1_i32_44 : BitVec 32 := 1#32
  let arg12 : BitVec 32 := Scf.iv v76 c1_i32_44 k0_t26
  let v82 : BitVec 32 := Scalar.addi v2 arg12
  let c16_i32_48 : BitVec 32 := 16#32
  let c0_i32_49 : BitVec 32 := 0#32
  let v83 : BitVec 1 := Scalar.cmpi .eq c16_i32_48 c0_i32_49
  let c1_i32_50 : BitVec 32 := 1#32
  let v84 : BitVec 32 := Scalar.select v83 c1_i32_50 c16_i32_48
  let v85 : BitVec 32 := Scalar.remsi v82 v84
  let c0_i32_52 : BitVec 32 := 0#32
  let v87 : BitVec 1 := Scalar.cmpi .slt v85 c0_i32_52
  let c0_i32_53 : BitVec 32 := 0#32
  let v88 : BitVec 1 := Scalar.cmpi .slt v84 c0_i32_53
  let v89 : BitVec 1 := Scalar.xori v87 v88
  let c0_i32_51 : BitVec 32 := 0#32
  let v86 : BitVec 1 := Scalar.cmpi .ne v85 c0_i32_51
  let v90 : BitVec 1 := Scalar.andi v89 v86
  let v91 : BitVec 32 := Scalar.addi v85 v84
  let v92 : BitVec 32 := Scalar.select v90 v91 v85
  let c4224_i32 : BitVec 32 := 4224#32
  let v96 : BitVec 32 := Scalar.muli v92 c4224_i32
  ![v19.toNat, 1, v96.toNat]
def k0_cond1 (i : grid0.Coords) : BitVec 1 :=
  let c6_i32_15 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let c6_i32_45 : BitVec 32 := 6#32
  let v79 : BitVec 1 := Scalar.cmpi .slt v42 c6_i32_45
  let v80 : BitVec 32 := Scalar.extui v79
  let c0_i32_47 : BitVec 32 := 0#32
  let v81 : BitVec 1 := Scalar.cmpi .ne v80 c0_i32_47
  v81

def k0_off29 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c6_i32_4 : BitVec 32 := 6#32
  let v20 : BitVec 32 := Scalar.addi v2 c6_i32_4
  let c1_i32_5 : BitVec 32 := 1#32
  let v21 : BitVec 32 := Scalar.subi v20 c1_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c16_i32_6 : BitVec 32 := 16#32
  let c0_i32_9 : BitVec 32 := 0#32
  let v28 : BitVec 1 := Scalar.cmpi .sgt c16_i32_6 c0_i32_9
  let v29 : BitVec 32 := Scalar.extui v28
  let c0_i32_10 : BitVec 32 := 0#32
  let v30 : BitVec 1 := Scalar.cmpi .slt c16_i32_6 c0_i32_10
  let v31 : BitVec 32 := Scalar.extui v30
  let v32 : BitVec 32 := Scalar.subi v29 v31
  let v33 : BitVec 1 := Scalar.cmpi .ne v27 v32
  let v34 : BitVec 32 := Scalar.remsi v21 c16_i32_6
  let c0_i32_11 : BitVec 32 := 0#32
  let v35 : BitVec 1 := Scalar.cmpi .ne v34 c0_i32_11
  let v36 : BitVec 1 := Scalar.andi v33 v35
  let v22 : BitVec 32 := Scalar.divsi v21 c16_i32_6
  let c1_i32_12 : BitVec 32 := 1#32
  let v37 : BitVec 32 := Scalar.subi v22 c1_i32_12
  let v38 : BitVec 32 := Scalar.select v36 v37 v22
  let c0_i32_48 : BitVec 32 := 0#32
  let c0_i32_77_r20 : BitVec 32 := 0#32
  ![v38.toNat, 0, 0]
@[reducible] def k0_t29_loop (i : grid0.Coords) : Scf.Loop 32 :=
  let c6_i32_15 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let c6_i32_49 : BitVec 32 := 6#32
  let v82 : BitVec 32 := Scalar.subi c6_i32_49 v42
  let c1_i32_51 : BitVec 32 := 1#32
  let v84 : BitVec 32 := Scalar.divsi v82 c1_i32_51
  let v85 : BitVec 32 := Scalar.muli v84 c1_i32_51
  let v86 : BitVec 32 := Scalar.addi v42 v85
  let c1_i32_52 : BitVec 32 := 1#32
  ⟨v42, v86, c1_i32_52⟩
def k0_off30 (i : grid0.Coords) (k0_t29 : Fin (k0_t29_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c6_i32_4 : BitVec 32 := 6#32
  let v20 : BitVec 32 := Scalar.addi v2 c6_i32_4
  let c1_i32_5 : BitVec 32 := 1#32
  let v21 : BitVec 32 := Scalar.subi v20 c1_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c16_i32_6 : BitVec 32 := 16#32
  let c0_i32_9 : BitVec 32 := 0#32
  let v28 : BitVec 1 := Scalar.cmpi .sgt c16_i32_6 c0_i32_9
  let v29 : BitVec 32 := Scalar.extui v28
  let c0_i32_10 : BitVec 32 := 0#32
  let v30 : BitVec 1 := Scalar.cmpi .slt c16_i32_6 c0_i32_10
  let v31 : BitVec 32 := Scalar.extui v30
  let v32 : BitVec 32 := Scalar.subi v29 v31
  let v33 : BitVec 1 := Scalar.cmpi .ne v27 v32
  let v34 : BitVec 32 := Scalar.remsi v21 c16_i32_6
  let c0_i32_11 : BitVec 32 := 0#32
  let v35 : BitVec 1 := Scalar.cmpi .ne v34 c0_i32_11
  let v36 : BitVec 1 := Scalar.andi v33 v35
  let v22 : BitVec 32 := Scalar.divsi v21 c16_i32_6
  let c1_i32_12 : BitVec 32 := 1#32
  let v37 : BitVec 32 := Scalar.subi v22 c1_i32_12
  let v38 : BitVec 32 := Scalar.select v36 v37 v22
  let c6_i32_15 : BitVec 32 := 6#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let c1_i32_52 : BitVec 32 := 1#32
  let arg12 : BitVec 32 := Scf.iv v42 c1_i32_52 k0_t29
  let v117 : BitVec 32 := Scalar.addi v2 arg12
  let c16_i32_77 : BitVec 32 := 16#32
  let c0_i32_78 : BitVec 32 := 0#32
  let v118 : BitVec 1 := Scalar.cmpi .eq c16_i32_77 c0_i32_78
  let c1_i32_79 : BitVec 32 := 1#32
  let v119 : BitVec 32 := Scalar.select v118 c1_i32_79 c16_i32_77
  let v120 : BitVec 32 := Scalar.remsi v117 v119
  let c0_i32_81 : BitVec 32 := 0#32
  let v122 : BitVec 1 := Scalar.cmpi .slt v120 c0_i32_81
  let c0_i32_82 : BitVec 32 := 0#32
  let v123 : BitVec 1 := Scalar.cmpi .slt v119 c0_i32_82
  let v124 : BitVec 1 := Scalar.xori v122 v123
  let c0_i32_80 : BitVec 32 := 0#32
  let v121 : BitVec 1 := Scalar.cmpi .ne v120 c0_i32_80
  let v125 : BitVec 1 := Scalar.andi v124 v121
  let v126 : BitVec 32 := Scalar.addi v120 v119
  let v127 : BitVec 32 := Scalar.select v125 v126 v120
  let c8320_i32 : BitVec 32 := 8320#32
  let v128 : BitVec 32 := Scalar.muli v127 c8320_i32
  ![v38.toNat, v128.toNat]
def k0_off31 (i : grid0.Coords) (k0_t29 : Fin (k0_t29_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c6_i32_4 : BitVec 32 := 6#32
  let v20 : BitVec 32 := Scalar.addi v2 c6_i32_4
  let c1_i32_5 : BitVec 32 := 1#32
  let v21 : BitVec 32 := Scalar.subi v20 c1_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c16_i32_6 : BitVec 32 := 16#32
  let c0_i32_9 : BitVec 32 := 0#32
  let v28 : BitVec 1 := Scalar.cmpi .sgt c16_i32_6 c0_i32_9
  let v29 : BitVec 32 := Scalar.extui v28
  let c0_i32_10 : BitVec 32 := 0#32
  let v30 : BitVec 1 := Scalar.cmpi .slt c16_i32_6 c0_i32_10
  let v31 : BitVec 32 := Scalar.extui v30
  let v32 : BitVec 32 := Scalar.subi v29 v31
  let v33 : BitVec 1 := Scalar.cmpi .ne v27 v32
  let v34 : BitVec 32 := Scalar.remsi v21 c16_i32_6
  let c0_i32_11 : BitVec 32 := 0#32
  let v35 : BitVec 1 := Scalar.cmpi .ne v34 c0_i32_11
  let v36 : BitVec 1 := Scalar.andi v33 v35
  let v22 : BitVec 32 := Scalar.divsi v21 c16_i32_6
  let c1_i32_12 : BitVec 32 := 1#32
  let v37 : BitVec 32 := Scalar.subi v22 c1_i32_12
  let v38 : BitVec 32 := Scalar.select v36 v37 v22
  let c6_i32_15 : BitVec 32 := 6#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let c1_i32_52 : BitVec 32 := 1#32
  let arg12 : BitVec 32 := Scf.iv v42 c1_i32_52 k0_t29
  let v117 : BitVec 32 := Scalar.addi v2 arg12
  let c16_i32_77 : BitVec 32 := 16#32
  let c0_i32_78 : BitVec 32 := 0#32
  let v118 : BitVec 1 := Scalar.cmpi .eq c16_i32_77 c0_i32_78
  let c1_i32_79 : BitVec 32 := 1#32
  let v119 : BitVec 32 := Scalar.select v118 c1_i32_79 c16_i32_77
  let v120 : BitVec 32 := Scalar.remsi v117 v119
  let c0_i32_81 : BitVec 32 := 0#32
  let v122 : BitVec 1 := Scalar.cmpi .slt v120 c0_i32_81
  let c0_i32_82 : BitVec 32 := 0#32
  let v123 : BitVec 1 := Scalar.cmpi .slt v119 c0_i32_82
  let v124 : BitVec 1 := Scalar.xori v122 v123
  let c0_i32_80 : BitVec 32 := 0#32
  let v121 : BitVec 1 := Scalar.cmpi .ne v120 c0_i32_80
  let v125 : BitVec 1 := Scalar.andi v124 v121
  let v126 : BitVec 32 := Scalar.addi v120 v119
  let v127 : BitVec 32 := Scalar.select v125 v126 v120
  let c2176_i32 : BitVec 32 := 2176#32
  let v129 : BitVec 32 := Scalar.muli v127 c2176_i32
  ![v38.toNat, v129.toNat]
@[reducible] def k0_t30_loop : Scf.Loop 32 :=
  let c0_i32_84 : BitVec 32 := 0#32
  let c8_i32 : BitVec 32 := 8#32
  let v130 : BitVec 32 := Scalar.addi c0_i32_84 c8_i32
  let c1_i32_85 : BitVec 32 := 1#32
  ⟨c0_i32_84, v130, c1_i32_85⟩

def k0_chk265 (i : grid0.Coords) (k0_t29 : Fin (k0_t29_loop i).trips) (v145 : IVec S16 32) : Prop :=
  (∀ (k0_h1 : k0_cond1 i = 1#1), ∀ a x, ((![v145] : Fin 1 → IVec S16 32) a x).toNat < S2176.size a)
theorem k0_idx265_inb : ∀ (i : grid0.Coords) (k0_t29 : Fin (k0_t29_loop i).trips) (v145 : IVec S16 32) (k0_hw265 : k0_chk265 i k0_t29 v145), ∀ (k0_h1 : k0_cond1 i = 1#1), ∀ a x, ((![v145] : Fin 1 → IVec S16 32) a x).toNat < S2176.size a := fun i k0_t29 v145 k0_hw265 k0_h1 => k0_hw265 k0_h1

def k0_chk266 (i : grid0.Coords) (k0_t29 : Fin (k0_t29_loop i).trips) (v152 : IVec S16 32) : Prop :=
  (∀ (k0_h1 : k0_cond1 i = 1#1), ∀ a x, ((![v152] : Fin 1 → IVec S16 32) a x).toNat < S2176.size a)
theorem k0_idx266_inb : ∀ (i : grid0.Coords) (k0_t29 : Fin (k0_t29_loop i).trips) (v152 : IVec S16 32) (k0_hw266 : k0_chk266 i k0_t29 v152), ∀ (k0_h1 : k0_cond1 i = 1#1), ∀ a x, ((![v152] : Fin 1 → IVec S16 32) a x).toNat < S2176.size a := fun i k0_t29 v152 k0_hw266 k0_h1 => k0_hw266 k0_h1

def k0_chk267 (i : grid0.Coords) (k0_t29 : Fin (k0_t29_loop i).trips) (v159 : IVec S16 32) : Prop :=
  (∀ (k0_h1 : k0_cond1 i = 1#1), ∀ a x, ((![v159] : Fin 1 → IVec S16 32) a x).toNat < S2176.size a)
theorem k0_idx267_inb : ∀ (i : grid0.Coords) (k0_t29 : Fin (k0_t29_loop i).trips) (v159 : IVec S16 32) (k0_hw267 : k0_chk267 i k0_t29 v159), ∀ (k0_h1 : k0_cond1 i = 1#1), ∀ a x, ((![v159] : Fin 1 → IVec S16 32) a x).toNat < S2176.size a := fun i k0_t29 v159 k0_hw267 k0_h1 => k0_hw267 k0_h1

def k0_chk268 (i : grid0.Coords) (k0_t29 : Fin (k0_t29_loop i).trips) (v166 : IVec S16 32) : Prop :=
  (∀ (k0_h1 : k0_cond1 i = 1#1), ∀ a x, ((![v166] : Fin 1 → IVec S16 32) a x).toNat < S2176.size a)
theorem k0_idx268_inb : ∀ (i : grid0.Coords) (k0_t29 : Fin (k0_t29_loop i).trips) (v166 : IVec S16 32) (k0_hw268 : k0_chk268 i k0_t29 v166), ∀ (k0_h1 : k0_cond1 i = 1#1), ∀ a x, ((![v166] : Fin 1 → IVec S16 32) a x).toNat < S2176.size a := fun i k0_t29 v166 k0_hw268 k0_h1 => k0_hw268 k0_h1

def k0_chk269 (i : grid0.Coords) (k0_t29 : Fin (k0_t29_loop i).trips) (v173 : IVec S16 32) : Prop :=
  (∀ (k0_h1 : k0_cond1 i = 1#1), ∀ a x, ((![v173] : Fin 1 → IVec S16 32) a x).toNat < S2176.size a)
theorem k0_idx269_inb : ∀ (i : grid0.Coords) (k0_t29 : Fin (k0_t29_loop i).trips) (v173 : IVec S16 32) (k0_hw269 : k0_chk269 i k0_t29 v173), ∀ (k0_h1 : k0_cond1 i = 1#1), ∀ a x, ((![v173] : Fin 1 → IVec S16 32) a x).toNat < S2176.size a := fun i k0_t29 v173 k0_hw269 k0_h1 => k0_hw269 k0_h1

def k0_chk270 (i : grid0.Coords) (k0_t29 : Fin (k0_t29_loop i).trips) (v180 : IVec S16 32) : Prop :=
  (∀ (k0_h1 : k0_cond1 i = 1#1), ∀ a x, ((![v180] : Fin 1 → IVec S16 32) a x).toNat < S2176.size a)
theorem k0_idx270_inb : ∀ (i : grid0.Coords) (k0_t29 : Fin (k0_t29_loop i).trips) (v180 : IVec S16 32) (k0_hw270 : k0_chk270 i k0_t29 v180), ∀ (k0_h1 : k0_cond1 i = 1#1), ∀ a x, ((![v180] : Fin 1 → IVec S16 32) a x).toNat < S2176.size a := fun i k0_t29 v180 k0_hw270 k0_h1 => k0_hw270 k0_h1

def k0_chk271 (i : grid0.Coords) (k0_t29 : Fin (k0_t29_loop i).trips) (v187 : IVec S16 32) : Prop :=
  (∀ (k0_h1 : k0_cond1 i = 1#1), ∀ a x, ((![v187] : Fin 1 → IVec S16 32) a x).toNat < S2176.size a)
theorem k0_idx271_inb : ∀ (i : grid0.Coords) (k0_t29 : Fin (k0_t29_loop i).trips) (v187 : IVec S16 32) (k0_hw271 : k0_chk271 i k0_t29 v187), ∀ (k0_h1 : k0_cond1 i = 1#1), ∀ a x, ((![v187] : Fin 1 → IVec S16 32) a x).toNat < S2176.size a := fun i k0_t29 v187 k0_hw271 k0_h1 => k0_hw271 k0_h1

def k0_chk272 (i : grid0.Coords) (k0_t29 : Fin (k0_t29_loop i).trips) (v194 : IVec S16 32) : Prop :=
  (∀ (k0_h1 : k0_cond1 i = 1#1), ∀ a x, ((![v194] : Fin 1 → IVec S16 32) a x).toNat < S2176.size a)
theorem k0_idx272_inb : ∀ (i : grid0.Coords) (k0_t29 : Fin (k0_t29_loop i).trips) (v194 : IVec S16 32) (k0_hw272 : k0_chk272 i k0_t29 v194), ∀ (k0_h1 : k0_cond1 i = 1#1), ∀ a x, ((![v194] : Fin 1 → IVec S16 32) a x).toNat < S2176.size a := fun i k0_t29 v194 k0_hw272 k0_h1 => k0_hw272 k0_h1

def k0_chk273 (i : grid0.Coords) (k0_t29 : Fin (k0_t29_loop i).trips) (v201 : IVec S16 32) : Prop :=
  (∀ (k0_h1 : k0_cond1 i = 1#1), ∀ a x, ((![v201] : Fin 1 → IVec S16 32) a x).toNat < S2176.size a)
theorem k0_idx273_inb : ∀ (i : grid0.Coords) (k0_t29 : Fin (k0_t29_loop i).trips) (v201 : IVec S16 32) (k0_hw273 : k0_chk273 i k0_t29 v201), ∀ (k0_h1 : k0_cond1 i = 1#1), ∀ a x, ((![v201] : Fin 1 → IVec S16 32) a x).toNat < S2176.size a := fun i k0_t29 v201 k0_hw273 k0_h1 => k0_hw273 k0_h1

def k0_chk274 (i : grid0.Coords) (k0_t29 : Fin (k0_t29_loop i).trips) (v208 : IVec S16 32) : Prop :=
  (∀ (k0_h1 : k0_cond1 i = 1#1), ∀ a x, ((![v208] : Fin 1 → IVec S16 32) a x).toNat < S2176.size a)
theorem k0_idx274_inb : ∀ (i : grid0.Coords) (k0_t29 : Fin (k0_t29_loop i).trips) (v208 : IVec S16 32) (k0_hw274 : k0_chk274 i k0_t29 v208), ∀ (k0_h1 : k0_cond1 i = 1#1), ∀ a x, ((![v208] : Fin 1 → IVec S16 32) a x).toNat < S2176.size a := fun i k0_t29 v208 k0_hw274 k0_h1 => k0_hw274 k0_h1

def k0_chk275 (i : grid0.Coords) (k0_t29 : Fin (k0_t29_loop i).trips) (v215 : IVec S16 32) : Prop :=
  (∀ (k0_h1 : k0_cond1 i = 1#1), ∀ a x, ((![v215] : Fin 1 → IVec S16 32) a x).toNat < S2176.size a)
theorem k0_idx275_inb : ∀ (i : grid0.Coords) (k0_t29 : Fin (k0_t29_loop i).trips) (v215 : IVec S16 32) (k0_hw275 : k0_chk275 i k0_t29 v215), ∀ (k0_h1 : k0_cond1 i = 1#1), ∀ a x, ((![v215] : Fin 1 → IVec S16 32) a x).toNat < S2176.size a := fun i k0_t29 v215 k0_hw275 k0_h1 => k0_hw275 k0_h1

def k0_chk276 (i : grid0.Coords) (k0_t29 : Fin (k0_t29_loop i).trips) (v222 : IVec S16 32) : Prop :=
  (∀ (k0_h1 : k0_cond1 i = 1#1), ∀ a x, ((![v222] : Fin 1 → IVec S16 32) a x).toNat < S2176.size a)
theorem k0_idx276_inb : ∀ (i : grid0.Coords) (k0_t29 : Fin (k0_t29_loop i).trips) (v222 : IVec S16 32) (k0_hw276 : k0_chk276 i k0_t29 v222), ∀ (k0_h1 : k0_cond1 i = 1#1), ∀ a x, ((![v222] : Fin 1 → IVec S16 32) a x).toNat < S2176.size a := fun i k0_t29 v222 k0_hw276 k0_h1 => k0_hw276 k0_h1

def k0_chk277 (i : grid0.Coords) (k0_t29 : Fin (k0_t29_loop i).trips) (v229 : IVec S16 32) : Prop :=
  (∀ (k0_h1 : k0_cond1 i = 1#1), ∀ a x, ((![v229] : Fin 1 → IVec S16 32) a x).toNat < S2176.size a)
theorem k0_idx277_inb : ∀ (i : grid0.Coords) (k0_t29 : Fin (k0_t29_loop i).trips) (v229 : IVec S16 32) (k0_hw277 : k0_chk277 i k0_t29 v229), ∀ (k0_h1 : k0_cond1 i = 1#1), ∀ a x, ((![v229] : Fin 1 → IVec S16 32) a x).toNat < S2176.size a := fun i k0_t29 v229 k0_hw277 k0_h1 => k0_hw277 k0_h1

def k0_chk278 (i : grid0.Coords) (k0_t29 : Fin (k0_t29_loop i).trips) (v236 : IVec S16 32) : Prop :=
  (∀ (k0_h1 : k0_cond1 i = 1#1), ∀ a x, ((![v236] : Fin 1 → IVec S16 32) a x).toNat < S2176.size a)
theorem k0_idx278_inb : ∀ (i : grid0.Coords) (k0_t29 : Fin (k0_t29_loop i).trips) (v236 : IVec S16 32) (k0_hw278 : k0_chk278 i k0_t29 v236), ∀ (k0_h1 : k0_cond1 i = 1#1), ∀ a x, ((![v236] : Fin 1 → IVec S16 32) a x).toNat < S2176.size a := fun i k0_t29 v236 k0_hw278 k0_h1 => k0_hw278 k0_h1

def k0_chk279 (i : grid0.Coords) (k0_t29 : Fin (k0_t29_loop i).trips) (v243 : IVec S16 32) : Prop :=
  (∀ (k0_h1 : k0_cond1 i = 1#1), ∀ a x, ((![v243] : Fin 1 → IVec S16 32) a x).toNat < S2176.size a)
theorem k0_idx279_inb : ∀ (i : grid0.Coords) (k0_t29 : Fin (k0_t29_loop i).trips) (v243 : IVec S16 32) (k0_hw279 : k0_chk279 i k0_t29 v243), ∀ (k0_h1 : k0_cond1 i = 1#1), ∀ a x, ((![v243] : Fin 1 → IVec S16 32) a x).toNat < S2176.size a := fun i k0_t29 v243 k0_hw279 k0_h1 => k0_hw279 k0_h1

def k0_chk280 (i : grid0.Coords) (k0_t29 : Fin (k0_t29_loop i).trips) (v250 : IVec S16 32) : Prop :=
  (∀ (k0_h1 : k0_cond1 i = 1#1), ∀ a x, ((![v250] : Fin 1 → IVec S16 32) a x).toNat < S2176.size a)
theorem k0_idx280_inb : ∀ (i : grid0.Coords) (k0_t29 : Fin (k0_t29_loop i).trips) (v250 : IVec S16 32) (k0_hw280 : k0_chk280 i k0_t29 v250), ∀ (k0_h1 : k0_cond1 i = 1#1), ∀ a x, ((![v250] : Fin 1 → IVec S16 32) a x).toNat < S2176.size a := fun i k0_t29 v250 k0_hw280 k0_h1 => k0_hw280 k0_h1
@[reducible] def k0_t31_loop : Scf.Loop 32 :=
  let c0_i32_142 : BitVec 32 := 0#32
  let c32_i32 : BitVec 32 := 32#32
  let v270 : BitVec 32 := Scalar.addi c0_i32_142 c32_i32
  let c1_i32_143 : BitVec 32 := 1#32
  ⟨c0_i32_142, v270, c1_i32_143⟩

def k0_chk281 (i : grid0.Coords) (k0_t29 : Fin (k0_t29_loop i).trips) (v321 : IVec S16 32) : Prop :=
  (∀ (k0_h1 : k0_cond1 i = 1#1), ∀ a x, ((![v321] : Fin 1 → IVec S16 32) a x).toNat < S8320.size a)
theorem k0_idx281_inb : ∀ (i : grid0.Coords) (k0_t29 : Fin (k0_t29_loop i).trips) (v321 : IVec S16 32) (k0_hw281 : k0_chk281 i k0_t29 v321), ∀ (k0_h1 : k0_cond1 i = 1#1), ∀ a x, ((![v321] : Fin 1 → IVec S16 32) a x).toNat < S8320.size a := fun i k0_t29 v321 k0_hw281 k0_h1 => k0_hw281 k0_h1

def k0_chk282 (i : grid0.Coords) (k0_t29 : Fin (k0_t29_loop i).trips) (v324 : IVec S16 32) : Prop :=
  (∀ (k0_h1 : k0_cond1 i = 1#1), ∀ a x, ((![v324] : Fin 1 → IVec S16 32) a x).toNat < S67584.size a)
theorem k0_idx282_inb : ∀ (i : grid0.Coords) (k0_t29 : Fin (k0_t29_loop i).trips) (v324 : IVec S16 32) (k0_hw282 : k0_chk282 i k0_t29 v324), ∀ (k0_h1 : k0_cond1 i = 1#1), ∀ a x, ((![v324] : Fin 1 → IVec S16 32) a x).toNat < S67584.size a := fun i k0_t29 v324 k0_hw282 k0_h1 => k0_hw282 k0_h1

def k0_chk283 (i : grid0.Coords) (k0_t29 : Fin (k0_t29_loop i).trips) (v329 : IVec S16 32) : Prop :=
  (∀ (k0_h1 : k0_cond1 i = 1#1), ∀ a x, ((![v329] : Fin 1 → IVec S16 32) a x).toNat < S67584.size a)
theorem k0_idx283_inb : ∀ (i : grid0.Coords) (k0_t29 : Fin (k0_t29_loop i).trips) (v329 : IVec S16 32) (k0_hw283 : k0_chk283 i k0_t29 v329), ∀ (k0_h1 : k0_cond1 i = 1#1), ∀ a x, ((![v329] : Fin 1 → IVec S16 32) a x).toNat < S67584.size a := fun i k0_t29 v329 k0_hw283 k0_h1 => k0_hw283 k0_h1

def k0_chk284 (i : grid0.Coords) (k0_t29 : Fin (k0_t29_loop i).trips) (v334 : IVec S16 32) : Prop :=
  (∀ (k0_h1 : k0_cond1 i = 1#1), ∀ a x, ((![v334] : Fin 1 → IVec S16 32) a x).toNat < S67584.size a)
theorem k0_idx284_inb : ∀ (i : grid0.Coords) (k0_t29 : Fin (k0_t29_loop i).trips) (v334 : IVec S16 32) (k0_hw284 : k0_chk284 i k0_t29 v334), ∀ (k0_h1 : k0_cond1 i = 1#1), ∀ a x, ((![v334] : Fin 1 → IVec S16 32) a x).toNat < S67584.size a := fun i k0_t29 v334 k0_hw284 k0_h1 => k0_hw284 k0_h1

def k0_chk285 (i : grid0.Coords) (k0_t29 : Fin (k0_t29_loop i).trips) (v339 : IVec S16 32) : Prop :=
  (∀ (k0_h1 : k0_cond1 i = 1#1), ∀ a x, ((![v339] : Fin 1 → IVec S16 32) a x).toNat < S67584.size a)
theorem k0_idx285_inb : ∀ (i : grid0.Coords) (k0_t29 : Fin (k0_t29_loop i).trips) (v339 : IVec S16 32) (k0_hw285 : k0_chk285 i k0_t29 v339), ∀ (k0_h1 : k0_cond1 i = 1#1), ∀ a x, ((![v339] : Fin 1 → IVec S16 32) a x).toNat < S67584.size a := fun i k0_t29 v339 k0_hw285 k0_h1 => k0_hw285 k0_h1

def k0_chk286 (i : grid0.Coords) (k0_t29 : Fin (k0_t29_loop i).trips) (v344 : IVec S16 32) : Prop :=
  (∀ (k0_h1 : k0_cond1 i = 1#1), ∀ a x, ((![v344] : Fin 1 → IVec S16 32) a x).toNat < S67584.size a)
theorem k0_idx286_inb : ∀ (i : grid0.Coords) (k0_t29 : Fin (k0_t29_loop i).trips) (v344 : IVec S16 32) (k0_hw286 : k0_chk286 i k0_t29 v344), ∀ (k0_h1 : k0_cond1 i = 1#1), ∀ a x, ((![v344] : Fin 1 → IVec S16 32) a x).toNat < S67584.size a := fun i k0_t29 v344 k0_hw286 k0_h1 => k0_hw286 k0_h1

def k0_chk287 (i : grid0.Coords) (k0_t29 : Fin (k0_t29_loop i).trips) (v349 : IVec S16 32) : Prop :=
  (∀ (k0_h1 : k0_cond1 i = 1#1), ∀ a x, ((![v349] : Fin 1 → IVec S16 32) a x).toNat < S67584.size a)
theorem k0_idx287_inb : ∀ (i : grid0.Coords) (k0_t29 : Fin (k0_t29_loop i).trips) (v349 : IVec S16 32) (k0_hw287 : k0_chk287 i k0_t29 v349), ∀ (k0_h1 : k0_cond1 i = 1#1), ∀ a x, ((![v349] : Fin 1 → IVec S16 32) a x).toNat < S67584.size a := fun i k0_t29 v349 k0_hw287 k0_h1 => k0_hw287 k0_h1

def k0_chk288 (i : grid0.Coords) (k0_t29 : Fin (k0_t29_loop i).trips) (v354 : IVec S16 32) : Prop :=
  (∀ (k0_h1 : k0_cond1 i = 1#1), ∀ a x, ((![v354] : Fin 1 → IVec S16 32) a x).toNat < S67584.size a)
theorem k0_idx288_inb : ∀ (i : grid0.Coords) (k0_t29 : Fin (k0_t29_loop i).trips) (v354 : IVec S16 32) (k0_hw288 : k0_chk288 i k0_t29 v354), ∀ (k0_h1 : k0_cond1 i = 1#1), ∀ a x, ((![v354] : Fin 1 → IVec S16 32) a x).toNat < S67584.size a := fun i k0_t29 v354 k0_hw288 k0_h1 => k0_hw288 k0_h1

def k0_chk289 (i : grid0.Coords) (k0_t29 : Fin (k0_t29_loop i).trips) (v359 : IVec S16 32) : Prop :=
  (∀ (k0_h1 : k0_cond1 i = 1#1), ∀ a x, ((![v359] : Fin 1 → IVec S16 32) a x).toNat < S67584.size a)
theorem k0_idx289_inb : ∀ (i : grid0.Coords) (k0_t29 : Fin (k0_t29_loop i).trips) (v359 : IVec S16 32) (k0_hw289 : k0_chk289 i k0_t29 v359), ∀ (k0_h1 : k0_cond1 i = 1#1), ∀ a x, ((![v359] : Fin 1 → IVec S16 32) a x).toNat < S67584.size a := fun i k0_t29 v359 k0_hw289 k0_h1 => k0_hw289 k0_h1

def k0_chk290 (i : grid0.Coords) (k0_t29 : Fin (k0_t29_loop i).trips) (v364 : IVec S16 32) : Prop :=
  (∀ (k0_h1 : k0_cond1 i = 1#1), ∀ a x, ((![v364] : Fin 1 → IVec S16 32) a x).toNat < S67584.size a)
theorem k0_idx290_inb : ∀ (i : grid0.Coords) (k0_t29 : Fin (k0_t29_loop i).trips) (v364 : IVec S16 32) (k0_hw290 : k0_chk290 i k0_t29 v364), ∀ (k0_h1 : k0_cond1 i = 1#1), ∀ a x, ((![v364] : Fin 1 → IVec S16 32) a x).toNat < S67584.size a := fun i k0_t29 v364 k0_hw290 k0_h1 => k0_hw290 k0_h1

def k0_chk291 (i : grid0.Coords) (k0_t29 : Fin (k0_t29_loop i).trips) (v369 : IVec S16 32) : Prop :=
  (∀ (k0_h1 : k0_cond1 i = 1#1), ∀ a x, ((![v369] : Fin 1 → IVec S16 32) a x).toNat < S67584.size a)
theorem k0_idx291_inb : ∀ (i : grid0.Coords) (k0_t29 : Fin (k0_t29_loop i).trips) (v369 : IVec S16 32) (k0_hw291 : k0_chk291 i k0_t29 v369), ∀ (k0_h1 : k0_cond1 i = 1#1), ∀ a x, ((![v369] : Fin 1 → IVec S16 32) a x).toNat < S67584.size a := fun i k0_t29 v369 k0_hw291 k0_h1 => k0_hw291 k0_h1

def k0_chk292 (i : grid0.Coords) (k0_t29 : Fin (k0_t29_loop i).trips) (v374 : IVec S16 32) : Prop :=
  (∀ (k0_h1 : k0_cond1 i = 1#1), ∀ a x, ((![v374] : Fin 1 → IVec S16 32) a x).toNat < S67584.size a)
theorem k0_idx292_inb : ∀ (i : grid0.Coords) (k0_t29 : Fin (k0_t29_loop i).trips) (v374 : IVec S16 32) (k0_hw292 : k0_chk292 i k0_t29 v374), ∀ (k0_h1 : k0_cond1 i = 1#1), ∀ a x, ((![v374] : Fin 1 → IVec S16 32) a x).toNat < S67584.size a := fun i k0_t29 v374 k0_hw292 k0_h1 => k0_hw292 k0_h1

def k0_chk293 (i : grid0.Coords) (k0_t29 : Fin (k0_t29_loop i).trips) (v379 : IVec S16 32) : Prop :=
  (∀ (k0_h1 : k0_cond1 i = 1#1), ∀ a x, ((![v379] : Fin 1 → IVec S16 32) a x).toNat < S67584.size a)
theorem k0_idx293_inb : ∀ (i : grid0.Coords) (k0_t29 : Fin (k0_t29_loop i).trips) (v379 : IVec S16 32) (k0_hw293 : k0_chk293 i k0_t29 v379), ∀ (k0_h1 : k0_cond1 i = 1#1), ∀ a x, ((![v379] : Fin 1 → IVec S16 32) a x).toNat < S67584.size a := fun i k0_t29 v379 k0_hw293 k0_h1 => k0_hw293 k0_h1

def k0_chk294 (i : grid0.Coords) (k0_t29 : Fin (k0_t29_loop i).trips) (v384 : IVec S16 32) : Prop :=
  (∀ (k0_h1 : k0_cond1 i = 1#1), ∀ a x, ((![v384] : Fin 1 → IVec S16 32) a x).toNat < S67584.size a)
theorem k0_idx294_inb : ∀ (i : grid0.Coords) (k0_t29 : Fin (k0_t29_loop i).trips) (v384 : IVec S16 32) (k0_hw294 : k0_chk294 i k0_t29 v384), ∀ (k0_h1 : k0_cond1 i = 1#1), ∀ a x, ((![v384] : Fin 1 → IVec S16 32) a x).toNat < S67584.size a := fun i k0_t29 v384 k0_hw294 k0_h1 => k0_hw294 k0_h1

def k0_chk295 (i : grid0.Coords) (k0_t29 : Fin (k0_t29_loop i).trips) (v389 : IVec S16 32) : Prop :=
  (∀ (k0_h1 : k0_cond1 i = 1#1), ∀ a x, ((![v389] : Fin 1 → IVec S16 32) a x).toNat < S67584.size a)
theorem k0_idx295_inb : ∀ (i : grid0.Coords) (k0_t29 : Fin (k0_t29_loop i).trips) (v389 : IVec S16 32) (k0_hw295 : k0_chk295 i k0_t29 v389), ∀ (k0_h1 : k0_cond1 i = 1#1), ∀ a x, ((![v389] : Fin 1 → IVec S16 32) a x).toNat < S67584.size a := fun i k0_t29 v389 k0_hw295 k0_h1 => k0_hw295 k0_h1

def k0_chk296 (i : grid0.Coords) (k0_t29 : Fin (k0_t29_loop i).trips) (v394 : IVec S16 32) : Prop :=
  (∀ (k0_h1 : k0_cond1 i = 1#1), ∀ a x, ((![v394] : Fin 1 → IVec S16 32) a x).toNat < S67584.size a)
theorem k0_idx296_inb : ∀ (i : grid0.Coords) (k0_t29 : Fin (k0_t29_loop i).trips) (v394 : IVec S16 32) (k0_hw296 : k0_chk296 i k0_t29 v394), ∀ (k0_h1 : k0_cond1 i = 1#1), ∀ a x, ((![v394] : Fin 1 → IVec S16 32) a x).toNat < S67584.size a := fun i k0_t29 v394 k0_hw296 k0_h1 => k0_hw296 k0_h1

def k0_chk297 (i : grid0.Coords) (k0_t29 : Fin (k0_t29_loop i).trips) (v399 : IVec S16 32) : Prop :=
  (∀ (k0_h1 : k0_cond1 i = 1#1), ∀ a x, ((![v399] : Fin 1 → IVec S16 32) a x).toNat < S67584.size a)
theorem k0_idx297_inb : ∀ (i : grid0.Coords) (k0_t29 : Fin (k0_t29_loop i).trips) (v399 : IVec S16 32) (k0_hw297 : k0_chk297 i k0_t29 v399), ∀ (k0_h1 : k0_cond1 i = 1#1), ∀ a x, ((![v399] : Fin 1 → IVec S16 32) a x).toNat < S67584.size a := fun i k0_t29 v399 k0_hw297 k0_h1 => k0_hw297 k0_h1
def k0_off32 (i : grid0.Coords) (k0_t29 : Fin (k0_t29_loop i).trips) (k0_t30 : Fin k0_t30_loop.trips) (c0_i32_145 : BitVec 32) : Fin 1 → Nat :=
  let c6_i32_15 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let c1_i32_52 : BitVec 32 := 1#32
  let arg12 : BitVec 32 := Scf.iv v42 c1_i32_52 k0_t29
  let c128_i32 : BitVec 32 := 128#32
  let v139 : BitVec 32 := Scalar.muli arg12 c128_i32
  let c0_i32_84 : BitVec 32 := 0#32
  let c1_i32_85 : BitVec 32 := 1#32
  let arg14 : BitVec 32 := Scf.iv c0_i32_84 c1_i32_85 k0_t30
  let c16_i32_90 : BitVec 32 := 16#32
  let v140 : BitVec 32 := Scalar.muli arg14 c16_i32_90
  let v141 : BitVec 32 := Scalar.addi v139 v140
  let v272 : BitVec 32 := Scalar.addi c0_i32_145 v141
  let v273 : Index := Scalar.indexCast v272
  ![v273.toNat]
@[reducible] def k0_t32_loop (i : grid0.Coords) : Scf.Loop 32 :=
  let c6_i32_15 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let c6_i32_49 : BitVec 32 := 6#32
  let v82 : BitVec 32 := Scalar.subi c6_i32_49 v42
  let c1_i32_51 : BitVec 32 := 1#32
  let v84 : BitVec 32 := Scalar.divsi v82 c1_i32_51
  let v85 : BitVec 32 := Scalar.muli v84 c1_i32_51
  let v86 : BitVec 32 := Scalar.addi v42 v85
  let v83 : BitVec 32 := Scalar.addi v42 v82
  let c1_i32_53 : BitVec 32 := 1#32
  ⟨v86, v83, c1_i32_53⟩
def k0_off33 (i : grid0.Coords) (k0_t32 : Fin (k0_t32_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c6_i32_4 : BitVec 32 := 6#32
  let v20 : BitVec 32 := Scalar.addi v2 c6_i32_4
  let c1_i32_5 : BitVec 32 := 1#32
  let v21 : BitVec 32 := Scalar.subi v20 c1_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c16_i32_6 : BitVec 32 := 16#32
  let c0_i32_9 : BitVec 32 := 0#32
  let v28 : BitVec 1 := Scalar.cmpi .sgt c16_i32_6 c0_i32_9
  let v29 : BitVec 32 := Scalar.extui v28
  let c0_i32_10 : BitVec 32 := 0#32
  let v30 : BitVec 1 := Scalar.cmpi .slt c16_i32_6 c0_i32_10
  let v31 : BitVec 32 := Scalar.extui v30
  let v32 : BitVec 32 := Scalar.subi v29 v31
  let v33 : BitVec 1 := Scalar.cmpi .ne v27 v32
  let v34 : BitVec 32 := Scalar.remsi v21 c16_i32_6
  let c0_i32_11 : BitVec 32 := 0#32
  let v35 : BitVec 1 := Scalar.cmpi .ne v34 c0_i32_11
  let v36 : BitVec 1 := Scalar.andi v33 v35
  let v22 : BitVec 32 := Scalar.divsi v21 c16_i32_6
  let c1_i32_12 : BitVec 32 := 1#32
  let v37 : BitVec 32 := Scalar.subi v22 c1_i32_12
  let v38 : BitVec 32 := Scalar.select v36 v37 v22
  let c6_i32_15 : BitVec 32 := 6#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let c6_i32_49 : BitVec 32 := 6#32
  let v82 : BitVec 32 := Scalar.subi c6_i32_49 v42
  let c1_i32_51 : BitVec 32 := 1#32
  let v84 : BitVec 32 := Scalar.divsi v82 c1_i32_51
  let v85 : BitVec 32 := Scalar.muli v84 c1_i32_51
  let v86 : BitVec 32 := Scalar.addi v42 v85
  let c1_i32_53 : BitVec 32 := 1#32
  let arg12 : BitVec 32 := Scf.iv v86 c1_i32_53 k0_t32
  let v117 : BitVec 32 := Scalar.addi v2 arg12
  let c16_i32_77 : BitVec 32 := 16#32
  let c0_i32_78 : BitVec 32 := 0#32
  let v118 : BitVec 1 := Scalar.cmpi .eq c16_i32_77 c0_i32_78
  let c1_i32_79 : BitVec 32 := 1#32
  let v119 : BitVec 32 := Scalar.select v118 c1_i32_79 c16_i32_77
  let v120 : BitVec 32 := Scalar.remsi v117 v119
  let c0_i32_81 : BitVec 32 := 0#32
  let v122 : BitVec 1 := Scalar.cmpi .slt v120 c0_i32_81
  let c0_i32_82 : BitVec 32 := 0#32
  let v123 : BitVec 1 := Scalar.cmpi .slt v119 c0_i32_82
  let v124 : BitVec 1 := Scalar.xori v122 v123
  let c0_i32_80 : BitVec 32 := 0#32
  let v121 : BitVec 1 := Scalar.cmpi .ne v120 c0_i32_80
  let v125 : BitVec 1 := Scalar.andi v124 v121
  let v126 : BitVec 32 := Scalar.addi v120 v119
  let v127 : BitVec 32 := Scalar.select v125 v126 v120
  let c8320_i32 : BitVec 32 := 8320#32
  let v128 : BitVec 32 := Scalar.muli v127 c8320_i32
  ![v38.toNat, v128.toNat]
def k0_off34 (i : grid0.Coords) (k0_t32 : Fin (k0_t32_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c6_i32_4 : BitVec 32 := 6#32
  let v20 : BitVec 32 := Scalar.addi v2 c6_i32_4
  let c1_i32_5 : BitVec 32 := 1#32
  let v21 : BitVec 32 := Scalar.subi v20 c1_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c16_i32_6 : BitVec 32 := 16#32
  let c0_i32_9 : BitVec 32 := 0#32
  let v28 : BitVec 1 := Scalar.cmpi .sgt c16_i32_6 c0_i32_9
  let v29 : BitVec 32 := Scalar.extui v28
  let c0_i32_10 : BitVec 32 := 0#32
  let v30 : BitVec 1 := Scalar.cmpi .slt c16_i32_6 c0_i32_10
  let v31 : BitVec 32 := Scalar.extui v30
  let v32 : BitVec 32 := Scalar.subi v29 v31
  let v33 : BitVec 1 := Scalar.cmpi .ne v27 v32
  let v34 : BitVec 32 := Scalar.remsi v21 c16_i32_6
  let c0_i32_11 : BitVec 32 := 0#32
  let v35 : BitVec 1 := Scalar.cmpi .ne v34 c0_i32_11
  let v36 : BitVec 1 := Scalar.andi v33 v35
  let v22 : BitVec 32 := Scalar.divsi v21 c16_i32_6
  let c1_i32_12 : BitVec 32 := 1#32
  let v37 : BitVec 32 := Scalar.subi v22 c1_i32_12
  let v38 : BitVec 32 := Scalar.select v36 v37 v22
  let c6_i32_15 : BitVec 32 := 6#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let c6_i32_49 : BitVec 32 := 6#32
  let v82 : BitVec 32 := Scalar.subi c6_i32_49 v42
  let c1_i32_51 : BitVec 32 := 1#32
  let v84 : BitVec 32 := Scalar.divsi v82 c1_i32_51
  let v85 : BitVec 32 := Scalar.muli v84 c1_i32_51
  let v86 : BitVec 32 := Scalar.addi v42 v85
  let c1_i32_53 : BitVec 32 := 1#32
  let arg12 : BitVec 32 := Scf.iv v86 c1_i32_53 k0_t32
  let v117 : BitVec 32 := Scalar.addi v2 arg12
  let c16_i32_77 : BitVec 32 := 16#32
  let c0_i32_78 : BitVec 32 := 0#32
  let v118 : BitVec 1 := Scalar.cmpi .eq c16_i32_77 c0_i32_78
  let c1_i32_79 : BitVec 32 := 1#32
  let v119 : BitVec 32 := Scalar.select v118 c1_i32_79 c16_i32_77
  let v120 : BitVec 32 := Scalar.remsi v117 v119
  let c0_i32_81 : BitVec 32 := 0#32
  let v122 : BitVec 1 := Scalar.cmpi .slt v120 c0_i32_81
  let c0_i32_82 : BitVec 32 := 0#32
  let v123 : BitVec 1 := Scalar.cmpi .slt v119 c0_i32_82
  let v124 : BitVec 1 := Scalar.xori v122 v123
  let c0_i32_80 : BitVec 32 := 0#32
  let v121 : BitVec 1 := Scalar.cmpi .ne v120 c0_i32_80
  let v125 : BitVec 1 := Scalar.andi v124 v121
  let v126 : BitVec 32 := Scalar.addi v120 v119
  let v127 : BitVec 32 := Scalar.select v125 v126 v120
  let c2176_i32 : BitVec 32 := 2176#32
  let v129 : BitVec 32 := Scalar.muli v127 c2176_i32
  ![v38.toNat, v129.toNat]
@[reducible] def k0_t33_loop : Scf.Loop 32 :=
  let c0_i32_84 : BitVec 32 := 0#32
  let c8_i32 : BitVec 32 := 8#32
  let v130 : BitVec 32 := Scalar.addi c0_i32_84 c8_i32
  let c1_i32_85 : BitVec 32 := 1#32
  ⟨c0_i32_84, v130, c1_i32_85⟩

def k0_chk298 (i : grid0.Coords) (k0_t32 : Fin (k0_t32_loop i).trips) (v145 : IVec S16 32) : Prop :=
  (∀ (k0_h1 : k0_cond1 i = 1#1), ∀ a x, ((![v145] : Fin 1 → IVec S16 32) a x).toNat < S2176.size a)
theorem k0_idx298_inb : ∀ (i : grid0.Coords) (k0_t32 : Fin (k0_t32_loop i).trips) (v145 : IVec S16 32) (k0_hw298 : k0_chk298 i k0_t32 v145), ∀ (k0_h1 : k0_cond1 i = 1#1), ∀ a x, ((![v145] : Fin 1 → IVec S16 32) a x).toNat < S2176.size a := fun i k0_t32 v145 k0_hw298 k0_h1 => k0_hw298 k0_h1

def k0_chk299 (i : grid0.Coords) (k0_t32 : Fin (k0_t32_loop i).trips) (v152 : IVec S16 32) : Prop :=
  (∀ (k0_h1 : k0_cond1 i = 1#1), ∀ a x, ((![v152] : Fin 1 → IVec S16 32) a x).toNat < S2176.size a)
theorem k0_idx299_inb : ∀ (i : grid0.Coords) (k0_t32 : Fin (k0_t32_loop i).trips) (v152 : IVec S16 32) (k0_hw299 : k0_chk299 i k0_t32 v152), ∀ (k0_h1 : k0_cond1 i = 1#1), ∀ a x, ((![v152] : Fin 1 → IVec S16 32) a x).toNat < S2176.size a := fun i k0_t32 v152 k0_hw299 k0_h1 => k0_hw299 k0_h1

def k0_chk300 (i : grid0.Coords) (k0_t32 : Fin (k0_t32_loop i).trips) (v159 : IVec S16 32) : Prop :=
  (∀ (k0_h1 : k0_cond1 i = 1#1), ∀ a x, ((![v159] : Fin 1 → IVec S16 32) a x).toNat < S2176.size a)
theorem k0_idx300_inb : ∀ (i : grid0.Coords) (k0_t32 : Fin (k0_t32_loop i).trips) (v159 : IVec S16 32) (k0_hw300 : k0_chk300 i k0_t32 v159), ∀ (k0_h1 : k0_cond1 i = 1#1), ∀ a x, ((![v159] : Fin 1 → IVec S16 32) a x).toNat < S2176.size a := fun i k0_t32 v159 k0_hw300 k0_h1 => k0_hw300 k0_h1

def k0_chk301 (i : grid0.Coords) (k0_t32 : Fin (k0_t32_loop i).trips) (v166 : IVec S16 32) : Prop :=
  (∀ (k0_h1 : k0_cond1 i = 1#1), ∀ a x, ((![v166] : Fin 1 → IVec S16 32) a x).toNat < S2176.size a)
theorem k0_idx301_inb : ∀ (i : grid0.Coords) (k0_t32 : Fin (k0_t32_loop i).trips) (v166 : IVec S16 32) (k0_hw301 : k0_chk301 i k0_t32 v166), ∀ (k0_h1 : k0_cond1 i = 1#1), ∀ a x, ((![v166] : Fin 1 → IVec S16 32) a x).toNat < S2176.size a := fun i k0_t32 v166 k0_hw301 k0_h1 => k0_hw301 k0_h1

def k0_chk302 (i : grid0.Coords) (k0_t32 : Fin (k0_t32_loop i).trips) (v173 : IVec S16 32) : Prop :=
  (∀ (k0_h1 : k0_cond1 i = 1#1), ∀ a x, ((![v173] : Fin 1 → IVec S16 32) a x).toNat < S2176.size a)
theorem k0_idx302_inb : ∀ (i : grid0.Coords) (k0_t32 : Fin (k0_t32_loop i).trips) (v173 : IVec S16 32) (k0_hw302 : k0_chk302 i k0_t32 v173), ∀ (k0_h1 : k0_cond1 i = 1#1), ∀ a x, ((![v173] : Fin 1 → IVec S16 32) a x).toNat < S2176.size a := fun i k0_t32 v173 k0_hw302 k0_h1 => k0_hw302 k0_h1

def k0_chk303 (i : grid0.Coords) (k0_t32 : Fin (k0_t32_loop i).trips) (v180 : IVec S16 32) : Prop :=
  (∀ (k0_h1 : k0_cond1 i = 1#1), ∀ a x, ((![v180] : Fin 1 → IVec S16 32) a x).toNat < S2176.size a)
theorem k0_idx303_inb : ∀ (i : grid0.Coords) (k0_t32 : Fin (k0_t32_loop i).trips) (v180 : IVec S16 32) (k0_hw303 : k0_chk303 i k0_t32 v180), ∀ (k0_h1 : k0_cond1 i = 1#1), ∀ a x, ((![v180] : Fin 1 → IVec S16 32) a x).toNat < S2176.size a := fun i k0_t32 v180 k0_hw303 k0_h1 => k0_hw303 k0_h1

def k0_chk304 (i : grid0.Coords) (k0_t32 : Fin (k0_t32_loop i).trips) (v187 : IVec S16 32) : Prop :=
  (∀ (k0_h1 : k0_cond1 i = 1#1), ∀ a x, ((![v187] : Fin 1 → IVec S16 32) a x).toNat < S2176.size a)
theorem k0_idx304_inb : ∀ (i : grid0.Coords) (k0_t32 : Fin (k0_t32_loop i).trips) (v187 : IVec S16 32) (k0_hw304 : k0_chk304 i k0_t32 v187), ∀ (k0_h1 : k0_cond1 i = 1#1), ∀ a x, ((![v187] : Fin 1 → IVec S16 32) a x).toNat < S2176.size a := fun i k0_t32 v187 k0_hw304 k0_h1 => k0_hw304 k0_h1

def k0_chk305 (i : grid0.Coords) (k0_t32 : Fin (k0_t32_loop i).trips) (v194 : IVec S16 32) : Prop :=
  (∀ (k0_h1 : k0_cond1 i = 1#1), ∀ a x, ((![v194] : Fin 1 → IVec S16 32) a x).toNat < S2176.size a)
theorem k0_idx305_inb : ∀ (i : grid0.Coords) (k0_t32 : Fin (k0_t32_loop i).trips) (v194 : IVec S16 32) (k0_hw305 : k0_chk305 i k0_t32 v194), ∀ (k0_h1 : k0_cond1 i = 1#1), ∀ a x, ((![v194] : Fin 1 → IVec S16 32) a x).toNat < S2176.size a := fun i k0_t32 v194 k0_hw305 k0_h1 => k0_hw305 k0_h1

def k0_chk306 (i : grid0.Coords) (k0_t32 : Fin (k0_t32_loop i).trips) (v201 : IVec S16 32) : Prop :=
  (∀ (k0_h1 : k0_cond1 i = 1#1), ∀ a x, ((![v201] : Fin 1 → IVec S16 32) a x).toNat < S2176.size a)
theorem k0_idx306_inb : ∀ (i : grid0.Coords) (k0_t32 : Fin (k0_t32_loop i).trips) (v201 : IVec S16 32) (k0_hw306 : k0_chk306 i k0_t32 v201), ∀ (k0_h1 : k0_cond1 i = 1#1), ∀ a x, ((![v201] : Fin 1 → IVec S16 32) a x).toNat < S2176.size a := fun i k0_t32 v201 k0_hw306 k0_h1 => k0_hw306 k0_h1

def k0_chk307 (i : grid0.Coords) (k0_t32 : Fin (k0_t32_loop i).trips) (v208 : IVec S16 32) : Prop :=
  (∀ (k0_h1 : k0_cond1 i = 1#1), ∀ a x, ((![v208] : Fin 1 → IVec S16 32) a x).toNat < S2176.size a)
theorem k0_idx307_inb : ∀ (i : grid0.Coords) (k0_t32 : Fin (k0_t32_loop i).trips) (v208 : IVec S16 32) (k0_hw307 : k0_chk307 i k0_t32 v208), ∀ (k0_h1 : k0_cond1 i = 1#1), ∀ a x, ((![v208] : Fin 1 → IVec S16 32) a x).toNat < S2176.size a := fun i k0_t32 v208 k0_hw307 k0_h1 => k0_hw307 k0_h1

def k0_chk308 (i : grid0.Coords) (k0_t32 : Fin (k0_t32_loop i).trips) (v215 : IVec S16 32) : Prop :=
  (∀ (k0_h1 : k0_cond1 i = 1#1), ∀ a x, ((![v215] : Fin 1 → IVec S16 32) a x).toNat < S2176.size a)
theorem k0_idx308_inb : ∀ (i : grid0.Coords) (k0_t32 : Fin (k0_t32_loop i).trips) (v215 : IVec S16 32) (k0_hw308 : k0_chk308 i k0_t32 v215), ∀ (k0_h1 : k0_cond1 i = 1#1), ∀ a x, ((![v215] : Fin 1 → IVec S16 32) a x).toNat < S2176.size a := fun i k0_t32 v215 k0_hw308 k0_h1 => k0_hw308 k0_h1

def k0_chk309 (i : grid0.Coords) (k0_t32 : Fin (k0_t32_loop i).trips) (v222 : IVec S16 32) : Prop :=
  (∀ (k0_h1 : k0_cond1 i = 1#1), ∀ a x, ((![v222] : Fin 1 → IVec S16 32) a x).toNat < S2176.size a)
theorem k0_idx309_inb : ∀ (i : grid0.Coords) (k0_t32 : Fin (k0_t32_loop i).trips) (v222 : IVec S16 32) (k0_hw309 : k0_chk309 i k0_t32 v222), ∀ (k0_h1 : k0_cond1 i = 1#1), ∀ a x, ((![v222] : Fin 1 → IVec S16 32) a x).toNat < S2176.size a := fun i k0_t32 v222 k0_hw309 k0_h1 => k0_hw309 k0_h1

def k0_chk310 (i : grid0.Coords) (k0_t32 : Fin (k0_t32_loop i).trips) (v229 : IVec S16 32) : Prop :=
  (∀ (k0_h1 : k0_cond1 i = 1#1), ∀ a x, ((![v229] : Fin 1 → IVec S16 32) a x).toNat < S2176.size a)
theorem k0_idx310_inb : ∀ (i : grid0.Coords) (k0_t32 : Fin (k0_t32_loop i).trips) (v229 : IVec S16 32) (k0_hw310 : k0_chk310 i k0_t32 v229), ∀ (k0_h1 : k0_cond1 i = 1#1), ∀ a x, ((![v229] : Fin 1 → IVec S16 32) a x).toNat < S2176.size a := fun i k0_t32 v229 k0_hw310 k0_h1 => k0_hw310 k0_h1

def k0_chk311 (i : grid0.Coords) (k0_t32 : Fin (k0_t32_loop i).trips) (v236 : IVec S16 32) : Prop :=
  (∀ (k0_h1 : k0_cond1 i = 1#1), ∀ a x, ((![v236] : Fin 1 → IVec S16 32) a x).toNat < S2176.size a)
theorem k0_idx311_inb : ∀ (i : grid0.Coords) (k0_t32 : Fin (k0_t32_loop i).trips) (v236 : IVec S16 32) (k0_hw311 : k0_chk311 i k0_t32 v236), ∀ (k0_h1 : k0_cond1 i = 1#1), ∀ a x, ((![v236] : Fin 1 → IVec S16 32) a x).toNat < S2176.size a := fun i k0_t32 v236 k0_hw311 k0_h1 => k0_hw311 k0_h1

def k0_chk312 (i : grid0.Coords) (k0_t32 : Fin (k0_t32_loop i).trips) (v243 : IVec S16 32) : Prop :=
  (∀ (k0_h1 : k0_cond1 i = 1#1), ∀ a x, ((![v243] : Fin 1 → IVec S16 32) a x).toNat < S2176.size a)
theorem k0_idx312_inb : ∀ (i : grid0.Coords) (k0_t32 : Fin (k0_t32_loop i).trips) (v243 : IVec S16 32) (k0_hw312 : k0_chk312 i k0_t32 v243), ∀ (k0_h1 : k0_cond1 i = 1#1), ∀ a x, ((![v243] : Fin 1 → IVec S16 32) a x).toNat < S2176.size a := fun i k0_t32 v243 k0_hw312 k0_h1 => k0_hw312 k0_h1

def k0_chk313 (i : grid0.Coords) (k0_t32 : Fin (k0_t32_loop i).trips) (v250 : IVec S16 32) : Prop :=
  (∀ (k0_h1 : k0_cond1 i = 1#1), ∀ a x, ((![v250] : Fin 1 → IVec S16 32) a x).toNat < S2176.size a)
theorem k0_idx313_inb : ∀ (i : grid0.Coords) (k0_t32 : Fin (k0_t32_loop i).trips) (v250 : IVec S16 32) (k0_hw313 : k0_chk313 i k0_t32 v250), ∀ (k0_h1 : k0_cond1 i = 1#1), ∀ a x, ((![v250] : Fin 1 → IVec S16 32) a x).toNat < S2176.size a := fun i k0_t32 v250 k0_hw313 k0_h1 => k0_hw313 k0_h1
@[reducible] def k0_t34_loop : Scf.Loop 32 :=
  let c0_i32_142 : BitVec 32 := 0#32
  let c32_i32 : BitVec 32 := 32#32
  let v270 : BitVec 32 := Scalar.addi c0_i32_142 c32_i32
  let c1_i32_143 : BitVec 32 := 1#32
  ⟨c0_i32_142, v270, c1_i32_143⟩

def k0_chk314 (i : grid0.Coords) (k0_t32 : Fin (k0_t32_loop i).trips) (v321 : IVec S16 32) : Prop :=
  (∀ (k0_h1 : k0_cond1 i = 1#1), ∀ a x, ((![v321] : Fin 1 → IVec S16 32) a x).toNat < S8320.size a)
theorem k0_idx314_inb : ∀ (i : grid0.Coords) (k0_t32 : Fin (k0_t32_loop i).trips) (v321 : IVec S16 32) (k0_hw314 : k0_chk314 i k0_t32 v321), ∀ (k0_h1 : k0_cond1 i = 1#1), ∀ a x, ((![v321] : Fin 1 → IVec S16 32) a x).toNat < S8320.size a := fun i k0_t32 v321 k0_hw314 k0_h1 => k0_hw314 k0_h1

def k0_chk315 (i : grid0.Coords) (k0_t32 : Fin (k0_t32_loop i).trips) (v324 : IVec S16 32) : Prop :=
  (∀ (k0_h1 : k0_cond1 i = 1#1), ∀ a x, ((![v324] : Fin 1 → IVec S16 32) a x).toNat < S67584.size a)
theorem k0_idx315_inb : ∀ (i : grid0.Coords) (k0_t32 : Fin (k0_t32_loop i).trips) (v324 : IVec S16 32) (k0_hw315 : k0_chk315 i k0_t32 v324), ∀ (k0_h1 : k0_cond1 i = 1#1), ∀ a x, ((![v324] : Fin 1 → IVec S16 32) a x).toNat < S67584.size a := fun i k0_t32 v324 k0_hw315 k0_h1 => k0_hw315 k0_h1

def k0_chk316 (i : grid0.Coords) (k0_t32 : Fin (k0_t32_loop i).trips) (v329 : IVec S16 32) : Prop :=
  (∀ (k0_h1 : k0_cond1 i = 1#1), ∀ a x, ((![v329] : Fin 1 → IVec S16 32) a x).toNat < S67584.size a)
theorem k0_idx316_inb : ∀ (i : grid0.Coords) (k0_t32 : Fin (k0_t32_loop i).trips) (v329 : IVec S16 32) (k0_hw316 : k0_chk316 i k0_t32 v329), ∀ (k0_h1 : k0_cond1 i = 1#1), ∀ a x, ((![v329] : Fin 1 → IVec S16 32) a x).toNat < S67584.size a := fun i k0_t32 v329 k0_hw316 k0_h1 => k0_hw316 k0_h1

def k0_chk317 (i : grid0.Coords) (k0_t32 : Fin (k0_t32_loop i).trips) (v334 : IVec S16 32) : Prop :=
  (∀ (k0_h1 : k0_cond1 i = 1#1), ∀ a x, ((![v334] : Fin 1 → IVec S16 32) a x).toNat < S67584.size a)
theorem k0_idx317_inb : ∀ (i : grid0.Coords) (k0_t32 : Fin (k0_t32_loop i).trips) (v334 : IVec S16 32) (k0_hw317 : k0_chk317 i k0_t32 v334), ∀ (k0_h1 : k0_cond1 i = 1#1), ∀ a x, ((![v334] : Fin 1 → IVec S16 32) a x).toNat < S67584.size a := fun i k0_t32 v334 k0_hw317 k0_h1 => k0_hw317 k0_h1

def k0_chk318 (i : grid0.Coords) (k0_t32 : Fin (k0_t32_loop i).trips) (v339 : IVec S16 32) : Prop :=
  (∀ (k0_h1 : k0_cond1 i = 1#1), ∀ a x, ((![v339] : Fin 1 → IVec S16 32) a x).toNat < S67584.size a)
theorem k0_idx318_inb : ∀ (i : grid0.Coords) (k0_t32 : Fin (k0_t32_loop i).trips) (v339 : IVec S16 32) (k0_hw318 : k0_chk318 i k0_t32 v339), ∀ (k0_h1 : k0_cond1 i = 1#1), ∀ a x, ((![v339] : Fin 1 → IVec S16 32) a x).toNat < S67584.size a := fun i k0_t32 v339 k0_hw318 k0_h1 => k0_hw318 k0_h1

def k0_chk319 (i : grid0.Coords) (k0_t32 : Fin (k0_t32_loop i).trips) (v344 : IVec S16 32) : Prop :=
  (∀ (k0_h1 : k0_cond1 i = 1#1), ∀ a x, ((![v344] : Fin 1 → IVec S16 32) a x).toNat < S67584.size a)
theorem k0_idx319_inb : ∀ (i : grid0.Coords) (k0_t32 : Fin (k0_t32_loop i).trips) (v344 : IVec S16 32) (k0_hw319 : k0_chk319 i k0_t32 v344), ∀ (k0_h1 : k0_cond1 i = 1#1), ∀ a x, ((![v344] : Fin 1 → IVec S16 32) a x).toNat < S67584.size a := fun i k0_t32 v344 k0_hw319 k0_h1 => k0_hw319 k0_h1

def k0_chk320 (i : grid0.Coords) (k0_t32 : Fin (k0_t32_loop i).trips) (v349 : IVec S16 32) : Prop :=
  (∀ (k0_h1 : k0_cond1 i = 1#1), ∀ a x, ((![v349] : Fin 1 → IVec S16 32) a x).toNat < S67584.size a)
theorem k0_idx320_inb : ∀ (i : grid0.Coords) (k0_t32 : Fin (k0_t32_loop i).trips) (v349 : IVec S16 32) (k0_hw320 : k0_chk320 i k0_t32 v349), ∀ (k0_h1 : k0_cond1 i = 1#1), ∀ a x, ((![v349] : Fin 1 → IVec S16 32) a x).toNat < S67584.size a := fun i k0_t32 v349 k0_hw320 k0_h1 => k0_hw320 k0_h1

def k0_chk321 (i : grid0.Coords) (k0_t32 : Fin (k0_t32_loop i).trips) (v354 : IVec S16 32) : Prop :=
  (∀ (k0_h1 : k0_cond1 i = 1#1), ∀ a x, ((![v354] : Fin 1 → IVec S16 32) a x).toNat < S67584.size a)
theorem k0_idx321_inb : ∀ (i : grid0.Coords) (k0_t32 : Fin (k0_t32_loop i).trips) (v354 : IVec S16 32) (k0_hw321 : k0_chk321 i k0_t32 v354), ∀ (k0_h1 : k0_cond1 i = 1#1), ∀ a x, ((![v354] : Fin 1 → IVec S16 32) a x).toNat < S67584.size a := fun i k0_t32 v354 k0_hw321 k0_h1 => k0_hw321 k0_h1

def k0_chk322 (i : grid0.Coords) (k0_t32 : Fin (k0_t32_loop i).trips) (v359 : IVec S16 32) : Prop :=
  (∀ (k0_h1 : k0_cond1 i = 1#1), ∀ a x, ((![v359] : Fin 1 → IVec S16 32) a x).toNat < S67584.size a)
theorem k0_idx322_inb : ∀ (i : grid0.Coords) (k0_t32 : Fin (k0_t32_loop i).trips) (v359 : IVec S16 32) (k0_hw322 : k0_chk322 i k0_t32 v359), ∀ (k0_h1 : k0_cond1 i = 1#1), ∀ a x, ((![v359] : Fin 1 → IVec S16 32) a x).toNat < S67584.size a := fun i k0_t32 v359 k0_hw322 k0_h1 => k0_hw322 k0_h1

def k0_chk323 (i : grid0.Coords) (k0_t32 : Fin (k0_t32_loop i).trips) (v364 : IVec S16 32) : Prop :=
  (∀ (k0_h1 : k0_cond1 i = 1#1), ∀ a x, ((![v364] : Fin 1 → IVec S16 32) a x).toNat < S67584.size a)
theorem k0_idx323_inb : ∀ (i : grid0.Coords) (k0_t32 : Fin (k0_t32_loop i).trips) (v364 : IVec S16 32) (k0_hw323 : k0_chk323 i k0_t32 v364), ∀ (k0_h1 : k0_cond1 i = 1#1), ∀ a x, ((![v364] : Fin 1 → IVec S16 32) a x).toNat < S67584.size a := fun i k0_t32 v364 k0_hw323 k0_h1 => k0_hw323 k0_h1

def k0_chk324 (i : grid0.Coords) (k0_t32 : Fin (k0_t32_loop i).trips) (v369 : IVec S16 32) : Prop :=
  (∀ (k0_h1 : k0_cond1 i = 1#1), ∀ a x, ((![v369] : Fin 1 → IVec S16 32) a x).toNat < S67584.size a)
theorem k0_idx324_inb : ∀ (i : grid0.Coords) (k0_t32 : Fin (k0_t32_loop i).trips) (v369 : IVec S16 32) (k0_hw324 : k0_chk324 i k0_t32 v369), ∀ (k0_h1 : k0_cond1 i = 1#1), ∀ a x, ((![v369] : Fin 1 → IVec S16 32) a x).toNat < S67584.size a := fun i k0_t32 v369 k0_hw324 k0_h1 => k0_hw324 k0_h1

def k0_chk325 (i : grid0.Coords) (k0_t32 : Fin (k0_t32_loop i).trips) (v374 : IVec S16 32) : Prop :=
  (∀ (k0_h1 : k0_cond1 i = 1#1), ∀ a x, ((![v374] : Fin 1 → IVec S16 32) a x).toNat < S67584.size a)
theorem k0_idx325_inb : ∀ (i : grid0.Coords) (k0_t32 : Fin (k0_t32_loop i).trips) (v374 : IVec S16 32) (k0_hw325 : k0_chk325 i k0_t32 v374), ∀ (k0_h1 : k0_cond1 i = 1#1), ∀ a x, ((![v374] : Fin 1 → IVec S16 32) a x).toNat < S67584.size a := fun i k0_t32 v374 k0_hw325 k0_h1 => k0_hw325 k0_h1

def k0_chk326 (i : grid0.Coords) (k0_t32 : Fin (k0_t32_loop i).trips) (v379 : IVec S16 32) : Prop :=
  (∀ (k0_h1 : k0_cond1 i = 1#1), ∀ a x, ((![v379] : Fin 1 → IVec S16 32) a x).toNat < S67584.size a)
theorem k0_idx326_inb : ∀ (i : grid0.Coords) (k0_t32 : Fin (k0_t32_loop i).trips) (v379 : IVec S16 32) (k0_hw326 : k0_chk326 i k0_t32 v379), ∀ (k0_h1 : k0_cond1 i = 1#1), ∀ a x, ((![v379] : Fin 1 → IVec S16 32) a x).toNat < S67584.size a := fun i k0_t32 v379 k0_hw326 k0_h1 => k0_hw326 k0_h1

def k0_chk327 (i : grid0.Coords) (k0_t32 : Fin (k0_t32_loop i).trips) (v384 : IVec S16 32) : Prop :=
  (∀ (k0_h1 : k0_cond1 i = 1#1), ∀ a x, ((![v384] : Fin 1 → IVec S16 32) a x).toNat < S67584.size a)
theorem k0_idx327_inb : ∀ (i : grid0.Coords) (k0_t32 : Fin (k0_t32_loop i).trips) (v384 : IVec S16 32) (k0_hw327 : k0_chk327 i k0_t32 v384), ∀ (k0_h1 : k0_cond1 i = 1#1), ∀ a x, ((![v384] : Fin 1 → IVec S16 32) a x).toNat < S67584.size a := fun i k0_t32 v384 k0_hw327 k0_h1 => k0_hw327 k0_h1

def k0_chk328 (i : grid0.Coords) (k0_t32 : Fin (k0_t32_loop i).trips) (v389 : IVec S16 32) : Prop :=
  (∀ (k0_h1 : k0_cond1 i = 1#1), ∀ a x, ((![v389] : Fin 1 → IVec S16 32) a x).toNat < S67584.size a)
theorem k0_idx328_inb : ∀ (i : grid0.Coords) (k0_t32 : Fin (k0_t32_loop i).trips) (v389 : IVec S16 32) (k0_hw328 : k0_chk328 i k0_t32 v389), ∀ (k0_h1 : k0_cond1 i = 1#1), ∀ a x, ((![v389] : Fin 1 → IVec S16 32) a x).toNat < S67584.size a := fun i k0_t32 v389 k0_hw328 k0_h1 => k0_hw328 k0_h1

def k0_chk329 (i : grid0.Coords) (k0_t32 : Fin (k0_t32_loop i).trips) (v394 : IVec S16 32) : Prop :=
  (∀ (k0_h1 : k0_cond1 i = 1#1), ∀ a x, ((![v394] : Fin 1 → IVec S16 32) a x).toNat < S67584.size a)
theorem k0_idx329_inb : ∀ (i : grid0.Coords) (k0_t32 : Fin (k0_t32_loop i).trips) (v394 : IVec S16 32) (k0_hw329 : k0_chk329 i k0_t32 v394), ∀ (k0_h1 : k0_cond1 i = 1#1), ∀ a x, ((![v394] : Fin 1 → IVec S16 32) a x).toNat < S67584.size a := fun i k0_t32 v394 k0_hw329 k0_h1 => k0_hw329 k0_h1

def k0_chk330 (i : grid0.Coords) (k0_t32 : Fin (k0_t32_loop i).trips) (v399 : IVec S16 32) : Prop :=
  (∀ (k0_h1 : k0_cond1 i = 1#1), ∀ a x, ((![v399] : Fin 1 → IVec S16 32) a x).toNat < S67584.size a)
theorem k0_idx330_inb : ∀ (i : grid0.Coords) (k0_t32 : Fin (k0_t32_loop i).trips) (v399 : IVec S16 32) (k0_hw330 : k0_chk330 i k0_t32 v399), ∀ (k0_h1 : k0_cond1 i = 1#1), ∀ a x, ((![v399] : Fin 1 → IVec S16 32) a x).toNat < S67584.size a := fun i k0_t32 v399 k0_hw330 k0_h1 => k0_hw330 k0_h1
def k0_off35 (i : grid0.Coords) (k0_t32 : Fin (k0_t32_loop i).trips) (k0_t33 : Fin k0_t33_loop.trips) (c0_i32_145 : BitVec 32) : Fin 1 → Nat :=
  let c6_i32_15 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let c6_i32_49 : BitVec 32 := 6#32
  let v82 : BitVec 32 := Scalar.subi c6_i32_49 v42
  let c1_i32_51 : BitVec 32 := 1#32
  let v84 : BitVec 32 := Scalar.divsi v82 c1_i32_51
  let v85 : BitVec 32 := Scalar.muli v84 c1_i32_51
  let v86 : BitVec 32 := Scalar.addi v42 v85
  let c1_i32_53 : BitVec 32 := 1#32
  let arg12 : BitVec 32 := Scf.iv v86 c1_i32_53 k0_t32
  let c128_i32 : BitVec 32 := 128#32
  let v139 : BitVec 32 := Scalar.muli arg12 c128_i32
  let c0_i32_84 : BitVec 32 := 0#32
  let c1_i32_85 : BitVec 32 := 1#32
  let arg14 : BitVec 32 := Scf.iv c0_i32_84 c1_i32_85 k0_t33
  let c16_i32_90 : BitVec 32 := 16#32
  let v140 : BitVec 32 := Scalar.muli arg14 c16_i32_90
  let v141 : BitVec 32 := Scalar.addi v139 v140
  let v272 : BitVec 32 := Scalar.addi c0_i32_145 v141
  let v273 : Index := Scalar.indexCast v272
  ![v273.toNat]
def k0_off36 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c6_i32_4 : BitVec 32 := 6#32
  let v20 : BitVec 32 := Scalar.addi v2 c6_i32_4
  let c1_i32_5 : BitVec 32 := 1#32
  let v21 : BitVec 32 := Scalar.subi v20 c1_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c16_i32_6 : BitVec 32 := 16#32
  let c0_i32_9 : BitVec 32 := 0#32
  let v28 : BitVec 1 := Scalar.cmpi .sgt c16_i32_6 c0_i32_9
  let v29 : BitVec 32 := Scalar.extui v28
  let c0_i32_10 : BitVec 32 := 0#32
  let v30 : BitVec 1 := Scalar.cmpi .slt c16_i32_6 c0_i32_10
  let v31 : BitVec 32 := Scalar.extui v30
  let v32 : BitVec 32 := Scalar.subi v29 v31
  let v33 : BitVec 1 := Scalar.cmpi .ne v27 v32
  let v34 : BitVec 32 := Scalar.remsi v21 c16_i32_6
  let c0_i32_11 : BitVec 32 := 0#32
  let v35 : BitVec 1 := Scalar.cmpi .ne v34 c0_i32_11
  let v36 : BitVec 1 := Scalar.andi v33 v35
  let v22 : BitVec 32 := Scalar.divsi v21 c16_i32_6
  let c1_i32_12 : BitVec 32 := 1#32
  let v37 : BitVec 32 := Scalar.subi v22 c1_i32_12
  let v38 : BitVec 32 := Scalar.select v36 v37 v22
  let c1_i32_54 : BitVec 32 := 1#32
  let c0_i32_77_r25 : BitVec 32 := 0#32
  ![v38.toNat, 1, 0]
@[reducible] def k0_t35_loop (i : grid0.Coords) : Scf.Loop 32 :=
  let c6_i32_15 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let c6_i32_55 : BitVec 32 := 6#32
  let v89 : BitVec 32 := Scalar.subi c6_i32_55 v42
  let c1_i32_57 : BitVec 32 := 1#32
  let v91 : BitVec 32 := Scalar.divsi v89 c1_i32_57
  let v92 : BitVec 32 := Scalar.muli v91 c1_i32_57
  let v93 : BitVec 32 := Scalar.addi v42 v92
  let c1_i32_58 : BitVec 32 := 1#32
  ⟨v42, v93, c1_i32_58⟩
def k0_off37 (i : grid0.Coords) (k0_t35 : Fin (k0_t35_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c6_i32_4 : BitVec 32 := 6#32
  let v20 : BitVec 32 := Scalar.addi v2 c6_i32_4
  let c1_i32_5 : BitVec 32 := 1#32
  let v21 : BitVec 32 := Scalar.subi v20 c1_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c16_i32_6 : BitVec 32 := 16#32
  let c0_i32_9 : BitVec 32 := 0#32
  let v28 : BitVec 1 := Scalar.cmpi .sgt c16_i32_6 c0_i32_9
  let v29 : BitVec 32 := Scalar.extui v28
  let c0_i32_10 : BitVec 32 := 0#32
  let v30 : BitVec 1 := Scalar.cmpi .slt c16_i32_6 c0_i32_10
  let v31 : BitVec 32 := Scalar.extui v30
  let v32 : BitVec 32 := Scalar.subi v29 v31
  let v33 : BitVec 1 := Scalar.cmpi .ne v27 v32
  let v34 : BitVec 32 := Scalar.remsi v21 c16_i32_6
  let c0_i32_11 : BitVec 32 := 0#32
  let v35 : BitVec 1 := Scalar.cmpi .ne v34 c0_i32_11
  let v36 : BitVec 1 := Scalar.andi v33 v35
  let v22 : BitVec 32 := Scalar.divsi v21 c16_i32_6
  let c1_i32_12 : BitVec 32 := 1#32
  let v37 : BitVec 32 := Scalar.subi v22 c1_i32_12
  let v38 : BitVec 32 := Scalar.select v36 v37 v22
  let c6_i32_15 : BitVec 32 := 6#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let c1_i32_58 : BitVec 32 := 1#32
  let arg12 : BitVec 32 := Scf.iv v42 c1_i32_58 k0_t35
  let v117 : BitVec 32 := Scalar.addi v2 arg12
  let c16_i32_77 : BitVec 32 := 16#32
  let c0_i32_78 : BitVec 32 := 0#32
  let v118 : BitVec 1 := Scalar.cmpi .eq c16_i32_77 c0_i32_78
  let c1_i32_79 : BitVec 32 := 1#32
  let v119 : BitVec 32 := Scalar.select v118 c1_i32_79 c16_i32_77
  let v120 : BitVec 32 := Scalar.remsi v117 v119
  let c0_i32_81 : BitVec 32 := 0#32
  let v122 : BitVec 1 := Scalar.cmpi .slt v120 c0_i32_81
  let c0_i32_82 : BitVec 32 := 0#32
  let v123 : BitVec 1 := Scalar.cmpi .slt v119 c0_i32_82
  let v124 : BitVec 1 := Scalar.xori v122 v123
  let c0_i32_80 : BitVec 32 := 0#32
  let v121 : BitVec 1 := Scalar.cmpi .ne v120 c0_i32_80
  let v125 : BitVec 1 := Scalar.andi v124 v121
  let v126 : BitVec 32 := Scalar.addi v120 v119
  let v127 : BitVec 32 := Scalar.select v125 v126 v120
  let c8320_i32 : BitVec 32 := 8320#32
  let v128 : BitVec 32 := Scalar.muli v127 c8320_i32
  ![v38.toNat, v128.toNat]
def k0_off38 (i : grid0.Coords) (k0_t35 : Fin (k0_t35_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c6_i32_4 : BitVec 32 := 6#32
  let v20 : BitVec 32 := Scalar.addi v2 c6_i32_4
  let c1_i32_5 : BitVec 32 := 1#32
  let v21 : BitVec 32 := Scalar.subi v20 c1_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c16_i32_6 : BitVec 32 := 16#32
  let c0_i32_9 : BitVec 32 := 0#32
  let v28 : BitVec 1 := Scalar.cmpi .sgt c16_i32_6 c0_i32_9
  let v29 : BitVec 32 := Scalar.extui v28
  let c0_i32_10 : BitVec 32 := 0#32
  let v30 : BitVec 1 := Scalar.cmpi .slt c16_i32_6 c0_i32_10
  let v31 : BitVec 32 := Scalar.extui v30
  let v32 : BitVec 32 := Scalar.subi v29 v31
  let v33 : BitVec 1 := Scalar.cmpi .ne v27 v32
  let v34 : BitVec 32 := Scalar.remsi v21 c16_i32_6
  let c0_i32_11 : BitVec 32 := 0#32
  let v35 : BitVec 1 := Scalar.cmpi .ne v34 c0_i32_11
  let v36 : BitVec 1 := Scalar.andi v33 v35
  let v22 : BitVec 32 := Scalar.divsi v21 c16_i32_6
  let c1_i32_12 : BitVec 32 := 1#32
  let v37 : BitVec 32 := Scalar.subi v22 c1_i32_12
  let v38 : BitVec 32 := Scalar.select v36 v37 v22
  let c6_i32_15 : BitVec 32 := 6#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let c1_i32_58 : BitVec 32 := 1#32
  let arg12 : BitVec 32 := Scf.iv v42 c1_i32_58 k0_t35
  let v117 : BitVec 32 := Scalar.addi v2 arg12
  let c16_i32_77 : BitVec 32 := 16#32
  let c0_i32_78 : BitVec 32 := 0#32
  let v118 : BitVec 1 := Scalar.cmpi .eq c16_i32_77 c0_i32_78
  let c1_i32_79 : BitVec 32 := 1#32
  let v119 : BitVec 32 := Scalar.select v118 c1_i32_79 c16_i32_77
  let v120 : BitVec 32 := Scalar.remsi v117 v119
  let c0_i32_81 : BitVec 32 := 0#32
  let v122 : BitVec 1 := Scalar.cmpi .slt v120 c0_i32_81
  let c0_i32_82 : BitVec 32 := 0#32
  let v123 : BitVec 1 := Scalar.cmpi .slt v119 c0_i32_82
  let v124 : BitVec 1 := Scalar.xori v122 v123
  let c0_i32_80 : BitVec 32 := 0#32
  let v121 : BitVec 1 := Scalar.cmpi .ne v120 c0_i32_80
  let v125 : BitVec 1 := Scalar.andi v124 v121
  let v126 : BitVec 32 := Scalar.addi v120 v119
  let v127 : BitVec 32 := Scalar.select v125 v126 v120
  let c2176_i32 : BitVec 32 := 2176#32
  let v129 : BitVec 32 := Scalar.muli v127 c2176_i32
  ![v38.toNat, v129.toNat]
@[reducible] def k0_t36_loop : Scf.Loop 32 :=
  let c0_i32_84 : BitVec 32 := 0#32
  let c8_i32 : BitVec 32 := 8#32
  let v130 : BitVec 32 := Scalar.addi c0_i32_84 c8_i32
  let c1_i32_85 : BitVec 32 := 1#32
  ⟨c0_i32_84, v130, c1_i32_85⟩

def k0_chk331 (i : grid0.Coords) (k0_t35 : Fin (k0_t35_loop i).trips) (v145 : IVec S16 32) : Prop :=
  (∀ (k0_h1 : k0_cond1 i = 1#1), ∀ a x, ((![v145] : Fin 1 → IVec S16 32) a x).toNat < S2176.size a)
theorem k0_idx331_inb : ∀ (i : grid0.Coords) (k0_t35 : Fin (k0_t35_loop i).trips) (v145 : IVec S16 32) (k0_hw331 : k0_chk331 i k0_t35 v145), ∀ (k0_h1 : k0_cond1 i = 1#1), ∀ a x, ((![v145] : Fin 1 → IVec S16 32) a x).toNat < S2176.size a := fun i k0_t35 v145 k0_hw331 k0_h1 => k0_hw331 k0_h1

def k0_chk332 (i : grid0.Coords) (k0_t35 : Fin (k0_t35_loop i).trips) (v152 : IVec S16 32) : Prop :=
  (∀ (k0_h1 : k0_cond1 i = 1#1), ∀ a x, ((![v152] : Fin 1 → IVec S16 32) a x).toNat < S2176.size a)
theorem k0_idx332_inb : ∀ (i : grid0.Coords) (k0_t35 : Fin (k0_t35_loop i).trips) (v152 : IVec S16 32) (k0_hw332 : k0_chk332 i k0_t35 v152), ∀ (k0_h1 : k0_cond1 i = 1#1), ∀ a x, ((![v152] : Fin 1 → IVec S16 32) a x).toNat < S2176.size a := fun i k0_t35 v152 k0_hw332 k0_h1 => k0_hw332 k0_h1

def k0_chk333 (i : grid0.Coords) (k0_t35 : Fin (k0_t35_loop i).trips) (v159 : IVec S16 32) : Prop :=
  (∀ (k0_h1 : k0_cond1 i = 1#1), ∀ a x, ((![v159] : Fin 1 → IVec S16 32) a x).toNat < S2176.size a)
theorem k0_idx333_inb : ∀ (i : grid0.Coords) (k0_t35 : Fin (k0_t35_loop i).trips) (v159 : IVec S16 32) (k0_hw333 : k0_chk333 i k0_t35 v159), ∀ (k0_h1 : k0_cond1 i = 1#1), ∀ a x, ((![v159] : Fin 1 → IVec S16 32) a x).toNat < S2176.size a := fun i k0_t35 v159 k0_hw333 k0_h1 => k0_hw333 k0_h1

def k0_chk334 (i : grid0.Coords) (k0_t35 : Fin (k0_t35_loop i).trips) (v166 : IVec S16 32) : Prop :=
  (∀ (k0_h1 : k0_cond1 i = 1#1), ∀ a x, ((![v166] : Fin 1 → IVec S16 32) a x).toNat < S2176.size a)
theorem k0_idx334_inb : ∀ (i : grid0.Coords) (k0_t35 : Fin (k0_t35_loop i).trips) (v166 : IVec S16 32) (k0_hw334 : k0_chk334 i k0_t35 v166), ∀ (k0_h1 : k0_cond1 i = 1#1), ∀ a x, ((![v166] : Fin 1 → IVec S16 32) a x).toNat < S2176.size a := fun i k0_t35 v166 k0_hw334 k0_h1 => k0_hw334 k0_h1

def k0_chk335 (i : grid0.Coords) (k0_t35 : Fin (k0_t35_loop i).trips) (v173 : IVec S16 32) : Prop :=
  (∀ (k0_h1 : k0_cond1 i = 1#1), ∀ a x, ((![v173] : Fin 1 → IVec S16 32) a x).toNat < S2176.size a)
theorem k0_idx335_inb : ∀ (i : grid0.Coords) (k0_t35 : Fin (k0_t35_loop i).trips) (v173 : IVec S16 32) (k0_hw335 : k0_chk335 i k0_t35 v173), ∀ (k0_h1 : k0_cond1 i = 1#1), ∀ a x, ((![v173] : Fin 1 → IVec S16 32) a x).toNat < S2176.size a := fun i k0_t35 v173 k0_hw335 k0_h1 => k0_hw335 k0_h1

def k0_chk336 (i : grid0.Coords) (k0_t35 : Fin (k0_t35_loop i).trips) (v180 : IVec S16 32) : Prop :=
  (∀ (k0_h1 : k0_cond1 i = 1#1), ∀ a x, ((![v180] : Fin 1 → IVec S16 32) a x).toNat < S2176.size a)
theorem k0_idx336_inb : ∀ (i : grid0.Coords) (k0_t35 : Fin (k0_t35_loop i).trips) (v180 : IVec S16 32) (k0_hw336 : k0_chk336 i k0_t35 v180), ∀ (k0_h1 : k0_cond1 i = 1#1), ∀ a x, ((![v180] : Fin 1 → IVec S16 32) a x).toNat < S2176.size a := fun i k0_t35 v180 k0_hw336 k0_h1 => k0_hw336 k0_h1

def k0_chk337 (i : grid0.Coords) (k0_t35 : Fin (k0_t35_loop i).trips) (v187 : IVec S16 32) : Prop :=
  (∀ (k0_h1 : k0_cond1 i = 1#1), ∀ a x, ((![v187] : Fin 1 → IVec S16 32) a x).toNat < S2176.size a)
theorem k0_idx337_inb : ∀ (i : grid0.Coords) (k0_t35 : Fin (k0_t35_loop i).trips) (v187 : IVec S16 32) (k0_hw337 : k0_chk337 i k0_t35 v187), ∀ (k0_h1 : k0_cond1 i = 1#1), ∀ a x, ((![v187] : Fin 1 → IVec S16 32) a x).toNat < S2176.size a := fun i k0_t35 v187 k0_hw337 k0_h1 => k0_hw337 k0_h1

def k0_chk338 (i : grid0.Coords) (k0_t35 : Fin (k0_t35_loop i).trips) (v194 : IVec S16 32) : Prop :=
  (∀ (k0_h1 : k0_cond1 i = 1#1), ∀ a x, ((![v194] : Fin 1 → IVec S16 32) a x).toNat < S2176.size a)
theorem k0_idx338_inb : ∀ (i : grid0.Coords) (k0_t35 : Fin (k0_t35_loop i).trips) (v194 : IVec S16 32) (k0_hw338 : k0_chk338 i k0_t35 v194), ∀ (k0_h1 : k0_cond1 i = 1#1), ∀ a x, ((![v194] : Fin 1 → IVec S16 32) a x).toNat < S2176.size a := fun i k0_t35 v194 k0_hw338 k0_h1 => k0_hw338 k0_h1

def k0_chk339 (i : grid0.Coords) (k0_t35 : Fin (k0_t35_loop i).trips) (v201 : IVec S16 32) : Prop :=
  (∀ (k0_h1 : k0_cond1 i = 1#1), ∀ a x, ((![v201] : Fin 1 → IVec S16 32) a x).toNat < S2176.size a)
theorem k0_idx339_inb : ∀ (i : grid0.Coords) (k0_t35 : Fin (k0_t35_loop i).trips) (v201 : IVec S16 32) (k0_hw339 : k0_chk339 i k0_t35 v201), ∀ (k0_h1 : k0_cond1 i = 1#1), ∀ a x, ((![v201] : Fin 1 → IVec S16 32) a x).toNat < S2176.size a := fun i k0_t35 v201 k0_hw339 k0_h1 => k0_hw339 k0_h1

def k0_chk340 (i : grid0.Coords) (k0_t35 : Fin (k0_t35_loop i).trips) (v208 : IVec S16 32) : Prop :=
  (∀ (k0_h1 : k0_cond1 i = 1#1), ∀ a x, ((![v208] : Fin 1 → IVec S16 32) a x).toNat < S2176.size a)
theorem k0_idx340_inb : ∀ (i : grid0.Coords) (k0_t35 : Fin (k0_t35_loop i).trips) (v208 : IVec S16 32) (k0_hw340 : k0_chk340 i k0_t35 v208), ∀ (k0_h1 : k0_cond1 i = 1#1), ∀ a x, ((![v208] : Fin 1 → IVec S16 32) a x).toNat < S2176.size a := fun i k0_t35 v208 k0_hw340 k0_h1 => k0_hw340 k0_h1

def k0_chk341 (i : grid0.Coords) (k0_t35 : Fin (k0_t35_loop i).trips) (v215 : IVec S16 32) : Prop :=
  (∀ (k0_h1 : k0_cond1 i = 1#1), ∀ a x, ((![v215] : Fin 1 → IVec S16 32) a x).toNat < S2176.size a)
theorem k0_idx341_inb : ∀ (i : grid0.Coords) (k0_t35 : Fin (k0_t35_loop i).trips) (v215 : IVec S16 32) (k0_hw341 : k0_chk341 i k0_t35 v215), ∀ (k0_h1 : k0_cond1 i = 1#1), ∀ a x, ((![v215] : Fin 1 → IVec S16 32) a x).toNat < S2176.size a := fun i k0_t35 v215 k0_hw341 k0_h1 => k0_hw341 k0_h1

def k0_chk342 (i : grid0.Coords) (k0_t35 : Fin (k0_t35_loop i).trips) (v222 : IVec S16 32) : Prop :=
  (∀ (k0_h1 : k0_cond1 i = 1#1), ∀ a x, ((![v222] : Fin 1 → IVec S16 32) a x).toNat < S2176.size a)
theorem k0_idx342_inb : ∀ (i : grid0.Coords) (k0_t35 : Fin (k0_t35_loop i).trips) (v222 : IVec S16 32) (k0_hw342 : k0_chk342 i k0_t35 v222), ∀ (k0_h1 : k0_cond1 i = 1#1), ∀ a x, ((![v222] : Fin 1 → IVec S16 32) a x).toNat < S2176.size a := fun i k0_t35 v222 k0_hw342 k0_h1 => k0_hw342 k0_h1

def k0_chk343 (i : grid0.Coords) (k0_t35 : Fin (k0_t35_loop i).trips) (v229 : IVec S16 32) : Prop :=
  (∀ (k0_h1 : k0_cond1 i = 1#1), ∀ a x, ((![v229] : Fin 1 → IVec S16 32) a x).toNat < S2176.size a)
theorem k0_idx343_inb : ∀ (i : grid0.Coords) (k0_t35 : Fin (k0_t35_loop i).trips) (v229 : IVec S16 32) (k0_hw343 : k0_chk343 i k0_t35 v229), ∀ (k0_h1 : k0_cond1 i = 1#1), ∀ a x, ((![v229] : Fin 1 → IVec S16 32) a x).toNat < S2176.size a := fun i k0_t35 v229 k0_hw343 k0_h1 => k0_hw343 k0_h1

def k0_chk344 (i : grid0.Coords) (k0_t35 : Fin (k0_t35_loop i).trips) (v236 : IVec S16 32) : Prop :=
  (∀ (k0_h1 : k0_cond1 i = 1#1), ∀ a x, ((![v236] : Fin 1 → IVec S16 32) a x).toNat < S2176.size a)
theorem k0_idx344_inb : ∀ (i : grid0.Coords) (k0_t35 : Fin (k0_t35_loop i).trips) (v236 : IVec S16 32) (k0_hw344 : k0_chk344 i k0_t35 v236), ∀ (k0_h1 : k0_cond1 i = 1#1), ∀ a x, ((![v236] : Fin 1 → IVec S16 32) a x).toNat < S2176.size a := fun i k0_t35 v236 k0_hw344 k0_h1 => k0_hw344 k0_h1

def k0_chk345 (i : grid0.Coords) (k0_t35 : Fin (k0_t35_loop i).trips) (v243 : IVec S16 32) : Prop :=
  (∀ (k0_h1 : k0_cond1 i = 1#1), ∀ a x, ((![v243] : Fin 1 → IVec S16 32) a x).toNat < S2176.size a)
theorem k0_idx345_inb : ∀ (i : grid0.Coords) (k0_t35 : Fin (k0_t35_loop i).trips) (v243 : IVec S16 32) (k0_hw345 : k0_chk345 i k0_t35 v243), ∀ (k0_h1 : k0_cond1 i = 1#1), ∀ a x, ((![v243] : Fin 1 → IVec S16 32) a x).toNat < S2176.size a := fun i k0_t35 v243 k0_hw345 k0_h1 => k0_hw345 k0_h1

def k0_chk346 (i : grid0.Coords) (k0_t35 : Fin (k0_t35_loop i).trips) (v250 : IVec S16 32) : Prop :=
  (∀ (k0_h1 : k0_cond1 i = 1#1), ∀ a x, ((![v250] : Fin 1 → IVec S16 32) a x).toNat < S2176.size a)
theorem k0_idx346_inb : ∀ (i : grid0.Coords) (k0_t35 : Fin (k0_t35_loop i).trips) (v250 : IVec S16 32) (k0_hw346 : k0_chk346 i k0_t35 v250), ∀ (k0_h1 : k0_cond1 i = 1#1), ∀ a x, ((![v250] : Fin 1 → IVec S16 32) a x).toNat < S2176.size a := fun i k0_t35 v250 k0_hw346 k0_h1 => k0_hw346 k0_h1
def k0_off39 (i : grid0.Coords) (k0_t35 : Fin (k0_t35_loop i).trips) (k0_t36 : Fin k0_t36_loop.trips) (c0_i32_125 : BitVec 32) : Fin 1 → Nat :=
  let c6_i32_15 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let c1_i32_58 : BitVec 32 := 1#32
  let arg12 : BitVec 32 := Scf.iv v42 c1_i32_58 k0_t35
  let c128_i32 : BitVec 32 := 128#32
  let v139 : BitVec 32 := Scalar.muli arg12 c128_i32
  let c0_i32_84 : BitVec 32 := 0#32
  let c1_i32_85 : BitVec 32 := 1#32
  let arg14 : BitVec 32 := Scf.iv c0_i32_84 c1_i32_85 k0_t36
  let c16_i32_89 : BitVec 32 := 16#32
  let v140 : BitVec 32 := Scalar.muli arg14 c16_i32_89
  let v141 : BitVec 32 := Scalar.addi v139 v140
  let v254 : BitVec 32 := Scalar.addi c0_i32_125 v141
  let v255 : Index := Scalar.indexCast v254
  ![v255.toNat]
@[reducible] def k0_t37_loop : Scf.Loop 32 :=
  let c0_i32_126 : BitVec 32 := 0#32
  let c32_i32_127 : BitVec 32 := 32#32
  let v302 : BitVec 32 := Scalar.addi c0_i32_126 c32_i32_127
  let c1_i32_128 : BitVec 32 := 1#32
  ⟨c0_i32_126, v302, c1_i32_128⟩

def k0_chk347 (i : grid0.Coords) (k0_t35 : Fin (k0_t35_loop i).trips) (v353 : IVec S16 32) : Prop :=
  (∀ (k0_h1 : k0_cond1 i = 1#1), ∀ a x, ((![v353] : Fin 1 → IVec S16 32) a x).toNat < S8320.size a)
theorem k0_idx347_inb : ∀ (i : grid0.Coords) (k0_t35 : Fin (k0_t35_loop i).trips) (v353 : IVec S16 32) (k0_hw347 : k0_chk347 i k0_t35 v353), ∀ (k0_h1 : k0_cond1 i = 1#1), ∀ a x, ((![v353] : Fin 1 → IVec S16 32) a x).toNat < S8320.size a := fun i k0_t35 v353 k0_hw347 k0_h1 => k0_hw347 k0_h1

def k0_chk348 (i : grid0.Coords) (k0_t35 : Fin (k0_t35_loop i).trips) (v356 : IVec S16 32) : Prop :=
  (∀ (k0_h1 : k0_cond1 i = 1#1), ∀ a x, ((![v356] : Fin 1 → IVec S16 32) a x).toNat < S67584.size a)
theorem k0_idx348_inb : ∀ (i : grid0.Coords) (k0_t35 : Fin (k0_t35_loop i).trips) (v356 : IVec S16 32) (k0_hw348 : k0_chk348 i k0_t35 v356), ∀ (k0_h1 : k0_cond1 i = 1#1), ∀ a x, ((![v356] : Fin 1 → IVec S16 32) a x).toNat < S67584.size a := fun i k0_t35 v356 k0_hw348 k0_h1 => k0_hw348 k0_h1

def k0_chk349 (i : grid0.Coords) (k0_t35 : Fin (k0_t35_loop i).trips) (v361 : IVec S16 32) : Prop :=
  (∀ (k0_h1 : k0_cond1 i = 1#1), ∀ a x, ((![v361] : Fin 1 → IVec S16 32) a x).toNat < S67584.size a)
theorem k0_idx349_inb : ∀ (i : grid0.Coords) (k0_t35 : Fin (k0_t35_loop i).trips) (v361 : IVec S16 32) (k0_hw349 : k0_chk349 i k0_t35 v361), ∀ (k0_h1 : k0_cond1 i = 1#1), ∀ a x, ((![v361] : Fin 1 → IVec S16 32) a x).toNat < S67584.size a := fun i k0_t35 v361 k0_hw349 k0_h1 => k0_hw349 k0_h1

def k0_chk350 (i : grid0.Coords) (k0_t35 : Fin (k0_t35_loop i).trips) (v366 : IVec S16 32) : Prop :=
  (∀ (k0_h1 : k0_cond1 i = 1#1), ∀ a x, ((![v366] : Fin 1 → IVec S16 32) a x).toNat < S67584.size a)
theorem k0_idx350_inb : ∀ (i : grid0.Coords) (k0_t35 : Fin (k0_t35_loop i).trips) (v366 : IVec S16 32) (k0_hw350 : k0_chk350 i k0_t35 v366), ∀ (k0_h1 : k0_cond1 i = 1#1), ∀ a x, ((![v366] : Fin 1 → IVec S16 32) a x).toNat < S67584.size a := fun i k0_t35 v366 k0_hw350 k0_h1 => k0_hw350 k0_h1

def k0_chk351 (i : grid0.Coords) (k0_t35 : Fin (k0_t35_loop i).trips) (v371 : IVec S16 32) : Prop :=
  (∀ (k0_h1 : k0_cond1 i = 1#1), ∀ a x, ((![v371] : Fin 1 → IVec S16 32) a x).toNat < S67584.size a)
theorem k0_idx351_inb : ∀ (i : grid0.Coords) (k0_t35 : Fin (k0_t35_loop i).trips) (v371 : IVec S16 32) (k0_hw351 : k0_chk351 i k0_t35 v371), ∀ (k0_h1 : k0_cond1 i = 1#1), ∀ a x, ((![v371] : Fin 1 → IVec S16 32) a x).toNat < S67584.size a := fun i k0_t35 v371 k0_hw351 k0_h1 => k0_hw351 k0_h1

def k0_chk352 (i : grid0.Coords) (k0_t35 : Fin (k0_t35_loop i).trips) (v376 : IVec S16 32) : Prop :=
  (∀ (k0_h1 : k0_cond1 i = 1#1), ∀ a x, ((![v376] : Fin 1 → IVec S16 32) a x).toNat < S67584.size a)
theorem k0_idx352_inb : ∀ (i : grid0.Coords) (k0_t35 : Fin (k0_t35_loop i).trips) (v376 : IVec S16 32) (k0_hw352 : k0_chk352 i k0_t35 v376), ∀ (k0_h1 : k0_cond1 i = 1#1), ∀ a x, ((![v376] : Fin 1 → IVec S16 32) a x).toNat < S67584.size a := fun i k0_t35 v376 k0_hw352 k0_h1 => k0_hw352 k0_h1

def k0_chk353 (i : grid0.Coords) (k0_t35 : Fin (k0_t35_loop i).trips) (v381 : IVec S16 32) : Prop :=
  (∀ (k0_h1 : k0_cond1 i = 1#1), ∀ a x, ((![v381] : Fin 1 → IVec S16 32) a x).toNat < S67584.size a)
theorem k0_idx353_inb : ∀ (i : grid0.Coords) (k0_t35 : Fin (k0_t35_loop i).trips) (v381 : IVec S16 32) (k0_hw353 : k0_chk353 i k0_t35 v381), ∀ (k0_h1 : k0_cond1 i = 1#1), ∀ a x, ((![v381] : Fin 1 → IVec S16 32) a x).toNat < S67584.size a := fun i k0_t35 v381 k0_hw353 k0_h1 => k0_hw353 k0_h1

def k0_chk354 (i : grid0.Coords) (k0_t35 : Fin (k0_t35_loop i).trips) (v386 : IVec S16 32) : Prop :=
  (∀ (k0_h1 : k0_cond1 i = 1#1), ∀ a x, ((![v386] : Fin 1 → IVec S16 32) a x).toNat < S67584.size a)
theorem k0_idx354_inb : ∀ (i : grid0.Coords) (k0_t35 : Fin (k0_t35_loop i).trips) (v386 : IVec S16 32) (k0_hw354 : k0_chk354 i k0_t35 v386), ∀ (k0_h1 : k0_cond1 i = 1#1), ∀ a x, ((![v386] : Fin 1 → IVec S16 32) a x).toNat < S67584.size a := fun i k0_t35 v386 k0_hw354 k0_h1 => k0_hw354 k0_h1

def k0_chk355 (i : grid0.Coords) (k0_t35 : Fin (k0_t35_loop i).trips) (v391 : IVec S16 32) : Prop :=
  (∀ (k0_h1 : k0_cond1 i = 1#1), ∀ a x, ((![v391] : Fin 1 → IVec S16 32) a x).toNat < S67584.size a)
theorem k0_idx355_inb : ∀ (i : grid0.Coords) (k0_t35 : Fin (k0_t35_loop i).trips) (v391 : IVec S16 32) (k0_hw355 : k0_chk355 i k0_t35 v391), ∀ (k0_h1 : k0_cond1 i = 1#1), ∀ a x, ((![v391] : Fin 1 → IVec S16 32) a x).toNat < S67584.size a := fun i k0_t35 v391 k0_hw355 k0_h1 => k0_hw355 k0_h1

def k0_chk356 (i : grid0.Coords) (k0_t35 : Fin (k0_t35_loop i).trips) (v396 : IVec S16 32) : Prop :=
  (∀ (k0_h1 : k0_cond1 i = 1#1), ∀ a x, ((![v396] : Fin 1 → IVec S16 32) a x).toNat < S67584.size a)
theorem k0_idx356_inb : ∀ (i : grid0.Coords) (k0_t35 : Fin (k0_t35_loop i).trips) (v396 : IVec S16 32) (k0_hw356 : k0_chk356 i k0_t35 v396), ∀ (k0_h1 : k0_cond1 i = 1#1), ∀ a x, ((![v396] : Fin 1 → IVec S16 32) a x).toNat < S67584.size a := fun i k0_t35 v396 k0_hw356 k0_h1 => k0_hw356 k0_h1

def k0_chk357 (i : grid0.Coords) (k0_t35 : Fin (k0_t35_loop i).trips) (v401 : IVec S16 32) : Prop :=
  (∀ (k0_h1 : k0_cond1 i = 1#1), ∀ a x, ((![v401] : Fin 1 → IVec S16 32) a x).toNat < S67584.size a)
theorem k0_idx357_inb : ∀ (i : grid0.Coords) (k0_t35 : Fin (k0_t35_loop i).trips) (v401 : IVec S16 32) (k0_hw357 : k0_chk357 i k0_t35 v401), ∀ (k0_h1 : k0_cond1 i = 1#1), ∀ a x, ((![v401] : Fin 1 → IVec S16 32) a x).toNat < S67584.size a := fun i k0_t35 v401 k0_hw357 k0_h1 => k0_hw357 k0_h1

def k0_chk358 (i : grid0.Coords) (k0_t35 : Fin (k0_t35_loop i).trips) (v406 : IVec S16 32) : Prop :=
  (∀ (k0_h1 : k0_cond1 i = 1#1), ∀ a x, ((![v406] : Fin 1 → IVec S16 32) a x).toNat < S67584.size a)
theorem k0_idx358_inb : ∀ (i : grid0.Coords) (k0_t35 : Fin (k0_t35_loop i).trips) (v406 : IVec S16 32) (k0_hw358 : k0_chk358 i k0_t35 v406), ∀ (k0_h1 : k0_cond1 i = 1#1), ∀ a x, ((![v406] : Fin 1 → IVec S16 32) a x).toNat < S67584.size a := fun i k0_t35 v406 k0_hw358 k0_h1 => k0_hw358 k0_h1

def k0_chk359 (i : grid0.Coords) (k0_t35 : Fin (k0_t35_loop i).trips) (v411 : IVec S16 32) : Prop :=
  (∀ (k0_h1 : k0_cond1 i = 1#1), ∀ a x, ((![v411] : Fin 1 → IVec S16 32) a x).toNat < S67584.size a)
theorem k0_idx359_inb : ∀ (i : grid0.Coords) (k0_t35 : Fin (k0_t35_loop i).trips) (v411 : IVec S16 32) (k0_hw359 : k0_chk359 i k0_t35 v411), ∀ (k0_h1 : k0_cond1 i = 1#1), ∀ a x, ((![v411] : Fin 1 → IVec S16 32) a x).toNat < S67584.size a := fun i k0_t35 v411 k0_hw359 k0_h1 => k0_hw359 k0_h1

def k0_chk360 (i : grid0.Coords) (k0_t35 : Fin (k0_t35_loop i).trips) (v416 : IVec S16 32) : Prop :=
  (∀ (k0_h1 : k0_cond1 i = 1#1), ∀ a x, ((![v416] : Fin 1 → IVec S16 32) a x).toNat < S67584.size a)
theorem k0_idx360_inb : ∀ (i : grid0.Coords) (k0_t35 : Fin (k0_t35_loop i).trips) (v416 : IVec S16 32) (k0_hw360 : k0_chk360 i k0_t35 v416), ∀ (k0_h1 : k0_cond1 i = 1#1), ∀ a x, ((![v416] : Fin 1 → IVec S16 32) a x).toNat < S67584.size a := fun i k0_t35 v416 k0_hw360 k0_h1 => k0_hw360 k0_h1

def k0_chk361 (i : grid0.Coords) (k0_t35 : Fin (k0_t35_loop i).trips) (v421 : IVec S16 32) : Prop :=
  (∀ (k0_h1 : k0_cond1 i = 1#1), ∀ a x, ((![v421] : Fin 1 → IVec S16 32) a x).toNat < S67584.size a)
theorem k0_idx361_inb : ∀ (i : grid0.Coords) (k0_t35 : Fin (k0_t35_loop i).trips) (v421 : IVec S16 32) (k0_hw361 : k0_chk361 i k0_t35 v421), ∀ (k0_h1 : k0_cond1 i = 1#1), ∀ a x, ((![v421] : Fin 1 → IVec S16 32) a x).toNat < S67584.size a := fun i k0_t35 v421 k0_hw361 k0_h1 => k0_hw361 k0_h1

def k0_chk362 (i : grid0.Coords) (k0_t35 : Fin (k0_t35_loop i).trips) (v426 : IVec S16 32) : Prop :=
  (∀ (k0_h1 : k0_cond1 i = 1#1), ∀ a x, ((![v426] : Fin 1 → IVec S16 32) a x).toNat < S67584.size a)
theorem k0_idx362_inb : ∀ (i : grid0.Coords) (k0_t35 : Fin (k0_t35_loop i).trips) (v426 : IVec S16 32) (k0_hw362 : k0_chk362 i k0_t35 v426), ∀ (k0_h1 : k0_cond1 i = 1#1), ∀ a x, ((![v426] : Fin 1 → IVec S16 32) a x).toNat < S67584.size a := fun i k0_t35 v426 k0_hw362 k0_h1 => k0_hw362 k0_h1

def k0_chk363 (i : grid0.Coords) (k0_t35 : Fin (k0_t35_loop i).trips) (v431 : IVec S16 32) : Prop :=
  (∀ (k0_h1 : k0_cond1 i = 1#1), ∀ a x, ((![v431] : Fin 1 → IVec S16 32) a x).toNat < S67584.size a)
theorem k0_idx363_inb : ∀ (i : grid0.Coords) (k0_t35 : Fin (k0_t35_loop i).trips) (v431 : IVec S16 32) (k0_hw363 : k0_chk363 i k0_t35 v431), ∀ (k0_h1 : k0_cond1 i = 1#1), ∀ a x, ((![v431] : Fin 1 → IVec S16 32) a x).toNat < S67584.size a := fun i k0_t35 v431 k0_hw363 k0_h1 => k0_hw363 k0_h1
@[reducible] def k0_t38_loop (i : grid0.Coords) : Scf.Loop 32 :=
  let c6_i32_15 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let c6_i32_55 : BitVec 32 := 6#32
  let v89 : BitVec 32 := Scalar.subi c6_i32_55 v42
  let c1_i32_57 : BitVec 32 := 1#32
  let v91 : BitVec 32 := Scalar.divsi v89 c1_i32_57
  let v92 : BitVec 32 := Scalar.muli v91 c1_i32_57
  let v93 : BitVec 32 := Scalar.addi v42 v92
  let v90 : BitVec 32 := Scalar.addi v42 v89
  let c1_i32_59 : BitVec 32 := 1#32
  ⟨v93, v90, c1_i32_59⟩
def k0_off40 (i : grid0.Coords) (k0_t38 : Fin (k0_t38_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c6_i32_4 : BitVec 32 := 6#32
  let v20 : BitVec 32 := Scalar.addi v2 c6_i32_4
  let c1_i32_5 : BitVec 32 := 1#32
  let v21 : BitVec 32 := Scalar.subi v20 c1_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c16_i32_6 : BitVec 32 := 16#32
  let c0_i32_9 : BitVec 32 := 0#32
  let v28 : BitVec 1 := Scalar.cmpi .sgt c16_i32_6 c0_i32_9
  let v29 : BitVec 32 := Scalar.extui v28
  let c0_i32_10 : BitVec 32 := 0#32
  let v30 : BitVec 1 := Scalar.cmpi .slt c16_i32_6 c0_i32_10
  let v31 : BitVec 32 := Scalar.extui v30
  let v32 : BitVec 32 := Scalar.subi v29 v31
  let v33 : BitVec 1 := Scalar.cmpi .ne v27 v32
  let v34 : BitVec 32 := Scalar.remsi v21 c16_i32_6
  let c0_i32_11 : BitVec 32 := 0#32
  let v35 : BitVec 1 := Scalar.cmpi .ne v34 c0_i32_11
  let v36 : BitVec 1 := Scalar.andi v33 v35
  let v22 : BitVec 32 := Scalar.divsi v21 c16_i32_6
  let c1_i32_12 : BitVec 32 := 1#32
  let v37 : BitVec 32 := Scalar.subi v22 c1_i32_12
  let v38 : BitVec 32 := Scalar.select v36 v37 v22
  let c6_i32_15 : BitVec 32 := 6#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let c6_i32_55 : BitVec 32 := 6#32
  let v89 : BitVec 32 := Scalar.subi c6_i32_55 v42
  let c1_i32_57 : BitVec 32 := 1#32
  let v91 : BitVec 32 := Scalar.divsi v89 c1_i32_57
  let v92 : BitVec 32 := Scalar.muli v91 c1_i32_57
  let v93 : BitVec 32 := Scalar.addi v42 v92
  let c1_i32_59 : BitVec 32 := 1#32
  let arg12 : BitVec 32 := Scf.iv v93 c1_i32_59 k0_t38
  let v117 : BitVec 32 := Scalar.addi v2 arg12
  let c16_i32_77 : BitVec 32 := 16#32
  let c0_i32_78 : BitVec 32 := 0#32
  let v118 : BitVec 1 := Scalar.cmpi .eq c16_i32_77 c0_i32_78
  let c1_i32_79 : BitVec 32 := 1#32
  let v119 : BitVec 32 := Scalar.select v118 c1_i32_79 c16_i32_77
  let v120 : BitVec 32 := Scalar.remsi v117 v119
  let c0_i32_81 : BitVec 32 := 0#32
  let v122 : BitVec 1 := Scalar.cmpi .slt v120 c0_i32_81
  let c0_i32_82 : BitVec 32 := 0#32
  let v123 : BitVec 1 := Scalar.cmpi .slt v119 c0_i32_82
  let v124 : BitVec 1 := Scalar.xori v122 v123
  let c0_i32_80 : BitVec 32 := 0#32
  let v121 : BitVec 1 := Scalar.cmpi .ne v120 c0_i32_80
  let v125 : BitVec 1 := Scalar.andi v124 v121
  let v126 : BitVec 32 := Scalar.addi v120 v119
  let v127 : BitVec 32 := Scalar.select v125 v126 v120
  let c8320_i32 : BitVec 32 := 8320#32
  let v128 : BitVec 32 := Scalar.muli v127 c8320_i32
  ![v38.toNat, v128.toNat]
def k0_off41 (i : grid0.Coords) (k0_t38 : Fin (k0_t38_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c6_i32_4 : BitVec 32 := 6#32
  let v20 : BitVec 32 := Scalar.addi v2 c6_i32_4
  let c1_i32_5 : BitVec 32 := 1#32
  let v21 : BitVec 32 := Scalar.subi v20 c1_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c16_i32_6 : BitVec 32 := 16#32
  let c0_i32_9 : BitVec 32 := 0#32
  let v28 : BitVec 1 := Scalar.cmpi .sgt c16_i32_6 c0_i32_9
  let v29 : BitVec 32 := Scalar.extui v28
  let c0_i32_10 : BitVec 32 := 0#32
  let v30 : BitVec 1 := Scalar.cmpi .slt c16_i32_6 c0_i32_10
  let v31 : BitVec 32 := Scalar.extui v30
  let v32 : BitVec 32 := Scalar.subi v29 v31
  let v33 : BitVec 1 := Scalar.cmpi .ne v27 v32
  let v34 : BitVec 32 := Scalar.remsi v21 c16_i32_6
  let c0_i32_11 : BitVec 32 := 0#32
  let v35 : BitVec 1 := Scalar.cmpi .ne v34 c0_i32_11
  let v36 : BitVec 1 := Scalar.andi v33 v35
  let v22 : BitVec 32 := Scalar.divsi v21 c16_i32_6
  let c1_i32_12 : BitVec 32 := 1#32
  let v37 : BitVec 32 := Scalar.subi v22 c1_i32_12
  let v38 : BitVec 32 := Scalar.select v36 v37 v22
  let c6_i32_15 : BitVec 32 := 6#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let c6_i32_55 : BitVec 32 := 6#32
  let v89 : BitVec 32 := Scalar.subi c6_i32_55 v42
  let c1_i32_57 : BitVec 32 := 1#32
  let v91 : BitVec 32 := Scalar.divsi v89 c1_i32_57
  let v92 : BitVec 32 := Scalar.muli v91 c1_i32_57
  let v93 : BitVec 32 := Scalar.addi v42 v92
  let c1_i32_59 : BitVec 32 := 1#32
  let arg12 : BitVec 32 := Scf.iv v93 c1_i32_59 k0_t38
  let v117 : BitVec 32 := Scalar.addi v2 arg12
  let c16_i32_77 : BitVec 32 := 16#32
  let c0_i32_78 : BitVec 32 := 0#32
  let v118 : BitVec 1 := Scalar.cmpi .eq c16_i32_77 c0_i32_78
  let c1_i32_79 : BitVec 32 := 1#32
  let v119 : BitVec 32 := Scalar.select v118 c1_i32_79 c16_i32_77
  let v120 : BitVec 32 := Scalar.remsi v117 v119
  let c0_i32_81 : BitVec 32 := 0#32
  let v122 : BitVec 1 := Scalar.cmpi .slt v120 c0_i32_81
  let c0_i32_82 : BitVec 32 := 0#32
  let v123 : BitVec 1 := Scalar.cmpi .slt v119 c0_i32_82
  let v124 : BitVec 1 := Scalar.xori v122 v123
  let c0_i32_80 : BitVec 32 := 0#32
  let v121 : BitVec 1 := Scalar.cmpi .ne v120 c0_i32_80
  let v125 : BitVec 1 := Scalar.andi v124 v121
  let v126 : BitVec 32 := Scalar.addi v120 v119
  let v127 : BitVec 32 := Scalar.select v125 v126 v120
  let c2176_i32 : BitVec 32 := 2176#32
  let v129 : BitVec 32 := Scalar.muli v127 c2176_i32
  ![v38.toNat, v129.toNat]
@[reducible] def k0_t39_loop : Scf.Loop 32 :=
  let c0_i32_84 : BitVec 32 := 0#32
  let c8_i32 : BitVec 32 := 8#32
  let v130 : BitVec 32 := Scalar.addi c0_i32_84 c8_i32
  let c1_i32_85 : BitVec 32 := 1#32
  ⟨c0_i32_84, v130, c1_i32_85⟩

def k0_chk364 (i : grid0.Coords) (k0_t38 : Fin (k0_t38_loop i).trips) (v145 : IVec S16 32) : Prop :=
  (∀ (k0_h1 : k0_cond1 i = 1#1), ∀ a x, ((![v145] : Fin 1 → IVec S16 32) a x).toNat < S2176.size a)
theorem k0_idx364_inb : ∀ (i : grid0.Coords) (k0_t38 : Fin (k0_t38_loop i).trips) (v145 : IVec S16 32) (k0_hw364 : k0_chk364 i k0_t38 v145), ∀ (k0_h1 : k0_cond1 i = 1#1), ∀ a x, ((![v145] : Fin 1 → IVec S16 32) a x).toNat < S2176.size a := fun i k0_t38 v145 k0_hw364 k0_h1 => k0_hw364 k0_h1

def k0_chk365 (i : grid0.Coords) (k0_t38 : Fin (k0_t38_loop i).trips) (v152 : IVec S16 32) : Prop :=
  (∀ (k0_h1 : k0_cond1 i = 1#1), ∀ a x, ((![v152] : Fin 1 → IVec S16 32) a x).toNat < S2176.size a)
theorem k0_idx365_inb : ∀ (i : grid0.Coords) (k0_t38 : Fin (k0_t38_loop i).trips) (v152 : IVec S16 32) (k0_hw365 : k0_chk365 i k0_t38 v152), ∀ (k0_h1 : k0_cond1 i = 1#1), ∀ a x, ((![v152] : Fin 1 → IVec S16 32) a x).toNat < S2176.size a := fun i k0_t38 v152 k0_hw365 k0_h1 => k0_hw365 k0_h1

def k0_chk366 (i : grid0.Coords) (k0_t38 : Fin (k0_t38_loop i).trips) (v159 : IVec S16 32) : Prop :=
  (∀ (k0_h1 : k0_cond1 i = 1#1), ∀ a x, ((![v159] : Fin 1 → IVec S16 32) a x).toNat < S2176.size a)
theorem k0_idx366_inb : ∀ (i : grid0.Coords) (k0_t38 : Fin (k0_t38_loop i).trips) (v159 : IVec S16 32) (k0_hw366 : k0_chk366 i k0_t38 v159), ∀ (k0_h1 : k0_cond1 i = 1#1), ∀ a x, ((![v159] : Fin 1 → IVec S16 32) a x).toNat < S2176.size a := fun i k0_t38 v159 k0_hw366 k0_h1 => k0_hw366 k0_h1

def k0_chk367 (i : grid0.Coords) (k0_t38 : Fin (k0_t38_loop i).trips) (v166 : IVec S16 32) : Prop :=
  (∀ (k0_h1 : k0_cond1 i = 1#1), ∀ a x, ((![v166] : Fin 1 → IVec S16 32) a x).toNat < S2176.size a)
theorem k0_idx367_inb : ∀ (i : grid0.Coords) (k0_t38 : Fin (k0_t38_loop i).trips) (v166 : IVec S16 32) (k0_hw367 : k0_chk367 i k0_t38 v166), ∀ (k0_h1 : k0_cond1 i = 1#1), ∀ a x, ((![v166] : Fin 1 → IVec S16 32) a x).toNat < S2176.size a := fun i k0_t38 v166 k0_hw367 k0_h1 => k0_hw367 k0_h1

def k0_chk368 (i : grid0.Coords) (k0_t38 : Fin (k0_t38_loop i).trips) (v173 : IVec S16 32) : Prop :=
  (∀ (k0_h1 : k0_cond1 i = 1#1), ∀ a x, ((![v173] : Fin 1 → IVec S16 32) a x).toNat < S2176.size a)
theorem k0_idx368_inb : ∀ (i : grid0.Coords) (k0_t38 : Fin (k0_t38_loop i).trips) (v173 : IVec S16 32) (k0_hw368 : k0_chk368 i k0_t38 v173), ∀ (k0_h1 : k0_cond1 i = 1#1), ∀ a x, ((![v173] : Fin 1 → IVec S16 32) a x).toNat < S2176.size a := fun i k0_t38 v173 k0_hw368 k0_h1 => k0_hw368 k0_h1

def k0_chk369 (i : grid0.Coords) (k0_t38 : Fin (k0_t38_loop i).trips) (v180 : IVec S16 32) : Prop :=
  (∀ (k0_h1 : k0_cond1 i = 1#1), ∀ a x, ((![v180] : Fin 1 → IVec S16 32) a x).toNat < S2176.size a)
theorem k0_idx369_inb : ∀ (i : grid0.Coords) (k0_t38 : Fin (k0_t38_loop i).trips) (v180 : IVec S16 32) (k0_hw369 : k0_chk369 i k0_t38 v180), ∀ (k0_h1 : k0_cond1 i = 1#1), ∀ a x, ((![v180] : Fin 1 → IVec S16 32) a x).toNat < S2176.size a := fun i k0_t38 v180 k0_hw369 k0_h1 => k0_hw369 k0_h1

def k0_chk370 (i : grid0.Coords) (k0_t38 : Fin (k0_t38_loop i).trips) (v187 : IVec S16 32) : Prop :=
  (∀ (k0_h1 : k0_cond1 i = 1#1), ∀ a x, ((![v187] : Fin 1 → IVec S16 32) a x).toNat < S2176.size a)
theorem k0_idx370_inb : ∀ (i : grid0.Coords) (k0_t38 : Fin (k0_t38_loop i).trips) (v187 : IVec S16 32) (k0_hw370 : k0_chk370 i k0_t38 v187), ∀ (k0_h1 : k0_cond1 i = 1#1), ∀ a x, ((![v187] : Fin 1 → IVec S16 32) a x).toNat < S2176.size a := fun i k0_t38 v187 k0_hw370 k0_h1 => k0_hw370 k0_h1

def k0_chk371 (i : grid0.Coords) (k0_t38 : Fin (k0_t38_loop i).trips) (v194 : IVec S16 32) : Prop :=
  (∀ (k0_h1 : k0_cond1 i = 1#1), ∀ a x, ((![v194] : Fin 1 → IVec S16 32) a x).toNat < S2176.size a)
theorem k0_idx371_inb : ∀ (i : grid0.Coords) (k0_t38 : Fin (k0_t38_loop i).trips) (v194 : IVec S16 32) (k0_hw371 : k0_chk371 i k0_t38 v194), ∀ (k0_h1 : k0_cond1 i = 1#1), ∀ a x, ((![v194] : Fin 1 → IVec S16 32) a x).toNat < S2176.size a := fun i k0_t38 v194 k0_hw371 k0_h1 => k0_hw371 k0_h1

def k0_chk372 (i : grid0.Coords) (k0_t38 : Fin (k0_t38_loop i).trips) (v201 : IVec S16 32) : Prop :=
  (∀ (k0_h1 : k0_cond1 i = 1#1), ∀ a x, ((![v201] : Fin 1 → IVec S16 32) a x).toNat < S2176.size a)
theorem k0_idx372_inb : ∀ (i : grid0.Coords) (k0_t38 : Fin (k0_t38_loop i).trips) (v201 : IVec S16 32) (k0_hw372 : k0_chk372 i k0_t38 v201), ∀ (k0_h1 : k0_cond1 i = 1#1), ∀ a x, ((![v201] : Fin 1 → IVec S16 32) a x).toNat < S2176.size a := fun i k0_t38 v201 k0_hw372 k0_h1 => k0_hw372 k0_h1

def k0_chk373 (i : grid0.Coords) (k0_t38 : Fin (k0_t38_loop i).trips) (v208 : IVec S16 32) : Prop :=
  (∀ (k0_h1 : k0_cond1 i = 1#1), ∀ a x, ((![v208] : Fin 1 → IVec S16 32) a x).toNat < S2176.size a)
theorem k0_idx373_inb : ∀ (i : grid0.Coords) (k0_t38 : Fin (k0_t38_loop i).trips) (v208 : IVec S16 32) (k0_hw373 : k0_chk373 i k0_t38 v208), ∀ (k0_h1 : k0_cond1 i = 1#1), ∀ a x, ((![v208] : Fin 1 → IVec S16 32) a x).toNat < S2176.size a := fun i k0_t38 v208 k0_hw373 k0_h1 => k0_hw373 k0_h1

def k0_chk374 (i : grid0.Coords) (k0_t38 : Fin (k0_t38_loop i).trips) (v215 : IVec S16 32) : Prop :=
  (∀ (k0_h1 : k0_cond1 i = 1#1), ∀ a x, ((![v215] : Fin 1 → IVec S16 32) a x).toNat < S2176.size a)
theorem k0_idx374_inb : ∀ (i : grid0.Coords) (k0_t38 : Fin (k0_t38_loop i).trips) (v215 : IVec S16 32) (k0_hw374 : k0_chk374 i k0_t38 v215), ∀ (k0_h1 : k0_cond1 i = 1#1), ∀ a x, ((![v215] : Fin 1 → IVec S16 32) a x).toNat < S2176.size a := fun i k0_t38 v215 k0_hw374 k0_h1 => k0_hw374 k0_h1

def k0_chk375 (i : grid0.Coords) (k0_t38 : Fin (k0_t38_loop i).trips) (v222 : IVec S16 32) : Prop :=
  (∀ (k0_h1 : k0_cond1 i = 1#1), ∀ a x, ((![v222] : Fin 1 → IVec S16 32) a x).toNat < S2176.size a)
theorem k0_idx375_inb : ∀ (i : grid0.Coords) (k0_t38 : Fin (k0_t38_loop i).trips) (v222 : IVec S16 32) (k0_hw375 : k0_chk375 i k0_t38 v222), ∀ (k0_h1 : k0_cond1 i = 1#1), ∀ a x, ((![v222] : Fin 1 → IVec S16 32) a x).toNat < S2176.size a := fun i k0_t38 v222 k0_hw375 k0_h1 => k0_hw375 k0_h1

def k0_chk376 (i : grid0.Coords) (k0_t38 : Fin (k0_t38_loop i).trips) (v229 : IVec S16 32) : Prop :=
  (∀ (k0_h1 : k0_cond1 i = 1#1), ∀ a x, ((![v229] : Fin 1 → IVec S16 32) a x).toNat < S2176.size a)
theorem k0_idx376_inb : ∀ (i : grid0.Coords) (k0_t38 : Fin (k0_t38_loop i).trips) (v229 : IVec S16 32) (k0_hw376 : k0_chk376 i k0_t38 v229), ∀ (k0_h1 : k0_cond1 i = 1#1), ∀ a x, ((![v229] : Fin 1 → IVec S16 32) a x).toNat < S2176.size a := fun i k0_t38 v229 k0_hw376 k0_h1 => k0_hw376 k0_h1

def k0_chk377 (i : grid0.Coords) (k0_t38 : Fin (k0_t38_loop i).trips) (v236 : IVec S16 32) : Prop :=
  (∀ (k0_h1 : k0_cond1 i = 1#1), ∀ a x, ((![v236] : Fin 1 → IVec S16 32) a x).toNat < S2176.size a)
theorem k0_idx377_inb : ∀ (i : grid0.Coords) (k0_t38 : Fin (k0_t38_loop i).trips) (v236 : IVec S16 32) (k0_hw377 : k0_chk377 i k0_t38 v236), ∀ (k0_h1 : k0_cond1 i = 1#1), ∀ a x, ((![v236] : Fin 1 → IVec S16 32) a x).toNat < S2176.size a := fun i k0_t38 v236 k0_hw377 k0_h1 => k0_hw377 k0_h1

def k0_chk378 (i : grid0.Coords) (k0_t38 : Fin (k0_t38_loop i).trips) (v243 : IVec S16 32) : Prop :=
  (∀ (k0_h1 : k0_cond1 i = 1#1), ∀ a x, ((![v243] : Fin 1 → IVec S16 32) a x).toNat < S2176.size a)
theorem k0_idx378_inb : ∀ (i : grid0.Coords) (k0_t38 : Fin (k0_t38_loop i).trips) (v243 : IVec S16 32) (k0_hw378 : k0_chk378 i k0_t38 v243), ∀ (k0_h1 : k0_cond1 i = 1#1), ∀ a x, ((![v243] : Fin 1 → IVec S16 32) a x).toNat < S2176.size a := fun i k0_t38 v243 k0_hw378 k0_h1 => k0_hw378 k0_h1

def k0_chk379 (i : grid0.Coords) (k0_t38 : Fin (k0_t38_loop i).trips) (v250 : IVec S16 32) : Prop :=
  (∀ (k0_h1 : k0_cond1 i = 1#1), ∀ a x, ((![v250] : Fin 1 → IVec S16 32) a x).toNat < S2176.size a)
theorem k0_idx379_inb : ∀ (i : grid0.Coords) (k0_t38 : Fin (k0_t38_loop i).trips) (v250 : IVec S16 32) (k0_hw379 : k0_chk379 i k0_t38 v250), ∀ (k0_h1 : k0_cond1 i = 1#1), ∀ a x, ((![v250] : Fin 1 → IVec S16 32) a x).toNat < S2176.size a := fun i k0_t38 v250 k0_hw379 k0_h1 => k0_hw379 k0_h1
def k0_off42 (i : grid0.Coords) (k0_t38 : Fin (k0_t38_loop i).trips) (k0_t39 : Fin k0_t39_loop.trips) (c0_i32_125 : BitVec 32) : Fin 1 → Nat :=
  let c6_i32_15 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let c6_i32_55 : BitVec 32 := 6#32
  let v89 : BitVec 32 := Scalar.subi c6_i32_55 v42
  let c1_i32_57 : BitVec 32 := 1#32
  let v91 : BitVec 32 := Scalar.divsi v89 c1_i32_57
  let v92 : BitVec 32 := Scalar.muli v91 c1_i32_57
  let v93 : BitVec 32 := Scalar.addi v42 v92
  let c1_i32_59 : BitVec 32 := 1#32
  let arg12 : BitVec 32 := Scf.iv v93 c1_i32_59 k0_t38
  let c128_i32 : BitVec 32 := 128#32
  let v139 : BitVec 32 := Scalar.muli arg12 c128_i32
  let c0_i32_84 : BitVec 32 := 0#32
  let c1_i32_85 : BitVec 32 := 1#32
  let arg14 : BitVec 32 := Scf.iv c0_i32_84 c1_i32_85 k0_t39
  let c16_i32_89 : BitVec 32 := 16#32
  let v140 : BitVec 32 := Scalar.muli arg14 c16_i32_89
  let v141 : BitVec 32 := Scalar.addi v139 v140
  let v254 : BitVec 32 := Scalar.addi c0_i32_125 v141
  let v255 : Index := Scalar.indexCast v254
  ![v255.toNat]
@[reducible] def k0_t40_loop : Scf.Loop 32 :=
  let c0_i32_126 : BitVec 32 := 0#32
  let c32_i32_127 : BitVec 32 := 32#32
  let v302 : BitVec 32 := Scalar.addi c0_i32_126 c32_i32_127
  let c1_i32_128 : BitVec 32 := 1#32
  ⟨c0_i32_126, v302, c1_i32_128⟩

def k0_chk380 (i : grid0.Coords) (k0_t38 : Fin (k0_t38_loop i).trips) (v353 : IVec S16 32) : Prop :=
  (∀ (k0_h1 : k0_cond1 i = 1#1), ∀ a x, ((![v353] : Fin 1 → IVec S16 32) a x).toNat < S8320.size a)
theorem k0_idx380_inb : ∀ (i : grid0.Coords) (k0_t38 : Fin (k0_t38_loop i).trips) (v353 : IVec S16 32) (k0_hw380 : k0_chk380 i k0_t38 v353), ∀ (k0_h1 : k0_cond1 i = 1#1), ∀ a x, ((![v353] : Fin 1 → IVec S16 32) a x).toNat < S8320.size a := fun i k0_t38 v353 k0_hw380 k0_h1 => k0_hw380 k0_h1

def k0_chk381 (i : grid0.Coords) (k0_t38 : Fin (k0_t38_loop i).trips) (v356 : IVec S16 32) : Prop :=
  (∀ (k0_h1 : k0_cond1 i = 1#1), ∀ a x, ((![v356] : Fin 1 → IVec S16 32) a x).toNat < S67584.size a)
theorem k0_idx381_inb : ∀ (i : grid0.Coords) (k0_t38 : Fin (k0_t38_loop i).trips) (v356 : IVec S16 32) (k0_hw381 : k0_chk381 i k0_t38 v356), ∀ (k0_h1 : k0_cond1 i = 1#1), ∀ a x, ((![v356] : Fin 1 → IVec S16 32) a x).toNat < S67584.size a := fun i k0_t38 v356 k0_hw381 k0_h1 => k0_hw381 k0_h1

def k0_chk382 (i : grid0.Coords) (k0_t38 : Fin (k0_t38_loop i).trips) (v361 : IVec S16 32) : Prop :=
  (∀ (k0_h1 : k0_cond1 i = 1#1), ∀ a x, ((![v361] : Fin 1 → IVec S16 32) a x).toNat < S67584.size a)
theorem k0_idx382_inb : ∀ (i : grid0.Coords) (k0_t38 : Fin (k0_t38_loop i).trips) (v361 : IVec S16 32) (k0_hw382 : k0_chk382 i k0_t38 v361), ∀ (k0_h1 : k0_cond1 i = 1#1), ∀ a x, ((![v361] : Fin 1 → IVec S16 32) a x).toNat < S67584.size a := fun i k0_t38 v361 k0_hw382 k0_h1 => k0_hw382 k0_h1

def k0_chk383 (i : grid0.Coords) (k0_t38 : Fin (k0_t38_loop i).trips) (v366 : IVec S16 32) : Prop :=
  (∀ (k0_h1 : k0_cond1 i = 1#1), ∀ a x, ((![v366] : Fin 1 → IVec S16 32) a x).toNat < S67584.size a)
theorem k0_idx383_inb : ∀ (i : grid0.Coords) (k0_t38 : Fin (k0_t38_loop i).trips) (v366 : IVec S16 32) (k0_hw383 : k0_chk383 i k0_t38 v366), ∀ (k0_h1 : k0_cond1 i = 1#1), ∀ a x, ((![v366] : Fin 1 → IVec S16 32) a x).toNat < S67584.size a := fun i k0_t38 v366 k0_hw383 k0_h1 => k0_hw383 k0_h1

def k0_chk384 (i : grid0.Coords) (k0_t38 : Fin (k0_t38_loop i).trips) (v371 : IVec S16 32) : Prop :=
  (∀ (k0_h1 : k0_cond1 i = 1#1), ∀ a x, ((![v371] : Fin 1 → IVec S16 32) a x).toNat < S67584.size a)
theorem k0_idx384_inb : ∀ (i : grid0.Coords) (k0_t38 : Fin (k0_t38_loop i).trips) (v371 : IVec S16 32) (k0_hw384 : k0_chk384 i k0_t38 v371), ∀ (k0_h1 : k0_cond1 i = 1#1), ∀ a x, ((![v371] : Fin 1 → IVec S16 32) a x).toNat < S67584.size a := fun i k0_t38 v371 k0_hw384 k0_h1 => k0_hw384 k0_h1

def k0_chk385 (i : grid0.Coords) (k0_t38 : Fin (k0_t38_loop i).trips) (v376 : IVec S16 32) : Prop :=
  (∀ (k0_h1 : k0_cond1 i = 1#1), ∀ a x, ((![v376] : Fin 1 → IVec S16 32) a x).toNat < S67584.size a)
theorem k0_idx385_inb : ∀ (i : grid0.Coords) (k0_t38 : Fin (k0_t38_loop i).trips) (v376 : IVec S16 32) (k0_hw385 : k0_chk385 i k0_t38 v376), ∀ (k0_h1 : k0_cond1 i = 1#1), ∀ a x, ((![v376] : Fin 1 → IVec S16 32) a x).toNat < S67584.size a := fun i k0_t38 v376 k0_hw385 k0_h1 => k0_hw385 k0_h1

def k0_chk386 (i : grid0.Coords) (k0_t38 : Fin (k0_t38_loop i).trips) (v381 : IVec S16 32) : Prop :=
  (∀ (k0_h1 : k0_cond1 i = 1#1), ∀ a x, ((![v381] : Fin 1 → IVec S16 32) a x).toNat < S67584.size a)
theorem k0_idx386_inb : ∀ (i : grid0.Coords) (k0_t38 : Fin (k0_t38_loop i).trips) (v381 : IVec S16 32) (k0_hw386 : k0_chk386 i k0_t38 v381), ∀ (k0_h1 : k0_cond1 i = 1#1), ∀ a x, ((![v381] : Fin 1 → IVec S16 32) a x).toNat < S67584.size a := fun i k0_t38 v381 k0_hw386 k0_h1 => k0_hw386 k0_h1

def k0_chk387 (i : grid0.Coords) (k0_t38 : Fin (k0_t38_loop i).trips) (v386 : IVec S16 32) : Prop :=
  (∀ (k0_h1 : k0_cond1 i = 1#1), ∀ a x, ((![v386] : Fin 1 → IVec S16 32) a x).toNat < S67584.size a)
theorem k0_idx387_inb : ∀ (i : grid0.Coords) (k0_t38 : Fin (k0_t38_loop i).trips) (v386 : IVec S16 32) (k0_hw387 : k0_chk387 i k0_t38 v386), ∀ (k0_h1 : k0_cond1 i = 1#1), ∀ a x, ((![v386] : Fin 1 → IVec S16 32) a x).toNat < S67584.size a := fun i k0_t38 v386 k0_hw387 k0_h1 => k0_hw387 k0_h1

def k0_chk388 (i : grid0.Coords) (k0_t38 : Fin (k0_t38_loop i).trips) (v391 : IVec S16 32) : Prop :=
  (∀ (k0_h1 : k0_cond1 i = 1#1), ∀ a x, ((![v391] : Fin 1 → IVec S16 32) a x).toNat < S67584.size a)
theorem k0_idx388_inb : ∀ (i : grid0.Coords) (k0_t38 : Fin (k0_t38_loop i).trips) (v391 : IVec S16 32) (k0_hw388 : k0_chk388 i k0_t38 v391), ∀ (k0_h1 : k0_cond1 i = 1#1), ∀ a x, ((![v391] : Fin 1 → IVec S16 32) a x).toNat < S67584.size a := fun i k0_t38 v391 k0_hw388 k0_h1 => k0_hw388 k0_h1

def k0_chk389 (i : grid0.Coords) (k0_t38 : Fin (k0_t38_loop i).trips) (v396 : IVec S16 32) : Prop :=
  (∀ (k0_h1 : k0_cond1 i = 1#1), ∀ a x, ((![v396] : Fin 1 → IVec S16 32) a x).toNat < S67584.size a)
theorem k0_idx389_inb : ∀ (i : grid0.Coords) (k0_t38 : Fin (k0_t38_loop i).trips) (v396 : IVec S16 32) (k0_hw389 : k0_chk389 i k0_t38 v396), ∀ (k0_h1 : k0_cond1 i = 1#1), ∀ a x, ((![v396] : Fin 1 → IVec S16 32) a x).toNat < S67584.size a := fun i k0_t38 v396 k0_hw389 k0_h1 => k0_hw389 k0_h1

def k0_chk390 (i : grid0.Coords) (k0_t38 : Fin (k0_t38_loop i).trips) (v401 : IVec S16 32) : Prop :=
  (∀ (k0_h1 : k0_cond1 i = 1#1), ∀ a x, ((![v401] : Fin 1 → IVec S16 32) a x).toNat < S67584.size a)
theorem k0_idx390_inb : ∀ (i : grid0.Coords) (k0_t38 : Fin (k0_t38_loop i).trips) (v401 : IVec S16 32) (k0_hw390 : k0_chk390 i k0_t38 v401), ∀ (k0_h1 : k0_cond1 i = 1#1), ∀ a x, ((![v401] : Fin 1 → IVec S16 32) a x).toNat < S67584.size a := fun i k0_t38 v401 k0_hw390 k0_h1 => k0_hw390 k0_h1

def k0_chk391 (i : grid0.Coords) (k0_t38 : Fin (k0_t38_loop i).trips) (v406 : IVec S16 32) : Prop :=
  (∀ (k0_h1 : k0_cond1 i = 1#1), ∀ a x, ((![v406] : Fin 1 → IVec S16 32) a x).toNat < S67584.size a)
theorem k0_idx391_inb : ∀ (i : grid0.Coords) (k0_t38 : Fin (k0_t38_loop i).trips) (v406 : IVec S16 32) (k0_hw391 : k0_chk391 i k0_t38 v406), ∀ (k0_h1 : k0_cond1 i = 1#1), ∀ a x, ((![v406] : Fin 1 → IVec S16 32) a x).toNat < S67584.size a := fun i k0_t38 v406 k0_hw391 k0_h1 => k0_hw391 k0_h1

def k0_chk392 (i : grid0.Coords) (k0_t38 : Fin (k0_t38_loop i).trips) (v411 : IVec S16 32) : Prop :=
  (∀ (k0_h1 : k0_cond1 i = 1#1), ∀ a x, ((![v411] : Fin 1 → IVec S16 32) a x).toNat < S67584.size a)
theorem k0_idx392_inb : ∀ (i : grid0.Coords) (k0_t38 : Fin (k0_t38_loop i).trips) (v411 : IVec S16 32) (k0_hw392 : k0_chk392 i k0_t38 v411), ∀ (k0_h1 : k0_cond1 i = 1#1), ∀ a x, ((![v411] : Fin 1 → IVec S16 32) a x).toNat < S67584.size a := fun i k0_t38 v411 k0_hw392 k0_h1 => k0_hw392 k0_h1

def k0_chk393 (i : grid0.Coords) (k0_t38 : Fin (k0_t38_loop i).trips) (v416 : IVec S16 32) : Prop :=
  (∀ (k0_h1 : k0_cond1 i = 1#1), ∀ a x, ((![v416] : Fin 1 → IVec S16 32) a x).toNat < S67584.size a)
theorem k0_idx393_inb : ∀ (i : grid0.Coords) (k0_t38 : Fin (k0_t38_loop i).trips) (v416 : IVec S16 32) (k0_hw393 : k0_chk393 i k0_t38 v416), ∀ (k0_h1 : k0_cond1 i = 1#1), ∀ a x, ((![v416] : Fin 1 → IVec S16 32) a x).toNat < S67584.size a := fun i k0_t38 v416 k0_hw393 k0_h1 => k0_hw393 k0_h1

def k0_chk394 (i : grid0.Coords) (k0_t38 : Fin (k0_t38_loop i).trips) (v421 : IVec S16 32) : Prop :=
  (∀ (k0_h1 : k0_cond1 i = 1#1), ∀ a x, ((![v421] : Fin 1 → IVec S16 32) a x).toNat < S67584.size a)
theorem k0_idx394_inb : ∀ (i : grid0.Coords) (k0_t38 : Fin (k0_t38_loop i).trips) (v421 : IVec S16 32) (k0_hw394 : k0_chk394 i k0_t38 v421), ∀ (k0_h1 : k0_cond1 i = 1#1), ∀ a x, ((![v421] : Fin 1 → IVec S16 32) a x).toNat < S67584.size a := fun i k0_t38 v421 k0_hw394 k0_h1 => k0_hw394 k0_h1

def k0_chk395 (i : grid0.Coords) (k0_t38 : Fin (k0_t38_loop i).trips) (v426 : IVec S16 32) : Prop :=
  (∀ (k0_h1 : k0_cond1 i = 1#1), ∀ a x, ((![v426] : Fin 1 → IVec S16 32) a x).toNat < S67584.size a)
theorem k0_idx395_inb : ∀ (i : grid0.Coords) (k0_t38 : Fin (k0_t38_loop i).trips) (v426 : IVec S16 32) (k0_hw395 : k0_chk395 i k0_t38 v426), ∀ (k0_h1 : k0_cond1 i = 1#1), ∀ a x, ((![v426] : Fin 1 → IVec S16 32) a x).toNat < S67584.size a := fun i k0_t38 v426 k0_hw395 k0_h1 => k0_hw395 k0_h1

def k0_chk396 (i : grid0.Coords) (k0_t38 : Fin (k0_t38_loop i).trips) (v431 : IVec S16 32) : Prop :=
  (∀ (k0_h1 : k0_cond1 i = 1#1), ∀ a x, ((![v431] : Fin 1 → IVec S16 32) a x).toNat < S67584.size a)
theorem k0_idx396_inb : ∀ (i : grid0.Coords) (k0_t38 : Fin (k0_t38_loop i).trips) (v431 : IVec S16 32) (k0_hw396 : k0_chk396 i k0_t38 v431), ∀ (k0_h1 : k0_cond1 i = 1#1), ∀ a x, ((![v431] : Fin 1 → IVec S16 32) a x).toNat < S67584.size a := fun i k0_t38 v431 k0_hw396 k0_h1 => k0_hw396 k0_h1
@[reducible] def k0_t41_loop (i : grid0.Coords) : Scf.Loop 32 :=
  let c6_i32_15 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let c6_i32_60 : BitVec 32 := 6#32
  let v96 : BitVec 32 := Scalar.subi c6_i32_60 v42
  let c1_i32_62 : BitVec 32 := 1#32
  let v98 : BitVec 32 := Scalar.divsi v96 c1_i32_62
  let v99 : BitVec 32 := Scalar.muli v98 c1_i32_62
  let v100 : BitVec 32 := Scalar.addi v42 v99
  let c1_i32_63 : BitVec 32 := 1#32
  ⟨v42, v100, c1_i32_63⟩
@[reducible] def k0_t42_loop : Scf.Loop 32 :=
  let c0_i32_78 : BitVec 32 := 0#32
  let c8_i32 : BitVec 32 := 8#32
  let v117 : BitVec 32 := Scalar.addi c0_i32_78 c8_i32
  let c1_i32_79 : BitVec 32 := 1#32
  ⟨c0_i32_78, v117, c1_i32_79⟩
def k0_off43 (i : grid0.Coords) (k0_t41 : Fin (k0_t41_loop i).trips) (k0_t42 : Fin k0_t42_loop.trips) (c0_i32_83 : BitVec 32) : Fin 1 → Nat :=
  let c6_i32_15 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let c1_i32_63 : BitVec 32 := 1#32
  let arg12 : BitVec 32 := Scf.iv v42 c1_i32_63 k0_t41
  let c128_i32 : BitVec 32 := 128#32
  let v119 : BitVec 32 := Scalar.muli arg12 c128_i32
  let c0_i32_78 : BitVec 32 := 0#32
  let c1_i32_79 : BitVec 32 := 1#32
  let arg14 : BitVec 32 := Scf.iv c0_i32_78 c1_i32_79 k0_t42
  let c16_i32_82 : BitVec 32 := 16#32
  let v120 : BitVec 32 := Scalar.muli arg14 c16_i32_82
  let v121 : BitVec 32 := Scalar.addi v119 v120
  let v122 : BitVec 32 := Scalar.addi c0_i32_83 v121
  let v123 : Index := Scalar.indexCast v122
  ![v123.toNat]
@[reducible] def k0_t43_loop (i : grid0.Coords) : Scf.Loop 32 :=
  let c6_i32_15 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let c6_i32_60 : BitVec 32 := 6#32
  let v96 : BitVec 32 := Scalar.subi c6_i32_60 v42
  let c1_i32_62 : BitVec 32 := 1#32
  let v98 : BitVec 32 := Scalar.divsi v96 c1_i32_62
  let v99 : BitVec 32 := Scalar.muli v98 c1_i32_62
  let v100 : BitVec 32 := Scalar.addi v42 v99
  let v97 : BitVec 32 := Scalar.addi v42 v96
  let c1_i32_64 : BitVec 32 := 1#32
  ⟨v100, v97, c1_i32_64⟩
@[reducible] def k0_t44_loop : Scf.Loop 32 :=
  let c0_i32_78 : BitVec 32 := 0#32
  let c8_i32 : BitVec 32 := 8#32
  let v117 : BitVec 32 := Scalar.addi c0_i32_78 c8_i32
  let c1_i32_79 : BitVec 32 := 1#32
  ⟨c0_i32_78, v117, c1_i32_79⟩
def k0_off44 (i : grid0.Coords) (k0_t43 : Fin (k0_t43_loop i).trips) (k0_t44 : Fin k0_t44_loop.trips) (c0_i32_83 : BitVec 32) : Fin 1 → Nat :=
  let c6_i32_15 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let c6_i32_60 : BitVec 32 := 6#32
  let v96 : BitVec 32 := Scalar.subi c6_i32_60 v42
  let c1_i32_62 : BitVec 32 := 1#32
  let v98 : BitVec 32 := Scalar.divsi v96 c1_i32_62
  let v99 : BitVec 32 := Scalar.muli v98 c1_i32_62
  let v100 : BitVec 32 := Scalar.addi v42 v99
  let c1_i32_64 : BitVec 32 := 1#32
  let arg12 : BitVec 32 := Scf.iv v100 c1_i32_64 k0_t43
  let c128_i32 : BitVec 32 := 128#32
  let v119 : BitVec 32 := Scalar.muli arg12 c128_i32
  let c0_i32_78 : BitVec 32 := 0#32
  let c1_i32_79 : BitVec 32 := 1#32
  let arg14 : BitVec 32 := Scf.iv c0_i32_78 c1_i32_79 k0_t44
  let c16_i32_82 : BitVec 32 := 16#32
  let v120 : BitVec 32 := Scalar.muli arg14 c16_i32_82
  let v121 : BitVec 32 := Scalar.addi v119 v120
  let v122 : BitVec 32 := Scalar.addi c0_i32_83 v121
  let v123 : Index := Scalar.indexCast v122
  ![v123.toNat]
@[reducible] def k0_t45_loop (i : grid0.Coords) : Scf.Loop 32 :=
  let c6_i32_15 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let c6_i32_66 : BitVec 32 := 6#32
  let v103 : BitVec 32 := Scalar.subi c6_i32_66 v42
  let c1_i32_68 : BitVec 32 := 1#32
  let v105 : BitVec 32 := Scalar.divsi v103 c1_i32_68
  let v106 : BitVec 32 := Scalar.muli v105 c1_i32_68
  let v107 : BitVec 32 := Scalar.addi v42 v106
  let c1_i32_69 : BitVec 32 := 1#32
  ⟨v42, v107, c1_i32_69⟩
def k0_off45 (i : grid0.Coords) (k0_t45 : Fin (k0_t45_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c6_i32_4 : BitVec 32 := 6#32
  let v20 : BitVec 32 := Scalar.addi v2 c6_i32_4
  let c1_i32_5 : BitVec 32 := 1#32
  let v21 : BitVec 32 := Scalar.subi v20 c1_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c16_i32_6 : BitVec 32 := 16#32
  let c0_i32_9 : BitVec 32 := 0#32
  let v28 : BitVec 1 := Scalar.cmpi .sgt c16_i32_6 c0_i32_9
  let v29 : BitVec 32 := Scalar.extui v28
  let c0_i32_10 : BitVec 32 := 0#32
  let v30 : BitVec 1 := Scalar.cmpi .slt c16_i32_6 c0_i32_10
  let v31 : BitVec 32 := Scalar.extui v30
  let v32 : BitVec 32 := Scalar.subi v29 v31
  let v33 : BitVec 1 := Scalar.cmpi .ne v27 v32
  let v34 : BitVec 32 := Scalar.remsi v21 c16_i32_6
  let c0_i32_11 : BitVec 32 := 0#32
  let v35 : BitVec 1 := Scalar.cmpi .ne v34 c0_i32_11
  let v36 : BitVec 1 := Scalar.andi v33 v35
  let v22 : BitVec 32 := Scalar.divsi v21 c16_i32_6
  let c1_i32_12 : BitVec 32 := 1#32
  let v37 : BitVec 32 := Scalar.subi v22 c1_i32_12
  let v38 : BitVec 32 := Scalar.select v36 v37 v22
  let c6_i32_15 : BitVec 32 := 6#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let c1_i32_69 : BitVec 32 := 1#32
  let arg12 : BitVec 32 := Scf.iv v42 c1_i32_69 k0_t45
  let v117 : BitVec 32 := Scalar.addi v2 arg12
  let c16_i32_77 : BitVec 32 := 16#32
  let c0_i32_78 : BitVec 32 := 0#32
  let v118 : BitVec 1 := Scalar.cmpi .eq c16_i32_77 c0_i32_78
  let c1_i32_79 : BitVec 32 := 1#32
  let v119 : BitVec 32 := Scalar.select v118 c1_i32_79 c16_i32_77
  let v120 : BitVec 32 := Scalar.remsi v117 v119
  let c0_i32_81 : BitVec 32 := 0#32
  let v122 : BitVec 1 := Scalar.cmpi .slt v120 c0_i32_81
  let c0_i32_82 : BitVec 32 := 0#32
  let v123 : BitVec 1 := Scalar.cmpi .slt v119 c0_i32_82
  let v124 : BitVec 1 := Scalar.xori v122 v123
  let c0_i32_80 : BitVec 32 := 0#32
  let v121 : BitVec 1 := Scalar.cmpi .ne v120 c0_i32_80
  let v125 : BitVec 1 := Scalar.andi v124 v121
  let v126 : BitVec 32 := Scalar.addi v120 v119
  let v127 : BitVec 32 := Scalar.select v125 v126 v120
  let c2176_i32 : BitVec 32 := 2176#32
  let v128 : BitVec 32 := Scalar.muli v127 c2176_i32
  ![v38.toNat, v128.toNat]
@[reducible] def k0_t46_loop : Scf.Loop 32 :=
  let c0_i32_84 : BitVec 32 := 0#32
  let c8_i32 : BitVec 32 := 8#32
  let v129 : BitVec 32 := Scalar.addi c0_i32_84 c8_i32
  let c1_i32_85 : BitVec 32 := 1#32
  ⟨c0_i32_84, v129, c1_i32_85⟩

def k0_chk397 (i : grid0.Coords) (k0_t45 : Fin (k0_t45_loop i).trips) (v138 : IVec S16 32) : Prop :=
  (∀ (k0_h1 : k0_cond1 i = 1#1), ∀ a x, ((![v138] : Fin 1 → IVec S16 32) a x).toNat < S2176.size a)
theorem k0_idx397_inb : ∀ (i : grid0.Coords) (k0_t45 : Fin (k0_t45_loop i).trips) (v138 : IVec S16 32) (k0_hw397 : k0_chk397 i k0_t45 v138), ∀ (k0_h1 : k0_cond1 i = 1#1), ∀ a x, ((![v138] : Fin 1 → IVec S16 32) a x).toNat < S2176.size a := fun i k0_t45 v138 k0_hw397 k0_h1 => k0_hw397 k0_h1

def k0_chk398 (i : grid0.Coords) (k0_t45 : Fin (k0_t45_loop i).trips) (v145 : IVec S16 32) : Prop :=
  (∀ (k0_h1 : k0_cond1 i = 1#1), ∀ a x, ((![v145] : Fin 1 → IVec S16 32) a x).toNat < S2176.size a)
theorem k0_idx398_inb : ∀ (i : grid0.Coords) (k0_t45 : Fin (k0_t45_loop i).trips) (v145 : IVec S16 32) (k0_hw398 : k0_chk398 i k0_t45 v145), ∀ (k0_h1 : k0_cond1 i = 1#1), ∀ a x, ((![v145] : Fin 1 → IVec S16 32) a x).toNat < S2176.size a := fun i k0_t45 v145 k0_hw398 k0_h1 => k0_hw398 k0_h1

def k0_chk399 (i : grid0.Coords) (k0_t45 : Fin (k0_t45_loop i).trips) (v152 : IVec S16 32) : Prop :=
  (∀ (k0_h1 : k0_cond1 i = 1#1), ∀ a x, ((![v152] : Fin 1 → IVec S16 32) a x).toNat < S2176.size a)
theorem k0_idx399_inb : ∀ (i : grid0.Coords) (k0_t45 : Fin (k0_t45_loop i).trips) (v152 : IVec S16 32) (k0_hw399 : k0_chk399 i k0_t45 v152), ∀ (k0_h1 : k0_cond1 i = 1#1), ∀ a x, ((![v152] : Fin 1 → IVec S16 32) a x).toNat < S2176.size a := fun i k0_t45 v152 k0_hw399 k0_h1 => k0_hw399 k0_h1

def k0_chk400 (i : grid0.Coords) (k0_t45 : Fin (k0_t45_loop i).trips) (v159 : IVec S16 32) : Prop :=
  (∀ (k0_h1 : k0_cond1 i = 1#1), ∀ a x, ((![v159] : Fin 1 → IVec S16 32) a x).toNat < S2176.size a)
theorem k0_idx400_inb : ∀ (i : grid0.Coords) (k0_t45 : Fin (k0_t45_loop i).trips) (v159 : IVec S16 32) (k0_hw400 : k0_chk400 i k0_t45 v159), ∀ (k0_h1 : k0_cond1 i = 1#1), ∀ a x, ((![v159] : Fin 1 → IVec S16 32) a x).toNat < S2176.size a := fun i k0_t45 v159 k0_hw400 k0_h1 => k0_hw400 k0_h1

def k0_chk401 (i : grid0.Coords) (k0_t45 : Fin (k0_t45_loop i).trips) (v166 : IVec S16 32) : Prop :=
  (∀ (k0_h1 : k0_cond1 i = 1#1), ∀ a x, ((![v166] : Fin 1 → IVec S16 32) a x).toNat < S2176.size a)
theorem k0_idx401_inb : ∀ (i : grid0.Coords) (k0_t45 : Fin (k0_t45_loop i).trips) (v166 : IVec S16 32) (k0_hw401 : k0_chk401 i k0_t45 v166), ∀ (k0_h1 : k0_cond1 i = 1#1), ∀ a x, ((![v166] : Fin 1 → IVec S16 32) a x).toNat < S2176.size a := fun i k0_t45 v166 k0_hw401 k0_h1 => k0_hw401 k0_h1

def k0_chk402 (i : grid0.Coords) (k0_t45 : Fin (k0_t45_loop i).trips) (v173 : IVec S16 32) : Prop :=
  (∀ (k0_h1 : k0_cond1 i = 1#1), ∀ a x, ((![v173] : Fin 1 → IVec S16 32) a x).toNat < S2176.size a)
theorem k0_idx402_inb : ∀ (i : grid0.Coords) (k0_t45 : Fin (k0_t45_loop i).trips) (v173 : IVec S16 32) (k0_hw402 : k0_chk402 i k0_t45 v173), ∀ (k0_h1 : k0_cond1 i = 1#1), ∀ a x, ((![v173] : Fin 1 → IVec S16 32) a x).toNat < S2176.size a := fun i k0_t45 v173 k0_hw402 k0_h1 => k0_hw402 k0_h1

def k0_chk403 (i : grid0.Coords) (k0_t45 : Fin (k0_t45_loop i).trips) (v180 : IVec S16 32) : Prop :=
  (∀ (k0_h1 : k0_cond1 i = 1#1), ∀ a x, ((![v180] : Fin 1 → IVec S16 32) a x).toNat < S2176.size a)
theorem k0_idx403_inb : ∀ (i : grid0.Coords) (k0_t45 : Fin (k0_t45_loop i).trips) (v180 : IVec S16 32) (k0_hw403 : k0_chk403 i k0_t45 v180), ∀ (k0_h1 : k0_cond1 i = 1#1), ∀ a x, ((![v180] : Fin 1 → IVec S16 32) a x).toNat < S2176.size a := fun i k0_t45 v180 k0_hw403 k0_h1 => k0_hw403 k0_h1

def k0_chk404 (i : grid0.Coords) (k0_t45 : Fin (k0_t45_loop i).trips) (v187 : IVec S16 32) : Prop :=
  (∀ (k0_h1 : k0_cond1 i = 1#1), ∀ a x, ((![v187] : Fin 1 → IVec S16 32) a x).toNat < S2176.size a)
theorem k0_idx404_inb : ∀ (i : grid0.Coords) (k0_t45 : Fin (k0_t45_loop i).trips) (v187 : IVec S16 32) (k0_hw404 : k0_chk404 i k0_t45 v187), ∀ (k0_h1 : k0_cond1 i = 1#1), ∀ a x, ((![v187] : Fin 1 → IVec S16 32) a x).toNat < S2176.size a := fun i k0_t45 v187 k0_hw404 k0_h1 => k0_hw404 k0_h1

def k0_chk405 (i : grid0.Coords) (k0_t45 : Fin (k0_t45_loop i).trips) (v194 : IVec S16 32) : Prop :=
  (∀ (k0_h1 : k0_cond1 i = 1#1), ∀ a x, ((![v194] : Fin 1 → IVec S16 32) a x).toNat < S2176.size a)
theorem k0_idx405_inb : ∀ (i : grid0.Coords) (k0_t45 : Fin (k0_t45_loop i).trips) (v194 : IVec S16 32) (k0_hw405 : k0_chk405 i k0_t45 v194), ∀ (k0_h1 : k0_cond1 i = 1#1), ∀ a x, ((![v194] : Fin 1 → IVec S16 32) a x).toNat < S2176.size a := fun i k0_t45 v194 k0_hw405 k0_h1 => k0_hw405 k0_h1

def k0_chk406 (i : grid0.Coords) (k0_t45 : Fin (k0_t45_loop i).trips) (v201 : IVec S16 32) : Prop :=
  (∀ (k0_h1 : k0_cond1 i = 1#1), ∀ a x, ((![v201] : Fin 1 → IVec S16 32) a x).toNat < S2176.size a)
theorem k0_idx406_inb : ∀ (i : grid0.Coords) (k0_t45 : Fin (k0_t45_loop i).trips) (v201 : IVec S16 32) (k0_hw406 : k0_chk406 i k0_t45 v201), ∀ (k0_h1 : k0_cond1 i = 1#1), ∀ a x, ((![v201] : Fin 1 → IVec S16 32) a x).toNat < S2176.size a := fun i k0_t45 v201 k0_hw406 k0_h1 => k0_hw406 k0_h1

def k0_chk407 (i : grid0.Coords) (k0_t45 : Fin (k0_t45_loop i).trips) (v208 : IVec S16 32) : Prop :=
  (∀ (k0_h1 : k0_cond1 i = 1#1), ∀ a x, ((![v208] : Fin 1 → IVec S16 32) a x).toNat < S2176.size a)
theorem k0_idx407_inb : ∀ (i : grid0.Coords) (k0_t45 : Fin (k0_t45_loop i).trips) (v208 : IVec S16 32) (k0_hw407 : k0_chk407 i k0_t45 v208), ∀ (k0_h1 : k0_cond1 i = 1#1), ∀ a x, ((![v208] : Fin 1 → IVec S16 32) a x).toNat < S2176.size a := fun i k0_t45 v208 k0_hw407 k0_h1 => k0_hw407 k0_h1

def k0_chk408 (i : grid0.Coords) (k0_t45 : Fin (k0_t45_loop i).trips) (v215 : IVec S16 32) : Prop :=
  (∀ (k0_h1 : k0_cond1 i = 1#1), ∀ a x, ((![v215] : Fin 1 → IVec S16 32) a x).toNat < S2176.size a)
theorem k0_idx408_inb : ∀ (i : grid0.Coords) (k0_t45 : Fin (k0_t45_loop i).trips) (v215 : IVec S16 32) (k0_hw408 : k0_chk408 i k0_t45 v215), ∀ (k0_h1 : k0_cond1 i = 1#1), ∀ a x, ((![v215] : Fin 1 → IVec S16 32) a x).toNat < S2176.size a := fun i k0_t45 v215 k0_hw408 k0_h1 => k0_hw408 k0_h1

def k0_chk409 (i : grid0.Coords) (k0_t45 : Fin (k0_t45_loop i).trips) (v222 : IVec S16 32) : Prop :=
  (∀ (k0_h1 : k0_cond1 i = 1#1), ∀ a x, ((![v222] : Fin 1 → IVec S16 32) a x).toNat < S2176.size a)
theorem k0_idx409_inb : ∀ (i : grid0.Coords) (k0_t45 : Fin (k0_t45_loop i).trips) (v222 : IVec S16 32) (k0_hw409 : k0_chk409 i k0_t45 v222), ∀ (k0_h1 : k0_cond1 i = 1#1), ∀ a x, ((![v222] : Fin 1 → IVec S16 32) a x).toNat < S2176.size a := fun i k0_t45 v222 k0_hw409 k0_h1 => k0_hw409 k0_h1

def k0_chk410 (i : grid0.Coords) (k0_t45 : Fin (k0_t45_loop i).trips) (v229 : IVec S16 32) : Prop :=
  (∀ (k0_h1 : k0_cond1 i = 1#1), ∀ a x, ((![v229] : Fin 1 → IVec S16 32) a x).toNat < S2176.size a)
theorem k0_idx410_inb : ∀ (i : grid0.Coords) (k0_t45 : Fin (k0_t45_loop i).trips) (v229 : IVec S16 32) (k0_hw410 : k0_chk410 i k0_t45 v229), ∀ (k0_h1 : k0_cond1 i = 1#1), ∀ a x, ((![v229] : Fin 1 → IVec S16 32) a x).toNat < S2176.size a := fun i k0_t45 v229 k0_hw410 k0_h1 => k0_hw410 k0_h1

def k0_chk411 (i : grid0.Coords) (k0_t45 : Fin (k0_t45_loop i).trips) (v236 : IVec S16 32) : Prop :=
  (∀ (k0_h1 : k0_cond1 i = 1#1), ∀ a x, ((![v236] : Fin 1 → IVec S16 32) a x).toNat < S2176.size a)
theorem k0_idx411_inb : ∀ (i : grid0.Coords) (k0_t45 : Fin (k0_t45_loop i).trips) (v236 : IVec S16 32) (k0_hw411 : k0_chk411 i k0_t45 v236), ∀ (k0_h1 : k0_cond1 i = 1#1), ∀ a x, ((![v236] : Fin 1 → IVec S16 32) a x).toNat < S2176.size a := fun i k0_t45 v236 k0_hw411 k0_h1 => k0_hw411 k0_h1

def k0_chk412 (i : grid0.Coords) (k0_t45 : Fin (k0_t45_loop i).trips) (v243 : IVec S16 32) : Prop :=
  (∀ (k0_h1 : k0_cond1 i = 1#1), ∀ a x, ((![v243] : Fin 1 → IVec S16 32) a x).toNat < S2176.size a)
theorem k0_idx412_inb : ∀ (i : grid0.Coords) (k0_t45 : Fin (k0_t45_loop i).trips) (v243 : IVec S16 32) (k0_hw412 : k0_chk412 i k0_t45 v243), ∀ (k0_h1 : k0_cond1 i = 1#1), ∀ a x, ((![v243] : Fin 1 → IVec S16 32) a x).toNat < S2176.size a := fun i k0_t45 v243 k0_hw412 k0_h1 => k0_hw412 k0_h1
def k0_off46 (i : grid0.Coords) (k0_t45 : Fin (k0_t45_loop i).trips) (k0_t46 : Fin k0_t46_loop.trips) (c0_i32_126 : BitVec 32) : Fin 1 → Nat :=
  let c6_i32_15 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let c1_i32_69 : BitVec 32 := 1#32
  let arg12 : BitVec 32 := Scf.iv v42 c1_i32_69 k0_t45
  let c128_i32 : BitVec 32 := 128#32
  let v247 : BitVec 32 := Scalar.muli arg12 c128_i32
  let c0_i32_84 : BitVec 32 := 0#32
  let c1_i32_85 : BitVec 32 := 1#32
  let arg14 : BitVec 32 := Scf.iv c0_i32_84 c1_i32_85 k0_t46
  let c16_i32_125 : BitVec 32 := 16#32
  let v248 : BitVec 32 := Scalar.muli arg14 c16_i32_125
  let v249 : BitVec 32 := Scalar.addi v247 v248
  let v250 : BitVec 32 := Scalar.addi c0_i32_126 v249
  let v251 : Index := Scalar.indexCast v250
  ![v251.toNat]
@[reducible] def k0_t47_loop : Scf.Loop 32 :=
  let c0_i32_129 : BitVec 32 := 0#32
  let c32_i32 : BitVec 32 := 32#32
  let v300 : BitVec 32 := Scalar.addi c0_i32_129 c32_i32
  let c1_i32_130 : BitVec 32 := 1#32
  ⟨c0_i32_129, v300, c1_i32_130⟩

def k0_chk413 (i : grid0.Coords) (k0_t45 : Fin (k0_t45_loop i).trips) (v303 : IVec S16 32) : Prop :=
  (∀ (k0_h1 : k0_cond1 i = 1#1), ∀ a x, ((![v303] : Fin 1 → IVec S16 32) a x).toNat < S67584.size a)
theorem k0_idx413_inb : ∀ (i : grid0.Coords) (k0_t45 : Fin (k0_t45_loop i).trips) (v303 : IVec S16 32) (k0_hw413 : k0_chk413 i k0_t45 v303), ∀ (k0_h1 : k0_cond1 i = 1#1), ∀ a x, ((![v303] : Fin 1 → IVec S16 32) a x).toNat < S67584.size a := fun i k0_t45 v303 k0_hw413 k0_h1 => k0_hw413 k0_h1

def k0_chk414 (i : grid0.Coords) (k0_t45 : Fin (k0_t45_loop i).trips) (v307 : IVec S16 32) : Prop :=
  (∀ (k0_h1 : k0_cond1 i = 1#1), ∀ a x, ((![v307] : Fin 1 → IVec S16 32) a x).toNat < S67584.size a)
theorem k0_idx414_inb : ∀ (i : grid0.Coords) (k0_t45 : Fin (k0_t45_loop i).trips) (v307 : IVec S16 32) (k0_hw414 : k0_chk414 i k0_t45 v307), ∀ (k0_h1 : k0_cond1 i = 1#1), ∀ a x, ((![v307] : Fin 1 → IVec S16 32) a x).toNat < S67584.size a := fun i k0_t45 v307 k0_hw414 k0_h1 => k0_hw414 k0_h1

def k0_chk415 (i : grid0.Coords) (k0_t45 : Fin (k0_t45_loop i).trips) (v312 : IVec S16 32) : Prop :=
  (∀ (k0_h1 : k0_cond1 i = 1#1), ∀ a x, ((![v312] : Fin 1 → IVec S16 32) a x).toNat < S67584.size a)
theorem k0_idx415_inb : ∀ (i : grid0.Coords) (k0_t45 : Fin (k0_t45_loop i).trips) (v312 : IVec S16 32) (k0_hw415 : k0_chk415 i k0_t45 v312), ∀ (k0_h1 : k0_cond1 i = 1#1), ∀ a x, ((![v312] : Fin 1 → IVec S16 32) a x).toNat < S67584.size a := fun i k0_t45 v312 k0_hw415 k0_h1 => k0_hw415 k0_h1

def k0_chk416 (i : grid0.Coords) (k0_t45 : Fin (k0_t45_loop i).trips) (v317 : IVec S16 32) : Prop :=
  (∀ (k0_h1 : k0_cond1 i = 1#1), ∀ a x, ((![v317] : Fin 1 → IVec S16 32) a x).toNat < S67584.size a)
theorem k0_idx416_inb : ∀ (i : grid0.Coords) (k0_t45 : Fin (k0_t45_loop i).trips) (v317 : IVec S16 32) (k0_hw416 : k0_chk416 i k0_t45 v317), ∀ (k0_h1 : k0_cond1 i = 1#1), ∀ a x, ((![v317] : Fin 1 → IVec S16 32) a x).toNat < S67584.size a := fun i k0_t45 v317 k0_hw416 k0_h1 => k0_hw416 k0_h1

def k0_chk417 (i : grid0.Coords) (k0_t45 : Fin (k0_t45_loop i).trips) (v322 : IVec S16 32) : Prop :=
  (∀ (k0_h1 : k0_cond1 i = 1#1), ∀ a x, ((![v322] : Fin 1 → IVec S16 32) a x).toNat < S67584.size a)
theorem k0_idx417_inb : ∀ (i : grid0.Coords) (k0_t45 : Fin (k0_t45_loop i).trips) (v322 : IVec S16 32) (k0_hw417 : k0_chk417 i k0_t45 v322), ∀ (k0_h1 : k0_cond1 i = 1#1), ∀ a x, ((![v322] : Fin 1 → IVec S16 32) a x).toNat < S67584.size a := fun i k0_t45 v322 k0_hw417 k0_h1 => k0_hw417 k0_h1

def k0_chk418 (i : grid0.Coords) (k0_t45 : Fin (k0_t45_loop i).trips) (v327 : IVec S16 32) : Prop :=
  (∀ (k0_h1 : k0_cond1 i = 1#1), ∀ a x, ((![v327] : Fin 1 → IVec S16 32) a x).toNat < S67584.size a)
theorem k0_idx418_inb : ∀ (i : grid0.Coords) (k0_t45 : Fin (k0_t45_loop i).trips) (v327 : IVec S16 32) (k0_hw418 : k0_chk418 i k0_t45 v327), ∀ (k0_h1 : k0_cond1 i = 1#1), ∀ a x, ((![v327] : Fin 1 → IVec S16 32) a x).toNat < S67584.size a := fun i k0_t45 v327 k0_hw418 k0_h1 => k0_hw418 k0_h1

def k0_chk419 (i : grid0.Coords) (k0_t45 : Fin (k0_t45_loop i).trips) (v332 : IVec S16 32) : Prop :=
  (∀ (k0_h1 : k0_cond1 i = 1#1), ∀ a x, ((![v332] : Fin 1 → IVec S16 32) a x).toNat < S67584.size a)
theorem k0_idx419_inb : ∀ (i : grid0.Coords) (k0_t45 : Fin (k0_t45_loop i).trips) (v332 : IVec S16 32) (k0_hw419 : k0_chk419 i k0_t45 v332), ∀ (k0_h1 : k0_cond1 i = 1#1), ∀ a x, ((![v332] : Fin 1 → IVec S16 32) a x).toNat < S67584.size a := fun i k0_t45 v332 k0_hw419 k0_h1 => k0_hw419 k0_h1

def k0_chk420 (i : grid0.Coords) (k0_t45 : Fin (k0_t45_loop i).trips) (v337 : IVec S16 32) : Prop :=
  (∀ (k0_h1 : k0_cond1 i = 1#1), ∀ a x, ((![v337] : Fin 1 → IVec S16 32) a x).toNat < S67584.size a)
theorem k0_idx420_inb : ∀ (i : grid0.Coords) (k0_t45 : Fin (k0_t45_loop i).trips) (v337 : IVec S16 32) (k0_hw420 : k0_chk420 i k0_t45 v337), ∀ (k0_h1 : k0_cond1 i = 1#1), ∀ a x, ((![v337] : Fin 1 → IVec S16 32) a x).toNat < S67584.size a := fun i k0_t45 v337 k0_hw420 k0_h1 => k0_hw420 k0_h1

def k0_chk421 (i : grid0.Coords) (k0_t45 : Fin (k0_t45_loop i).trips) (v342 : IVec S16 32) : Prop :=
  (∀ (k0_h1 : k0_cond1 i = 1#1), ∀ a x, ((![v342] : Fin 1 → IVec S16 32) a x).toNat < S67584.size a)
theorem k0_idx421_inb : ∀ (i : grid0.Coords) (k0_t45 : Fin (k0_t45_loop i).trips) (v342 : IVec S16 32) (k0_hw421 : k0_chk421 i k0_t45 v342), ∀ (k0_h1 : k0_cond1 i = 1#1), ∀ a x, ((![v342] : Fin 1 → IVec S16 32) a x).toNat < S67584.size a := fun i k0_t45 v342 k0_hw421 k0_h1 => k0_hw421 k0_h1

def k0_chk422 (i : grid0.Coords) (k0_t45 : Fin (k0_t45_loop i).trips) (v347 : IVec S16 32) : Prop :=
  (∀ (k0_h1 : k0_cond1 i = 1#1), ∀ a x, ((![v347] : Fin 1 → IVec S16 32) a x).toNat < S67584.size a)
theorem k0_idx422_inb : ∀ (i : grid0.Coords) (k0_t45 : Fin (k0_t45_loop i).trips) (v347 : IVec S16 32) (k0_hw422 : k0_chk422 i k0_t45 v347), ∀ (k0_h1 : k0_cond1 i = 1#1), ∀ a x, ((![v347] : Fin 1 → IVec S16 32) a x).toNat < S67584.size a := fun i k0_t45 v347 k0_hw422 k0_h1 => k0_hw422 k0_h1

def k0_chk423 (i : grid0.Coords) (k0_t45 : Fin (k0_t45_loop i).trips) (v352 : IVec S16 32) : Prop :=
  (∀ (k0_h1 : k0_cond1 i = 1#1), ∀ a x, ((![v352] : Fin 1 → IVec S16 32) a x).toNat < S67584.size a)
theorem k0_idx423_inb : ∀ (i : grid0.Coords) (k0_t45 : Fin (k0_t45_loop i).trips) (v352 : IVec S16 32) (k0_hw423 : k0_chk423 i k0_t45 v352), ∀ (k0_h1 : k0_cond1 i = 1#1), ∀ a x, ((![v352] : Fin 1 → IVec S16 32) a x).toNat < S67584.size a := fun i k0_t45 v352 k0_hw423 k0_h1 => k0_hw423 k0_h1

def k0_chk424 (i : grid0.Coords) (k0_t45 : Fin (k0_t45_loop i).trips) (v357 : IVec S16 32) : Prop :=
  (∀ (k0_h1 : k0_cond1 i = 1#1), ∀ a x, ((![v357] : Fin 1 → IVec S16 32) a x).toNat < S67584.size a)
theorem k0_idx424_inb : ∀ (i : grid0.Coords) (k0_t45 : Fin (k0_t45_loop i).trips) (v357 : IVec S16 32) (k0_hw424 : k0_chk424 i k0_t45 v357), ∀ (k0_h1 : k0_cond1 i = 1#1), ∀ a x, ((![v357] : Fin 1 → IVec S16 32) a x).toNat < S67584.size a := fun i k0_t45 v357 k0_hw424 k0_h1 => k0_hw424 k0_h1

def k0_chk425 (i : grid0.Coords) (k0_t45 : Fin (k0_t45_loop i).trips) (v362 : IVec S16 32) : Prop :=
  (∀ (k0_h1 : k0_cond1 i = 1#1), ∀ a x, ((![v362] : Fin 1 → IVec S16 32) a x).toNat < S67584.size a)
theorem k0_idx425_inb : ∀ (i : grid0.Coords) (k0_t45 : Fin (k0_t45_loop i).trips) (v362 : IVec S16 32) (k0_hw425 : k0_chk425 i k0_t45 v362), ∀ (k0_h1 : k0_cond1 i = 1#1), ∀ a x, ((![v362] : Fin 1 → IVec S16 32) a x).toNat < S67584.size a := fun i k0_t45 v362 k0_hw425 k0_h1 => k0_hw425 k0_h1

def k0_chk426 (i : grid0.Coords) (k0_t45 : Fin (k0_t45_loop i).trips) (v367 : IVec S16 32) : Prop :=
  (∀ (k0_h1 : k0_cond1 i = 1#1), ∀ a x, ((![v367] : Fin 1 → IVec S16 32) a x).toNat < S67584.size a)
theorem k0_idx426_inb : ∀ (i : grid0.Coords) (k0_t45 : Fin (k0_t45_loop i).trips) (v367 : IVec S16 32) (k0_hw426 : k0_chk426 i k0_t45 v367), ∀ (k0_h1 : k0_cond1 i = 1#1), ∀ a x, ((![v367] : Fin 1 → IVec S16 32) a x).toNat < S67584.size a := fun i k0_t45 v367 k0_hw426 k0_h1 => k0_hw426 k0_h1

def k0_chk427 (i : grid0.Coords) (k0_t45 : Fin (k0_t45_loop i).trips) (v372 : IVec S16 32) : Prop :=
  (∀ (k0_h1 : k0_cond1 i = 1#1), ∀ a x, ((![v372] : Fin 1 → IVec S16 32) a x).toNat < S67584.size a)
theorem k0_idx427_inb : ∀ (i : grid0.Coords) (k0_t45 : Fin (k0_t45_loop i).trips) (v372 : IVec S16 32) (k0_hw427 : k0_chk427 i k0_t45 v372), ∀ (k0_h1 : k0_cond1 i = 1#1), ∀ a x, ((![v372] : Fin 1 → IVec S16 32) a x).toNat < S67584.size a := fun i k0_t45 v372 k0_hw427 k0_h1 => k0_hw427 k0_h1

def k0_chk428 (i : grid0.Coords) (k0_t45 : Fin (k0_t45_loop i).trips) (v377 : IVec S16 32) : Prop :=
  (∀ (k0_h1 : k0_cond1 i = 1#1), ∀ a x, ((![v377] : Fin 1 → IVec S16 32) a x).toNat < S67584.size a)
theorem k0_idx428_inb : ∀ (i : grid0.Coords) (k0_t45 : Fin (k0_t45_loop i).trips) (v377 : IVec S16 32) (k0_hw428 : k0_chk428 i k0_t45 v377), ∀ (k0_h1 : k0_cond1 i = 1#1), ∀ a x, ((![v377] : Fin 1 → IVec S16 32) a x).toNat < S67584.size a := fun i k0_t45 v377 k0_hw428 k0_h1 => k0_hw428 k0_h1

def k0_chk429 (i : grid0.Coords) (k0_t45 : Fin (k0_t45_loop i).trips) (v382 : IVec S16 32) : Prop :=
  (∀ (k0_h1 : k0_cond1 i = 1#1), ∀ a x, ((![v382] : Fin 1 → IVec S16 32) a x).toNat < S4224.size a)
theorem k0_idx429_inb : ∀ (i : grid0.Coords) (k0_t45 : Fin (k0_t45_loop i).trips) (v382 : IVec S16 32) (k0_hw429 : k0_chk429 i k0_t45 v382), ∀ (k0_h1 : k0_cond1 i = 1#1), ∀ a x, ((![v382] : Fin 1 → IVec S16 32) a x).toNat < S4224.size a := fun i k0_t45 v382 k0_hw429 k0_h1 => k0_hw429 k0_h1
def k0_off47 (i : grid0.Coords) (k0_t45 : Fin (k0_t45_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c6_i32_4 : BitVec 32 := 6#32
  let v20 : BitVec 32 := Scalar.addi v2 c6_i32_4
  let c1_i32_5 : BitVec 32 := 1#32
  let v21 : BitVec 32 := Scalar.subi v20 c1_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c16_i32_6 : BitVec 32 := 16#32
  let c0_i32_9 : BitVec 32 := 0#32
  let v28 : BitVec 1 := Scalar.cmpi .sgt c16_i32_6 c0_i32_9
  let v29 : BitVec 32 := Scalar.extui v28
  let c0_i32_10 : BitVec 32 := 0#32
  let v30 : BitVec 1 := Scalar.cmpi .slt c16_i32_6 c0_i32_10
  let v31 : BitVec 32 := Scalar.extui v30
  let v32 : BitVec 32 := Scalar.subi v29 v31
  let v33 : BitVec 1 := Scalar.cmpi .ne v27 v32
  let v34 : BitVec 32 := Scalar.remsi v21 c16_i32_6
  let c0_i32_11 : BitVec 32 := 0#32
  let v35 : BitVec 1 := Scalar.cmpi .ne v34 c0_i32_11
  let v36 : BitVec 1 := Scalar.andi v33 v35
  let v22 : BitVec 32 := Scalar.divsi v21 c16_i32_6
  let c1_i32_12 : BitVec 32 := 1#32
  let v37 : BitVec 32 := Scalar.subi v22 c1_i32_12
  let v38 : BitVec 32 := Scalar.select v36 v37 v22
  let c0_i32_87 : BitVec 32 := 0#32
  let c6_i32_15 : BitVec 32 := 6#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let c1_i32_69 : BitVec 32 := 1#32
  let arg12 : BitVec 32 := Scf.iv v42 c1_i32_69 k0_t45
  let v117 : BitVec 32 := Scalar.addi v2 arg12
  let c16_i32_77 : BitVec 32 := 16#32
  let c0_i32_78 : BitVec 32 := 0#32
  let v118 : BitVec 1 := Scalar.cmpi .eq c16_i32_77 c0_i32_78
  let c1_i32_79 : BitVec 32 := 1#32
  let v119 : BitVec 32 := Scalar.select v118 c1_i32_79 c16_i32_77
  let v120 : BitVec 32 := Scalar.remsi v117 v119
  let c0_i32_81 : BitVec 32 := 0#32
  let v122 : BitVec 1 := Scalar.cmpi .slt v120 c0_i32_81
  let c0_i32_82 : BitVec 32 := 0#32
  let v123 : BitVec 1 := Scalar.cmpi .slt v119 c0_i32_82
  let v124 : BitVec 1 := Scalar.xori v122 v123
  let c0_i32_80 : BitVec 32 := 0#32
  let v121 : BitVec 1 := Scalar.cmpi .ne v120 c0_i32_80
  let v125 : BitVec 1 := Scalar.andi v124 v121
  let v126 : BitVec 32 := Scalar.addi v120 v119
  let v127 : BitVec 32 := Scalar.select v125 v126 v120
  let c4224_i32 : BitVec 32 := 4224#32
  let v131 : BitVec 32 := Scalar.muli v127 c4224_i32
  ![v38.toNat, 0, v131.toNat]
@[reducible] def k0_t48_loop (i : grid0.Coords) : Scf.Loop 32 :=
  let c6_i32_15 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let c6_i32_66 : BitVec 32 := 6#32
  let v103 : BitVec 32 := Scalar.subi c6_i32_66 v42
  let c1_i32_68 : BitVec 32 := 1#32
  let v105 : BitVec 32 := Scalar.divsi v103 c1_i32_68
  let v106 : BitVec 32 := Scalar.muli v105 c1_i32_68
  let v107 : BitVec 32 := Scalar.addi v42 v106
  let v104 : BitVec 32 := Scalar.addi v42 v103
  let c1_i32_70 : BitVec 32 := 1#32
  ⟨v107, v104, c1_i32_70⟩
def k0_off48 (i : grid0.Coords) (k0_t48 : Fin (k0_t48_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c6_i32_4 : BitVec 32 := 6#32
  let v20 : BitVec 32 := Scalar.addi v2 c6_i32_4
  let c1_i32_5 : BitVec 32 := 1#32
  let v21 : BitVec 32 := Scalar.subi v20 c1_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c16_i32_6 : BitVec 32 := 16#32
  let c0_i32_9 : BitVec 32 := 0#32
  let v28 : BitVec 1 := Scalar.cmpi .sgt c16_i32_6 c0_i32_9
  let v29 : BitVec 32 := Scalar.extui v28
  let c0_i32_10 : BitVec 32 := 0#32
  let v30 : BitVec 1 := Scalar.cmpi .slt c16_i32_6 c0_i32_10
  let v31 : BitVec 32 := Scalar.extui v30
  let v32 : BitVec 32 := Scalar.subi v29 v31
  let v33 : BitVec 1 := Scalar.cmpi .ne v27 v32
  let v34 : BitVec 32 := Scalar.remsi v21 c16_i32_6
  let c0_i32_11 : BitVec 32 := 0#32
  let v35 : BitVec 1 := Scalar.cmpi .ne v34 c0_i32_11
  let v36 : BitVec 1 := Scalar.andi v33 v35
  let v22 : BitVec 32 := Scalar.divsi v21 c16_i32_6
  let c1_i32_12 : BitVec 32 := 1#32
  let v37 : BitVec 32 := Scalar.subi v22 c1_i32_12
  let v38 : BitVec 32 := Scalar.select v36 v37 v22
  let c6_i32_15 : BitVec 32 := 6#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let c6_i32_66 : BitVec 32 := 6#32
  let v103 : BitVec 32 := Scalar.subi c6_i32_66 v42
  let c1_i32_68 : BitVec 32 := 1#32
  let v105 : BitVec 32 := Scalar.divsi v103 c1_i32_68
  let v106 : BitVec 32 := Scalar.muli v105 c1_i32_68
  let v107 : BitVec 32 := Scalar.addi v42 v106
  let c1_i32_70 : BitVec 32 := 1#32
  let arg12 : BitVec 32 := Scf.iv v107 c1_i32_70 k0_t48
  let v117 : BitVec 32 := Scalar.addi v2 arg12
  let c16_i32_77 : BitVec 32 := 16#32
  let c0_i32_78 : BitVec 32 := 0#32
  let v118 : BitVec 1 := Scalar.cmpi .eq c16_i32_77 c0_i32_78
  let c1_i32_79 : BitVec 32 := 1#32
  let v119 : BitVec 32 := Scalar.select v118 c1_i32_79 c16_i32_77
  let v120 : BitVec 32 := Scalar.remsi v117 v119
  let c0_i32_81 : BitVec 32 := 0#32
  let v122 : BitVec 1 := Scalar.cmpi .slt v120 c0_i32_81
  let c0_i32_82 : BitVec 32 := 0#32
  let v123 : BitVec 1 := Scalar.cmpi .slt v119 c0_i32_82
  let v124 : BitVec 1 := Scalar.xori v122 v123
  let c0_i32_80 : BitVec 32 := 0#32
  let v121 : BitVec 1 := Scalar.cmpi .ne v120 c0_i32_80
  let v125 : BitVec 1 := Scalar.andi v124 v121
  let v126 : BitVec 32 := Scalar.addi v120 v119
  let v127 : BitVec 32 := Scalar.select v125 v126 v120
  let c2176_i32 : BitVec 32 := 2176#32
  let v128 : BitVec 32 := Scalar.muli v127 c2176_i32
  ![v38.toNat, v128.toNat]
@[reducible] def k0_t49_loop : Scf.Loop 32 :=
  let c0_i32_84 : BitVec 32 := 0#32
  let c8_i32 : BitVec 32 := 8#32
  let v129 : BitVec 32 := Scalar.addi c0_i32_84 c8_i32
  let c1_i32_85 : BitVec 32 := 1#32
  ⟨c0_i32_84, v129, c1_i32_85⟩

def k0_chk430 (i : grid0.Coords) (k0_t48 : Fin (k0_t48_loop i).trips) (v138 : IVec S16 32) : Prop :=
  (∀ (k0_h1 : k0_cond1 i = 1#1), ∀ a x, ((![v138] : Fin 1 → IVec S16 32) a x).toNat < S2176.size a)
theorem k0_idx430_inb : ∀ (i : grid0.Coords) (k0_t48 : Fin (k0_t48_loop i).trips) (v138 : IVec S16 32) (k0_hw430 : k0_chk430 i k0_t48 v138), ∀ (k0_h1 : k0_cond1 i = 1#1), ∀ a x, ((![v138] : Fin 1 → IVec S16 32) a x).toNat < S2176.size a := fun i k0_t48 v138 k0_hw430 k0_h1 => k0_hw430 k0_h1

def k0_chk431 (i : grid0.Coords) (k0_t48 : Fin (k0_t48_loop i).trips) (v145 : IVec S16 32) : Prop :=
  (∀ (k0_h1 : k0_cond1 i = 1#1), ∀ a x, ((![v145] : Fin 1 → IVec S16 32) a x).toNat < S2176.size a)
theorem k0_idx431_inb : ∀ (i : grid0.Coords) (k0_t48 : Fin (k0_t48_loop i).trips) (v145 : IVec S16 32) (k0_hw431 : k0_chk431 i k0_t48 v145), ∀ (k0_h1 : k0_cond1 i = 1#1), ∀ a x, ((![v145] : Fin 1 → IVec S16 32) a x).toNat < S2176.size a := fun i k0_t48 v145 k0_hw431 k0_h1 => k0_hw431 k0_h1

def k0_chk432 (i : grid0.Coords) (k0_t48 : Fin (k0_t48_loop i).trips) (v152 : IVec S16 32) : Prop :=
  (∀ (k0_h1 : k0_cond1 i = 1#1), ∀ a x, ((![v152] : Fin 1 → IVec S16 32) a x).toNat < S2176.size a)
theorem k0_idx432_inb : ∀ (i : grid0.Coords) (k0_t48 : Fin (k0_t48_loop i).trips) (v152 : IVec S16 32) (k0_hw432 : k0_chk432 i k0_t48 v152), ∀ (k0_h1 : k0_cond1 i = 1#1), ∀ a x, ((![v152] : Fin 1 → IVec S16 32) a x).toNat < S2176.size a := fun i k0_t48 v152 k0_hw432 k0_h1 => k0_hw432 k0_h1

def k0_chk433 (i : grid0.Coords) (k0_t48 : Fin (k0_t48_loop i).trips) (v159 : IVec S16 32) : Prop :=
  (∀ (k0_h1 : k0_cond1 i = 1#1), ∀ a x, ((![v159] : Fin 1 → IVec S16 32) a x).toNat < S2176.size a)
theorem k0_idx433_inb : ∀ (i : grid0.Coords) (k0_t48 : Fin (k0_t48_loop i).trips) (v159 : IVec S16 32) (k0_hw433 : k0_chk433 i k0_t48 v159), ∀ (k0_h1 : k0_cond1 i = 1#1), ∀ a x, ((![v159] : Fin 1 → IVec S16 32) a x).toNat < S2176.size a := fun i k0_t48 v159 k0_hw433 k0_h1 => k0_hw433 k0_h1

def k0_chk434 (i : grid0.Coords) (k0_t48 : Fin (k0_t48_loop i).trips) (v166 : IVec S16 32) : Prop :=
  (∀ (k0_h1 : k0_cond1 i = 1#1), ∀ a x, ((![v166] : Fin 1 → IVec S16 32) a x).toNat < S2176.size a)
theorem k0_idx434_inb : ∀ (i : grid0.Coords) (k0_t48 : Fin (k0_t48_loop i).trips) (v166 : IVec S16 32) (k0_hw434 : k0_chk434 i k0_t48 v166), ∀ (k0_h1 : k0_cond1 i = 1#1), ∀ a x, ((![v166] : Fin 1 → IVec S16 32) a x).toNat < S2176.size a := fun i k0_t48 v166 k0_hw434 k0_h1 => k0_hw434 k0_h1

def k0_chk435 (i : grid0.Coords) (k0_t48 : Fin (k0_t48_loop i).trips) (v173 : IVec S16 32) : Prop :=
  (∀ (k0_h1 : k0_cond1 i = 1#1), ∀ a x, ((![v173] : Fin 1 → IVec S16 32) a x).toNat < S2176.size a)
theorem k0_idx435_inb : ∀ (i : grid0.Coords) (k0_t48 : Fin (k0_t48_loop i).trips) (v173 : IVec S16 32) (k0_hw435 : k0_chk435 i k0_t48 v173), ∀ (k0_h1 : k0_cond1 i = 1#1), ∀ a x, ((![v173] : Fin 1 → IVec S16 32) a x).toNat < S2176.size a := fun i k0_t48 v173 k0_hw435 k0_h1 => k0_hw435 k0_h1

def k0_chk436 (i : grid0.Coords) (k0_t48 : Fin (k0_t48_loop i).trips) (v180 : IVec S16 32) : Prop :=
  (∀ (k0_h1 : k0_cond1 i = 1#1), ∀ a x, ((![v180] : Fin 1 → IVec S16 32) a x).toNat < S2176.size a)
theorem k0_idx436_inb : ∀ (i : grid0.Coords) (k0_t48 : Fin (k0_t48_loop i).trips) (v180 : IVec S16 32) (k0_hw436 : k0_chk436 i k0_t48 v180), ∀ (k0_h1 : k0_cond1 i = 1#1), ∀ a x, ((![v180] : Fin 1 → IVec S16 32) a x).toNat < S2176.size a := fun i k0_t48 v180 k0_hw436 k0_h1 => k0_hw436 k0_h1

def k0_chk437 (i : grid0.Coords) (k0_t48 : Fin (k0_t48_loop i).trips) (v187 : IVec S16 32) : Prop :=
  (∀ (k0_h1 : k0_cond1 i = 1#1), ∀ a x, ((![v187] : Fin 1 → IVec S16 32) a x).toNat < S2176.size a)
theorem k0_idx437_inb : ∀ (i : grid0.Coords) (k0_t48 : Fin (k0_t48_loop i).trips) (v187 : IVec S16 32) (k0_hw437 : k0_chk437 i k0_t48 v187), ∀ (k0_h1 : k0_cond1 i = 1#1), ∀ a x, ((![v187] : Fin 1 → IVec S16 32) a x).toNat < S2176.size a := fun i k0_t48 v187 k0_hw437 k0_h1 => k0_hw437 k0_h1

def k0_chk438 (i : grid0.Coords) (k0_t48 : Fin (k0_t48_loop i).trips) (v194 : IVec S16 32) : Prop :=
  (∀ (k0_h1 : k0_cond1 i = 1#1), ∀ a x, ((![v194] : Fin 1 → IVec S16 32) a x).toNat < S2176.size a)
theorem k0_idx438_inb : ∀ (i : grid0.Coords) (k0_t48 : Fin (k0_t48_loop i).trips) (v194 : IVec S16 32) (k0_hw438 : k0_chk438 i k0_t48 v194), ∀ (k0_h1 : k0_cond1 i = 1#1), ∀ a x, ((![v194] : Fin 1 → IVec S16 32) a x).toNat < S2176.size a := fun i k0_t48 v194 k0_hw438 k0_h1 => k0_hw438 k0_h1

def k0_chk439 (i : grid0.Coords) (k0_t48 : Fin (k0_t48_loop i).trips) (v201 : IVec S16 32) : Prop :=
  (∀ (k0_h1 : k0_cond1 i = 1#1), ∀ a x, ((![v201] : Fin 1 → IVec S16 32) a x).toNat < S2176.size a)
theorem k0_idx439_inb : ∀ (i : grid0.Coords) (k0_t48 : Fin (k0_t48_loop i).trips) (v201 : IVec S16 32) (k0_hw439 : k0_chk439 i k0_t48 v201), ∀ (k0_h1 : k0_cond1 i = 1#1), ∀ a x, ((![v201] : Fin 1 → IVec S16 32) a x).toNat < S2176.size a := fun i k0_t48 v201 k0_hw439 k0_h1 => k0_hw439 k0_h1

def k0_chk440 (i : grid0.Coords) (k0_t48 : Fin (k0_t48_loop i).trips) (v208 : IVec S16 32) : Prop :=
  (∀ (k0_h1 : k0_cond1 i = 1#1), ∀ a x, ((![v208] : Fin 1 → IVec S16 32) a x).toNat < S2176.size a)
theorem k0_idx440_inb : ∀ (i : grid0.Coords) (k0_t48 : Fin (k0_t48_loop i).trips) (v208 : IVec S16 32) (k0_hw440 : k0_chk440 i k0_t48 v208), ∀ (k0_h1 : k0_cond1 i = 1#1), ∀ a x, ((![v208] : Fin 1 → IVec S16 32) a x).toNat < S2176.size a := fun i k0_t48 v208 k0_hw440 k0_h1 => k0_hw440 k0_h1

def k0_chk441 (i : grid0.Coords) (k0_t48 : Fin (k0_t48_loop i).trips) (v215 : IVec S16 32) : Prop :=
  (∀ (k0_h1 : k0_cond1 i = 1#1), ∀ a x, ((![v215] : Fin 1 → IVec S16 32) a x).toNat < S2176.size a)
theorem k0_idx441_inb : ∀ (i : grid0.Coords) (k0_t48 : Fin (k0_t48_loop i).trips) (v215 : IVec S16 32) (k0_hw441 : k0_chk441 i k0_t48 v215), ∀ (k0_h1 : k0_cond1 i = 1#1), ∀ a x, ((![v215] : Fin 1 → IVec S16 32) a x).toNat < S2176.size a := fun i k0_t48 v215 k0_hw441 k0_h1 => k0_hw441 k0_h1

def k0_chk442 (i : grid0.Coords) (k0_t48 : Fin (k0_t48_loop i).trips) (v222 : IVec S16 32) : Prop :=
  (∀ (k0_h1 : k0_cond1 i = 1#1), ∀ a x, ((![v222] : Fin 1 → IVec S16 32) a x).toNat < S2176.size a)
theorem k0_idx442_inb : ∀ (i : grid0.Coords) (k0_t48 : Fin (k0_t48_loop i).trips) (v222 : IVec S16 32) (k0_hw442 : k0_chk442 i k0_t48 v222), ∀ (k0_h1 : k0_cond1 i = 1#1), ∀ a x, ((![v222] : Fin 1 → IVec S16 32) a x).toNat < S2176.size a := fun i k0_t48 v222 k0_hw442 k0_h1 => k0_hw442 k0_h1

def k0_chk443 (i : grid0.Coords) (k0_t48 : Fin (k0_t48_loop i).trips) (v229 : IVec S16 32) : Prop :=
  (∀ (k0_h1 : k0_cond1 i = 1#1), ∀ a x, ((![v229] : Fin 1 → IVec S16 32) a x).toNat < S2176.size a)
theorem k0_idx443_inb : ∀ (i : grid0.Coords) (k0_t48 : Fin (k0_t48_loop i).trips) (v229 : IVec S16 32) (k0_hw443 : k0_chk443 i k0_t48 v229), ∀ (k0_h1 : k0_cond1 i = 1#1), ∀ a x, ((![v229] : Fin 1 → IVec S16 32) a x).toNat < S2176.size a := fun i k0_t48 v229 k0_hw443 k0_h1 => k0_hw443 k0_h1

def k0_chk444 (i : grid0.Coords) (k0_t48 : Fin (k0_t48_loop i).trips) (v236 : IVec S16 32) : Prop :=
  (∀ (k0_h1 : k0_cond1 i = 1#1), ∀ a x, ((![v236] : Fin 1 → IVec S16 32) a x).toNat < S2176.size a)
theorem k0_idx444_inb : ∀ (i : grid0.Coords) (k0_t48 : Fin (k0_t48_loop i).trips) (v236 : IVec S16 32) (k0_hw444 : k0_chk444 i k0_t48 v236), ∀ (k0_h1 : k0_cond1 i = 1#1), ∀ a x, ((![v236] : Fin 1 → IVec S16 32) a x).toNat < S2176.size a := fun i k0_t48 v236 k0_hw444 k0_h1 => k0_hw444 k0_h1

def k0_chk445 (i : grid0.Coords) (k0_t48 : Fin (k0_t48_loop i).trips) (v243 : IVec S16 32) : Prop :=
  (∀ (k0_h1 : k0_cond1 i = 1#1), ∀ a x, ((![v243] : Fin 1 → IVec S16 32) a x).toNat < S2176.size a)
theorem k0_idx445_inb : ∀ (i : grid0.Coords) (k0_t48 : Fin (k0_t48_loop i).trips) (v243 : IVec S16 32) (k0_hw445 : k0_chk445 i k0_t48 v243), ∀ (k0_h1 : k0_cond1 i = 1#1), ∀ a x, ((![v243] : Fin 1 → IVec S16 32) a x).toNat < S2176.size a := fun i k0_t48 v243 k0_hw445 k0_h1 => k0_hw445 k0_h1
def k0_off49 (i : grid0.Coords) (k0_t48 : Fin (k0_t48_loop i).trips) (k0_t49 : Fin k0_t49_loop.trips) (c0_i32_126 : BitVec 32) : Fin 1 → Nat :=
  let c6_i32_15 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let c6_i32_66 : BitVec 32 := 6#32
  let v103 : BitVec 32 := Scalar.subi c6_i32_66 v42
  let c1_i32_68 : BitVec 32 := 1#32
  let v105 : BitVec 32 := Scalar.divsi v103 c1_i32_68
  let v106 : BitVec 32 := Scalar.muli v105 c1_i32_68
  let v107 : BitVec 32 := Scalar.addi v42 v106
  let c1_i32_70 : BitVec 32 := 1#32
  let arg12 : BitVec 32 := Scf.iv v107 c1_i32_70 k0_t48
  let c128_i32 : BitVec 32 := 128#32
  let v247 : BitVec 32 := Scalar.muli arg12 c128_i32
  let c0_i32_84 : BitVec 32 := 0#32
  let c1_i32_85 : BitVec 32 := 1#32
  let arg14 : BitVec 32 := Scf.iv c0_i32_84 c1_i32_85 k0_t49
  let c16_i32_125 : BitVec 32 := 16#32
  let v248 : BitVec 32 := Scalar.muli arg14 c16_i32_125
  let v249 : BitVec 32 := Scalar.addi v247 v248
  let v250 : BitVec 32 := Scalar.addi c0_i32_126 v249
  let v251 : Index := Scalar.indexCast v250
  ![v251.toNat]
@[reducible] def k0_t50_loop : Scf.Loop 32 :=
  let c0_i32_129 : BitVec 32 := 0#32
  let c32_i32 : BitVec 32 := 32#32
  let v300 : BitVec 32 := Scalar.addi c0_i32_129 c32_i32
  let c1_i32_130 : BitVec 32 := 1#32
  ⟨c0_i32_129, v300, c1_i32_130⟩

def k0_chk446 (i : grid0.Coords) (k0_t48 : Fin (k0_t48_loop i).trips) (v303 : IVec S16 32) : Prop :=
  (∀ (k0_h1 : k0_cond1 i = 1#1), ∀ a x, ((![v303] : Fin 1 → IVec S16 32) a x).toNat < S67584.size a)
theorem k0_idx446_inb : ∀ (i : grid0.Coords) (k0_t48 : Fin (k0_t48_loop i).trips) (v303 : IVec S16 32) (k0_hw446 : k0_chk446 i k0_t48 v303), ∀ (k0_h1 : k0_cond1 i = 1#1), ∀ a x, ((![v303] : Fin 1 → IVec S16 32) a x).toNat < S67584.size a := fun i k0_t48 v303 k0_hw446 k0_h1 => k0_hw446 k0_h1

def k0_chk447 (i : grid0.Coords) (k0_t48 : Fin (k0_t48_loop i).trips) (v307 : IVec S16 32) : Prop :=
  (∀ (k0_h1 : k0_cond1 i = 1#1), ∀ a x, ((![v307] : Fin 1 → IVec S16 32) a x).toNat < S67584.size a)
theorem k0_idx447_inb : ∀ (i : grid0.Coords) (k0_t48 : Fin (k0_t48_loop i).trips) (v307 : IVec S16 32) (k0_hw447 : k0_chk447 i k0_t48 v307), ∀ (k0_h1 : k0_cond1 i = 1#1), ∀ a x, ((![v307] : Fin 1 → IVec S16 32) a x).toNat < S67584.size a := fun i k0_t48 v307 k0_hw447 k0_h1 => k0_hw447 k0_h1

def k0_chk448 (i : grid0.Coords) (k0_t48 : Fin (k0_t48_loop i).trips) (v312 : IVec S16 32) : Prop :=
  (∀ (k0_h1 : k0_cond1 i = 1#1), ∀ a x, ((![v312] : Fin 1 → IVec S16 32) a x).toNat < S67584.size a)
theorem k0_idx448_inb : ∀ (i : grid0.Coords) (k0_t48 : Fin (k0_t48_loop i).trips) (v312 : IVec S16 32) (k0_hw448 : k0_chk448 i k0_t48 v312), ∀ (k0_h1 : k0_cond1 i = 1#1), ∀ a x, ((![v312] : Fin 1 → IVec S16 32) a x).toNat < S67584.size a := fun i k0_t48 v312 k0_hw448 k0_h1 => k0_hw448 k0_h1

def k0_chk449 (i : grid0.Coords) (k0_t48 : Fin (k0_t48_loop i).trips) (v317 : IVec S16 32) : Prop :=
  (∀ (k0_h1 : k0_cond1 i = 1#1), ∀ a x, ((![v317] : Fin 1 → IVec S16 32) a x).toNat < S67584.size a)
theorem k0_idx449_inb : ∀ (i : grid0.Coords) (k0_t48 : Fin (k0_t48_loop i).trips) (v317 : IVec S16 32) (k0_hw449 : k0_chk449 i k0_t48 v317), ∀ (k0_h1 : k0_cond1 i = 1#1), ∀ a x, ((![v317] : Fin 1 → IVec S16 32) a x).toNat < S67584.size a := fun i k0_t48 v317 k0_hw449 k0_h1 => k0_hw449 k0_h1

def k0_chk450 (i : grid0.Coords) (k0_t48 : Fin (k0_t48_loop i).trips) (v322 : IVec S16 32) : Prop :=
  (∀ (k0_h1 : k0_cond1 i = 1#1), ∀ a x, ((![v322] : Fin 1 → IVec S16 32) a x).toNat < S67584.size a)
theorem k0_idx450_inb : ∀ (i : grid0.Coords) (k0_t48 : Fin (k0_t48_loop i).trips) (v322 : IVec S16 32) (k0_hw450 : k0_chk450 i k0_t48 v322), ∀ (k0_h1 : k0_cond1 i = 1#1), ∀ a x, ((![v322] : Fin 1 → IVec S16 32) a x).toNat < S67584.size a := fun i k0_t48 v322 k0_hw450 k0_h1 => k0_hw450 k0_h1

def k0_chk451 (i : grid0.Coords) (k0_t48 : Fin (k0_t48_loop i).trips) (v327 : IVec S16 32) : Prop :=
  (∀ (k0_h1 : k0_cond1 i = 1#1), ∀ a x, ((![v327] : Fin 1 → IVec S16 32) a x).toNat < S67584.size a)
theorem k0_idx451_inb : ∀ (i : grid0.Coords) (k0_t48 : Fin (k0_t48_loop i).trips) (v327 : IVec S16 32) (k0_hw451 : k0_chk451 i k0_t48 v327), ∀ (k0_h1 : k0_cond1 i = 1#1), ∀ a x, ((![v327] : Fin 1 → IVec S16 32) a x).toNat < S67584.size a := fun i k0_t48 v327 k0_hw451 k0_h1 => k0_hw451 k0_h1

def k0_chk452 (i : grid0.Coords) (k0_t48 : Fin (k0_t48_loop i).trips) (v332 : IVec S16 32) : Prop :=
  (∀ (k0_h1 : k0_cond1 i = 1#1), ∀ a x, ((![v332] : Fin 1 → IVec S16 32) a x).toNat < S67584.size a)
theorem k0_idx452_inb : ∀ (i : grid0.Coords) (k0_t48 : Fin (k0_t48_loop i).trips) (v332 : IVec S16 32) (k0_hw452 : k0_chk452 i k0_t48 v332), ∀ (k0_h1 : k0_cond1 i = 1#1), ∀ a x, ((![v332] : Fin 1 → IVec S16 32) a x).toNat < S67584.size a := fun i k0_t48 v332 k0_hw452 k0_h1 => k0_hw452 k0_h1

def k0_chk453 (i : grid0.Coords) (k0_t48 : Fin (k0_t48_loop i).trips) (v337 : IVec S16 32) : Prop :=
  (∀ (k0_h1 : k0_cond1 i = 1#1), ∀ a x, ((![v337] : Fin 1 → IVec S16 32) a x).toNat < S67584.size a)
theorem k0_idx453_inb : ∀ (i : grid0.Coords) (k0_t48 : Fin (k0_t48_loop i).trips) (v337 : IVec S16 32) (k0_hw453 : k0_chk453 i k0_t48 v337), ∀ (k0_h1 : k0_cond1 i = 1#1), ∀ a x, ((![v337] : Fin 1 → IVec S16 32) a x).toNat < S67584.size a := fun i k0_t48 v337 k0_hw453 k0_h1 => k0_hw453 k0_h1

def k0_chk454 (i : grid0.Coords) (k0_t48 : Fin (k0_t48_loop i).trips) (v342 : IVec S16 32) : Prop :=
  (∀ (k0_h1 : k0_cond1 i = 1#1), ∀ a x, ((![v342] : Fin 1 → IVec S16 32) a x).toNat < S67584.size a)
theorem k0_idx454_inb : ∀ (i : grid0.Coords) (k0_t48 : Fin (k0_t48_loop i).trips) (v342 : IVec S16 32) (k0_hw454 : k0_chk454 i k0_t48 v342), ∀ (k0_h1 : k0_cond1 i = 1#1), ∀ a x, ((![v342] : Fin 1 → IVec S16 32) a x).toNat < S67584.size a := fun i k0_t48 v342 k0_hw454 k0_h1 => k0_hw454 k0_h1

def k0_chk455 (i : grid0.Coords) (k0_t48 : Fin (k0_t48_loop i).trips) (v347 : IVec S16 32) : Prop :=
  (∀ (k0_h1 : k0_cond1 i = 1#1), ∀ a x, ((![v347] : Fin 1 → IVec S16 32) a x).toNat < S67584.size a)
theorem k0_idx455_inb : ∀ (i : grid0.Coords) (k0_t48 : Fin (k0_t48_loop i).trips) (v347 : IVec S16 32) (k0_hw455 : k0_chk455 i k0_t48 v347), ∀ (k0_h1 : k0_cond1 i = 1#1), ∀ a x, ((![v347] : Fin 1 → IVec S16 32) a x).toNat < S67584.size a := fun i k0_t48 v347 k0_hw455 k0_h1 => k0_hw455 k0_h1

def k0_chk456 (i : grid0.Coords) (k0_t48 : Fin (k0_t48_loop i).trips) (v352 : IVec S16 32) : Prop :=
  (∀ (k0_h1 : k0_cond1 i = 1#1), ∀ a x, ((![v352] : Fin 1 → IVec S16 32) a x).toNat < S67584.size a)
theorem k0_idx456_inb : ∀ (i : grid0.Coords) (k0_t48 : Fin (k0_t48_loop i).trips) (v352 : IVec S16 32) (k0_hw456 : k0_chk456 i k0_t48 v352), ∀ (k0_h1 : k0_cond1 i = 1#1), ∀ a x, ((![v352] : Fin 1 → IVec S16 32) a x).toNat < S67584.size a := fun i k0_t48 v352 k0_hw456 k0_h1 => k0_hw456 k0_h1

def k0_chk457 (i : grid0.Coords) (k0_t48 : Fin (k0_t48_loop i).trips) (v357 : IVec S16 32) : Prop :=
  (∀ (k0_h1 : k0_cond1 i = 1#1), ∀ a x, ((![v357] : Fin 1 → IVec S16 32) a x).toNat < S67584.size a)
theorem k0_idx457_inb : ∀ (i : grid0.Coords) (k0_t48 : Fin (k0_t48_loop i).trips) (v357 : IVec S16 32) (k0_hw457 : k0_chk457 i k0_t48 v357), ∀ (k0_h1 : k0_cond1 i = 1#1), ∀ a x, ((![v357] : Fin 1 → IVec S16 32) a x).toNat < S67584.size a := fun i k0_t48 v357 k0_hw457 k0_h1 => k0_hw457 k0_h1

def k0_chk458 (i : grid0.Coords) (k0_t48 : Fin (k0_t48_loop i).trips) (v362 : IVec S16 32) : Prop :=
  (∀ (k0_h1 : k0_cond1 i = 1#1), ∀ a x, ((![v362] : Fin 1 → IVec S16 32) a x).toNat < S67584.size a)
theorem k0_idx458_inb : ∀ (i : grid0.Coords) (k0_t48 : Fin (k0_t48_loop i).trips) (v362 : IVec S16 32) (k0_hw458 : k0_chk458 i k0_t48 v362), ∀ (k0_h1 : k0_cond1 i = 1#1), ∀ a x, ((![v362] : Fin 1 → IVec S16 32) a x).toNat < S67584.size a := fun i k0_t48 v362 k0_hw458 k0_h1 => k0_hw458 k0_h1

def k0_chk459 (i : grid0.Coords) (k0_t48 : Fin (k0_t48_loop i).trips) (v367 : IVec S16 32) : Prop :=
  (∀ (k0_h1 : k0_cond1 i = 1#1), ∀ a x, ((![v367] : Fin 1 → IVec S16 32) a x).toNat < S67584.size a)
theorem k0_idx459_inb : ∀ (i : grid0.Coords) (k0_t48 : Fin (k0_t48_loop i).trips) (v367 : IVec S16 32) (k0_hw459 : k0_chk459 i k0_t48 v367), ∀ (k0_h1 : k0_cond1 i = 1#1), ∀ a x, ((![v367] : Fin 1 → IVec S16 32) a x).toNat < S67584.size a := fun i k0_t48 v367 k0_hw459 k0_h1 => k0_hw459 k0_h1

def k0_chk460 (i : grid0.Coords) (k0_t48 : Fin (k0_t48_loop i).trips) (v372 : IVec S16 32) : Prop :=
  (∀ (k0_h1 : k0_cond1 i = 1#1), ∀ a x, ((![v372] : Fin 1 → IVec S16 32) a x).toNat < S67584.size a)
theorem k0_idx460_inb : ∀ (i : grid0.Coords) (k0_t48 : Fin (k0_t48_loop i).trips) (v372 : IVec S16 32) (k0_hw460 : k0_chk460 i k0_t48 v372), ∀ (k0_h1 : k0_cond1 i = 1#1), ∀ a x, ((![v372] : Fin 1 → IVec S16 32) a x).toNat < S67584.size a := fun i k0_t48 v372 k0_hw460 k0_h1 => k0_hw460 k0_h1

def k0_chk461 (i : grid0.Coords) (k0_t48 : Fin (k0_t48_loop i).trips) (v377 : IVec S16 32) : Prop :=
  (∀ (k0_h1 : k0_cond1 i = 1#1), ∀ a x, ((![v377] : Fin 1 → IVec S16 32) a x).toNat < S67584.size a)
theorem k0_idx461_inb : ∀ (i : grid0.Coords) (k0_t48 : Fin (k0_t48_loop i).trips) (v377 : IVec S16 32) (k0_hw461 : k0_chk461 i k0_t48 v377), ∀ (k0_h1 : k0_cond1 i = 1#1), ∀ a x, ((![v377] : Fin 1 → IVec S16 32) a x).toNat < S67584.size a := fun i k0_t48 v377 k0_hw461 k0_h1 => k0_hw461 k0_h1

def k0_chk462 (i : grid0.Coords) (k0_t48 : Fin (k0_t48_loop i).trips) (v382 : IVec S16 32) : Prop :=
  (∀ (k0_h1 : k0_cond1 i = 1#1), ∀ a x, ((![v382] : Fin 1 → IVec S16 32) a x).toNat < S4224.size a)
theorem k0_idx462_inb : ∀ (i : grid0.Coords) (k0_t48 : Fin (k0_t48_loop i).trips) (v382 : IVec S16 32) (k0_hw462 : k0_chk462 i k0_t48 v382), ∀ (k0_h1 : k0_cond1 i = 1#1), ∀ a x, ((![v382] : Fin 1 → IVec S16 32) a x).toNat < S4224.size a := fun i k0_t48 v382 k0_hw462 k0_h1 => k0_hw462 k0_h1
def k0_off50 (i : grid0.Coords) (k0_t48 : Fin (k0_t48_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c6_i32_4 : BitVec 32 := 6#32
  let v20 : BitVec 32 := Scalar.addi v2 c6_i32_4
  let c1_i32_5 : BitVec 32 := 1#32
  let v21 : BitVec 32 := Scalar.subi v20 c1_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c16_i32_6 : BitVec 32 := 16#32
  let c0_i32_9 : BitVec 32 := 0#32
  let v28 : BitVec 1 := Scalar.cmpi .sgt c16_i32_6 c0_i32_9
  let v29 : BitVec 32 := Scalar.extui v28
  let c0_i32_10 : BitVec 32 := 0#32
  let v30 : BitVec 1 := Scalar.cmpi .slt c16_i32_6 c0_i32_10
  let v31 : BitVec 32 := Scalar.extui v30
  let v32 : BitVec 32 := Scalar.subi v29 v31
  let v33 : BitVec 1 := Scalar.cmpi .ne v27 v32
  let v34 : BitVec 32 := Scalar.remsi v21 c16_i32_6
  let c0_i32_11 : BitVec 32 := 0#32
  let v35 : BitVec 1 := Scalar.cmpi .ne v34 c0_i32_11
  let v36 : BitVec 1 := Scalar.andi v33 v35
  let v22 : BitVec 32 := Scalar.divsi v21 c16_i32_6
  let c1_i32_12 : BitVec 32 := 1#32
  let v37 : BitVec 32 := Scalar.subi v22 c1_i32_12
  let v38 : BitVec 32 := Scalar.select v36 v37 v22
  let c0_i32_87 : BitVec 32 := 0#32
  let c6_i32_15 : BitVec 32 := 6#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let c6_i32_66 : BitVec 32 := 6#32
  let v103 : BitVec 32 := Scalar.subi c6_i32_66 v42
  let c1_i32_68 : BitVec 32 := 1#32
  let v105 : BitVec 32 := Scalar.divsi v103 c1_i32_68
  let v106 : BitVec 32 := Scalar.muli v105 c1_i32_68
  let v107 : BitVec 32 := Scalar.addi v42 v106
  let c1_i32_70 : BitVec 32 := 1#32
  let arg12 : BitVec 32 := Scf.iv v107 c1_i32_70 k0_t48
  let v117 : BitVec 32 := Scalar.addi v2 arg12
  let c16_i32_77 : BitVec 32 := 16#32
  let c0_i32_78 : BitVec 32 := 0#32
  let v118 : BitVec 1 := Scalar.cmpi .eq c16_i32_77 c0_i32_78
  let c1_i32_79 : BitVec 32 := 1#32
  let v119 : BitVec 32 := Scalar.select v118 c1_i32_79 c16_i32_77
  let v120 : BitVec 32 := Scalar.remsi v117 v119
  let c0_i32_81 : BitVec 32 := 0#32
  let v122 : BitVec 1 := Scalar.cmpi .slt v120 c0_i32_81
  let c0_i32_82 : BitVec 32 := 0#32
  let v123 : BitVec 1 := Scalar.cmpi .slt v119 c0_i32_82
  let v124 : BitVec 1 := Scalar.xori v122 v123
  let c0_i32_80 : BitVec 32 := 0#32
  let v121 : BitVec 1 := Scalar.cmpi .ne v120 c0_i32_80
  let v125 : BitVec 1 := Scalar.andi v124 v121
  let v126 : BitVec 32 := Scalar.addi v120 v119
  let v127 : BitVec 32 := Scalar.select v125 v126 v120
  let c4224_i32 : BitVec 32 := 4224#32
  let v131 : BitVec 32 := Scalar.muli v127 c4224_i32
  ![v38.toNat, 0, v131.toNat]
@[reducible] def k0_t51_loop (i : grid0.Coords) : Scf.Loop 32 :=
  let c6_i32_15 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let c6_i32_72 : BitVec 32 := 6#32
  let v110 : BitVec 32 := Scalar.subi c6_i32_72 v42
  let c1_i32_74 : BitVec 32 := 1#32
  let v112 : BitVec 32 := Scalar.divsi v110 c1_i32_74
  let v113 : BitVec 32 := Scalar.muli v112 c1_i32_74
  let v114 : BitVec 32 := Scalar.addi v42 v113
  let c1_i32_75 : BitVec 32 := 1#32
  ⟨v42, v114, c1_i32_75⟩
def k0_off51 (i : grid0.Coords) (k0_t51 : Fin (k0_t51_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c6_i32_4 : BitVec 32 := 6#32
  let v20 : BitVec 32 := Scalar.addi v2 c6_i32_4
  let c1_i32_5 : BitVec 32 := 1#32
  let v21 : BitVec 32 := Scalar.subi v20 c1_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c16_i32_6 : BitVec 32 := 16#32
  let c0_i32_9 : BitVec 32 := 0#32
  let v28 : BitVec 1 := Scalar.cmpi .sgt c16_i32_6 c0_i32_9
  let v29 : BitVec 32 := Scalar.extui v28
  let c0_i32_10 : BitVec 32 := 0#32
  let v30 : BitVec 1 := Scalar.cmpi .slt c16_i32_6 c0_i32_10
  let v31 : BitVec 32 := Scalar.extui v30
  let v32 : BitVec 32 := Scalar.subi v29 v31
  let v33 : BitVec 1 := Scalar.cmpi .ne v27 v32
  let v34 : BitVec 32 := Scalar.remsi v21 c16_i32_6
  let c0_i32_11 : BitVec 32 := 0#32
  let v35 : BitVec 1 := Scalar.cmpi .ne v34 c0_i32_11
  let v36 : BitVec 1 := Scalar.andi v33 v35
  let v22 : BitVec 32 := Scalar.divsi v21 c16_i32_6
  let c1_i32_12 : BitVec 32 := 1#32
  let v37 : BitVec 32 := Scalar.subi v22 c1_i32_12
  let v38 : BitVec 32 := Scalar.select v36 v37 v22
  let c6_i32_15 : BitVec 32 := 6#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let c1_i32_75 : BitVec 32 := 1#32
  let arg12 : BitVec 32 := Scf.iv v42 c1_i32_75 k0_t51
  let v117 : BitVec 32 := Scalar.addi v2 arg12
  let c16_i32_77 : BitVec 32 := 16#32
  let c0_i32_78 : BitVec 32 := 0#32
  let v118 : BitVec 1 := Scalar.cmpi .eq c16_i32_77 c0_i32_78
  let c1_i32_79 : BitVec 32 := 1#32
  let v119 : BitVec 32 := Scalar.select v118 c1_i32_79 c16_i32_77
  let v120 : BitVec 32 := Scalar.remsi v117 v119
  let c0_i32_81 : BitVec 32 := 0#32
  let v122 : BitVec 1 := Scalar.cmpi .slt v120 c0_i32_81
  let c0_i32_82 : BitVec 32 := 0#32
  let v123 : BitVec 1 := Scalar.cmpi .slt v119 c0_i32_82
  let v124 : BitVec 1 := Scalar.xori v122 v123
  let c0_i32_80 : BitVec 32 := 0#32
  let v121 : BitVec 1 := Scalar.cmpi .ne v120 c0_i32_80
  let v125 : BitVec 1 := Scalar.andi v124 v121
  let v126 : BitVec 32 := Scalar.addi v120 v119
  let v127 : BitVec 32 := Scalar.select v125 v126 v120
  let c2176_i32 : BitVec 32 := 2176#32
  let v128 : BitVec 32 := Scalar.muli v127 c2176_i32
  ![v38.toNat, v128.toNat]
@[reducible] def k0_t52_loop : Scf.Loop 32 :=
  let c0_i32_84 : BitVec 32 := 0#32
  let c8_i32 : BitVec 32 := 8#32
  let v129 : BitVec 32 := Scalar.addi c0_i32_84 c8_i32
  let c1_i32_85 : BitVec 32 := 1#32
  ⟨c0_i32_84, v129, c1_i32_85⟩

def k0_chk463 (i : grid0.Coords) (k0_t51 : Fin (k0_t51_loop i).trips) (v138 : IVec S16 32) : Prop :=
  (∀ (k0_h1 : k0_cond1 i = 1#1), ∀ a x, ((![v138] : Fin 1 → IVec S16 32) a x).toNat < S2176.size a)
theorem k0_idx463_inb : ∀ (i : grid0.Coords) (k0_t51 : Fin (k0_t51_loop i).trips) (v138 : IVec S16 32) (k0_hw463 : k0_chk463 i k0_t51 v138), ∀ (k0_h1 : k0_cond1 i = 1#1), ∀ a x, ((![v138] : Fin 1 → IVec S16 32) a x).toNat < S2176.size a := fun i k0_t51 v138 k0_hw463 k0_h1 => k0_hw463 k0_h1

def k0_chk464 (i : grid0.Coords) (k0_t51 : Fin (k0_t51_loop i).trips) (v145 : IVec S16 32) : Prop :=
  (∀ (k0_h1 : k0_cond1 i = 1#1), ∀ a x, ((![v145] : Fin 1 → IVec S16 32) a x).toNat < S2176.size a)
theorem k0_idx464_inb : ∀ (i : grid0.Coords) (k0_t51 : Fin (k0_t51_loop i).trips) (v145 : IVec S16 32) (k0_hw464 : k0_chk464 i k0_t51 v145), ∀ (k0_h1 : k0_cond1 i = 1#1), ∀ a x, ((![v145] : Fin 1 → IVec S16 32) a x).toNat < S2176.size a := fun i k0_t51 v145 k0_hw464 k0_h1 => k0_hw464 k0_h1

def k0_chk465 (i : grid0.Coords) (k0_t51 : Fin (k0_t51_loop i).trips) (v152 : IVec S16 32) : Prop :=
  (∀ (k0_h1 : k0_cond1 i = 1#1), ∀ a x, ((![v152] : Fin 1 → IVec S16 32) a x).toNat < S2176.size a)
theorem k0_idx465_inb : ∀ (i : grid0.Coords) (k0_t51 : Fin (k0_t51_loop i).trips) (v152 : IVec S16 32) (k0_hw465 : k0_chk465 i k0_t51 v152), ∀ (k0_h1 : k0_cond1 i = 1#1), ∀ a x, ((![v152] : Fin 1 → IVec S16 32) a x).toNat < S2176.size a := fun i k0_t51 v152 k0_hw465 k0_h1 => k0_hw465 k0_h1

def k0_chk466 (i : grid0.Coords) (k0_t51 : Fin (k0_t51_loop i).trips) (v159 : IVec S16 32) : Prop :=
  (∀ (k0_h1 : k0_cond1 i = 1#1), ∀ a x, ((![v159] : Fin 1 → IVec S16 32) a x).toNat < S2176.size a)
theorem k0_idx466_inb : ∀ (i : grid0.Coords) (k0_t51 : Fin (k0_t51_loop i).trips) (v159 : IVec S16 32) (k0_hw466 : k0_chk466 i k0_t51 v159), ∀ (k0_h1 : k0_cond1 i = 1#1), ∀ a x, ((![v159] : Fin 1 → IVec S16 32) a x).toNat < S2176.size a := fun i k0_t51 v159 k0_hw466 k0_h1 => k0_hw466 k0_h1

def k0_chk467 (i : grid0.Coords) (k0_t51 : Fin (k0_t51_loop i).trips) (v166 : IVec S16 32) : Prop :=
  (∀ (k0_h1 : k0_cond1 i = 1#1), ∀ a x, ((![v166] : Fin 1 → IVec S16 32) a x).toNat < S2176.size a)
theorem k0_idx467_inb : ∀ (i : grid0.Coords) (k0_t51 : Fin (k0_t51_loop i).trips) (v166 : IVec S16 32) (k0_hw467 : k0_chk467 i k0_t51 v166), ∀ (k0_h1 : k0_cond1 i = 1#1), ∀ a x, ((![v166] : Fin 1 → IVec S16 32) a x).toNat < S2176.size a := fun i k0_t51 v166 k0_hw467 k0_h1 => k0_hw467 k0_h1

def k0_chk468 (i : grid0.Coords) (k0_t51 : Fin (k0_t51_loop i).trips) (v173 : IVec S16 32) : Prop :=
  (∀ (k0_h1 : k0_cond1 i = 1#1), ∀ a x, ((![v173] : Fin 1 → IVec S16 32) a x).toNat < S2176.size a)
theorem k0_idx468_inb : ∀ (i : grid0.Coords) (k0_t51 : Fin (k0_t51_loop i).trips) (v173 : IVec S16 32) (k0_hw468 : k0_chk468 i k0_t51 v173), ∀ (k0_h1 : k0_cond1 i = 1#1), ∀ a x, ((![v173] : Fin 1 → IVec S16 32) a x).toNat < S2176.size a := fun i k0_t51 v173 k0_hw468 k0_h1 => k0_hw468 k0_h1

def k0_chk469 (i : grid0.Coords) (k0_t51 : Fin (k0_t51_loop i).trips) (v180 : IVec S16 32) : Prop :=
  (∀ (k0_h1 : k0_cond1 i = 1#1), ∀ a x, ((![v180] : Fin 1 → IVec S16 32) a x).toNat < S2176.size a)
theorem k0_idx469_inb : ∀ (i : grid0.Coords) (k0_t51 : Fin (k0_t51_loop i).trips) (v180 : IVec S16 32) (k0_hw469 : k0_chk469 i k0_t51 v180), ∀ (k0_h1 : k0_cond1 i = 1#1), ∀ a x, ((![v180] : Fin 1 → IVec S16 32) a x).toNat < S2176.size a := fun i k0_t51 v180 k0_hw469 k0_h1 => k0_hw469 k0_h1

def k0_chk470 (i : grid0.Coords) (k0_t51 : Fin (k0_t51_loop i).trips) (v187 : IVec S16 32) : Prop :=
  (∀ (k0_h1 : k0_cond1 i = 1#1), ∀ a x, ((![v187] : Fin 1 → IVec S16 32) a x).toNat < S2176.size a)
theorem k0_idx470_inb : ∀ (i : grid0.Coords) (k0_t51 : Fin (k0_t51_loop i).trips) (v187 : IVec S16 32) (k0_hw470 : k0_chk470 i k0_t51 v187), ∀ (k0_h1 : k0_cond1 i = 1#1), ∀ a x, ((![v187] : Fin 1 → IVec S16 32) a x).toNat < S2176.size a := fun i k0_t51 v187 k0_hw470 k0_h1 => k0_hw470 k0_h1

def k0_chk471 (i : grid0.Coords) (k0_t51 : Fin (k0_t51_loop i).trips) (v194 : IVec S16 32) : Prop :=
  (∀ (k0_h1 : k0_cond1 i = 1#1), ∀ a x, ((![v194] : Fin 1 → IVec S16 32) a x).toNat < S2176.size a)
theorem k0_idx471_inb : ∀ (i : grid0.Coords) (k0_t51 : Fin (k0_t51_loop i).trips) (v194 : IVec S16 32) (k0_hw471 : k0_chk471 i k0_t51 v194), ∀ (k0_h1 : k0_cond1 i = 1#1), ∀ a x, ((![v194] : Fin 1 → IVec S16 32) a x).toNat < S2176.size a := fun i k0_t51 v194 k0_hw471 k0_h1 => k0_hw471 k0_h1

def k0_chk472 (i : grid0.Coords) (k0_t51 : Fin (k0_t51_loop i).trips) (v201 : IVec S16 32) : Prop :=
  (∀ (k0_h1 : k0_cond1 i = 1#1), ∀ a x, ((![v201] : Fin 1 → IVec S16 32) a x).toNat < S2176.size a)
theorem k0_idx472_inb : ∀ (i : grid0.Coords) (k0_t51 : Fin (k0_t51_loop i).trips) (v201 : IVec S16 32) (k0_hw472 : k0_chk472 i k0_t51 v201), ∀ (k0_h1 : k0_cond1 i = 1#1), ∀ a x, ((![v201] : Fin 1 → IVec S16 32) a x).toNat < S2176.size a := fun i k0_t51 v201 k0_hw472 k0_h1 => k0_hw472 k0_h1

def k0_chk473 (i : grid0.Coords) (k0_t51 : Fin (k0_t51_loop i).trips) (v208 : IVec S16 32) : Prop :=
  (∀ (k0_h1 : k0_cond1 i = 1#1), ∀ a x, ((![v208] : Fin 1 → IVec S16 32) a x).toNat < S2176.size a)
theorem k0_idx473_inb : ∀ (i : grid0.Coords) (k0_t51 : Fin (k0_t51_loop i).trips) (v208 : IVec S16 32) (k0_hw473 : k0_chk473 i k0_t51 v208), ∀ (k0_h1 : k0_cond1 i = 1#1), ∀ a x, ((![v208] : Fin 1 → IVec S16 32) a x).toNat < S2176.size a := fun i k0_t51 v208 k0_hw473 k0_h1 => k0_hw473 k0_h1

def k0_chk474 (i : grid0.Coords) (k0_t51 : Fin (k0_t51_loop i).trips) (v215 : IVec S16 32) : Prop :=
  (∀ (k0_h1 : k0_cond1 i = 1#1), ∀ a x, ((![v215] : Fin 1 → IVec S16 32) a x).toNat < S2176.size a)
theorem k0_idx474_inb : ∀ (i : grid0.Coords) (k0_t51 : Fin (k0_t51_loop i).trips) (v215 : IVec S16 32) (k0_hw474 : k0_chk474 i k0_t51 v215), ∀ (k0_h1 : k0_cond1 i = 1#1), ∀ a x, ((![v215] : Fin 1 → IVec S16 32) a x).toNat < S2176.size a := fun i k0_t51 v215 k0_hw474 k0_h1 => k0_hw474 k0_h1

def k0_chk475 (i : grid0.Coords) (k0_t51 : Fin (k0_t51_loop i).trips) (v222 : IVec S16 32) : Prop :=
  (∀ (k0_h1 : k0_cond1 i = 1#1), ∀ a x, ((![v222] : Fin 1 → IVec S16 32) a x).toNat < S2176.size a)
theorem k0_idx475_inb : ∀ (i : grid0.Coords) (k0_t51 : Fin (k0_t51_loop i).trips) (v222 : IVec S16 32) (k0_hw475 : k0_chk475 i k0_t51 v222), ∀ (k0_h1 : k0_cond1 i = 1#1), ∀ a x, ((![v222] : Fin 1 → IVec S16 32) a x).toNat < S2176.size a := fun i k0_t51 v222 k0_hw475 k0_h1 => k0_hw475 k0_h1

def k0_chk476 (i : grid0.Coords) (k0_t51 : Fin (k0_t51_loop i).trips) (v229 : IVec S16 32) : Prop :=
  (∀ (k0_h1 : k0_cond1 i = 1#1), ∀ a x, ((![v229] : Fin 1 → IVec S16 32) a x).toNat < S2176.size a)
theorem k0_idx476_inb : ∀ (i : grid0.Coords) (k0_t51 : Fin (k0_t51_loop i).trips) (v229 : IVec S16 32) (k0_hw476 : k0_chk476 i k0_t51 v229), ∀ (k0_h1 : k0_cond1 i = 1#1), ∀ a x, ((![v229] : Fin 1 → IVec S16 32) a x).toNat < S2176.size a := fun i k0_t51 v229 k0_hw476 k0_h1 => k0_hw476 k0_h1

def k0_chk477 (i : grid0.Coords) (k0_t51 : Fin (k0_t51_loop i).trips) (v236 : IVec S16 32) : Prop :=
  (∀ (k0_h1 : k0_cond1 i = 1#1), ∀ a x, ((![v236] : Fin 1 → IVec S16 32) a x).toNat < S2176.size a)
theorem k0_idx477_inb : ∀ (i : grid0.Coords) (k0_t51 : Fin (k0_t51_loop i).trips) (v236 : IVec S16 32) (k0_hw477 : k0_chk477 i k0_t51 v236), ∀ (k0_h1 : k0_cond1 i = 1#1), ∀ a x, ((![v236] : Fin 1 → IVec S16 32) a x).toNat < S2176.size a := fun i k0_t51 v236 k0_hw477 k0_h1 => k0_hw477 k0_h1

def k0_chk478 (i : grid0.Coords) (k0_t51 : Fin (k0_t51_loop i).trips) (v243 : IVec S16 32) : Prop :=
  (∀ (k0_h1 : k0_cond1 i = 1#1), ∀ a x, ((![v243] : Fin 1 → IVec S16 32) a x).toNat < S2176.size a)
theorem k0_idx478_inb : ∀ (i : grid0.Coords) (k0_t51 : Fin (k0_t51_loop i).trips) (v243 : IVec S16 32) (k0_hw478 : k0_chk478 i k0_t51 v243), ∀ (k0_h1 : k0_cond1 i = 1#1), ∀ a x, ((![v243] : Fin 1 → IVec S16 32) a x).toNat < S2176.size a := fun i k0_t51 v243 k0_hw478 k0_h1 => k0_hw478 k0_h1
def k0_off52 (i : grid0.Coords) (k0_t51 : Fin (k0_t51_loop i).trips) (k0_t52 : Fin k0_t52_loop.trips) (c0_i32_126 : BitVec 32) : Fin 1 → Nat :=
  let c6_i32_15 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let c1_i32_75 : BitVec 32 := 1#32
  let arg12 : BitVec 32 := Scf.iv v42 c1_i32_75 k0_t51
  let c128_i32 : BitVec 32 := 128#32
  let v247 : BitVec 32 := Scalar.muli arg12 c128_i32
  let c0_i32_84 : BitVec 32 := 0#32
  let c1_i32_85 : BitVec 32 := 1#32
  let arg14 : BitVec 32 := Scf.iv c0_i32_84 c1_i32_85 k0_t52
  let c16_i32_125 : BitVec 32 := 16#32
  let v248 : BitVec 32 := Scalar.muli arg14 c16_i32_125
  let v249 : BitVec 32 := Scalar.addi v247 v248
  let v250 : BitVec 32 := Scalar.addi c0_i32_126 v249
  let v251 : Index := Scalar.indexCast v250
  ![v251.toNat]
@[reducible] def k0_t53_loop : Scf.Loop 32 :=
  let c0_i32_129 : BitVec 32 := 0#32
  let c32_i32 : BitVec 32 := 32#32
  let v300 : BitVec 32 := Scalar.addi c0_i32_129 c32_i32
  let c1_i32_130 : BitVec 32 := 1#32
  ⟨c0_i32_129, v300, c1_i32_130⟩

def k0_chk479 (i : grid0.Coords) (k0_t51 : Fin (k0_t51_loop i).trips) (v303 : IVec S16 32) : Prop :=
  (∀ (k0_h1 : k0_cond1 i = 1#1), ∀ a x, ((![v303] : Fin 1 → IVec S16 32) a x).toNat < S67584.size a)
theorem k0_idx479_inb : ∀ (i : grid0.Coords) (k0_t51 : Fin (k0_t51_loop i).trips) (v303 : IVec S16 32) (k0_hw479 : k0_chk479 i k0_t51 v303), ∀ (k0_h1 : k0_cond1 i = 1#1), ∀ a x, ((![v303] : Fin 1 → IVec S16 32) a x).toNat < S67584.size a := fun i k0_t51 v303 k0_hw479 k0_h1 => k0_hw479 k0_h1

def k0_chk480 (i : grid0.Coords) (k0_t51 : Fin (k0_t51_loop i).trips) (v307 : IVec S16 32) : Prop :=
  (∀ (k0_h1 : k0_cond1 i = 1#1), ∀ a x, ((![v307] : Fin 1 → IVec S16 32) a x).toNat < S67584.size a)
theorem k0_idx480_inb : ∀ (i : grid0.Coords) (k0_t51 : Fin (k0_t51_loop i).trips) (v307 : IVec S16 32) (k0_hw480 : k0_chk480 i k0_t51 v307), ∀ (k0_h1 : k0_cond1 i = 1#1), ∀ a x, ((![v307] : Fin 1 → IVec S16 32) a x).toNat < S67584.size a := fun i k0_t51 v307 k0_hw480 k0_h1 => k0_hw480 k0_h1

def k0_chk481 (i : grid0.Coords) (k0_t51 : Fin (k0_t51_loop i).trips) (v312 : IVec S16 32) : Prop :=
  (∀ (k0_h1 : k0_cond1 i = 1#1), ∀ a x, ((![v312] : Fin 1 → IVec S16 32) a x).toNat < S67584.size a)
theorem k0_idx481_inb : ∀ (i : grid0.Coords) (k0_t51 : Fin (k0_t51_loop i).trips) (v312 : IVec S16 32) (k0_hw481 : k0_chk481 i k0_t51 v312), ∀ (k0_h1 : k0_cond1 i = 1#1), ∀ a x, ((![v312] : Fin 1 → IVec S16 32) a x).toNat < S67584.size a := fun i k0_t51 v312 k0_hw481 k0_h1 => k0_hw481 k0_h1

def k0_chk482 (i : grid0.Coords) (k0_t51 : Fin (k0_t51_loop i).trips) (v317 : IVec S16 32) : Prop :=
  (∀ (k0_h1 : k0_cond1 i = 1#1), ∀ a x, ((![v317] : Fin 1 → IVec S16 32) a x).toNat < S67584.size a)
theorem k0_idx482_inb : ∀ (i : grid0.Coords) (k0_t51 : Fin (k0_t51_loop i).trips) (v317 : IVec S16 32) (k0_hw482 : k0_chk482 i k0_t51 v317), ∀ (k0_h1 : k0_cond1 i = 1#1), ∀ a x, ((![v317] : Fin 1 → IVec S16 32) a x).toNat < S67584.size a := fun i k0_t51 v317 k0_hw482 k0_h1 => k0_hw482 k0_h1

def k0_chk483 (i : grid0.Coords) (k0_t51 : Fin (k0_t51_loop i).trips) (v322 : IVec S16 32) : Prop :=
  (∀ (k0_h1 : k0_cond1 i = 1#1), ∀ a x, ((![v322] : Fin 1 → IVec S16 32) a x).toNat < S67584.size a)
theorem k0_idx483_inb : ∀ (i : grid0.Coords) (k0_t51 : Fin (k0_t51_loop i).trips) (v322 : IVec S16 32) (k0_hw483 : k0_chk483 i k0_t51 v322), ∀ (k0_h1 : k0_cond1 i = 1#1), ∀ a x, ((![v322] : Fin 1 → IVec S16 32) a x).toNat < S67584.size a := fun i k0_t51 v322 k0_hw483 k0_h1 => k0_hw483 k0_h1

def k0_chk484 (i : grid0.Coords) (k0_t51 : Fin (k0_t51_loop i).trips) (v327 : IVec S16 32) : Prop :=
  (∀ (k0_h1 : k0_cond1 i = 1#1), ∀ a x, ((![v327] : Fin 1 → IVec S16 32) a x).toNat < S67584.size a)
theorem k0_idx484_inb : ∀ (i : grid0.Coords) (k0_t51 : Fin (k0_t51_loop i).trips) (v327 : IVec S16 32) (k0_hw484 : k0_chk484 i k0_t51 v327), ∀ (k0_h1 : k0_cond1 i = 1#1), ∀ a x, ((![v327] : Fin 1 → IVec S16 32) a x).toNat < S67584.size a := fun i k0_t51 v327 k0_hw484 k0_h1 => k0_hw484 k0_h1

def k0_chk485 (i : grid0.Coords) (k0_t51 : Fin (k0_t51_loop i).trips) (v332 : IVec S16 32) : Prop :=
  (∀ (k0_h1 : k0_cond1 i = 1#1), ∀ a x, ((![v332] : Fin 1 → IVec S16 32) a x).toNat < S67584.size a)
theorem k0_idx485_inb : ∀ (i : grid0.Coords) (k0_t51 : Fin (k0_t51_loop i).trips) (v332 : IVec S16 32) (k0_hw485 : k0_chk485 i k0_t51 v332), ∀ (k0_h1 : k0_cond1 i = 1#1), ∀ a x, ((![v332] : Fin 1 → IVec S16 32) a x).toNat < S67584.size a := fun i k0_t51 v332 k0_hw485 k0_h1 => k0_hw485 k0_h1

def k0_chk486 (i : grid0.Coords) (k0_t51 : Fin (k0_t51_loop i).trips) (v337 : IVec S16 32) : Prop :=
  (∀ (k0_h1 : k0_cond1 i = 1#1), ∀ a x, ((![v337] : Fin 1 → IVec S16 32) a x).toNat < S67584.size a)
theorem k0_idx486_inb : ∀ (i : grid0.Coords) (k0_t51 : Fin (k0_t51_loop i).trips) (v337 : IVec S16 32) (k0_hw486 : k0_chk486 i k0_t51 v337), ∀ (k0_h1 : k0_cond1 i = 1#1), ∀ a x, ((![v337] : Fin 1 → IVec S16 32) a x).toNat < S67584.size a := fun i k0_t51 v337 k0_hw486 k0_h1 => k0_hw486 k0_h1

def k0_chk487 (i : grid0.Coords) (k0_t51 : Fin (k0_t51_loop i).trips) (v342 : IVec S16 32) : Prop :=
  (∀ (k0_h1 : k0_cond1 i = 1#1), ∀ a x, ((![v342] : Fin 1 → IVec S16 32) a x).toNat < S67584.size a)
theorem k0_idx487_inb : ∀ (i : grid0.Coords) (k0_t51 : Fin (k0_t51_loop i).trips) (v342 : IVec S16 32) (k0_hw487 : k0_chk487 i k0_t51 v342), ∀ (k0_h1 : k0_cond1 i = 1#1), ∀ a x, ((![v342] : Fin 1 → IVec S16 32) a x).toNat < S67584.size a := fun i k0_t51 v342 k0_hw487 k0_h1 => k0_hw487 k0_h1

def k0_chk488 (i : grid0.Coords) (k0_t51 : Fin (k0_t51_loop i).trips) (v347 : IVec S16 32) : Prop :=
  (∀ (k0_h1 : k0_cond1 i = 1#1), ∀ a x, ((![v347] : Fin 1 → IVec S16 32) a x).toNat < S67584.size a)
theorem k0_idx488_inb : ∀ (i : grid0.Coords) (k0_t51 : Fin (k0_t51_loop i).trips) (v347 : IVec S16 32) (k0_hw488 : k0_chk488 i k0_t51 v347), ∀ (k0_h1 : k0_cond1 i = 1#1), ∀ a x, ((![v347] : Fin 1 → IVec S16 32) a x).toNat < S67584.size a := fun i k0_t51 v347 k0_hw488 k0_h1 => k0_hw488 k0_h1

def k0_chk489 (i : grid0.Coords) (k0_t51 : Fin (k0_t51_loop i).trips) (v352 : IVec S16 32) : Prop :=
  (∀ (k0_h1 : k0_cond1 i = 1#1), ∀ a x, ((![v352] : Fin 1 → IVec S16 32) a x).toNat < S67584.size a)
theorem k0_idx489_inb : ∀ (i : grid0.Coords) (k0_t51 : Fin (k0_t51_loop i).trips) (v352 : IVec S16 32) (k0_hw489 : k0_chk489 i k0_t51 v352), ∀ (k0_h1 : k0_cond1 i = 1#1), ∀ a x, ((![v352] : Fin 1 → IVec S16 32) a x).toNat < S67584.size a := fun i k0_t51 v352 k0_hw489 k0_h1 => k0_hw489 k0_h1

def k0_chk490 (i : grid0.Coords) (k0_t51 : Fin (k0_t51_loop i).trips) (v357 : IVec S16 32) : Prop :=
  (∀ (k0_h1 : k0_cond1 i = 1#1), ∀ a x, ((![v357] : Fin 1 → IVec S16 32) a x).toNat < S67584.size a)
theorem k0_idx490_inb : ∀ (i : grid0.Coords) (k0_t51 : Fin (k0_t51_loop i).trips) (v357 : IVec S16 32) (k0_hw490 : k0_chk490 i k0_t51 v357), ∀ (k0_h1 : k0_cond1 i = 1#1), ∀ a x, ((![v357] : Fin 1 → IVec S16 32) a x).toNat < S67584.size a := fun i k0_t51 v357 k0_hw490 k0_h1 => k0_hw490 k0_h1

def k0_chk491 (i : grid0.Coords) (k0_t51 : Fin (k0_t51_loop i).trips) (v362 : IVec S16 32) : Prop :=
  (∀ (k0_h1 : k0_cond1 i = 1#1), ∀ a x, ((![v362] : Fin 1 → IVec S16 32) a x).toNat < S67584.size a)
theorem k0_idx491_inb : ∀ (i : grid0.Coords) (k0_t51 : Fin (k0_t51_loop i).trips) (v362 : IVec S16 32) (k0_hw491 : k0_chk491 i k0_t51 v362), ∀ (k0_h1 : k0_cond1 i = 1#1), ∀ a x, ((![v362] : Fin 1 → IVec S16 32) a x).toNat < S67584.size a := fun i k0_t51 v362 k0_hw491 k0_h1 => k0_hw491 k0_h1

def k0_chk492 (i : grid0.Coords) (k0_t51 : Fin (k0_t51_loop i).trips) (v367 : IVec S16 32) : Prop :=
  (∀ (k0_h1 : k0_cond1 i = 1#1), ∀ a x, ((![v367] : Fin 1 → IVec S16 32) a x).toNat < S67584.size a)
theorem k0_idx492_inb : ∀ (i : grid0.Coords) (k0_t51 : Fin (k0_t51_loop i).trips) (v367 : IVec S16 32) (k0_hw492 : k0_chk492 i k0_t51 v367), ∀ (k0_h1 : k0_cond1 i = 1#1), ∀ a x, ((![v367] : Fin 1 → IVec S16 32) a x).toNat < S67584.size a := fun i k0_t51 v367 k0_hw492 k0_h1 => k0_hw492 k0_h1

def k0_chk493 (i : grid0.Coords) (k0_t51 : Fin (k0_t51_loop i).trips) (v372 : IVec S16 32) : Prop :=
  (∀ (k0_h1 : k0_cond1 i = 1#1), ∀ a x, ((![v372] : Fin 1 → IVec S16 32) a x).toNat < S67584.size a)
theorem k0_idx493_inb : ∀ (i : grid0.Coords) (k0_t51 : Fin (k0_t51_loop i).trips) (v372 : IVec S16 32) (k0_hw493 : k0_chk493 i k0_t51 v372), ∀ (k0_h1 : k0_cond1 i = 1#1), ∀ a x, ((![v372] : Fin 1 → IVec S16 32) a x).toNat < S67584.size a := fun i k0_t51 v372 k0_hw493 k0_h1 => k0_hw493 k0_h1

def k0_chk494 (i : grid0.Coords) (k0_t51 : Fin (k0_t51_loop i).trips) (v377 : IVec S16 32) : Prop :=
  (∀ (k0_h1 : k0_cond1 i = 1#1), ∀ a x, ((![v377] : Fin 1 → IVec S16 32) a x).toNat < S67584.size a)
theorem k0_idx494_inb : ∀ (i : grid0.Coords) (k0_t51 : Fin (k0_t51_loop i).trips) (v377 : IVec S16 32) (k0_hw494 : k0_chk494 i k0_t51 v377), ∀ (k0_h1 : k0_cond1 i = 1#1), ∀ a x, ((![v377] : Fin 1 → IVec S16 32) a x).toNat < S67584.size a := fun i k0_t51 v377 k0_hw494 k0_h1 => k0_hw494 k0_h1

def k0_chk495 (i : grid0.Coords) (k0_t51 : Fin (k0_t51_loop i).trips) (v382 : IVec S16 32) : Prop :=
  (∀ (k0_h1 : k0_cond1 i = 1#1), ∀ a x, ((![v382] : Fin 1 → IVec S16 32) a x).toNat < S4224.size a)
theorem k0_idx495_inb : ∀ (i : grid0.Coords) (k0_t51 : Fin (k0_t51_loop i).trips) (v382 : IVec S16 32) (k0_hw495 : k0_chk495 i k0_t51 v382), ∀ (k0_h1 : k0_cond1 i = 1#1), ∀ a x, ((![v382] : Fin 1 → IVec S16 32) a x).toNat < S4224.size a := fun i k0_t51 v382 k0_hw495 k0_h1 => k0_hw495 k0_h1
def k0_off53 (i : grid0.Coords) (k0_t51 : Fin (k0_t51_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c6_i32_4 : BitVec 32 := 6#32
  let v20 : BitVec 32 := Scalar.addi v2 c6_i32_4
  let c1_i32_5 : BitVec 32 := 1#32
  let v21 : BitVec 32 := Scalar.subi v20 c1_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c16_i32_6 : BitVec 32 := 16#32
  let c0_i32_9 : BitVec 32 := 0#32
  let v28 : BitVec 1 := Scalar.cmpi .sgt c16_i32_6 c0_i32_9
  let v29 : BitVec 32 := Scalar.extui v28
  let c0_i32_10 : BitVec 32 := 0#32
  let v30 : BitVec 1 := Scalar.cmpi .slt c16_i32_6 c0_i32_10
  let v31 : BitVec 32 := Scalar.extui v30
  let v32 : BitVec 32 := Scalar.subi v29 v31
  let v33 : BitVec 1 := Scalar.cmpi .ne v27 v32
  let v34 : BitVec 32 := Scalar.remsi v21 c16_i32_6
  let c0_i32_11 : BitVec 32 := 0#32
  let v35 : BitVec 1 := Scalar.cmpi .ne v34 c0_i32_11
  let v36 : BitVec 1 := Scalar.andi v33 v35
  let v22 : BitVec 32 := Scalar.divsi v21 c16_i32_6
  let c1_i32_12 : BitVec 32 := 1#32
  let v37 : BitVec 32 := Scalar.subi v22 c1_i32_12
  let v38 : BitVec 32 := Scalar.select v36 v37 v22
  let c1_i32_87 : BitVec 32 := 1#32
  let c6_i32_15 : BitVec 32 := 6#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let c1_i32_75 : BitVec 32 := 1#32
  let arg12 : BitVec 32 := Scf.iv v42 c1_i32_75 k0_t51
  let v117 : BitVec 32 := Scalar.addi v2 arg12
  let c16_i32_77 : BitVec 32 := 16#32
  let c0_i32_78 : BitVec 32 := 0#32
  let v118 : BitVec 1 := Scalar.cmpi .eq c16_i32_77 c0_i32_78
  let c1_i32_79 : BitVec 32 := 1#32
  let v119 : BitVec 32 := Scalar.select v118 c1_i32_79 c16_i32_77
  let v120 : BitVec 32 := Scalar.remsi v117 v119
  let c0_i32_81 : BitVec 32 := 0#32
  let v122 : BitVec 1 := Scalar.cmpi .slt v120 c0_i32_81
  let c0_i32_82 : BitVec 32 := 0#32
  let v123 : BitVec 1 := Scalar.cmpi .slt v119 c0_i32_82
  let v124 : BitVec 1 := Scalar.xori v122 v123
  let c0_i32_80 : BitVec 32 := 0#32
  let v121 : BitVec 1 := Scalar.cmpi .ne v120 c0_i32_80
  let v125 : BitVec 1 := Scalar.andi v124 v121
  let v126 : BitVec 32 := Scalar.addi v120 v119
  let v127 : BitVec 32 := Scalar.select v125 v126 v120
  let c4224_i32 : BitVec 32 := 4224#32
  let v131 : BitVec 32 := Scalar.muli v127 c4224_i32
  ![v38.toNat, 1, v131.toNat]
@[reducible] def k0_t54_loop (i : grid0.Coords) : Scf.Loop 32 :=
  let c6_i32_15 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let c6_i32_72 : BitVec 32 := 6#32
  let v110 : BitVec 32 := Scalar.subi c6_i32_72 v42
  let c1_i32_74 : BitVec 32 := 1#32
  let v112 : BitVec 32 := Scalar.divsi v110 c1_i32_74
  let v113 : BitVec 32 := Scalar.muli v112 c1_i32_74
  let v114 : BitVec 32 := Scalar.addi v42 v113
  let v111 : BitVec 32 := Scalar.addi v42 v110
  let c1_i32_76 : BitVec 32 := 1#32
  ⟨v114, v111, c1_i32_76⟩
def k0_off54 (i : grid0.Coords) (k0_t54 : Fin (k0_t54_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c6_i32_4 : BitVec 32 := 6#32
  let v20 : BitVec 32 := Scalar.addi v2 c6_i32_4
  let c1_i32_5 : BitVec 32 := 1#32
  let v21 : BitVec 32 := Scalar.subi v20 c1_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c16_i32_6 : BitVec 32 := 16#32
  let c0_i32_9 : BitVec 32 := 0#32
  let v28 : BitVec 1 := Scalar.cmpi .sgt c16_i32_6 c0_i32_9
  let v29 : BitVec 32 := Scalar.extui v28
  let c0_i32_10 : BitVec 32 := 0#32
  let v30 : BitVec 1 := Scalar.cmpi .slt c16_i32_6 c0_i32_10
  let v31 : BitVec 32 := Scalar.extui v30
  let v32 : BitVec 32 := Scalar.subi v29 v31
  let v33 : BitVec 1 := Scalar.cmpi .ne v27 v32
  let v34 : BitVec 32 := Scalar.remsi v21 c16_i32_6
  let c0_i32_11 : BitVec 32 := 0#32
  let v35 : BitVec 1 := Scalar.cmpi .ne v34 c0_i32_11
  let v36 : BitVec 1 := Scalar.andi v33 v35
  let v22 : BitVec 32 := Scalar.divsi v21 c16_i32_6
  let c1_i32_12 : BitVec 32 := 1#32
  let v37 : BitVec 32 := Scalar.subi v22 c1_i32_12
  let v38 : BitVec 32 := Scalar.select v36 v37 v22
  let c6_i32_15 : BitVec 32 := 6#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let c6_i32_72 : BitVec 32 := 6#32
  let v110 : BitVec 32 := Scalar.subi c6_i32_72 v42
  let c1_i32_74 : BitVec 32 := 1#32
  let v112 : BitVec 32 := Scalar.divsi v110 c1_i32_74
  let v113 : BitVec 32 := Scalar.muli v112 c1_i32_74
  let v114 : BitVec 32 := Scalar.addi v42 v113
  let c1_i32_76 : BitVec 32 := 1#32
  let arg12 : BitVec 32 := Scf.iv v114 c1_i32_76 k0_t54
  let v117 : BitVec 32 := Scalar.addi v2 arg12
  let c16_i32_77 : BitVec 32 := 16#32
  let c0_i32_78 : BitVec 32 := 0#32
  let v118 : BitVec 1 := Scalar.cmpi .eq c16_i32_77 c0_i32_78
  let c1_i32_79 : BitVec 32 := 1#32
  let v119 : BitVec 32 := Scalar.select v118 c1_i32_79 c16_i32_77
  let v120 : BitVec 32 := Scalar.remsi v117 v119
  let c0_i32_81 : BitVec 32 := 0#32
  let v122 : BitVec 1 := Scalar.cmpi .slt v120 c0_i32_81
  let c0_i32_82 : BitVec 32 := 0#32
  let v123 : BitVec 1 := Scalar.cmpi .slt v119 c0_i32_82
  let v124 : BitVec 1 := Scalar.xori v122 v123
  let c0_i32_80 : BitVec 32 := 0#32
  let v121 : BitVec 1 := Scalar.cmpi .ne v120 c0_i32_80
  let v125 : BitVec 1 := Scalar.andi v124 v121
  let v126 : BitVec 32 := Scalar.addi v120 v119
  let v127 : BitVec 32 := Scalar.select v125 v126 v120
  let c2176_i32 : BitVec 32 := 2176#32
  let v128 : BitVec 32 := Scalar.muli v127 c2176_i32
  ![v38.toNat, v128.toNat]
@[reducible] def k0_t55_loop : Scf.Loop 32 :=
  let c0_i32_84 : BitVec 32 := 0#32
  let c8_i32 : BitVec 32 := 8#32
  let v129 : BitVec 32 := Scalar.addi c0_i32_84 c8_i32
  let c1_i32_85 : BitVec 32 := 1#32
  ⟨c0_i32_84, v129, c1_i32_85⟩

def k0_chk496 (i : grid0.Coords) (k0_t54 : Fin (k0_t54_loop i).trips) (v138 : IVec S16 32) : Prop :=
  (∀ (k0_h1 : k0_cond1 i = 1#1), ∀ a x, ((![v138] : Fin 1 → IVec S16 32) a x).toNat < S2176.size a)
theorem k0_idx496_inb : ∀ (i : grid0.Coords) (k0_t54 : Fin (k0_t54_loop i).trips) (v138 : IVec S16 32) (k0_hw496 : k0_chk496 i k0_t54 v138), ∀ (k0_h1 : k0_cond1 i = 1#1), ∀ a x, ((![v138] : Fin 1 → IVec S16 32) a x).toNat < S2176.size a := fun i k0_t54 v138 k0_hw496 k0_h1 => k0_hw496 k0_h1

def k0_chk497 (i : grid0.Coords) (k0_t54 : Fin (k0_t54_loop i).trips) (v145 : IVec S16 32) : Prop :=
  (∀ (k0_h1 : k0_cond1 i = 1#1), ∀ a x, ((![v145] : Fin 1 → IVec S16 32) a x).toNat < S2176.size a)
theorem k0_idx497_inb : ∀ (i : grid0.Coords) (k0_t54 : Fin (k0_t54_loop i).trips) (v145 : IVec S16 32) (k0_hw497 : k0_chk497 i k0_t54 v145), ∀ (k0_h1 : k0_cond1 i = 1#1), ∀ a x, ((![v145] : Fin 1 → IVec S16 32) a x).toNat < S2176.size a := fun i k0_t54 v145 k0_hw497 k0_h1 => k0_hw497 k0_h1

def k0_chk498 (i : grid0.Coords) (k0_t54 : Fin (k0_t54_loop i).trips) (v152 : IVec S16 32) : Prop :=
  (∀ (k0_h1 : k0_cond1 i = 1#1), ∀ a x, ((![v152] : Fin 1 → IVec S16 32) a x).toNat < S2176.size a)
theorem k0_idx498_inb : ∀ (i : grid0.Coords) (k0_t54 : Fin (k0_t54_loop i).trips) (v152 : IVec S16 32) (k0_hw498 : k0_chk498 i k0_t54 v152), ∀ (k0_h1 : k0_cond1 i = 1#1), ∀ a x, ((![v152] : Fin 1 → IVec S16 32) a x).toNat < S2176.size a := fun i k0_t54 v152 k0_hw498 k0_h1 => k0_hw498 k0_h1

def k0_chk499 (i : grid0.Coords) (k0_t54 : Fin (k0_t54_loop i).trips) (v159 : IVec S16 32) : Prop :=
  (∀ (k0_h1 : k0_cond1 i = 1#1), ∀ a x, ((![v159] : Fin 1 → IVec S16 32) a x).toNat < S2176.size a)
theorem k0_idx499_inb : ∀ (i : grid0.Coords) (k0_t54 : Fin (k0_t54_loop i).trips) (v159 : IVec S16 32) (k0_hw499 : k0_chk499 i k0_t54 v159), ∀ (k0_h1 : k0_cond1 i = 1#1), ∀ a x, ((![v159] : Fin 1 → IVec S16 32) a x).toNat < S2176.size a := fun i k0_t54 v159 k0_hw499 k0_h1 => k0_hw499 k0_h1

def k0_chk500 (i : grid0.Coords) (k0_t54 : Fin (k0_t54_loop i).trips) (v166 : IVec S16 32) : Prop :=
  (∀ (k0_h1 : k0_cond1 i = 1#1), ∀ a x, ((![v166] : Fin 1 → IVec S16 32) a x).toNat < S2176.size a)
theorem k0_idx500_inb : ∀ (i : grid0.Coords) (k0_t54 : Fin (k0_t54_loop i).trips) (v166 : IVec S16 32) (k0_hw500 : k0_chk500 i k0_t54 v166), ∀ (k0_h1 : k0_cond1 i = 1#1), ∀ a x, ((![v166] : Fin 1 → IVec S16 32) a x).toNat < S2176.size a := fun i k0_t54 v166 k0_hw500 k0_h1 => k0_hw500 k0_h1

def k0_chk501 (i : grid0.Coords) (k0_t54 : Fin (k0_t54_loop i).trips) (v173 : IVec S16 32) : Prop :=
  (∀ (k0_h1 : k0_cond1 i = 1#1), ∀ a x, ((![v173] : Fin 1 → IVec S16 32) a x).toNat < S2176.size a)
theorem k0_idx501_inb : ∀ (i : grid0.Coords) (k0_t54 : Fin (k0_t54_loop i).trips) (v173 : IVec S16 32) (k0_hw501 : k0_chk501 i k0_t54 v173), ∀ (k0_h1 : k0_cond1 i = 1#1), ∀ a x, ((![v173] : Fin 1 → IVec S16 32) a x).toNat < S2176.size a := fun i k0_t54 v173 k0_hw501 k0_h1 => k0_hw501 k0_h1

def k0_chk502 (i : grid0.Coords) (k0_t54 : Fin (k0_t54_loop i).trips) (v180 : IVec S16 32) : Prop :=
  (∀ (k0_h1 : k0_cond1 i = 1#1), ∀ a x, ((![v180] : Fin 1 → IVec S16 32) a x).toNat < S2176.size a)
theorem k0_idx502_inb : ∀ (i : grid0.Coords) (k0_t54 : Fin (k0_t54_loop i).trips) (v180 : IVec S16 32) (k0_hw502 : k0_chk502 i k0_t54 v180), ∀ (k0_h1 : k0_cond1 i = 1#1), ∀ a x, ((![v180] : Fin 1 → IVec S16 32) a x).toNat < S2176.size a := fun i k0_t54 v180 k0_hw502 k0_h1 => k0_hw502 k0_h1

def k0_chk503 (i : grid0.Coords) (k0_t54 : Fin (k0_t54_loop i).trips) (v187 : IVec S16 32) : Prop :=
  (∀ (k0_h1 : k0_cond1 i = 1#1), ∀ a x, ((![v187] : Fin 1 → IVec S16 32) a x).toNat < S2176.size a)
theorem k0_idx503_inb : ∀ (i : grid0.Coords) (k0_t54 : Fin (k0_t54_loop i).trips) (v187 : IVec S16 32) (k0_hw503 : k0_chk503 i k0_t54 v187), ∀ (k0_h1 : k0_cond1 i = 1#1), ∀ a x, ((![v187] : Fin 1 → IVec S16 32) a x).toNat < S2176.size a := fun i k0_t54 v187 k0_hw503 k0_h1 => k0_hw503 k0_h1

def k0_chk504 (i : grid0.Coords) (k0_t54 : Fin (k0_t54_loop i).trips) (v194 : IVec S16 32) : Prop :=
  (∀ (k0_h1 : k0_cond1 i = 1#1), ∀ a x, ((![v194] : Fin 1 → IVec S16 32) a x).toNat < S2176.size a)
theorem k0_idx504_inb : ∀ (i : grid0.Coords) (k0_t54 : Fin (k0_t54_loop i).trips) (v194 : IVec S16 32) (k0_hw504 : k0_chk504 i k0_t54 v194), ∀ (k0_h1 : k0_cond1 i = 1#1), ∀ a x, ((![v194] : Fin 1 → IVec S16 32) a x).toNat < S2176.size a := fun i k0_t54 v194 k0_hw504 k0_h1 => k0_hw504 k0_h1

def k0_chk505 (i : grid0.Coords) (k0_t54 : Fin (k0_t54_loop i).trips) (v201 : IVec S16 32) : Prop :=
  (∀ (k0_h1 : k0_cond1 i = 1#1), ∀ a x, ((![v201] : Fin 1 → IVec S16 32) a x).toNat < S2176.size a)
theorem k0_idx505_inb : ∀ (i : grid0.Coords) (k0_t54 : Fin (k0_t54_loop i).trips) (v201 : IVec S16 32) (k0_hw505 : k0_chk505 i k0_t54 v201), ∀ (k0_h1 : k0_cond1 i = 1#1), ∀ a x, ((![v201] : Fin 1 → IVec S16 32) a x).toNat < S2176.size a := fun i k0_t54 v201 k0_hw505 k0_h1 => k0_hw505 k0_h1

def k0_chk506 (i : grid0.Coords) (k0_t54 : Fin (k0_t54_loop i).trips) (v208 : IVec S16 32) : Prop :=
  (∀ (k0_h1 : k0_cond1 i = 1#1), ∀ a x, ((![v208] : Fin 1 → IVec S16 32) a x).toNat < S2176.size a)
theorem k0_idx506_inb : ∀ (i : grid0.Coords) (k0_t54 : Fin (k0_t54_loop i).trips) (v208 : IVec S16 32) (k0_hw506 : k0_chk506 i k0_t54 v208), ∀ (k0_h1 : k0_cond1 i = 1#1), ∀ a x, ((![v208] : Fin 1 → IVec S16 32) a x).toNat < S2176.size a := fun i k0_t54 v208 k0_hw506 k0_h1 => k0_hw506 k0_h1

def k0_chk507 (i : grid0.Coords) (k0_t54 : Fin (k0_t54_loop i).trips) (v215 : IVec S16 32) : Prop :=
  (∀ (k0_h1 : k0_cond1 i = 1#1), ∀ a x, ((![v215] : Fin 1 → IVec S16 32) a x).toNat < S2176.size a)
theorem k0_idx507_inb : ∀ (i : grid0.Coords) (k0_t54 : Fin (k0_t54_loop i).trips) (v215 : IVec S16 32) (k0_hw507 : k0_chk507 i k0_t54 v215), ∀ (k0_h1 : k0_cond1 i = 1#1), ∀ a x, ((![v215] : Fin 1 → IVec S16 32) a x).toNat < S2176.size a := fun i k0_t54 v215 k0_hw507 k0_h1 => k0_hw507 k0_h1

def k0_chk508 (i : grid0.Coords) (k0_t54 : Fin (k0_t54_loop i).trips) (v222 : IVec S16 32) : Prop :=
  (∀ (k0_h1 : k0_cond1 i = 1#1), ∀ a x, ((![v222] : Fin 1 → IVec S16 32) a x).toNat < S2176.size a)
theorem k0_idx508_inb : ∀ (i : grid0.Coords) (k0_t54 : Fin (k0_t54_loop i).trips) (v222 : IVec S16 32) (k0_hw508 : k0_chk508 i k0_t54 v222), ∀ (k0_h1 : k0_cond1 i = 1#1), ∀ a x, ((![v222] : Fin 1 → IVec S16 32) a x).toNat < S2176.size a := fun i k0_t54 v222 k0_hw508 k0_h1 => k0_hw508 k0_h1

def k0_chk509 (i : grid0.Coords) (k0_t54 : Fin (k0_t54_loop i).trips) (v229 : IVec S16 32) : Prop :=
  (∀ (k0_h1 : k0_cond1 i = 1#1), ∀ a x, ((![v229] : Fin 1 → IVec S16 32) a x).toNat < S2176.size a)
theorem k0_idx509_inb : ∀ (i : grid0.Coords) (k0_t54 : Fin (k0_t54_loop i).trips) (v229 : IVec S16 32) (k0_hw509 : k0_chk509 i k0_t54 v229), ∀ (k0_h1 : k0_cond1 i = 1#1), ∀ a x, ((![v229] : Fin 1 → IVec S16 32) a x).toNat < S2176.size a := fun i k0_t54 v229 k0_hw509 k0_h1 => k0_hw509 k0_h1

def k0_chk510 (i : grid0.Coords) (k0_t54 : Fin (k0_t54_loop i).trips) (v236 : IVec S16 32) : Prop :=
  (∀ (k0_h1 : k0_cond1 i = 1#1), ∀ a x, ((![v236] : Fin 1 → IVec S16 32) a x).toNat < S2176.size a)
theorem k0_idx510_inb : ∀ (i : grid0.Coords) (k0_t54 : Fin (k0_t54_loop i).trips) (v236 : IVec S16 32) (k0_hw510 : k0_chk510 i k0_t54 v236), ∀ (k0_h1 : k0_cond1 i = 1#1), ∀ a x, ((![v236] : Fin 1 → IVec S16 32) a x).toNat < S2176.size a := fun i k0_t54 v236 k0_hw510 k0_h1 => k0_hw510 k0_h1

def k0_chk511 (i : grid0.Coords) (k0_t54 : Fin (k0_t54_loop i).trips) (v243 : IVec S16 32) : Prop :=
  (∀ (k0_h1 : k0_cond1 i = 1#1), ∀ a x, ((![v243] : Fin 1 → IVec S16 32) a x).toNat < S2176.size a)
theorem k0_idx511_inb : ∀ (i : grid0.Coords) (k0_t54 : Fin (k0_t54_loop i).trips) (v243 : IVec S16 32) (k0_hw511 : k0_chk511 i k0_t54 v243), ∀ (k0_h1 : k0_cond1 i = 1#1), ∀ a x, ((![v243] : Fin 1 → IVec S16 32) a x).toNat < S2176.size a := fun i k0_t54 v243 k0_hw511 k0_h1 => k0_hw511 k0_h1
def k0_off55 (i : grid0.Coords) (k0_t54 : Fin (k0_t54_loop i).trips) (k0_t55 : Fin k0_t55_loop.trips) (c0_i32_126 : BitVec 32) : Fin 1 → Nat :=
  let c6_i32_15 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let c6_i32_72 : BitVec 32 := 6#32
  let v110 : BitVec 32 := Scalar.subi c6_i32_72 v42
  let c1_i32_74 : BitVec 32 := 1#32
  let v112 : BitVec 32 := Scalar.divsi v110 c1_i32_74
  let v113 : BitVec 32 := Scalar.muli v112 c1_i32_74
  let v114 : BitVec 32 := Scalar.addi v42 v113
  let c1_i32_76 : BitVec 32 := 1#32
  let arg12 : BitVec 32 := Scf.iv v114 c1_i32_76 k0_t54
  let c128_i32 : BitVec 32 := 128#32
  let v247 : BitVec 32 := Scalar.muli arg12 c128_i32
  let c0_i32_84 : BitVec 32 := 0#32
  let c1_i32_85 : BitVec 32 := 1#32
  let arg14 : BitVec 32 := Scf.iv c0_i32_84 c1_i32_85 k0_t55
  let c16_i32_125 : BitVec 32 := 16#32
  let v248 : BitVec 32 := Scalar.muli arg14 c16_i32_125
  let v249 : BitVec 32 := Scalar.addi v247 v248
  let v250 : BitVec 32 := Scalar.addi c0_i32_126 v249
  let v251 : Index := Scalar.indexCast v250
  ![v251.toNat]
@[reducible] def k0_t56_loop : Scf.Loop 32 :=
  let c0_i32_129 : BitVec 32 := 0#32
  let c32_i32 : BitVec 32 := 32#32
  let v300 : BitVec 32 := Scalar.addi c0_i32_129 c32_i32
  let c1_i32_130 : BitVec 32 := 1#32
  ⟨c0_i32_129, v300, c1_i32_130⟩

def k0_chk512 (i : grid0.Coords) (k0_t54 : Fin (k0_t54_loop i).trips) (v303 : IVec S16 32) : Prop :=
  (∀ (k0_h1 : k0_cond1 i = 1#1), ∀ a x, ((![v303] : Fin 1 → IVec S16 32) a x).toNat < S67584.size a)
theorem k0_idx512_inb : ∀ (i : grid0.Coords) (k0_t54 : Fin (k0_t54_loop i).trips) (v303 : IVec S16 32) (k0_hw512 : k0_chk512 i k0_t54 v303), ∀ (k0_h1 : k0_cond1 i = 1#1), ∀ a x, ((![v303] : Fin 1 → IVec S16 32) a x).toNat < S67584.size a := fun i k0_t54 v303 k0_hw512 k0_h1 => k0_hw512 k0_h1

def k0_chk513 (i : grid0.Coords) (k0_t54 : Fin (k0_t54_loop i).trips) (v307 : IVec S16 32) : Prop :=
  (∀ (k0_h1 : k0_cond1 i = 1#1), ∀ a x, ((![v307] : Fin 1 → IVec S16 32) a x).toNat < S67584.size a)
theorem k0_idx513_inb : ∀ (i : grid0.Coords) (k0_t54 : Fin (k0_t54_loop i).trips) (v307 : IVec S16 32) (k0_hw513 : k0_chk513 i k0_t54 v307), ∀ (k0_h1 : k0_cond1 i = 1#1), ∀ a x, ((![v307] : Fin 1 → IVec S16 32) a x).toNat < S67584.size a := fun i k0_t54 v307 k0_hw513 k0_h1 => k0_hw513 k0_h1

def k0_chk514 (i : grid0.Coords) (k0_t54 : Fin (k0_t54_loop i).trips) (v312 : IVec S16 32) : Prop :=
  (∀ (k0_h1 : k0_cond1 i = 1#1), ∀ a x, ((![v312] : Fin 1 → IVec S16 32) a x).toNat < S67584.size a)
theorem k0_idx514_inb : ∀ (i : grid0.Coords) (k0_t54 : Fin (k0_t54_loop i).trips) (v312 : IVec S16 32) (k0_hw514 : k0_chk514 i k0_t54 v312), ∀ (k0_h1 : k0_cond1 i = 1#1), ∀ a x, ((![v312] : Fin 1 → IVec S16 32) a x).toNat < S67584.size a := fun i k0_t54 v312 k0_hw514 k0_h1 => k0_hw514 k0_h1

def k0_chk515 (i : grid0.Coords) (k0_t54 : Fin (k0_t54_loop i).trips) (v317 : IVec S16 32) : Prop :=
  (∀ (k0_h1 : k0_cond1 i = 1#1), ∀ a x, ((![v317] : Fin 1 → IVec S16 32) a x).toNat < S67584.size a)
theorem k0_idx515_inb : ∀ (i : grid0.Coords) (k0_t54 : Fin (k0_t54_loop i).trips) (v317 : IVec S16 32) (k0_hw515 : k0_chk515 i k0_t54 v317), ∀ (k0_h1 : k0_cond1 i = 1#1), ∀ a x, ((![v317] : Fin 1 → IVec S16 32) a x).toNat < S67584.size a := fun i k0_t54 v317 k0_hw515 k0_h1 => k0_hw515 k0_h1

def k0_chk516 (i : grid0.Coords) (k0_t54 : Fin (k0_t54_loop i).trips) (v322 : IVec S16 32) : Prop :=
  (∀ (k0_h1 : k0_cond1 i = 1#1), ∀ a x, ((![v322] : Fin 1 → IVec S16 32) a x).toNat < S67584.size a)
theorem k0_idx516_inb : ∀ (i : grid0.Coords) (k0_t54 : Fin (k0_t54_loop i).trips) (v322 : IVec S16 32) (k0_hw516 : k0_chk516 i k0_t54 v322), ∀ (k0_h1 : k0_cond1 i = 1#1), ∀ a x, ((![v322] : Fin 1 → IVec S16 32) a x).toNat < S67584.size a := fun i k0_t54 v322 k0_hw516 k0_h1 => k0_hw516 k0_h1

def k0_chk517 (i : grid0.Coords) (k0_t54 : Fin (k0_t54_loop i).trips) (v327 : IVec S16 32) : Prop :=
  (∀ (k0_h1 : k0_cond1 i = 1#1), ∀ a x, ((![v327] : Fin 1 → IVec S16 32) a x).toNat < S67584.size a)
theorem k0_idx517_inb : ∀ (i : grid0.Coords) (k0_t54 : Fin (k0_t54_loop i).trips) (v327 : IVec S16 32) (k0_hw517 : k0_chk517 i k0_t54 v327), ∀ (k0_h1 : k0_cond1 i = 1#1), ∀ a x, ((![v327] : Fin 1 → IVec S16 32) a x).toNat < S67584.size a := fun i k0_t54 v327 k0_hw517 k0_h1 => k0_hw517 k0_h1

def k0_chk518 (i : grid0.Coords) (k0_t54 : Fin (k0_t54_loop i).trips) (v332 : IVec S16 32) : Prop :=
  (∀ (k0_h1 : k0_cond1 i = 1#1), ∀ a x, ((![v332] : Fin 1 → IVec S16 32) a x).toNat < S67584.size a)
theorem k0_idx518_inb : ∀ (i : grid0.Coords) (k0_t54 : Fin (k0_t54_loop i).trips) (v332 : IVec S16 32) (k0_hw518 : k0_chk518 i k0_t54 v332), ∀ (k0_h1 : k0_cond1 i = 1#1), ∀ a x, ((![v332] : Fin 1 → IVec S16 32) a x).toNat < S67584.size a := fun i k0_t54 v332 k0_hw518 k0_h1 => k0_hw518 k0_h1

def k0_chk519 (i : grid0.Coords) (k0_t54 : Fin (k0_t54_loop i).trips) (v337 : IVec S16 32) : Prop :=
  (∀ (k0_h1 : k0_cond1 i = 1#1), ∀ a x, ((![v337] : Fin 1 → IVec S16 32) a x).toNat < S67584.size a)
theorem k0_idx519_inb : ∀ (i : grid0.Coords) (k0_t54 : Fin (k0_t54_loop i).trips) (v337 : IVec S16 32) (k0_hw519 : k0_chk519 i k0_t54 v337), ∀ (k0_h1 : k0_cond1 i = 1#1), ∀ a x, ((![v337] : Fin 1 → IVec S16 32) a x).toNat < S67584.size a := fun i k0_t54 v337 k0_hw519 k0_h1 => k0_hw519 k0_h1

def k0_chk520 (i : grid0.Coords) (k0_t54 : Fin (k0_t54_loop i).trips) (v342 : IVec S16 32) : Prop :=
  (∀ (k0_h1 : k0_cond1 i = 1#1), ∀ a x, ((![v342] : Fin 1 → IVec S16 32) a x).toNat < S67584.size a)
theorem k0_idx520_inb : ∀ (i : grid0.Coords) (k0_t54 : Fin (k0_t54_loop i).trips) (v342 : IVec S16 32) (k0_hw520 : k0_chk520 i k0_t54 v342), ∀ (k0_h1 : k0_cond1 i = 1#1), ∀ a x, ((![v342] : Fin 1 → IVec S16 32) a x).toNat < S67584.size a := fun i k0_t54 v342 k0_hw520 k0_h1 => k0_hw520 k0_h1

def k0_chk521 (i : grid0.Coords) (k0_t54 : Fin (k0_t54_loop i).trips) (v347 : IVec S16 32) : Prop :=
  (∀ (k0_h1 : k0_cond1 i = 1#1), ∀ a x, ((![v347] : Fin 1 → IVec S16 32) a x).toNat < S67584.size a)
theorem k0_idx521_inb : ∀ (i : grid0.Coords) (k0_t54 : Fin (k0_t54_loop i).trips) (v347 : IVec S16 32) (k0_hw521 : k0_chk521 i k0_t54 v347), ∀ (k0_h1 : k0_cond1 i = 1#1), ∀ a x, ((![v347] : Fin 1 → IVec S16 32) a x).toNat < S67584.size a := fun i k0_t54 v347 k0_hw521 k0_h1 => k0_hw521 k0_h1

def k0_chk522 (i : grid0.Coords) (k0_t54 : Fin (k0_t54_loop i).trips) (v352 : IVec S16 32) : Prop :=
  (∀ (k0_h1 : k0_cond1 i = 1#1), ∀ a x, ((![v352] : Fin 1 → IVec S16 32) a x).toNat < S67584.size a)
theorem k0_idx522_inb : ∀ (i : grid0.Coords) (k0_t54 : Fin (k0_t54_loop i).trips) (v352 : IVec S16 32) (k0_hw522 : k0_chk522 i k0_t54 v352), ∀ (k0_h1 : k0_cond1 i = 1#1), ∀ a x, ((![v352] : Fin 1 → IVec S16 32) a x).toNat < S67584.size a := fun i k0_t54 v352 k0_hw522 k0_h1 => k0_hw522 k0_h1

def k0_chk523 (i : grid0.Coords) (k0_t54 : Fin (k0_t54_loop i).trips) (v357 : IVec S16 32) : Prop :=
  (∀ (k0_h1 : k0_cond1 i = 1#1), ∀ a x, ((![v357] : Fin 1 → IVec S16 32) a x).toNat < S67584.size a)
theorem k0_idx523_inb : ∀ (i : grid0.Coords) (k0_t54 : Fin (k0_t54_loop i).trips) (v357 : IVec S16 32) (k0_hw523 : k0_chk523 i k0_t54 v357), ∀ (k0_h1 : k0_cond1 i = 1#1), ∀ a x, ((![v357] : Fin 1 → IVec S16 32) a x).toNat < S67584.size a := fun i k0_t54 v357 k0_hw523 k0_h1 => k0_hw523 k0_h1

def k0_chk524 (i : grid0.Coords) (k0_t54 : Fin (k0_t54_loop i).trips) (v362 : IVec S16 32) : Prop :=
  (∀ (k0_h1 : k0_cond1 i = 1#1), ∀ a x, ((![v362] : Fin 1 → IVec S16 32) a x).toNat < S67584.size a)
theorem k0_idx524_inb : ∀ (i : grid0.Coords) (k0_t54 : Fin (k0_t54_loop i).trips) (v362 : IVec S16 32) (k0_hw524 : k0_chk524 i k0_t54 v362), ∀ (k0_h1 : k0_cond1 i = 1#1), ∀ a x, ((![v362] : Fin 1 → IVec S16 32) a x).toNat < S67584.size a := fun i k0_t54 v362 k0_hw524 k0_h1 => k0_hw524 k0_h1

def k0_chk525 (i : grid0.Coords) (k0_t54 : Fin (k0_t54_loop i).trips) (v367 : IVec S16 32) : Prop :=
  (∀ (k0_h1 : k0_cond1 i = 1#1), ∀ a x, ((![v367] : Fin 1 → IVec S16 32) a x).toNat < S67584.size a)
theorem k0_idx525_inb : ∀ (i : grid0.Coords) (k0_t54 : Fin (k0_t54_loop i).trips) (v367 : IVec S16 32) (k0_hw525 : k0_chk525 i k0_t54 v367), ∀ (k0_h1 : k0_cond1 i = 1#1), ∀ a x, ((![v367] : Fin 1 → IVec S16 32) a x).toNat < S67584.size a := fun i k0_t54 v367 k0_hw525 k0_h1 => k0_hw525 k0_h1

def k0_chk526 (i : grid0.Coords) (k0_t54 : Fin (k0_t54_loop i).trips) (v372 : IVec S16 32) : Prop :=
  (∀ (k0_h1 : k0_cond1 i = 1#1), ∀ a x, ((![v372] : Fin 1 → IVec S16 32) a x).toNat < S67584.size a)
theorem k0_idx526_inb : ∀ (i : grid0.Coords) (k0_t54 : Fin (k0_t54_loop i).trips) (v372 : IVec S16 32) (k0_hw526 : k0_chk526 i k0_t54 v372), ∀ (k0_h1 : k0_cond1 i = 1#1), ∀ a x, ((![v372] : Fin 1 → IVec S16 32) a x).toNat < S67584.size a := fun i k0_t54 v372 k0_hw526 k0_h1 => k0_hw526 k0_h1

def k0_chk527 (i : grid0.Coords) (k0_t54 : Fin (k0_t54_loop i).trips) (v377 : IVec S16 32) : Prop :=
  (∀ (k0_h1 : k0_cond1 i = 1#1), ∀ a x, ((![v377] : Fin 1 → IVec S16 32) a x).toNat < S67584.size a)
theorem k0_idx527_inb : ∀ (i : grid0.Coords) (k0_t54 : Fin (k0_t54_loop i).trips) (v377 : IVec S16 32) (k0_hw527 : k0_chk527 i k0_t54 v377), ∀ (k0_h1 : k0_cond1 i = 1#1), ∀ a x, ((![v377] : Fin 1 → IVec S16 32) a x).toNat < S67584.size a := fun i k0_t54 v377 k0_hw527 k0_h1 => k0_hw527 k0_h1

def k0_chk528 (i : grid0.Coords) (k0_t54 : Fin (k0_t54_loop i).trips) (v382 : IVec S16 32) : Prop :=
  (∀ (k0_h1 : k0_cond1 i = 1#1), ∀ a x, ((![v382] : Fin 1 → IVec S16 32) a x).toNat < S4224.size a)
theorem k0_idx528_inb : ∀ (i : grid0.Coords) (k0_t54 : Fin (k0_t54_loop i).trips) (v382 : IVec S16 32) (k0_hw528 : k0_chk528 i k0_t54 v382), ∀ (k0_h1 : k0_cond1 i = 1#1), ∀ a x, ((![v382] : Fin 1 → IVec S16 32) a x).toNat < S4224.size a := fun i k0_t54 v382 k0_hw528 k0_h1 => k0_hw528 k0_h1
def k0_off56 (i : grid0.Coords) (k0_t54 : Fin (k0_t54_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let c6_i32_4 : BitVec 32 := 6#32
  let v20 : BitVec 32 := Scalar.addi v2 c6_i32_4
  let c1_i32_5 : BitVec 32 := 1#32
  let v21 : BitVec 32 := Scalar.subi v20 c1_i32_5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c16_i32_6 : BitVec 32 := 16#32
  let c0_i32_9 : BitVec 32 := 0#32
  let v28 : BitVec 1 := Scalar.cmpi .sgt c16_i32_6 c0_i32_9
  let v29 : BitVec 32 := Scalar.extui v28
  let c0_i32_10 : BitVec 32 := 0#32
  let v30 : BitVec 1 := Scalar.cmpi .slt c16_i32_6 c0_i32_10
  let v31 : BitVec 32 := Scalar.extui v30
  let v32 : BitVec 32 := Scalar.subi v29 v31
  let v33 : BitVec 1 := Scalar.cmpi .ne v27 v32
  let v34 : BitVec 32 := Scalar.remsi v21 c16_i32_6
  let c0_i32_11 : BitVec 32 := 0#32
  let v35 : BitVec 1 := Scalar.cmpi .ne v34 c0_i32_11
  let v36 : BitVec 1 := Scalar.andi v33 v35
  let v22 : BitVec 32 := Scalar.divsi v21 c16_i32_6
  let c1_i32_12 : BitVec 32 := 1#32
  let v37 : BitVec 32 := Scalar.subi v22 c1_i32_12
  let v38 : BitVec 32 := Scalar.select v36 v37 v22
  let c1_i32_87 : BitVec 32 := 1#32
  let c6_i32_15 : BitVec 32 := 6#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c1_i32_13 : BitVec 32 := 1#32
  let v39 : BitVec 32 := Scalar.addi v19 c1_i32_13
  let c16_i32_14 : BitVec 32 := 16#32
  let v40 : BitVec 32 := Scalar.muli v39 c16_i32_14
  let v41 : BitVec 32 := Scalar.subi v40 v2
  let v42 : BitVec 32 := Scalar.minsi c6_i32_15 v41
  let c6_i32_72 : BitVec 32 := 6#32
  let v110 : BitVec 32 := Scalar.subi c6_i32_72 v42
  let c1_i32_74 : BitVec 32 := 1#32
  let v112 : BitVec 32 := Scalar.divsi v110 c1_i32_74
  let v113 : BitVec 32 := Scalar.muli v112 c1_i32_74
  let v114 : BitVec 32 := Scalar.addi v42 v113
  let c1_i32_76 : BitVec 32 := 1#32
  let arg12 : BitVec 32 := Scf.iv v114 c1_i32_76 k0_t54
  let v117 : BitVec 32 := Scalar.addi v2 arg12
  let c16_i32_77 : BitVec 32 := 16#32
  let c0_i32_78 : BitVec 32 := 0#32
  let v118 : BitVec 1 := Scalar.cmpi .eq c16_i32_77 c0_i32_78
  let c1_i32_79 : BitVec 32 := 1#32
  let v119 : BitVec 32 := Scalar.select v118 c1_i32_79 c16_i32_77
  let v120 : BitVec 32 := Scalar.remsi v117 v119
  let c0_i32_81 : BitVec 32 := 0#32
  let v122 : BitVec 1 := Scalar.cmpi .slt v120 c0_i32_81
  let c0_i32_82 : BitVec 32 := 0#32
  let v123 : BitVec 1 := Scalar.cmpi .slt v119 c0_i32_82
  let v124 : BitVec 1 := Scalar.xori v122 v123
  let c0_i32_80 : BitVec 32 := 0#32
  let v121 : BitVec 1 := Scalar.cmpi .ne v120 c0_i32_80
  let v125 : BitVec 1 := Scalar.andi v124 v121
  let v126 : BitVec 32 := Scalar.addi v120 v119
  let v127 : BitVec 32 := Scalar.select v125 v126 v120
  let c4224_i32 : BitVec 32 := 4224#32
  let v131 : BitVec 32 := Scalar.muli v127 c4224_i32
  ![v38.toNat, 1, v131.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S12x2048x64 : Shape := ⟨3, ![12, 2048, 64]⟩
abbrev S12x2048x16 : Shape := ⟨3, ![12, 2048, 16]⟩
abbrev S_ : Shape := ⟨0, ![]⟩
abbrev S12x2048x16x1 : Shape := ⟨4, ![12, 2048, 16, 1]⟩
abbrev S12x2048x16x64 : Shape := ⟨4, ![12, 2048, 16, 64]⟩
abbrev S1x12x2048x64 : Shape := ⟨4, ![1, 12, 2048, 64]⟩
abbrev S1x2048x12x64 : Shape := ⟨4, ![1, 2048, 12, 64]⟩
abbrev S2048x12x1x64 : Shape := ⟨4, ![2048, 12, 1, 64]⟩
abbrev S1x12x2048x16x64 : Shape := ⟨5, ![1, 12, 2048, 16, 64]⟩
abbrev S1x2048x12x16x64 : Shape := ⟨5, ![1, 2048, 12, 16, 64]⟩
abbrev S2048x12x16x64 : Shape := ⟨4, ![2048, 12, 16, 64]⟩
abbrev S2048x12x1x16 : Shape := ⟨4, ![2048, 12, 1, 16]⟩
abbrev S2048x12x1 : Shape := ⟨3, ![2048, 12, 1]⟩
abbrev S2048x12x1x1 : Shape := ⟨4, ![2048, 12, 1, 1]⟩
abbrev S2048x768 : Shape := ⟨2, ![2048, 768]⟩

abbrev nBuf : Space → Nat
  | .hbm => 51
  | .vmem => 0
  | .smem => 0
  | _ => 0

abbrev bufTy : (tb : Table) → Fin (tcTables nBuf tb) → BufTy
  | .hbm, ⟨0, _⟩ => ⟨S12x2048x64, .f32⟩
  | .hbm, ⟨1, _⟩ => ⟨S12x2048x64, .f32⟩
  | .hbm, ⟨2, _⟩ => ⟨S12x2048x64, .f32⟩
  | .hbm, ⟨3, _⟩ => ⟨S12x2048x16, .i32⟩
  | .hbm, ⟨4, _⟩ => ⟨S_, .i32⟩
  | .hbm, ⟨5, _⟩ => ⟨S12x2048x16, .i32⟩
  | .hbm, ⟨6, _⟩ => ⟨S12x2048x16, .i1⟩
  | .hbm, ⟨7, _⟩ => ⟨S_, .i32⟩
  | .hbm, ⟨8, _⟩ => ⟨S12x2048x16, .i32⟩
  | .hbm, ⟨9, _⟩ => ⟨S12x2048x16, .i32⟩
  | .hbm, ⟨10, _⟩ => ⟨S12x2048x16, .i32⟩
  | .hbm, ⟨11, _⟩ => ⟨S12x2048x16x1, .i32⟩
  | .hbm, ⟨12, _⟩ => ⟨S12x2048x16x64, .f32⟩
  | .hbm, ⟨13, _⟩ => ⟨S_, .i32⟩
  | .hbm, ⟨14, _⟩ => ⟨S12x2048x16, .i32⟩
  | .hbm, ⟨15, _⟩ => ⟨S12x2048x16, .i1⟩
  | .hbm, ⟨16, _⟩ => ⟨S_, .i32⟩
  | .hbm, ⟨17, _⟩ => ⟨S12x2048x16, .i32⟩
  | .hbm, ⟨18, _⟩ => ⟨S12x2048x16, .i32⟩
  | .hbm, ⟨19, _⟩ => ⟨S12x2048x16, .i32⟩
  | .hbm, ⟨20, _⟩ => ⟨S12x2048x16x1, .i32⟩
  | .hbm, ⟨21, _⟩ => ⟨S12x2048x16x64, .f32⟩
  | .hbm, ⟨22, _⟩ => ⟨S1x12x2048x64, .f32⟩
  | .hbm, ⟨23, _⟩ => ⟨S1x2048x12x64, .f32⟩
  | .hbm, ⟨24, _⟩ => ⟨S2048x12x1x64, .f32⟩
  | .hbm, ⟨25, _⟩ => ⟨S1x12x2048x16x64, .f32⟩
  | .hbm, ⟨26, _⟩ => ⟨S1x2048x12x16x64, .f32⟩
  | .hbm, ⟨27, _⟩ => ⟨S2048x12x16x64, .f32⟩
  | .hbm, ⟨28, _⟩ => ⟨S1x12x2048x16x64, .f32⟩
  | .hbm, ⟨29, _⟩ => ⟨S1x2048x12x16x64, .f32⟩
  | .hbm, ⟨30, _⟩ => ⟨S2048x12x16x64, .f32⟩
  | .hbm, ⟨31, _⟩ => ⟨S2048x12x1x16, .f32⟩
  | .hbm, ⟨32, _⟩ => ⟨S_, .f32⟩
  | .hbm, ⟨33, _⟩ => ⟨S2048x12x1x16, .f32⟩
  | .hbm, ⟨34, _⟩ => ⟨S2048x12x1x16, .f32⟩
  | .hbm, ⟨35, _⟩ => ⟨S_, .f32⟩
  | .hbm, ⟨36, _⟩ => ⟨S2048x12x1, .f32⟩
  | .hbm, ⟨37, _⟩ => ⟨S_, .f32⟩
  | .hbm, ⟨38, _⟩ => ⟨S2048x12x1, .f32⟩
  | .hbm, ⟨39, _⟩ => ⟨S2048x12x1, .f32⟩
  | .hbm, ⟨40, _⟩ => ⟨S2048x12x1x1, .f32⟩
  | .hbm, ⟨41, _⟩ => ⟨S2048x12x1x16, .f32⟩
  | .hbm, ⟨42, _⟩ => ⟨S2048x12x1x16, .f32⟩
  | .hbm, ⟨43, _⟩ => ⟨S2048x12x1x16, .f32⟩
  | .hbm, ⟨44, _⟩ => ⟨S_, .f32⟩
  | .hbm, ⟨45, _⟩ => ⟨S2048x12x1, .f32⟩
  | .hbm, ⟨46, _⟩ => ⟨S2048x12x1x1, .f32⟩
  | .hbm, ⟨47, _⟩ => ⟨S2048x12x1x16, .f32⟩
  | .hbm, ⟨48, _⟩ => ⟨S2048x12x1x16, .f32⟩
  | .hbm, ⟨49, _⟩ => ⟨S2048x12x1x64, .f32⟩
  | .hbm, ⟨50, _⟩ => ⟨S2048x768, .f32⟩
  | _, _ => ⟨S12x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Qkv.lean ====
abbrev S1x2048x768 : Shape := ⟨3, ![1, 2048, 768]⟩
abbrev S768x2304 : Shape := ⟨2, ![768, 2304]⟩
abbrev S2304 : Shape := ⟨1, ![2304]⟩
abbrev S2048x768 : Shape := ⟨2, ![2048, 768]⟩
abbrev S2048x2304 : Shape := ⟨2, ![2048, 2304]⟩
abbrev S256x768 : Shape := ⟨2, ![256, 768]⟩
abbrev S256x2304 : Shape := ⟨2, ![256, 2304]⟩
abbrev S1x2304 : Shape := ⟨2, ![1, 2304]⟩
abbrev S2048x3x12x64 : Shape := ⟨4, ![2048, 3, 12, 64]⟩
abbrev S3x12x2048x64 : Shape := ⟨4, ![3, 12, 2048, 64]⟩
abbrev S1x12x2048x64 : Shape := ⟨4, ![1, 12, 2048, 64]⟩
abbrev S12x2048x64 : Shape := ⟨3, ![12, 2048, 64]⟩

abbrev nBuf : Space → Nat
  | .hbm => 13
  | .vmem => 6
  | .smem => 0
  | _ => 0

abbrev bufTy : (tb : Table) → Fin (tcTables nBuf tb) → BufTy
  | .hbm, ⟨0, _⟩ => ⟨S1x2048x768, .f32⟩
  | .hbm, ⟨1, _⟩ => ⟨S768x2304, .f32⟩
  | .hbm, ⟨2, _⟩ => ⟨S2304, .f32⟩
  | .hbm, ⟨3, _⟩ => ⟨S2048x768, .f32⟩
  | .hbm, ⟨4, _⟩ => ⟨S2048x2304, .f32⟩
  | .hbm, ⟨5, _⟩ => ⟨S2048x3x12x64, .f32⟩
  | .hbm, ⟨6, _⟩ => ⟨S3x12x2048x64, .f32⟩
  | .hbm, ⟨7, _⟩ => ⟨S1x12x2048x64, .f32⟩
  | .hbm, ⟨8, _⟩ => ⟨S12x2048x64, .f32⟩
  | .hbm, ⟨9, _⟩ => ⟨S1x12x2048x64, .f32⟩
  | .hbm, ⟨10, _⟩ => ⟨S12x2048x64, .f32⟩
  | .hbm, ⟨11, _⟩ => ⟨S1x12x2048x64, .f32⟩
  | .hbm, ⟨12, _⟩ => ⟨S12x2048x64, .f32⟩
  | .local _ .vmem, ⟨0, _⟩ => ⟨S256x768, .f32⟩
  | .local _ .vmem, ⟨1, _⟩ => ⟨S256x768, .f32⟩
  | .local _ .vmem, ⟨2, _⟩ => ⟨S768x2304, .f32⟩
  | .local _ .vmem, ⟨3, _⟩ => ⟨S2304, .f32⟩
  | .local _ .vmem, ⟨4, _⟩ => ⟨S256x2304, .f32⟩
  | .local _ .vmem, ⟨5, _⟩ => ⟨S256x2304, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== QkvRefIdeal.lean ====
abbrev S1x2048x768 : Shape := ⟨3, ![1, 2048, 768]⟩
abbrev S768x2304 : Shape := ⟨2, ![768, 2304]⟩
abbrev S2304 : Shape := ⟨1, ![2304]⟩
abbrev S1x2048x2304 : Shape := ⟨3, ![1, 2048, 2304]⟩
abbrev S1x1x2304 : Shape := ⟨3, ![1, 1, 2304]⟩
abbrev S1x2048x3x12x64 : Shape := ⟨5, ![1, 2048, 3, 12, 64]⟩
abbrev S3x1x12x2048x64 : Shape := ⟨5, ![3, 1, 12, 2048, 64]⟩
abbrev S3x12x2048x64 : Shape := ⟨4, ![3, 12, 2048, 64]⟩
abbrev S1x12x2048x64 : Shape := ⟨4, ![1, 12, 2048, 64]⟩
abbrev S12x2048x64 : Shape := ⟨3, ![12, 2048, 64]⟩

abbrev nBuf : Space → Nat
  | .hbm => 16
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S768x2304, .f32⟩
  | .hbm, ⟨2, _⟩ => ⟨S2304, .f32⟩
  | .hbm, ⟨3, _⟩ => ⟨S1x2048x2304, .f32⟩
  | .hbm, ⟨4, _⟩ => ⟨S1x1x2304, .f32⟩
  | .hbm, ⟨5, _⟩ => ⟨S1x2048x2304, .f32⟩
  | .hbm, ⟨6, _⟩ => ⟨S1x2048x2304, .f32⟩
  | .hbm, ⟨7, _⟩ => ⟨S1x2048x3x12x64, .f32⟩
  | .hbm, ⟨8, _⟩ => ⟨S3x1x12x2048x64, .f32⟩
  | .hbm, ⟨9, _⟩ => ⟨S3x12x2048x64, .f32⟩
  | .hbm, ⟨10, _⟩ => ⟨S1x12x2048x64, .f32⟩
  | .hbm, ⟨11, _⟩ => ⟨S12x2048x64, .f32⟩
  | .hbm, ⟨12, _⟩ => ⟨S1x12x2048x64, .f32⟩
  | .hbm, ⟨13, _⟩ => ⟨S12x2048x64, .f32⟩
  | .hbm, ⟨14, _⟩ => ⟨S1x12x2048x64, .f32⟩
  | .hbm, ⟨15, _⟩ => ⟨S12x2048x64, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Out.lean ====
abbrev S2048x768 : Shape := ⟨2, ![2048, 768]⟩
abbrev S768x768 : Shape := ⟨2, ![768, 768]⟩
abbrev S768 : Shape := ⟨1, ![768]⟩
abbrev S1x2048x768 : Shape := ⟨3, ![1, 2048, 768]⟩
abbrev S256x768 : Shape := ⟨2, ![256, 768]⟩
abbrev S1x768 : Shape := ⟨2, ![1, 768]⟩

abbrev nBuf : Space → Nat
  | .hbm => 7
  | .vmem => 8
  | .smem => 0
  | _ => 0

abbrev bufTy : (tb : Table) → Fin (tcTables nBuf tb) → BufTy
  | .hbm, ⟨0, _⟩ => ⟨S2048x768, .f32⟩
  | .hbm, ⟨1, _⟩ => ⟨S768x768, .f32⟩
  | .hbm, ⟨2, _⟩ => ⟨S768, .f32⟩
  | .hbm, ⟨3, _⟩ => ⟨S1x2048x768, .f32⟩
  | .hbm, ⟨4, _⟩ => ⟨S2048x768, .f32⟩
  | .hbm, ⟨5, _⟩ => ⟨S2048x768, .f32⟩
  | .hbm, ⟨6, _⟩ => ⟨S1x2048x768, .f32⟩
  | .local _ .vmem, ⟨0, _⟩ => ⟨S256x768, .f32⟩
  | .local _ .vmem, ⟨1, _⟩ => ⟨S256x768, .f32⟩
  | .local _ .vmem, ⟨2, _⟩ => ⟨S768x768, .f32⟩
  | .local _ .vmem, ⟨3, _⟩ => ⟨S768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutRefIdeal.lean ====
abbrev S2048x768 : Shape := ⟨2, ![2048, 768]⟩
abbrev S768x768 : Shape := ⟨2, ![768, 768]⟩
abbrev S768 : Shape := ⟨1, ![768]⟩
abbrev S1x2048x768 : Shape := ⟨3, ![1, 2048, 768]⟩
abbrev S1x1x768 : Shape := ⟨3, ![1, 1, 768]⟩

abbrev nBuf : Space → Nat
  | .hbm => 10
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S768x768, .f32⟩
  | .hbm, ⟨2, _⟩ => ⟨S768, .f32⟩
  | .hbm, ⟨3, _⟩ => ⟨S1x2048x768, .f32⟩
  | .hbm, ⟨4, _⟩ => ⟨S1x2048x768, .f32⟩
  | .hbm, ⟨5, _⟩ => ⟨S1x2048x768, .f32⟩
  | .hbm, ⟨6, _⟩ => ⟨S1x1x768, .f32⟩
  | .hbm, ⟨7, _⟩ => ⟨S1x2048x768, .f32⟩
  | .hbm, ⟨8, _⟩ => ⟨S1x2048x768, .f32⟩
  | .hbm, ⟨9, _⟩ => ⟨S1x2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Select.lean ====
abbrev S12x2048x64 : Shape := ⟨3, ![12, 2048, 64]⟩
abbrev S12x2048x16 : Shape := ⟨3, ![12, 2048, 16]⟩
abbrev S1x2048x64 : Shape := ⟨3, ![1, 2048, 64]⟩
abbrev S1x256x16 : Shape := ⟨3, ![1, 256, 16]⟩
abbrev S2048x64 : Shape := ⟨2, ![2048, 64]⟩
abbrev S1x256x64 : Shape := ⟨3, ![1, 256, 64]⟩
abbrev S256x64 : Shape := ⟨2, ![256, 64]⟩
abbrev S2048 : Shape := ⟨1, ![2048]⟩
abbrev S256 : Shape := ⟨1, ![256]⟩
abbrev S64x2048 : Shape := ⟨2, ![64, 2048]⟩
abbrev S256x2048 : Shape := ⟨2, ![256, 2048]⟩
abbrev S256x1 : Shape := ⟨2, ![256, 1]⟩
abbrev S1x2048 : Shape := ⟨2, ![1, 2048]⟩
abbrev S2048x1 : Shape := ⟨2, ![2048, 1]⟩
abbrev S2048x2 : Shape := ⟨2, ![2048, 2]⟩
abbrev S256x2 : Shape := ⟨2, ![256, 2]⟩
abbrev S256x16 : Shape := ⟨2, ![256, 16]⟩

abbrev nBuf : Space → Nat
  | .hbm => 2
  | .vmem => 4
  | .smem => 0
  | _ => 0

abbrev bufTy : (tb : Table) → Fin (tcTables nBuf tb) → BufTy
  | .hbm, ⟨0, _⟩ => ⟨S12x2048x64, .f32⟩
  | .hbm, ⟨1, _⟩ => ⟨S12x2048x16, .i32⟩
  | .local _ .vmem, ⟨0, _⟩ => ⟨S1x2048x64, .f32⟩
  | .local _ .vmem, ⟨1, _⟩ => ⟨S1x2048x64, .f32⟩
  | .local _ .vmem, ⟨2, _⟩ => ⟨S1x256x16, .i32⟩
  | .local _ .vmem, ⟨3, _⟩ => ⟨S1x256x16, .i32⟩
  | _, _ => ⟨S12x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![12, 8], ![false, false]⟩

def k0_off1 (i : grid0.Coords) : Fin 3 → Nat :=
  let c0_2 : Index := 0#32
  let arg1 : BitVec 32 := BitVec.ofNat 32 (i 1).val
  let c256_i32 : BitVec 32 := 256#32
  let v2 : BitVec 32 := Scalar.muli arg1 c256_i32
  let v3 : Index := Scalar.indexCast v2
  let c0_3 : Index := 0#32
  ![0, v3.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x16 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== SelectRefIdeal.lean ====
abbrev S12x2048x64 : Shape := ⟨3, ![12, 2048, 64]⟩
abbrev S_ : Shape := ⟨0, ![]⟩
abbrev S12x2048 : Shape := ⟨2, ![12, 2048]⟩
abbrev S12x2048x1 : Shape := ⟨3, ![12, 2048, 1]⟩
abbrev S12x1x2048 : Shape := ⟨3, ![12, 1, 2048]⟩
abbrev S12x2048x2048 : Shape := ⟨3, ![12, 2048, 2048]⟩
abbrev S12x2048x16 : Shape := ⟨3, ![12, 2048, 16]⟩

abbrev nBuf : Space → Nat
  | .hbm => 18
  | .vmem => 0
  | .smem => 0
  | _ => 0

abbrev bufTy : (tb : Table) → Fin (tcTables nBuf tb) → BufTy
  | .hbm, ⟨0, _⟩ => ⟨S12x2048x64, .f32⟩
  | .hbm, ⟨1, _⟩ => ⟨S12x2048x64, .f32⟩
  | .hbm, ⟨2, _⟩ => ⟨S_, .f32⟩
  | .hbm, ⟨3, _⟩ => ⟨S12x2048, .f32⟩
  | .hbm, ⟨4, _⟩ => ⟨S12x2048x1, .f32⟩
  | .hbm, ⟨5, _⟩ => ⟨S12x1x2048, .f32⟩
  | .hbm, ⟨6, _⟩ => ⟨S12x2048x2048, .f32⟩
  | .hbm, ⟨7, _⟩ => ⟨S12x2048x2048, .f32⟩
  | .hbm, ⟨8, _⟩ => ⟨S12x2048x2048, .f32⟩
  | .hbm, ⟨9, _⟩ => ⟨S12x2048x2048, .f32⟩
  | .hbm, ⟨10, _⟩ => ⟨S_, .f32⟩
  | .hbm, ⟨11, _⟩ => ⟨S12x2048x2048, .f32⟩
  | .hbm, ⟨12, _⟩ => ⟨S12x2048x2048, .f32⟩
  | .hbm, ⟨13, _⟩ => ⟨S12x2048x2048, .f32⟩
  | .hbm, ⟨14, _⟩ => ⟨S12x2048x2048, .i32⟩
  | .hbm, ⟨15, _⟩ => ⟨S12x2048x2048, .f32⟩
  | .hbm, ⟨16, _⟩ => ⟨S12x2048x2048, .i32⟩
  | .hbm, ⟨17, _⟩ => ⟨S12x2048x16, .i32⟩
  | _, _ => ⟨S12x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_call0_v0 : Ref sig .tc := ⟨.hbm, 14, rfl⟩
abbrev main_call0_v1_0 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Gk.lean ====
/-
  The SparseCore kernel's body written once over its parameters: one group of tokens of one head is the same program at
  every place it is printed (head A, head B, and the loops' remainders), with other offsets, semaphores and loop bounds.
-/
module

public import Idealize.ShloMosaic.Lib.SparseCore.Quiescent
public import Idealize.ShloMosaic.Lib.SparseCore.Ops
public import Idealize.ShloMosaic.Lib.StableHlo.Run
public import Idealize.ShloMosaic.Lib.Tactic
public import Idealize.ShloMosaic.Lib.LoopRemainder
public import proofs.«01_k».proof.Proof.Gen.KernelIdeal

@[expose] public section

noncomputable section

namespace Cert.Proof.Gk

open Cert.KernelIdeal Cert.KernelIdeal.Gen
open Idealize.ShloMosaic Idealize.SL.Sem

variable {F : FTy → Type} [FloatOps F]

/-- The effects of the vector subcore a task of the call runs on. -/
abbrev PR (F : FTy → Type) [FloatOps F] (i : grid0.Coords) :=
  Prog (TpuEff nD τ sig (Elt F) Λ₀ (.scVector ((i 0).castLE hcore0) ((i 1).castLE hsub0)))

/-- A vector of sixteen floats. -/
abbrev V16 (F : FTy → Type) := Vec F S16 .f32

/-- A vector of sixteen words. -/
abbrev W16 := IVec S16 32

/-- Sixteen vectors as the tuple a loop carries. -/
abbrev T16 (F : FTy → Type) [FloatOps F] :=
  FVec F S16 .f32 × FVec F S16 .f32 × FVec F S16 .f32 × FVec F S16 .f32 × FVec F S16 .f32 × FVec F S16 .f32 ×
  FVec F S16 .f32 × FVec F S16 .f32 × FVec F S16 .f32 × FVec F S16 .f32 × FVec F S16 .f32 × FVec F S16 .f32 ×
  FVec F S16 .f32 × FVec F S16 .f32 × FVec F S16 .f32 × FVec F S16 .f32

/-- The tuple of a sequence's first sixteen. -/
def toT (f : ℕ → FVec F S16 .f32) : T16 F :=
  (f 0, f 1, f 2, f 3, f 4, f 5, f 6, f 7, f 8, f 9, f 10, f 11, f 12, f 13, f 14, f 15)

/-- The sequence of a tuple's entries. -/
def ofT (t : T16 F) : ℕ → FVec F S16 .f32
  | 0 => t.1
  | 1 => t.2.1
  | 2 => t.2.2.1
  | 3 => t.2.2.2.1
  | 4 => t.2.2.2.2.1
  | 5 => t.2.2.2.2.2.1
  | 6 => t.2.2.2.2.2.2.1
  | 7 => t.2.2.2.2.2.2.2.1
  | 8 => t.2.2.2.2.2.2.2.2.1
  | 9 => t.2.2.2.2.2.2.2.2.2.1
  | 10 => t.2.2.2.2.2.2.2.2.2.2.1
  | 11 => t.2.2.2.2.2.2.2.2.2.2.2.1
  | 12 => t.2.2.2.2.2.2.2.2.2.2.2.2.1
  | 13 => t.2.2.2.2.2.2.2.2.2.2.2.2.2.1
  | 14 => t.2.2.2.2.2.2.2.2.2.2.2.2.2.2.1
  | _ => t.2.2.2.2.2.2.2.2.2.2.2.2.2.2.2

/-- The shape of one row of `n` entries. -/
abbrev Flat (n : ℕ) : Shape := ⟨1, ![n]⟩

/-- The condition that the indices of an indexed access are inside its base, as the program checks it. -/
structure Chk (n : ℕ) where
  p : W16 → Prop
  dec : ∀ v, Decidable (p v)
  inb : ∀ v, p v → ∀ a x, ((![v] : Fin 1 → W16) a x).toNat < (Flat n).size a
  ok : ∀ v, (∀ a x, ((![v] : Fin 1 → W16) a x).toNat < (Flat n).size a) → p v

/-- The check of head A's accesses. -/
def inA (n : ℕ) (v : W16) : Prop := ∀ a x, ((![v] : Fin 1 → W16) a x).toNat < (Flat n).size a

instance inA.dec (n : ℕ) (v : W16) : Decidable (inA n v) := decidable_of_iff' _ (Iff.of_eq (inA.eq_1 n v))

/-- The check of head B's accesses, under the condition that the task has a second head. -/
def inB (i : grid0.Coords) (n : ℕ) (v : W16) : Prop :=
  ∀ (_ : k0_cond1 i = 1#1), ∀ a x, ((![v] : Fin 1 → W16) a x).toNat < (Flat n).size a

instance inB.dec (i : grid0.Coords) (n : ℕ) (v : W16) : Decidable (inB i n v) := decidable_of_iff' _ (Iff.of_eq (inB.eq_1 i n v))

abbrev chkA (n : ℕ) : Chk n where
  p := inA n
  dec := inA.dec n
  inb _ h := h
  ok _ h := h

abbrev chkB (i : grid0.Coords) (h1 : k0_cond1 i = 1#1) (n : ℕ) : Chk n where
  p := inB i n
  dec := inB.dec i n
  inb _ h := h h1
  ok _ h := fun _ => h

/-- The checks of one group's accesses. -/
structure Chks where
  q : Chk 8320
  x : Chk 2176
  t : Chk 67584
  o : Chk 4224

abbrev chksA : Chks := ⟨chkA _, chkA _, chkA _, chkA _⟩

abbrev chksB (i : grid0.Coords) (h1 : k0_cond1 i = 1#1) : Chks := ⟨chkB i h1 _, chkB i h1 _, chkB i h1 _, chkB i h1 _⟩

/-- The memories a task works on: the arrays of the call and its scratches, whole. -/
structure Mem where
  a2 : Memref sig .scVector .hbm S12x2x67584 .f32
  h2 : a2.IsWhole
  a3 : Memref sig .scVector .hbm S12x2x67584 .f32
  h3 : a3.IsWhole
  a4 : Memref sig .scVector .hbm S12x133120 .f32
  h4 : a4.IsWhole
  a5 : Memref sig .scVector .hbm S12x34816 .i32
  h5 : a5.IsWhole
  a6 : Memref sig .scVector .hbm S12x2x67584 .f32
  h6 : a6.IsWhole
  a7 : Memref sig .scVector .vmem S67584 .f32
  h7 : a7.IsWhole
  a8 : Memref sig .scVector .vmem S8320 .f32
  h8 : a8.IsWhole
  a9 : Memref sig .scVector .vmem S2176 .i32
  h9 : a9.IsWhole
  a10 : Memref sig .scVector .vmem S12288 .f32
  h10 : a10.IsWhole
  a11 : Memref sig .scVector .vmem S4224 .f32
  h11 : a11.IsWhole

section Prog

variable (i : grid0.Coords) (m : Mem) (ck : Chks)

/-- A sequence with one entry set. -/
def upd {β : Type} (f : ℕ → β) (s : ℕ) (x : β) : ℕ → β := fun j => bif Nat.beq j s then x else f j

/-- `n` operations from the `s`-th on, their answers collected. -/
def seqN {β γ : Type} (op : ℕ → (β → PR F i γ) → PR F i γ) : ℕ → ℕ → (ℕ → β) → ((ℕ → β) → PR F i γ) → PR F i γ
  | 0, _, acc, k => k acc
  | n + 1, s, acc, k => op s fun x => seqN op n (s + 1) (upd acc s x) k

/-- One indexed load from a scratch of floats, its indices checked. -/
def gatF {γ : Type} {n : ℕ} (base : Memref sig .scVector .vmem (Flat n) .f32) (hn : 0 < (Flat n).numel) (c : Chk n) (v : W16)
    (k : V16 F → PR F i γ) : PR F i γ :=
  match c with
  | ⟨p, dec, inb, _⟩ =>
    Prog.lift (TpuEff.assume (p v) (dec v)) >>= fun h =>
    SparseCore.vectorLoadIdx base ![v] (inb v h.down) (View.loads_vmem hn) >>= k

/-- One indexed load from a scratch of words, its indices checked. -/
def gatI {γ : Type} {n : ℕ} (base : Memref sig .scVector .vmem (Flat n) .i32) (hn : 0 < (Flat n).numel) (c : Chk n) (v : W16)
    (k : W16 → PR F i γ) : PR F i γ :=
  match c with
  | ⟨p, dec, inb, _⟩ =>
    Prog.lift (TpuEff.assume (p v) (dec v)) >>= fun h =>
    SparseCore.vectorLoadIdx base ![v] (inb v h.down) (View.loads_vmem hn) >>= k

/-- One indexed store to the scratch of outputs, its indices checked. -/
def scat {γ : Type} (v : W16) (x : V16 F) (k : PUnit → PR F i γ) : PR F i γ :=
  match ck.o with
  | ⟨p, dec, inb, _⟩ =>
    Prog.lift (TpuEff.assume (p v) (dec v)) >>= fun h =>
    SparseCore.vectorStoreIdx m.a11 ![v] x (fun _ => 1#1) false (inb v h.down) (View.stores_vmem_bits_univ h_S4224 rfl) >>= k

/-- The places of sixteen rows of the scratch of weights. -/
structure WOff where
  f : BitVec 32 → Fin 1 → ℕ
  inb : ∀ (r : Fin 16), ∀ a, (f (BitVec.ofNat 32 (768 * r.val))) a + S16.size a ≤ S12288.size a

/-- The rectangle of the `j`-th row's place. -/
abbrev wrect (w : WOff) (j : ℕ) : Rect S12288 :=
  Rect.unit (s := S12288) (w.f (BitVec.ofNat 32 (768 * (Fin.ofNat 16 j).val))) S16.size (w.inb (Fin.ofNat 16 j))

/-- The load of sixteen weights. -/
def ldW {γ : Type} (w : WOff) (j : ℕ) (k : V16 F → PR F i γ) : PR F i γ :=
  Prog.lift (.load m.a10 (wrect w j).toLoadRect (View.loadsAt_vmem h_S16)) >>= k

/-- The store of sixteen weights (the program loads the place first and drops what it reads). -/
def stW {γ : Type} (w : WOff) (x : ℕ → V16 F) (j : ℕ) (k : PUnit → PR F i γ) : PR F i γ :=
  ldW i m w j fun _ =>
  Prog.lift (.store m.a10 (wrect w j) (x j) Finset.univ (View.stores_vmem_bits_univ h_S16 rfl) (.inl rfl)) >>= k

/-- The rows of the sixteen tokens of a step of a block's loop. -/
abbrev rowsV (t2 : Fin k0_t2_loop.trips) : W16 :=
  addi (broadcast S16 (Scalar.muli (Scf.iv 0#32 1#32 t2) 16#32)) (iota .scVector S16 32 [0] iota_S16_d0_w32_scVector)

/-- The word added to every lane for a step of a feature loop. -/
abbrev bcI (t3 : Fin k0_t3_loop.trips) : W16 := broadcast S16 (Scf.iv 0#32 1#32 t3)

abbrev zF : V16 F := broadcast S16 (Scalar.ofBits .f32 0x00000000#32)
abbrev zI : W16 := broadcast S16 0#32

/-- The sixteen neighbours' places in the table, from the block of indices. -/
def bases {γ : Type} (rows : W16) (k : (ℕ → W16) → PR F i γ) : PR F i γ :=
  seqN i (fun j k => gatI i m.a9 h_S2176 ck.x (addi (muli rows (broadcast S16 17#32)) (broadcast S16 (BitVec.ofNat 32 j)))
    fun x => k (muli x (broadcast S16 33#32))) 16 0 (fun _ => zI) k

/-- A step of the score loop: one feature of sixteen tokens against their sixteen neighbours'. -/
def kcBody (qrow : W16) (base : ℕ → W16) (t3 : Fin k0_t3_loop.trips) (acc : T16 F) : PR F i (T16 F) :=
  gatF i m.a8 h_S8320 ck.q (addi qrow (bcI t3)) fun qc =>
  seqN i (fun j k => gatF i m.a7 h_S67584 ck.t (addi (base j) (bcI t3)) fun x => k (addf (ofT acc j) (mulf x qc)))
    16 0 (fun _ => zF) fun f => pure (toT f)

/-- The sixteen scores' first values: zeros in the first half, the first half's sums in the second. -/
def accInit {γ : Type} (first : Bool) (w : WOff) (k : T16 F → PR F i γ) : PR F i γ :=
  match first with
  | true => k (toT fun _ => zF)
  | false => seqN i (fun j k => ldW i m w j k) 16 0 (fun _ => zF) fun f => k (toT f)

/-- A step of a block's score loop: sixteen tokens. -/
def kgBody (first : Bool) (w : WOff) (t2 : Fin k0_t2_loop.trips) : PR F i (BitVec 32) :=
  bases i m ck (rowsV t2) fun base =>
  accInit i m first w fun acc0 =>
  Scf.Loop.for k0_t3_loop k0_t3_ok acc0
    (kcBody i m ck (addi (muli (rowsV t2) (broadcast S16 65#32)) (broadcast S16 (bif first then 0#32 else 32#32))) base) >>= fun acc =>
  seqN i (stW i m w (ofT acc)) 16 0 (fun _ => ⟨⟩) fun _ => pure 0#32

/-- The parameters of a group's score loop over blocks. -/
structure KU where
  l : Scf.Loop 32
  ok : l.OK
  sq : DmaSems sig S_
  sx : DmaSems sig S_
  q : Fin l.trips → Fin 2 → ℕ
  qi : ∀ t a, q t a + S1x8320.size a ≤ S12x133120.size a
  x : Fin l.trips → Fin 2 → ℕ
  xi : ∀ t a, x t a + S1x2176.size a ≤ S12x34816.size a
  w : Fin l.trips → Fin k0_t2_loop.trips → WOff

/-- A copy of one head's half table into the scratch. -/
def cpT {γ : Type} (a : Memref sig .scVector .hbm S12x2x67584 .f32) (o : Fin 3 → ℕ)
    (oi : ∀ d, o d + S1x1x67584.size d ≤ S12x2x67584.size d) (s : DmaSems sig S_) (k : PR F i γ) : PR F i γ :=
  Prog.lift (.enqueueDma ((a.slice (Rect.unit (s := S12x2x67584) o S1x1x67584.size oi) (fun _ => rfl)).squeeze S67584 squeezes_S1x1x67584_S67584)
    (.here m.a7) (.dma s.sem) ((View.wordExact_bits rfl).reshape _ _) m.h7.wordExact ⟨Or.inl rfl, trivial⟩) >>= fun _ =>
  Prog.lift (.waitDma2 s.sem ((a.slice (Rect.unit (s := S12x2x67584) o S1x1x67584.size oi) (fun _ => rfl)).squeeze S67584 squeezes_S1x1x67584_S67584)
    m.a7 ((View.wordExact_bits rfl).reshape _ _) m.h7.wordExact) >>= fun _ => k

/-- A copy of a block of queries into the scratch. -/
def cpQ {γ : Type} (o : Fin 2 → ℕ)
    (oi : ∀ d, o d + S1x8320.size d ≤ S12x133120.size d) (s : DmaSems sig S_) (k : PR F i γ) : PR F i γ :=
  Prog.lift (.enqueueDma ((m.a4.slice (Rect.unit (s := S12x133120) o S1x8320.size oi) (fun _ => rfl)).squeeze S8320 squeezes_S1x8320_S8320)
    (.here m.a8) (.dma s.sem) ((View.wordExact_bits rfl).reshape _ _) m.h8.wordExact ⟨Or.inl rfl, trivial⟩) >>= fun _ =>
  Prog.lift (.waitDma2 s.sem ((m.a4.slice (Rect.unit (s := S12x133120) o S1x8320.size oi) (fun _ => rfl)).squeeze S8320 squeezes_S1x8320_S8320)
    m.a8 ((View.wordExact_bits rfl).reshape _ _) m.h8.wordExact) >>= fun _ => k

/-- A copy of a block of indices into the scratch. -/
def cpX {γ : Type} (o : Fin 2 → ℕ)
    (oi : ∀ d, o d + S1x2176.size d ≤ S12x34816.size d) (s : DmaSems sig S_) (k : PR F i γ) : PR F i γ :=
  Prog.lift (.enqueueDma ((m.a5.slice (Rect.unit (s := S12x34816) o S1x2176.size oi) (fun _ => rfl)).squeeze S2176 squeezes_S1x2176_S2176)
    (.here m.a9) (.dma s.sem) ((View.wordExact_bits rfl).reshape _ _) m.h9.wordExact ⟨Or.inl rfl, trivial⟩) >>= fun _ =>
  Prog.lift (.waitDma2 s.sem ((m.a5.slice (Rect.unit (s := S12x34816) o S1x2176.size oi) (fun _ => rfl)).squeeze S2176 squeezes_S1x2176_S2176)
    m.a9 ((View.wordExact_bits rfl).reshape _ _) m.h9.wordExact) >>= fun _ => k

/-- A copy of a block's outputs from the scratch to the result. -/
def cpO {γ : Type} (o : Fin 3 → ℕ)
    (oi : ∀ d, o d + S1x1x4224.size d ≤ S12x2x67584.size d) (s : DmaSems sig S_) (k : PR F i γ) : PR F i γ :=
  Prog.lift (.enqueueDma m.a11 (.here ((m.a6.slice (Rect.unit (s := S12x2x67584) o S1x1x4224.size oi) (fun _ => rfl)).squeeze S4224 squeezes_S1x1x4224_S4224))
    (.dma s.sem) m.h11.wordExact ((View.wordExact_bits rfl).reshape _ _) ⟨Or.inl rfl, trivial⟩) >>= fun _ =>
  Prog.lift (.waitDma2 s.sem m.a11 ((m.a6.slice (Rect.unit (s := S12x2x67584) o S1x1x4224.size oi) (fun _ => rfl)).squeeze S4224 squeezes_S1x1x4224_S4224)
    m.h11.wordExact ((View.wordExact_bits rfl).reshape _ _)) >>= fun _ => k

/-- One block of a group's score loop. -/
def kBody (first : Bool) (U : KU) (t1 : Fin U.l.trips) (_ : BitVec 32) : PR F i (BitVec 32) :=
  cpQ i m (U.q t1) (U.qi t1) U.sq <|
  cpX i m (U.x t1) (U.xi t1) U.sx <|
  Scf.Loop.for k0_t2_loop k0_t2_ok 0#32 (fun t2 _ => kgBody i m ck first (U.w t1 t2) t2) >>= fun _ => pure 0#32

/-- A group's score loop over blocks. -/
def kLoop (first : Bool) (U : KU) (init : BitVec 32) : PR F i (BitVec 32) :=
  Scf.Loop.for U.l U.ok init (kBody i m ck first U)

/-- The running maximum of the scores. -/
def mxs (lg : ℕ → V16 F) : ℕ → FVec F S16 .f32
  | 0 => lg 0
  | n + 1 => maximumf (mxs lg n) (lg (n + 1))

/-- The running sum of the terms. -/
def sms (e : ℕ → FVec F S16 .f32) : ℕ → FVec F S16 .f32
  | 0 => e 0
  | n + 1 => addf (sms e n) (e (n + 1))

/-- The exponentials of the scaled differences to the maximum. -/
def exs (lg : ℕ → V16 F) (j : ℕ) : FVec F S16 .f32 :=
  exp (mulf (subf (lg j) (mxs lg 15)) (broadcast S16 (Scalar.ofBits .f32 0x3E000000#32)))

/-- The weights of the scores. -/
def wts (lg : ℕ → V16 F) (j : ℕ) : FVec F S16 .f32 :=
  mulf (exs lg j) (divf (broadcast S16 (Scalar.ofBits .f32 0x3F800000#32)) (sms (exs lg) 15))

/-- The parameters of a group's weight loop over blocks. -/
structure SU where
  l : Scf.Loop 32
  ok : l.OK
  w : Fin l.trips → Fin k0_t2_loop.trips → WOff

/-- A step of a block's weight loop: sixteen tokens. -/
def sgBody (w : WOff) : PR F i (BitVec 32) :=
  seqN i (fun j k => ldW i m w j k) 16 0 (fun _ => zF) fun lg =>
  seqN i (stW i m w (wts lg)) 16 0 (fun _ => ⟨⟩) fun _ => pure 0#32

/-- One block of a group's weight loop. -/
def sBody (U : SU) (t1 : Fin U.l.trips) (_ : BitVec 32) : PR F i (BitVec 32) :=
  Scf.Loop.for k0_t2_loop k0_t2_ok 0#32 (fun t2 _ => sgBody i m (U.w t1 t2)) >>= fun _ => pure 0#32

/-- A group's weight loop over blocks. -/
def sLoop (U : SU) (init : BitVec 32) : PR F i (BitVec 32) :=
  Scf.Loop.for U.l U.ok init (sBody i m U)

/-- The parameters of a group's output loop over blocks. -/
structure VU where
  l : Scf.Loop 32
  ok : l.OK
  sx : DmaSems sig S_
  so : DmaSems sig S_
  x : Fin l.trips → Fin 2 → ℕ
  xi : ∀ t a, x t a + S1x2176.size a ≤ S12x34816.size a
  w : Fin l.trips → Fin k0_t2_loop.trips → WOff
  o : Fin l.trips → Fin 3 → ℕ
  oi : ∀ t a, o t a + S1x1x4224.size a ≤ S12x2x67584.size a

/-- A step of the output loop: one feature of sixteen tokens. -/
def vcBody (rows : W16) (base : ℕ → W16) (w : ℕ → V16 F) (t3 : Fin k0_t3_loop.trips) (_ : BitVec 32) : PR F i (BitVec 32) :=
  seqN i (fun j k => gatF i m.a7 h_S67584 ck.t (addi (base j) (bcI t3)) k) 16 0 (fun _ => zF) fun x =>
  scat i m ck (addi (muli rows (broadcast S16 33#32)) (bcI t3)) (sms (fun j => mulf (w j) (x j)) 15) fun _ => pure 0#32

/-- A step of a block's output loop: sixteen tokens. -/
def vgBody (w : WOff) (t2 : Fin k0_t2_loop.trips) : PR F i (BitVec 32) :=
  bases i m ck (rowsV t2) fun base =>
  seqN i (fun j k => ldW i m w j k) 16 0 (fun _ => zF) fun wv =>
  Scf.Loop.for k0_t3_loop k0_t3_ok 0#32 (vcBody i m ck (rowsV t2) base wv) >>= fun _ => pure 0#32

/-- One block of a group's output loop. -/
def vBody (U : VU) (t1 : Fin U.l.trips) (_ : BitVec 32) : PR F i (BitVec 32) :=
  cpX i m (U.x t1) (U.xi t1) U.sx <|
  Scf.Loop.for k0_t2_loop k0_t2_ok 0#32 (fun t2 _ => vgBody i m ck (U.w t1 t2) t2) >>= fun _ =>
  cpO i m (U.o t1) (U.oi t1) U.so <| pure 0#32

/-- A group's output loop over blocks. -/
def vLoop (U : VU) (init : BitVec 32) : PR F i (BitVec 32) :=
  Scf.Loop.for U.l U.ok init (vBody i m ck U)

/-- The parameters of one group: a head's tokens among a task's. -/
structure GP where
  c : Chks
  o0 : Fin 3 → ℕ
  i0 : ∀ d, o0 d + S1x1x67584.size d ≤ S12x2x67584.size d
  o1 : Fin 3 → ℕ
  i1 : ∀ d, o1 d + S1x1x67584.size d ≤ S12x2x67584.size d
  t0 : DmaSems sig S_
  t1 : DmaSems sig S_
  t2 : DmaSems sig S_
  t3 : DmaSems sig S_
  k0 : KU
  k0r : KU
  k1 : KU
  k1r : KU
  s : SU
  sr : SU
  v0 : VU
  v0r : VU
  v1 : VU
  v1r : VU

/-- One group: the scores over the two halves of the features, the weights, the outputs of the two halves. -/
def group (G : GP) (k : PR F i PUnit) : PR F i PUnit :=
  cpT i m m.a2 G.o0 G.i0 G.t0 <|
  kLoop i m G.c true G.k0 0#32 >>= fun v => kLoop i m G.c true G.k0r v >>= fun _ =>
  cpT i m m.a2 G.o1 G.i1 G.t1 <|
  kLoop i m G.c false G.k1 0#32 >>= fun v => kLoop i m G.c false G.k1r v >>= fun _ =>
  sLoop i m G.s 0#32 >>= fun v => sLoop i m G.sr v >>= fun _ =>
  cpT i m m.a3 G.o0 G.i0 G.t2 <|
  vLoop i m G.c G.v0 0#32 >>= fun v => vLoop i m G.c G.v0r v >>= fun _ =>
  cpT i m m.a3 G.o1 G.i1 G.t3 <|
  vLoop i m G.c G.v1 0#32 >>= fun v => vLoop i m G.c G.v1r v >>= fun _ => k

end Prog

/-- The first head's group of a task. -/
abbrev GA (i : grid0.Coords) (s : ℕ → DmaSems sig S_) : GP where
  c := chksA
  o0 := k0_off1 i
  i0 := k0_off1_inb i
  o1 := k0_off8 i
  i1 := k0_off8_inb i
  t0 := s 0
  t1 := s 5
  t2 := s 10
  t3 := s 15
  k0 := ⟨k0_t1_loop i, k0_t1_ok i, s 1, s 2, k0_off2 i, fun t => k0_off2_inb i t,
    k0_off3 i, fun t => k0_off3_inb i t, fun t1 t2 => ⟨k0_off4 i t1 t2, k0_off4_inb i t1 t2⟩⟩
  k0r := ⟨k0_t4_loop i, k0_t4_ok i, s 3, s 4, k0_off5 i, fun t => k0_off5_inb i t,
    k0_off6 i, fun t => k0_off6_inb i t, fun t1 t2 => ⟨k0_off7 i t1 t2, k0_off7_inb i t1 t2⟩⟩
  k1 := ⟨k0_t7_loop i, k0_t7_ok i, s 6, s 7, k0_off9 i, fun t => k0_off9_inb i t,
    k0_off10 i, fun t => k0_off10_inb i t, fun t1 t2 => ⟨k0_off11 i t1 t2, k0_off11_inb i t1 t2⟩⟩
  k1r := ⟨k0_t10_loop i, k0_t10_ok i, s 8, s 9, k0_off12 i, fun t => k0_off12_inb i t,
    k0_off13 i, fun t => k0_off13_inb i t, fun t1 t2 => ⟨k0_off14 i t1 t2, k0_off14_inb i t1 t2⟩⟩
  s := ⟨k0_t13_loop i, k0_t13_ok i, fun t1 t2 => ⟨k0_off15 i t1 t2, k0_off15_inb i t1 t2⟩⟩
  sr := ⟨k0_t15_loop i, k0_t15_ok i, fun t1 t2 => ⟨k0_off16 i t1 t2, k0_off16_inb i t1 t2⟩⟩
  v0 := ⟨k0_t17_loop i, k0_t17_ok i, s 11, s 12, k0_off17 i, fun t => k0_off17_inb i t,
    fun t1 t2 => ⟨k0_off18 i t1 t2, k0_off18_inb i t1 t2⟩, k0_off19 i, fun t => k0_off19_inb i t⟩
  v0r := ⟨k0_t20_loop i, k0_t20_ok i, s 13, s 14, k0_off20 i, fun t => k0_off20_inb i t,
    fun t1 t2 => ⟨k0_off21 i t1 t2, k0_off21_inb i t1 t2⟩, k0_off22 i, fun t => k0_off22_inb i t⟩
  v1 := ⟨k0_t23_loop i, k0_t23_ok i, s 16, s 17, k0_off23 i, fun t => k0_off23_inb i t,
    fun t1 t2 => ⟨k0_off24 i t1 t2, k0_off24_inb i t1 t2⟩, k0_off25 i, fun t => k0_off25_inb i t⟩
  v1r := ⟨k0_t26_loop i, k0_t26_ok i, s 18, s 19, k0_off26 i, fun t => k0_off26_inb i t,
    fun t1 t2 => ⟨k0_off27 i t1 t2, k0_off27_inb i t1 t2⟩, k0_off28 i, fun t => k0_off28_inb i t⟩

/-- The second head's group of a task that has one. -/
abbrev GB (i : grid0.Coords) (h1 : k0_cond1 i = 1#1) (s : ℕ → DmaSems sig S_) : GP where
  c := chksB i h1
  o0 := k0_off29 i
  i0 := k0_off29_inb i h1
  o1 := k0_off36 i
  i1 := k0_off36_inb i h1
  t0 := s 20
  t1 := s 25
  t2 := s 30
  t3 := s 35
  k0 := ⟨k0_t29_loop i, k0_t29_ok i h1, s 21, s 22, k0_off30 i, fun t => k0_off30_inb i t h1,
    k0_off31 i, fun t => k0_off31_inb i t h1, fun t1 t2 => ⟨k0_off32 i t1 t2, k0_off32_inb i t1 t2 h1⟩⟩
  k0r := ⟨k0_t32_loop i, k0_t32_ok i h1, s 23, s 24, k0_off33 i, fun t => k0_off33_inb i t h1,
    k0_off34 i, fun t => k0_off34_inb i t h1, fun t1 t2 => ⟨k0_off35 i t1 t2, k0_off35_inb i t1 t2 h1⟩⟩
  k1 := ⟨k0_t35_loop i, k0_t35_ok i h1, s 26, s 27, k0_off37 i, fun t => k0_off37_inb i t h1,
    k0_off38 i, fun t => k0_off38_inb i t h1, fun t1 t2 => ⟨k0_off39 i t1 t2, k0_off39_inb i t1 t2 h1⟩⟩
  k1r := ⟨k0_t38_loop i, k0_t38_ok i h1, s 28, s 29, k0_off40 i, fun t => k0_off40_inb i t h1,
    k0_off41 i, fun t => k0_off41_inb i t h1, fun t1 t2 => ⟨k0_off42 i t1 t2, k0_off42_inb i t1 t2 h1⟩⟩
  s := ⟨k0_t41_loop i, k0_t41_ok i h1, fun t1 t2 => ⟨k0_off43 i t1 t2, k0_off43_inb i t1 t2 h1⟩⟩
  sr := ⟨k0_t43_loop i, k0_t43_ok i h1, fun t1 t2 => ⟨k0_off44 i t1 t2, k0_off44_inb i t1 t2 h1⟩⟩
  v0 := ⟨k0_t45_loop i, k0_t45_ok i h1, s 31, s 32, k0_off45 i, fun t => k0_off45_inb i t h1,
    fun t1 t2 => ⟨k0_off46 i t1 t2, k0_off46_inb i t1 t2 h1⟩, k0_off47 i, fun t => k0_off47_inb i t h1⟩
  v0r := ⟨k0_t48_loop i, k0_t48_ok i h1, s 33, s 34, k0_off48 i, fun t => k0_off48_inb i t h1,
    fun t1 t2 => ⟨k0_off49 i t1 t2, k0_off49_inb i t1 t2 h1⟩, k0_off50 i, fun t => k0_off50_inb i t h1⟩
  v1 := ⟨k0_t51_loop i, k0_t51_ok i h1, s 36, s 37, k0_off51 i, fun t => k0_off51_inb i t h1,
    fun t1 t2 => ⟨k0_off52 i t1 t2, k0_off52_inb i t1 t2 h1⟩, k0_off53 i, fun t => k0_off53_inb i t h1⟩
  v1r := ⟨k0_t54_loop i, k0_t54_ok i h1, s 38, s 39, k0_off54 i, fun t => k0_off54_inb i t h1,
    fun t1 t2 => ⟨k0_off55 i t1 t2, k0_off55_inb i t1 t2 h1⟩, k0_off56 i, fun t => k0_off56_inb i t h1⟩

/-- A task's program over its parameters. -/
def body (i : grid0.Coords) (m : Mem) (s : ℕ → DmaSems sig S_) : PR F i PUnit :=
  group i m (GA i s) (if h1 : k0_cond1 i = 1#1 then group i m (GB i h1 s) (pure ⟨⟩) else pure ⟨⟩)

end Cert.Proof.Gk
-- ==== Proof.Tr.lean ====
/-
  One task's state and its operations' rules: the contents of the task's five scratches and of the array of results,
  and what each operation of the program does to them, stated over one assertion for all of them.
-/
module

public import Idealize.ShloMosaic.Lib.Pipeline.Value
public import Idealize.ShloMosaic.Lib.Transfers
public import proofs.«01_k».proof.Proof.Gk

@[expose] public section

noncomputable section

namespace Cert.Proof.Gk

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.SparseCore Idealize.ShloMosaic.SparseCore.Cfg

variable {F : FTy → Type} [FloatOps F]

/-! ## The launch's algebra and the arrays -/

abbrev ΛP : Labels := Pipeline.Sig Λ₀ (Fin 0) fun p => (pcfgs (F := F) p).Adm
abbrev K : SparseCore.Cfg τ sig (ΛP (F := F)) 1 := sc (F := F)
abbrev 𝒱₀ : Variants := Variants.none
abbrev UH : Type := URounds (GSem nD τ sig) ℕ
abbrev UU : Type := UH × Counters

local notation "𝕄" => MT nD τ sig (HIx 1) (Elt F) ℕ UU ℕ

abbrev kM : Memref sig .scVector .hbm S12x2x67584 .f32 := Memref.whole main_v3_scv
abbrev vM : Memref sig .scVector .hbm S12x2x67584 .f32 := Memref.whole main_v7_scv
abbrev qM : Memref sig .scVector .hbm S12x133120 .f32 := Memref.whole main_v9_scv
abbrev xM : Memref sig .scVector .hbm S12x34816 .i32 := Memref.whole main_v11_scv
abbrev oM : Memref sig .scVector .hbm S12x2x67584 .f32 := Memref.whole main_v12_scv
abbrev tS : Memref sig .scVector .vmem S67584 .f32 := Memref.whole cc0_scratch0
abbrev qS : Memref sig .scVector .vmem S8320 .f32 := Memref.whole cc0_scratch1
abbrev xS : Memref sig .scVector .vmem S2176 .i32 := Memref.whole cc0_scratch2
abbrev wS : Memref sig .scVector .vmem S12288 .f32 := Memref.whole cc0_scratch3
abbrev oS : Memref sig .scVector .vmem S4224 .f32 := Memref.whole cc0_scratch4

/-- The memories of a task. -/
abbrev mm : Mem := ⟨kM, Memref.isWhole_whole _, vM, Memref.isWhole_whole _, qM, Memref.isWhole_whole _, xM, Memref.isWhole_whole _,
  oM, Memref.isWhole_whole _, tS, Memref.isWhole_whole _, qS, Memref.isWhole_whole _, xS, Memref.isWhole_whole _,
  wS, Memref.isWhole_whole _, oS, Memref.isWhole_whole _⟩

abbrev cV (i : grid0.Coords) : Fin τ.nSC := (i 0).castLE hcore0
abbrev jV (i : grid0.Coords) : Fin τ.nSub := (i 1).castLE hsub0
abbrev thr (d : Dev nD) (i : grid0.Coords) : Thread nD τ := V d (cV i) (jV i)

/-! ## The state -/

/-- The contents of a task's scratches and of the array of results. -/
structure St (F : FTy → Type) where
  t : (Flat 67584).Idx → Elt F .f32
  q : (Flat 8320).Idx → Elt F .f32
  x : (Flat 2176).Idx → Elt F .i32
  w : (Flat 12288).Idx → Elt F .f32
  o : (Flat 4224).Idx → Elt F .f32
  out : S12x2x67584.Idx → Elt F .f32

/-- What stays the same through a task: where it runs, the arrays it reads and its part of the array of results. -/
structure Env (F : FTy → Type) where
  d : Dev nD
  i : grid0.Coords
  O : CellTallies nD τ sig (HIx 1)
  hO : ∀ g, O g none = 0
  W : Waits sig (HIx 1)
  p : PosShare TreeShare
  k : S12x2x67584.Idx → Elt F .f32
  v : S12x2x67584.Idx → Elt F .f32
  q : S12x133120.Idx → Elt F .f32
  x : S12x34816.Idx → Elt F .i32
  S : Finset S12x2x67584.Idx

variable (E : Env F)

abbrev Env.T : Thread nD τ := thr E.d E.i

/-- What a task holds. -/
def Mst (σ : St F) : sProp 𝕄 :=
  iprop((levAts (K (F := F)).L (K (F := F)).lev)
    ∗ ((kM.view.loc E.T) ↦{E.p} E.k) ∗ ((vM.view.loc E.T) ↦{E.p} E.v)
    ∗ ((qM.view.loc E.T) ↦{E.p} E.q) ∗ ((xM.view.loc E.T) ↦{E.p} E.x)
    ∗ ((oM.view.loc E.T) ↦[E.S]{fullShare} σ.out)
    ∗ ((tS.view.loc E.T) ↦{fullShare} σ.t) ∗ ((qS.view.loc E.T) ↦{fullShare} σ.q)
    ∗ ((xS.view.loc E.T) ↦{fullShare} σ.x) ∗ ((wS.view.loc E.T) ↦{fullShare} σ.w)
    ∗ ((oS.view.loc E.T) ↦{fullShare} σ.o)
    ∗ (ownSems0 E.T) ∗ ∃ W', ⌜∀ p ∈ W', p ∈ E.W ∨ p.2 = none⌝ ∗ owes E.T E.O W')

/-- The program `p` from the state `σ` ends, in a state and with an answer of `post`. -/
def Tr {α : Type} (σ : St F) (p : PR F E.i α) (post : α → St F → Prop) : Prop :=
  ∀ (R : sProp 𝕄) (Q : α → sProp 𝕄), (∀ a σ', post a σ' → iprop(Mst E σ' ∗ R) ⊢ Q a) →
    iprop(Mst E σ ∗ R) ⊢ wp frame (wpE (defs₀ (F := F)) 𝒱₀ E.T none) Set.univ p Q

variable {E} {α β γ : Type} {σ : St F}

theorem Tr.pure {a : α} {post : α → St F → Prop} (h : post a σ) : Tr E σ (Pure.pure a) post := by
  intro R Q hQ
  rw [Prog.pure_eq_ret, wp_ret]
  exact (hQ a σ h).trans fupd_intro

theorem Tr.bind {p : PR F E.i α} {k : α → PR F E.i β} {mid : α → St F → Prop} {post : β → St F → Prop}
    (hp : Tr E σ p mid) (hk : ∀ a σ', mid a σ' → Tr E σ' (k a) post) : Tr E σ (p >>= k) post := by
  intro R Q hQ
  rw [wp_bind]
  exact hp R _ fun a σ' h => hk a σ' h R Q hQ

theorem Tr.mono {p : PR F E.i α} {post post' : α → St F → Prop} (hp : Tr E σ p post) (h : ∀ a σ', post a σ' → post' a σ') :
    Tr E σ p post' :=
  fun R Q hQ => hp R Q fun a σ' hh => hQ a σ' (h a σ' hh)

/-! ## Each part of what a task holds, taken out and put back -/

/-- The scratch of the table. -/
theorem Mst_t : Mst E σ ⊢ iprop(((tS.view.loc E.T) ↦{fullShare} σ.t) ∗ (∀ f, ((tS.view.loc E.T) ↦{fullShare} f) -∗ Mst E { σ with t := f })) := by
  unfold Mst
  iintro ⟨Hl, Hk, Hv, Hq, Hx, Ho, Ht, Hqs, Hxs, Hws, Hos, Hss, HO⟩
  isplitl [Ht]; · iexact Ht
  iintro %f Ht
  isplitl [Hl]; · iexact Hl
  isplitl [Hk]; · iexact Hk
  isplitl [Hv]; · iexact Hv
  isplitl [Hq]; · iexact Hq
  isplitl [Hx]; · iexact Hx
  isplitl [Ho]; · iexact Ho
  isplitl [Ht]; · iexact Ht
  isplitl [Hqs]; · iexact Hqs
  isplitl [Hxs]; · iexact Hxs
  isplitl [Hws]; · iexact Hws
  isplitl [Hos]; · iexact Hos
  isplitl [Hss]; · iexact Hss
  iexact HO

/-- The scratch of queries. -/
theorem Mst_q : Mst E σ ⊢ iprop(((qS.view.loc E.T) ↦{fullShare} σ.q) ∗ (∀ f, ((qS.view.loc E.T) ↦{fullShare} f) -∗ Mst E { σ with q := f })) := by
  unfold Mst
  iintro ⟨Hl, Hk, Hv, Hq, Hx, Ho, Ht, Hqs, Hxs, Hws, Hos, Hss, HO⟩
  isplitl [Hqs]; · iexact Hqs
  iintro %f Hqs
  isplitl [Hl]; · iexact Hl
  isplitl [Hk]; · iexact Hk
  isplitl [Hv]; · iexact Hv
  isplitl [Hq]; · iexact Hq
  isplitl [Hx]; · iexact Hx
  isplitl [Ho]; · iexact Ho
  isplitl [Ht]; · iexact Ht
  isplitl [Hqs]; · iexact Hqs
  isplitl [Hxs]; · iexact Hxs
  isplitl [Hws]; · iexact Hws
  isplitl [Hos]; · iexact Hos
  isplitl [Hss]; · iexact Hss
  iexact HO

/-- The scratch of indices. -/
theorem Mst_x : Mst E σ ⊢ iprop(((xS.view.loc E.T) ↦{fullShare} σ.x) ∗ (∀ f, ((xS.view.loc E.T) ↦{fullShare} f) -∗ Mst E { σ with x := f })) := by
  unfold Mst
  iintro ⟨Hl, Hk, Hv, Hq, Hx, Ho, Ht, Hqs, Hxs, Hws, Hos, Hss, HO⟩
  isplitl [Hxs]; · iexact Hxs
  iintro %f Hxs
  isplitl [Hl]; · iexact Hl
  isplitl [Hk]; · iexact Hk
  isplitl [Hv]; · iexact Hv
  isplitl [Hq]; · iexact Hq
  isplitl [Hx]; · iexact Hx
  isplitl [Ho]; · iexact Ho
  isplitl [Ht]; · iexact Ht
  isplitl [Hqs]; · iexact Hqs
  isplitl [Hxs]; · iexact Hxs
  isplitl [Hws]; · iexact Hws
  isplitl [Hos]; · iexact Hos
  isplitl [Hss]; · iexact Hss
  iexact HO

/-- The scratch of weights. -/
theorem Mst_w : Mst E σ ⊢ iprop(((wS.view.loc E.T) ↦{fullShare} σ.w) ∗ (∀ f, ((wS.view.loc E.T) ↦{fullShare} f) -∗ Mst E { σ with w := f })) := by
  unfold Mst
  iintro ⟨Hl, Hk, Hv, Hq, Hx, Ho, Ht, Hqs, Hxs, Hws, Hos, Hss, HO⟩
  isplitl [Hws]; · iexact Hws
  iintro %f Hws
  isplitl [Hl]; · iexact Hl
  isplitl [Hk]; · iexact Hk
  isplitl [Hv]; · iexact Hv
  isplitl [Hq]; · iexact Hq
  isplitl [Hx]; · iexact Hx
  isplitl [Ho]; · iexact Ho
  isplitl [Ht]; · iexact Ht
  isplitl [Hqs]; · iexact Hqs
  isplitl [Hxs]; · iexact Hxs
  isplitl [Hws]; · iexact Hws
  isplitl [Hos]; · iexact Hos
  isplitl [Hss]; · iexact Hss
  iexact HO

/-- The scratch of outputs. -/
theorem Mst_o : Mst E σ ⊢ iprop(((oS.view.loc E.T) ↦{fullShare} σ.o) ∗ (∀ f, ((oS.view.loc E.T) ↦{fullShare} f) -∗ Mst E { σ with o := f })) := by
  unfold Mst
  iintro ⟨Hl, Hk, Hv, Hq, Hx, Ho, Ht, Hqs, Hxs, Hws, Hos, Hss, HO⟩
  isplitl [Hos]; · iexact Hos
  iintro %f Hos
  isplitl [Hl]; · iexact Hl
  isplitl [Hk]; · iexact Hk
  isplitl [Hv]; · iexact Hv
  isplitl [Hq]; · iexact Hq
  isplitl [Hx]; · iexact Hx
  isplitl [Ho]; · iexact Ho
  isplitl [Ht]; · iexact Ht
  isplitl [Hqs]; · iexact Hqs
  isplitl [Hxs]; · iexact Hxs
  isplitl [Hws]; · iexact Hws
  isplitl [Hos]; · iexact Hos
  isplitl [Hss]; · iexact Hss
  iexact HO

/-! ## The operations -/

/-- The `n`-th entry of a row. -/
def rd {n : ℕ} [NeZero n] {A : Type} (f : (Flat n).Idx → A) (k : ℕ) : A := f (Shape.ofLane (d := ![n]) (Fin.ofNat n k))

theorem rd_of_eq {n : ℕ} [NeZero n] {A : Type} (f : (Flat n).Idx → A) (x : (Flat n).Idx) (k : ℕ) (h : (x 0).val = k) : f x = rd f k := by
  unfold rd
  congr 1
  funext a
  obtain rfl : a = 0 := Subsingleton.elim _ _
  apply Fin.ext
  show (x 0).val = k % n
  rw [← h]
  exact (Nat.mod_eq_of_lt (x 0).isLt).symm

theorem tS_load (f : (Flat 67584).Idx → Elt F .f32) (v : W16) (h : ∀ a x, ((![v] : Fin 1 → W16) a x).toNat < (Flat 67584).size a) :
    loadIdx (F := F) (s := Flat 67584) (t := S16) (tS.access (Rect.whole S67584) |>.read (Elt F) f) ![v] h = fun x => rd f (v x).toNat :=
  funext fun x => rd_of_eq f _ _ (by show 0 + 1 * (v x).toNat = _; omega)

theorem qS_load (f : (Flat 8320).Idx → Elt F .f32) (v : W16) (h : ∀ a x, ((![v] : Fin 1 → W16) a x).toNat < (Flat 8320).size a) :
    loadIdx (F := F) (s := Flat 8320) (t := S16) (qS.access (Rect.whole S8320) |>.read (Elt F) f) ![v] h = fun x => rd f (v x).toNat :=
  funext fun x => rd_of_eq f _ _ (by show 0 + 1 * (v x).toNat = _; omega)

theorem xS_load (f : (Flat 2176).Idx → Elt F .i32) (v : W16) (h : ∀ a x, ((![v] : Fin 1 → W16) a x).toNat < (Flat 2176).size a) :
    loadIdx (F := F) (s := Flat 2176) (t := S16) (xS.access (Rect.whole S2176) |>.read (Elt F) f) ![v] h = fun x => rd f (v x).toNat :=
  funext fun x => rd_of_eq f _ _ (by show 0 + 1 * (v x).toNat = _; omega)

/-- A buffer read whole is its contents. -/
theorem read_whole_access (b : Ref sig .scVector) (f : b.ty.Contents (Elt F)) :
    ((View.whole b).slice (Rect.whole b.ty.shape)).read (Elt F) f = f := by
  funext x
  rw [View.read_apply, cast_eq]
  congr 1
  rw [View.emb_slice, View.emb_whole]
  funext a
  apply Fin.ext
  show 0 + 1 * (x a).val = _
  omega

theorem chk_lt {n : ℕ} {v : W16} (h : ∀ x, (v x).toNat < n) : ∀ a x, ((![v] : Fin 1 → W16) a x).toNat < (Flat n).size a := by
  intro a x
  obtain rfl : a = 0 := Subsingleton.elim _ _
  exact h x

theorem Tr.gatT {c : Chk 67584} {v : W16} {k : V16 F → PR F E.i γ} {post : γ → St F → Prop} (hv : ∀ x, (v x).toNat < 67584)
    (hk : Tr E σ (k fun x => rd σ.t (v x).toNat) post) : Tr E σ (gatF E.i tS h_S67584 c v k) post := by
  intro R Q hQ
  rcases c with ⟨p, dec, inb, ok⟩
  rw [show gatF E.i tS h_S67584 ⟨p, dec, inb, ok⟩ v k = (.op (.assume (p v) (dec v)) fun h => SparseCore.vectorLoadIdx tS ![v] (inb v h.down) (View.loads_vmem h_S67584) >>= k) from (rfl)]
  rw [wp_assume_of _ _ _ _ (ok v (chk_lt hv))]
  iintro ⟨HM, HR⟩
  ihave H := Mst_t $$ HM
  icases H with ⟨Ht, HM⟩
  iapply (SparseCore.wp_vectorLoadIdx 𝒱₀ E.T none Set.univ (base := tS) (S := Finset.univ) (q := fullShare) (Finset.subset_univ _)) $$ Ht
  iintro Ht
  rw [tS_load]
  iapply (hk R Q hQ)
  isplitr [HR]
  · iapply HM; iexact Ht
  · iexact HR

theorem Tr.gatQ {c : Chk 8320} {v : W16} {k : V16 F → PR F E.i γ} {post : γ → St F → Prop} (hv : ∀ x, (v x).toNat < 8320)
    (hk : Tr E σ (k fun x => rd σ.q (v x).toNat) post) : Tr E σ (gatF E.i qS h_S8320 c v k) post := by
  intro R Q hQ
  rcases c with ⟨p, dec, inb, ok⟩
  rw [show gatF E.i qS h_S8320 ⟨p, dec, inb, ok⟩ v k = (.op (.assume (p v) (dec v)) fun h => SparseCore.vectorLoadIdx qS ![v] (inb v h.down) (View.loads_vmem h_S8320) >>= k) from (rfl)]
  rw [wp_assume_of _ _ _ _ (ok v (chk_lt hv))]
  iintro ⟨HM, HR⟩
  ihave H := Mst_q $$ HM
  icases H with ⟨Ht, HM⟩
  iapply (SparseCore.wp_vectorLoadIdx 𝒱₀ E.T none Set.univ (base := qS) (S := Finset.univ) (q := fullShare) (Finset.subset_univ _)) $$ Ht
  iintro Ht
  rw [qS_load]
  iapply (hk R Q hQ)
  isplitr [HR]
  · iapply HM; iexact Ht
  · iexact HR

theorem Tr.gatX {c : Chk 2176} {v : W16} {k : W16 → PR F E.i γ} {post : γ → St F → Prop} (hv : ∀ x, (v x).toNat < 2176)
    (hk : Tr E σ (k fun x => rd σ.x (v x).toNat) post) : Tr E σ (gatI E.i xS h_S2176 c v k) post := by
  intro R Q hQ
  rcases c with ⟨p, dec, inb, ok⟩
  rw [show gatI E.i xS h_S2176 ⟨p, dec, inb, ok⟩ v k = (.op (.assume (p v) (dec v)) fun h => SparseCore.vectorLoadIdx xS ![v] (inb v h.down) (View.loads_vmem h_S2176) >>= k) from (rfl)]
  rw [wp_assume_of _ _ _ _ (ok v (chk_lt hv))]
  iintro ⟨HM, HR⟩
  ihave H := Mst_x $$ HM
  icases H with ⟨Ht, HM⟩
  iapply (SparseCore.wp_vectorLoadIdx 𝒱₀ E.T none Set.univ (base := xS) (S := Finset.univ) (q := fullShare) (Finset.subset_univ _)) $$ Ht
  iintro Ht
  rw [xS_load]
  iapply (hk R Q hQ)
  isplitr [HR]
  · iapply HM; iexact Ht
  · iexact HR

/-- The place of the `j`-th row. -/
abbrev WOff.at (w : WOff) (j : ℕ) : ℕ := w.f (BitVec.ofNat 32 (768 * (Fin.ofNat 16 j).val)) 0

/-- Sixteen entries of a row replaced. -/
def wr {n : ℕ} {A : Type} (f : (Flat n).Idx → A) (p : ℕ) (v : S16.Idx → A) : (Flat n).Idx → A := fun x =>
  if h : p ≤ (x 0).val ∧ (x 0).val < p + 16 then v (Shape.ofLane (d := ![16]) ⟨(x 0).val - p, by show _ < 16; omega⟩) else f x

theorem wrect_read (f : (Flat 12288).Idx → Elt F .f32) (w : WOff) (j : ℕ) :
    (wS.access (wrect w j)).read (Elt F) f = fun x => rd f (w.at j + (x 0).val) := by
  funext x
  show f _ = _
  refine rd_of_eq f _ _ ?_
  show w.at j + 1 * (x 0).val = _
  omega

theorem wrect_write (f : (Flat 12288).Idx → Elt F .f32) (w : WOff) (j : ℕ) (v : V16 F) :
    (wS.access (wrect w j)).write (Elt F) f v Finset.univ = wr f (w.at j) v := by
  refine (View.write_whole_slice_unit cc0_scratch3 _ _ _ f v).trans ?_
  funext x
  unfold updateSlice wr
  by_cases h : w.at j ≤ (x 0).val ∧ (x 0).val < w.at j + 16
  · rw [dif_pos h, dif_pos]
    · exact congrArg v (funext fun (a : Fin 1) => by obtain rfl : a = 0 := Subsingleton.elim _ _; rfl)
    · intro (a : Fin 1)
      obtain rfl : a = 0 := Subsingleton.elim _ _
      exact h
  · rw [dif_neg h, dif_neg]
    exact fun h' => h (h' 0)

theorem Tr.ldW {w : WOff} {j : ℕ} {k : V16 F → PR F E.i γ} {post : γ → St F → Prop}
    (hk : Tr E σ (k fun x => rd σ.w (w.at j + (x 0).val)) post) : Tr E σ (ldW E.i mm w j k) post := by
  intro R Q hQ
  show _ ⊢ wp _ _ _ (.op (.load wS (wrect w j).toLoadRect (View.loadsAt_vmem h_S16)) k) _
  iintro ⟨HM, HR⟩
  ihave H := Mst_w $$ HM
  icases H with ⟨Ht, HM⟩
  iapply (wp_load_rect (defs := defs₀ (F := F)) 𝒱₀ E.T none Set.univ (m := wS) (r := wrect w j) (S := Finset.univ) (q := fullShare)
    (f := σ.w) (Finset.subset_univ _)) $$ Ht
  iintro Ht
  rw [wrect_read σ.w w j]
  iapply (hk R Q hQ)
  isplitr [HR]
  · iapply HM; iexact Ht
  · iexact HR

theorem Tr.stW {w : WOff} {x : ℕ → V16 F} {j : ℕ} {k : PUnit → PR F E.i γ} {post : γ → St F → Prop}
    (hk : Tr E { σ with w := wr σ.w (w.at j) (x j) } (k ⟨⟩) post) : Tr E σ (stW E.i mm w x j k) post := by
  unfold Gk.stW
  refine Tr.ldW ?_
  intro R Q hQ
  show _ ⊢ wp _ _ _ (.op (.store wS (wrect w j) (x j) Finset.univ (View.stores_vmem_bits_univ h_S16 rfl) (.inl rfl)) k) _
  iintro ⟨HM, HR⟩
  ihave H := Mst_w $$ HM
  icases H with ⟨Ht, HM⟩
  iapply (wp_store (defs := defs₀ (F := F)) 𝒱₀ E.T none Set.univ (m := wS) (r := wrect w j) (Mk := Finset.univ) (S := Finset.univ)
    (f := σ.w) (Finset.subset_univ _)) $$ Ht
  iintro Ht
  rw [wrect_write σ.w w j (x j)]
  iapply (hk R Q hQ)
  isplitr [HR]
  · iapply HM; iexact Ht
  · iexact HR

/-! ## The indexed store -/

theorem foldl_miss {ι α V : Type} (step : (ι → V) → α → ι → V) (p : ι) (hm : ∀ b g, step g b p = g p) :
    ∀ (L : List α) (f : ι → V), L.foldl step f p = f p
  | [], _ => rfl
  | b :: L, f => (foldl_miss step p hm L (step f b)).trans (hm b f)

theorem foldl_hit {ι α V : Type} (step : (ι → V) → α → ι → V) (p : ι) (y : V) (a : α) (hs : ∀ g, step g a p = y)
    (hm : ∀ b, b ≠ a → ∀ g, step g b p = g p) : ∀ (L : List α) (f : ι → V), (a ∈ L ∨ f p = y) → L.foldl step f p = y
  | [], _, h => h.resolve_left List.not_mem_nil
  | b :: L, f, h => by
    refine foldl_hit step p y a hs hm L (step f b) ?_
    by_cases hb : b = a
    · exact .inr (hb ▸ hs f)
    · rcases h with h | h
      · exact .inl ((List.mem_cons.mp h).resolve_left fun e => hb e.symm)
      · exact .inr ((hm b hb f).trans h)

theorem storeIdx_miss (f : (Flat 4224).Idx → Elt F .f32) (v : W16) (x : V16 F) (h) (k : ℕ) (hk : k < 4224)
    (hm : ∀ l, (v l).toNat ≠ k) :
    rd (storeIdx (F := F) (e := .f32) (s := Flat 4224) (d := ![16]) f ![v] x (fun _ => 1#1) false h) k = rd f k := by
  refine foldl_miss _ _ (fun b g => ?_) _ _
  refine if_neg fun hh => hm (Shape.ofLane (d := ![16]) b) ?_
  have h0 : k % 4224 = (v (Shape.ofLane (d := ![16]) b)).toNat := hh 0
  rw [Nat.mod_eq_of_lt hk] at h0
  exact h0.symm

theorem storeIdx_hit (f : (Flat 4224).Idx → Elt F .f32) (v : W16) (x : V16 F) (h)
    (hinj : ∀ l l', (v l).toNat = (v l').toNat → l = l') (l : S16.Idx) :
    rd (storeIdx (F := F) (e := .f32) (s := Flat 4224) (d := ![16]) f ![v] x (fun _ => 1#1) false h) (v l).toNat = x l := by
  have hlt : (v l).toNat < 4224 := h 0 l
  obtain ⟨a, rfl⟩ : ∃ a : Fin 16, Shape.ofLane (d := ![16]) a = l :=
    ⟨l 0, funext fun b => by obtain rfl : b = 0 := Subsingleton.elim (α := Fin 1) _ _; rfl⟩
  refine foldl_hit _ _ _ a (fun g => ?_) (fun b hb g => ?_) _ _ (.inl (List.mem_finRange a))
  · refine if_pos fun c => ?_
    obtain rfl : c = 0 := Subsingleton.elim (α := Fin 1) _ _
    exact Nat.mod_eq_of_lt hlt
  · refine if_neg fun hh => hb ?_
    have h0 : (v (Shape.ofLane (d := ![16]) a)).toNat % 4224 = (v (Shape.ofLane (d := ![16]) b)).toNat := hh 0
    rw [Nat.mod_eq_of_lt hlt] at h0
    exact (congrFun (hinj _ _ h0) 0).symm

theorem Tr.scat {c : Chks} {v : W16} {x : V16 F} {k : PUnit → PR F E.i γ} {post : γ → St F → Prop} (hv : ∀ l, (v l).toNat < 4224)
    (hinj : ∀ l l', (v l).toNat = (v l').toNat → l = l')
    (hk : ∀ o', (∀ l, rd o' (v l).toNat = x l) → (∀ k < 4224, (∀ l, (v l).toNat ≠ k) → rd o' k = rd σ.o k) →
      Tr E { σ with o := o' } (k ⟨⟩) post) : Tr E σ (scat E.i mm c v x k) post := by
  intro R Q hQ
  rcases c with ⟨c1, c2, c3, ⟨p, dec, inb, ok⟩⟩
  rw [show Gk.scat E.i mm ⟨c1, c2, c3, ⟨p, dec, inb, ok⟩⟩ v x k = (.op (.assume (p v) (dec v)) fun h =>
    SparseCore.vectorStoreIdx oS ![v] x (fun _ => 1#1) false (inb v h.down) (View.stores_vmem_bits_univ h_S4224 rfl) >>= k) from (rfl)]
  rw [wp_assume_of _ _ _ _ (ok v (chk_lt hv))]
  iintro ⟨HM, HR⟩
  ihave H := Mst_o $$ HM
  icases H with ⟨Ht, HM⟩
  have eset : (oS.access (.whole S4224)).set = Finset.univ :=
    Finset.eq_univ_iff_forall.mpr fun y => Finset.mem_map.mpr ⟨y, Finset.mem_univ _, by
      funext a; apply Fin.ext; show 0 + 1 * (y a).val = _; omega⟩
  have ew : ∀ f w : (Flat 4224).Idx → Elt F .f32, (oS.access (.whole S4224)).write (Elt F) f w Finset.univ = w := by
    intro f w
    funext y
    have ey : (oS.access (.whole S4224)).emb y = y := by
      funext a; apply Fin.ext; show 0 + 1 * (y a).val = _; omega
    conv_lhs => rw [← ey]
    rw [View.write_emb_of_mem _ _ (Finset.mem_univ _)]
    rfl
  have hr := SparseCore.wp_vectorStoreIdx (defs := defs₀ (F := F)) 𝒱₀ E.T none Set.univ (Q := Q) (base := oS) (idxs := ![v]) (v := x) (mask := fun _ => 1#1)
    (add := false) (h := inb v (ok v (chk_lt hv))) (hs := View.stores_vmem_bits_univ h_S4224 rfl) (k := k) (f := σ.o)
    (Name := ℕ) (U := UU) (Lvl := ℕ) (Ix := HIx 1)
  rw [eset, ew, show (oS.access (.whole S4224)).read (Elt F) σ.o = σ.o from read_whole_access cc0_scratch4 σ.o] at hr
  iapply hr $$ Ht
  iintro Ht
  iapply (hk _ (fun l => storeIdx_hit σ.o v x (inb v (ok v (chk_lt hv))) hinj l)
    (fun k hk hm => storeIdx_miss σ.o v x (inb v (ok v (chk_lt hv))) k hk hm) R Q hQ)
  isplitr [HR]
  · iapply HM; iexact Ht
  · iexact HR

/-! ## Sequences and loops -/

theorem Tr.seq {op : ℕ → (β → PR F E.i γ) → PR F E.i γ} {post : γ → St F → Prop} (N : ℕ) (I : ℕ → (ℕ → β) → St F → Prop)
    (hop : ∀ s acc σ k, s < N → I s acc σ → (∀ x σ', I (s + 1) (upd acc s x) σ' → Tr E σ' (k x) post) → Tr E σ (op s k) post) :
    ∀ (n s : ℕ) (acc : ℕ → β) (σ : St F) (k : (ℕ → β) → PR F E.i γ), s + n = N → I s acc σ →
      (∀ f σ', I N f σ' → Tr E σ' (k f) post) → Tr E σ (seqN E.i op n s acc k) post
  | 0, s, acc, σ, k, hs, h, hk => hk acc σ (by rw [← hs]; exact h)
  | n + 1, s, acc, σ, k, hs, h, hk =>
    hop s acc σ _ (by omega) h fun x σ' h' => Tr.seq N I hop n (s + 1) (upd acc s x) σ' k (by omega) h' hk

theorem upd_self {f : ℕ → β} {s : ℕ} {x : β} : upd f s x s = x := by
  unfold upd; rw [Nat.beq_refl]; rfl
theorem upd_ne {f : ℕ → β} {s j : ℕ} {x : β} (h : j ≠ s) : upd f s x j = f j := by
  unfold upd; rw [show Nat.beq j s = false from Bool.eq_false_iff.mpr fun e => h (Nat.eq_of_beq_eq_true e)]; rfl

/-- Sixteen operations that leave the state alone, each with its answer. -/
theorem Tr.seqV {op : ℕ → (β → PR F E.i γ) → PR F E.i γ} {post : γ → St F → Prop} (val : ℕ → β) {acc : ℕ → β}
    {k : (ℕ → β) → PR F E.i γ} (hop : ∀ s k, s < 16 → Tr E σ (k (val s)) post → Tr E σ (op s k) post)
    (hk : ∀ f, (∀ j < 16, f j = val j) → Tr E σ (k f) post) : Tr E σ (seqN E.i op 16 0 acc k) post := by
  refine Tr.seq 16 (fun s acc σ' => σ' = σ ∧ ∀ j < s, acc j = val j) ?_ 16 0 acc σ k rfl ⟨rfl, fun j hj => absurd hj (Nat.not_lt_zero j)⟩ ?_
  · rintro s acc _ k hs ⟨rfl, h⟩ hx
    refine hop s k hs (hx _ _ ⟨rfl, fun j hj => ?_⟩)
    by_cases hjs : j = s
    · subst hjs; exact upd_self
    · rw [upd_ne hjs]; exact h j (by omega)
  · rintro f _ ⟨rfl, h⟩
    exact hk f h

/-- Sixteen operations that change the state. -/
theorem Tr.seqS {op : ℕ → (PUnit → PR F E.i γ) → PR F E.i γ} {post : γ → St F → Prop} (I : ℕ → St F → Prop) {acc : ℕ → PUnit}
    {k : (ℕ → PUnit) → PR F E.i γ} (h0 : I 0 σ)
    (hop : ∀ s σ k, s < 16 → I s σ → (∀ σ', I (s + 1) σ' → Tr E σ' (k ⟨⟩) post) → Tr E σ (op s k) post)
    (hk : ∀ f σ', I 16 σ' → Tr E σ' (k f) post) : Tr E σ (seqN E.i op 16 0 acc k) post :=
  Tr.seq 16 (fun s _ σ' => I s σ') (fun s _ σ k hs h hx => hop s σ k hs h fun σ' h' => hx ⟨⟩ σ' h') 16 0 acc σ k rfl h0 hk

theorem Tr.loop {l : Scf.Loop 32} {ok : l.OK} {init : α} {body : Fin l.trips → α → PR F E.i α} (φ : ℕ → α → St F → Prop)
    (h0 : φ 0 init σ) (hb : ∀ (t : Fin l.trips) a σ', φ t.val a σ' → Tr E σ' (body t a) (φ (t.val + 1))) :
    Tr E σ (Scf.Loop.for l ok init body) (φ l.trips) := by
  intro R Q hQ
  refine BIBase.Entails.trans ?_ (Scf.wp_for frame (wpE (defs₀ (F := F)) 𝒱₀ E.T none) Set.univ l.lb l.ub l.st ok init body
    (fun n acc => iprop(∃ σ', ⌜φ n acc σ'⌝ ∗ Mst E σ' ∗ R)) ?_)
  · iintro H
    isplitl [H]
    · iexists σ; isplitr; · ipureintro; exact h0
      iexact H
    · iintro %acc ⟨%σ', %h, H⟩
      iapply (hQ acc σ' h); iexact H
  · intro t acc
    iintro ⟨%σ', %h, H⟩
    iapply (hb t acc σ' h R _ ?_) $$ H
    intro a σ'' h''
    iintro H
    iexists σ''; isplitr; · ipureintro; exact h''
    iexact H

/-! ## Copies -/

/-- A copy and its wait, on one of the task's own cells. -/
theorem dma_step {sp sp' : Space} {s : Shape} {e : EltTy} (src : Memref sig .scVector sp s e) (dst : Memref sig .scVector sp' s e)
    (sem : DmaSem sig) (hsc : (SemLoc.dma sem : SemLoc sig).isScoped .scVector = true) (hpos : 0 < s.numel)
    {Ssrc : Finset (Idx (src.view.loc E.T))} {Sd : Finset (Idx (dst.view.loc E.T))} (h1 : src.view.set ⊆ Ssrc) (h2 : dst.view.set ⊆ Sd)
    {hsrc : src.view.WordExact} {hdst : dst.view.WordExact}
    {hsem : DmaTarget.Typed (nD := nD) (τ := τ) (p := .scVector (cV E.i) (jV E.i)) sp (SemLoc.dma sem) (.here dst)} {hsrc' : src.view.WordExact} {hdst' : dst.view.WordExact}
    {q : PosShare TreeShare} {fs : Buf (Elt F) (src.view.loc E.T)} {fd : Buf (Elt F) (dst.view.loc E.T)}
    {k : PR F E.i α} {Q : α → sProp 𝕄} :
    iprop((levAts (K (F := F)).L (K (F := F)).lev) ∗ (src.view.loc E.T ↦[Ssrc]{q} fs) ∗ (dst.view.loc E.T ↦[Sd]{fullShare} fd)
        ∗ (ownSems0 E.T) ∗ (∃ W', ⌜∀ p ∈ W', p ∈ E.W ∨ p.2 = none⌝ ∗ owes E.T E.O W'))
      ⊢ iprop((((levAts (K (F := F)).L (K (F := F)).lev) ∗ (src.view.loc E.T ↦[Ssrc]{q} fs)
            ∗ (dst.view.loc E.T ↦[Sd]{fullShare} (dst.view.write (Elt F) fd (src.view.read (Elt F) fs) Finset.univ))
            ∗ (ownSems0 E.T) ∗ (∃ W', ⌜∀ p ∈ W', p ∈ E.W ∨ p.2 = none⌝ ∗ owes E.T E.O W'))
          -∗ wp frame (wpE (defs₀ (F := F)) 𝒱₀ E.T none) Set.univ k Q)
        -∗ wp frame (wpE (defs₀ (F := F)) 𝒱₀ E.T none) Set.univ
          (.op (.enqueueDma src (.here dst) (.dma sem) hsrc hdst hsem) fun _ => .op (.waitDma2 sem src dst hsrc' hdst') fun _ => k) Q) := by
  unfold ownSems0
  rw [SparseCore.bigSep_erase' ((mem_ownCells (g := (E.T, SemLoc.dma sem))).mpr ⟨rfl, hsc⟩)]
  iintro ⟨#Hl, Hs, Hd, ⟨Hv, Hss⟩, ⟨%W', %hW, HO⟩⟩ Hk
  ihave Hs2 := (pointsTo_split_subset h1).1 $$ Hs
  icases Hs2 with ⟨Hs, Hs'⟩
  iapply (Transfers.wp_dmaLocal (countersEmb (U := UU)) 𝒱₀ E.T none (none : HIx 1) (dst.view.amount (SemLoc.dma sem)) rfl
    (View.amount_pos _ _ hpos) h2) $$ [Hs Hd Hv]
  · isplitl [Hs]; · iexact Hs
    isplitl [Hd]; · iexact Hd
    iexact Hv
  iintro HF
  ihave HM := (K (F := F)).mayWait_none (SemLoc.dma sem) E.hO $$ Hl
  iapply (Transfers.wp_waitLocalO (countersEmb (U := UU)) 𝒱₀ E.T none (none : HIx 1) rfl) $$ [HF HO HM]
  · isplitl [HF]; · iexact HF
    isplitl [HO]; · iexact HO
    iexact HM
  iintro ⟨⟨Hd, Hs⟩, Hv, HO⟩
  iapply Hk
  isplitr; · iexact Hl
  isplitl [Hs Hs']
  · iapply (pointsTo_split_subset h1).2
    isplitl [Hs]; · iexact Hs
    iexact Hs'
  isplitl [Hd]; · iexact Hd
  isplitl [Hv Hss]
  · isplitl [Hv]; · iexact Hv
    iexact Hss
  iexists (insert (SemLoc.dma sem, (none : HIx 1)) W')
  isplitr
  · ipureintro
    intro p hp
    rcases Finset.mem_insert.mp hp with rfl | hp
    · exact .inr rfl
    · exact hW p hp
  · iexact HO

/-! ## Places in the arrays -/

/-- The place of a shape with the coordinates `c`. -/
def ixc {s : Shape} (hs : ∀ d, 0 < s.size d) (c : Fin s.rank → ℕ) : s.Idx := fun d => ⟨c d % s.size d, Nat.mod_lt _ (hs d)⟩

theorem ixc_of_eq {s : Shape} (hs : ∀ d, 0 < s.size d) (c : Fin s.rank → ℕ) (y : s.Idx) (h : ∀ d, (y d).val = c d) : y = ixc hs c := by
  funext d
  apply Fin.ext
  show (y d).val = c d % s.size d
  rw [← h d, Nat.mod_eq_of_lt (y d).isLt]

theorem pos3 : ∀ d, 0 < S12x2x67584.size d := by decide
theorem posQ : ∀ d, 0 < S12x133120.size d := by decide
theorem posX : ∀ d, 0 < S12x34816.size d := by decide

/-- The entry of a table of a head, a half and a place. -/
abbrev at3 (f : S12x2x67584.Idx → β) (a b c : ℕ) : β := f (ixc pos3 ![a, b, c])
/-- The entry of the array of queries of a head and a place. -/
abbrev atQ (f : S12x133120.Idx → β) (a c : ℕ) : β := f (ixc posQ ![a, c])
/-- The entry of the array of indices of a head and a place. -/
abbrev atX (f : S12x34816.Idx → β) (a c : ℕ) : β := f (ixc posX ![a, c])

theorem reshape3 {n : ℕ} (h : (Flat n).numel = (⟨3, ![1, 1, n]⟩ : Shape).numel) (x : (Flat n).Idx) (a : Fin 3) :
    ((Shape.reshapeEquiv h x) a).val = (![0, 0, (x 0).val] : Fin 3 → ℕ) a := by
  have hx : (x 0).val < n := (x 0).isLt
  rw [Shape.reshapeEquiv_eq_of_rowMajor (s := ⟨3, ![1, 1, n]⟩) (s' := Flat n) h
    (y := fun a => ⟨(![0, 0, (x 0).val] : Fin 3 → ℕ) a, by
      match a with | 0 => exact Nat.one_pos | 1 => exact Nat.one_pos | 2 => exact hx⟩)
    (by rw [Shape.rowMajor_val_three, Shape.rowMajor_val_one]; show (0 * 1 + 0) * n + (x 0).val = _; omega)]

theorem reshape2 {n : ℕ} (h : (Flat n).numel = (⟨2, ![1, n]⟩ : Shape).numel) (x : (Flat n).Idx) (a : Fin 2) :
    ((Shape.reshapeEquiv h x) a).val = (![0, (x 0).val] : Fin 2 → ℕ) a := by
  have hx : (x 0).val < n := (x 0).isLt
  rw [Shape.reshapeEquiv_eq_of_rowMajor (s := ⟨2, ![1, n]⟩) (s' := Flat n) h
    (y := fun a => ⟨(![0, (x 0).val] : Fin 2 → ℕ) a, by
      match a with | 0 => exact Nat.one_pos | 1 => exact hx⟩)
    (by rw [Shape.rowMajor_val_two, Shape.rowMajor_val_one]; show 0 * n + (x 0).val = _; omega)]

/-- The places of a part of a table. -/
theorem emb3 (v : View sig .scVector .hbm S12x2x67584 .f32) {n : ℕ} (o : Fin 3 → ℕ) (oi) (h) (x : (Flat n).Idx) :
    ((v.slice (Rect.unit (s := S12x2x67584) o (![1, 1, n]) oi)).reshape (Flat n) h).emb x
      = v.emb (ixc pos3 ![o 0, o 1, o 2 + (x 0).val]) := by
  rw [View.emb_reshape, View.emb_slice]
  refine congrArg v.emb (ixc_of_eq pos3 _ _ fun a => ?_)
  show o a + 1 * ((Shape.reshapeEquiv h x) a).val = _
  rw [reshape3 (n := n) h x a]
  match a with
  | 0 => show o 0 + 1 * 0 = o 0; omega
  | 1 => show o 1 + 1 * 0 = o 1; omega
  | 2 => show o 2 + 1 * (x 0).val = o 2 + (x 0).val; omega

/-- The places of a part of the array of queries. -/
theorem embQ (v : View sig .scVector .hbm S12x133120 .f32) {n : ℕ} (o : Fin 2 → ℕ) (oi) (h) (x : (Flat n).Idx) :
    ((v.slice (Rect.unit (s := S12x133120) o (![1, n]) oi)).reshape (Flat n) h).emb x
      = v.emb (ixc posQ ![o 0, o 1 + (x 0).val]) := by
  rw [View.emb_reshape, View.emb_slice]
  refine congrArg v.emb (ixc_of_eq posQ _ _ fun a => ?_)
  show o a + 1 * ((Shape.reshapeEquiv h x) a).val = _
  rw [reshape2 (n := n) h x a]
  match a with
  | 0 => show o 0 + 1 * 0 = o 0; omega
  | 1 => show o 1 + 1 * (x 0).val = o 1 + (x 0).val; omega

/-- The places of a part of the array of indices. -/
theorem embX (v : View sig .scVector .hbm S12x34816 .i32) {n : ℕ} (o : Fin 2 → ℕ) (oi) (h) (x : (Flat n).Idx) :
    ((v.slice (Rect.unit (s := S12x34816) o (![1, n]) oi)).reshape (Flat n) h).emb x
      = v.emb (ixc posX ![o 0, o 1 + (x 0).val]) := by
  rw [View.emb_reshape, View.emb_slice]
  refine congrArg v.emb (ixc_of_eq posX _ _ fun a => ?_)
  show o a + 1 * ((Shape.reshapeEquiv h x) a).val = _
  rw [reshape2 (n := n) h x a]
  match a with
  | 0 => show o 0 + 1 * 0 = o 0; omega
  | 1 => show o 1 + 1 * (x 0).val = o 1 + (x 0).val; omega

/-! ## The rules of the copies -/

abbrev Mst.rest (E : Env F) : sProp 𝕄 :=
  iprop((ownSems0 E.T) ∗ ∃ W', ⌜∀ p ∈ W', p ∈ E.W ∨ p.2 = none⌝ ∗ owes E.T E.O W')

/-- What a copy of a part of the table of keys takes of what a task holds, and gives back. -/
theorem Mst_kt : Mst E σ ⊢ iprop(((levAts (K (F := F)).L (K (F := F)).lev) ∗ ((kM.view.loc E.T) ↦{E.p} E.k)
      ∗ ((tS.view.loc E.T) ↦{fullShare} σ.t) ∗ Mst.rest E)
    ∗ (∀ f, ((levAts (K (F := F)).L (K (F := F)).lev) ∗ ((kM.view.loc E.T) ↦{E.p} E.k)
      ∗ ((tS.view.loc E.T) ↦{fullShare} f) ∗ Mst.rest E) -∗ Mst E { σ with t := f })) := by
  unfold Mst
  iintro ⟨Hl, Hk, Hv, Hq, Hx, Ho, Ht, Hqs, Hxs, Hws, Hos, HR⟩
  isplitl [Hl Hk Ht HR]
  · isplitl [Hl]; · iexact Hl
    isplitl [Hk]; · iexact Hk
    isplitl [Ht]; · iexact Ht
    iexact HR
  iintro %f ⟨Hl, Hk, Ht, HR⟩
  isplitl [Hl]; · iexact Hl
  isplitl [Hk]; · iexact Hk
  isplitl [Hv]; · iexact Hv
  isplitl [Hq]; · iexact Hq
  isplitl [Hx]; · iexact Hx
  isplitl [Ho]; · iexact Ho
  isplitl [Ht]; · iexact Ht
  isplitl [Hqs]; · iexact Hqs
  isplitl [Hxs]; · iexact Hxs
  isplitl [Hws]; · iexact Hws
  isplitl [Hos]; · iexact Hos
  iexact HR

/-- The same of the table of values. -/
theorem Mst_vt : Mst E σ ⊢ iprop(((levAts (K (F := F)).L (K (F := F)).lev) ∗ ((vM.view.loc E.T) ↦{E.p} E.v)
      ∗ ((tS.view.loc E.T) ↦{fullShare} σ.t) ∗ Mst.rest E)
    ∗ (∀ f, ((levAts (K (F := F)).L (K (F := F)).lev) ∗ ((vM.view.loc E.T) ↦{E.p} E.v)
      ∗ ((tS.view.loc E.T) ↦{fullShare} f) ∗ Mst.rest E) -∗ Mst E { σ with t := f })) := by
  unfold Mst
  iintro ⟨Hl, Hk, Hv, Hq, Hx, Ho, Ht, Hqs, Hxs, Hws, Hos, HR⟩
  isplitl [Hl Hv Ht HR]
  · isplitl [Hl]; · iexact Hl
    isplitl [Hv]; · iexact Hv
    isplitl [Ht]; · iexact Ht
    iexact HR
  iintro %f ⟨Hl, Hv, Ht, HR⟩
  isplitl [Hl]; · iexact Hl
  isplitl [Hk]; · iexact Hk
  isplitl [Hv]; · iexact Hv
  isplitl [Hq]; · iexact Hq
  isplitl [Hx]; · iexact Hx
  isplitl [Ho]; · iexact Ho
  isplitl [Ht]; · iexact Ht
  isplitl [Hqs]; · iexact Hqs
  isplitl [Hxs]; · iexact Hxs
  isplitl [Hws]; · iexact Hws
  isplitl [Hos]; · iexact Hos
  iexact HR

/-- The same of the array of queries. -/
theorem Mst_qq : Mst E σ ⊢ iprop(((levAts (K (F := F)).L (K (F := F)).lev) ∗ ((qM.view.loc E.T) ↦{E.p} E.q)
      ∗ ((qS.view.loc E.T) ↦{fullShare} σ.q) ∗ Mst.rest E)
    ∗ (∀ f, ((levAts (K (F := F)).L (K (F := F)).lev) ∗ ((qM.view.loc E.T) ↦{E.p} E.q)
      ∗ ((qS.view.loc E.T) ↦{fullShare} f) ∗ Mst.rest E) -∗ Mst E { σ with q := f })) := by
  unfold Mst
  iintro ⟨Hl, Hk, Hv, Hq, Hx, Ho, Ht, Hqs, Hxs, Hws, Hos, HR⟩
  isplitl [Hl Hq Hqs HR]
  · isplitl [Hl]; · iexact Hl
    isplitl [Hq]; · iexact Hq
    isplitl [Hqs]; · iexact Hqs
    iexact HR
  iintro %f ⟨Hl, Hq, Hqs, HR⟩
  isplitl [Hl]; · iexact Hl
  isplitl [Hk]; · iexact Hk
  isplitl [Hv]; · iexact Hv
  isplitl [Hq]; · iexact Hq
  isplitl [Hx]; · iexact Hx
  isplitl [Ho]; · iexact Ho
  isplitl [Ht]; · iexact Ht
  isplitl [Hqs]; · iexact Hqs
  isplitl [Hxs]; · iexact Hxs
  isplitl [Hws]; · iexact Hws
  isplitl [Hos]; · iexact Hos
  iexact HR

/-- The same of the array of indices. -/
theorem Mst_xx : Mst E σ ⊢ iprop(((levAts (K (F := F)).L (K (F := F)).lev) ∗ ((xM.view.loc E.T) ↦{E.p} E.x)
      ∗ ((xS.view.loc E.T) ↦{fullShare} σ.x) ∗ Mst.rest E)
    ∗ (∀ f, ((levAts (K (F := F)).L (K (F := F)).lev) ∗ ((xM.view.loc E.T) ↦{E.p} E.x)
      ∗ ((xS.view.loc E.T) ↦{fullShare} f) ∗ Mst.rest E) -∗ Mst E { σ with x := f })) := by
  unfold Mst
  iintro ⟨Hl, Hk, Hv, Hq, Hx, Ho, Ht, Hqs, Hxs, Hws, Hos, HR⟩
  isplitl [Hl Hx Hxs HR]
  · isplitl [Hl]; · iexact Hl
    isplitl [Hx]; · iexact Hx
    isplitl [Hxs]; · iexact Hxs
    iexact HR
  iintro %f ⟨Hl, Hx, Hxs, HR⟩
  isplitl [Hl]; · iexact Hl
  isplitl [Hk]; · iexact Hk
  isplitl [Hv]; · iexact Hv
  isplitl [Hq]; · iexact Hq
  isplitl [Hx]; · iexact Hx
  isplitl [Ho]; · iexact Ho
  isplitl [Ht]; · iexact Ht
  isplitl [Hqs]; · iexact Hqs
  isplitl [Hxs]; · iexact Hxs
  isplitl [Hws]; · iexact Hws
  isplitl [Hos]; · iexact Hos
  iexact HR

/-- The same of the array of results, which a copy goes to. -/
theorem Mst_oo : Mst E σ ⊢ iprop(((levAts (K (F := F)).L (K (F := F)).lev) ∗ ((oS.view.loc E.T) ↦{fullShare} σ.o)
      ∗ ((oM.view.loc E.T) ↦[E.S]{fullShare} σ.out) ∗ Mst.rest E)
    ∗ (∀ f, ((levAts (K (F := F)).L (K (F := F)).lev) ∗ ((oS.view.loc E.T) ↦{fullShare} σ.o)
      ∗ ((oM.view.loc E.T) ↦[E.S]{fullShare} f) ∗ Mst.rest E) -∗ Mst E { σ with out := f })) := by
  unfold Mst
  iintro ⟨Hl, Hk, Hv, Hq, Hx, Ho, Ht, Hqs, Hxs, Hws, Hos, HR⟩
  isplitl [Hl Ho Hos HR]
  · isplitl [Hl]; · iexact Hl
    isplitl [Hos]; · iexact Hos
    isplitl [Ho]; · iexact Ho
    iexact HR
  iintro %f ⟨Hl, Hos, Ho, HR⟩
  isplitl [Hl]; · iexact Hl
  isplitl [Hk]; · iexact Hk
  isplitl [Hv]; · iexact Hv
  isplitl [Hq]; · iexact Hq
  isplitl [Hx]; · iexact Hx
  isplitl [Ho]; · iexact Ho
  isplitl [Ht]; · iexact Ht
  isplitl [Hqs]; · iexact Hqs
  isplitl [Hxs]; · iexact Hxs
  isplitl [Hws]; · iexact Hws
  isplitl [Hos]; · iexact Hos
  iexact HR

abbrev Own (s : DmaSems sig S_) : Prop := (SemLoc.dma s.sem : SemLoc sig).isScoped .scVector = true

/-- A copy of a head's half of the keys into the scratch of the table. -/
theorem Tr.cpK {o : Fin 3 → ℕ} {oi} {s : DmaSems sig S_} {k : PR F E.i γ} {post : γ → St F → Prop} (hs : Own s)
    (hk : Tr E { σ with t := fun x => at3 E.k (o 0) (o 1) (o 2 + (x 0).val) } k post) : Tr E σ (cpT E.i mm kM o oi s k) post := by
  intro R Q hQ
  iintro ⟨HM, HR⟩
  ihave H := Mst_kt $$ HM
  icases H with ⟨Ht, HM⟩
  have hd := dma_step (E := E) (F := F) (Q := Q) (k := k)
    ((kM.slice (Rect.unit (s := S12x2x67584) o S1x1x67584.size oi) (fun _ => rfl)).squeeze S67584 squeezes_S1x1x67584_S67584)
    tS s.sem hs (by decide) (Finset.subset_univ _) (Finset.subset_univ _)
    (hsrc := (View.wordExact_bits rfl).reshape _ _) (hdst := (Memref.isWhole_whole _).wordExact) (hsem := ⟨Or.inl rfl, trivial⟩)
    (hsrc' := (View.wordExact_bits rfl).reshape _ _) (hdst' := (Memref.isWhole_whole _).wordExact) (q := E.p) (fs := E.k) (fd := σ.t)
  rw [View.write_whole_univ] at hd
  iapply hd $$ Ht
  iintro Ht
  iapply (hk R Q hQ)
  isplitr [HR]
  · have e : (fun x : (Flat 67584).Idx => at3 E.k (o 0) (o 1) (o 2 + (x 0).val)) = View.read (Elt F)
        ((kM.slice (Rect.unit (s := S12x2x67584) o S1x1x67584.size oi) (fun _ => rfl)).squeeze S67584 squeezes_S1x1x67584_S67584).view E.k :=
      funext fun x => (congrArg E.k (emb3 (View.whole main_v3_scv) (n := 67584) o oi _ x)).symm
    rw [e]
    iapply HM; iexact Ht
  · iexact HR

/-- The same of the values. -/
theorem Tr.cpV {o : Fin 3 → ℕ} {oi} {s : DmaSems sig S_} {k : PR F E.i γ} {post : γ → St F → Prop} (hs : Own s)
    (hk : Tr E { σ with t := fun x => at3 E.v (o 0) (o 1) (o 2 + (x 0).val) } k post) : Tr E σ (cpT E.i mm vM o oi s k) post := by
  intro R Q hQ
  iintro ⟨HM, HR⟩
  ihave H := Mst_vt $$ HM
  icases H with ⟨Ht, HM⟩
  have hd := dma_step (E := E) (F := F) (Q := Q) (k := k)
    ((vM.slice (Rect.unit (s := S12x2x67584) o S1x1x67584.size oi) (fun _ => rfl)).squeeze S67584 squeezes_S1x1x67584_S67584)
    tS s.sem hs (by decide) (Finset.subset_univ _) (Finset.subset_univ _)
    (hsrc := (View.wordExact_bits rfl).reshape _ _) (hdst := (Memref.isWhole_whole _).wordExact) (hsem := ⟨Or.inl rfl, trivial⟩)
    (hsrc' := (View.wordExact_bits rfl).reshape _ _) (hdst' := (Memref.isWhole_whole _).wordExact) (q := E.p) (fs := E.v) (fd := σ.t)
  rw [View.write_whole_univ] at hd
  iapply hd $$ Ht
  iintro Ht
  iapply (hk R Q hQ)
  isplitr [HR]
  · have e : (fun x : (Flat 67584).Idx => at3 E.v (o 0) (o 1) (o 2 + (x 0).val)) = View.read (Elt F)
        ((vM.slice (Rect.unit (s := S12x2x67584) o S1x1x67584.size oi) (fun _ => rfl)).squeeze S67584 squeezes_S1x1x67584_S67584).view E.v :=
      funext fun x => (congrArg E.v (emb3 (View.whole main_v7_scv) (n := 67584) o oi _ x)).symm
    rw [e]
    iapply HM; iexact Ht
  · iexact HR

/-- A copy of a block of queries into their scratch. -/
theorem Tr.cpQ {o : Fin 2 → ℕ} {oi} {s : DmaSems sig S_} {k : PR F E.i γ} {post : γ → St F → Prop} (hs : Own s)
    (hk : Tr E { σ with q := fun x => atQ E.q (o 0) (o 1 + (x 0).val) } k post) : Tr E σ (cpQ E.i mm o oi s k) post := by
  intro R Q hQ
  iintro ⟨HM, HR⟩
  ihave H := Mst_qq $$ HM
  icases H with ⟨Ht, HM⟩
  have hd := dma_step (E := E) (F := F) (Q := Q) (k := k)
    ((qM.slice (Rect.unit (s := S12x133120) o S1x8320.size oi) (fun _ => rfl)).squeeze S8320 squeezes_S1x8320_S8320)
    qS s.sem hs (by decide) (Finset.subset_univ _) (Finset.subset_univ _)
    (hsrc := (View.wordExact_bits rfl).reshape _ _) (hdst := (Memref.isWhole_whole _).wordExact) (hsem := ⟨Or.inl rfl, trivial⟩)
    (hsrc' := (View.wordExact_bits rfl).reshape _ _) (hdst' := (Memref.isWhole_whole _).wordExact) (q := E.p) (fs := E.q) (fd := σ.q)
  rw [View.write_whole_univ] at hd
  iapply hd $$ Ht
  iintro Ht
  iapply (hk R Q hQ)
  isplitr [HR]
  · have e : (fun x : (Flat 8320).Idx => atQ E.q (o 0) (o 1 + (x 0).val)) = View.read (Elt F)
        ((qM.slice (Rect.unit (s := S12x133120) o S1x8320.size oi) (fun _ => rfl)).squeeze S8320 squeezes_S1x8320_S8320).view E.q :=
      funext fun x => (congrArg E.q (embQ (View.whole main_v9_scv) (n := 8320) o oi _ x)).symm
    rw [e]
    iapply HM; iexact Ht
  · iexact HR

/-- A copy of a block of indices into their scratch. -/
theorem Tr.cpX {o : Fin 2 → ℕ} {oi} {s : DmaSems sig S_} {k : PR F E.i γ} {post : γ → St F → Prop} (hs : Own s)
    (hk : Tr E { σ with x := fun x => atX E.x (o 0) (o 1 + (x 0).val) } k post) : Tr E σ (cpX E.i mm o oi s k) post := by
  intro R Q hQ
  iintro ⟨HM, HR⟩
  ihave H := Mst_xx $$ HM
  icases H with ⟨Ht, HM⟩
  have hd := dma_step (E := E) (F := F) (Q := Q) (k := k)
    ((xM.slice (Rect.unit (s := S12x34816) o S1x2176.size oi) (fun _ => rfl)).squeeze S2176 squeezes_S1x2176_S2176)
    xS s.sem hs (by decide) (Finset.subset_univ _) (Finset.subset_univ _)
    (hsrc := (View.wordExact_bits rfl).reshape _ _) (hdst := (Memref.isWhole_whole _).wordExact) (hsem := ⟨Or.inl rfl, trivial⟩)
    (hsrc' := (View.wordExact_bits rfl).reshape _ _) (hdst' := (Memref.isWhole_whole _).wordExact) (q := E.p) (fs := E.x) (fd := σ.x)
  rw [View.write_whole_univ] at hd
  iapply hd $$ Ht
  iintro Ht
  iapply (hk R Q hQ)
  isplitr [HR]
  · have e : (fun x : (Flat 2176).Idx => atX E.x (o 0) (o 1 + (x 0).val)) = View.read (Elt F)
        ((xM.slice (Rect.unit (s := S12x34816) o S1x2176.size oi) (fun _ => rfl)).squeeze S2176 squeezes_S1x2176_S2176).view E.x :=
      funext fun x => (congrArg E.x (embX (View.whole main_v11_scv) (n := 2176) o oi _ x)).symm
    rw [e]
    iapply HM; iexact Ht
  · iexact HR

/-- The array of results with a block's outputs put into it. -/
def wrO (f : S12x2x67584.Idx → Elt F .f32) (g : (Flat 4224).Idx → Elt F .f32) (a b c : ℕ) : S12x2x67584.Idx → Elt F .f32 := fun y =>
  if (y 0).val = a ∧ (y 1).val = b ∧ c ≤ (y 2).val ∧ (y 2).val < c + 4224 then rd g ((y 2).val - c) else f y

/-- A copy of a block's outputs from their scratch. -/
theorem Tr.cpO {o : Fin 3 → ℕ} {oi : ∀ d, o d + S1x1x4224.size d ≤ S12x2x67584.size d} {s : DmaSems sig S_} {k : PR F E.i γ} {post : γ → St F → Prop} (hs : Own s)
    (hS : ∀ y : S12x2x67584.Idx, (y 0).val = o 0 → (y 1).val = o 1 → o 2 ≤ (y 2).val → (y 2).val < o 2 + 4224 → y ∈ E.S)
    (hk : Tr E { σ with out := wrO σ.out σ.o (o 0) (o 1) (o 2) } k post) : Tr E σ (cpO E.i mm o oi s k) post := by
  intro R Q hQ
  iintro ⟨HM, HR⟩
  ihave H := Mst_oo $$ HM
  icases H with ⟨Ht, HM⟩
  have h0 : o 0 + 1 ≤ 12 := oi 0
  have h1 : o 1 + 1 ≤ 2 := oi 1
  have h2 : o 2 + 4224 ≤ 67584 := oi 2
  have em : ∀ x : (Flat 4224).Idx, ((oM.slice (Rect.unit (s := S12x2x67584) o S1x1x4224.size oi) (fun _ => rfl)).squeeze S4224 squeezes_S1x1x4224_S4224).view.emb x
      = ixc pos3 ![o 0, o 1, o 2 + (x 0).val] := fun x => emb3 (View.whole main_v12_scv) (n := 4224) o oi _ x
  have ev : ∀ x : (Flat 4224).Idx, (ixc pos3 ![o 0, o 1, o 2 + (x 0).val] 0).val = o 0 ∧ (ixc pos3 ![o 0, o 1, o 2 + (x 0).val] 1).val = o 1
      ∧ (ixc pos3 ![o 0, o 1, o 2 + (x 0).val] 2).val = o 2 + (x 0).val := fun x =>
    have hx : (x 0).val < 4224 := (x 0).isLt
    ⟨Nat.mod_eq_of_lt (show o 0 < 12 by omega), Nat.mod_eq_of_lt (show o 1 < 2 by omega), Nat.mod_eq_of_lt (show o 2 + (x 0).val < 67584 by omega)⟩
  have hd := dma_step (E := E) (F := F) (Q := Q) (k := k) oS
    ((oM.slice (Rect.unit (s := S12x2x67584) o S1x1x4224.size oi) (fun _ => rfl)).squeeze S4224 squeezes_S1x1x4224_S4224)
    s.sem hs (by decide) (Ssrc := Finset.univ) (Sd := E.S) (Finset.subset_univ _) (fun y hy => by
      obtain ⟨x, -, rfl⟩ := Finset.mem_map.mp hy
      rw [em]
      have hx : (x 0).val < 4224 := (x 0).isLt
      obtain ⟨e0, e1, e2⟩ := ev x
      exact hS _ e0 e1 (by rw [e2]; omega) (by rw [e2]; omega))
    (hsrc := (Memref.isWhole_whole _).wordExact) (hdst := (View.wordExact_bits rfl).reshape _ _) (hsem := ⟨Or.inl rfl, trivial⟩)
    (hsrc' := (Memref.isWhole_whole _).wordExact) (hdst' := (View.wordExact_bits rfl).reshape _ _) (q := fullShare) (fs := σ.o) (fd := σ.out)
  iapply hd $$ Ht
  iintro Ht
  iapply (hk R Q hQ)
  isplitr [HR]
  · have e : wrO σ.out σ.o (o 0) (o 1) (o 2) = View.write (Elt F)
        ((oM.slice (Rect.unit (s := S12x2x67584) o S1x1x4224.size oi) (fun _ => rfl)).squeeze S4224 squeezes_S1x1x4224_S4224).view σ.out
        (View.read (Elt F) oS.view σ.o) Finset.univ := by
      funext y
      unfold wrO
      split
      · rename_i hy
        have hlt : (y 2).val - o 2 < 4224 := by omega
        have ey : y = ((oM.slice (Rect.unit (s := S12x2x67584) o S1x1x4224.size oi) (fun _ => rfl)).squeeze S4224 squeezes_S1x1x4224_S4224).view.emb
            (Shape.ofLane (d := ![4224]) (⟨(y 2).val - o 2, hlt⟩ : Fin 4224)) := by
          rw [em]
          refine ixc_of_eq pos3 _ y fun a => ?_
          match a with
          | 0 => exact hy.1
          | 1 => exact hy.2.1
          | 2 => show (y 2).val = o 2 + ((y 2).val - o 2); omega
        conv_rhs => rw [ey, View.write_emb_of_mem _ _ (Finset.mem_univ _)]
        unfold rd
        rw [show (Fin.ofNat 4224 ((y 2).val - o 2)) = (⟨(y 2).val - o 2, hlt⟩ : Fin 4224) from Fin.ext (Nat.mod_eq_of_lt hlt)]
        rfl
      · rename_i hy
        rw [View.write_of_not_mem]
        intro hm
        obtain ⟨x, -, rfl⟩ := Finset.mem_map.mp hm
        rw [em] at hy
        have hx : (x 0).val < 4224 := (x 0).isLt
        obtain ⟨e0, e1, e2⟩ := ev x
        exact hy ⟨e0, e1, by rw [e2]; omega, by rw [e2]; omega⟩
    rw [e]
    iapply HM; iexact Ht
  · iexact HR

end Cert.Proof.Gk
-- ==== Proof.Group.lean ====
/-
  What a task's operations compute: the scores, the weights and the outputs of a task's tokens, and what each loop of
  the program does to the scratches.
-/
module

public import proofs.«01_k».proof.Proof.Tr

@[expose] public section

noncomputable section

namespace Cert.Proof.Gk

open Cert.KernelIdeal Cert.KernelIdeal.Gen
open Idealize.ShloMosaic Idealize.SL.Sem

variable {F : FTy → Type} [FloatOps F]

/-! ## The values -/

section Values

variable (k v : S12x2x67584.Idx → Elt F .f32) (q : S12x133120.Idx → Elt F .f32) (x : S12x34816.Idx → Elt F .i32)

/-- The place in a table of the first feature of the `j`-th neighbour of row `r`. -/
def nb (h r j : ℕ) : ℕ := (atX x h (r * 17 + j)).toNat * 33

/-- The score of row `r` and its `j`-th neighbour over the first `n` features. -/
def sc' (h r j : ℕ) : ℕ → F .f32
  | 0 => FloatOps.ofBits .f32 0x00000000#32
  | n + 1 => FloatOps.addf (sc' h r j n) (FloatOps.mulf (at3 k h (n / 32) (nb x h r j + n % 32)) (atQ q h (r * 65 + n)))

/-- The running maximum. -/
def mx (f : ℕ → F .f32) : ℕ → F .f32
  | 0 => f 0
  | n + 1 => FloatOps.maximumf (mx f n) (f (n + 1))

/-- The running sum. -/
def sm (f : ℕ → F .f32) : ℕ → F .f32
  | 0 => f 0
  | n + 1 => FloatOps.addf (sm f n) (f (n + 1))

/-- The exponential of the scaled difference to the maximum. -/
def ex (f : ℕ → F .f32) (j : ℕ) : F .f32 :=
  FloatOps.exp (FloatOps.mulf (FloatOps.subf (f j) (mx f 15)) (FloatOps.ofBits .f32 0x3E000000#32))

/-- The weight. -/
def wg (f : ℕ → F .f32) (j : ℕ) : F .f32 :=
  FloatOps.mulf (ex f j) (FloatOps.divf (FloatOps.ofBits .f32 0x3F800000#32) (sm (ex f) 15))

/-- The weight of row `r`'s `j`-th neighbour. -/
def wt (h r j : ℕ) : F .f32 := wg (fun j => sc' k q x h r j 64) j

/-- The output of row `r` at the feature `c` of a half. -/
def ov (h b r c : ℕ) : F .f32 := sm (fun j => FloatOps.mulf (wt k q x h r j) (at3 v h b (nb x h r j + c))) 15

end Values

theorem mx_congr {f g : ℕ → F .f32} : ∀ n, (∀ j ≤ n, f j = g j) → mx f n = mx g n
  | 0, h => h 0 (Nat.le_refl 0)
  | n + 1, h => by
    unfold mx
    rw [mx_congr n fun j hj => h j (by omega), h (n + 1) (Nat.le_refl _)]

theorem sm_congr {f g : ℕ → F .f32} : ∀ n, (∀ j ≤ n, f j = g j) → sm f n = sm g n
  | 0, h => h 0 (Nat.le_refl 0)
  | n + 1, h => by
    unfold sm
    rw [sm_congr n fun j hj => h j (by omega), h (n + 1) (Nat.le_refl _)]

theorem wg_congr {f g : ℕ → F .f32} (h : ∀ j < 16, f j = g j) {j : ℕ} (hj : j < 16) : wg f j = wg g j := by
  have he : ∀ j < 16, ex f j = ex g j := fun j hj => by
    unfold ex
    rw [h j hj, mx_congr 15 fun j hj => h j (by omega)]
  unfold wg
  rw [he j hj, sm_congr 15 fun j hj => he j (by omega)]

theorem mxs_lane (lg : ℕ → V16 F) (l : S16.Idx) : ∀ n, mxs lg n l = mx (fun j => lg j l) n
  | 0 => rfl
  | n + 1 => congrArg (fun y => FloatOps.maximumf y (lg (n + 1) l)) (mxs_lane lg l n)

theorem sms_lane (e : ℕ → V16 F) (l : S16.Idx) : ∀ n, sms e n l = sm (fun j => e j l) n
  | 0 => rfl
  | n + 1 => congrArg (fun y => FloatOps.addf y (e (n + 1) l)) (sms_lane e l n)

theorem wts_lane (lg : ℕ → V16 F) (j : ℕ) (l : S16.Idx) : wts lg j l = wg (fun j => lg j l) j := by
  have he : ∀ j, exs lg j l = ex (fun j => lg j l) j := fun j => by
    show FloatOps.exp (FloatOps.mulf (FloatOps.subf (lg j l) (mxs lg 15 l)) _) = _
    rw [mxs_lane]; rfl
  show FloatOps.mulf (exs lg j l) (FloatOps.divf _ (sms (exs lg) 15 l)) = _
  rw [he, sms_lane, show (fun j => exs lg j l) = ex (fun j => lg j l) from funext he]
  rfl

/-! ## Words -/

theorem tn_mul (a b : BitVec 32) (h : a.toNat * b.toNat < 2 ^ 32) : (a * b).toNat = a.toNat * b.toNat := by
  rw [BitVec.toNat_mul, Nat.mod_eq_of_lt h]

theorem tn_add (a b : BitVec 32) (h : a.toNat + b.toNat < 2 ^ 32) : (a + b).toNat = a.toNat + b.toNat := by
  rw [BitVec.toNat_add, Nat.mod_eq_of_lt h]

theorem tn_of (n : ℕ) (h : n < 2 ^ 32) : (BitVec.ofNat 32 n).toNat = n := by
  rw [BitVec.toNat_ofNat, Nat.mod_eq_of_lt h]

theorem tn_iv (n : ℕ) (h : n < 2 ^ 32) : (Scf.iv 0#32 1#32 n).toNat = n := by
  show (0#32 + BitVec.ofNat 32 n * 1#32).toNat = n
  rw [BitVec.zero_add, BitVec.mul_one, tn_of n h]

theorem t2_lt (t : Fin k0_t2_loop.trips) : t.val < 8 := t.isLt.trans_le (by decide)
theorem t3_lt (t : Fin k0_t3_loop.trips) : t.val < 32 := t.isLt.trans_le (by decide)

/-- The lane of a number. -/
def lane (n : ℕ) : S16.Idx := Shape.ofLane (d := ![16]) (Fin.ofNat 16 n)

theorem lane_val (n : ℕ) (h : n < 16) : (lane n 0).val = n := Nat.mod_eq_of_lt h

theorem lane_lt (l : S16.Idx) : (l 0).val < 16 := (l 0).isLt

theorem lane_ext {l l' : S16.Idx} (h : (l 0).val = (l' 0).val) : l = l' :=
  funext fun (a : Fin 1) => by obtain rfl : a = 0 := Subsingleton.elim _ _; exact Fin.ext h

theorem rowsV_val (t2 : Fin k0_t2_loop.trips) (l : S16.Idx) : (rowsV t2 l).toNat = 16 * t2.val + (l 0).val := by
  have h2 := t2_lt t2
  have hl := lane_lt l
  show (Scf.iv 0#32 1#32 t2.val * 16#32 + BitVec.ofNat 32 (0 * 16 + (l 0).val)).toNat = _
  have e : (Scf.iv 0#32 1#32 t2.val * 16#32).toNat = t2.val * 16 := by
    rw [tn_mul _ _ (by rw [tn_iv _ (by omega)]; show t2.val * 16 < _; omega), tn_iv _ (by omega)]; rfl
  rw [tn_add _ _ (by rw [e, tn_of _ (by omega)]; omega), e, tn_of _ (by omega)]
  omega

/-- A word times a constant plus a constant. -/
theorem mulAdd_val (a : W16) (c d : ℕ) (l : S16.Idx) (hc : c < 2 ^ 32) (hd : d < 2 ^ 32) (h : (a l).toNat * c + d < 2 ^ 32) :
    ((addi (muli a (broadcast S16 (BitVec.ofNat 32 c))) (broadcast S16 (BitVec.ofNat 32 d)) : W16) l).toNat = (a l).toNat * c + d := by
  show (a l * BitVec.ofNat 32 c + BitVec.ofNat 32 d).toNat = _
  have e : (a l * BitVec.ofNat 32 c).toNat = (a l).toNat * c := by
    rw [tn_mul _ _ (by rw [tn_of _ hc]; omega), tn_of _ hc]
  rw [tn_add _ _ (by rw [e, tn_of _ hd]; omega), e, tn_of _ hd]

theorem mul_val (a : W16) (c : ℕ) (l : S16.Idx) (hc : c < 2 ^ 32) (h : (a l).toNat * c < 2 ^ 32) :
    ((muli a (broadcast S16 (BitVec.ofNat 32 c)) : W16) l).toNat = (a l).toNat * c := by
  show (a l * BitVec.ofNat 32 c).toNat = _
  rw [tn_mul _ _ (by rw [tn_of _ hc]; omega), tn_of _ hc]

theorem addBc_val (a : W16) (t3 : Fin k0_t3_loop.trips) (l : S16.Idx) (h : (a l).toNat < 2 ^ 31) :
    ((addi a (bcI t3) : W16) l).toNat = (a l).toNat + t3.val := by
  have h3 := t3_lt t3
  show (a l + Scf.iv 0#32 1#32 t3.val).toNat = _
  rw [tn_add _ _ (by rw [tn_iv _ (by omega)]; omega), tn_iv _ (by omega)]

theorem rd_wr {n : ℕ} [NeZero n] {A : Type} (f : (Flat n).Idx → A) (p : ℕ) (y : S16.Idx → A) (k : ℕ) (hk : k < n) :
    rd (wr f p y) k = if p ≤ k ∧ k < p + 16 then y (lane (k - p)) else rd f k := by
  have e : ((Shape.ofLane (d := ![n]) (Fin.ofNat n k)) 0).val = k := Nat.mod_eq_of_lt hk
  unfold rd wr
  by_cases h : p ≤ k ∧ k < p + 16
  · rw [if_pos h, dif_pos (by rw [e]; exact h)]
    refine congrArg y (lane_ext ?_)
    rw [lane_val _ (by omega)]
    show ((Shape.ofLane (d := ![n]) (Fin.ofNat n k)) 0).val - p = _
    rw [e]
  · rw [if_neg h, dif_neg (by rw [e]; exact h)]

theorem ofT_toT (f : ℕ → FVec F S16 .f32) : ∀ j < 16, ofT (toT f) j = f j
  | 0, _ | 1, _ | 2, _ | 3, _ | 4, _ | 5, _ | 6, _ | 7, _ | 8, _ | 9, _ | 10, _ | 11, _ | 12, _ | 13, _ | 14, _ | 15, _ => rfl
  | n + 16, h => absurd h (by omega)

variable {E : Env F} {γ : Type} {σ : St F} {ck : Chks}

/-! ## Sixteen loads and sixteen stores of the weights -/

theorem Tr.ldAll {w : WOff} {p : ℕ} {acc : ℕ → V16 F} {k : (ℕ → V16 F) → PR F E.i γ} {post : γ → St F → Prop}
    (hw : ∀ j < 16, w.at j = 768 * j + p)
    (hk : ∀ f, (∀ j < 16, f j = fun l => rd σ.w (768 * j + p + (l 0).val)) → Tr E σ (k f) post) :
    Tr E σ (seqN E.i (fun j k => Gk.ldW E.i mm w j k) 16 0 acc k) post :=
  Tr.seqV (fun j => fun l => rd σ.w (768 * j + p + (l 0).val)) (fun s k hs h => Tr.ldW (by rw [hw s hs]; exact h)) hk

theorem Tr.stAll {w : WOff} {p : ℕ} {x : ℕ → V16 F} {acc : ℕ → PUnit} {k : (ℕ → PUnit) → PR F E.i γ} {post : γ → St F → Prop}
    (hw : ∀ j < 16, w.at j = 768 * j + p) (hp : p + 16 ≤ 768)
    (hk : ∀ f w', (∀ j < 16, ∀ t < 768, rd w' (768 * j + t) = if p ≤ t ∧ t < p + 16 then x j (lane (t - p)) else rd σ.w (768 * j + t)) →
      Tr E { σ with w := w' } (k f) post) :
    Tr E σ (seqN E.i (Gk.stW E.i mm w x) 16 0 acc k) post := by
  refine Tr.seqS (fun s σ' => ∃ w', σ' = { σ with w := w' } ∧ ∀ j < 16, ∀ t < 768,
    rd w' (768 * j + t) = if p ≤ t ∧ t < p + 16 ∧ j < s then x j (lane (t - p)) else rd σ.w (768 * j + t)) ?_ ?_ ?_
  · exact ⟨σ.w, rfl, fun j _ t _ => by rw [if_neg (by omega)]⟩
  · rintro s _ k hs ⟨w', rfl, h⟩ hx
    refine Tr.stW (hx _ ⟨_, rfl, fun j hj t ht => ?_⟩)
    rw [rd_wr _ _ _ _ (by omega), hw s hs]
    by_cases hc : 768 * s + p ≤ 768 * j + t ∧ 768 * j + t < 768 * s + p + 16
    · obtain rfl : j = s := by omega
      rw [if_pos hc, if_pos (by omega), show 768 * j + t - (768 * j + p) = t - p by omega]
    · rw [if_neg hc]
      show rd w' _ = _
      rw [h j hj t ht]
      by_cases hd : p ≤ t ∧ t < p + 16 ∧ j < s
      · rw [if_pos hd, if_pos (by omega)]
      · rw [if_neg hd, if_neg (by omega)]
  · rintro f _ ⟨w', rfl, h⟩
    refine hk f w' fun j hj t ht => ?_
    rw [h j hj t ht]
    by_cases hc : p ≤ t ∧ t < p + 16
    · rw [if_pos hc, if_pos (by omega)]
    · rw [if_neg hc, if_neg (by omega)]

/-! ## A block's parts in the scratches -/

/-- The scratch of indices holds block `b` of head `h`. -/
def XOk (E : Env F) (σ : St F) (h b : ℕ) : Prop := ∀ n < 2176, rd σ.x n = atX E.x h (b * 2176 + n)
/-- The scratch of queries holds block `b` of head `h`. -/
def QOk (E : Env F) (σ : St F) (h b : ℕ) : Prop := ∀ n < 8320, rd σ.q n = atQ E.q h (b * 8320 + n)
/-- The scratch of the table holds half `c` of head `h` of `f`. -/
def TOk (f : S12x2x67584.Idx → Elt F .f32) (σ : St F) (h c : ℕ) : Prop := ∀ n < 67584, rd σ.t n = at3 f h c n

/-- Every index names a row. -/
def Env.Rows (E : Env F) : Prop := ∀ y, (E.x y).toNat < 2048

theorem nb_lt (hE : E.Rows) (h r j : ℕ) : nb E.x h r j ≤ 2047 * 33 := by
  have := hE (ixc posX ![h, r * 17 + j])
  unfold nb
  exact Nat.mul_le_mul_right 33 (Nat.le_of_lt_succ this)

/-- The neighbours' places of sixteen tokens. -/
theorem Tr.bases {h b : ℕ} {t2 : Fin k0_t2_loop.trips} {k : (ℕ → W16) → PR F E.i γ} {post : γ → St F → Prop} (hE : E.Rows)
    (hx : XOk E σ h b) (hk : ∀ f, (∀ j < 16, ∀ l, (f j l).toNat = nb E.x h (b * 128 + 16 * t2.val + (l 0).val) j) → Tr E σ (k f) post) :
    Tr E σ (Gk.bases E.i mm ck (rowsV t2) k) post := by
  have h2 := t2_lt t2
  have ha : ∀ j < 16, ∀ l, ((addi (muli (rowsV t2) (broadcast S16 17#32)) (broadcast S16 (BitVec.ofNat 32 j)) : W16) l).toNat
      = (16 * t2.val + (l 0).val) * 17 + j := fun j hj l => by
    have hl := lane_lt l
    rw [mulAdd_val (rowsV t2) 17 j l (by omega) (by omega) (by rw [rowsV_val]; omega), rowsV_val]
  refine Tr.seqV (fun j => muli (fun l => rd σ.x ((16 * t2.val + (l 0).val) * 17 + j)) (broadcast S16 33#32)) (fun j k hj hh => ?_) (fun f hf => ?_)
  · refine Tr.gatX (fun l => ?_) ?_
    · have hl := lane_lt l
      rw [ha j hj]; omega
    · rw [show (fun l => rd σ.x ((addi (muli (rowsV t2) (broadcast S16 17#32)) (broadcast S16 (BitVec.ofNat 32 j)) : W16) l).toNat)
        = fun l => rd σ.x ((16 * t2.val + (l 0).val) * 17 + j) from funext fun l => congrArg (rd σ.x) (ha j hj l)]
      exact hh
  · refine hk f fun j hj l => ?_
    have hl := lane_lt l
    have e : rd σ.x ((16 * t2.val + (l 0).val) * 17 + j) = atX E.x h ((b * 128 + 16 * t2.val + (l 0).val) * 17 + j) := by
      rw [hx _ (by omega)]
      exact congrArg (fun n => atX E.x h n) (by omega)
    rw [hf j hj, mul_val _ 33 l (by omega)]
    · show (rd σ.x ((16 * t2.val + (l 0).val) * 17 + j)).toNat * 33 = _
      rw [e]; rfl
    · show (rd σ.x ((16 * t2.val + (l 0).val) * 17 + j)).toNat * 33 < _
      rw [e]
      have := hE (ixc posX ![h, (b * 128 + 16 * t2.val + (l 0).val) * 17 + j])
      have h3 : (atX E.x h ((b * 128 + 16 * t2.val + (l 0).val) * 17 + j)).toNat < 2048 := this
      omega

/-! ## The score loop -/

/-- One feature of sixteen tokens. -/
theorem Tr.kc {h b c n0 : ℕ} {t2 : Fin k0_t2_loop.trips} {base : ℕ → W16} (hE : E.Rows) (hn : n0 = 32 * c) (hc : c < 2)
    (ht : TOk E.k σ h c) (hq : QOk E σ h b)
    (hb : ∀ j < 16, ∀ l, (base j l).toNat = nb E.x h (b * 128 + 16 * t2.val + (l 0).val) j)
    (t3 : Fin k0_t3_loop.trips) (acc : T16 F)
    (ha : ∀ j < 16, ∀ l, ofT acc j l = sc' E.k E.q E.x h (b * 128 + 16 * t2.val + (l 0).val) j (n0 + t3.val)) :
    Tr E σ (Gk.kcBody E.i mm ck (addi (muli (rowsV t2) (broadcast S16 65#32)) (broadcast S16 (BitVec.ofNat 32 n0))) base t3 acc)
      (fun acc' σ' => σ' = σ ∧ ∀ j < 16, ∀ l, ofT acc' j l = sc' E.k E.q E.x h (b * 128 + 16 * t2.val + (l 0).val) j (n0 + (t3.val + 1))) := by
  have h2 := t2_lt t2
  have h3 := t3_lt t3
  have eq1 : ∀ l, ((addi (muli (rowsV t2) (broadcast S16 65#32)) (broadcast S16 (BitVec.ofNat 32 n0)) : W16) l).toNat
      = (16 * t2.val + (l 0).val) * 65 + n0 := fun l => by
    have hl := lane_lt l
    rw [mulAdd_val (rowsV t2) 65 n0 l (by omega) (by omega) (by rw [rowsV_val]; omega), rowsV_val]
  have eq2 : ∀ l, ((addi (addi (muli (rowsV t2) (broadcast S16 65#32)) (broadcast S16 (BitVec.ofNat 32 n0))) (bcI t3) : W16) l).toNat
      = (16 * t2.val + (l 0).val) * 65 + n0 + t3.val := fun l => by
    have hl := lane_lt l
    rw [addBc_val _ _ _ (by rw [eq1]; omega), eq1]
  have eb : ∀ j < 16, ∀ l, ((addi (base j) (bcI t3) : W16) l).toNat = nb E.x h (b * 128 + 16 * t2.val + (l 0).val) j + t3.val := fun j hj l => by
    have := nb_lt hE h (b * 128 + 16 * t2.val + (l 0).val) j
    rw [addBc_val _ _ _ (by rw [hb j hj]; omega), hb j hj]
  refine Tr.gatQ (fun l => ?_) ?_
  · have hl := lane_lt l
    rw [eq2]; omega
  refine Tr.seqV (fun j => addf (ofT acc j) (mulf (fun l => rd σ.t ((addi (base j) (bcI t3) : W16) l).toNat)
    (fun l => rd σ.q ((addi (addi (muli (rowsV t2) (broadcast S16 65#32)) (broadcast S16 (BitVec.ofNat 32 n0))) (bcI t3) : W16) l).toNat)))
    (fun j k hj hh => Tr.gatT (fun l => ?_) hh) (fun f hf => ?_)
  · have := nb_lt hE h (b * 128 + 16 * t2.val + (l 0).val) j
    rw [eb j hj]; omega
  · refine Tr.pure ⟨rfl, fun j hj l => ?_⟩
    have hl := lane_lt l
    have hnb := nb_lt hE h (b * 128 + 16 * t2.val + (l 0).val) j
    rw [ofT_toT f j hj, hf j hj]
    show FloatOps.addf (ofT acc j l) (FloatOps.mulf (rd σ.t ((addi (base j) (bcI t3) : W16) l).toNat) (rd σ.q _)) = _
    rw [ha j hj, eb j hj, eq2, ht _ (by omega), hq _ (by omega)]
    have e1 : (n0 + t3.val) / 32 = c := by omega
    have e2 : (n0 + t3.val) % 32 = t3.val := by omega
    have e3 : b * 8320 + ((16 * t2.val + (l 0).val) * 65 + n0 + t3.val) = (b * 128 + 16 * t2.val + (l 0).val) * 65 + (n0 + t3.val) := by omega
    rw [e3]
    show _ = FloatOps.addf _ (FloatOps.mulf (at3 E.k h ((n0 + t3.val) / 32) (nb E.x h (b * 128 + 16 * t2.val + (l 0).val) j + (n0 + t3.val) % 32)) _)
    rw [e1, e2]
    rfl

/-- The half of the features a pass of the score loop works on. -/
abbrev hf (first : Bool) : ℕ := bif first then 0 else 1

/-- A step of a block's score loop. -/
theorem Tr.kg {h b p : ℕ} {first : Bool} {w : WOff} {t2 : Fin k0_t2_loop.trips} (hE : E.Rows)
    (hw : ∀ j < 16, w.at j = 768 * j + p) (hp : p + 16 ≤ 768)
    (ht : TOk E.k σ h (hf first)) (hq : QOk E σ h b) (hx : XOk E σ h b)
    (hl : first = false → ∀ j < 16, ∀ l < 16, rd σ.w (768 * j + p + l) = sc' E.k E.q E.x h (b * 128 + 16 * t2.val + l) j 32) :
    Tr E σ (Gk.kgBody E.i mm ck first w t2) (fun _ σ' => ∃ w', σ' = { σ with w := w' } ∧ ∀ j < 16, ∀ t < 768,
      rd w' (768 * j + t) = if p ≤ t ∧ t < p + 16 then sc' E.k E.q E.x h (b * 128 + 16 * t2.val + (t - p)) j (32 * hf first + 32)
        else rd σ.w (768 * j + t)) := by
  refine Tr.bases hE hx fun base hb => ?_
  have key : ∀ acc0 : T16 F, (∀ j < 16, ∀ l, ofT acc0 j l = sc' E.k E.q E.x h (b * 128 + 16 * t2.val + (l 0).val) j (32 * hf first)) →
      Tr E σ (Scf.Loop.for k0_t3_loop k0_t3_ok acc0
        (Gk.kcBody E.i mm ck (addi (muli (rowsV t2) (broadcast S16 65#32)) (broadcast S16 (bif first then 0#32 else 32#32))) base) >>= fun acc =>
        seqN E.i (Gk.stW E.i mm w (ofT acc)) 16 0 (fun _ => ⟨⟩) fun _ => Pure.pure 0#32) (fun _ σ' => ∃ w', σ' = { σ with w := w' } ∧ ∀ j < 16, ∀ t < 768,
      rd w' (768 * j + t) = if p ≤ t ∧ t < p + 16 then sc' E.k E.q E.x h (b * 128 + 16 * t2.val + (t - p)) j (32 * hf first + 32)
        else rd σ.w (768 * j + t)) := by
    intro acc0 h0
    refine Tr.bind (Tr.loop (fun n acc σ' => σ' = σ ∧ ∀ j < 16, ∀ l, ofT acc j l = sc' E.k E.q E.x h (b * 128 + 16 * t2.val + (l 0).val) j (32 * hf first + n))
      ⟨rfl, h0⟩ ?_) ?_
    · rintro t3 acc σ' ⟨rfl, ha⟩
      have hk := Tr.kc (ck := ck) (c := hf first) (n0 := 32 * hf first) hE rfl (by cases first <;> decide) ht hq hb t3 acc ha
      rw [show (bif first then 0#32 else 32#32) = BitVec.ofNat 32 (32 * hf first) by cases first <;> rfl]
      exact hk
    · rintro acc σ' ⟨rfl, ha⟩
      refine Tr.stAll hw hp fun f w' hh => Tr.pure ⟨w', rfl, fun j hj t ht => ?_⟩
      rw [hh j hj t ht]
      split
      · rename_i hc
        rw [ha j hj, lane_val _ (by omega)]
        rfl
      · rfl
  match first, key with
  | true, key => exact key _ fun j hj l => by rw [ofT_toT _ j hj]; rfl
  | false, key =>
    refine Tr.ldAll hw fun f hf' => key _ fun j hj l => ?_
    have := lane_lt l
    rw [ofT_toT _ j hj, hf' j hj]
    exact hl rfl j hj _ this

/-! ## The scratch of weights through a loop -/

/-- The places of tokens from `lo` on hold `Q` below `mid` and `P` from there to `hi`. -/
def WI (P Q : ℕ → ℕ → Elt F .f32 → Prop) (lo mid hi : ℕ) (w : (Flat 12288).Idx → Elt F .f32) : Prop :=
  ∀ t j, j < 16 → lo ≤ t → t < hi → (t < mid → Q t j (rd w (768 * j + t))) ∧ (mid ≤ t → P t j (rd w (768 * j + t)))

theorem WI.step {P Q : ℕ → ℕ → Elt F .f32 → Prop} {lo p hi : ℕ} {w w' : (Flat 12288).Idx → Elt F .f32} (hw : WI P Q lo p hi w) (hh : hi ≤ 768)
    (h : ∀ j < 16, ∀ t < 768, (p ≤ t ∧ t < p + 16 → Q t j (rd w' (768 * j + t))) ∧ (¬(p ≤ t ∧ t < p + 16) → rd w' (768 * j + t) = rd w (768 * j + t))) :
    WI P Q lo (p + 16) hi w' := by
  intro t j hj hlo hhi
  obtain ⟨h1, h2⟩ := h j hj t (by omega)
  obtain ⟨h3, h4⟩ := hw t j hj hlo hhi
  by_cases hc : p ≤ t ∧ t < p + 16
  · exact ⟨fun _ => h1 hc, fun hm => absurd hm (by omega)⟩
  · rw [h2 hc]
    exact ⟨fun hm => h3 (by omega), fun hm => h4 (by omega)⟩

section Tokens

variable (E) (W0 : ℕ)

/-- The head of a task's `u`-th block, and the block in the head. -/
abbrev hU (u : ℕ) : ℕ := (W0 + u) / 16
abbrev bU (u : ℕ) : ℕ := (W0 + u) % 16

/-- The score, over `n` features, of a task's token `t` and its `j`-th neighbour. -/
def scT (n t j : ℕ) (y : Elt F .f32) : Prop := y = sc' E.k E.q E.x (hU W0 (t / 128)) (bU W0 (t / 128) * 128 + t % 128) j n
/-- The weight of a task's token `t` and its `j`-th neighbour. -/
def wtT (t j : ℕ) (y : Elt F .f32) : Prop := y = wt E.k E.q E.x (hU W0 (t / 128)) (bU W0 (t / 128) * 128 + t % 128) j

/-- What a pass of the score loop finds in a place. -/
def preT (first : Bool) (t j : ℕ) (y : Elt F .f32) : Prop := first = false → scT E W0 32 t j y

end Tokens

variable {W0 : ℕ}

/-- What is known of a score loop's parameters: its blocks are the task's from the `lo`-th on. -/
structure KU.Ok (U : KU) (W0 lo n : ℕ) : Prop where
  trips : U.l.trips = n
  sq : Own U.sq
  sx : Own U.sx
  q : ∀ t, U.q t 0 = hU W0 (lo + t.val) ∧ U.q t 1 = bU W0 (lo + t.val) * 8320
  x : ∀ t, U.x t 0 = hU W0 (lo + t.val) ∧ U.x t 1 = bU W0 (lo + t.val) * 2176
  w : ∀ t t2, ∀ j < 16, (U.w t t2).at j = 768 * j + (128 * (lo + t.val) + 16 * t2.val)

theorem rd_mk {n : ℕ} [NeZero n] {A : Type} (g : ℕ → A) (k : ℕ) (hk : k < n) : rd (n := n) (fun x => g (x 0).val) k = g k :=
  congrArg g (Nat.mod_eq_of_lt hk)

theorem Tr.kLoop {U : KU} {first : Bool} {lo n h : ℕ} {init : BitVec 32} (hE : E.Rows) (hU' : U.Ok W0 lo n) (hn : lo + n ≤ 6)
    (hh : ∀ u, lo ≤ u → u < lo + n → hU W0 u = h) (ht : TOk E.k σ h (hf first))
    (hw : first = false → ∀ t j, j < 16 → 128 * lo ≤ t → t < 128 * (lo + n) → scT E W0 32 t j (rd σ.w (768 * j + t))) :
    Tr E σ (Gk.kLoop E.i mm ck first U init) (fun _ σ' => σ'.t = σ.t ∧ σ'.out = σ.out ∧
      ∀ t j, j < 16 → 128 * lo ≤ t → t < 128 * (lo + n) → scT E W0 (32 * hf first + 32) t j (rd σ'.w (768 * j + t))) := by
  refine (Tr.loop (fun m _ σ' => σ'.t = σ.t ∧ σ'.out = σ.out ∧ WI (preT E W0 first) (scT E W0 (32 * hf first + 32)) (128 * lo) (128 * (lo + m)) (128 * (lo + n)) σ'.w)
    ⟨rfl, rfl, fun t j hj hlo hhi => ⟨fun hm => absurd hm (by omega), fun _ hf => hw hf t j hj hlo hhi⟩⟩ ?_).mono ?_
  · rintro t1 a σ' ⟨e1, e2, hW⟩
    have ht1 : t1.val < n := hU'.trips ▸ t1.isLt
    obtain ⟨q0, q1⟩ := hU'.q t1
    obtain ⟨x0, x1⟩ := hU'.x t1
    refine Tr.cpQ hU'.sq (Tr.cpX hU'.sx ?_)
    refine Tr.bind (Tr.loop (fun m _ σ' => σ'.t = σ.t ∧ σ'.out = σ.out ∧ QOk E σ' h (bU W0 (lo + t1.val)) ∧ XOk E σ' h (bU W0 (lo + t1.val)) ∧
      WI (preT E W0 first) (scT E W0 (32 * hf first + 32)) (128 * lo) (128 * (lo + t1.val) + 16 * m) (128 * (lo + n)) σ'.w)
      ⟨e1, e2, fun k hk => ?_, fun k hk => ?_, hW⟩ ?_) ?_
    · rw [← hh (lo + t1.val) (by omega) (by omega), ← q0, ← q1]
      exact rd_mk (fun k => atQ E.q (U.q t1 0) (U.q t1 1 + k)) k hk
    · rw [← hh (lo + t1.val) (by omega) (by omega), ← x0, ← x1]
      exact rd_mk (fun k => atX E.x (U.x t1 0) (U.x t1 1 + k)) k hk
    · rintro t2 _ σ' ⟨e1, e2, hQ, hX, hW⟩
      have h2 := t2_lt t2
      refine (Tr.kg hE (hU'.w t1 t2) (by omega) (fun k hk => by rw [e1]; exact ht k hk) hQ hX ?_).mono ?_
      · intro hf j hj l hl
        have := (hW (128 * (lo + t1.val) + 16 * t2.val + l) j hj (by omega) (by omega)).2 (by omega) hf
        rw [show 768 * j + (128 * (lo + t1.val) + 16 * t2.val) + l = 768 * j + (128 * (lo + t1.val) + 16 * t2.val + l) by omega]
        unfold scT at this
        rw [show (128 * (lo + t1.val) + 16 * t2.val + l) / 128 = lo + t1.val by omega,
          show (128 * (lo + t1.val) + 16 * t2.val + l) % 128 = 16 * t2.val + l by omega, hh _ (by omega) (by omega)] at this
        rw [this]
        congr 1; omega
      · rintro _ _ ⟨w', rfl, hw'⟩
        refine ⟨e1, e2, hQ, hX, ?_⟩
        rw [show 128 * (lo + t1.val) + 16 * (t2.val + 1) = 128 * (lo + t1.val) + 16 * t2.val + 16 by omega]
        refine hW.step (by omega) fun j hj t ht => ⟨fun hc => ?_, fun hc => ?_⟩
        · rw [hw' j hj t ht, if_pos hc]
          unfold scT
          rw [show t / 128 = lo + t1.val by omega, hh _ (by omega) (by omega)]
          congr 1; omega
        · rw [hw' j hj t ht, if_neg hc]
    · rintro _ σ' ⟨e1, e2, -, -, hW⟩
      refine Tr.pure ⟨e1, e2, ?_⟩
      rw [show (k0_t2_loop).trips = 8 from by decide] at hW
      rw [show 128 * (lo + (t1.val + 1)) = 128 * (lo + t1.val) + 16 * 8 by omega]
      exact hW
  · rintro _ σ' ⟨e1, e2, hW⟩
    refine ⟨e1, e2, fun t j hj hlo hhi => (hW t j hj hlo hhi).1 ?_⟩
    rw [hU'.trips]; exact hhi

/-! ## The weight loop -/

/-- A step of a block's weight loop. -/
theorem Tr.sg {p : ℕ} {w : WOff} (hw : ∀ j < 16, w.at j = 768 * j + p) (hp : p + 16 ≤ 768) :
    Tr E σ (Gk.sgBody E.i mm w) (fun _ σ' => ∃ w', σ' = { σ with w := w' } ∧ ∀ j < 16, ∀ t < 768,
      rd w' (768 * j + t) = if p ≤ t ∧ t < p + 16 then wg (fun j => rd σ.w (768 * j + t)) j else rd σ.w (768 * j + t)) := by
  refine Tr.ldAll hw fun lg hlg => Tr.stAll hw hp fun f w' hh => Tr.pure ⟨w', rfl, fun j hj t ht => ?_⟩
  rw [hh j hj t ht]
  split
  · rename_i hc
    rw [wts_lane]
    refine wg_congr (fun j hj => ?_) hj
    rw [hlg j hj]
    beta_reduce
    rw [lane_val _ (by omega)]
    exact congrArg (rd σ.w) (by omega)
  · rfl

/-- What is known of a weight loop's parameters. -/
structure SU.Ok (U : SU) (lo n : ℕ) : Prop where
  trips : U.l.trips = n
  w : ∀ t t2, ∀ j < 16, (U.w t t2).at j = 768 * j + (128 * (lo + t.val) + 16 * t2.val)

theorem Tr.sLoop {U : SU} {lo n : ℕ} {init : BitVec 32} (hU' : U.Ok lo n) (hn : lo + n ≤ 6)
    (hw : ∀ t j, j < 16 → 128 * lo ≤ t → t < 128 * (lo + n) → scT E W0 64 t j (rd σ.w (768 * j + t))) :
    Tr E σ (Gk.sLoop E.i mm U init) (fun _ σ' => σ'.t = σ.t ∧ σ'.out = σ.out ∧
      ∀ t j, j < 16 → 128 * lo ≤ t → t < 128 * (lo + n) → wtT E W0 t j (rd σ'.w (768 * j + t))) := by
  refine (Tr.loop (fun m _ σ' => σ'.t = σ.t ∧ σ'.out = σ.out ∧ WI (scT E W0 64) (wtT E W0) (128 * lo) (128 * (lo + m)) (128 * (lo + n)) σ'.w)
    ⟨rfl, rfl, fun t j hj hlo hhi => ⟨fun hm => absurd hm (by omega), fun _ => hw t j hj hlo hhi⟩⟩ ?_).mono ?_
  · rintro t1 a σ' ⟨e1, e2, hW⟩
    have ht1 : t1.val < n := hU'.trips ▸ t1.isLt
    refine Tr.bind (Tr.loop (fun m _ σ' => σ'.t = σ.t ∧ σ'.out = σ.out ∧
      WI (scT E W0 64) (wtT E W0) (128 * lo) (128 * (lo + t1.val) + 16 * m) (128 * (lo + n)) σ'.w) ⟨e1, e2, hW⟩ ?_) ?_
    · rintro t2 _ σ' ⟨e1, e2, hW⟩
      have h2 := t2_lt t2
      refine (Tr.sg (hU'.w t1 t2) (by omega)).mono ?_
      rintro _ _ ⟨w', rfl, hw'⟩
      refine ⟨e1, e2, ?_⟩
      rw [show 128 * (lo + t1.val) + 16 * (t2.val + 1) = 128 * (lo + t1.val) + 16 * t2.val + 16 by omega]
      refine hW.step (by omega) fun j hj t ht => ⟨fun hc => ?_, fun hc => ?_⟩
      · rw [hw' j hj t ht, if_pos hc]
        refine wg_congr (fun j hj => ?_) hj
        exact (hW t j hj (by omega) (by omega)).2 (by omega)
      · rw [hw' j hj t ht, if_neg hc]
    · rintro _ σ' ⟨e1, e2, hW⟩
      refine Tr.pure ⟨e1, e2, ?_⟩
      rw [show (k0_t2_loop).trips = 8 from by decide] at hW
      rw [show 128 * (lo + (t1.val + 1)) = 128 * (lo + t1.val) + 16 * 8 by omega]
      exact hW
  · rintro _ σ' ⟨e1, e2, hW⟩
    refine ⟨e1, e2, fun t j hj hlo hhi => (hW t j hj hlo hhi).1 ?_⟩
    rw [hU'.trips]; exact hhi

/-! ## The output loop -/

/-- The output of row `r` of block `b` at a feature of a half, in the scratch of outputs or in the array of results. -/
abbrev ovE (E : Env F) (h c r f : ℕ) : Elt F .f32 := ov E.k E.v E.q E.x h c r f

/-- One feature of sixteen tokens' outputs. -/
theorem Tr.vc {h b c : ℕ} {t2 : Fin k0_t2_loop.trips} {base : ℕ → W16} {wv : ℕ → V16 F} (hE : E.Rows)
    (ht : TOk E.v σ h c)
    (hb : ∀ j < 16, ∀ l, (base j l).toNat = nb E.x h (b * 128 + 16 * t2.val + (l 0).val) j)
    (hw : ∀ j < 16, ∀ l, wv j l = wt E.k E.q E.x h (b * 128 + 16 * t2.val + (l 0).val) j)
    (t3 : Fin k0_t3_loop.trips) (a : BitVec 32) :
    Tr E σ (Gk.vcBody E.i mm ck (rowsV t2) base wv t3 a) (fun _ σ' => ∃ o', σ' = { σ with o := o' } ∧ ∀ r < 128, ∀ f < 32,
      rd o' (r * 33 + f) = if 16 * t2.val ≤ r ∧ r < 16 * t2.val + 16 ∧ f = t3.val then ovE E h c (b * 128 + r) f else rd σ.o (r * 33 + f)) := by
  have h2 := t2_lt t2
  have h3 := t3_lt t3
  have eb : ∀ j < 16, ∀ l, ((addi (base j) (bcI t3) : W16) l).toNat = nb E.x h (b * 128 + 16 * t2.val + (l 0).val) j + t3.val := fun j hj l => by
    have := nb_lt hE h (b * 128 + 16 * t2.val + (l 0).val) j
    rw [addBc_val _ _ _ (by rw [hb j hj]; omega), hb j hj]
  have eo : ∀ l, ((addi (muli (rowsV t2) (broadcast S16 33#32)) (bcI t3) : W16) l).toNat = (16 * t2.val + (l 0).val) * 33 + t3.val := fun l => by
    have hl := lane_lt l
    have e : ((muli (rowsV t2) (broadcast S16 33#32) : W16) l).toNat = (16 * t2.val + (l 0).val) * 33 := by
      rw [mul_val (rowsV t2) 33 l (by omega) (by rw [rowsV_val]; omega), rowsV_val]
    rw [addBc_val _ _ _ (by rw [e]; omega), e]
  refine Tr.seqV (fun j => fun l => rd σ.t ((addi (base j) (bcI t3) : W16) l).toNat) (fun j k hj hh => Tr.gatT (fun l => ?_) hh) (fun f hf => ?_)
  · have := nb_lt hE h (b * 128 + 16 * t2.val + (l 0).val) j
    rw [eb j hj]; omega
  refine Tr.scat (fun l => ?_) (fun l l' hll => lane_ext ?_) fun o' hit miss => Tr.pure ⟨o', rfl, fun r hr g hg => ?_⟩
  · have hl := lane_lt l
    rw [eo]; omega
  · rw [eo, eo] at hll; omega
  · by_cases hc : 16 * t2.val ≤ r ∧ r < 16 * t2.val + 16 ∧ g = t3.val
    · rw [if_pos hc]
      have hlv : (lane (r - 16 * t2.val) 0).val = r - 16 * t2.val := lane_val _ (by omega)
      have hl := hit (lane (r - 16 * t2.val))
      rw [eo, hlv, show (16 * t2.val + (r - 16 * t2.val)) * 33 + t3.val = r * 33 + g by omega] at hl
      rw [hl, sms_lane]
      refine sm_congr 15 fun j hj => ?_
      show FloatOps.mulf (wv j _) (f j _) = _
      have hnb := nb_lt hE h (b * 128 + r) j
      rw [hw j (by omega), hf j (by omega)]
      beta_reduce
      rw [eb j (by omega), hlv, show b * 128 + 16 * t2.val + (r - 16 * t2.val) = b * 128 + r by omega, ht _ (by omega), hc.2.2]
    · rw [if_neg hc]
      refine miss _ (by omega) fun l hl => hc ?_
      have hl' := lane_lt l
      rw [eo] at hl
      omega

/-- A step of a block's output loop. -/
theorem Tr.vg {h b c p : ℕ} {w : WOff} {t2 : Fin k0_t2_loop.trips} (hE : E.Rows)
    (hw : ∀ j < 16, w.at j = 768 * j + p) (ht : TOk E.v σ h c) (hx : XOk E σ h b)
    (hl : ∀ j < 16, ∀ l < 16, rd σ.w (768 * j + p + l) = wt E.k E.q E.x h (b * 128 + 16 * t2.val + l) j) :
    Tr E σ (Gk.vgBody E.i mm ck w t2) (fun _ σ' => ∃ o', σ' = { σ with o := o' } ∧ ∀ r < 128, ∀ f < 32,
      rd o' (r * 33 + f) = if 16 * t2.val ≤ r ∧ r < 16 * t2.val + 16 then ovE E h c (b * 128 + r) f else rd σ.o (r * 33 + f)) := by
  have h2 := t2_lt t2
  refine Tr.bases hE hx fun base hb => Tr.ldAll hw fun wv hwv => Tr.bind (Tr.loop (fun n _ σ' => ∃ o', σ' = { σ with o := o' } ∧ ∀ r < 128, ∀ f < 32,
      rd o' (r * 33 + f) = if 16 * t2.val ≤ r ∧ r < 16 * t2.val + 16 ∧ f < n then ovE E h c (b * 128 + r) f else rd σ.o (r * 33 + f)) ?_ ?_) ?_
  · exact ⟨σ.o, rfl, fun r hr f hf => by rw [if_neg (by omega)]⟩
  · rintro t3 a _ ⟨o', rfl, ho⟩
    have hk := Tr.vc (ck := ck) (wv := wv) (σ := { σ with o := o' }) (b := b) (c := c) (h := h) hE (fun n hn => ht n hn) hb (fun j hj l => by
      rw [hwv j hj]
      exact hl j hj _ (lane_lt l)) t3 a
    refine hk.mono ?_
    · rintro _ _ ⟨o'', rfl, ho'⟩
      refine ⟨o'', rfl, fun r hr f hf => ?_⟩
      rw [ho' r hr f hf]
      by_cases hc : 16 * t2.val ≤ r ∧ r < 16 * t2.val + 16 ∧ f = t3.val
      · rw [if_pos hc, if_pos (by omega)]
      · rw [if_neg hc]
        show rd o' _ = _
        rw [ho r hr f hf]
        by_cases hd : 16 * t2.val ≤ r ∧ r < 16 * t2.val + 16 ∧ f < t3.val
        · rw [if_pos hd, if_pos (by omega)]
        · rw [if_neg hd, if_neg (by omega)]
  · rintro _ _ ⟨o', rfl, ho⟩
    refine Tr.pure ⟨o', rfl, fun r hr f hf => ?_⟩
    rw [ho r hr f hf]
    have e3 : k0_t3_loop.trips = 32 := by decide
    by_cases hc : 16 * t2.val ≤ r ∧ r < 16 * t2.val + 16
    · rw [if_pos hc, if_pos (by omega)]
    · rw [if_neg hc, if_neg (by omega)]

/-- The outputs of the task's `u`-th block at a half are in the array of results. -/
def OutOk (E : Env F) (W0 u c : ℕ) (out : S12x2x67584.Idx → Elt F .f32) : Prop := ∀ r < 128, ∀ f < 32,
  at3 out (hU W0 u) c (bU W0 u * 4224 + (r * 33 + f)) = ovE E (hU W0 u) c (bU W0 u * 128 + r) f

/-- What is known of an output loop's parameters. -/
structure VU.Ok (U : VU) (W0 lo n c : ℕ) : Prop where
  trips : U.l.trips = n
  sx : Own U.sx
  so : Own U.so
  x : ∀ t, U.x t 0 = hU W0 (lo + t.val) ∧ U.x t 1 = bU W0 (lo + t.val) * 2176
  w : ∀ t t2, ∀ j < 16, (U.w t t2).at j = 768 * j + (128 * (lo + t.val) + 16 * t2.val)
  o : ∀ t, U.o t 0 = hU W0 (lo + t.val) ∧ U.o t 1 = c ∧ U.o t 2 = bU W0 (lo + t.val) * 4224

/-- The task's part of the array of results holds its blocks. -/
def Env.Part (E : Env F) (W0 : ℕ) : Prop := ∀ u < 6, ∀ y : S12x2x67584.Idx, (y 0).val = hU W0 u → bU W0 u * 4224 ≤ (y 2).val →
  (y 2).val < bU W0 u * 4224 + 4224 → y ∈ E.S

theorem at3_wrO (f : S12x2x67584.Idx → Elt F .f32) (g : (Flat 4224).Idx → Elt F .f32) (a b c a' b' c' : ℕ) (ha : a' < 12) (hb : b' < 2) (hc : c' < 67584) :
    at3 (wrO f g a b c) a' b' c' = if a' = a ∧ b' = b ∧ c ≤ c' ∧ c' < c + 4224 then rd g (c' - c) else at3 f a' b' c' := by
  show ite _ _ _ = _
  rw [show (ixc pos3 ![a', b', c'] 0).val = a' from Nat.mod_eq_of_lt (show a' < 12 from ha), show (ixc pos3 ![a', b', c'] 1).val = b' from Nat.mod_eq_of_lt (show b' < 2 from hb),
    show (ixc pos3 ![a', b', c'] 2).val = c' from Nat.mod_eq_of_lt (show c' < 67584 from hc)]

theorem hU_lt (h : W0 + 6 ≤ 192) {u : ℕ} (hu : u < 6) : hU W0 u < 12 := by unfold hU; omega
theorem bU_lt (u : ℕ) : bU W0 u < 16 := Nat.mod_lt _ (by decide)
theorem hbU {u u' : ℕ} (h : hU W0 u = hU W0 u') (h' : bU W0 u = bU W0 u') : u = u' := by unfold hU at h; unfold bU at h'; omega

theorem Tr.vLoop {U : VU} {lo n h c : ℕ} {init : BitVec 32} {D : ℕ → ℕ → Prop} (hE : E.Rows) (hS : E.Part W0) (hU' : U.Ok W0 lo n c) (hn : lo + n ≤ 6)
    (hW0 : W0 + 6 ≤ 192) (hc : c < 2)
    (hh : ∀ u, lo ≤ u → u < lo + n → hU W0 u = h) (ht : TOk E.v σ h c)
    (hw : ∀ t j, j < 16 → 128 * lo ≤ t → t < 128 * (lo + n) → wtT E W0 t j (rd σ.w (768 * j + t)))
    (hD : ∀ u < 6, ∀ c' < 2, D u c' → OutOk E W0 u c' σ.out) :
    Tr E σ (Gk.vLoop E.i mm ck U init) (fun _ σ' => σ'.t = σ.t ∧ σ'.w = σ.w ∧
      ∀ u < 6, ∀ c' < 2, (D u c' ∨ lo ≤ u ∧ u < lo + n ∧ c' = c) → OutOk E W0 u c' σ'.out) := by
  refine (Tr.loop (fun m _ σ' => σ'.t = σ.t ∧ σ'.w = σ.w ∧ ∀ u < 6, ∀ c' < 2, (D u c' ∨ lo ≤ u ∧ u < lo + m ∧ c' = c) → OutOk E W0 u c' σ'.out)
    ⟨rfl, rfl, fun u hu c' hc' hd => hD u hu c' hc' (hd.resolve_right (by omega))⟩ ?_).mono ?_
  · rintro t1 a σ' ⟨e1, e2, hO⟩
    have ht1 : t1.val < n := hU'.trips ▸ t1.isLt
    obtain ⟨x0, x1⟩ := hU'.x t1
    obtain ⟨o0, o1, o2⟩ := hU'.o t1
    refine Tr.cpX hU'.sx ?_
    refine Tr.bind (Tr.loop (fun m _ σ' => σ'.t = σ.t ∧ σ'.w = σ.w ∧ (∀ u < 6, ∀ c' < 2, (D u c' ∨ lo ≤ u ∧ u < lo + t1.val ∧ c' = c) → OutOk E W0 u c' σ'.out)
      ∧ XOk E σ' h (bU W0 (lo + t1.val)) ∧ ∀ r < 128, ∀ f < 32, r < 16 * m → rd σ'.o (r * 33 + f) = ovE E h c (bU W0 (lo + t1.val) * 128 + r) f)
      ⟨e1, e2, hO, fun k hk => ?_, fun r _ f _ hr => absurd hr (by omega)⟩ ?_) ?_
    · rw [← hh (lo + t1.val) (by omega) (by omega), ← x0, ← x1]
      exact rd_mk (fun k => atX E.x (U.x t1 0) (U.x t1 1 + k)) k hk
    · rintro t2 _ σ' ⟨e1, e2, hO, hX, ho⟩
      have h2 := t2_lt t2
      refine (Tr.vg hE (hU'.w t1 t2) (fun k hk => by rw [e1]; exact ht k hk) hX ?_).mono ?_
      · intro j hj l hl
        have := hw (128 * (lo + t1.val) + 16 * t2.val + l) j hj (by omega) (by omega)
        unfold wtT at this
        rw [show (128 * (lo + t1.val) + 16 * t2.val + l) / 128 = lo + t1.val by omega,
          show (128 * (lo + t1.val) + 16 * t2.val + l) % 128 = 16 * t2.val + l by omega, hh _ (by omega) (by omega)] at this
        rw [e2, show 768 * j + (128 * (lo + t1.val) + 16 * t2.val) + l = 768 * j + (128 * (lo + t1.val) + 16 * t2.val + l) by omega, this]
        congr 1; omega
      · rintro _ _ ⟨o', rfl, ho'⟩
        refine ⟨e1, e2, hO, hX, fun r hr f hf hm => ?_⟩
        show rd o' _ = _
        rw [ho' r hr f hf]
        split
        · rfl
        · exact ho r hr f hf (by omega)
    · rintro _ σ' ⟨e1, e2, hO, -, ho⟩
      rw [show (k0_t2_loop).trips = 8 from by decide] at ho
      refine Tr.cpO hU'.so (fun y y0 y1 y2 y3 => hS (lo + t1.val) (by omega) y (y0.trans o0) (by omega) (by omega)) (Tr.pure ⟨e1, e2, fun u hu c' hc' hd r hr f hf => ?_⟩)
      show at3 (wrO σ'.out σ'.o (U.o t1 0) (U.o t1 1) (U.o t1 2)) _ _ _ = _
      have hb := bU_lt (W0 := W0) u
      have hb' := bU_lt (W0 := W0) (lo + t1.val)
      rw [at3_wrO _ _ _ _ _ _ _ _ (hU_lt hW0 hu) hc' (by omega), o0, o1, o2]
      by_cases hcc : hU W0 u = hU W0 (lo + t1.val) ∧ c' = c ∧ bU W0 (lo + t1.val) * 4224 ≤ bU W0 u * 4224 + (r * 33 + f)
          ∧ bU W0 u * 4224 + (r * 33 + f) < bU W0 (lo + t1.val) * 4224 + 4224
      · obtain rfl : u = lo + t1.val := hbU hcc.1 (by omega)
        rw [if_pos hcc, show bU W0 (lo + t1.val) * 4224 + (r * 33 + f) - bU W0 (lo + t1.val) * 4224 = r * 33 + f by omega, ho r hr f hf (by omega),
          hcc.2.1, hh _ (by omega) (by omega)]
      · rw [if_neg hcc]
        refine hO u hu c' hc' ?_ r hr f hf
        rcases hd with hd | hd
        · exact .inl hd
        · by_cases hu1 : u = lo + t1.val
          · subst hu1
            exact absurd ⟨rfl, hd.2.2, by omega, by omega⟩ hcc
          · exact .inr ⟨hd.1, by omega, hd.2.2⟩
  · rintro _ σ' ⟨e1, e2, hO⟩
    refine ⟨e1, e2, fun u hu c' hc' hd => hO u hu c' hc' ?_⟩
    rw [hU'.trips]; exact hd

/-! ## A group -/

/-- What is known of a group's parameters: its blocks are the task's from the `lo`-th on, `n` of them, all of head `h`. -/
structure GP.Ok (G : GP) (W0 lo n h : ℕ) : Prop where
  hn : lo + n ≤ 6
  hh : ∀ u, lo ≤ u → u < lo + n → hU W0 u = h
  o0 : G.o0 0 = h ∧ G.o0 1 = 0 ∧ G.o0 2 = 0
  o1 : G.o1 0 = h ∧ G.o1 1 = 1 ∧ G.o1 2 = 0
  t0 : Own G.t0
  t1 : Own G.t1
  t2 : Own G.t2
  t3 : Own G.t3
  k0 : G.k0.Ok W0 lo n
  k1 : G.k1.Ok W0 lo n
  s : G.s.Ok lo n
  v0 : G.v0.Ok W0 lo n 0
  v1 : G.v1.Ok W0 lo n 1
  k0r : G.k0r.l.trips = 0
  k1r : G.k1r.l.trips = 0
  sr : G.sr.l.trips = 0
  v0r : G.v0r.l.trips = 0
  v1r : G.v1r.l.trips = 0

/-- A loop of no steps leaves everything alone. -/
theorem Tr.loop0 {α : Type} {l : Scf.Loop 32} {ok : l.OK} {init : α} {body : Fin l.trips → α → PR F E.i α} (h : l.trips = 0) :
    Tr E σ (Scf.Loop.for l ok init body) (fun _ σ' => σ' = σ) :=
  Tr.loop (fun _ _ σ' => σ' = σ) rfl fun t => absurd (t.isLt.trans_eq h) (Nat.not_lt_zero _)

theorem Tr.group {G : GP} {lo n h : ℕ} {D : ℕ → ℕ → Prop} {k : PR F E.i PUnit} {post : PUnit → St F → Prop} (hE : E.Rows) (hS : E.Part W0)
    (hG : G.Ok W0 lo n h) (hW0 : W0 + 6 ≤ 192) (hD : ∀ u < 6, ∀ c' < 2, D u c' → OutOk E W0 u c' σ.out)
    (hk : ∀ σ', (∀ u < 6, ∀ c' < 2, (D u c' ∨ lo ≤ u ∧ u < lo + n) → OutOk E W0 u c' σ'.out) → Tr E σ' k post) :
    Tr E σ (Gk.group E.i mm G k) post := by
  have tok : ∀ (f : S12x2x67584.Idx → Elt F .f32) (σ : St F) (o : Fin 3 → ℕ) (c : ℕ), (o 0 = h ∧ o 1 = c ∧ o 2 = 0) →
      TOk f { σ with t := fun x => at3 f (o 0) (o 1) (o 2 + (x 0).val) } h c := fun f σ o c ho n hn => by
    refine (rd_mk (fun k => at3 f (o 0) (o 1) (o 2 + k)) n hn).trans ?_
    rw [ho.1, ho.2.1, ho.2.2, Nat.zero_add]
  refine Tr.cpK hG.t0 (Tr.bind (Tr.kLoop (first := true) hE hG.k0 hG.hn hG.hh (tok E.k σ G.o0 0 hG.o0) (fun h => absurd h (by decide))) ?_)
  rintro _ σ1 ⟨-, e1, w1⟩
  refine Tr.bind (Tr.loop0 hG.k0r) ?_
  rintro _ σ1 rfl
  refine Tr.cpK hG.t1 (Tr.bind (Tr.kLoop (first := false) hE hG.k1 hG.hn hG.hh (tok E.k _ G.o1 1 hG.o1) (fun _ => w1)) ?_)
  rintro _ σ2 ⟨-, e2, w2⟩
  refine Tr.bind (Tr.loop0 hG.k1r) ?_
  rintro _ σ2 rfl
  refine Tr.bind (Tr.sLoop hG.s hG.hn w2) ?_
  rintro _ σ3 ⟨-, e3, w3⟩
  refine Tr.bind (Tr.loop0 hG.sr) ?_
  rintro _ σ3 rfl
  refine Tr.cpV hG.t2 (Tr.bind (Tr.vLoop (D := D) hE hS hG.v0 hG.hn hW0 (by decide) hG.hh (tok E.v _ G.o0 0 hG.o0) w3
    (fun u hu c hc hd => by show OutOk E W0 u c σ3.out; rw [e3, e2]; show OutOk E W0 u c σ1.out; rw [e1]; exact hD u hu c hc hd)) ?_)
  rintro _ σ4 ⟨-, e4, d4⟩
  refine Tr.bind (Tr.loop0 hG.v0r) ?_
  rintro _ σ4 rfl
  refine Tr.cpV hG.t3 (Tr.bind (Tr.vLoop (D := fun u c' => D u c' ∨ lo ≤ u ∧ u < lo + n ∧ c' = 0) hE hS hG.v1 hG.hn hW0 (by decide) hG.hh (tok E.v _ G.o1 1 hG.o1)
    (fun t j hj h1 h2 => by show wtT E W0 t j (rd σ4.w _); rw [e4]; exact w3 t j hj h1 h2) d4) ?_)
  rintro _ σ5 ⟨-, -, d5⟩
  refine Tr.bind (Tr.loop0 hG.v1r) ?_
  rintro _ σ5 rfl
  refine hk _ fun u hu c hc hd => d5 u hu c hc ?_
  rcases hd with hd | hd
  · exact .inl (.inl hd)
  · by_cases hc0 : c = 0
    · exact .inl (.inr ⟨hd.1, hd.2, hc0⟩)
    · exact .inr ⟨hd.1, hd.2, by omega⟩

end Cert.Proof.Gk
-- ==== Proof.Offs.lean ====
/-
  The offsets and the bounds of a task's two groups, at each of the thirty-two tasks.
-/
module

public import proofs.«01_k».proof.Proof.Group

@[expose] public section

noncomputable section

namespace Cert.Proof.Gk

open Cert.KernelIdeal Cert.KernelIdeal.Gen
open Idealize.ShloMosaic Idealize.SL.Sem

/-- A task's first block. -/
abbrev W (i : grid0.Coords) : ℕ := 6 * (2 * (i 1).val + (i 0).val)

/-- How many of a task's blocks are of its first head. -/
abbrev nA (w : ℕ) : ℕ := min 6 ((w / 16 + 1) * 16 - w)

/-- A task's coordinates from its core and its subcore. -/
def co (c : Fin 2) (s : Fin 16) : grid0.Coords := fun a => match a with | 0 => c | 1 => s

theorem allC {P : grid0.Coords → Prop} (h : ∀ c s, P (co c s)) (i : grid0.Coords) : P i := by
  have := h (i 0) (i 1)
  rwa [show co (i 0) (i 1) = i from funext fun a => match a with | 0 => rfl | 1 => rfl] at this

/-- The first head's share of six blocks. -/
theorem nA_eq (w : ℕ) : nA w = min 6 ((w / 16 + 1) * 16 - w) := rfl

/-- The bounds of the first head's loops. -/
theorem tripsA : ∀ i, (k0_t1_loop i).trips = nA (W i) := allC (by decide +kernel)
/-- The bounds of the second head's loops. -/
theorem tripsB : ∀ i, (k0_t29_loop i).trips = 6 - nA (W i) ∧ (k0_t29_loop i).lb.toNat = nA (W i) := allC (by decide +kernel)
/-- A task without a second head has all its blocks in the first. -/
theorem condB : ∀ i, ¬k0_cond1 i = 1#1 → nA (W i) = 6 := allC (by decide +kernel)
/-- The loops over what a step of more than one block would leave have no steps. -/
theorem trips0A : ∀ i, (k0_t4_loop i).trips = 0 := allC (by decide +kernel)
theorem trips0B : ∀ i, (k0_t32_loop i).trips = 0 := allC (by decide +kernel)

theorem offs1 : ∀ i, k0_off1 i 0 = W i / 16 ∧ k0_off1 i 1 = 0 ∧ k0_off1 i 2 = 0 := allC (by decide +kernel)
theorem offs8 : ∀ i, k0_off8 i 0 = W i / 16 ∧ k0_off8 i 1 = 1 ∧ k0_off8 i 2 = 0 := allC (by decide +kernel)
theorem offs29 : ∀ i, k0_off29 i 0 = (W i + 5) / 16 ∧ k0_off29 i 1 = 0 ∧ k0_off29 i 2 = 0 := allC (by decide +kernel)
theorem offs36 : ∀ i, k0_off36 i 0 = (W i + 5) / 16 ∧ k0_off36 i 1 = 1 ∧ k0_off36 i 2 = 0 := allC (by decide +kernel)

/-! Where the first head's blocks are -/

theorem offs2 : ∀ i, ∀ t : Fin (k0_t1_loop i).trips, k0_off2 i t 0 = hU (W i) (0 + t.val) ∧ k0_off2 i t 1 = bU (W i) (0 + t.val) * 8320 := allC (by decide +kernel)
theorem offs3 : ∀ i, ∀ t : Fin (k0_t1_loop i).trips, k0_off3 i t 0 = hU (W i) (0 + t.val) ∧ k0_off3 i t 1 = bU (W i) (0 + t.val) * 2176 := allC (by decide +kernel)
theorem offs9 : ∀ i, ∀ t : Fin (k0_t7_loop i).trips, k0_off9 i t 0 = hU (W i) (0 + t.val) ∧ k0_off9 i t 1 = bU (W i) (0 + t.val) * 8320 := offs2
theorem offs10 : ∀ i, ∀ t : Fin (k0_t7_loop i).trips, k0_off10 i t 0 = hU (W i) (0 + t.val) ∧ k0_off10 i t 1 = bU (W i) (0 + t.val) * 2176 := offs3
theorem offs17 : ∀ i, ∀ t : Fin (k0_t17_loop i).trips, k0_off17 i t 0 = hU (W i) (0 + t.val) ∧ k0_off17 i t 1 = bU (W i) (0 + t.val) * 2176 := offs3
theorem offs23 : ∀ i, ∀ t : Fin (k0_t23_loop i).trips, k0_off23 i t 0 = hU (W i) (0 + t.val) ∧ k0_off23 i t 1 = bU (W i) (0 + t.val) * 2176 := offs3
theorem offs19 : ∀ i, ∀ t : Fin (k0_t17_loop i).trips, k0_off19 i t 0 = hU (W i) (0 + t.val) ∧ k0_off19 i t 1 = 0 ∧ k0_off19 i t 2 = bU (W i) (0 + t.val) * 4224 := allC (by decide +kernel)
theorem offs25 : ∀ i, ∀ t : Fin (k0_t23_loop i).trips, k0_off25 i t 0 = hU (W i) (0 + t.val) ∧ k0_off25 i t 1 = 1 ∧ k0_off25 i t 2 = bU (W i) (0 + t.val) * 4224 := allC (by decide +kernel)

/-! Where the second head's blocks are -/

theorem offs30 : ∀ i, ∀ t : Fin (k0_t29_loop i).trips, k0_off30 i t 0 = hU (W i) (nA (W i) + t.val) ∧ k0_off30 i t 1 = bU (W i) (nA (W i) + t.val) * 8320 := allC (by decide +kernel)
theorem offs31 : ∀ i, ∀ t : Fin (k0_t29_loop i).trips, k0_off31 i t 0 = hU (W i) (nA (W i) + t.val) ∧ k0_off31 i t 1 = bU (W i) (nA (W i) + t.val) * 2176 := allC (by decide +kernel)
theorem offs37 : ∀ i, ∀ t : Fin (k0_t35_loop i).trips, k0_off37 i t 0 = hU (W i) (nA (W i) + t.val) ∧ k0_off37 i t 1 = bU (W i) (nA (W i) + t.val) * 8320 := offs30
theorem offs38 : ∀ i, ∀ t : Fin (k0_t35_loop i).trips, k0_off38 i t 0 = hU (W i) (nA (W i) + t.val) ∧ k0_off38 i t 1 = bU (W i) (nA (W i) + t.val) * 2176 := offs31
theorem offs45 : ∀ i, ∀ t : Fin (k0_t45_loop i).trips, k0_off45 i t 0 = hU (W i) (nA (W i) + t.val) ∧ k0_off45 i t 1 = bU (W i) (nA (W i) + t.val) * 2176 := offs31
theorem offs51 : ∀ i, ∀ t : Fin (k0_t51_loop i).trips, k0_off51 i t 0 = hU (W i) (nA (W i) + t.val) ∧ k0_off51 i t 1 = bU (W i) (nA (W i) + t.val) * 2176 := offs31
theorem offs47 : ∀ i, ∀ t : Fin (k0_t45_loop i).trips, k0_off47 i t 0 = hU (W i) (nA (W i) + t.val) ∧ k0_off47 i t 1 = 0 ∧ k0_off47 i t 2 = bU (W i) (nA (W i) + t.val) * 4224 := allC (by decide +kernel)
theorem offs53 : ∀ i, ∀ t : Fin (k0_t51_loop i).trips, k0_off53 i t 0 = hU (W i) (nA (W i) + t.val) ∧ k0_off53 i t 1 = 1 ∧ k0_off53 i t 2 = bU (W i) (nA (W i) + t.val) * 4224 := allC (by decide +kernel)

/-- The places of a step's weights. -/
theorem wat (lb : BitVec 32) {lo n m j : ℕ} (hlb : lb.toNat = lo) (hn : lo + n < 6) (hm : m < 8) (hj : j < 16) :
    (BitVec.ofNat 32 (768 * (Fin.ofNat 16 j).val) + (Scf.iv lb 1#32 n * 128#32 + Scf.iv 0#32 1#32 m * 16#32)).toNat
      = 768 * j + (128 * (lo + n) + 16 * m) := by
  have e0 : (Fin.ofNat 16 j).val = j := Nat.mod_eq_of_lt hj
  have e1 : (Scf.iv lb 1#32 n).toNat = lo + n := by
    show (lb + BitVec.ofNat 32 n * 1#32).toNat = _
    rw [BitVec.mul_one, tn_add _ _ (by rw [tn_of _ (by omega)]; omega), tn_of _ (by omega), hlb]
  have e2 : (Scf.iv lb 1#32 n * 128#32).toNat = (lo + n) * 128 := by
    rw [tn_mul _ _ (by rw [e1]; show (lo + n) * 128 < _; omega), e1]; rfl
  have e3 : (Scf.iv 0#32 1#32 m * 16#32).toNat = m * 16 := by
    rw [tn_mul _ _ (by rw [tn_iv _ (by omega)]; show m * 16 < _; omega), tn_iv _ (by omega)]; rfl
  have e4 : (Scf.iv lb 1#32 n * 128#32 + Scf.iv 0#32 1#32 m * 16#32).toNat = (lo + n) * 128 + m * 16 := by
    rw [tn_add _ _ (by rw [e2, e3]; omega), e2, e3]
  rw [tn_add _ _ (by rw [e4, tn_of _ (by omega)]; omega), e4, tn_of _ (by omega), e0]
  omega

variable {s : ℕ → DmaSems sig S_}

theorem GA_ok (hs : ∀ k < 40, Own (s k)) (i : grid0.Coords) : (GA i s).Ok (W i) 0 (nA (W i)) (W i / 16) := by
  have hA := tripsA i
  have hN := nA_eq (W i)
  have hw : ∀ (t : Fin (k0_t1_loop i).trips) (t2 : Fin k0_t2_loop.trips), ∀ j < 16,
      (BitVec.ofNat 32 (768 * (Fin.ofNat 16 j).val) + (Scf.iv 0#32 1#32 t.val * 128#32 + Scf.iv 0#32 1#32 t2.val * 16#32)).toNat
        = 768 * j + (128 * (0 + t.val) + 16 * t2.val) := fun t t2 j hj => by
    have := t.isLt
    exact wat 0#32 rfl (by omega) (t2_lt t2) hj
  exact {
    hn := by omega
    hh := fun u _ hu => by unfold hU; omega
    o0 := offs1 i
    o1 := offs8 i
    t0 := hs 0 (by decide)
    t1 := hs 5 (by decide)
    t2 := hs 10 (by decide)
    t3 := hs 15 (by decide)
    k0 := ⟨hA, hs 1 (by decide), hs 2 (by decide), offs2 i, offs3 i, hw⟩
    k1 := ⟨hA, hs 6 (by decide), hs 7 (by decide), offs9 i, offs10 i, hw⟩
    s := ⟨hA, hw⟩
    v0 := ⟨hA, hs 11 (by decide), hs 12 (by decide), offs17 i, hw, offs19 i⟩
    v1 := ⟨hA, hs 16 (by decide), hs 17 (by decide), offs23 i, hw, offs25 i⟩
    k0r := trips0A i
    k1r := trips0A i
    sr := trips0A i
    v0r := trips0A i
    v1r := trips0A i }

theorem GB_ok (hs : ∀ k < 40, Own (s k)) (i : grid0.Coords) (h1 : k0_cond1 i = 1#1) : (GB i h1 s).Ok (W i) (nA (W i)) (6 - nA (W i)) ((W i + 5) / 16) := by
  obtain ⟨hB, hl⟩ := tripsB i
  have hN := nA_eq (W i)
  have hw : ∀ (t : Fin (k0_t29_loop i).trips) (t2 : Fin k0_t2_loop.trips), ∀ j < 16,
      (BitVec.ofNat 32 (768 * (Fin.ofNat 16 j).val) + (Scf.iv (k0_t29_loop i).lb 1#32 t.val * 128#32 + Scf.iv 0#32 1#32 t2.val * 16#32)).toNat
        = 768 * j + (128 * (nA (W i) + t.val) + 16 * t2.val) := fun t t2 j hj => by
    have := t.isLt
    exact wat _ hl (by omega) (t2_lt t2) hj
  exact {
    hn := by omega
    hh := fun u hu hu' => by unfold hU; omega
    o0 := offs29 i
    o1 := offs36 i
    t0 := hs 20 (by decide)
    t1 := hs 25 (by decide)
    t2 := hs 30 (by decide)
    t3 := hs 35 (by decide)
    k0 := ⟨hB, hs 21 (by decide), hs 22 (by decide), offs30 i, offs31 i, hw⟩
    k1 := ⟨hB, hs 26 (by decide), hs 27 (by decide), offs37 i, offs38 i, hw⟩
    s := ⟨hB, hw⟩
    v0 := ⟨hB, hs 31 (by decide), hs 32 (by decide), offs45 i, hw, offs47 i⟩
    v1 := ⟨hB, hs 36 (by decide), hs 37 (by decide), offs51 i, hw, offs53 i⟩
    k0r := trips0B i
    k1r := trips0B i
    sr := trips0B i
    v0r := trips0B i
    v1r := trips0B i }

variable {F : FTy → Type} [FloatOps F] {E : Env F} {σ : St F}

theorem W_le (i : grid0.Coords) : W i + 6 ≤ 192 := by
  have h0 : (i 0).val < 2 := (i 0).isLt
  have h1 : (i 1).val < 16 := (i 1).isLt
  show 6 * (2 * (i 1).val + (i 0).val) + 6 ≤ 192
  omega

/-- A task leaves all its blocks' outputs in the array of results. -/
theorem Tr.body (hs : ∀ k < 40, Own (s k)) (hE : E.Rows) (hS : E.Part (W E.i)) :
    Tr E σ (Gk.body E.i mm s) (fun _ σ' => ∀ u < 6, ∀ c < 2, OutOk E (W E.i) u c σ'.out) := by
  refine Tr.group (D := fun _ _ => False) hE hS (GA_ok hs E.i) (W_le E.i) (fun _ _ _ _ h => h.elim) fun σ' h' => ?_
  split
  · rename_i h1
    refine Tr.group (D := fun u _ => 0 ≤ u ∧ u < 0 + nA (W E.i)) hE hS (GB_ok hs E.i h1) (W_le E.i)
      (fun u hu c hc hd => h' u hu c hc (.inr hd)) fun σ'' h'' => Tr.pure fun u hu c hc => h'' u hu c hc (by omega)
  · rename_i h1
    have := condB E.i h1
    exact Tr.pure fun u hu c hc => h' u hu c hc (.inr (by omega))

end Cert.Proof.Gk
-- ==== Proof.Tile.lean ====
/-
  The launch's payloads and one task of it: from its share of the arrays it reads and its part of the array of results,
  a task leaves the attention of its blocks in that part.
-/
module

public import proofs.«01_k».proof.Proof.Offs
public import Idealize.ShloMosaic.Lib.SparseCore.Quiescent

@[expose] public section

noncomputable section

namespace Cert.Proof.Gk

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.SparseCore Idealize.ShloMosaic.SparseCore.Cfg

variable {F : FTy → Type} [FloatOps F]

local notation "𝕄" => MT nD τ sig (HIx 1) (Elt F) ℕ UU ℕ

/-! ## The parts of the array of results -/

/-- The number of the block of an element. -/
def blk (y : S12x2x67584.Idx) : ℕ := 16 * (y 0).val + (y 2).val / 4224

theorem blk_lt (y : S12x2x67584.Idx) : blk y < 192 := by
  have h0 : (y 0).val < 12 := (y 0).isLt
  have h2 : (y 2).val < 67584 := (y 2).isLt
  unfold blk
  omega

/-- Task `w`'s part: six blocks. -/
def part (w : ℕ) : Finset S12x2x67584.Idx := Finset.univ.filter fun y => blk y / 6 = w

theorem mem_part {w : ℕ} {y : S12x2x67584.Idx} : y ∈ part w ↔ blk y / 6 = w := by
  unfold part
  rw [Finset.mem_filter]
  exact ⟨fun h => h.2, fun h => ⟨Finset.mem_univ _, h⟩⟩

/-- The part of SparseCore `c`'s tasks. -/
def corePart (c : ℕ) : Finset S12x2x67584.Idx := Finset.univ.filter fun y => blk y / 6 % 2 = c

theorem mem_corePart {c : ℕ} {y : S12x2x67584.Idx} : y ∈ corePart c ↔ blk y / 6 % 2 = c := by
  unfold corePart
  rw [Finset.mem_filter]
  exact ⟨fun h => h.2, fun h => ⟨Finset.mem_univ _, h⟩⟩

theorem parts_disjoint (c : Fin 2) : ∀ i ∈ (Finset.univ : Finset (Fin 16)), ∀ j ∈ (Finset.univ : Finset (Fin 16)), i ≠ j →
    Disjoint (part (2 * i.val + c.val)) (part (2 * j.val + c.val)) := fun i _ j _ h => Finset.disjoint_left.mpr fun y h1 h2 => by
  rw [mem_part] at h1 h2
  exact h (Fin.ext (by omega))

theorem parts_cover (c : Fin 2) : (Finset.univ : Finset (Fin 16)).biUnion (fun i => part (2 * i.val + c.val)) = corePart c.val := by
  ext y
  rw [Finset.mem_biUnion, mem_corePart]
  have := blk_lt y
  constructor
  · rintro ⟨i, -, h⟩
    rw [mem_part] at h
    omega
  · intro h
    exact ⟨⟨blk y / 6 / 2, by omega⟩, Finset.mem_univ _, mem_part.mpr (by show blk y / 6 = 2 * (blk y / 6 / 2) + c.val; omega)⟩

theorem cores_disjoint : ∀ i ∈ (Finset.univ : Finset (Fin 2)), ∀ j ∈ (Finset.univ : Finset (Fin 2)), i ≠ j →
    Disjoint (corePart i.val) (corePart j.val) := fun i _ j _ h => Finset.disjoint_left.mpr fun y h1 h2 => by
  rw [mem_corePart] at h1 h2
  exact h (Fin.ext (by omega))

theorem cores_cover : (Finset.univ : Finset (Fin 2)).biUnion (fun i => corePart i.val) = Finset.univ := by
  ext y
  rw [Finset.mem_biUnion]
  exact ⟨fun _ => Finset.mem_univ _, fun _ => ⟨⟨blk y / 6 % 2, by omega⟩, Finset.mem_univ _, mem_corePart.mpr rfl⟩⟩

/-! ## What a part holds when its task is done -/

/-- The arrays the tasks read. -/
structure Ins (F : FTy → Type) where
  k : S12x2x67584.Idx → Elt F .f32
  v : S12x2x67584.Idx → Elt F .f32
  q : S12x133120.Idx → Elt F .f32
  x : S12x34816.Idx → Elt F .i32

/-- The attention is in the array of results wherever the array is of `S`. -/
def Done (A : Ins F) (S : Finset S12x2x67584.Idx) (g : S12x2x67584.Idx → Elt F .f32) : Prop :=
  ∀ h < 12, ∀ c < 2, ∀ r < 2048, ∀ f < 32, ixc pos3 ![h, c, r * 33 + f] ∈ S → at3 g h c (r * 33 + f) = ov A.k A.v A.q A.x h c r f

theorem Done.congr {A : Ins F} {S S' : Finset S12x2x67584.Idx} {g g' : S12x2x67584.Idx → Elt F .f32} (h : Done A S g)
    (hg : ∀ y ∈ S', g' y = g y ∧ y ∈ S) : Done A S' g' := fun a ha c hc r hr f hf hy => by
  show g' _ = _
  rw [(hg _ hy).1]
  exact h a ha c hc r hr f hf (hg _ hy).2

theorem Done.join {A : Ins F} {T : Type} {K : T → Finset S12x2x67584.Idx} {S : Finset S12x2x67584.Idx} {fs : T → S12x2x67584.Idx → Elt F .f32}
    {g : S12x2x67584.Idx → Elt F .f32} (hS : ∀ y ∈ S, ∃ t, y ∈ K t) (h : ∀ t, Done A (K t) (fs t)) (hg : ∀ t, ∀ y ∈ K t, g y = fs t y) : Done A S g :=
  fun a ha c hc r hr f hf hy => by
    obtain ⟨t, ht⟩ := hS _ hy
    show g _ = _
    rw [hg t _ ht]
    exact h t a ha c hc r hr f hf ht

theorem ixc_val {a b c : ℕ} (ha : a < 12) (hb : b < 2) (hc : c < 67584) :
    (ixc pos3 ![a, b, c] 0).val = a ∧ (ixc pos3 ![a, b, c] 1).val = b ∧ (ixc pos3 ![a, b, c] 2).val = c :=
  ⟨Nat.mod_eq_of_lt (show a < 12 from ha), Nat.mod_eq_of_lt (show b < 2 from hb), Nat.mod_eq_of_lt (show c < 67584 from hc)⟩

/-- A task's six blocks are its part. -/
theorem Done.of_ok {E : Env F} {A : Ins F} {w : ℕ} (hw : w < 32) {g : S12x2x67584.Idx → Elt F .f32} (hk : E.k = A.k) (hv : E.v = A.v) (hq : E.q = A.q) (hx : E.x = A.x)
    (h : ∀ u < 6, ∀ c < 2, OutOk E (6 * w) u c g) : Done A (part w) g := fun a ha c hc r hr f hf hy => by
  rw [mem_part] at hy
  unfold blk at hy
  obtain ⟨e0, -, e2⟩ := ixc_val (a := a) (b := c) (c := r * 33 + f) ha hc (by omega)
  rw [e0, e2] at hy
  have hh : hU (6 * w) (16 * a + r / 128 - 6 * w) = a := by unfold hU; omega
  have hb : bU (6 * w) (16 * a + r / 128 - 6 * w) = r / 128 := by unfold bU; omega
  have := h (16 * a + r / 128 - 6 * w) (by omega) c hc (r % 128) (Nat.mod_lt _ (by decide)) f hf
  rw [hh, hb, show r / 128 * 4224 + (r % 128 * 33 + f) = r * 33 + f by omega, show r / 128 * 128 + r % 128 = r by omega] at this
  rw [this]
  unfold ovE
  rw [hk, hv, hq, hx]

theorem part_blocks {E : Env F} {w : ℕ} (hE : E.S = part w) : E.Part (6 * w) := fun u hu y h0 h1 h2 => by
  rw [hE, mem_part]
  unfold blk
  have hh : hU (6 * w) u = (6 * w + u) / 16 := rfl
  have hb : bU (6 * w) u = (6 * w + u) % 16 := rfl
  omega

/-! ## What the handshakes carry -/

abbrev kLoc (d : Dev nD) : Loc nD τ sig := (SparseCore.T d).loc main_v3
abbrev vLoc (d : Dev nD) : Loc nD τ sig := (SparseCore.T d).loc main_v7
abbrev qLoc (d : Dev nD) : Loc nD τ sig := (SparseCore.T d).loc main_v9
abbrev xLoc (d : Dev nD) : Loc nD τ sig := (SparseCore.T d).loc main_v11
abbrev oLoc (d : Dev nD) : Loc nD τ sig := (SparseCore.T d).loc main_v12

/-- A share of the arrays the tasks read. -/
def ins (A : Ins F) (d : Dev nD) (p : PosShare TreeShare) : sProp 𝕄 :=
  iprop((kLoc d ↦{p} A.k) ∗ (vLoc d ↦{p} A.v) ∗ (qLoc d ↦{p} A.q) ∗ (xLoc d ↦{p} A.x))

/-- A part of the array of results, whatever it holds. -/
def some_ (d : Dev nD) (S : Finset S12x2x67584.Idx) : sProp 𝕄 := iprop(∃ f, oLoc d ↦[S]{fullShare} f)

/-- A part of the array of results, done. -/
def done (A : Ins F) (d : Dev nD) (S : Finset S12x2x67584.Idx) : sProp 𝕄 := iprop(∃ f, ⌜Done A S f⌝ ∗ oLoc d ↦[S]{fullShare} f)

abbrev coreShare (c : ℕ) : PosShare TreeShare := Transfers.shareTokN fullShare c
abbrev taskShare (c i : ℕ) : PosShare TreeShare := Transfers.shareTokN (coreShare c) i

variable (A : Dev nD → Ins F)

/-- The call takes a share of the arrays its tasks read and the array of results, and brings the results back. -/
def P : (K (F := F)).Pay (nD := nD) (Val := Elt F) (Name := ℕ) (U := UU) where
  st := fun _ d c => iprop(ins (A d) d (coreShare c.val) ∗ some_ d (corePart c.val))
  dn := fun _ d c => done (A d) d (corePart c.val)
  go := fun _ d c i => iprop(ins (A d) d (taskShare c.val i.val) ∗ some_ d (part (2 * i.val + c.val)))
  td := fun _ d c i => done (A d) d (part (2 * i.val + c.val))
  x := fun _ _ => iprop(emp)

instance P_storable : (P (F := F) A).IsStorable where
  st _ d c := by unfold P ins some_; infer_instance
  dn _ d c := by unfold P done; infer_instance
  go _ d c i := by unfold P ins some_; infer_instance
  td _ d c i := by unfold P done; infer_instance

/-! ## The task -/

/-- The semaphores of the printed body's copies, in their order. -/
def sems (n : ℕ) : DmaSems sig S_ := ([cc0_scoped0, cc0_scoped1, cc0_scoped2, cc0_scoped3, cc0_scoped4, cc0_scoped5, cc0_scoped6, cc0_scoped7, cc0_scoped8, cc0_scoped9, cc0_scoped10, cc0_scoped11, cc0_scoped12, cc0_scoped13, cc0_scoped14, cc0_scoped15, cc0_scoped16, cc0_scoped17, cc0_scoped18, cc0_scoped19, cc0_scoped20, cc0_scoped21, cc0_scoped22, cc0_scoped23, cc0_scoped24, cc0_scoped25, cc0_scoped26, cc0_scoped27, cc0_scoped28, cc0_scoped29, cc0_scoped30, cc0_scoped31, cc0_scoped32, cc0_scoped33, cc0_scoped34, cc0_scoped35, cc0_scoped36, cc0_scoped37, cc0_scoped38, cc0_scoped39] : List (DmaSems sig S_)).getD n cc0_scoped0

theorem sems_own : ∀ n < 40, Own (sems n) := by decide

section

variable (d : Dev nD) (i : grid0.Coords)

/-- The five scratches are among a task's own buffers. -/
theorem ownBufs_V :
    (ownBufs (thr d i) : sProp 𝕄)
      = iprop((∃ f, (tS.view.loc (thr d i)) ↦{fullShare} f) ∗ (∃ f, (qS.view.loc (thr d i)) ↦{fullShare} f)
          ∗ (∃ f, (xS.view.loc (thr d i)) ↦{fullShare} f) ∗ (∃ f, (wS.view.loc (thr d i)) ↦{fullShare} f)
          ∗ (∃ f, (oS.view.loc (thr d i)) ↦{fullShare} f)
          ∗ bigSep ((((((ownRefs (τ := τ) (.scVector (cV i) (jV i))).erase ((Proc.scVector (cV i) (jV i)).devRef cc0_scratch0)).erase
              ((Proc.scVector (cV i) (jV i)).devRef cc0_scratch1)).erase ((Proc.scVector (cV i) (jV i)).devRef cc0_scratch2)).erase
              ((Proc.scVector (cV i) (jV i)).devRef cc0_scratch3)).erase ((Proc.scVector (cV i) (jV i)).devRef cc0_scratch4))
              fun b => iprop(∃ f, ((d, b) : Loc nD τ sig) ↦{fullShare} f)) := by
  unfold SparseCore.Cfg.ownBufs
  have hm : ∀ r ∈ [cc0_scratch0, cc0_scratch1, cc0_scratch2, cc0_scratch3, cc0_scratch4],
      (Proc.scVector (cV i) (jV i)).devRef r ∈ ownRefs (τ := τ) (.scVector (cV i) (jV i)) := by
    intro r hr
    simp only [List.mem_cons, List.not_mem_nil, or_false] at hr
    rcases hr with rfl | rfl | rfl | rfl | rfl <;> exact SparseCore.Cfg.mem_ownRefs_of_owner (p := Proc.scVector (cV i) (jV i)) rfl
  have hn : ∀ r r' : Ref sig .scVector, r ≠ r' → (Proc.scVector (cV i) (jV i)).devRef r ≠ (Proc.scVector (cV i) (jV i)).devRef r' :=
    fun r r' h e => h (Proc.devRef_injective _ e)
  refine (SparseCore.bigSep_erase' (hm cc0_scratch0 (by simp))).trans ?_
  rw [SparseCore.bigSep_erase' (Finset.mem_erase.mpr ⟨hn cc0_scratch1 cc0_scratch0 (by decide), hm cc0_scratch1 (by simp)⟩),
    SparseCore.bigSep_erase' (Finset.mem_erase.mpr ⟨hn cc0_scratch2 cc0_scratch1 (by decide),
      Finset.mem_erase.mpr ⟨hn cc0_scratch2 cc0_scratch0 (by decide), hm cc0_scratch2 (by simp)⟩⟩),
    SparseCore.bigSep_erase' (Finset.mem_erase.mpr ⟨hn cc0_scratch3 cc0_scratch2 (by decide),
      Finset.mem_erase.mpr ⟨hn cc0_scratch3 cc0_scratch1 (by decide), Finset.mem_erase.mpr ⟨hn cc0_scratch3 cc0_scratch0 (by decide), hm cc0_scratch3 (by simp)⟩⟩⟩),
    SparseCore.bigSep_erase' (Finset.mem_erase.mpr ⟨hn cc0_scratch4 cc0_scratch3 (by decide), Finset.mem_erase.mpr ⟨hn cc0_scratch4 cc0_scratch2 (by decide),
      Finset.mem_erase.mpr ⟨hn cc0_scratch4 cc0_scratch1 (by decide), Finset.mem_erase.mpr ⟨hn cc0_scratch4 cc0_scratch0 (by decide), hm cc0_scratch4 (by simp)⟩⟩⟩⟩)]

/-- A task, from its share and its part, ends with its part done. -/
theorem tile_body (hF : (K (F := F)).Facts) (hA : ∀ y, ((A d).x y).toNat < 2048) (O : CellTallies nD τ sig (HIx 1)) (Wt : Waits sig (HIx 1))
    (hO : ∀ g, O g none = 0) :
    iprop(levAts (K (F := F)).L (K (F := F)).lev ∗ emp
        ∗ (ins (A d) d (taskShare (i 0).val (i 1).val) ∗ some_ d (part (2 * (i 1).val + (i 0).val)))
        ∗ scopedBufs (thr d i) ∗ scopedSems0 (thr d i) ∗ owes (thr d i) O Wt)
      ⊢ wp frame (wpE (defs₀ (F := F)) 𝒱₀ (thr d i) none) Set.univ (Gk.body (F := F) i mm sems)
          fun _ => iprop(done (A d) d (part (2 * (i 1).val + (i 0).val)) ∗ scopedBufs (thr d i) ∗ scopedSems0 (thr d i)
            ∗ ∃ W', ⌜∀ p ∈ W', p ∈ Wt ∨ p.2 = none⌝ ∗ owes (thr d i) O W') := by
  rw [(K (F := F)).scopedBufs_V hF d (cV i) (jV i), SparseCore.Cfg.scopedSems0_V (Val := Elt F) d (cV i) (jV i), ownBufs_V]
  unfold ins some_
  iintro ⟨#Hlv, -, ⟨⟨Hk, Hv, Hq, Hx⟩, %fo, Ho⟩, ⟨⟨%f0, H0⟩, ⟨%f1, H1⟩, ⟨%f2, H2⟩, ⟨%f3, H3⟩, ⟨%f4, H4⟩, Hbufs⟩, Hsems, HO⟩
  let E : Env F := ⟨d, i, O, hO, Wt, taskShare (i 0).val (i 1).val, (A d).k, (A d).v, (A d).q, (A d).x, part (2 * (i 1).val + (i 0).val)⟩
  have hw : 2 * (i 1).val + (i 0).val < 32 := by
    have h0 : (i 0).val < 2 := (i 0).isLt
    have h1 : (i 1).val < 16 := (i 1).isLt
    omega
  have hb := Tr.body (E := E) (σ := ⟨f0, f1, f2, f3, f4, fo⟩) sems_own hA (part_blocks (E := E) (w := 2 * (i 1).val + (i 0).val) rfl)
  iapply (hb (bigSep ((((((ownRefs (τ := τ) (.scVector (cV i) (jV i))).erase ((Proc.scVector (cV i) (jV i)).devRef cc0_scratch0)).erase
              ((Proc.scVector (cV i) (jV i)).devRef cc0_scratch1)).erase ((Proc.scVector (cV i) (jV i)).devRef cc0_scratch2)).erase
              ((Proc.scVector (cV i) (jV i)).devRef cc0_scratch3)).erase ((Proc.scVector (cV i) (jV i)).devRef cc0_scratch4))
              fun b => iprop(∃ f, ((d, b) : Loc nD τ sig) ↦{fullShare} f)) _ ?fin) $$ [Hk Hv Hq Hx Ho H0 H1 H2 H3 H4 Hbufs Hsems HO]
  case fin =>
    intro _ σ' hσ
    unfold Mst done
    iintro ⟨⟨-, -, -, -, -, Ho, H0, H1, H2, H3, H4, Hsems, HO⟩, Hbufs⟩
    isplitl [Ho]
    · iexists _
      isplitr
      · ipureintro
        exact Done.of_ok (E := E) hw rfl rfl rfl rfl hσ
      · iexact Ho
    isplitl [H0 H1 H2 H3 H4 Hbufs]
    · isplitl [H0]; · iexists _; iexact H0
      isplitl [H1]; · iexists _; iexact H1
      isplitl [H2]; · iexists _; iexact H2
      isplitl [H3]; · iexists _; iexact H3
      isplitl [H4]; · iexists _; iexact H4
      iexact Hbufs
    isplitl [Hsems]; · iexact Hsems
    iexact HO
  isplitr [Hbufs]
  · unfold Mst
    isplitr; · iexact Hlv
    isplitl [Hk]; · iexact Hk
    isplitl [Hv]; · iexact Hv
    isplitl [Hq]; · iexact Hq
    isplitl [Hx]; · iexact Hx
    isplitl [Ho]; · iexact Ho
    isplitl [H0]; · iexact H0
    isplitl [H1]; · iexact H1
    isplitl [H2]; · iexact H2
    isplitl [H3]; · iexact H3
    isplitl [H4]; · iexact H4
    isplitl [Hsems]; · iexact Hsems
    iexists Wt
    isplitr
    · ipureintro
      exact fun p hp => .inl hp
    · iexact HO
  · iexact Hbufs

end

end Cert.Proof.Gk
-- ==== Proof.Host.lean ====
/-
  The host's operations around the call: the two lists of them that @main runs before and after the call, and what they
  leave in the arrays the call reads.
-/
module

public import proofs.«01_k».proof.Proof.Tile
public import Idealize.ShloMosaic.Lib.StableHlo.Run
public import Idealize.ShloMosaic.Lib.Pipeline.Frame

@[expose] public section

noncomputable section

namespace Cert.Proof.Gk

open Cert.KernelIdeal Cert.KernelIdeal.Gen
open Idealize.ShloMosaic Idealize.ShloMosaic.StableHlo
open Idealize.SL.Sem

variable {F : FTy → Type} [FloatOps F]

/-- The operations before the call. -/
abbrev opsA : List (HloOp τ sig (Elt F)) :=
  [StableHlo.reshape main_arg1 main_v0 (rfl : (.f32 : EltTy) = .f32) shapeCasts_S12x2048x64_S12x2048x2x32,
    unary main_v0 main_v1 ((transpose S12x2x2048x32 [0, 2, 1, 3] · transposes_S12x2048x2x32_S12x2x2048x32_0_2_1_3) : (⟨S12x2048x2x32, .f32⟩ : BufTy).Contents (Elt F) → (⟨S12x2x2048x32, .f32⟩ : BufTy).Contents (Elt F)),
    nullary main_c (constantI S_ 32 0#32),
    TRef.unary (.of main_c : TRef sig ⟨S_, .i32⟩) (.of main_call0_v0 : TRef sig ⟨S_, .f32⟩) (sitofp .f32),
    TRef.binary (.of main_v1 : TRef sig ⟨S12x2x2048x32, .f32⟩) (.of main_call0_v0 : TRef sig ⟨S_, .f32⟩) (.of main_v2 : TRef sig ⟨S12x2x2048x33, .f32⟩) (fun x v => pad S12x2x2048x33 ![0, 0, 0, 0] ![0, 0, 0, 1] ![0, 0, 0, 0] x v pads_S12x2x2048x32_S12x2x2048x33_000_000_000_010 h_S_),
    StableHlo.reshape main_v2 main_v3 (rfl : (.f32 : EltTy) = .f32) shapeCasts_S12x2x2048x33_S12x2x67584,
    StableHlo.reshape main_arg2 main_v4 (rfl : (.f32 : EltTy) = .f32) shapeCasts_S12x2048x64_S12x2048x2x32,
    unary main_v4 main_v5 ((transpose S12x2x2048x32 [0, 2, 1, 3] · transposes_S12x2048x2x32_S12x2x2048x32_0_2_1_3) : (⟨S12x2048x2x32, .f32⟩ : BufTy).Contents (Elt F) → (⟨S12x2x2048x32, .f32⟩ : BufTy).Contents (Elt F)),
    nullary main_c_0 (constantI S_ 32 0#32),
    TRef.unary (.of main_c_0 : TRef sig ⟨S_, .i32⟩) (.of main_call1_v0 : TRef sig ⟨S_, .f32⟩) (sitofp .f32),
    TRef.binary (.of main_v5 : TRef sig ⟨S12x2x2048x32, .f32⟩) (.of main_call1_v0 : TRef sig ⟨S_, .f32⟩) (.of main_v6 : TRef sig ⟨S12x2x2048x33, .f32⟩) (fun x v => pad S12x2x2048x33 ![0, 0, 0, 0] ![0, 0, 0, 1] ![0, 0, 0, 0] x v pads_S12x2x2048x32_S12x2x2048x33_000_000_000_010 h_S_),
    StableHlo.reshape main_v6 main_v7 (rfl : (.f32 : EltTy) = .f32) shapeCasts_S12x2x2048x33_S12x2x67584,
    nullary main_c_1 (constantI S_ 32 0#32),
    TRef.unary (.of main_c_1 : TRef sig ⟨S_, .i32⟩) (.of main_call2_v0 : TRef sig ⟨S_, .f32⟩) (sitofp .f32),
    TRef.binary (.of main_arg0 : TRef sig ⟨S12x2048x64, .f32⟩) (.of main_call2_v0 : TRef sig ⟨S_, .f32⟩) (.of main_v8 : TRef sig ⟨S12x2048x65, .f32⟩) (fun x v => pad S12x2048x65 ![0, 0, 0] ![0, 0, 1] ![0, 0, 0] x v pads_S12x2048x64_S12x2048x65_000_000_010 h_S_),
    StableHlo.reshape main_v8 main_v9 (rfl : (.f32 : EltTy) = .f32) shapeCasts_S12x2048x65_S12x133120,
    nullary main_c_2 (constantI S_ 32 0#32),
    TRef.unary (.of main_c_2 : TRef sig ⟨S_, .i32⟩) (.of main_call3_v0 : TRef sig ⟨S_, .i32⟩) id,
    TRef.binary (.of main_arg3 : TRef sig ⟨S12x2048x16, .i32⟩) (.of main_call3_v0 : TRef sig ⟨S_, .i32⟩) (.of main_v10 : TRef sig ⟨S12x2048x17, .i32⟩) (fun x v => pad S12x2048x17 ![0, 0, 0] ![0, 0, 1] ![0, 0, 0] x v pads_S12x2048x16_S12x2048x17_000_000_010 h_S_),
    StableHlo.reshape main_v10 main_v11 (rfl : (.i32 : EltTy) = .i32) shapeCasts_S12x2048x17_S12x34816]

/-- The operations after the call. -/
abbrev opsB : List (HloOp τ sig (Elt F)) :=
  [StableHlo.reshape main_v12 main_v13 (rfl : (.f32 : EltTy) = .f32) shapeCasts_S12x2x67584_S12x2x2048x33,
    unary main_v13 main_v14 ((extractStridedSlice S12x2x2048x32 ![0, 0, 0, 0] · slices_S12x2x2048x33_S12x2x2048x32_0_0_0_0) : (⟨S12x2x2048x33, .f32⟩ : BufTy).Contents (Elt F) → (⟨S12x2x2048x32, .f32⟩ : BufTy).Contents (Elt F)),
    unary main_v14 main_v15 ((transpose S2048x12x2x32 [2, 0, 1, 3] · transposes_S12x2x2048x32_S2048x12x2x32_2_0_1_3) : (⟨S12x2x2048x32, .f32⟩ : BufTy).Contents (Elt F) → (⟨S2048x12x2x32, .f32⟩ : BufTy).Contents (Elt F)),
    StableHlo.reshape main_v15 main_v16 (rfl : (.f32 : EltTy) = .f32) shapeCasts_S2048x12x2x32_S2048x768]

/-- @main is the first list, the call, and the second list. -/
theorem main_eq (d : Dev nD) : main (F := F) d = (seq opsA >>= fun _ => (sc (F := F)).run d 0 >>= fun _ => seq opsB >>= fun _ => pure ⟨⟩) := (rfl)

theorem opsA_sub : ∀ op ∈ opsA (F := F), op.bufs ⊆ Pipeline.ucRefs τ sig := by
  intro op h
  refine Pipeline.sub_ucRefs op ?_
  revert op
  rw [← List.forall_iff_forall_mem]
  exact ⟨reshape_bufs_sub .., unary_bufs_sub .., nullary_bufs_sub .., unary_bufs_sub .., binary_bufs_sub .., reshape_bufs_sub ..,
    reshape_bufs_sub .., unary_bufs_sub .., nullary_bufs_sub .., unary_bufs_sub .., binary_bufs_sub .., reshape_bufs_sub ..,
    nullary_bufs_sub .., unary_bufs_sub .., binary_bufs_sub .., reshape_bufs_sub ..,
    nullary_bufs_sub .., unary_bufs_sub .., binary_bufs_sub .., reshape_bufs_sub ..⟩

theorem opsB_sub : ∀ op ∈ opsB (F := F), op.bufs ⊆ Pipeline.ucRefs τ sig := by
  intro op h
  refine Pipeline.sub_ucRefs op ?_
  revert op
  rw [← List.forall_iff_forall_mem]
  exact ⟨reshape_bufs_sub .., unary_bufs_sub .., unary_bufs_sub .., reshape_bufs_sub ..⟩

theorem opsA_fresh : ∀ op ∈ opsA (F := F), op.fresh = ∅ := by
  rw [← List.forall_iff_forall_mem]
  exact ⟨rfl, rfl, rfl, rfl, rfl, rfl, rfl, rfl, rfl, rfl, rfl, rfl, rfl, rfl, rfl, rfl, rfl, rfl, rfl, rfl⟩

theorem opsB_fresh : ∀ op ∈ opsB (F := F), op.fresh = ∅ := by
  rw [← List.forall_iff_forall_mem]
  exact ⟨rfl, rfl, rfl, rfl⟩

section

variable (V : Valuation τ sig (Elt F))

/-- A half of every row of an array of rows, one half after the other, each row with one word of padding. -/
def halves (x : S12x2048x64.Idx → Elt F .f32) : S12x2x67584.Idx → Elt F .f32 :=
  shapeCast S12x2x67584 (pad S12x2x2048x33 ![0, 0, 0, 0] ![0, 0, 0, 1] ![0, 0, 0, 0]
    (transpose S12x2x2048x32 [0, 2, 1, 3] (shapeCast S12x2048x2x32 x shapeCasts_S12x2048x64_S12x2048x2x32) transposes_S12x2048x2x32_S12x2x2048x32_0_2_1_3)
    (sitofp .f32 (constantI S_ 32 0#32)) pads_S12x2x2048x32_S12x2x2048x33_000_000_000_010 h_S_) shapeCasts_S12x2x2048x33_S12x2x67584

/-- The rows of the queries, each with one word of padding. -/
def padQ (x : S12x2048x64.Idx → Elt F .f32) : S12x133120.Idx → Elt F .f32 :=
  shapeCast S12x133120 (pad S12x2048x65 ![0, 0, 0] ![0, 0, 1] ![0, 0, 0] x
    (sitofp .f32 (constantI S_ 32 0#32)) pads_S12x2048x64_S12x2048x65_000_000_010 h_S_) shapeCasts_S12x2048x65_S12x133120

/-- The rows of the indices, each with one word of padding. -/
def padX (x : S12x2048x16.Idx → Elt F .i32) : S12x34816.Idx → Elt F .i32 :=
  shapeCast S12x34816 (pad S12x2048x17 ![0, 0, 0] ![0, 0, 1] ![0, 0, 0] x
    (constantI S_ 32 0#32) pads_S12x2048x16_S12x2048x17_000_000_010 h_S_) shapeCasts_S12x2048x17_S12x34816

/-- The result of the host, from the array of results. -/
def unpack (g : S12x2x67584.Idx → Elt F .f32) : S2048x768.Idx → Elt F .f32 :=
  shapeCast S2048x768 (transpose S2048x12x2x32 [2, 0, 1, 3] (extractStridedSlice S12x2x2048x32 ![0, 0, 0, 0]
    (shapeCast S12x2x2048x33 g shapeCasts_S12x2x67584_S12x2x2048x33) slices_S12x2x2048x33_S12x2x2048x32_0_0_0_0)
    transposes_S12x2x2048x32_S2048x12x2x32_2_0_1_3) shapeCasts_S2048x12x2x32_S2048x768

theorem A_v3 : after opsA V (Proc.devRef .tc main_v3) = halves (V (Proc.devRef .tc main_arg1)) := by
  after_results; rfl
theorem A_v7 : after opsA V (Proc.devRef .tc main_v7) = halves (V (Proc.devRef .tc main_arg2)) := by
  after_results; rfl
theorem A_v9 : after opsA V (Proc.devRef .tc main_v9) = padQ (V (Proc.devRef .tc main_arg0)) := by
  after_results; rfl
theorem A_v11 : after opsA V (Proc.devRef .tc main_v11) = padX (V (Proc.devRef .tc main_arg3)) := by
  after_results; rfl
theorem A_arg0 : after opsA V (Proc.devRef .tc main_arg0) = V (Proc.devRef .tc main_arg0) := by after_results
theorem A_arg1 : after opsA V (Proc.devRef .tc main_arg1) = V (Proc.devRef .tc main_arg1) := by after_results
theorem A_arg2 : after opsA V (Proc.devRef .tc main_arg2) = V (Proc.devRef .tc main_arg2) := by after_results
theorem A_arg3 : after opsA V (Proc.devRef .tc main_arg3) = V (Proc.devRef .tc main_arg3) := by after_results
theorem B_v16 : after opsB V (Proc.devRef .tc main_v16) = unpack (V (Proc.devRef .tc main_v12)) := by
  after_results; rfl
theorem B_arg0 : after opsB V (Proc.devRef .tc main_arg0) = V (Proc.devRef .tc main_arg0) := by after_results
theorem B_arg1 : after opsB V (Proc.devRef .tc main_arg1) = V (Proc.devRef .tc main_arg1) := by after_results
theorem B_arg2 : after opsB V (Proc.devRef .tc main_arg2) = V (Proc.devRef .tc main_arg2) := by after_results
theorem B_arg3 : after opsB V (Proc.devRef .tc main_arg3) = V (Proc.devRef .tc main_arg3) := by after_results

end

end Cert.Proof.Gk

end
-- ==== Proof.BodyEq.lean ====
/-
  The printed body is the program written over its parameters: operation by operation, the printed windows' cuts put
  away by the associativity of sequencing.
-/
module

public import proofs.«01_k».proof.Proof.Gk

@[expose] public section

noncomputable section

namespace Cert.Proof.Gk

open Cert.KernelIdeal Cert.KernelIdeal.Gen
open Idealize.ShloMosaic Idealize.SL.Sem

variable {F : FTy → Type} [FloatOps F]

section Steps

universe v

variable {E : Type → Type v} {α β γ δ : Type} {w : ℕ}

theorem op_congr {e : E α} {k k' : α → Prog E β} (h : ∀ x, k x = k' x) : Prog.op e k = Prog.op e k' :=
  congrArg _ (funext h)

theorem for_congr {l : Scf.Loop w} {ok : l.OK} {a a' : α} {b b' : Fin l.trips → α → Prog E α} {k k' : α → Prog E β}
    (ha : a = a') (hb : ∀ t x, b t x = b' t x) (h : ∀ x, k x = k' x) :
    (Scf.Loop.for l ok a b >>= k) = (Scf.Loop.for l ok a' b' >>= k') := by
  obtain rfl := ha
  obtain rfl : b = b' := funext fun t => funext (hb t)
  obtain rfl : k = k' := funext h
  rfl

theorem for_congr₂ {l : Scf.Loop w} {ok : l.OK} {a a' : α} {b b' : Fin l.trips → α → Prog E α} {k : α → Prog E γ} {k' : α → Prog E β}
    {f : γ → Prog E β}
    (ha : a = a') (hb : ∀ t x, b t x = b' t x) (h : ∀ x, (k x >>= f) = k' x) :
    ((Scf.Loop.for l ok a b >>= k) >>= f) = (Scf.Loop.for l ok a' b' >>= k') := by
  rw [bind_assoc]
  exact for_congr ha hb h

theorem dite_same {c : Prop} [Decidable c] {a a' : c → Prog E α} {b b' : ¬c → Prog E α} (ha : ∀ h, a h = a' h)
    (hb : ∀ h, b h = b' h) : dite c a b = dite c a' b' := by
  by_cases h : c
  · simp only [dif_pos h]; exact ha h
  · simp only [dif_neg h]; exact hb h

end Steps

set_option maxRecDepth 65536 in
set_option maxHeartbeats 4000000 in
/-- The printed body is the program over its parameters. -/
theorem body_eq (i : grid0.Coords) (m : Mem) (s : ℕ → DmaSems sig S_) :
    cc0__sc_attn_body (F := F) i m.a2 m.h2 m.a3 m.h3 m.a4 m.h4 m.a5 m.h5 m.a6 m.h6 m.a7 m.h7 m.a8 m.h8 m.a9 m.h9 m.a10 m.h10 m.a11 m.h11 (s
    0) (s 1) (s 2) (s 3) (s 4) (s 5) (s 6) (s 7) (s 8) (s 9) (s 10) (s 11) (s 12) (s 13) (s 14) (s 15) (s 16) (s
    17) (s 18) (s 19) (s 20) (s 21) (s 22) (s 23) (s 24) (s 25) (s 26) (s 27) (s 28) (s 29) (s 30) (s 31) (s 32)
    (s 33) (s 34) (s 35) (s 36) (s 37) (s 38) (s 39) = body i m s := by
  -- the loops over blocks of the first head
  iterate 8
    repeat refine op_congr fun x => ?_
    refine for_congr₂ (rfl) (fun t x => ?_) (fun x => ?_)
    rotate_left
  iterate 2
    repeat refine op_congr fun x => ?_
    refine for_congr (rfl) (fun t x => ?_) (fun x => ?_)
    rotate_left
  refine dite_same (c := k0_cond1 i = 1#1) (fun h => ?_) (fun h => ?_)
  rotate_left
  exact (rfl)
  rotate_right
  -- the loops over blocks of the second
  iterate 10
    repeat refine op_congr fun x => ?_
    refine for_congr₂ (rfl) (fun t x => ?_) (fun x => ?_)
    rotate_left
  exact (rfl)
  -- the loops' bodies
  iterate 2
    iterate 2 focus as_aux_lemma =>
      iterate 4 refine op_congr fun x => ?_
      refine for_congr ?_ (fun t x => ?_) (fun x => ?_)
      · exact (rfl)
      · as_aux_lemma =>
        iterate 32 refine op_congr fun x => ?_
        refine for_congr₂ ?_ (fun t x => ?_) (fun x => ?_)
        · exact (rfl)
        · as_aux_lemma =>
          iterate 34 refine op_congr fun x => ?_
          exact (rfl)
        · as_aux_lemma =>
          iterate 32 refine op_congr fun x => ?_
          exact (rfl)
      · exact (rfl)
    iterate 2 focus as_aux_lemma =>
      iterate 4 refine op_congr fun x => ?_
      refine for_congr ?_ (fun t x => ?_) (fun x => ?_)
      · exact (rfl)
      · as_aux_lemma =>
        iterate 48 refine op_congr fun x => ?_
        refine for_congr₂ ?_ (fun t x => ?_) (fun x => ?_)
        · exact (rfl)
        · as_aux_lemma =>
          iterate 34 refine op_congr fun x => ?_
          exact (rfl)
        · as_aux_lemma =>
          iterate 32 refine op_congr fun x => ?_
          exact (rfl)
      · exact (rfl)
    iterate 2 focus as_aux_lemma =>
      refine for_congr ?_ (fun t x => ?_) (fun x => ?_)
      · exact (rfl)
      · exact (rfl)
      · exact (rfl)
    iterate 4 focus as_aux_lemma =>
      iterate 2 refine op_congr fun x => ?_
      refine for_congr ?_ (fun t x => ?_) (fun x => ?_)
      · exact (rfl)
      · as_aux_lemma =>
        iterate 48 refine op_congr fun x => ?_
        refine for_congr ?_ (fun t x => ?_) (fun x => ?_)
        · exact (rfl)
        · as_aux_lemma =>
          iterate 34 refine op_congr fun x => ?_
          exact (rfl)
        · exact (rfl)
      · exact (rfl)

end Cert.Proof.Gk
-- ==== Proof.Launch.lean ====
/-
  The launch: every task of the call runs from its share of the arrays it reads and its part of the array of results, and
  @main, run from any memory whose indices name rows, ends with its arguments as they were and its result the attention.
-/
module

public import proofs.«01_k».proof.Proof.Host
public import proofs.«01_k».proof.Proof.BodyEq

@[expose] public section

noncomputable section

namespace Cert.Proof.Gk

open Cert.KernelIdeal Cert.KernelIdeal.Gen
open Idealize.ShloMosaic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.SparseCore Idealize.ShloMosaic.SparseCore.Cfg

variable {F : FTy → Type} [FloatOps F]

local notation "𝕄" => MT nD τ sig (HIx 1) (Elt F) ℕ UU ℕ

abbrev D : Defs nD τ sig (Elt F) (ΛP (F := F)) := Pipeline.defs pcfgs defs₀
abbrev 𝒱 : Variants := 𝒱₀.lift
abbrev v₀ : 𝒱.V := Sum.inl none
abbrev EH : Emb UH (MT nD τ sig (HIx 1) (Elt F) ℕ UU ℕ) := embL

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The tasks -/

def coordsV (c : Fin (grid0.bound 0)) (s : Fin (grid0.bound 1)) : grid0.Coords :=
  fun | 0 => c | 1 => s | ⟨_ + 2, h⟩ => absurd h (Nat.not_lt.2 (Nat.le_add_left _ _))

/-- A task's program is the printed body at its coordinates. -/
theorem defs₀_vector (c : Fin τ.nSC) (s : Fin τ.nSub) :
    defs₀ (F := F) (.scVector c s) 0 ()
      = SparseCore.onTile hcore0 hsub0 (fun c s => Gk.body (F := F) (coordsV c s) mm sems) ⟨⟩ c s := by
  have h := fun i => body_eq (F := F) i mm sems
  rw [← funext fun c => funext fun s => h (coordsV c s)]
  rfl

theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

section

variable (A : Dev nD → Ins F)

/-- Every task meets its obligation. -/
theorem tileObl (hA : ∀ d y, ((A d).x y).toNat < 2048) : (K (F := F)).TileObl (D (F := F)) 𝒱 (P A) v₀ 0 := by
  intro d c i O W hO _ _
  simp only [show (P A).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body A d (coordsV ⟨_, hc.1⟩ ⟨_, hc.2⟩) facts (hA d) O W hO).trans (wp_mono frame _ _ fun _ => obl_post)

/-! ## Dealing the call's arrays out and joining its results -/

/-- A share of the arrays the tasks read is dealt into read shares. -/
theorem ins_deal (I : Ins F) (d : Dev nD) (q : PosShare TreeShare) (n : ℕ) :
    (ins I d q : sProp 𝕄) ⊢ bigSep Finset.univ fun i : Fin n => ins I d (Transfers.shareTokN q i.val) := by
  unfold ins
  rw [bigSep_sep', bigSep_sep', bigSep_sep']
  iintro ⟨Hk, Hv, Hq, Hx⟩
  ihave Hk := (Transfers.pointsTo_toks_split q n) $$ Hk
  ihave Hv := (Transfers.pointsTo_toks_split q n) $$ Hv
  ihave Hq := (Transfers.pointsTo_toks_split q n) $$ Hq
  ihave Hx := (Transfers.pointsTo_toks_split q n) $$ Hx
  icases Hk with ⟨-, Hk⟩
  icases Hv with ⟨-, Hv⟩
  icases Hq with ⟨-, Hq⟩
  icases Hx with ⟨-, Hx⟩
  isplitl [Hk]; · iexact Hk
  isplitl [Hv]; · iexact Hv
  isplitl [Hq]; · iexact Hq
  iexact Hx

/-- A part of the array of results is cut into parts of it. -/
theorem some_cut (d : Dev nD) {n : ℕ} (I : Fin n → Finset S12x2x67584.Idx)
    (hI : ∀ i ∈ (Finset.univ : Finset (Fin n)), ∀ j ∈ (Finset.univ : Finset (Fin n)), i ≠ j → Disjoint (I i) (I j)) :
    (some_ d (Finset.univ.biUnion I) : sProp 𝕄) ⊢ bigSep Finset.univ fun i => some_ d (I i) := by
  unfold some_
  iintro ⟨%f, H⟩
  ihave H := (Entails.of_eq (pointsTo_biUnion Finset.univ (ℓ := oLoc d) I hI)) $$ H
  have h : (bigSep Finset.univ fun i => (oLoc d ↦[I i]{fullShare} f : sProp 𝕄)) ⊢ bigSep Finset.univ fun i => iprop(∃ f, oLoc d ↦[I i]{fullShare} f) :=
    bigSep_mono fun i _ => exists_intro (Φ := fun f => iprop(oLoc d ↦[I i]{fullShare} f)) f
  iapply h $$ H

/-- Done parts are joined. -/
theorem done_join (B : Ins F) (d : Dev nD) {n : ℕ} (I : Fin n → Finset S12x2x67584.Idx)
    (hI : ∀ i ∈ (Finset.univ : Finset (Fin n)), ∀ j ∈ (Finset.univ : Finset (Fin n)), i ≠ j → Disjoint (I i) (I j)) :
    (bigSep Finset.univ fun i => done B d (I i)) ⊢ (done B d (Finset.univ.biUnion I) : sProp 𝕄) := by
  unfold done
  refine (bigSep_exists_pi Finset.univ (fun i (f : Buf (Elt F) (oLoc d)) => iprop(⌜Done B (I i) f⌝ ∗ oLoc d ↦[I i]{fullShare} f))).trans ?_
  iintro ⟨%fs, H⟩
  ihave H := (bigSep_pure_sep Finset.univ (fun i => Done B (I i) (fs i)) (fun i => (oLoc d ↦[I i]{fullShare} fs i))) $$ H
  icases H with ⟨%h, H⟩
  ihave H := (pointsTo_biUnion_join Finset.univ I fs (fun _ => FloatOps.ofBits .f32 0) hI) $$ H
  icases H with ⟨%g, %hg, H⟩
  iexists g
  isplitr
  · ipureintro
    exact Done.join (fun y hy => (Finset.mem_biUnion.mp hy).imp fun _ h => h.2) (fun t => h t (Finset.mem_univ t)) fun t y hy => hg t (Finset.mem_univ t) y hy
  · iexact H

/-- A SparseCore's payload is its tasks' payloads, and their results its result. -/
theorem vecSplit : (K (F := F)).VecSplit' (P A) 0 := by
  intro d c
  show iprop(ins (A d) d (coreShare c.val) ∗ some_ d (corePart c.val)) ⊢ |={Set.univ}=> iprop(
      (bigSep (Finset.univ : Finset (Fin 16)) fun i => iprop(ins (A d) d (taskShare c.val i.val) ∗ some_ d (part (2 * i.val + c.val))))
      ∗ ((bigSep (Finset.univ : Finset (Fin 16)) fun i => done (A d) d (part (2 * i.val + c.val))) -∗ done (A d) d (corePart c.val)))
  have hc : c.val < 2 := c.isLt
  rw [bigSep_sep', ← parts_cover ⟨c.val, hc⟩]
  iintro ⟨Hi, Ho⟩
  imodintro
  isplitl [Hi Ho]
  · isplitl [Hi]
    · iapply (ins_deal (A d) d (coreShare c.val) 16) $$ Hi
    · iapply (some_cut d _ (parts_disjoint ⟨c.val, hc⟩)) $$ Ho
  · iintro H
    iapply (done_join (A d) d _ (parts_disjoint ⟨c.val, hc⟩)) $$ H

/-- What the call takes. -/
theorem st0 (d : Dev nD) :
    iprop(ins (A d) d fullShare ∗ some_ d Finset.univ) ⊢ (bigSep Finset.univ fun c : Fin ((K (F := F)).nCore 0) => (P A).st 0 d c : sProp 𝕄) := by
  show _ ⊢ bigSep (Finset.univ : Finset (Fin 2)) fun c => iprop(ins (A d) d (coreShare c.val) ∗ some_ d (corePart c.val))
  rw [bigSep_sep', ← cores_cover]
  iintro ⟨Hi, Ho⟩
  isplitl [Hi]
  · iapply (ins_deal (A d) d fullShare 2) $$ Hi
  · iapply (some_cut d _ cores_disjoint) $$ Ho

/-- What the call brings. -/
theorem dn0 (d : Dev nD) : (bigSep Finset.univ fun c : Fin ((K (F := F)).nCore 0) => (P A).dn 0 d c : sProp 𝕄) ⊢ done (A d) d Finset.univ := by
  show (bigSep (Finset.univ : Finset (Fin 2)) fun c => done (A d) d (corePart c.val)) ⊢ _
  rw [← cores_cover]
  exact done_join (A d) d _ cores_disjoint

/-! ## The launch's ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end

/-! ## @main -/

section

variable (m : (ℓ : Loc nD τ sig) → Buf (Elt F) ℓ) (ρ : Dev nD → PrngReg)

/-- A device's memory at the launch. -/
def V0 (d : Dev nD) : Valuation τ sig (Elt F) := fun b => m (d, b)

/-- The arrays the call reads. -/
def insOf (d : Dev nD) : Ins F :=
  ⟨halves (m ((SparseCore.T d).loc main_arg1)), halves (m ((SparseCore.T d).loc main_arg2)), padQ (m ((SparseCore.T d).loc main_arg0)),
    padX (m ((SparseCore.T d).loc main_arg3))⟩

/-- The device's memory after the call, which left `g`. -/
def V1 (d : Dev nD) (g : S12x2x67584.Idx → Elt F .f32) : Valuation τ sig (Elt F) :=
  Function.update (after opsA (V0 m d)) (Proc.devRef .tc main_v12) g

abbrev r3 : DevRef τ sig := Proc.devRef .tc main_v3
abbrev r7 : DevRef τ sig := Proc.devRef .tc main_v7
abbrev r9 : DevRef τ sig := Proc.devRef .tc main_v9
abbrev r11 : DevRef τ sig := Proc.devRef .tc main_v11
abbrev r12 : DevRef τ sig := Proc.devRef .tc main_v12

/-- The arrays of the call. -/
abbrev S5 : Finset (DevRef τ sig) := {r3, r7, r9, r11, r12}

theorem S5_sub : S5 ⊆ Pipeline.ucRefs τ sig := by decide

theorem held_S5 (d : Dev nD) (W : Valuation τ sig (Elt F)) :
    (held (SparseCore.T d) S5 W : sProp 𝕄) = iprop((kLoc d ↦{fullShare} W r3) ∗ (vLoc d ↦{fullShare} W r7) ∗ (qLoc d ↦{fullShare} W r9)
      ∗ (xLoc d ↦{fullShare} W r11) ∗ oLoc d ↦{fullShare} W r12) := by
  unfold held S5
  rw [SparseCore.bigSep_insert' (by decide), SparseCore.bigSep_insert' (by decide), SparseCore.bigSep_insert' (by decide),
    SparseCore.bigSep_insert' (by decide), bigSep_singleton]

/-- The arrays the host's later operations work on: all but those the call read. -/
abbrev S1 : Finset (DevRef τ sig) := Pipeline.ucRefs τ sig \ {r3, r7, r9, r11}

theorem opsB_sub1 : ∀ op ∈ opsB (F := F), op.bufs ⊆ S1 := by
  intro op h
  refine Finset.subset_sdiff.mpr ⟨opsB_sub op h, ?_⟩
  revert op
  rw [← List.forall_iff_forall_mem]
  refine ⟨?_, ?_, ?_, ?_⟩
  · exact show Disjoint ({Proc.devRef .tc main_v12, Proc.devRef .tc main_v13} : Finset (DevRef τ sig)) _ by decide
  · exact show Disjoint ({Proc.devRef .tc main_v13, Proc.devRef .tc main_v14} : Finset (DevRef τ sig)) _ by decide
  · exact show Disjoint ({Proc.devRef .tc main_v14, Proc.devRef .tc main_v15} : Finset (DevRef τ sig)) _ by decide
  · exact show Disjoint ({Proc.devRef .tc main_v15, Proc.devRef .tc main_v16} : Finset (DevRef τ sig)) _ by decide

/-- What the program leaves: its memory but for the arrays the call read. -/
def FIN (d : Dev nD) : sProp 𝕄 :=
  iprop(∃ g, ⌜Done (insOf m d) Finset.univ g⌝ ∗ held (SparseCore.T d) S1 (after opsB (V1 m d g)))

theorem held_S1 (d : Dev nD) (g : S12x2x67584.Idx → Elt F .f32) :
    iprop((oLoc d ↦{fullShare} g) ∗ held (SparseCore.T d) (Pipeline.ucRefs τ sig \ S5) (after opsA (V0 m d))) ⊢ (held (SparseCore.T d) S1 (V1 m d g) : sProp 𝕄) := by
  rw [held_sub_split (SparseCore.T d) (show ({r12} : Finset (DevRef τ sig)) ⊆ S1 by decide),
    show S1 \ {r12} = Pipeline.ucRefs τ sig \ S5 by decide,
    held_congr (SparseCore.T d) (V := V1 m d g) (V' := after opsA (V0 m d)) (S := Pipeline.ucRefs τ sig \ S5) fun b hb =>
      Function.update_of_ne (fun e => (Finset.mem_sdiff.mp hb).2 (by rw [e]; decide)) _ _,
    show (held (SparseCore.T d) {r12} (V1 m d g) : sProp 𝕄) = (oLoc d ↦{fullShare} g) by
      unfold held V1
      rw [bigSep_singleton, Function.update_self]]

/-- @main runs to its end. -/
theorem hmain (κ : GSem nD τ sig → ℕ) (d : Dev nD) :
    iprop((K (F := F)).ctx EH (P (insOf m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (Pipeline.ucRefs τ sig) (V0 m d) from
    Pipeline.unscopedBufs_held d (V0 m d), main_eq]
  iintro ⟨#Hctx, Hst, ⟨Hb, Hh, Hts, -⟩, -⟩
  iapply (wp_seq 𝒱 none Set.univ d (Pipeline.ucRefs τ sig) _ opsA opsA_sub opsA_fresh (V0 m d)) $$ [Hb Hh]
  · isplitl [Hb]; · iexact Hb
    iexact Hh
  iintro ⟨Hb, Hh⟩
  rw [wp_bind]
  ihave Hh := (Entails.of_eq (held_sub_split (SparseCore.T d) S5_sub _)) $$ Hh
  icases Hh with ⟨H5, Hr⟩
  ihave H5 := (Entails.of_eq (held_S5 d _)) $$ H5
  icases H5 with ⟨Hk, Hv, Hq, Hx, Ho⟩
  iapply ((K (F := F)).wp_run (D (F := F)) 𝒱 (EH := EH) (P := P (insOf m)) κ d 0) $$ [Hst Hk Hv Hq Hx Ho Hb Hr Hts]
  isplitr; · iexact Hctx
  isplitl [Hst]; · iexact Hst
  isplitl [Hk Hv Hq Hx Ho]
  · iapply (st0 (insOf m) d)
    unfold ins some_ insOf
    rw [A_v3, A_v7, A_v9, A_v11]
    isplitr [Ho]
    · isplitl [Hk]; · iexact Hk
      isplitl [Hv]; · iexact Hv
      isplitl [Hq]; · iexact Hq
      iexact Hx
    · iexists _; iexact Ho
  iintro ⟨Hst, Hdn⟩
  ihave Hdn := (dn0 (insOf m) d) $$ Hdn
  unfold done
  icases Hdn with ⟨%g, %hg, Ho⟩
  iapply (wp_seq 𝒱 none Set.univ d S1 _ opsB opsB_sub1 opsB_fresh (V1 m d g)) $$ [Hb Ho Hr]
  · isplitl [Hb]; · iexact Hb
    iapply (held_S1 m d g)
    isplitl [Ho]; · iexact Ho
    iexact Hr
  iintro ⟨Hb, Hh⟩
  rw [wp_pure]; imodintro
  isplitl [Hst]; · iexact Hst
  isplitl [Hh]
  · unfold FIN
    iexists g
    isplitr
    · ipureintro; exact hg
    · iexact Hh
  isplitl [Hb] <;> iassumption

/-- What the memory holds at the end. -/
def fq (d : Dev nD) (s' : Phys nD τ sig (Elt F)) : Prop :=
  ∃ g, Done (insOf m d) Finset.univ g ∧ ∀ b ∈ S1, s'.mem.mem (d, b) = after opsB (V1 m d g) b

theorem hfin (d : Dev nD) (s' : Phys nD τ sig (Elt F)) : iprop(FIN m d ∗ SI s') ⊢ (⌜fq m d s'⌝ : sProp 𝕄) := by
  unfold FIN
  iintro ⟨⟨%g, %hg, Hh⟩, HSI⟩
  have one : ∀ b, iprop((held (SparseCore.T d) S1 (after opsB (V1 m d g))) ∗ SI s')
      ⊢ (⌜b ∈ S1 → s'.mem.mem (d, b) = after opsB (V1 m d g) b⌝ : sProp 𝕄) := by
    intro b
    by_cases hb : b ∈ S1
    · rw [held_sub_split (SparseCore.T d) (Finset.singleton_subset_iff.mpr hb),
        show (held (SparseCore.T d) {b} (after opsB (V1 m d g)) : sProp 𝕄) = (((d, b) : Loc nD τ sig) ↦{fullShare} after opsB (V1 m d g) b) by
          unfold held; rw [bigSep_singleton]]
      iintro ⟨⟨Hb, -⟩, HSI⟩
      ihave H := (SI_pointsTo_agree (st := s') (ℓ := ((d, b) : Loc nD τ sig)) (I := Finset.univ) (q := fullShare) (f := after opsB (V1 m d g) b)) $$ [HSI Hb]
      · isplitl [HSI] <;> iassumption
      icases H with %h
      ipureintro; exact fun _ => funext fun i => h i (Finset.mem_univ i)
    · iintro -
      ipureintro
      exact fun h => absurd h hb
  ihave H := ((forall_intro one).trans pure_forall.2) $$ [Hh HSI]
  · isplitl [Hh] <;> iassumption
  icases H with %h
  ipureintro; exact ⟨g, hg, h⟩

/-- What holds at the end of the run: on every device the arguments as they were and the result the attention, and every
    counter zero. -/
def QC : PUnit × MemSt nD τ sig (Elt F) → Prop := fun r =>
  (∀ d : Dev nD,
    (r.2.mem ((SparseCore.T d).loc main_arg0) = m ((SparseCore.T d).loc main_arg0)
      ∧ r.2.mem ((SparseCore.T d).loc main_arg1) = m ((SparseCore.T d).loc main_arg1)
      ∧ r.2.mem ((SparseCore.T d).loc main_arg2) = m ((SparseCore.T d).loc main_arg2)
      ∧ r.2.mem ((SparseCore.T d).loc main_arg3) = m ((SparseCore.T d).loc main_arg3))
    ∧ ∃ g, Done (insOf m d) Finset.univ g ∧ r.2.mem ((SparseCore.T d).loc main_v16) = unpack g) ∧ r.2.sem = fun _ => 0

theorem V1_ne (d : Dev nD) (g : S12x2x67584.Idx → Elt F .f32) {b : DevRef τ sig} (h : b ≠ r12) : V1 m d g b = after opsA (V0 m d) b :=
  Function.update_of_ne h _ _

/-- The run. -/
theorem run_main [∀ e, Nonempty (Elt F e)] (hA : ∀ d y, (padX (F := F) (m ((SparseCore.T d).loc main_arg3)) y).toNat < 2048) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (insOf m)) (A := ∅) facts v₀
    (fun q hq => match q with | 0 => nomatch hq)
    (fun q _ => match q with | 0 => tileObl (insOf m) hA)
    (fun q _ => match q with | 0 => SparseCore.Cfg.VecSplit.of_plain (vecSplit (insOf m)))
    m ρ main (fun _ => iprop(emp)) (FIN m) (u₀ (F := F)) (sep_elim_left.trans (hu₀ (insOf m))) (hmain m ρ) (fq m) (hfin m) (QC m)
    (fun _ h hz => ⟨fun d => by
      obtain ⟨g, hg, hb⟩ := h d
      refine ⟨⟨?_, ?_, ?_, ?_⟩, g, hg, ?_⟩
      · exact (hb (Proc.devRef .tc main_arg0) (by decide)).trans ((B_arg0 _).trans ((V1_ne m d g (by decide)).trans (A_arg0 _)))
      · exact (hb (Proc.devRef .tc main_arg1) (by decide)).trans ((B_arg1 _).trans ((V1_ne m d g (by decide)).trans (A_arg1 _)))
      · exact (hb (Proc.devRef .tc main_arg2) (by decide)).trans ((B_arg2 _).trans ((V1_ne m d g (by decide)).trans (A_arg2 _)))
      · exact (hb (Proc.devRef .tc main_arg3) (by decide)).trans ((B_arg3 _).trans ((V1_ne m d g (by decide)).trans (A_arg3 _)))
      · exact (hb (Proc.devRef .tc main_v16) (by decide)).trans ((B_v16 _).trans (congrArg unpack (Function.update_self _ _ _))), hz⟩)

end

end Cert.Proof.Gk

end
-- ==== Proof.Frames.lean ====
/-
  What the preconditions say of the arguments, and the frames of the kernel.
-/
module

public import proofs.«01_k».proof.Proof.Launch
public import proofs.«01_k».proof.Proof.Gen.Kernel
public import proofs.«01_k».proof.Proof.Gen.Pre_idx_in_rows
public import proofs.«01_k».proof.Defs
public import Idealize.ShloMosaic.Lib.ReduceAll

@[expose] public section

noncomputable section

namespace Cert.Proof.Frames

open Idealize.ShloMosaic Idealize.SL.Sem

/-- The side conditions that the second precondition states. -/
instance facts_finite : Cert.Pre_finite_in_rows.Facts where
  bcast_S_S12x2048x16 := by decide
  reducesTo_S12x2048x16_S_d0_1_2 := by decide
  h_S_ := by decide
  bcast_S_S12x2048x64 := by decide
  reducesTo_S12x2048x64_S_d0_1_2 := by decide

theorem andi_split (a b : BitVec 1) (h : IntOp.andi a b = 1#1) : a = 1#1 ∧ b = 1#1 := by
  revert a b; decide

private theorem ofBool_eq_one (p : Bool) : BitVec.ofBool p = 1#1 ↔ p = true := by cases p <;> decide

/-- A word that is at least 0 and less than 2048, as a signed number, is less than 2048 as an unsigned one. -/
theorem lt_of_bounds (v : BitVec 32) (h : IntOp.andi (IntOp.cmpi .sge v 0#32) (IntOp.cmpi .slt v 2048#32) = 1#1) :
    v.toNat < 2048 := by
  obtain ⟨h1, h2⟩ := andi_split _ _ h
  simp only [IntOp.cmpi, ofBool_eq_one, BitVec.sle_eq_decide, BitVec.slt_eq_decide, decide_eq_true_eq,
    BitVec.toInt_eq_toNat_cond, BitVec.toNat_ofNat, Nat.reducePow, Nat.reduceMod] at h1 h2
  omega

instance : Subsingleton Cert.Pre_idx_in_rows.S_.Idx := ⟨fun a b => funext fun i => i.elim0⟩
instance : Subsingleton Cert.Pre_finite_in_rows.S_.Idx := ⟨fun a b => funext fun i => i.elim0⟩

section
variable {F : FTy → Type} [FloatOps F]

/-- Under the first precondition every index names a row. -/
theorem rows_of_idx (q k v : FVec F Cert.Pre_idx_in_rows.S12x2048x64 .f32) (x : IVec Cert.Pre_idx_in_rows.S12x2048x16 32)
    (h : Cert.Pre_idx_in_rows.fn q k v x = fun _ => 1#1) (i) : (x i).toNat < 2048 :=
  lt_of_bounds _ (Host.reduce_andi_all _ _ _ _ _ (congrFun h fun a => a.elim0) i)

/-- Under the second precondition every index names a row, -/
theorem rows_of_finite (q k v : FVec F Cert.Pre_finite_in_rows.S12x2048x64 .f32) (x : IVec Cert.Pre_finite_in_rows.S12x2048x16 32)
    (h : Cert.Pre_finite_in_rows.fn q k v x = fun _ => 1#1) (i) : (x i).toNat < 2048 :=
  lt_of_bounds _ (Host.reduce_andi_all _ _ _ _ _ (andi_split _ _ (andi_split _ _ (congrFun h fun a => a.elim0)).1).1 i)

end

private theorem ofBits_inf : Ideal.ofBits .f32 0x7F800000#32 = ⊤ := by simp [Ideal.ofBits, Ideal.ieee]

/-- An extended real whose absolute value is less than infinity is a real. -/
theorem real_of_abs (a : EReal) (h : Ideal.cmp .olt (max a (-a)) ⊤ = 1#1) : ∃ r : ℝ, a = r := by
  have h' : max a (-a) < ⊤ := by simpa [Ideal.cmp, ofBool_eq_one] using h
  induction a using EReal.rec with
  | bot => simp at h'
  | coe r => exact ⟨r, rfl⟩
  | top => simp at h'

/-- and the queries and the keys are real numbers. -/
theorem real_of_finite (q k v : FVec Ideal Cert.Pre_finite_in_rows.S12x2048x64 .f32) (x : IVec Cert.Pre_finite_in_rows.S12x2048x16 32)
    (h : Cert.Pre_finite_in_rows.fn q k v x = fun _ => 1#1) :
    (∀ i, ∃ r : ℝ, (q i : EReal) = r) ∧ ∀ i, ∃ r : ℝ, (k i : EReal) = r := by
  have h1 := andi_split _ _ (congrFun h fun a => a.elim0)
  refine ⟨fun i => real_of_abs _ ?_, fun i => real_of_abs _ ?_⟩ <;> rw [← ofBits_inf]
  · exact Host.reduce_andi_all _ _ _ _ _ (andi_split _ _ h1.1).2 i
  · exact Host.reduce_andi_all _ _ _ _ _ h1.2 i

/-- The padded indices name rows where the indices do. -/
theorem padX_lt {F : FTy → Type} [FloatOps F] (x : Cert.KernelIdeal.S12x2048x16.Idx → Elt F .i32)
    (hx : ∀ i, BitVec.toNat (x i) < 2048) (y) : BitVec.toNat (Gk.padX (F := F) x y) < 2048 := by
  unfold Gk.padX shapeCast pad
  dsimp only
  split
  · exact hx _
  · show (0#32 : BitVec 32).toNat < 2048; decide

theorem frame_ideal : Cert.quiescent_KernelIdeal := fun m ρ hpre =>
  (θ_run Cert.KernelIdeal.defs _ _).mono (fun r h => ⟨fun c => (h.1 c).1, h.2⟩)
    (Gk.run_main (F := Ideal) m ρ fun d => padX_lt _ (rows_of_idx _ _ _ _ (hpre d)))

theorem frame_ideal_finite : Cert.quiescent_KernelIdeal_pre_finite_in_rows := fun m ρ hpre =>
  (θ_run Cert.KernelIdeal.defs _ _).mono (fun r h => ⟨fun c => (h.1 c).1, h.2⟩)
    (Gk.run_main (F := Ideal) m ρ fun d => padX_lt _ (rows_of_finite _ _ _ _ (hpre d)))

instance : ∀ e, Nonempty (Elt Bits e) := fun e => by cases e <;> exact ⟨(0 : BitVec _)⟩

/-- The kernel as it is compiled is the same program: its run over words is the run above. -/
theorem frame_kernel : Cert.quiescent_Kernel := fun m ρ hpre =>
  (θ_run Cert.KernelIdeal.defs _ _).mono (fun r h => ⟨fun c => (h.1 c).1, h.2⟩)
    (Gk.run_main (F := Bits) m ρ fun d => padX_lt _ (rows_of_idx _ _ _ _ (hpre d)))

end Cert.Proof.Frames

end
-- ==== Proof.Layout.lean ====
/-
  The arrays of the call, read at an index: what the host lays out for the kernel and how it reads the result back.
-/
module

public import proofs.«01_k».proof.Proof.Host
public import Idealize.ShloMosaic.Lib.KernelVsHost
public import Idealize.ShloMosaic.Lib.Pointwise

@[expose] public section

noncomputable section

namespace Cert.Proof.Gk

open Cert.KernelIdeal Cert.KernelIdeal.Gen
open Idealize.ShloMosaic

variable {F : FTy → Type} [FloatOps F]

/-- Feature `c * 32 + f` of row `r` lies in half `c` at word `r * 33 + f`. -/
theorem halves_at (x : S12x2048x64.Idx → Elt F .f32) (h : Fin 12) (c : ℕ) (hc : c < 2) (r : ℕ) (hr : r < 2048) (f : ℕ) (hf : f < 32) :
    at3 (halves (F := F) x) h.val c (r * 33 + f) = x (ix3 h ⟨r, hr⟩ ⟨c * 32 + f, by omega⟩) := by
  have e0 : (ixc pos3 ![h.val, c, r * 33 + f] 0).val = h.val := Nat.mod_eq_of_lt (show h.val < 12 from h.isLt)
  have e1 : (ixc pos3 ![h.val, c, r * 33 + f] 1).val = c := Nat.mod_eq_of_lt (show c < 2 from hc)
  have e2 : (ixc pos3 ![h.val, c, r * 33 + f] 2).val = r * 33 + f := Nat.mod_eq_of_lt (show r * 33 + f < 67584 by omega)
  show halves (F := F) x (ixc pos3 ![h.val, c, r * 33 + f]) = _
  unfold halves
  rw [shapeCast_apply _ _ _ (ix4 h ⟨c, hc⟩ ⟨r, hr⟩ (⟨f, by omega⟩ : Fin 33) : S12x2x2048x33.Idx) (by
      rw [Shape.rowMajor_val_four, Shape.rowMajor_val_three, e0, e1, e2]
      show ((h.val * 2 + c) * 2048 + r) * 33 + f = (h.val * 2 + c) * 67584 + (r * 33 + f)
      omega),
    pad_apply_of_inside _ _ _ _ _ _ _ _ (ix4 h ⟨c, hc⟩ ⟨r, hr⟩ (⟨f, hf⟩ : Fin 32) : S12x2x2048x32.Idx) (by
      intro a; fin_cases a
      · show h.val = 0 + h.val * (0 + 1); omega
      · show c = 0 + c * (0 + 1); omega
      · show r = 0 + r * (0 + 1); omega
      · show f = 0 + f * (0 + 1); omega),
    transpose_apply _ _ _ _ (ix4 h ⟨r, hr⟩ ⟨c, hc⟩ (⟨f, hf⟩ : Fin 32) : S12x2048x2x32.Idx) (by
      intro b; fin_cases b <;> rfl),
    shapeCast_apply _ _ _ (ix3 h ⟨r, hr⟩ ⟨c * 32 + f, by omega⟩ : S12x2048x64.Idx) (by
      rw [Shape.rowMajor_val_four, Shape.rowMajor_val_three]
      show (h.val * 2048 + r) * 64 + (c * 32 + f) = ((h.val * 2048 + r) * 2 + c) * 32 + f
      omega)]

/-- Feature `n` of query row `r` lies at word `r * 65 + n`. -/
theorem padQ_at (x : S12x2048x64.Idx → Elt F .f32) (h : Fin 12) (r : Fin 2048) (n : Fin 64) :
    atQ (padQ (F := F) x) h.val (r.val * 65 + n.val) = x (ix3 h r n) := by
  have e0 : (ixc posQ ![h.val, r.val * 65 + n.val] 0).val = h.val := Nat.mod_eq_of_lt (show h.val < 12 from h.isLt)
  have e1 : (ixc posQ ![h.val, r.val * 65 + n.val] 1).val = r.val * 65 + n.val := Nat.mod_eq_of_lt (show r.val * 65 + n.val < 133120 by omega)
  show padQ (F := F) x (ixc posQ ![h.val, r.val * 65 + n.val]) = _
  unfold padQ
  rw [shapeCast_apply _ _ _ (ix3 h r (⟨n.val, by omega⟩ : Fin 65) : S12x2048x65.Idx) (by
      rw [Shape.rowMajor_val_two, Shape.rowMajor_val_three, e0, e1]
      show (h.val * 2048 + r.val) * 65 + n.val = h.val * 133120 + (r.val * 65 + n.val)
      omega),
    pad_apply_of_inside _ _ _ _ _ _ _ _ (ix3 h r n : S12x2048x64.Idx) (by
      intro a; fin_cases a
      · show h.val = 0 + h.val * (0 + 1); omega
      · show r.val = 0 + r.val * (0 + 1); omega
      · show n.val = 0 + n.val * (0 + 1); omega)]

/-- Index `j` of row `r` lies at word `r * 17 + j`. -/
theorem padX_at (x : S12x2048x16.Idx → Elt F .i32) (h : Fin 12) (r : Fin 2048) (j : Fin 16) :
    atX (padX (F := F) x) h.val (r.val * 17 + j.val) = x (ix3 h r j) := by
  have e0 : (ixc posX ![h.val, r.val * 17 + j.val] 0).val = h.val := Nat.mod_eq_of_lt (show h.val < 12 from h.isLt)
  have e1 : (ixc posX ![h.val, r.val * 17 + j.val] 1).val = r.val * 17 + j.val := Nat.mod_eq_of_lt (show r.val * 17 + j.val < 34816 by omega)
  show padX (F := F) x (ixc posX ![h.val, r.val * 17 + j.val]) = _
  unfold padX
  rw [shapeCast_apply _ _ _ (ix3 h r (⟨j.val, by omega⟩ : Fin 17) : S12x2048x17.Idx) (by
      rw [Shape.rowMajor_val_two, Shape.rowMajor_val_three, e0, e1]
      show (h.val * 2048 + r.val) * 17 + j.val = h.val * 34816 + (r.val * 17 + j.val)
      omega),
    pad_apply_of_inside _ _ _ _ _ _ _ _ (ix3 h r j : S12x2048x16.Idx) (by
      intro a; fin_cases a
      · show h.val = 0 + h.val * (0 + 1); omega
      · show r.val = 0 + r.val * (0 + 1); omega
      · show j.val = 0 + j.val * (0 + 1); omega)]

/-- Column `(h * 2 + c) * 32 + f` of the result's row `r` is word `r * 33 + f` of head `h`, half `c`. -/
theorem unpack_at (g : S12x2x67584.Idx → Elt F .f32) (r : Fin 2048) (h : Fin 12) (c : Fin 2) (f : Fin 32) :
    unpack (F := F) g (ix2 r ⟨(h.val * 2 + c.val) * 32 + f.val, by omega⟩) = at3 g h.val c.val (r.val * 33 + f.val) := by
  have e0 : (ixc pos3 ![h.val, c.val, r.val * 33 + f.val] 0).val = h.val := Nat.mod_eq_of_lt (show h.val < 12 from h.isLt)
  have e1 : (ixc pos3 ![h.val, c.val, r.val * 33 + f.val] 1).val = c.val := Nat.mod_eq_of_lt (show c.val < 2 from c.isLt)
  have e2 : (ixc pos3 ![h.val, c.val, r.val * 33 + f.val] 2).val = r.val * 33 + f.val := Nat.mod_eq_of_lt (show r.val * 33 + f.val < 67584 by omega)
  show _ = g (ixc pos3 ![h.val, c.val, r.val * 33 + f.val])
  unfold unpack
  rw [shapeCast_apply _ _ _ (ix4 r h c f : S2048x12x2x32.Idx) (by
      rw [Shape.rowMajor_val_four, Shape.rowMajor_val_two]
      show ((r.val * 12 + h.val) * 2 + c.val) * 32 + f.val = r.val * 768 + ((h.val * 2 + c.val) * 32 + f.val)
      omega),
    transpose_apply _ _ _ _ (ix4 h c r f : S12x2x2048x32.Idx) (by intro b; fin_cases b <;> rfl),
    extractStridedSlice_apply _ _ _ _ (ix4 h c r (⟨f.val, by omega⟩ : Fin 33) : S12x2x2048x33.Idx) (by
      intro a; fin_cases a
      · show h.val = 0 + h.val; omega
      · show c.val = 0 + c.val; omega
      · show r.val = 0 + r.val; omega
      · show f.val = 0 + f.val; omega),
    shapeCast_apply _ _ _ (ixc pos3 ![h.val, c.val, r.val * 33 + f.val]) (by
      rw [Shape.rowMajor_val_four, Shape.rowMajor_val_three, e0, e1, e2]
      show (h.val * 2 + c.val) * 67584 + (r.val * 33 + f.val) = ((h.val * 2 + c.val) * 2048 + r.val) * 33 + f.val
      omega)]

end Cert.Proof.Gk

end
-- ==== Proof.RefRun.lean ====
/-
  The reference: a straight line of host operations, run from any memory. Its result is `refOut` of its four arguments —
  the rows of the keys and values that the indices name, the scaled products of a query with its sixteen keys, their
  softmax, and the sum of the sixteen value rows under those weights — and its arguments end as they were.
-/
module

public import Idealize.ShloMosaic.Lib.StableHlo.Run
public import Idealize.ShloMosaic.Lib.Quiescent
public import Idealize.ShloMosaic.Init
public import proofs.«01_k».proof.Proof.Gen.ReferenceIdeal

@[expose] public section

noncomputable section

namespace Cert.Proof.RefRun

open Cert.ReferenceIdeal Cert.ReferenceIdeal.Gen Cert.ReferenceIdeal.Facts
open Idealize.ShloMosaic Idealize.ShloMosaic.StableHlo Idealize.SL.Sem

variable {F : FTy → Type} [FloatOps F]

/-- @main's operations, in order. -/
abbrev ops : List (HloOp τ sig (Elt F)) :=
  [ nullary main_c (constantI S_ 32 0#32),
    unary main_c main_v0 (broadcastInDim S12x2048x16 ![] bcast_S_S12x2048x16 : (⟨S_, .i32⟩ : BufTy).Contents (Elt F) → (⟨S12x2048x16, .i32⟩ : BufTy).Contents (Elt F)),
    binary main_arg3 main_v0 main_v1 (cmpi .slt : (⟨S12x2048x16, .i32⟩ : BufTy).Contents (Elt F) → (⟨S12x2048x16, .i32⟩ : BufTy).Contents (Elt F) → (⟨S12x2048x16, .i1⟩ : BufTy).Contents (Elt F)),
    nullary main_c_0 (constantI S_ 32 2048#32),
    unary main_c_0 main_v2 (broadcastInDim S12x2048x16 ![] bcast_S_S12x2048x16 : (⟨S_, .i32⟩ : BufTy).Contents (Elt F) → (⟨S12x2048x16, .i32⟩ : BufTy).Contents (Elt F)),
    binary main_arg3 main_v2 main_v3 (addi : (⟨S12x2048x16, .i32⟩ : BufTy).Contents (Elt F) → (⟨S12x2048x16, .i32⟩ : BufTy).Contents (Elt F) → (⟨S12x2048x16, .i32⟩ : BufTy).Contents (Elt F)),
    ternary main_v1 main_v3 main_arg3 main_v4 (select : (⟨S12x2048x16, .i1⟩ : BufTy).Contents (Elt F) → (⟨S12x2048x16, .i32⟩ : BufTy).Contents (Elt F) → (⟨S12x2048x16, .i32⟩ : BufTy).Contents (Elt F) → (⟨S12x2048x16, .i32⟩ : BufTy).Contents (Elt F)),
    unary main_v4 main_v5 (broadcastInDim S12x2048x16x1 ![0, 1, 2] bcast_S12x2048x16_S12x2048x16x1_0_1_2 : (⟨S12x2048x16, .i32⟩ : BufTy).Contents (Elt F) → (⟨S12x2048x16x1, .i32⟩ : BufTy).Contents (Elt F)),
    binary main_arg1 main_v5 main_v6 ((fun x i => Host.gather gather_S12x2048x64_S12x2048x16x1_S12x2048x16x64_3_1_0_0_1_3_1164 x i) : (⟨S12x2048x64, .f32⟩ : BufTy).Contents (Elt F) → (⟨S12x2048x16x1, .i32⟩ : BufTy).Contents (Elt F) → (⟨S12x2048x16x64, .f32⟩ : BufTy).Contents (Elt F)),
    nullary main_c_1 (constantI S_ 32 0#32),
    unary main_c_1 main_v7 (broadcastInDim S12x2048x16 ![] bcast_S_S12x2048x16 : (⟨S_, .i32⟩ : BufTy).Contents (Elt F) → (⟨S12x2048x16, .i32⟩ : BufTy).Contents (Elt F)),
    binary main_arg3 main_v7 main_v8 (cmpi .slt : (⟨S12x2048x16, .i32⟩ : BufTy).Contents (Elt F) → (⟨S12x2048x16, .i32⟩ : BufTy).Contents (Elt F) → (⟨S12x2048x16, .i1⟩ : BufTy).Contents (Elt F)),
    nullary main_c_2 (constantI S_ 32 2048#32),
    unary main_c_2 main_v9 (broadcastInDim S12x2048x16 ![] bcast_S_S12x2048x16 : (⟨S_, .i32⟩ : BufTy).Contents (Elt F) → (⟨S12x2048x16, .i32⟩ : BufTy).Contents (Elt F)),
    binary main_arg3 main_v9 main_v10 (addi : (⟨S12x2048x16, .i32⟩ : BufTy).Contents (Elt F) → (⟨S12x2048x16, .i32⟩ : BufTy).Contents (Elt F) → (⟨S12x2048x16, .i32⟩ : BufTy).Contents (Elt F)),
    ternary main_v8 main_v10 main_arg3 main_v11 (select : (⟨S12x2048x16, .i1⟩ : BufTy).Contents (Elt F) → (⟨S12x2048x16, .i32⟩ : BufTy).Contents (Elt F) → (⟨S12x2048x16, .i32⟩ : BufTy).Contents (Elt F) → (⟨S12x2048x16, .i32⟩ : BufTy).Contents (Elt F)),
    unary main_v11 main_v12 (broadcastInDim S12x2048x16x1 ![0, 1, 2] bcast_S12x2048x16_S12x2048x16x1_0_1_2 : (⟨S12x2048x16, .i32⟩ : BufTy).Contents (Elt F) → (⟨S12x2048x16x1, .i32⟩ : BufTy).Contents (Elt F)),
    binary main_arg2 main_v12 main_v13 ((fun x i => Host.gather gather_S12x2048x64_S12x2048x16x1_S12x2048x16x64_3_1_0_0_1_3_1164 x i) : (⟨S12x2048x64, .f32⟩ : BufTy).Contents (Elt F) → (⟨S12x2048x16x1, .i32⟩ : BufTy).Contents (Elt F) → (⟨S12x2048x16x64, .f32⟩ : BufTy).Contents (Elt F)),
    reshape main_arg0 main_v14 (rfl : (.f32 : EltTy) = .f32) shapeCasts_S12x2048x64_S1x12x2048x64,
    unary main_v14 main_v15 ((transpose S1x2048x12x64 [0, 2, 1, 3] · transposes_S1x12x2048x64_S1x2048x12x64_0_2_1_3) : (⟨S1x12x2048x64, .f32⟩ : BufTy).Contents (Elt F) → (⟨S1x2048x12x64, .f32⟩ : BufTy).Contents (Elt F)),
    reshape main_v15 main_v16 (rfl : (.f32 : EltTy) = .f32) shapeCasts_S1x2048x12x64_S2048x12x1x64,
    reshape main_v6 main_v17 (rfl : (.f32 : EltTy) = .f32) shapeCasts_S12x2048x16x64_S1x12x2048x16x64,
    unary main_v17 main_v18 ((transpose S1x2048x12x16x64 [0, 2, 1, 3, 4] · transposes_S1x12x2048x16x64_S1x2048x12x16x64_0_2_1_3_4) : (⟨S1x12x2048x16x64, .f32⟩ : BufTy).Contents (Elt F) → (⟨S1x2048x12x16x64, .f32⟩ : BufTy).Contents (Elt F)),
    reshape main_v18 main_v19 (rfl : (.f32 : EltTy) = .f32) shapeCasts_S1x2048x12x16x64_S2048x12x16x64,
    reshape main_v13 main_v20 (rfl : (.f32 : EltTy) = .f32) shapeCasts_S12x2048x16x64_S1x12x2048x16x64,
    unary main_v20 main_v21 ((transpose S1x2048x12x16x64 [0, 2, 1, 3, 4] · transposes_S1x12x2048x16x64_S1x2048x12x16x64_0_2_1_3_4) : (⟨S1x12x2048x16x64, .f32⟩ : BufTy).Contents (Elt F) → (⟨S1x2048x12x16x64, .f32⟩ : BufTy).Contents (Elt F)),
    reshape main_v21 main_v22 (rfl : (.f32 : EltTy) = .f32) shapeCasts_S1x2048x12x16x64_S2048x12x16x64,
    binary main_v16 main_v19 main_v23 ((fun l r => Host.dotGeneral dot_S2048x12x1x64_S2048x12x16x64_S2048x12x1x16_3_3_2_2_01_01 none l r) : (⟨S2048x12x1x64, .f32⟩ : BufTy).Contents (Elt F) → (⟨S2048x12x16x64, .f32⟩ : BufTy).Contents (Elt F) → (⟨S2048x12x1x16, .f32⟩ : BufTy).Contents (Elt F)),
    nullary main_cst (constant S_ .f32 0x3E000000#32),
    unary main_cst main_v24 (broadcastInDim S2048x12x1x16 ![] bcast_S_S2048x12x1x16 : (⟨S_, .f32⟩ : BufTy).Contents (Elt F) → (⟨S2048x12x1x16, .f32⟩ : BufTy).Contents (Elt F)),
    binary main_v23 main_v24 main_v25 (mulf : (⟨S2048x12x1x16, .f32⟩ : BufTy).Contents (Elt F) → (⟨S2048x12x1x16, .f32⟩ : BufTy).Contents (Elt F) → (⟨S2048x12x1x16, .f32⟩ : BufTy).Contents (Elt F)),
    nullary main_cst_3 (constant S_ .f32 0xFF800000#32),
    binary main_v25 main_cst_3 main_v26 ((fun x v => Host.reduce FloatOps.maximumf x v reducesTo_S2048x12x1x16_S2048x12x1_d3 h_S_) : (⟨S2048x12x1x16, .f32⟩ : BufTy).Contents (Elt F) → (⟨S_, .f32⟩ : BufTy).Contents (Elt F) → (⟨S2048x12x1, .f32⟩ : BufTy).Contents (Elt F)),
    nullary main_cst_4 (constant S_ .f32 0xFF800000#32),
    unary main_cst_4 main_v27 (broadcastInDim S2048x12x1 ![] bcast_S_S2048x12x1 : (⟨S_, .f32⟩ : BufTy).Contents (Elt F) → (⟨S2048x12x1, .f32⟩ : BufTy).Contents (Elt F)),
    binary main_v27 main_v26 main_v28 (maximumf : (⟨S2048x12x1, .f32⟩ : BufTy).Contents (Elt F) → (⟨S2048x12x1, .f32⟩ : BufTy).Contents (Elt F) → (⟨S2048x12x1, .f32⟩ : BufTy).Contents (Elt F)),
    unary main_v28 main_v29 (broadcastInDim S2048x12x1x1 ![0, 1, 2] bcast_S2048x12x1_S2048x12x1x1_0_1_2 : (⟨S2048x12x1, .f32⟩ : BufTy).Contents (Elt F) → (⟨S2048x12x1x1, .f32⟩ : BufTy).Contents (Elt F)),
    unary main_v29 main_v30 (broadcastInDim S2048x12x1x16 ![0, 1, 2, 3] bcast_S2048x12x1x1_S2048x12x1x16_0_1_2_3 : (⟨S2048x12x1x1, .f32⟩ : BufTy).Contents (Elt F) → (⟨S2048x12x1x16, .f32⟩ : BufTy).Contents (Elt F)),
    binary main_v25 main_v30 main_v31 (subf : (⟨S2048x12x1x16, .f32⟩ : BufTy).Contents (Elt F) → (⟨S2048x12x1x16, .f32⟩ : BufTy).Contents (Elt F) → (⟨S2048x12x1x16, .f32⟩ : BufTy).Contents (Elt F)),
    unary main_v31 main_v32 (Host.exp : (⟨S2048x12x1x16, .f32⟩ : BufTy).Contents (Elt F) → (⟨S2048x12x1x16, .f32⟩ : BufTy).Contents (Elt F)),
    nullary main_cst_5 (constant S_ .f32 0x00000000#32),
    binary main_v32 main_cst_5 main_v33 ((fun x v => Host.reduceAdd x v reducesTo_S2048x12x1x16_S2048x12x1_d3 h_S_) : (⟨S2048x12x1x16, .f32⟩ : BufTy).Contents (Elt F) → (⟨S_, .f32⟩ : BufTy).Contents (Elt F) → (⟨S2048x12x1, .f32⟩ : BufTy).Contents (Elt F)),
    unary main_v33 main_v34 (broadcastInDim S2048x12x1x1 ![0, 1, 2] bcast_S2048x12x1_S2048x12x1x1_0_1_2 : (⟨S2048x12x1, .f32⟩ : BufTy).Contents (Elt F) → (⟨S2048x12x1x1, .f32⟩ : BufTy).Contents (Elt F)),
    unary main_v34 main_v35 (broadcastInDim S2048x12x1x16 ![0, 1, 2, 3] bcast_S2048x12x1x1_S2048x12x1x16_0_1_2_3 : (⟨S2048x12x1x1, .f32⟩ : BufTy).Contents (Elt F) → (⟨S2048x12x1x16, .f32⟩ : BufTy).Contents (Elt F)),
    binary main_v32 main_v35 main_v36 (Host.divf : (⟨S2048x12x1x16, .f32⟩ : BufTy).Contents (Elt F) → (⟨S2048x12x1x16, .f32⟩ : BufTy).Contents (Elt F) → (⟨S2048x12x1x16, .f32⟩ : BufTy).Contents (Elt F)),
    binary main_v36 main_v22 main_v37 ((fun l r => Host.dotGeneral dot_S2048x12x1x16_S2048x12x16x64_S2048x12x1x64_3_2_2_3_01_01 none l r) : (⟨S2048x12x1x16, .f32⟩ : BufTy).Contents (Elt F) → (⟨S2048x12x16x64, .f32⟩ : BufTy).Contents (Elt F) → (⟨S2048x12x1x64, .f32⟩ : BufTy).Contents (Elt F)),
    reshape main_v37 main_v38 (rfl : (.f32 : EltTy) = .f32) shapeCasts_S2048x12x1x64_S2048x768]

theorem main_eq (c : Dev nD) : main (F := F) c = seq ops := (rfl)

/-! ## The value -/

/-- The indices, a negative one counted from the end, with a last axis of one. -/
def wrap (x : IVec S12x2048x16 32) : IVec S12x2048x16x1 32 :=
  broadcastInDim S12x2048x16x1 ![0, 1, 2] bcast_S12x2048x16_S12x2048x16x1_0_1_2
    (select (cmpi .slt x (broadcastInDim S12x2048x16 ![] bcast_S_S12x2048x16 (constantI S_ 32 0#32)))
      (addi x (broadcastInDim S12x2048x16 ![] bcast_S_S12x2048x16 (constantI S_ 32 2048#32))) x)

/-- The rows of `a` that the indices name, head by head. -/
def rows (a : FVec F S12x2048x64 .f32) (x : IVec S12x2048x16 32) : FVec F S12x2048x16x64 .f32 :=
  Host.gather gather_S12x2048x64_S12x2048x16x1_S12x2048x16x64_3_1_0_0_1_3_1164 a (wrap x)

/-- Rows by head and query, as rows by query and head. -/
def byRow (g : FVec F S12x2048x16x64 .f32) : FVec F S2048x12x16x64 .f32 :=
  shapeCast S2048x12x16x64 (transpose S1x2048x12x16x64 [0, 2, 1, 3, 4]
    (shapeCast S1x12x2048x16x64 g shapeCasts_S12x2048x16x64_S1x12x2048x16x64)
    transposes_S1x12x2048x16x64_S1x2048x12x16x64_0_2_1_3_4) shapeCasts_S1x2048x12x16x64_S2048x12x16x64

/-- The queries by head, as queries by row and head. -/
def byRowQ (q : FVec F S12x2048x64 .f32) : FVec F S2048x12x1x64 .f32 :=
  shapeCast S2048x12x1x64 (transpose S1x2048x12x64 [0, 2, 1, 3]
    (shapeCast S1x12x2048x64 q shapeCasts_S12x2048x64_S1x12x2048x64)
    transposes_S1x12x2048x64_S1x2048x12x64_0_2_1_3) shapeCasts_S1x2048x12x64_S2048x12x1x64

/-- The scaled products of each query with its sixteen keys. -/
def scores (q k : FVec F S12x2048x64 .f32) (x : IVec S12x2048x16 32) : FVec F S2048x12x1x16 .f32 :=
  mulf (Host.dotGeneral dot_S2048x12x1x64_S2048x12x16x64_S2048x12x1x16_3_3_2_2_01_01 none (byRowQ q) (byRow (rows k x)))
    (broadcastInDim S2048x12x1x16 ![] bcast_S_S2048x12x1x16 (constant S_ .f32 0x3E000000#32))

/-- One number for each of the sixteen. -/
def spread (m : FVec F S2048x12x1 .f32) : FVec F S2048x12x1x16 .f32 :=
  broadcastInDim S2048x12x1x16 ![0, 1, 2, 3] bcast_S2048x12x1x1_S2048x12x1x16_0_1_2_3
    (broadcastInDim S2048x12x1x1 ![0, 1, 2] bcast_S2048x12x1_S2048x12x1x1_0_1_2 m)

/-- The exponentials of the scores less their greatest. -/
def expo (s : FVec F S2048x12x1x16 .f32) : FVec F S2048x12x1x16 .f32 :=
  Host.exp (subf s (spread (maximumf (broadcastInDim S2048x12x1 ![] bcast_S_S2048x12x1 (constant S_ .f32 0xFF800000#32))
    (Host.reduce FloatOps.maximumf s (constant S_ .f32 0xFF800000#32) reducesTo_S2048x12x1x16_S2048x12x1_d3 h_S_))))

/-- The exponentials over their sum. -/
def norm (e : FVec F S2048x12x1x16 .f32) : FVec F S2048x12x1x16 .f32 :=
  Host.divf e (spread (Host.reduceAdd e (constant S_ .f32 0x00000000#32) reducesTo_S2048x12x1x16_S2048x12x1_d3 h_S_))

/-- The value rows summed under the weights. -/
def mix (w : FVec F S2048x12x1x16 .f32) (g : FVec F S2048x12x16x64 .f32) : FVec F S2048x768 .f32 :=
  shapeCast S2048x768 (Host.dotGeneral dot_S2048x12x1x16_S2048x12x16x64_S2048x12x1x64_3_2_2_3_01_01 none w g)
    shapeCasts_S2048x12x1x64_S2048x768

/-- The result of the four arguments. -/
def refOut (q k v : FVec F S12x2048x64 .f32) (x : IVec S12x2048x16 32) : FVec F S2048x768 .f32 :=
  mix (norm (expo (scores q k x))) (byRow (rows v x))

theorem out_eq (V : Valuation τ sig (Elt F)) :
    after ops V (Proc.devRef .tc main_v38)
      = refOut (V (Proc.devRef .tc main_arg0)) (V (Proc.devRef .tc main_arg1)) (V (Proc.devRef .tc main_arg2)) (V (Proc.devRef .tc main_arg3)) := by
  after_results; rfl

theorem arg0_eq (V : Valuation τ sig (Elt F)) : after ops V (Proc.devRef .tc main_arg0) = V (Proc.devRef .tc main_arg0) := by
  after_results
theorem arg1_eq (V : Valuation τ sig (Elt F)) : after ops V (Proc.devRef .tc main_arg1) = V (Proc.devRef .tc main_arg1) := by
  after_results
theorem arg2_eq (V : Valuation τ sig (Elt F)) : after ops V (Proc.devRef .tc main_arg2) = V (Proc.devRef .tc main_arg2) := by
  after_results
theorem arg3_eq (V : Valuation τ sig (Elt F)) : after ops V (Proc.devRef .tc main_arg3) = V (Proc.devRef .tc main_arg3) := by
  after_results

theorem scopedRefs_eq : (Finset.univ.filter fun b : Ref sig .tc => b.isScoped) = ∅ := by decide
theorem scopedSems_eq : (Finset.univ.filter fun sm : SemLoc sig => sm.isScoped .tc) = ∅ := by decide

/-- Every operation touches buffers of the TensorCore only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub
    .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub
    .., binary_bufs_sub .., reshape_bufs_sub .., unary_bufs_sub .., reshape_bufs_sub .., reshape_bufs_sub ..,
    unary_bufs_sub .., reshape_bufs_sub .., reshape_bufs_sub .., unary_bufs_sub .., reshape_bufs_sub .., binary_bufs_sub
    .., nullary_bufs_sub .., unary_bufs_sub .., binary_bufs_sub .., nullary_bufs_sub .., binary_bufs_sub ..,
    nullary_bufs_sub .., unary_bufs_sub .., binary_bufs_sub .., unary_bufs_sub .., unary_bufs_sub .., binary_bufs_sub
    .., unary_bufs_sub .., nullary_bufs_sub .., binary_bufs_sub .., unary_bufs_sub .., unary_bufs_sub ..,
    binary_bufs_sub .., binary_bufs_sub .., reshape_bufs_sub ..⟩

/-- From any memory with zero counters the reference ends with its result at `refOut` of its arguments, its arguments as
    they were and its counters at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v38)
            = refOut (m ((c.tc : Thread nD τ).loc main_arg0)) (m ((c.tc : Thread nD τ).loc main_arg1))
                (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  (θ_run defs _ _).mono (fun r h => ⟨fun c => ⟨(h c main_v38).trans (out_eq _), (h c main_arg0).trans (arg0_eq _),
      (h c main_arg1).trans (arg1_eq _), (h c main_arg2).trans (arg2_eq _), (h c main_arg3).trans (arg3_eq _)⟩,
      sem_eq_zero_of_no_sems (by decide) r.2⟩)
    (run_seq scopedRefs_eq scopedSems_eq defs main (fun _ => ops) main_eq (fun _ => ops_sub) m ρ)

end Cert.Proof.RefRun

end
-- ==== Proof.RefVal.lean ====
/-
  The reference's result, read at an index over the extended reals.
-/
module

public import proofs.«01_k».proof.Proof.RefRun
public import Idealize.ShloMosaic.Lib.Pointwise
public import Idealize.ShloMosaic.Lib.IdealHost

@[expose] public section

noncomputable section

namespace Cert.Proof.RefRun

open Cert.ReferenceIdeal Cert.ReferenceIdeal.Gen Cert.ReferenceIdeal.Facts
open Idealize.ShloMosaic

/-- The row that an index names. -/
def rowOf (x : IVec S12x2048x16 32) (h : Fin 12) (r : Fin 2048) (j : Fin 16) : Fin 2048 :=
  ⟨(x (ix3 h r j)).toNat % 2048, Nat.mod_lt _ (by decide)⟩

theorem wrap_apply (x : IVec S12x2048x16 32) (h : Fin 12) (r : Fin 2048) (j : Fin 16) (u : Fin 1) (hx : (x (ix3 h r j)).toNat < 2048) :
    wrap x (ix4 h r j u) = x (ix3 h r j) := by
  unfold wrap
  rw [broadcastInDim_apply _ _ _ _ (ix3 h r j : S12x2048x16.Idx) (by intro a; fin_cases a <;> rfl)]
  show (if IntOp.cmpi .slt (x (ix3 h r j)) 0#32 = 1#1 then _ else x (ix3 h r j)) = _
  rw [if_neg]
  have e : (x (ix3 h r j)).slt 0#32 = false := by
    rw [BitVec.slt_eq_decide, decide_eq_false_iff_not, BitVec.toInt_eq_toNat_cond, if_pos (by omega)]
    simp
  show ¬ BitVec.ofBool ((x (ix3 h r j)).slt 0#32) = 1#1
  rw [e]; decide

/-- The gathered row is the row that the index names. -/
theorem rows_apply {F : FTy → Type} [FloatOps F] (a : FVec F S12x2048x64 .f32) (x : IVec S12x2048x16 32) (h : Fin 12) (r : Fin 2048) (j : Fin 16) (d : Fin 64)
    (hx : (x (ix3 h r j)).toNat < 2048) : rows a x (ix4 h r j d) = a (ix3 h (rowOf x h r j) d) := by
  unfold rows Host.gather
  refine congrArg a (funext fun b => Fin.ext ?_)
  set D := gather_S12x2048x64_S12x2048x16x1_S12x2048x16x64_3_1_0_0_1_3_1164 with hD
  show D.start (ix4 h r j d) (wrap x) b + D.batchCoord (ix4 h r j d) b + D.offCoord (ix4 h r j d) b = _
  fin_cases b
  · have e1 : D.start (ix4 h r j d) (wrap x) 0 = 0 := rfl
    have e2 : D.batchCoord (ix4 h r j d) 0 = h.val := rfl
    have e3 : D.offCoord (ix4 h r j d) 0 = 0 := rfl
    show D.start (ix4 h r j d) (wrap x) 0 + D.batchCoord (ix4 h r j d) 0 + D.offCoord (ix4 h r j d) 0 = h.val
    rw [e1, e2, e3]; omega
  · have e1 : D.start (ix4 h r j d) (wrap x) 1 = min (wrap x (ix4 h r j 0)).toInt.toNat (2048 - 1) := by
      have e : D.siIdx (ix4 h r j d) ⟨0, by decide⟩ = (ix4 h r j 0 : S12x2048x16x1.Idx) := by
        funext b; fin_cases b <;> rfl
      rw [← e]; rfl
    have e2 : D.batchCoord (ix4 h r j d) 1 = 0 := rfl
    have e3 : D.offCoord (ix4 h r j d) 1 = 0 := rfl
    show D.start (ix4 h r j d) (wrap x) 1 + D.batchCoord (ix4 h r j d) 1 + D.offCoord (ix4 h r j d) 1 = (x (ix3 h r j)).toNat % 2048
    rw [e1, e2, e3, wrap_apply x h r j 0 hx, BitVec.toInt_eq_toNat_cond, if_pos (by omega)]
    have : (((x (ix3 h r j)).toNat : ℤ)).toNat = (x (ix3 h r j)).toNat := Int.toNat_natCast _
    omega
  · have e1 : D.start (ix4 h r j d) (wrap x) 2 = 0 := rfl
    have e2 : D.batchCoord (ix4 h r j d) 2 = 0 := rfl
    have e3 : D.offCoord (ix4 h r j d) 2 = d.val := rfl
    show D.start (ix4 h r j d) (wrap x) 2 + D.batchCoord (ix4 h r j d) 2 + D.offCoord (ix4 h r j d) 2 = d.val
    rw [e1, e2, e3]; omega

theorem byRow_apply {F : FTy → Type} [FloatOps F] (g : FVec F S12x2048x16x64 .f32) (r : Fin 2048) (h : Fin 12) (j : Fin 16) (d : Fin 64) :
    byRow g (ix4 r h j d) = g (ix4 h r j d) := by
  unfold byRow
  rw [shapeCast_apply _ _ _ (ix5 0 r h j d : S1x2048x12x16x64.Idx) (by
      rw [Shape.rowMajor_val_four, Shape.rowMajor_val_five]
      show (((0 * 2048 + r.val) * 12 + h.val) * 16 + j.val) * 64 + d.val = ((r.val * 12 + h.val) * 16 + j.val) * 64 + d.val
      omega),
    transpose_apply _ _ _ _ (ix5 0 h r j d : S1x12x2048x16x64.Idx) (by intro b; fin_cases b <;> rfl),
    shapeCast_apply _ _ _ (ix4 h r j d : S12x2048x16x64.Idx) (by
      rw [Shape.rowMajor_val_four, Shape.rowMajor_val_five]
      show ((h.val * 2048 + r.val) * 16 + j.val) * 64 + d.val = (((0 * 12 + h.val) * 2048 + r.val) * 16 + j.val) * 64 + d.val
      omega)]

theorem byRowQ_apply {F : FTy → Type} [FloatOps F] (q : FVec F S12x2048x64 .f32) (r : Fin 2048) (h : Fin 12) (u : Fin 1) (d : Fin 64) :
    byRowQ q (ix4 r h u d) = q (ix3 h r d) := by
  unfold byRowQ
  rw [shapeCast_apply _ _ _ (ix4 0 r h d : S1x2048x12x64.Idx) (by
      rw [Shape.rowMajor_val_four, Shape.rowMajor_val_four]
      show ((0 * 2048 + r.val) * 12 + h.val) * 64 + d.val = ((r.val * 12 + h.val) * 1 + u.val) * 64 + d.val
      omega),
    transpose_apply _ _ _ _ (ix4 0 h r d : S1x12x2048x64.Idx) (by intro b; fin_cases b <;> rfl),
    shapeCast_apply _ _ _ (ix3 h r d : S12x2048x64.Idx) (by
      rw [Shape.rowMajor_val_four, Shape.rowMajor_val_three]
      show (h.val * 2048 + r.val) * 64 + d.val = ((0 * 12 + h.val) * 2048 + r.val) * 64 + d.val
      omega)]

/-- The score of row `r` and its neighbour `j` in head `h`. -/
theorem scores_apply (q k : FVec Ideal S12x2048x64 .f32) (x : IVec S12x2048x16 32) (r : Fin 2048) (h : Fin 12) (u : Fin 1) (j : Fin 16)
    (hx : ∀ i, (x i).toNat < 2048) :
    scores q k x (ix4 r h u j)
      = (∑ n : Fin 64, (q (ix3 h r n) : EReal) * k (ix3 h (rowOf x h r j) n)) * Ideal.ofBits .f32 0x3E000000#32 := by
  pointwise [scores]
  simp only [byRowQ_apply, byRow_apply, rows_apply _ _ _ _ _ _ (hx _)]

theorem spread_apply (m : FVec Ideal S2048x12x1 .f32) (r : Fin 2048) (h : Fin 12) (u : Fin 1) (j : Fin 16) :
    spread m (ix4 r h u j) = m (ix3 r h 0) := by
  pointwise [spread]

theorem expo_apply (s : FVec Ideal S2048x12x1x16 .f32) (r : Fin 2048) (h : Fin 12) (u : Fin 1) (j : Fin 16) :
    expo s (ix4 r h u j) = Ideal.exp ((s (ix4 r h u j) : EReal) - max (Ideal.ofBits .f32 0xFF800000#32)
      (Finset.univ.fold max (Ideal.ofBits .f32 0xFF800000#32) fun j : Fin 16 => (s (ix4 r h 0 j) : EReal))) := by
  pointwise [expo, spread]

theorem norm_apply (e : FVec Ideal S2048x12x1x16 .f32) (r : Fin 2048) (h : Fin 12) (u : Fin 1) (j : Fin 16) :
    norm e (ix4 r h u j) = Ideal.div (e (ix4 r h u j) : EReal) (∑ j : Fin 16, (e (ix4 r h 0 j) : EReal)) := by
  pointwise [norm, spread]

theorem mix_apply (w : FVec Ideal S2048x12x1x16 .f32) (g : FVec Ideal S2048x12x16x64 .f32) (r : Fin 2048) (h : Fin 12) (d : Fin 64) :
    mix w g (ix2 r ⟨h.val * 64 + d.val, by omega⟩) = ∑ j : Fin 16, (w (ix4 r h 0 j) : EReal) * g (ix4 r h j d) := by
  unfold mix
  rw [shapeCast_apply _ _ _ (ix4 r h 0 d : S2048x12x1x64.Idx) (by
      rw [Shape.rowMajor_val_four, Shape.rowMajor_val_two]
      show ((r.val * 12 + h.val) * 1 + 0) * 64 + d.val = r.val * 768 + (h.val * 64 + d.val)
      omega)]
  pointwise []

end Cert.Proof.RefRun

end
-- ==== Proof.Value.lean ====
/-
  The kernel's result is the reference's: over the extended reals, where the queries and the keys are real numbers and the
  indices name rows, the two programs end with the same attention.
-/
module

public import proofs.«01_k».proof.Proof.Frames
public import proofs.«01_k».proof.Proof.Layout
public import proofs.«01_k».proof.Proof.RefVal

@[expose] public section

noncomputable section

namespace Cert.Proof.Value

open Idealize.ShloMosaic Idealize.SL.Sem
open Cert.Proof.Gk Cert.Proof.RefRun
open scoped BigOperators

/-! ## The kernel's sums and maxima -/

/-- The running sum is the sum. -/
theorem sm_eq (f : ℕ → EReal) : ∀ n, sm (F := Ideal) (f : ℕ → Ideal .f32) n = ∑ j ∈ Finset.range (n + 1), f j
  | 0 => by simp [sm]
  | n + 1 => by
    rw [Finset.sum_range_succ, ← sm_eq f n]; rfl

theorem sm_fin (f : ℕ → EReal) : sm (F := Ideal) (f : ℕ → Ideal .f32) 15 = ∑ j : Fin 16, f j.val := by
  rw [sm_eq, Finset.sum_range]

/-- The running maximum is one of the values and no value is above it. -/
theorem mx_spec (f : ℕ → EReal) : ∀ n, (∀ j ≤ n, f j ≤ (mx (F := Ideal) (f : ℕ → Ideal .f32) n : EReal))
    ∧ ∃ j ≤ n, (mx (F := Ideal) (f : ℕ → Ideal .f32) n : EReal) = f j
  | 0 => ⟨fun j hj => by obtain rfl : j = 0 := by omega
                         exact le_rfl, 0, le_rfl, rfl⟩
  | n + 1 => by
    obtain ⟨h1, j0, hj0, h2⟩ := mx_spec f n
    have e : (mx (F := Ideal) (f : ℕ → Ideal .f32) (n + 1) : EReal) = max (mx (F := Ideal) (f : ℕ → Ideal .f32) n : EReal) (f (n + 1)) := rfl
    rw [e]
    refine ⟨fun j hj => ?_, ?_⟩
    · rcases Nat.lt_or_ge n j with h | h
      · obtain rfl : j = n + 1 := by omega
        exact le_max_right _ _
      · exact (h1 j h).trans (le_max_left _ _)
    · rcases le_total (mx (F := Ideal) (f : ℕ → Ideal .f32) n : EReal) (f (n + 1)) with h | h
      · exact ⟨n + 1, le_rfl, max_eq_right h⟩
      · exact ⟨j0, by omega, (max_eq_left h).trans h2⟩

theorem sc_eq (k : Cert.KernelIdeal.S12x2x67584.Idx → Elt Ideal .f32) (q : Cert.KernelIdeal.S12x133120.Idx → Elt Ideal .f32)
    (x : Cert.KernelIdeal.S12x34816.Idx → Elt Ideal .i32) (h r j : ℕ) : ∀ n, (sc' k q x h r j n : EReal)
      = ∑ i ∈ Finset.range n, (at3 k h (i / 32) (nb x h r j + i % 32) : EReal) * (atQ q h (r * 65 + i) : EReal)
  | 0 => by show Ideal.ofBits .f32 0#32 = _; simp [Ideal.ofBits, Ideal.ieee]
  | n + 1 => by
    rw [Finset.sum_range_succ, ← sc_eq k q x h r j n]; rfl

/-! ## The constants -/

theorem bits_eighth : Ideal.ofBits .f32 0x3E000000#32 = (((1 : ℝ) / 8 : ℝ) : EReal) := by
  simp [Ideal.ofBits, Ideal.ieee, -EReal.coe_mul]; norm_num

theorem bits_bot : Ideal.ofBits .f32 0xFF800000#32 = ⊥ := by simp [Ideal.ofBits, Ideal.ieee]

/-! ## The softmax -/

theorem coe_sum {n : ℕ} (f : Fin n → ℝ) : (∑ j, ((f j : ℝ) : EReal)) = ((∑ j, f j : ℝ) : EReal) := by
  exact (map_sum (⟨⟨fun r : ℝ => (r : EReal), EReal.coe_zero⟩, fun a b => EReal.coe_add a b⟩ : ℝ →+ EReal) f Finset.univ).symm

/-- For real scores the kernel's weight — the exponential of an eighth of the difference to the greatest score, times the
    reciprocal of their sum — is the softmax of an eighth of the scores. -/
theorem weight_eq (f : ℕ → EReal) (L : Fin 16 → ℝ) (hf : ∀ j : Fin 16, f j.val = L j) (j : Fin 16) :
    (wg (F := Ideal) (f : ℕ → Ideal .f32) j.val : EReal)
      = Ideal.div (Ideal.exp (f j.val * Ideal.ofBits .f32 0x3E000000#32
            - max (Ideal.ofBits .f32 0xFF800000#32)
              (Finset.univ.fold max (Ideal.ofBits .f32 0xFF800000#32) fun j : Fin 16 => f j.val * Ideal.ofBits .f32 0x3E000000#32)))
          (∑ i : Fin 16, Ideal.exp (f i.val * Ideal.ofBits .f32 0x3E000000#32
            - max (Ideal.ofBits .f32 0xFF800000#32)
              (Finset.univ.fold max (Ideal.ofBits .f32 0xFF800000#32) fun j : Fin 16 => f j.val * Ideal.ofBits .f32 0x3E000000#32))) := by
  obtain ⟨hle, j0, hj0, hm⟩ := mx_spec f 15
  have hm' : (mx (F := Ideal) (f : ℕ → Ideal .f32) 15 : EReal) = (L ⟨j0, by omega⟩ : EReal) := hm.trans (hf ⟨j0, by omega⟩)
  have hL : ∀ i : Fin 16, L i ≤ L ⟨j0, by omega⟩ := fun i => by
    have := hle i.val (by omega)
    rw [hm', hf i] at this
    exact EReal.coe_le_coe_iff.1 this
  have hs : ∀ i : Fin 16, f i.val * Ideal.ofBits .f32 0x3E000000#32 = ((L i * (1 / 8) : ℝ) : EReal) := fun i => by
    rw [hf i, bits_eighth, ← EReal.coe_mul]
  have hmax : max (Ideal.ofBits .f32 0xFF800000#32)
      (Finset.univ.fold max (Ideal.ofBits .f32 0xFF800000#32) fun j : Fin 16 => f j.val * Ideal.ofBits .f32 0x3E000000#32)
        = ((L ⟨j0, by omega⟩ * (1 / 8) : ℝ) : EReal) := by
    rw [bits_bot, max_eq_right bot_le]
    refine le_antisymm ?_ ?_
    · refine (Finset.fold_max_le _).2 ⟨bot_le, fun i _ => ?_⟩
      rw [hs i]
      exact EReal.coe_le_coe_iff.2 (mul_le_mul_of_nonneg_right (hL i) (by norm_num))
    · exact (Finset.le_fold_max _).2 (Or.inr ⟨⟨j0, by omega⟩, Finset.mem_univ _, (hs ⟨j0, by omega⟩).ge⟩)
  have he : ∀ i : Fin 16, (ex (F := Ideal) (f : ℕ → Ideal .f32) i.val : EReal) = ((Real.exp (L i * (1 / 8) - L ⟨j0, by omega⟩ * (1 / 8)) : ℝ) : EReal) := fun i => by
    show Ideal.exp ((f i.val - (mx (F := Ideal) (f : ℕ → Ideal .f32) 15 : EReal)) * Ideal.ofBits .f32 0x3E000000#32) = _
    rw [hm', hf i, bits_eighth, ← EReal.coe_sub, ← EReal.coe_mul, sub_mul]
    rfl
  have he' : ∀ i : Fin 16, Ideal.exp (f i.val * Ideal.ofBits .f32 0x3E000000#32
      - ((L ⟨j0, by omega⟩ * (1 / 8) : ℝ) : EReal)) = ((Real.exp (L i * (1 / 8) - L ⟨j0, by omega⟩ * (1 / 8)) : ℝ) : EReal) := fun i => by
    rw [hs i, ← EReal.coe_sub]; rfl
  rw [hmax]
  simp only [he']
  show (ex (F := Ideal) (f : ℕ → Ideal .f32) j.val : EReal)
    * Ideal.div (Ideal.ofBits .f32 0x3F800000#32) (sm (F := Ideal) (ex (F := Ideal) (f : ℕ → Ideal .f32)) 15 : EReal) = _
  rw [show (sm (F := Ideal) (ex (F := Ideal) (f : ℕ → Ideal .f32)) 15 : EReal)
      = ∑ i : Fin 16, (ex (F := Ideal) (f : ℕ → Ideal .f32) i.val : EReal) from sm_fin _]
  simp only [he]
  rw [Ideal.ofBits_one_f32]
  refine Ideal.mul_one_div ?_
  rw [coe_sum]
  refine fun h0 => absurd (EReal.coe_eq_zero.1 h0) (ne_of_gt ?_)
  exact Finset.sum_pos (fun i _ => Real.exp_pos _) ⟨0, Finset.mem_univ _⟩

/-! ## The two results -/

section

variable (q k v : Cert.KernelIdeal.S12x2048x64.Idx → Elt Ideal .f32) (x : Cert.KernelIdeal.S12x2048x16.Idx → Elt Ideal .i32)

theorem nb_eq (hx : ∀ i, BitVec.toNat (x i) < 2048) (h : Fin 12) (r : Fin 2048) (j : Fin 16) :
    nb (padX (F := Ideal) x) h.val r.val j.val = (rowOf x h r j).val * 33 := by
  unfold nb
  rw [padX_at]
  show BitVec.toNat (x (ix3 h r j)) * 33 = (BitVec.toNat (x (ix3 h r j)) % 2048) * 33
  rw [Nat.mod_eq_of_lt (hx _)]

/-- The kernel's score is the product of the query and the neighbour's key. -/
theorem score_eq (hx : ∀ i, BitVec.toNat (x i) < 2048) (h : Fin 12) (r : Fin 2048) (j : Fin 16) :
    (sc' (halves (F := Ideal) k) (padQ (F := Ideal) q) (padX (F := Ideal) x) h.val r.val j.val 64 : EReal)
      = ∑ n : Fin 64, (q (ix3 h r n) : EReal) * (k (ix3 h (rowOf x h r j) n) : EReal) := by
  rw [sc_eq, Finset.sum_range]
  refine Finset.sum_congr rfl fun n _ => ?_
  rw [nb_eq x hx h r j, halves_at k h (n.val / 32) (by omega) (rowOf x h r j).val (rowOf x h r j).isLt (n.val % 32) (by omega),
    padQ_at q h r n, mul_comm]
  congr 3
  refine Fin.ext ?_
  show n.val / 32 * 32 + n.val % 32 = n.val
  omega

/-- A sum of products of real numbers is a real number. -/
theorem real_dot {n : ℕ} (a b : Fin n → EReal) (ha : ∀ i, ∃ r : ℝ, a i = r) (hb : ∀ i, ∃ r : ℝ, b i = r) :
    ∃ r : ℝ, ∑ i, a i * b i = r := by
  choose f hf using ha
  choose g hg using hb
  refine ⟨∑ i, f i * g i, ?_⟩
  rw [← coe_sum]
  exact Finset.sum_congr rfl fun i _ => by rw [hf, hg, EReal.coe_mul]

/-- The kernel's value at a place is the reference's. -/
theorem ov_eq (hx : ∀ i, BitVec.toNat (x i) < 2048) (hq : ∀ i, ∃ r : ℝ, (q i : EReal) = r) (hk : ∀ i, ∃ r : ℝ, (k i : EReal) = r)
    (r : Fin 2048) (h : Fin 12) (c : Fin 2) (f : Fin 32) :
    (ov (halves (F := Ideal) k) (halves (F := Ideal) v) (padQ (F := Ideal) q) (padX (F := Ideal) x) h.val c.val r.val f.val : EReal)
      = refOut (F := Ideal) q k v x (ix2 r ⟨h.val * 64 + (c.val * 32 + f.val), by omega⟩) := by
  unfold refOut
  rw [mix_apply _ _ r h ⟨c.val * 32 + f.val, by omega⟩]
  unfold ov
  rw [show (sm (F := Ideal) _ 15 : EReal) = _ from sm_fin _]
  refine Finset.sum_congr rfl fun j _ => ?_
  choose L hL using fun j : Fin 16 => real_dot (fun n : Fin 64 => (q (ix3 h r n) : EReal)) (fun n => (k (ix3 h (rowOf x h r j) n) : EReal))
    (fun n => hq _) (fun n => hk _)
  rw [norm_apply]
  simp only [expo_apply, scores_apply q k x _ _ _ _ hx, byRow_apply, rows_apply (F := Ideal) v x _ _ _ _ (hx _)]
  have hw := weight_eq (fun j => sc' (halves (F := Ideal) k) (padQ (F := Ideal) q) (padX (F := Ideal) x) h.val r.val j 64) L
    (fun j => (score_eq q k x hx h r j).trans (hL j)) j
  simp only [score_eq q k x hx h r] at hw
  rw [← hw, nb_eq x hx h r j, halves_at v h c.val c.isLt (rowOf x h r j).val (rowOf x h r j).isLt f.val f.isLt]
  rfl

/-- The array of results, read back by the host, is the reference's result. -/
theorem unpack_eq (hx : ∀ i, BitVec.toNat (x i) < 2048) (hq : ∀ i, ∃ r : ℝ, (q i : EReal) = r) (hk : ∀ i, ∃ r : ℝ, (k i : EReal) = r)
    (g : Cert.KernelIdeal.S12x2x67584.Idx → Elt Ideal .f32)
    (hg : Done (F := Ideal) ⟨halves k, halves v, padQ q, padX x⟩ Finset.univ g) :
    unpack (F := Ideal) g = refOut (F := Ideal) q k v x := by
  funext y
  obtain ⟨r, n, rfl⟩ : ∃ (r : Fin 2048) (n : Fin 768), y = ix2 r n := ⟨y 0, y 1, by funext a; fin_cases a <;> rfl⟩
  have e : n = ⟨(((n.val / 64) * 2 + n.val % 64 / 32) * 32 + n.val % 32), by omega⟩ := Fin.ext (by show n.val = (n.val / 64 * 2 + n.val % 64 / 32) * 32 + n.val % 32; omega)
  have e' : n = ⟨(n.val / 64) * 64 + (n.val % 64 / 32 * 32 + n.val % 32), by omega⟩ := Fin.ext (by show n.val = n.val / 64 * 64 + (n.val % 64 / 32 * 32 + n.val % 32); omega)
  have h1 := unpack_at (F := Ideal) g r ⟨n.val / 64, by omega⟩ ⟨n.val % 64 / 32, by omega⟩ ⟨n.val % 32, by omega⟩
  have h2 := ov_eq q k v x hx hq hk r ⟨n.val / 64, by omega⟩ ⟨n.val % 64 / 32, by omega⟩ ⟨n.val % 32, by omega⟩
  have h3 := hg (n.val / 64) (by omega) (n.val % 64 / 32) (by omega) r.val r.isLt (n.val % 32) (by omega) (Finset.mem_univ _)
  refine (congrArg (fun n => unpack (F := Ideal) g (ix2 r n)) e).trans (h1.trans (h3.trans (h2.trans ?_)))
  exact congrArg (fun n => refOut (F := Ideal) q k v x (ix2 r n)) e'.symm

end

/-- The kernel and the reference end with the same result. -/
theorem algebraic : Cert.algebraic_KernelIdeal_ReferenceIdeal_pre_finite_in_rows := by
  intro m ρ m' ρ' hpre hagree
  have hx := fun c => Frames.rows_of_finite _ _ _ _ (hpre c)
  have hr := fun c => Frames.real_of_finite _ _ _ _ (hpre c)
  refine ⟨fun c => refOut (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ?_)
      (Gk.run_main (F := Ideal) m ρ fun d => Frames.padX_lt _ (hx d))
    obtain ⟨hargs, g, hg, hv⟩ := h.1 c
    exact ⟨hv.trans (unpack_eq _ _ _ _ (hx c) (hr c).1 (hr c).2 g hg), hargs⟩
  · refine (θ_run Cert.ReferenceIdeal.defs _ _).mono (fun r h c => ?_) (RefRun.run_main (F := Ideal) m' ρ')
    obtain ⟨hv, hargs⟩ := h.1 c
    obtain ⟨a0, a1, a2, a3⟩ := hagree c
    refine ⟨hv.trans ?_, hargs⟩
    rw [a0, a1, a2, a3]

theorem frame_ref : Cert.quiescent_ReferenceIdeal := fun m ρ _ =>
  (θ_run Cert.ReferenceIdeal.defs _ _).mono (fun r h => ⟨fun c => (h.1 c).2, h.2⟩) (RefRun.run_main (F := Ideal) m ρ)

theorem frame_ref_finite : Cert.quiescent_ReferenceIdeal_pre_finite_in_rows := fun m ρ _ =>
  (θ_run Cert.ReferenceIdeal.defs _ _).mono (fun r h => ⟨fun c => (h.1 c).2, h.2⟩) (RefRun.run_main (F := Ideal) m ρ)

end Cert.Proof.Value

end
-- ==== Proof.QkvFrames.lean ====
/-
  The frames of the first projection and of its idealization: the call runs one block of rows after another.
-/
module

public import proofs.«01_k».proof.Proof.Gen.Qkv
public import proofs.«01_k».proof.Proof.Gen.Qkv.Frame
public import proofs.«01_k».proof.Proof.Gen.QkvIdeal
public import proofs.«01_k».proof.Proof.Gen.QkvIdeal.Frame
public import proofs.«01_k».proof.Defs

@[expose] public section

namespace Cert.Proof.QkvFrames

theorem frame_kernel : Cert.quiescent_Qkv := fun m ρ _ => Cert.Qkv.Gen.frame m ρ

theorem frame_ideal : Cert.quiescent_QkvIdeal := fun m ρ _ => Cert.QkvIdeal.Gen.frame m ρ

end Cert.Proof.QkvFrames

end
-- ==== Proof.QkvRef.lean ====
/-
  The reference of the first projection: a straight line of host operations. Its results are the queries, the keys and the
  values by head, each at a head, a row and a lane the row's product with a column of the weights plus the bias.
-/
module

public import Idealize.ShloMosaic.Lib.StableHlo.Run
public import Idealize.ShloMosaic.Lib.Quiescent
public import Idealize.ShloMosaic.Lib.Pointwise
public import Idealize.ShloMosaic.Init
public import proofs.«01_k».proof.Proof.Gen.QkvRefIdeal
public import proofs.«01_k».proof.Defs

@[expose] public section

noncomputable section

namespace Cert.Proof.QkvRef

open Cert.QkvRefIdeal Cert.QkvRefIdeal.Gen Cert.QkvRefIdeal.Facts
open Idealize.ShloMosaic Idealize.ShloMosaic.StableHlo Idealize.SL.Sem

variable {F : FTy → Type} [FloatOps F]

/-- @main's operations, in order. -/
abbrev ops : List (HloOp τ sig (Elt F)) :=
  [ binary main_arg0 main_arg1 main_v0 ((fun l r => Host.dotGeneral dot_S1x2048x768_S768x2304_S1x2048x2304_2_0_01_1_n_n none l r) : (⟨S1x2048x768, .f32⟩ : BufTy).Contents (Elt F) → (⟨S768x2304, .f32⟩ : BufTy).Contents (Elt F) → (⟨S1x2048x2304, .f32⟩ : BufTy).Contents (Elt F)),
    unary main_arg2 main_v1 (broadcastInDim S1x1x2304 ![2] bcast_S2304_S1x1x2304_2 : (⟨S2304, .f32⟩ : BufTy).Contents (Elt F) → (⟨S1x1x2304, .f32⟩ : BufTy).Contents (Elt F)),
    unary main_v1 main_v2 (broadcastInDim S1x2048x2304 ![0, 1, 2] bcast_S1x1x2304_S1x2048x2304_0_1_2 : (⟨S1x1x2304, .f32⟩ : BufTy).Contents (Elt F) → (⟨S1x2048x2304, .f32⟩ : BufTy).Contents (Elt F)),
    binary main_v0 main_v2 main_v3 (addf : (⟨S1x2048x2304, .f32⟩ : BufTy).Contents (Elt F) → (⟨S1x2048x2304, .f32⟩ : BufTy).Contents (Elt F) → (⟨S1x2048x2304, .f32⟩ : BufTy).Contents (Elt F)),
    reshape main_v3 main_v4 (rfl : (.f32 : EltTy) = .f32) shapeCasts_S1x2048x2304_S1x2048x3x12x64,
    unary main_v4 main_v5 ((transpose S3x1x12x2048x64 [2, 0, 3, 1, 4] · transposes_S1x2048x3x12x64_S3x1x12x2048x64_2_0_3_1_4) : (⟨S1x2048x3x12x64, .f32⟩ : BufTy).Contents (Elt F) → (⟨S3x1x12x2048x64, .f32⟩ : BufTy).Contents (Elt F)),
    reshape main_v5 main_v6 (rfl : (.f32 : EltTy) = .f32) shapeCasts_S3x1x12x2048x64_S3x12x2048x64,
    unary main_v6 main_v7 ((extractStridedSlice S1x12x2048x64 ![0, 0, 0, 0] · slices_S3x12x2048x64_S1x12x2048x64_0_0_0_0) : (⟨S3x12x2048x64, .f32⟩ : BufTy).Contents (Elt F) → (⟨S1x12x2048x64, .f32⟩ : BufTy).Contents (Elt F)),
    reshape main_v7 main_v8 (rfl : (.f32 : EltTy) = .f32) shapeCasts_S1x12x2048x64_S12x2048x64,
    unary main_v6 main_v9 ((extractStridedSlice S1x12x2048x64 ![1, 0, 0, 0] · slices_S3x12x2048x64_S1x12x2048x64_1_0_0_0) : (⟨S3x12x2048x64, .f32⟩ : BufTy).Contents (Elt F) → (⟨S1x12x2048x64, .f32⟩ : BufTy).Contents (Elt F)),
    reshape main_v9 main_v10 (rfl : (.f32 : EltTy) = .f32) shapeCasts_S1x12x2048x64_S12x2048x64,
    unary main_v6 main_v11 ((extractStridedSlice S1x12x2048x64 ![2, 0, 0, 0] · slices_S3x12x2048x64_S1x12x2048x64_2_0_0_0) : (⟨S3x12x2048x64, .f32⟩ : BufTy).Contents (Elt F) → (⟨S1x12x2048x64, .f32⟩ : BufTy).Contents (Elt F)),
    reshape main_v11 main_v12 (rfl : (.f32 : EltTy) = .f32) shapeCasts_S1x12x2048x64_S12x2048x64]

theorem main_eq (c : Dev nD) : main (F := F) c = seq ops := (rfl)

/-- The projection, all three parts side by side. -/
def proj (x : FVec F S1x2048x768 .f32) (w : FVec F S768x2304 .f32) (b : FVec F S2304 .f32) : FVec F S1x2048x2304 .f32 :=
  addf (Host.dotGeneral dot_S1x2048x768_S768x2304_S1x2048x2304_2_0_01_1_n_n none x w)
    (broadcastInDim S1x2048x2304 ![0, 1, 2] bcast_S1x1x2304_S1x2048x2304_0_1_2
      (broadcastInDim S1x1x2304 ![2] bcast_S2304_S1x1x2304_2 b))

/-- The projection by part, head, row and lane. -/
def parts (p : FVec F S1x2048x2304 .f32) : FVec F S3x12x2048x64 .f32 :=
  shapeCast S3x12x2048x64 (transpose S3x1x12x2048x64 [2, 0, 3, 1, 4]
    (shapeCast S1x2048x3x12x64 p shapeCasts_S1x2048x2304_S1x2048x3x12x64)
    transposes_S1x2048x3x12x64_S3x1x12x2048x64_2_0_3_1_4) shapeCasts_S3x1x12x2048x64_S3x12x2048x64

/-- The queries. -/
def qOf (x : FVec F S1x2048x768 .f32) (w : FVec F S768x2304 .f32) (b : FVec F S2304 .f32) : FVec F S12x2048x64 .f32 :=
  shapeCast S12x2048x64 (extractStridedSlice S1x12x2048x64 ![0, 0, 0, 0] (parts (proj x w b))
    slices_S3x12x2048x64_S1x12x2048x64_0_0_0_0) shapeCasts_S1x12x2048x64_S12x2048x64

/-- The keys. -/
def kOf (x : FVec F S1x2048x768 .f32) (w : FVec F S768x2304 .f32) (b : FVec F S2304 .f32) : FVec F S12x2048x64 .f32 :=
  shapeCast S12x2048x64 (extractStridedSlice S1x12x2048x64 ![1, 0, 0, 0] (parts (proj x w b))
    slices_S3x12x2048x64_S1x12x2048x64_1_0_0_0) shapeCasts_S1x12x2048x64_S12x2048x64

/-- The values. -/
def vOf (x : FVec F S1x2048x768 .f32) (w : FVec F S768x2304 .f32) (b : FVec F S2304 .f32) : FVec F S12x2048x64 .f32 :=
  shapeCast S12x2048x64 (extractStridedSlice S1x12x2048x64 ![2, 0, 0, 0] (parts (proj x w b))
    slices_S3x12x2048x64_S1x12x2048x64_2_0_0_0) shapeCasts_S1x12x2048x64_S12x2048x64

theorem q_eq (V : Valuation τ sig (Elt F)) :
    after ops V (Proc.devRef .tc main_v8)
      = qOf (V (Proc.devRef .tc main_arg0)) (V (Proc.devRef .tc main_arg1)) (V (Proc.devRef .tc main_arg2)) := by
  after_results; rfl

theorem k_eq (V : Valuation τ sig (Elt F)) :
    after ops V (Proc.devRef .tc main_v10)
      = kOf (V (Proc.devRef .tc main_arg0)) (V (Proc.devRef .tc main_arg1)) (V (Proc.devRef .tc main_arg2)) := by
  after_results; rfl

theorem v_eq (V : Valuation τ sig (Elt F)) :
    after ops V (Proc.devRef .tc main_v12)
      = vOf (V (Proc.devRef .tc main_arg0)) (V (Proc.devRef .tc main_arg1)) (V (Proc.devRef .tc main_arg2)) := by
  after_results; rfl

theorem arg0_eq (V : Valuation τ sig (Elt F)) : after ops V (Proc.devRef .tc main_arg0) = V (Proc.devRef .tc main_arg0) := by
  after_results
theorem arg1_eq (V : Valuation τ sig (Elt F)) : after ops V (Proc.devRef .tc main_arg1) = V (Proc.devRef .tc main_arg1) := by
  after_results
theorem arg2_eq (V : Valuation τ sig (Elt F)) : after ops V (Proc.devRef .tc main_arg2) = V (Proc.devRef .tc main_arg2) := by
  after_results

theorem scopedRefs_eq : (Finset.univ.filter fun b : Ref sig .tc => b.isScoped) = ∅ := by decide
theorem scopedSems_eq : (Finset.univ.filter fun sm : SemLoc sig => sm.isScoped .tc) = ∅ := by decide

/-- Every operation touches buffers of the TensorCore only. -/
theorem ops_sub : (ops : List (HloOp τ sig (Elt F))).Forall fun op => op.bufs ⊆ tcRefs τ sig :=
  ⟨binary_bufs_sub .., unary_bufs_sub .., unary_bufs_sub .., binary_bufs_sub .., reshape_bufs_sub .., unary_bufs_sub .., reshape_bufs_sub .., unary_bufs_sub .., reshape_bufs_sub .., unary_bufs_sub .., reshape_bufs_sub .., unary_bufs_sub .., reshape_bufs_sub ..⟩

/-- The reference ends with its three results at their values of its arguments, its arguments as they were, its counters at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v8)
            = qOf (m ((c.tc : Thread nD τ).loc main_arg0)) (m ((c.tc : Thread nD τ).loc main_arg1))
                (m ((c.tc : Thread nD τ).loc main_arg2))
        ∧ r.2.mem ((c.tc : Thread nD τ).loc main_v10)
            = kOf (m ((c.tc : Thread nD τ).loc main_arg0)) (m ((c.tc : Thread nD τ).loc main_arg1))
                (m ((c.tc : Thread nD τ).loc main_arg2))
        ∧ r.2.mem ((c.tc : Thread nD τ).loc main_v12)
            = vOf (m ((c.tc : Thread nD τ).loc main_arg0)) (m ((c.tc : Thread nD τ).loc main_arg1))
                (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono (fun r h => ⟨fun c => ⟨(h c main_v8).trans (q_eq _), (h c main_v10).trans (k_eq _),
      (h c main_v12).trans (v_eq _), (h c main_arg0).trans (arg0_eq _),
      (h c main_arg1).trans (arg1_eq _), (h c main_arg2).trans (arg2_eq _)⟩,
      sem_eq_zero_of_no_sems (by decide) r.2⟩)
    (run_seq scopedRefs_eq scopedSems_eq defs main (fun _ => ops) main_eq (fun _ => ops_sub) m ρ)

theorem frame_ref : Cert.quiescent_QkvRefIdeal := fun m ρ _ =>
  (θ_run Cert.QkvRefIdeal.defs _ _).mono (fun r h => ⟨fun c => (h.1 c).2.2.2, h.2⟩) (run_main (F := Ideal) m ρ)

/-- Row `r`'s product with column `n` of the weights, plus the bias. -/
def at' (x : Fin 2048 → Fin 768 → EReal) (w : FVec Ideal S768x2304 .f32) (b : FVec Ideal S2304 .f32) (r : Fin 2048) (n : Fin 2304) : EReal :=
  (∑ k : Fin 768, x r k * w (ix2 k n)) + b (ix1 n)

/-- The column of part `j`, head `h`, lane `d`. -/
def col (j : Fin 3) (h : Fin 12) (d : Fin 64) : Fin 2304 := ⟨j.val * 768 + h.val * 64 + d.val, by omega⟩

theorem proj_apply (x : FVec Ideal S1x2048x768 .f32) (w : FVec Ideal S768x2304 .f32) (b : FVec Ideal S2304 .f32)
    (u : Fin 1) (r : Fin 2048) (n : Fin 2304) :
    proj x w b (ix3 u r n) = (∑ k : Fin 768, (x (ix3 u r k) : EReal) * w (ix2 k n)) + b (ix1 n) := by
  pointwise [proj]

theorem parts_apply (p : FVec Ideal S1x2048x2304 .f32) (j : Fin 3) (h : Fin 12) (r : Fin 2048) (d : Fin 64) :
    parts p (ix4 j h r d) = p (ix3 0 r (col j h d)) := by
  unfold parts
  rw [shapeCast_apply _ _ _ (ix5 j 0 h r d : S3x1x12x2048x64.Idx) (by
      rw [Shape.rowMajor_val_five, Shape.rowMajor_val_four]
      show (((j.val * 1 + 0) * 12 + h.val) * 2048 + r.val) * 64 + d.val = ((j.val * 12 + h.val) * 2048 + r.val) * 64 + d.val
      omega)]
  rw [transpose_apply _ _ _ _ (ix5 0 r j h d : S1x2048x3x12x64.Idx) (by intro b; fin_cases b <;> rfl)]
  exact shapeCast_apply _ _ _ (ix3 0 r (col j h d) : S1x2048x2304.Idx) (by
      rw [Shape.rowMajor_val_five, Shape.rowMajor_val_three]
      show (0 * 2048 + r.val) * 2304 + (j.val * 768 + h.val * 64 + d.val) = (((0 * 2048 + r.val) * 3 + j.val) * 12 + h.val) * 64 + d.val
      omega)

theorem qOf_apply (x : FVec Ideal S1x2048x768 .f32) (w : FVec Ideal S768x2304 .f32) (b : FVec Ideal S2304 .f32)
    (h : Fin 12) (r : Fin 2048) (d : Fin 64) :
    qOf x w b (ix3 h r d) = at' (fun r k => x (ix3 0 r k)) w b r (col 0 h d) := by
  unfold qOf
  rw [shapeCast_apply _ _ _ (ix4 0 h r d : S1x12x2048x64.Idx) (by
      rw [Shape.rowMajor_val_four, Shape.rowMajor_val_three]
      show ((0 * 12 + h.val) * 2048 + r.val) * 64 + d.val = (h.val * 2048 + r.val) * 64 + d.val
      omega)]
  rw [extractStridedSlice_apply _ _ _ _ (ix4 0 h r d : S3x12x2048x64.Idx) (by intro b; fin_cases b <;> simp [ix4])]
  rw [parts_apply, proj_apply]
  rfl

theorem kOf_apply (x : FVec Ideal S1x2048x768 .f32) (w : FVec Ideal S768x2304 .f32) (b : FVec Ideal S2304 .f32)
    (h : Fin 12) (r : Fin 2048) (d : Fin 64) :
    kOf x w b (ix3 h r d) = at' (fun r k => x (ix3 0 r k)) w b r (col 1 h d) := by
  unfold kOf
  rw [shapeCast_apply _ _ _ (ix4 0 h r d : S1x12x2048x64.Idx) (by
      rw [Shape.rowMajor_val_four, Shape.rowMajor_val_three]
      show ((0 * 12 + h.val) * 2048 + r.val) * 64 + d.val = (h.val * 2048 + r.val) * 64 + d.val
      omega)]
  rw [extractStridedSlice_apply _ _ _ _ (ix4 1 h r d : S3x12x2048x64.Idx) (by intro b; fin_cases b <;> simp [ix4])]
  rw [parts_apply, proj_apply]
  rfl

theorem vOf_apply (x : FVec Ideal S1x2048x768 .f32) (w : FVec Ideal S768x2304 .f32) (b : FVec Ideal S2304 .f32)
    (h : Fin 12) (r : Fin 2048) (d : Fin 64) :
    vOf x w b (ix3 h r d) = at' (fun r k => x (ix3 0 r k)) w b r (col 2 h d) := by
  unfold vOf
  rw [shapeCast_apply _ _ _ (ix4 0 h r d : S1x12x2048x64.Idx) (by
      rw [Shape.rowMajor_val_four, Shape.rowMajor_val_three]
      show ((0 * 12 + h.val) * 2048 + r.val) * 64 + d.val = (h.val * 2048 + r.val) * 64 + d.val
      omega)]
  rw [extractStridedSlice_apply _ _ _ _ (ix4 2 h r d : S3x12x2048x64.Idx) (by intro b; fin_cases b <;> simp [ix4])]
  rw [parts_apply, proj_apply]
  rfl

end Cert.Proof.QkvRef

end
-- ==== Proof.QkvValue.lean ====
/-
  The first projection's value: the blocks of 256 rows that the call writes back tile its result, and each, at a row and a
  column, is the row's product with the weights' column plus the bias; the lines after the call read the queries, the keys
  and the values out of it by head.
-/
module

public import proofs.«01_k».proof.Proof.Gen.QkvIdeal.Frame
public import proofs.«01_k».proof.Proof.QkvRef
public import Idealize.ShloMosaic.Lib.Pipeline.ValueKit.Geometry
public import Idealize.ShloMosaic.Lib.Pipeline.ValueKit.Acc

@[expose] public section

noncomputable section

namespace Cert.Proof.QkvValue

open Cert.QkvIdeal Cert.QkvIdeal.Gen
open Cert.Proof.QkvRef (at' col)
open Idealize.ShloMosaic Idealize.ShloMosaic.TcCoe Idealize.ShloMosaic.StableHlo Idealize.SL.Sem
open Idealize.ShloMosaic.Pipeline (Dat)

/-- The payload of one block, at a row and a column. -/
theorem pay_apply (x : FVec Ideal S256x768 .f32) (w : FVec Ideal S768x2304 .f32) (b : FVec Ideal S2304 .f32)
    (r : Fin 256) (n : Fin 2304) :
    k0_pay1 (F := Ideal) x w b (ix2 r n)
      = (∑ k : Fin 768, (x (ix2 r k) : EReal) * w (ix2 k n)) + b (ix1 n) := by
  pointwise [k0_pay1]

/-- The call's result. -/
def G (x : FVec Ideal S2048x768 .f32) (w : FVec Ideal S768x2304 .f32) (b : FVec Ideal S2304 .f32) : FVec Ideal S2048x2304 .f32 :=
  fun i => at' (fun r k => x (ix2 r k)) w b (i 0) (i 1)

variable (m : (ℓ : Loc nD τ sig) → Buf (Elt Ideal) ℓ) (ρ : Dev nD → PrngReg)

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0] := (by decide +kernel : ∀ t : Fin grid0.N, _)
theorem e3 : ∀ t : Fin cfg0.N, win0_3.index t = ![t.val, 0] := (by decide +kernel : ∀ t : Fin grid0.N, _)

/-- The row of the whole array that row `r` of block `t` is. -/
def row (t : Fin cfg0.N) (r : Fin 256) : Fin 2048 := ⟨t.val * 256 + r.val, by
  have h : t.val < 8 := Nat.lt_of_lt_of_eq t.isLt N_0
  omega⟩

theorem row_val (t : Fin cfg0.N) (r : Fin 256) : (row t r : Nat) = t.val * 256 + r.val := (rfl)

theorem blk0 (c : Dev nD) (t : Fin cfg0.N) (r : Fin 256) (k : Fin 768) :
    iblk m c 0 t (ix2 r k) = V m c main_v0 (ix2 (row t r) k) := by
  blk_simp [iblk]
  congr 1
  blk_ext [e0, row_val]

theorem blk1 (c : Dev nD) (t : Fin cfg0.N) (k : Fin 768) (n : Fin 2304) :
    iblk m c 1 t (ix2 k n) = V m c main_arg1 (ix2 k n) := by
  blk_simp [iblk]
  congr 1
  blk_ext [e1]

theorem blk2 (c : Dev nD) (t : Fin cfg0.N) (n : Fin 2304) :
    iblk m c 2 t (ix1 n) = V m c main_arg2 (ix1 n) := by
  blk_simp [iblk]
  congr 1
  blk_ext [e2]

theorem emb3 (t : Fin cfg0.N) (r : Fin 256) (n : Fin 2304) :
    ((View.whole main_v1).slice (win0_3.rect t)).emb (ix2 r n) = (ix2 (row t r) n : S2048x2304.Idx) := by
  blk_ext [e3, row_val]

theorem final_o (c : Dev nD) : (dats (F := Ideal) m 0 c).arrAt 3 cfg0.N
    = G (V m c main_v0) (V m c main_arg1) (V m c main_arg2) := by
  refine (dats m 0 c).arrAt_eq_of_covers 3 _ (by decide +kernel) fun t hf y => ?_
  blk_simp
  rw [after0_3]; frame_out
  obtain ⟨r, n, rfl⟩ : ∃ (r : Fin 256) (n : Fin 2304), y = (ix2 r n : S256x2304.Idx) :=
    ⟨y 0, y 1, funext fun a => by fin_cases a <;> rfl⟩
  refine (pay_apply _ _ _ r n).trans ?_
  rw [emb3, blk2]
  simp only [blk0, blk1]
  rfl

/-- The call's result by part, head, row and lane. -/
def parts (g : FVec Ideal S2048x2304 .f32) : FVec Ideal S3x12x2048x64 .f32 :=
  transpose S3x12x2048x64 [1, 2, 0, 3] (shapeCast S2048x3x12x64 g shapeCasts_S2048x2304_S2048x3x12x64)
    transposes_S2048x3x12x64_S3x12x2048x64_1_2_0_3

theorem parts_apply (g : FVec Ideal S2048x2304 .f32) (j : Fin 3) (h : Fin 12) (r : Fin 2048) (d : Fin 64) :
    parts g (ix4 j h r d) = g (ix2 r (col j h d)) := by
  unfold parts
  rw [transpose_apply _ _ _ _ (ix4 r j h d : S2048x3x12x64.Idx) (by intro b; fin_cases b <;> rfl)]
  exact shapeCast_apply _ _ _ (ix2 r (col j h d) : S2048x2304.Idx) (by
      rw [Shape.rowMajor_val_four, Shape.rowMajor_val_two]
      show r.val * 2304 + (j.val * 768 + h.val * 64 + d.val) = ((r.val * 3 + j.val) * 12 + h.val) * 64 + d.val
      omega)

theorem flat_apply (x : FVec Ideal S1x2048x768 .f32) (r : Fin 2048) (n : Fin 768) :
    shapeCast S2048x768 x shapeCasts_S1x2048x768_S2048x768 (ix2 r n) = x (ix3 0 r n) :=
  shapeCast_apply _ _ _ (ix3 0 r n : S1x2048x768.Idx) (by
    rw [Shape.rowMajor_val_three, Shape.rowMajor_val_two]
    show (0 * 2048 + r.val) * 768 + n.val = r.val * 768 + n.val
    omega)

theorem V_v0 (c : Dev nD) : V (F := Ideal) m c main_v0
    = shapeCast S2048x768 (m ((c : Thread nD τ).loc main_arg0)) shapeCasts_S1x2048x768_S2048x768 := by
  unfold V V0
  simp only [hostOps0, List.flatten_cons, List.flatten_nil, List.append_nil]
  after_results
  rfl

/-- The queries, read out of the call's result. -/
def qOf (g : FVec Ideal S2048x2304 .f32) : FVec Ideal S12x2048x64 .f32 :=
  shapeCast S12x2048x64 (extractStridedSlice S1x12x2048x64 ![0, 0, 0, 0] (parts g)
    slices_S3x12x2048x64_S1x12x2048x64_0_0_0_0) shapeCasts_S1x12x2048x64_S12x2048x64

theorem qOf_apply (g : FVec Ideal S2048x2304 .f32) (h : Fin 12) (r : Fin 2048) (d : Fin 64) :
    qOf g (ix3 h r d) = g (ix2 r (col 0 h d)) := by
  unfold qOf
  rw [shapeCast_apply _ _ _ (ix4 0 h r d : S1x12x2048x64.Idx) (by
      rw [Shape.rowMajor_val_four, Shape.rowMajor_val_three]
      show ((0 * 12 + h.val) * 2048 + r.val) * 64 + d.val = (h.val * 2048 + r.val) * 64 + d.val
      omega)]
  rw [extractStridedSlice_apply _ _ _ _ (ix4 0 h r d : S3x12x2048x64.Idx) (by intro b; fin_cases b <;> simp [ix4])]
  exact parts_apply g 0 h r d

theorem q_value (x : FVec Ideal S1x2048x768 .f32) (w : FVec Ideal S768x2304 .f32) (b : FVec Ideal S2304 .f32) :
    qOf (G (shapeCast S2048x768 x shapeCasts_S1x2048x768_S2048x768) w b) = QkvRef.qOf (F := Ideal) x w b := by
  funext i
  obtain ⟨h, r, d, rfl⟩ : ∃ (h : Fin 12) (r : Fin 2048) (d : Fin 64), i = (ix3 h r d : S12x2048x64.Idx) :=
    ⟨i 0, i 1, i 2, funext fun a => by fin_cases a <;> rfl⟩
  refine (qOf_apply _ h r d).trans (Eq.trans ?_ (QkvRef.qOf_apply x w b h r d).symm)
  show at' (fun r k => shapeCast S2048x768 x shapeCasts_S1x2048x768_S2048x768 (ix2 r k)) w b r (col 0 h d) = _
  simp only [flat_apply]

theorem q_eq (c : Dev nD) : Pipeline.afterTail₀ cfgs (dats (F := Ideal) m) 0 (V0 m) [hostOps1] c main_v5
    = qOf ((dats (F := Ideal) m 0 c).arrAt 3 cfg0.N) := by
  unfold Pipeline.afterTail₀
  have e := Pipeline.withArrays_arr spec0 launch0.win.arr_inj c (V0 m c) (fun w => (dats (F := Ideal) m 0 c).arrAt w cfg0.N) 3
  rw [← e]
  simp only [hostOps1, List.flatten_cons, List.flatten_nil, List.append_nil]
  after_results
  rfl

/-- The keys, read out of the call's result. -/
def kOf (g : FVec Ideal S2048x2304 .f32) : FVec Ideal S12x2048x64 .f32 :=
  shapeCast S12x2048x64 (extractStridedSlice S1x12x2048x64 ![1, 0, 0, 0] (parts g)
    slices_S3x12x2048x64_S1x12x2048x64_1_0_0_0) shapeCasts_S1x12x2048x64_S12x2048x64

theorem kOf_apply (g : FVec Ideal S2048x2304 .f32) (h : Fin 12) (r : Fin 2048) (d : Fin 64) :
    kOf g (ix3 h r d) = g (ix2 r (col 1 h d)) := by
  unfold kOf
  rw [shapeCast_apply _ _ _ (ix4 0 h r d : S1x12x2048x64.Idx) (by
      rw [Shape.rowMajor_val_four, Shape.rowMajor_val_three]
      show ((0 * 12 + h.val) * 2048 + r.val) * 64 + d.val = (h.val * 2048 + r.val) * 64 + d.val
      omega)]
  rw [extractStridedSlice_apply _ _ _ _ (ix4 1 h r d : S3x12x2048x64.Idx) (by intro b; fin_cases b <;> simp [ix4])]
  exact parts_apply g 1 h r d

theorem k_value (x : FVec Ideal S1x2048x768 .f32) (w : FVec Ideal S768x2304 .f32) (b : FVec Ideal S2304 .f32) :
    kOf (G (shapeCast S2048x768 x shapeCasts_S1x2048x768_S2048x768) w b) = QkvRef.kOf (F := Ideal) x w b := by
  funext i
  obtain ⟨h, r, d, rfl⟩ : ∃ (h : Fin 12) (r : Fin 2048) (d : Fin 64), i = (ix3 h r d : S12x2048x64.Idx) :=
    ⟨i 0, i 1, i 2, funext fun a => by fin_cases a <;> rfl⟩
  refine (kOf_apply _ h r d).trans (Eq.trans ?_ (QkvRef.kOf_apply x w b h r d).symm)
  show at' (fun r k => shapeCast S2048x768 x shapeCasts_S1x2048x768_S2048x768 (ix2 r k)) w b r (col 1 h d) = _
  simp only [flat_apply]

theorem k_eq (c : Dev nD) : Pipeline.afterTail₀ cfgs (dats (F := Ideal) m) 0 (V0 m) [hostOps1] c main_v7
    = kOf ((dats (F := Ideal) m 0 c).arrAt 3 cfg0.N) := by
  unfold Pipeline.afterTail₀
  have e := Pipeline.withArrays_arr spec0 launch0.win.arr_inj c (V0 m c) (fun w => (dats (F := Ideal) m 0 c).arrAt w cfg0.N) 3
  rw [← e]
  simp only [hostOps1, List.flatten_cons, List.flatten_nil, List.append_nil]
  after_results
  rfl

/-- The values, read out of the call's result. -/
def vOf (g : FVec Ideal S2048x2304 .f32) : FVec Ideal S12x2048x64 .f32 :=
  shapeCast S12x2048x64 (extractStridedSlice S1x12x2048x64 ![2, 0, 0, 0] (parts g)
    slices_S3x12x2048x64_S1x12x2048x64_2_0_0_0) shapeCasts_S1x12x2048x64_S12x2048x64

theorem vOf_apply (g : FVec Ideal S2048x2304 .f32) (h : Fin 12) (r : Fin 2048) (d : Fin 64) :
    vOf g (ix3 h r d) = g (ix2 r (col 2 h d)) := by
  unfold vOf
  rw [shapeCast_apply _ _ _ (ix4 0 h r d : S1x12x2048x64.Idx) (by
      rw [Shape.rowMajor_val_four, Shape.rowMajor_val_three]
      show ((0 * 12 + h.val) * 2048 + r.val) * 64 + d.val = (h.val * 2048 + r.val) * 64 + d.val
      omega)]
  rw [extractStridedSlice_apply _ _ _ _ (ix4 2 h r d : S3x12x2048x64.Idx) (by intro b; fin_cases b <;> simp [ix4])]
  exact parts_apply g 2 h r d

theorem v_value (x : FVec Ideal S1x2048x768 .f32) (w : FVec Ideal S768x2304 .f32) (b : FVec Ideal S2304 .f32) :
    vOf (G (shapeCast S2048x768 x shapeCasts_S1x2048x768_S2048x768) w b) = QkvRef.vOf (F := Ideal) x w b := by
  funext i
  obtain ⟨h, r, d, rfl⟩ : ∃ (h : Fin 12) (r : Fin 2048) (d : Fin 64), i = (ix3 h r d : S12x2048x64.Idx) :=
    ⟨i 0, i 1, i 2, funext fun a => by fin_cases a <;> rfl⟩
  refine (vOf_apply _ h r d).trans (Eq.trans ?_ (QkvRef.vOf_apply x w b h r d).symm)
  show at' (fun r k => shapeCast S2048x768 x shapeCasts_S1x2048x768_S2048x768 (ix2 r k)) w b r (col 2 h d) = _
  simp only [flat_apply]

theorem v_eq (c : Dev nD) : Pipeline.afterTail₀ cfgs (dats (F := Ideal) m) 0 (V0 m) [hostOps1] c main_v9
    = vOf ((dats (F := Ideal) m 0 c).arrAt 3 cfg0.N) := by
  unfold Pipeline.afterTail₀
  have e := Pipeline.withArrays_arr spec0 launch0.win.arr_inj c (V0 m c) (fun w => (dats (F := Ideal) m 0 c).arrAt w cfg0.N) 3
  rw [← e]
  simp only [hostOps1, List.flatten_cons, List.flatten_nil, List.append_nil]
  after_results
  rfl

/-- From any memory the call and the lines after it end with the queries, the keys and the values at the reference's values
    of the arguments, and the arguments as they were. -/
theorem run_main' : θ_run defs (onTc (τ := τ) (main (F := Ideal))) ⟨m, fun _ => 0, ρ⟩ fun r => ∀ c : Dev nD,
      r.2.mem ((c.tc : Thread nD τ).loc main_v5)
            = QkvRef.qOf (F := Ideal) (m ((c.tc : Thread nD τ).loc main_arg0)) (m ((c.tc : Thread nD τ).loc main_arg1))
                (m ((c.tc : Thread nD τ).loc main_arg2))
        ∧ r.2.mem ((c.tc : Thread nD τ).loc main_v7)
            = QkvRef.kOf (F := Ideal) (m ((c.tc : Thread nD τ).loc main_arg0)) (m ((c.tc : Thread nD τ).loc main_arg1))
                (m ((c.tc : Thread nD τ).loc main_arg2))
        ∧ r.2.mem ((c.tc : Thread nD τ).loc main_v9)
            = QkvRef.vOf (F := Ideal) (m ((c.tc : Thread nD τ).loc main_arg0)) (m ((c.tc : Thread nD τ).loc main_arg1))
                (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) := by
  refine (θ_run defs _ _).mono (fun r h c => ⟨?_, ?_, ?_, h.2 c⟩) (θ_run_and (run_main (F := Ideal) m ρ) (unchanged (F := Ideal) m ρ))
  · rw [(h.1 c).2 main_v5 (Pipeline.mem_restRefs_of main_v5 (by decide) (by decide)), q_eq, final_o, V_v0, V_main_arg1, V_main_arg2]
    exact q_value _ _ _
  · rw [(h.1 c).2 main_v7 (Pipeline.mem_restRefs_of main_v7 (by decide) (by decide)), k_eq, final_o, V_v0, V_main_arg1, V_main_arg2]
    exact k_value _ _ _
  · rw [(h.1 c).2 main_v9 (Pipeline.mem_restRefs_of main_v9 (by decide) (by decide)), v_eq, final_o, V_v0, V_main_arg1, V_main_arg2]
    exact v_value _ _ _

theorem algebraic : Cert.algebraic_QkvIdeal_QkvRefIdeal := by
  intro m ρ m' ρ' _ hagree
  refine ⟨_, _, _, run_main' m ρ, ?_⟩
  refine (θ_run Cert.QkvRefIdeal.defs _ _).mono (fun r h c => ?_) (QkvRef.run_main (F := Ideal) m' ρ')
  obtain ⟨hq, hk, hv, hargs⟩ := h.1 c
  obtain ⟨a0, a1, a2⟩ := hagree c
  refine ⟨hq.trans ?_, hk.trans ?_, hv.trans ?_, hargs⟩ <;> rw [a0, a1, a2]

end Cert.Proof.QkvValue

end
-- ==== Proof.OutFrames.lean ====
/-
  The frames of the projection and of its idealization: the call runs one block of rows after another.
-/
module

public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Defs

@[expose] public section

namespace Cert.Proof.OutFrames

theorem frame_kernel : Cert.quiescent_Out := fun m ρ _ => Cert.Out.Gen.frame m ρ

theorem frame_ideal : Cert.quiescent_OutIdeal := fun m ρ _ => Cert.OutIdeal.Gen.frame m ρ

end Cert.Proof.OutFrames

end
-- ==== Proof.OutRef.lean ====
/-
  The reference of the projection: a straight line of host operations. Its result, at a row and a column, is the residual
  plus the row's product with the weights' column plus the bias.
-/
module

public import Idealize.ShloMosaic.Lib.StableHlo.Run
public import Idealize.ShloMosaic.Lib.Quiescent
public import Idealize.ShloMosaic.Lib.Pointwise
public import Idealize.ShloMosaic.Init
public import proofs.«01_k».proof.Proof.Gen.OutRefIdeal
public import proofs.«01_k».proof.Defs

@[expose] public section

noncomputable section

namespace Cert.Proof.OutRef

open Cert.OutRefIdeal Cert.OutRefIdeal.Gen Cert.OutRefIdeal.Facts
open Idealize.ShloMosaic Idealize.ShloMosaic.StableHlo Idealize.SL.Sem

variable {F : FTy → Type} [FloatOps F]

/-- @main's operations, in order. -/
abbrev ops : List (HloOp τ sig (Elt F)) :=
  [ reshape main_arg0 main_v0 (rfl : (.f32 : EltTy) = .f32) shapeCasts_S2048x768_S1x2048x768,
    binary main_v0 main_arg1 main_v1 ((fun l r => Host.dotGeneral dot_S1x2048x768_S768x768_S1x2048x768_2_0_01_1_n_n none l r) : (⟨S1x2048x768, .f32⟩ : BufTy).Contents (Elt F) → (⟨S768x768, .f32⟩ : BufTy).Contents (Elt F) → (⟨S1x2048x768, .f32⟩ : BufTy).Contents (Elt F)),
    unary main_arg2 main_v2 (broadcastInDim S1x1x768 ![2] bcast_S768_S1x1x768_2 : (⟨S768, .f32⟩ : BufTy).Contents (Elt F) → (⟨S1x1x768, .f32⟩ : BufTy).Contents (Elt F)),
    unary main_v2 main_v3 (broadcastInDim S1x2048x768 ![0, 1, 2] bcast_S1x1x768_S1x2048x768_0_1_2 : (⟨S1x1x768, .f32⟩ : BufTy).Contents (Elt F) → (⟨S1x2048x768, .f32⟩ : BufTy).Contents (Elt F)),
    binary main_v1 main_v3 main_v4 (addf : (⟨S1x2048x768, .f32⟩ : BufTy).Contents (Elt F) → (⟨S1x2048x768, .f32⟩ : BufTy).Contents (Elt F) → (⟨S1x2048x768, .f32⟩ : BufTy).Contents (Elt F)),
    binary main_arg3 main_v4 main_v5 (addf : (⟨S1x2048x768, .f32⟩ : BufTy).Contents (Elt F) → (⟨S1x2048x768, .f32⟩ : BufTy).Contents (Elt F) → (⟨S1x2048x768, .f32⟩ : BufTy).Contents (Elt F))]

theorem main_eq (c : Dev nD) : main (F := F) c = seq ops := (rfl)

/-- The result of the four arguments. -/
def refOut (y : FVec F S2048x768 .f32) (w : FVec F S768x768 .f32) (b : FVec F S768 .f32) (x : FVec F S1x2048x768 .f32) :
    FVec F S1x2048x768 .f32 :=
  addf x (addf (Host.dotGeneral dot_S1x2048x768_S768x768_S1x2048x768_2_0_01_1_n_n none
      (shapeCast S1x2048x768 y shapeCasts_S2048x768_S1x2048x768) w)
    (broadcastInDim S1x2048x768 ![0, 1, 2] bcast_S1x1x768_S1x2048x768_0_1_2
      (broadcastInDim S1x1x768 ![2] bcast_S768_S1x1x768_2 b)))

theorem out_eq (V : Valuation τ sig (Elt F)) :
    after ops V (Proc.devRef .tc main_v5)
      = refOut (V (Proc.devRef .tc main_arg0)) (V (Proc.devRef .tc main_arg1)) (V (Proc.devRef .tc main_arg2)) (V (Proc.devRef .tc main_arg3)) := by
  after_results; rfl

theorem arg0_eq (V : Valuation τ sig (Elt F)) : after ops V (Proc.devRef .tc main_arg0) = V (Proc.devRef .tc main_arg0) := by
  after_results
theorem arg1_eq (V : Valuation τ sig (Elt F)) : after ops V (Proc.devRef .tc main_arg1) = V (Proc.devRef .tc main_arg1) := by
  after_results
theorem arg2_eq (V : Valuation τ sig (Elt F)) : after ops V (Proc.devRef .tc main_arg2) = V (Proc.devRef .tc main_arg2) := by
  after_results
theorem arg3_eq (V : Valuation τ sig (Elt F)) : after ops V (Proc.devRef .tc main_arg3) = V (Proc.devRef .tc main_arg3) := by
  after_results

theorem scopedRefs_eq : (Finset.univ.filter fun b : Ref sig .tc => b.isScoped) = ∅ := by decide
theorem scopedSems_eq : (Finset.univ.filter fun sm : SemLoc sig => sm.isScoped .tc) = ∅ := by decide

/-- Every operation touches buffers of the TensorCore only. -/
theorem ops_sub : (ops : List (HloOp τ sig (Elt F))).Forall fun op => op.bufs ⊆ tcRefs τ sig :=
  ⟨reshape_bufs_sub .., binary_bufs_sub .., unary_bufs_sub .., unary_bufs_sub .., binary_bufs_sub .., binary_bufs_sub ..⟩

/-- The reference ends with its result at `refOut` of its arguments, its arguments as they were, its counters at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v5)
            = refOut (m ((c.tc : Thread nD τ).loc main_arg0)) (m ((c.tc : Thread nD τ).loc main_arg1))
                (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  (θ_run defs _ _).mono (fun r h => ⟨fun c => ⟨(h c main_v5).trans (out_eq _), (h c main_arg0).trans (arg0_eq _),
      (h c main_arg1).trans (arg1_eq _), (h c main_arg2).trans (arg2_eq _), (h c main_arg3).trans (arg3_eq _)⟩,
      sem_eq_zero_of_no_sems (by decide) r.2⟩)
    (run_seq scopedRefs_eq scopedSems_eq defs main (fun _ => ops) main_eq (fun _ => ops_sub) m ρ)

theorem frame_ref : Cert.quiescent_OutRefIdeal := fun m ρ _ =>
  (θ_run Cert.OutRefIdeal.defs _ _).mono (fun r h => ⟨fun c => (h.1 c).2, h.2⟩) (run_main (F := Ideal) m ρ)

theorem refOut_apply (y : FVec Ideal S2048x768 .f32) (w : FVec Ideal S768x768 .f32) (b : FVec Ideal S768 .f32)
    (x : FVec Ideal S1x2048x768 .f32) (u : Fin 1) (r : Fin 2048) (n : Fin 768) :
    refOut y w b x (ix3 u r n)
      = (x (ix3 u r n) : EReal) + ((∑ k : Fin 768, (y (ix2 r k) : EReal) * w (ix2 k n)) + b (ix1 n)) := by
  have e : ∀ k : Fin 768, shapeCast S1x2048x768 y shapeCasts_S2048x768_S1x2048x768 (ix3 u r k) = y (ix2 r k) := fun k =>
    shapeCast_apply _ _ _ (ix2 r k : S2048x768.Idx) (by
      rw [Shape.rowMajor_val_two, Shape.rowMajor_val_three]
      show r.val * 768 + k.val = (u.val * 2048 + r.val) * 768 + k.val
      omega)
  pointwise [refOut]

end Cert.Proof.OutRef

end
-- ==== Proof.OutValue.lean ====
/-
  The projection's value: the blocks of 256 rows that the call writes back tile its result, and each, at a row and a
  column, is the row's product with the weights' column, plus the bias, plus the residual.
-/
module

public import proofs.«01_k».proof.Proof.Gen.OutIdeal.Frame
public import proofs.«01_k».proof.Proof.OutRef
public import Idealize.ShloMosaic.Lib.Pipeline.ValueKit.Geometry
public import Idealize.ShloMosaic.Lib.Pipeline.ValueKit.Acc

@[expose] public section

noncomputable section

namespace Cert.Proof.OutValue

open Cert.OutIdeal Cert.OutIdeal.Gen
open Idealize.ShloMosaic Idealize.ShloMosaic.TcCoe Idealize.ShloMosaic.StableHlo Idealize.SL.Sem
open Idealize.ShloMosaic.Pipeline (Dat)

/-- The payload of one block, at a row and a column. -/
theorem pay_apply (y : FVec Ideal S256x768 .f32) (w : FVec Ideal S768x768 .f32) (b : FVec Ideal S768 .f32)
    (x : FVec Ideal S256x768 .f32) (r : Fin 256) (n : Fin 768) :
    k0_pay1 (F := Ideal) y w b x (ix2 r n)
      = ((∑ k : Fin 768, (y (ix2 r k) : EReal) * w (ix2 k n)) + b (ix1 n)) + x (ix2 r n) := by
  pointwise [k0_pay1]

/-- The call's result. -/
def G (y : FVec Ideal S2048x768 .f32) (w : FVec Ideal S768x768 .f32) (b : FVec Ideal S768 .f32)
    (x : FVec Ideal S2048x768 .f32) : FVec Ideal S2048x768 .f32 := fun i =>
  ((∑ k : Fin 768, (y (ix2 (i 0) k) : EReal) * w (ix2 k (i 1))) + b (ix1 (i 1))) + x i

variable (m : (ℓ : Loc nD τ sig) → Buf (Elt Ideal) ℓ) (ρ : Dev nD → PrngReg)

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)

/-- The row of the whole array that row `r` of block `t` is. -/
def row (t : Fin cfg0.N) (r : Fin 256) : Fin 2048 := ⟨t.val * 256 + r.val, by
  have h : t.val < 8 := Nat.lt_of_lt_of_eq t.isLt N_0
  omega⟩

theorem row_val (t : Fin cfg0.N) (r : Fin 256) : (row t r : Nat) = t.val * 256 + r.val := (rfl)

theorem blk0 (c : Dev nD) (t : Fin cfg0.N) (r : Fin 256) (k : Fin 768) :
    iblk m c 0 t (ix2 r k) = V m c main_arg0 (ix2 (row t r) k) := by
  blk_simp [iblk]
  congr 1
  blk_ext [e0, row_val]

theorem blk1 (c : Dev nD) (t : Fin cfg0.N) (k : Fin 768) (n : Fin 768) :
    iblk m c 1 t (ix2 k n) = V m c main_arg1 (ix2 k n) := by
  blk_simp [iblk]
  congr 1
  blk_ext [e1]

theorem blk2 (c : Dev nD) (t : Fin cfg0.N) (n : Fin 768) :
    iblk m c 2 t (ix1 n) = V m c main_arg2 (ix1 n) := by
  blk_simp [iblk]
  congr 1
  blk_ext [e2]

theorem blk3 (c : Dev nD) (t : Fin cfg0.N) (r : Fin 256) (k : Fin 768) :
    iblk m c 3 t (ix2 r k) = V m c main_v0 (ix2 (row t r) k) := by
  blk_simp [iblk]
  congr 1
  blk_ext [e3, row_val]

theorem emb4 (t : Fin cfg0.N) (r : Fin 256) (n : Fin 768) :
    ((View.whole main_v1).slice (win0_4.rect t)).emb (ix2 r n) = (ix2 (row t r) n : S2048x768.Idx) := by
  blk_ext [e4, row_val]

theorem final_o (c : Dev nD) : (dats (F := Ideal) m 0 c).arrAt 4 cfg0.N
    = G (V m c main_arg0) (V m c main_arg1) (V m c main_arg2) (V m c main_v0) := by
  refine (dats m 0 c).arrAt_eq_of_covers 4 _ (by decide +kernel) fun t hf y => ?_
  blk_simp
  rw [after0_4]; frame_out
  obtain ⟨r, n, rfl⟩ : ∃ (r : Fin 256) (n : Fin 768), y = (ix2 r n : S256x768.Idx) :=
    ⟨y 0, y 1, funext fun a => by fin_cases a <;> rfl⟩
  refine (pay_apply _ _ _ _ r n).trans ?_
  rw [emb4, blk2, blk3]
  simp only [blk0, blk1]
  rfl

theorem out_eq (c : Dev nD) : Pipeline.afterTail₀ cfgs (dats (F := Ideal) m) 0 (V0 m) [hostOps1] c main_v2
    = shapeCast S1x2048x768 ((dats (F := Ideal) m 0 c).arrAt 4 cfg0.N) shapeCasts_S2048x768_S1x2048x768 := by
  unfold Pipeline.afterTail₀
  have e := Pipeline.withArrays_arr spec0 launch0.win.arr_inj c (V0 m c) (fun w => (dats (F := Ideal) m 0 c).arrAt w cfg0.N) 4
  rw [← e]
  simp only [hostOps1, List.flatten_cons, List.flatten_nil, List.append_nil]
  after_results
  rfl

theorem V_v0 (c : Dev nD) : V (F := Ideal) m c main_v0
    = shapeCast S2048x768 (m ((c : Thread nD τ).loc main_arg3)) shapeCasts_S1x2048x768_S2048x768 := by
  unfold V V0
  simp only [hostOps0, List.flatten_cons, List.flatten_nil, List.append_nil]
  after_results
  rfl

theorem flat_apply (x : FVec Ideal S1x2048x768 .f32) (u : Fin 1) (r : Fin 2048) (n : Fin 768) :
    shapeCast S2048x768 x shapeCasts_S1x2048x768_S2048x768 (ix2 r n) = x (ix3 u r n) :=
  shapeCast_apply _ _ _ (ix3 u r n : S1x2048x768.Idx) (by
    rw [Shape.rowMajor_val_three, Shape.rowMajor_val_two]
    show (u.val * 2048 + r.val) * 768 + n.val = r.val * 768 + n.val
    omega)

theorem lift_apply (g : FVec Ideal S2048x768 .f32) (u : Fin 1) (r : Fin 2048) (n : Fin 768) :
    shapeCast S1x2048x768 g shapeCasts_S2048x768_S1x2048x768 (ix3 u r n) = g (ix2 r n) :=
  shapeCast_apply _ _ _ (ix2 r n : S2048x768.Idx) (by
    rw [Shape.rowMajor_val_three, Shape.rowMajor_val_two]
    show r.val * 768 + n.val = (u.val * 2048 + r.val) * 768 + n.val
    omega)

/-- The call's result with the residual laid flat is the reference's. -/
theorem value_eq (y : FVec Ideal S2048x768 .f32) (w : FVec Ideal S768x768 .f32) (b : FVec Ideal S768 .f32)
    (x : FVec Ideal S1x2048x768 .f32) :
    shapeCast S1x2048x768 (G y w b (shapeCast S2048x768 x shapeCasts_S1x2048x768_S2048x768)) shapeCasts_S2048x768_S1x2048x768
      = OutRef.refOut (F := Ideal) y w b x := by
  funext i
  obtain ⟨u, r, n, rfl⟩ : ∃ (u : Fin 1) (r : Fin 2048) (n : Fin 768), i = (ix3 u r n : S1x2048x768.Idx) :=
    ⟨i 0, i 1, i 2, funext fun a => by fin_cases a <;> rfl⟩
  refine (lift_apply _ u r n).trans (Eq.trans ?_ (OutRef.refOut_apply y w b x u r n).symm)
  show ((∑ k : Fin 768, (y (ix2 r k) : EReal) * w (ix2 k n)) + b (ix1 n))
      + shapeCast S2048x768 x shapeCasts_S1x2048x768_S2048x768 (ix2 r n) = _
  rw [flat_apply x u r n]
  exact add_comm _ _

/-- From any memory the call ends with its result at the reference's value of its arguments, its arguments as they were. -/
theorem run_main' : θ_run defs (onTc (τ := τ) (main (F := Ideal))) ⟨m, fun _ => 0, ρ⟩ fun r => ∀ c : Dev nD,
      r.2.mem ((c.tc : Thread nD τ).loc main_v2)
        = OutRef.refOut (F := Ideal) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨?_, h.2 c⟩) (θ_run_and (run_main (F := Ideal) m ρ) (unchanged (F := Ideal) m ρ))
  rw [(h.1 c).2 main_v2 (Pipeline.mem_restRefs_of main_v2 (by decide) (by decide)), out_eq, final_o, V_v0,
    V_main_arg0, V_main_arg1, V_main_arg2]
  exact value_eq _ _ _ _

theorem algebraic : Cert.algebraic_OutIdeal_OutRefIdeal := by
  intro m ρ m' ρ' _ hagree
  refine ⟨fun c => OutRef.refOut (F := Ideal) (m ((c.tc : Thread nD τ).loc main_arg0)) (m ((c.tc : Thread nD τ).loc main_arg1))
      (m ((c.tc : Thread nD τ).loc main_arg2)) (m ((c.tc : Thread nD τ).loc main_arg3)), run_main' m ρ, ?_⟩
  refine (θ_run Cert.OutRefIdeal.defs _ _).mono (fun r h c => ?_) (OutRef.run_main (F := Ideal) m' ρ')
  obtain ⟨hv, hargs⟩ := h.1 c
  obtain ⟨a0, a1, a2, a3⟩ := hagree c
  refine ⟨hv.trans ?_, hargs⟩
  rw [a0, a1, a2, a3]

end Cert.Proof.OutValue

end
-- ==== Proof.SelectFrames.lean ====
/-
  The frames of the choice of neighbours and of its idealization: the call runs one block of rows after another.
-/
module

public import proofs.«01_k».proof.Proof.Gen.Select
public import proofs.«01_k».proof.Proof.Gen.Select.Frame
public import proofs.«01_k».proof.Proof.Gen.SelectIdeal
public import proofs.«01_k».proof.Proof.Gen.SelectIdeal.Frame
public import proofs.«01_k».proof.Proof.Gen.Pre_near_apart
public import proofs.«01_k».proof.Defs

@[expose] public section

namespace Cert.Proof.SelectFrames

theorem frame_kernel : Cert.quiescent_Select := fun m ρ _ => Cert.Select.Gen.frame m ρ

theorem frame_ideal : Cert.quiescent_SelectIdeal := fun m ρ _ => Cert.SelectIdeal.Gen.frame m ρ

theorem frame_ideal_apart : Cert.quiescent_SelectIdeal_pre_near_apart := fun m ρ _ => Cert.SelectIdeal.Gen.frame m ρ

end Cert.Proof.SelectFrames

end
-- ==== Proof.SelectRef.lean ====
/-
  The reference of the choice of neighbours: a straight line of host operations, a sort of each row's distances with their
  positions among them. Where the sixteen least distances of a row are apart from the others, its result is the positions
  of those, least first.
-/
module

public import Idealize.ShloMosaic.Lib.StableHlo.Run
public import Idealize.ShloMosaic.Lib.Quiescent
public import Idealize.ShloMosaic.Lib.Pointwise
public import Idealize.ShloMosaic.Lib.SortFacts
public import Idealize.ShloMosaic.Init
public import proofs.«01_k».proof.Proof.Gen.SelectRefIdeal
public import proofs.«01_k».proof.Proof.Gen.Pre_near_apart
public import proofs.«01_k».proof.Proof.Frames
public import proofs.«01_k».proof.Defs

@[expose] public section

noncomputable section

namespace Cert.Proof.SelectRef

open Cert.SelectRefIdeal Cert.SelectRefIdeal.Gen Cert.SelectRefIdeal.Facts
open Idealize.ShloMosaic Idealize.ShloMosaic.StableHlo Idealize.SL.Sem

variable {F : FTy → Type} [FloatOps F]

/-- @main's operations, in order, those of the sort in its place. -/
abbrev ops : List (HloOp τ sig (Elt F)) :=
  [ binary main_arg0 main_arg0 main_v0 (mulf : (⟨S12x2048x64, .f32⟩ : BufTy).Contents (Elt F) → (⟨S12x2048x64, .f32⟩ : BufTy).Contents (Elt F) → (⟨S12x2048x64, .f32⟩ : BufTy).Contents (Elt F)),
    nullary main_cst (constant S_ .f32 0x00000000#32),
    binary main_v0 main_cst main_v1 ((fun x v => Host.reduceAdd x v reducesTo_S12x2048x64_S12x2048_d2 h_S_) : (⟨S12x2048x64, .f32⟩ : BufTy).Contents (Elt F) → (⟨S_, .f32⟩ : BufTy).Contents (Elt F) → (⟨S12x2048, .f32⟩ : BufTy).Contents (Elt F)),
    unary main_v1 main_v2 (broadcastInDim S12x2048x1 ![0, 1] bcast_S12x2048_S12x2048x1_0_1 : (⟨S12x2048, .f32⟩ : BufTy).Contents (Elt F) → (⟨S12x2048x1, .f32⟩ : BufTy).Contents (Elt F)),
    unary main_v1 main_v3 (broadcastInDim S12x1x2048 ![0, 2] bcast_S12x2048_S12x1x2048_0_2 : (⟨S12x2048, .f32⟩ : BufTy).Contents (Elt F) → (⟨S12x1x2048, .f32⟩ : BufTy).Contents (Elt F)),
    unary main_v2 main_v4 (broadcastInDim S12x2048x2048 ![0, 1, 2] bcast_S12x2048x1_S12x2048x2048_0_1_2 : (⟨S12x2048x1, .f32⟩ : BufTy).Contents (Elt F) → (⟨S12x2048x2048, .f32⟩ : BufTy).Contents (Elt F)),
    unary main_v3 main_v5 (broadcastInDim S12x2048x2048 ![0, 1, 2] bcast_S12x1x2048_S12x2048x2048_0_1_2 : (⟨S12x1x2048, .f32⟩ : BufTy).Contents (Elt F) → (⟨S12x2048x2048, .f32⟩ : BufTy).Contents (Elt F)),
    binary main_v4 main_v5 main_v6 (addf : (⟨S12x2048x2048, .f32⟩ : BufTy).Contents (Elt F) → (⟨S12x2048x2048, .f32⟩ : BufTy).Contents (Elt F) → (⟨S12x2048x2048, .f32⟩ : BufTy).Contents (Elt F)),
    binary main_arg0 main_arg0 main_v7 ((fun l r => Host.dotGeneral dot_S12x2048x64_S12x2048x64_S12x2048x2048_2_2_1_1_0_0 none l r) : (⟨S12x2048x64, .f32⟩ : BufTy).Contents (Elt F) → (⟨S12x2048x64, .f32⟩ : BufTy).Contents (Elt F) → (⟨S12x2048x2048, .f32⟩ : BufTy).Contents (Elt F)),
    nullary main_cst_0 (constant S_ .f32 0x40000000#32),
    unary main_cst_0 main_v8 (broadcastInDim S12x2048x2048 ![] bcast_S_S12x2048x2048 : (⟨S_, .f32⟩ : BufTy).Contents (Elt F) → (⟨S12x2048x2048, .f32⟩ : BufTy).Contents (Elt F)),
    binary main_v8 main_v7 main_v9 (mulf : (⟨S12x2048x2048, .f32⟩ : BufTy).Contents (Elt F) → (⟨S12x2048x2048, .f32⟩ : BufTy).Contents (Elt F) → (⟨S12x2048x2048, .f32⟩ : BufTy).Contents (Elt F)),
    binary main_v6 main_v9 main_v10 (subf : (⟨S12x2048x2048, .f32⟩ : BufTy).Contents (Elt F) → (⟨S12x2048x2048, .f32⟩ : BufTy).Contents (Elt F) → (⟨S12x2048x2048, .f32⟩ : BufTy).Contents (Elt F)),
    nullary main_call0_v0 (iotaInDim S12x2048x2048 32 2),
    binary main_v10 main_call0_v0 main_call0_v1_0 ((fun x y => (Host.sort2 S12x2048x2048 2 comparator_f32_i32_d2 x y).1) : (⟨S12x2048x2048, .f32⟩ : BufTy).Contents (Elt F) → (⟨S12x2048x2048, .i32⟩ : BufTy).Contents (Elt F) → (⟨S12x2048x2048, .f32⟩ : BufTy).Contents (Elt F)),
    binary main_v10 main_call0_v0 main_v11 ((fun x y => (Host.sort2 S12x2048x2048 2 comparator_f32_i32_d2 x y).2) : (⟨S12x2048x2048, .f32⟩ : BufTy).Contents (Elt F) → (⟨S12x2048x2048, .i32⟩ : BufTy).Contents (Elt F) → (⟨S12x2048x2048, .i32⟩ : BufTy).Contents (Elt F)),
    unary main_v11 main_v12 ((extractStridedSlice S12x2048x16 ![0, 0, 0] · slices_S12x2048x2048_S12x2048x16_0_0_0) : (⟨S12x2048x2048, .i32⟩ : BufTy).Contents (Elt F) → (⟨S12x2048x16, .i32⟩ : BufTy).Contents (Elt F))]

theorem main_eq (c : Dev nD) : main (F := F) c = seq ops := (rfl)

/-- The squared distances of every two rows. -/
def dist (q : FVec F S12x2048x64 .f32) : FVec F S12x2048x2048 .f32 :=
  let sq := Host.reduceAdd (mulf q q) (constant S_ .f32 0x00000000#32) reducesTo_S12x2048x64_S12x2048_d2 h_S_
  subf (addf
      (broadcastInDim S12x2048x2048 ![0, 1, 2] bcast_S12x2048x1_S12x2048x2048_0_1_2
        (broadcastInDim S12x2048x1 ![0, 1] bcast_S12x2048_S12x2048x1_0_1 sq))
      (broadcastInDim S12x2048x2048 ![0, 1, 2] bcast_S12x1x2048_S12x2048x2048_0_1_2
        (broadcastInDim S12x1x2048 ![0, 2] bcast_S12x2048_S12x1x2048_0_2 sq)))
    (mulf (broadcastInDim S12x2048x2048 ![] bcast_S_S12x2048x2048 (constant S_ .f32 0x40000000#32))
      (Host.dotGeneral dot_S12x2048x64_S12x2048x64_S12x2048x2048_2_2_1_1_0_0 none q q))

/-- The distances of each row in order, and with them their positions. -/
def sorted (q : FVec F S12x2048x64 .f32) : FVec F S12x2048x2048 .f32 × IVec S12x2048x2048 32 :=
  Host.sort2 S12x2048x2048 2 comparator_f32_i32_d2 (dist q) (iotaInDim S12x2048x2048 32 2)

/-- The result of the argument. -/
def refOut (q : FVec F S12x2048x64 .f32) : IVec S12x2048x16 32 :=
  extractStridedSlice S12x2048x16 ![0, 0, 0] (sorted q).2 slices_S12x2048x2048_S12x2048x16_0_0_0

theorem out_eq (V : Valuation τ sig (Elt F)) :
    after ops V (Proc.devRef .tc main_v12) = refOut (V (Proc.devRef .tc main_arg0)) := by
  after_results; rfl

theorem arg0_eq (V : Valuation τ sig (Elt F)) : after ops V (Proc.devRef .tc main_arg0) = V (Proc.devRef .tc main_arg0) := by
  after_results

theorem scopedRefs_eq : (Finset.univ.filter fun b : Ref sig .tc => b.isScoped) = ∅ := by decide
theorem scopedSems_eq : (Finset.univ.filter fun sm : SemLoc sig => sm.isScoped .tc) = ∅ := by decide

/-- Every operation touches buffers of the TensorCore only. -/
theorem ops_sub : (ops : List (HloOp τ sig (Elt F))).Forall fun op => op.bufs ⊆ tcRefs τ sig :=
  ⟨binary_bufs_sub .., nullary_bufs_sub .., binary_bufs_sub .., unary_bufs_sub .., unary_bufs_sub .., unary_bufs_sub .., unary_bufs_sub .., binary_bufs_sub .., binary_bufs_sub .., nullary_bufs_sub .., unary_bufs_sub .., binary_bufs_sub .., binary_bufs_sub .., nullary_bufs_sub .., binary_bufs_sub .., binary_bufs_sub .., unary_bufs_sub ..⟩

/-- The reference ends with its result at `refOut` of its argument, its argument as it was, its counters at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v12) = refOut (m ((c.tc : Thread nD τ).loc main_arg0))
        ∧ r.2.mem ((c.tc : Thread nD τ).loc main_arg0) = m ((c.tc : Thread nD τ).loc main_arg0))
      ∧ r.2.sem = fun _ => 0 :=
  (θ_run defs _ _).mono (fun r h => ⟨fun c => ⟨(h c main_v12).trans (out_eq _), (h c main_arg0).trans (arg0_eq _)⟩,
      sem_eq_zero_of_no_sems (by decide) r.2⟩)
    (run_seq scopedRefs_eq scopedSems_eq defs main (fun _ => ops) main_eq (fun _ => ops_sub) m ρ)

theorem frame_ref : Cert.quiescent_SelectRefIdeal := fun m ρ _ =>
  (θ_run Cert.SelectRefIdeal.defs _ _).mono (fun r h => ⟨fun c => (h.1 c).2, h.2⟩) (run_main (F := Ideal) m ρ)

theorem frame_ref_apart : Cert.quiescent_SelectRefIdeal_pre_near_apart := fun m ρ _ =>
  (θ_run Cert.SelectRefIdeal.defs _ _).mono (fun r h => ⟨fun c => (h.1 c).2, h.2⟩) (run_main (F := Ideal) m ρ)

/-! ## At an index -/

/-- The squared distance of two rows. -/
def dst (q : FVec Ideal S12x2048x64 .f32) (h : Fin 12) (n m : Fin 2048) : EReal :=
  (∑ k : Fin 64, (q (ix3 h n k) : EReal) * q (ix3 h n k)) + (∑ k : Fin 64, (q (ix3 h m k) : EReal) * q (ix3 h m k))
    - Ideal.ofBits .f32 0x40000000#32 * ∑ k : Fin 64, (q (ix3 h n k) : EReal) * q (ix3 h m k)

theorem dist_apply (q : FVec Ideal S12x2048x64 .f32) (h : Fin 12) (n m : Fin 2048) :
    dist q (ix3 h n m) = dst q h n m := by
  pointwise [dist, dst]

private theorem ofBool_eq_one (p : Bool) : BitVec.ofBool p = 1#1 ↔ p = true := by cases p <;> decide

/-- The sort's comparator compares the distances. -/
theorem comparator_eq (l r : EReal × BitVec 32) :
    (comparator_f32_i32_d2 (F := Ideal) l r == 1#1) = decide (l.1 < r.1) := by
  have e0 : Ideal.ofBits .f32 0x00000000#32 = 0 := by simp [Ideal.ofBits, Ideal.ieee]
  have z : ∀ a : EReal, Scalar.select (Ideal.cmp .oeq a (Ideal.ofBits .f32 0x00000000#32)) (Ideal.ofBits .f32 0x00000000#32) a = a := by
    intro a
    by_cases ha : a = 0
    · simp [Scalar.select, Ideal.cmp, e0, ha]
    · simp [Scalar.select, Ideal.cmp, e0, ha]
  have w : ∀ a b : EReal, Scalar.select (Ideal.cmp .une a a) b a = a := by
    intro a b
    simp [Scalar.select, Ideal.cmp]
  have e : comparator_f32_i32_d2 (F := Ideal) l r = Ideal.cmpTotal .lt l.1 r.1 := by
    have zl := z l.1
    have zr := z r.1
    show Ideal.cmpTotal .lt
        (Scalar.select (Ideal.cmp .une l.1 l.1) (Ideal.ofBits .f32 0x7FC00000#32)
          (Scalar.select (Ideal.cmp .oeq l.1 (Ideal.ofBits .f32 0x00000000#32)) (Ideal.ofBits .f32 0x00000000#32) l.1))
        (Scalar.select (Ideal.cmp .une r.1 r.1) (Ideal.ofBits .f32 0x7FC00000#32)
          (Scalar.select (Ideal.cmp .oeq r.1 (Ideal.ofBits .f32 0x00000000#32)) (Ideal.ofBits .f32 0x00000000#32) r.1)) = _
    rw [zl, zr, w, w]
  rw [e]
  show (BitVec.ofBool (decide (l.1 < r.1)) == 1#1) = _
  cases decide (l.1 < r.1) <;> rfl

/-- The position of the `j`-th least distance of a row. -/
def pos (q : FVec Ideal S12x2048x64 .f32) (h : Fin 12) (n : Fin 2048) (j : Fin 2048) : Fin 2048 :=
  sortedFrom (fun a b => decide (dst q h n a < dst q h n b)) j

theorem sorted_apply (q : FVec Ideal S12x2048x64 .f32) (h : Fin 12) (n j : Fin 2048) :
    (sorted q).1 (ix3 h n j) = dst q h n (pos q h n j) ∧ (sorted q).2 (ix3 h n j) = BitVec.ofNat 32 (pos q h n j).val := by
  have al : ∀ k : Fin 2048, (ix3 h n j : S12x2048x2048.Idx).along 2 k = ix3 h n k := fun k =>
    funext fun a => by fin_cases a <;> rfl
  have hs : sortedFrom (fun k k' : Fin 2048 => comparator_f32_i32_d2 (F := Ideal)
        (dist q ((ix3 h n j : S12x2048x2048.Idx).along 2 k), iotaInDim S12x2048x2048 32 2 ((ix3 h n j : S12x2048x2048.Idx).along 2 k))
        (dist q ((ix3 h n j : S12x2048x2048.Idx).along 2 k'), iotaInDim S12x2048x2048 32 2 ((ix3 h n j : S12x2048x2048.Idx).along 2 k')) == 1#1)
      = pos q h n := by
    unfold pos
    congr 1
    funext k k'
    rw [comparator_eq, al, al, dist_apply, dist_apply]
  constructor
  · refine (congrArg (fun f : Fin 2048 → Fin 2048 => dist q ((ix3 h n j : S12x2048x2048.Idx).along 2 (f j))) hs).trans ?_
    exact (congrArg (dist q) (al _)).trans (dist_apply q h n _)
  · refine (congrArg (fun f : Fin 2048 → Fin 2048 =>
      iotaInDim S12x2048x2048 32 2 ((ix3 h n j : S12x2048x2048.Idx).along 2 (f j))) hs).trans ?_
    exact (congrArg (iotaInDim S12x2048x2048 32 2) (al _)).trans rfl

theorem pos_injective (q : FVec Ideal S12x2048x64 .f32) (h : Fin 12) (n : Fin 2048) : Function.Injective (pos q h n) :=
  sortedFrom_injective _

theorem pos_surjective (q : FVec Ideal S12x2048x64 .f32) (h : Fin 12) (n : Fin 2048) : Function.Surjective (pos q h n) :=
  sortedFrom_surjective _

theorem pos_mono (q : FVec Ideal S12x2048x64 .f32) (h : Fin 12) (n : Fin 2048) (i j : Fin 2048) (hij : i < j) :
    dst q h n (pos q h n i) ≤ dst q h n (pos q h n j) := by
  have := sortedFrom_noInversion (fun a b => decide (dst q h n a < dst q h n b)) (fun a b => decide (dst q h n a < dst q h n b))
    (by simp only [decide_eq_true_eq, decide_eq_false_iff_not]; exact fun a b hab => not_lt.mpr hab.le) (fun _ _ h => h)
    (by simp only [decide_eq_false_iff_not, not_lt]; exact fun a b c hab hbc => hbc.trans hab) i j hij
  exact not_lt.mp (of_decide_eq_false this)

theorem refOut_apply (q : FVec Ideal S12x2048x64 .f32) (h : Fin 12) (n : Fin 2048) (j : Fin 16) :
    refOut q (ix3 h n j) = BitVec.ofNat 32 (pos q h n (j.castLE (by decide))).val := by
  unfold refOut
  rw [extractStridedSlice_apply _ _ _ _ (ix3 h n (j.castLE (by decide))) (by intro a; fin_cases a <;> simp)]
  exact (sorted_apply q h n _).2

/-! ## The precondition -/

instance : Subsingleton Cert.Pre_near_apart.S_.Idx := ⟨fun a b => funext fun i => i.elim0⟩

/-- The sixteen least distances of each row are below the mask, and each is less than the next. -/
theorem apart (q : FVec Ideal S12x2048x64 .f32) (hq : Cert.Pre_near_apart.fn q = fun _ => 1#1) (h : Fin 12) (n : Fin 2048)
    (j : Fin 16) :
    dst q h n (pos q h n (j.castLE (by decide))) < dst q h n (pos q h n ⟨j.val + 1, by omega⟩)
      ∧ dst q h n (pos q h n (j.castLE (by decide))) < Ideal.ofBits .f32 0x7F61B1E6#32 := by
  obtain ⟨h1, h2⟩ := Frames.andi_split _ _ (congrFun hq fun a => a.elim0)
  have a1 := Host.reduce_andi_all _ _ _ _ _ h1 (ix3 h n j)
  have a2 := Host.reduce_andi_all _ _ _ _ _ h2 (ix3 h n j)
  have b1 : Ideal.cmp .olt (extractStridedSlice S12x2048x16 ![0, 0, 0] (sorted q).1 (by decide) (ix3 h n j))
      (extractStridedSlice S12x2048x16 ![0, 0, 1] (sorted q).1 (by decide) (ix3 h n j)) = 1#1 := a1
  have b2 : Ideal.cmp .olt (extractStridedSlice S12x2048x16 ![0, 0, 0] (sorted q).1 (by decide) (ix3 h n j))
      (Ideal.ofBits .f32 0x7F61B1E6#32) = 1#1 := a2
  rw [extractStridedSlice_apply _ _ _ _ (ix3 h n (j.castLE (by decide))) (by intro a; fin_cases a <;> simp)] at b1 b2
  rw [extractStridedSlice_apply _ _ _ _ (ix3 h n ⟨j.val + 1, by omega⟩) (by intro a; fin_cases a <;> simp [Nat.add_comm])] at b1
  rw [(sorted_apply q h n _).1] at b1 b2
  rw [(sorted_apply q h n _).1] at b1
  simpa [Ideal.cmp, ofBool_eq_one] using And.intro b1 b2

end Cert.Proof.SelectRef

end
-- ==== Proof.SelectValue.lean ====
/-
The selection call's value: every row's sixteen nearest rows, in order of distance.

Each step takes a row's least distance, reads its position off a masked sum of the position's two digits, and puts a
large value in its place. Where the seventeen least distances are apart and below that value, each step's least is
taken at one place, the next of the sorted order; so the columns are the first sixteen of the sorted positions.
-/

module

public import proofs.«01_k».proof.Proof.Gen.SelectIdeal.Value
public import proofs.«01_k».proof.Proof.SelectRef
public import Idealize.ShloMosaic.Lib.Pipeline.ValueKit.Geometry
public import Idealize.ShloMosaic.Lib.Pipeline.ValueKit.Acc

@[expose] public section

noncomputable section

namespace Cert.Proof.SelectValue

open Cert.SelectIdeal Cert.SelectIdeal.Gen
open Idealize.ShloMosaic Idealize.ShloMosaic.TcCoe Idealize.ShloMosaic.StableHlo Idealize.SL.Sem
open Idealize.ShloMosaic.Pipeline (Dat)

variable (m : (ℓ : Loc nD τ sig) → Buf (Elt Ideal) ℓ) (ρ : Dev nD → PrngReg)

/-- The mask of a row's least distances. -/
abbrev eqm (x : FVec Ideal S256x2048 .f32) : IVec S256x2048 1 := k0_pay7 x
/-- The distances with a row's least replaced by the mask value. -/
abbrev msk (x : FVec Ideal S256x2048 .f32) : FVec Ideal S256x2048 .f32 := k0_pay9 x
/-- Each row's least distance, along the row. -/
def rmn (x : FVec Ideal S256x2048 .f32) : FVec Ideal S256x2048 .f32 :=
  broadcastTo S256x2048 (shapeCast S256x1 (multiReduction .minimumf [1] S256 x 0x7F800000#32 reduces_S256x2048_S256 (.inl rfl) rfl)
    shapeCasts_S256_S256x1) broadcasts_S256x1_S256x2048
/-- One and zero by the mask of a row's least distances. -/
def hot (x : FVec Ideal S256x2048 .f32) : FVec Ideal S256x2048 .f32 :=
  select (eqm x) (broadcast S256x2048 (FloatOps.ofBits .f32 0x3F800000#32)) (broadcast S256x2048 (FloatOps.ofBits .f32 0x00000000#32))
/-- A column of selected positions: the masked sum of the low digits and sixty-four times that of the high ones. -/
def col (L : FVec Ideal S2048x2 .f32) (x : FVec Ideal S256x2048 .f32) : FVec Ideal S256x1 .f32 := k0_pay12 L (hot x)

theorem p8_eq (x : FVec Ideal S256x2048 .f32) (a : IVec S2048x1 32) (b : FVec Ideal S2048x1 .f32) (u : BitVec 32) (v : IVec S2048x1 32) (w : BitVec 32) : k0_pay8 x a b u v w = col (k0_pay6 a b u v w) x := rfl
theorem p10_eq (x : FVec Ideal S256x2048 .f32) : k0_pay10 x = eqm (msk x) := rfl
theorem p12_eq (L : FVec Ideal S2048x2 .f32) (x : FVec Ideal S256x2048 .f32) : k0_pay12 L (k0_pay11 x) = col L (msk x) := rfl
theorem p13_eq (x : FVec Ideal S256x2048 .f32) : k0_pay13 x (eqm x) = msk (x) := rfl
theorem p14_eq (x : FVec Ideal S256x2048 .f32) : k0_pay14 x (eqm x) = eqm (msk (x)) := rfl
theorem p15_eq (L : FVec Ideal S2048x2 .f32) (x : FVec Ideal S256x2048 .f32) : k0_pay15 L x (eqm x) = col L (msk (x)) := rfl
theorem p16_eq (x : FVec Ideal S256x2048 .f32) : k0_pay16 x (eqm x) = msk (msk (x)) := rfl
theorem p17_eq (x : FVec Ideal S256x2048 .f32) : k0_pay17 x (eqm x) = eqm (msk (msk (x))) := rfl
theorem p18_eq (L : FVec Ideal S2048x2 .f32) (x : FVec Ideal S256x2048 .f32) : k0_pay18 L x (eqm x) = col L (msk (msk (x))) := rfl
theorem p19_eq (x : FVec Ideal S256x2048 .f32) : k0_pay19 x (eqm x) = msk (msk (msk (x))) := rfl
theorem p20_eq (x : FVec Ideal S256x2048 .f32) : k0_pay20 x (eqm x) = eqm (msk (msk (msk (x)))) := rfl
theorem p21_eq (L : FVec Ideal S2048x2 .f32) (x : FVec Ideal S256x2048 .f32) : k0_pay21 L (eqm x) (FloatOps.ofBits FTy.f32 0x3F800000#32) (FloatOps.ofBits FTy.f32 0x00000000#32) = col L x := rfl
theorem p22_eq (x : FVec Ideal S256x2048 .f32) : k0_pay22 x (eqm x) = msk (x) := rfl
theorem p23_eq (x : FVec Ideal S256x2048 .f32) : k0_pay23 x (eqm x) = eqm (msk (x)) := rfl
theorem p24_eq (L : FVec Ideal S2048x2 .f32) (x : FVec Ideal S256x2048 .f32) : k0_pay24 L x (eqm x) = col L (msk (x)) := rfl
theorem p25_eq (x : FVec Ideal S256x2048 .f32) : k0_pay25 x (eqm x) = msk (msk (x)) := rfl
theorem p26_eq (x : FVec Ideal S256x2048 .f32) : k0_pay26 x (eqm x) = eqm (msk (msk (x))) := rfl
theorem p27_eq (L : FVec Ideal S2048x2 .f32) (x : FVec Ideal S256x2048 .f32) : k0_pay27 L x (eqm x) = col L (msk (msk (x))) := rfl
theorem p28_eq (x : FVec Ideal S256x2048 .f32) : k0_pay28 x (eqm x) = msk (msk (msk (x))) := rfl
theorem p29_eq (x : FVec Ideal S256x2048 .f32) : k0_pay29 x (eqm x) = rmn (msk (msk (msk x))) := rfl
theorem p30_eq (x : FVec Ideal S256x2048 .f32) : k0_pay30 x (rmn x) = eqm (x) := rfl
theorem p31_eq (L : FVec Ideal S2048x2 .f32) (x : FVec Ideal S256x2048 .f32) : k0_pay31 L x (rmn x) = col L (x) := rfl
theorem p32_eq (x : FVec Ideal S256x2048 .f32) : k0_pay32 x (rmn x) = msk (x) := rfl
theorem p33_eq (x : FVec Ideal S256x2048 .f32) : k0_pay33 x (rmn x) = eqm (msk (x)) := rfl
theorem p34_eq (L : FVec Ideal S2048x2 .f32) (x : FVec Ideal S256x2048 .f32) : k0_pay34 L x (rmn x) = col L (msk (x)) := rfl
theorem p35_eq (x : FVec Ideal S256x2048 .f32) : k0_pay35 x (rmn x) = msk (msk (x)) := rfl
theorem p36_eq (x : FVec Ideal S256x2048 .f32) : k0_pay36 x (rmn x) = eqm (msk (msk (x))) := rfl
theorem p37_eq (L : FVec Ideal S2048x2 .f32) (x : FVec Ideal S256x2048 .f32) : k0_pay37 L x (rmn x) = col L (msk (msk (x))) := rfl
theorem p38_eq (x : FVec Ideal S256x2048 .f32) : k0_pay38 x (rmn x) = msk (msk (msk (x))) := rfl
theorem p39_eq (x : FVec Ideal S256x2048 .f32) : k0_pay39 x = eqm (x) := rfl
theorem p40_eq (L : FVec Ideal S2048x2 .f32) (x : FVec Ideal S256x2048 .f32) : k0_pay40 L x = col L (x) := rfl
theorem p41_eq (x : FVec Ideal S256x2048 .f32) : k0_pay41 x = msk (x) := rfl
theorem p42_eq (x : FVec Ideal S256x2048 .f32) : k0_pay42 x = eqm (msk (x)) := rfl
theorem p43_eq (L : FVec Ideal S2048x2 .f32) (x : FVec Ideal S256x2048 .f32) : k0_pay43 L x = col L (msk (x)) := rfl
theorem p44_eq (x : FVec Ideal S256x2048 .f32) : k0_pay44 x = msk (msk (x)) := rfl
theorem p45_eq (x : FVec Ideal S256x2048 .f32) : k0_pay45 x = eqm (msk (msk (x))) := rfl
theorem p46_eq (L : FVec Ideal S2048x2 .f32) (x : FVec Ideal S256x2048 .f32) : k0_pay46 L x = col L (msk (msk (x))) := rfl
theorem p47_eq (x : FVec Ideal S256x2048 .f32) : k0_pay47 x (eqm x) (FloatOps.ofBits FTy.f32 0x7F61B1E6#32) = msk (x) := rfl
theorem p48_eq (x : FVec Ideal S256x2048 .f32) : k0_pay48 x (eqm x) (FloatOps.ofBits FTy.f32 0x7F61B1E6#32) = eqm (msk (x)) := rfl
theorem p49_eq (L : FVec Ideal S2048x2 .f32) (x : FVec Ideal S256x2048 .f32) : k0_pay49 L x (eqm x) (FloatOps.ofBits FTy.f32 0x7F61B1E6#32) = col L (msk (x)) := rfl
theorem p50_eq (x : FVec Ideal S256x2048 .f32) : k0_pay50 x (eqm x) (FloatOps.ofBits FTy.f32 0x7F61B1E6#32) = msk (msk (x)) := rfl
theorem p51_eq (x : FVec Ideal S256x2048 .f32) : k0_pay51 x (eqm x) (FloatOps.ofBits FTy.f32 0x7F61B1E6#32) = eqm (msk (msk (x))) := rfl
theorem p52_eq (L : FVec Ideal S2048x2 .f32) (x : FVec Ideal S256x2048 .f32) : k0_pay52 L x (eqm x) (FloatOps.ofBits FTy.f32 0x7F61B1E6#32) = col L (msk (msk (x))) := rfl
theorem p55_eq (L : FVec Ideal S2048x2 .f32) (x : FVec Ideal S256x2048 .f32) : k0_pay1 (k0_pay54 L x (eqm x) (FloatOps.ofBits FTy.f32 0x7F61B1E6#32)) (k0_pay55 L x (eqm x) (FloatOps.ofBits FTy.f32 0x7F61B1E6#32)) k0_pay56 = col L (msk (msk (msk x))) := rfl

/-! ## The steps at an index -/

theorem top_eq : Ideal.ofBits .f32 0x7F800000#32 = ⊤ := by simp [Ideal.ofBits, Ideal.ieee]

/-- A row's least value. -/
abbrev low (x : FVec Ideal S256x2048 .f32) (r : Fin 256) : EReal :=
  (Finset.univ : Finset (Fin 2048)).fold min ⊤ fun k => (x (ix2 r k) : EReal)

theorem eqm_apply (x : FVec Ideal S256x2048 .f32) (r : Fin 256) (k : Fin 2048) :
    eqm x (ix2 r k) = BitVec.ofBool (decide ((x (ix2 r k) : EReal) = low x r)) := by
  unfold eqm; pointwise [k0_pay7]
  rw [top_eq]

theorem msk_apply (x : FVec Ideal S256x2048 .f32) (r : Fin 256) (k : Fin 2048) :
    (msk x (ix2 r k) : EReal) = if (x (ix2 r k) : EReal) = low x r then Ideal.ofBits .f32 0x7F61B1E6#32 else x (ix2 r k) := by
  pointwise [msk, k0_pay9]
  rw [show k0_pay7 x (ix2 r k) = _ from eqm_apply x r k]
  by_cases h : (x (ix2 r k) : EReal) = low x r
  · simp [Scalar.select, h]
  · simp [Scalar.select, h]

theorem hot_apply (x : FVec Ideal S256x2048 .f32) (r : Fin 256) (k : Fin 2048) :
    (hot x (ix2 r k) : EReal) = if (x (ix2 r k) : EReal) = low x r then 1 else 0 := by
  pointwise [hot]
  rw [eqm_apply]
  by_cases h : (x (ix2 r k) : EReal) = low x r
  · simp [Scalar.select, h]
  · simp [Scalar.select, h]

theorem col_apply (L : FVec Ideal S2048x2 .f32) (x : FVec Ideal S256x2048 .f32) (r : Fin 256) (u : Fin 1) :
    (col L x (ix2 r u) : EReal) = (∑ k : Fin 2048, (hot x (ix2 r k) : EReal) * L (ix2 k (0 : Fin 2)))
      + Ideal.ofBits .f32 0x42800000#32 * ∑ k : Fin 2048, (hot x (ix2 r k) : EReal) * L (ix2 k (1 : Fin 2)) := by
  unfold col; pointwise [k0_pay12]

/-- The table of digits: the position's remainder by sixty-four and its quotient. -/
abbrev dig : FVec Ideal S2048x2 .f32 :=
  k0_pay6 (iota .tc S2048x1 32 [0] iota_S2048x1_d0_w32) k0_pay4 64#32 k0_pay5 0#32

theorem low_digit : ∀ k : Fin 2048,
    (Scalar.select
          (IntOp.andi
            (IntOp.xori
              (IntOp.cmpi CmpIPredicate.slt
                (IntOp.remsi ArithUnit.vector (BitVec.ofNat 32 ↑k)
                  (Scalar.select (Scalar.cmpi CmpIPredicate.eq 64#32 0#32) 1#32 64#32))
                0#32)
              (Scalar.cmpi CmpIPredicate.slt (Scalar.select (Scalar.cmpi CmpIPredicate.eq 64#32 0#32) 1#32 64#32) 0#32))
            (IntOp.cmpi CmpIPredicate.ne
              (IntOp.remsi ArithUnit.vector (BitVec.ofNat 32 ↑k)
                (Scalar.select (Scalar.cmpi CmpIPredicate.eq 64#32 0#32) 1#32 64#32))
              0#32))
          (IntOp.addi
            (IntOp.remsi ArithUnit.vector (BitVec.ofNat 32 ↑k)
              (Scalar.select (Scalar.cmpi CmpIPredicate.eq 64#32 0#32) 1#32 64#32))
            (Scalar.select (Scalar.cmpi CmpIPredicate.eq 64#32 0#32) 1#32 64#32))
          (IntOp.remsi ArithUnit.vector (BitVec.ofNat 32 ↑k)
            (Scalar.select (Scalar.cmpi CmpIPredicate.eq 64#32 0#32) 1#32 64#32))).toInt = ((k.val % 64 : ℕ) : ℤ) := by
  decide +kernel

theorem high_digit : ∀ k : Fin 2048,
    (Scalar.select
          (IntOp.andi
            (IntOp.cmpi CmpIPredicate.ne
              (IntOp.subi (BitVec.setWidth 32 (IntOp.cmpi CmpIPredicate.sgt (BitVec.ofNat 32 ↑k) 0#32))
                (BitVec.setWidth 32 (IntOp.cmpi CmpIPredicate.slt (BitVec.ofNat 32 ↑k) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 ↑k) 64#32) 0#32))
          (IntOp.subi (IntOp.divsi ArithUnit.vector (BitVec.ofNat 32 ↑k) 64#32) 1#32)
          (IntOp.divsi ArithUnit.vector (BitVec.ofNat 32 ↑k) 64#32)).toInt = ((k.val / 64 : ℕ) : ℤ) := by
  decide +kernel

theorem sitofp_eq (b : BitVec 32) (n : ℕ) (h : b.toInt = (n : ℤ)) :
    (FloatOps.sitofp (F := Ideal) .f32 b : EReal) = ((n : ℝ) : EReal) := by
  show (((b.toInt : ℤ) : ℝ) : EReal) = _
  rw [h]; simp

theorem dig_low (k : Fin 2048) : (dig (ix2 k (0 : Fin 2)) : EReal) = (((k.val % 64 : ℕ) : ℝ) : EReal) := by
  pointwise [dig, k0_pay6, k0_pay4, k0_pay5]
  exact sitofp_eq _ _ (low_digit k)

theorem dig_high (k : Fin 2048) : (dig (ix2 k (1 : Fin 2)) : EReal) = (((k.val / 64 : ℕ) : ℝ) : EReal) := by
  pointwise [dig, k0_pay6, k0_pay4, k0_pay5]
  exact sitofp_eq _ _ (high_digit k)

theorem pay3_apply (v0 : Vec Ideal S1x2048x64 .f32) (v4 : Vec Ideal S1x256x64 .f32) (r : Fin 256) (k : Fin 2048) :
    (k0_pay3 (F := Ideal) v0 v4 (ix2 r k) : EReal)
      = (∑ a : Fin 64, (v4 (ix3 (0 : Fin 1) r a) : EReal) * v4 (ix3 (0 : Fin 1) r a))
        + (∑ a : Fin 64, (v0 (ix3 (0 : Fin 1) k a) : EReal) * v0 (ix3 (0 : Fin 1) k a))
        - Ideal.ofBits .f32 0x40000000#32 * ∑ a : Fin 64, (v4 (ix3 (0 : Fin 1) r a) : EReal) * v0 (ix3 (0 : Fin 1) k a) := by
  pointwise [k0_pay3]

/-- The stored word: the position kept in the table's range, rounded to the nearest. -/
def word (v : EReal) : BitVec 32 :=
  Ideal.fptosi 32 (min (Ideal.ofBits .f32 0x44FFE000#32) (max (Ideal.ofBits .f32 0x00000000#32) v) + Ideal.ofBits .f32 0x3F000000#32)

theorem pay2_apply (f : Fin 16 → FVec Ideal S256x1 .f32) (u : Fin 1) (r : Fin 256) (j : Fin 16) :
    k0_pay2 (f 0) (f 1) (f 2) (f 3) (f 4) (f 5) (f 6) (f 7) (f 8) (f 9) (f 10) (f 11) (f 12) (f 13) (f 14) (f 15) (ix3 u r j) = word (f j (ix2 r (0 : Fin 1))) := by
  fin_cases j <;> pointwise [k0_pay2, word]
  all_goals rfl

/-- A function least at one place only takes its least value there only. -/
theorem least_iff (f : Fin 2048 → EReal) (p k : Fin 2048) (h : ∀ a, a ≠ p → f p < f a) :
    f k = (Finset.univ : Finset (Fin 2048)).fold min ⊤ f ↔ k = p := by
  have e : (Finset.univ : Finset (Fin 2048)).fold min ⊤ f = f p := by
    refine le_antisymm ?_ ?_
    · exact (Finset.fold_min_le _).mpr (Or.inr ⟨p, Finset.mem_univ _, le_rfl⟩)
    · refine (Finset.le_fold_min _).mpr ⟨le_top, fun a _ => ?_⟩
      by_cases ha : a = p
      · rw [ha]
      · exact (h a ha).le
  rw [e]
  constructor
  · intro hk
    by_contra hn
    exact absurd hk (ne_of_gt (h k hn))
  · rintro rfl; rfl

theorem word_eq (n : Fin 2048) : word (((n.val : ℕ) : ℝ) : EReal) = BitVec.ofNat 32 n.val := by
  have eh : Ideal.ofBits .f32 0x3F000000#32 = ((1 / 2 : ℝ) : EReal) := by
    simp [Ideal.ofBits, Ideal.ieee]
    rw [← EReal.coe_mul]
    norm_num
  have em : Ideal.ofBits .f32 0x44FFE000#32 = ((2047 : ℝ) : EReal) := by
    simp [Ideal.ofBits, Ideal.ieee]
    rw [← EReal.coe_mul]
    norm_num
  have ez : Ideal.ofBits .f32 0x00000000#32 = ((0 : ℝ) : EReal) := by simp [Ideal.ofBits, Ideal.ieee]
  have hn : (n.val : ℝ) ≤ 2047 := by exact_mod_cast (by omega : n.val ≤ 2047)
  have h0 : (0 : ℝ) ≤ (n.val : ℝ) := Nat.cast_nonneg _
  unfold word
  rw [eh, em, ez, max_eq_right (EReal.coe_le_coe_iff.mpr h0), min_eq_right (EReal.coe_le_coe_iff.mpr hn), ← EReal.coe_add]
  unfold Ideal.fptosi
  rw [Ideal.toIntClamped_coe, if_pos (by linarith)]
  have hf : ⌊(n.val : ℝ) + 1 / 2⌋ = (n.val : ℤ) := by
    rw [Int.floor_eq_iff]
    constructor
    · push_cast; linarith
    · push_cast; linarith
  rw [hf, min_eq_right (by have := n.isLt; norm_num; omega), max_eq_right (by have := n.isLt; norm_num; try omega)]
  exact BitVec.ofInt_natCast 32 n.val

/-- Where one place only holds the row's least distance, the column has that place. -/
theorem col_eq (x : FVec Ideal S256x2048 .f32) (r : Fin 256) (p : Fin 2048)
    (h : ∀ a, a ≠ p → (x (ix2 r p) : EReal) < x (ix2 r a)) : (col dig x (ix2 r (0 : Fin 1)) : EReal) = (((p.val : ℕ) : ℝ) : EReal) := by
  have hh : ∀ k, (hot x (ix2 r k) : EReal) = if k = p then 1 else 0 := fun k => by
    rw [hot_apply]
    exact if_congr (least_iff (fun k => x (ix2 r k)) p k h) rfl rfl
  have e64 : Ideal.ofBits .f32 0x42800000#32 = ((64 : ℝ) : EReal) := by
    simp [Ideal.ofBits, Ideal.ieee]
    rw [← EReal.coe_mul]
    norm_num
  rw [col_apply]
  simp only [hh, ite_mul, one_mul, zero_mul, Finset.sum_ite_eq', Finset.mem_univ, if_true]
  rw [dig_low, dig_high, e64, ← EReal.coe_mul, ← EReal.coe_add]
  congr 1
  have := Nat.mod_add_div p.val 64
  exact_mod_cast this

/-- The distances with the least of each row masked so many times. -/
def it (x : FVec Ideal S256x2048 .f32) : ℕ → FVec Ideal S256x2048 .f32
  | 0 => x
  | n + 1 => msk (it x n)

section nest
attribute [local irreducible] k0_pay9 k0_pay2 col word

/-- The stored block over the distances, at an index. -/
theorem nest_apply (d : FVec Ideal S256x2048 .f32) (u : Fin 1) (r : Fin 256) (j : Fin 16) :
    k0_pay2 (col dig (d)) (col dig (msk (d))) (col dig (msk (msk (d)))) (col dig (msk (msk (msk (d))))) (col dig (msk (msk (msk (msk (d)))))) (col dig (msk (msk (msk (msk (msk (d))))))) (col dig (msk (msk (msk (msk (msk (msk (d)))))))) (col dig (msk (msk (msk (msk (msk (msk (msk (d))))))))) (col dig (msk (msk (msk (msk (msk (msk (msk (msk (d)))))))))) (col dig (msk (msk (msk (msk (msk (msk (msk (msk (msk (d))))))))))) (col dig (msk (msk (msk (msk (msk (msk (msk (msk (msk (msk (d)))))))))))) (col dig (msk (msk (msk (msk (msk (msk (msk (msk (msk (msk (msk (d))))))))))))) (col dig (msk (msk (msk (msk (msk (msk (msk (msk (msk (msk (msk (msk (d)))))))))))))) (col dig (msk (msk (msk (msk (msk (msk (msk (msk (msk (msk (msk (msk (msk (d))))))))))))))) (col dig (msk (msk (msk (msk (msk (msk (msk (msk (msk (msk (msk (msk (msk (msk (d)))))))))))))))) (col dig (msk (msk (msk (msk (msk (msk (msk (msk (msk (msk (msk (msk (msk (msk (msk (d)))))))))))))))))
        (ix3 u r j) = word (col dig (it d j.val) (ix2 r (0 : Fin 1))) :=
  pay2_apply (fun j => col dig (it d j.val)) u r j

end nest

section row
variable (x : FVec Ideal S256x2048 .f32) (r : Fin 256) (p : Fin 16 → Fin 2048) (hinj : Function.Injective p)
  (hlt : ∀ j a, (∀ i, i ≤ j → p i ≠ a) → (x (ix2 r (p j)) : EReal) < x (ix2 r a))
  (hB : ∀ j, (x (ix2 r (p j)) : EReal) < Ideal.ofBits .f32 0x7F61B1E6#32)
include hinj hlt hB

theorem only_of_it (j : Fin 16) (h : ∀ k, (it x j.val (ix2 r k) : EReal)
      = if ∃ i : Fin 16, i < j ∧ p i = k then Ideal.ofBits .f32 0x7F61B1E6#32 else x (ix2 r k))
    (a : Fin 2048) (ha : a ≠ p j) : (it x j.val (ix2 r (p j)) : EReal) < it x j.val (ix2 r a) := by
  rw [h, h, if_neg (by rintro ⟨i, hi, he⟩; exact absurd (hinj he) hi.ne)]
  split
  · exact hB j
  · rename_i hn
    refine hlt j a fun i hi he => ?_
    rcases hi.lt_or_eq with hi | hi
    · exact hn ⟨i, hi, he⟩
    · exact ha (by rw [← he, hi])

theorem it_apply (n : ℕ) (hn : n < 16) : ∀ k, (it x n (ix2 r k) : EReal)
      = if ∃ i : Fin 16, i < ⟨n, hn⟩ ∧ p i = k then Ideal.ofBits .f32 0x7F61B1E6#32 else x (ix2 r k) := by
  induction n with
  | zero => intro k; rw [if_neg (by rintro ⟨i, hi, _⟩; exact absurd hi (Nat.not_lt_zero _))]; rfl
  | succ n ih =>
    intro k
    have ih' := ih (by omega)
    have ho := only_of_it x r p hinj hlt hB ⟨n, by omega⟩ ih'
    show (msk (it x n) (ix2 r k) : EReal) = _
    rw [msk_apply]
    have hl := least_iff (fun k => it x n (ix2 r k)) (p ⟨n, by omega⟩) k ho
    by_cases hk : k = p ⟨n, by omega⟩
    · rw [if_pos (hl.mpr hk), if_pos ⟨⟨n, by omega⟩, Nat.lt_succ_self n, hk.symm⟩]
    · rw [if_neg (fun h => hk (hl.mp h)), ih' k]
      refine if_congr ⟨?_, ?_⟩ rfl rfl
      · rintro ⟨i, hi, he⟩; exact ⟨i, Nat.lt_succ_of_lt hi, he⟩
      · rintro ⟨i, hi, he⟩
        rcases (Nat.lt_succ_iff.mp hi).lt_or_eq with h | h
        · exact ⟨i, h, he⟩
        · exact absurd (by rw [← he]; congr 1; exact Fin.ext h) hk

/-- The column of a step has the place of that step's least distance. -/
theorem col_it (j : Fin 16) : (col dig (it x j.val) (ix2 r (0 : Fin 1)) : EReal) = ((((p j).val : ℕ) : ℝ) : EReal) :=
  col_eq _ r (p j) (only_of_it x r p hinj hlt hB j (it_apply x r p hinj hlt hB j.val j.isLt))

end row

variable (m : (ℓ : Loc nD τ sig) → Buf (Elt Ideal) ℓ) (ρ : Dev nD → PrngReg)

theorem e0 : ∀ t : Fin cfg0.N, win0_0.index t = ![t.val / 8, 0, 0] := (by decide +kernel : ∀ t : Fin grid0.N, _)
theorem e1 : ∀ t : Fin cfg0.N, win0_1.index t = ![t.val / 8, t.val % 8, 0] := (by decide +kernel : ∀ t : Fin grid0.N, _)
theorem off_eq : ∀ t : Fin cfg0.N, k0_off1 (grid0.coords t) = ![0, t.val % 8 * 256, 0] := (by decide +kernel : ∀ t : Fin grid0.N, _)

/-- The head of block `t`. -/
def head (t : Fin cfg0.N) : Fin 12 := ⟨t.val / 8, by
  have h : t.val < 96 := Nat.lt_of_lt_of_eq t.isLt N_0
  omega⟩

/-- The row of the whole array that row `r` of block `t` is. -/
def row (t : Fin cfg0.N) (r : Fin 256) : Fin 2048 := ⟨t.val % 8 * 256 + r.val, by omega⟩

theorem head_val (t : Fin cfg0.N) : (head t : Nat) = t.val / 8 := (rfl)
theorem row_val (t : Fin cfg0.N) (r : Fin 256) : (row t r : Nat) = t.val % 8 * 256 + r.val := (rfl)

theorem blk0 (c : Dev nD) (t : Fin cfg0.N) (u : Fin 1) (r : Fin 2048) (k : Fin 64) :
    iblk m c 0 t (ix3 u r k) = V m c main_arg0 (ix3 (head t) r k) := by
  blk_simp [iblk]
  congr 1
  blk_ext [e0, head_val]

theorem emb1 (t : Fin cfg0.N) (u : Fin 1) (r : Fin 256) (n : Fin 16) :
    ((View.whole main_v0).slice (win0_1.rect t)).emb (ix3 u r n) = (ix3 (head t) (row t r) n : S12x2048x16.Idx) := by
  blk_ext [e1, row_val, head_val]

theorem ld_apply (c : Dev nD) (t : Fin cfg0.N) (h) (u : Fin 1) (r : Fin 256) (k : Fin 64) :
    View.ld (iblk m c 0 t) (Rect.unit (s := S1x2048x64) (k0_off1 (grid0.coords t)) ![1, 256, 64] h) (ix3 u r k)
      = V m c main_arg0 (ix3 (head t) (row t r) k) := by
  refine Eq.trans ?_ (blk0 m c t u (row t r) k)
  show iblk m c 0 t _ = _
  congr 1
  funext a
  apply Fin.ext
  show k0_off1 (grid0.coords t) a + 1 * ((ix3 u r k : (⟨3, ![1, 256, 64]⟩ : Shape).Idx) a).val = _
  rw [off_eq, one_mul]
  fin_cases a
  · exact Nat.zero_add _
  · exact (row_val t r).symm
  · exact Nat.zero_add _

/-- The distances of block `t`. -/
theorem dist_blk (c : Dev nD) (t : Fin cfg0.N) (h) (r : Fin 256) (k : Fin 2048) :
    (k0_pay3 (iblk m c 0 t) (View.ld (iblk m c 0 t) (Rect.unit (s := S1x2048x64) (k0_off1 (grid0.coords t)) ![1, 256, 64] h))
      (ix2 r k) : EReal) = SelectRef.dst (V m c main_arg0) (head t) (row t r) k := by
  rw [pay3_apply]
  simp only [ld_apply, blk0]
  rfl

/-- The selected positions of a row whose distances are the reference's. -/
theorem word_it (q : FVec Ideal S12x2048x64 .f32) (hq : Cert.Pre_near_apart.fn (F := Ideal) q = fun _ => 1#1)
    (h : Fin 12) (n : Fin 2048) (x : FVec Ideal S256x2048 .f32) (r : Fin 256)
    (hx : ∀ k, (x (ix2 r k) : EReal) = SelectRef.dst q h n k) (j : Fin 16) :
    word (col dig (it x j.val) (ix2 r (0 : Fin 1)))
      = BitVec.ofNat 32 (SelectRef.pos q h n (j.castLE (by decide))).val := by
  have hc := col_it x r (fun i : Fin 16 => SelectRef.pos q h n (i.castLE (by decide)))
    (fun a b hab => Fin.castLE_injective _ (SelectRef.pos_injective q h n hab))
    (fun i a ha => by
      rw [hx, hx]
      obtain ⟨b, rfl⟩ := SelectRef.pos_surjective q h n a
      have hb : i.val + 1 ≤ b.val := by
        by_contra hn
        exact ha ⟨b.val, by omega⟩ (Fin.le_def.mpr (by simp only; omega)) rfl
      refine (SelectRef.apart q hq h n i).1.trans_le ?_
      rcases hb.lt_or_eq with hb | hb
      · exact SelectRef.pos_mono q h n _ _ hb
      · exact le_of_eq (by congr 2; exact Fin.ext hb))
    (fun i => by rw [hx]; exact (SelectRef.apart q hq h n i).2) j
  rw [hc]
  exact word_eq _

theorem final_o (c : Dev nD) (hq : Cert.Pre_near_apart.fn (F := Ideal) (V m c main_arg0) = fun _ => 1#1) :
    (dats (F := Ideal) m 0 c).arrAt 1 cfg0.N = SelectRef.refOut (F := Ideal) (V m c main_arg0) := by
  refine (dats m 0 c).arrAt_eq_of_covers 1 _ (by decide +kernel) fun t hf y => ?_
  blk_simp
  rw [after0_1]; unfold outsAt0 out0_A_1; frame_out
  simp only [p8_eq, p10_eq, p12_eq, p13_eq, p14_eq, p15_eq, p16_eq, p17_eq, p18_eq, p19_eq, p20_eq, p21_eq, p22_eq, p23_eq, p24_eq, p25_eq, p26_eq, p27_eq, p28_eq, p29_eq, p30_eq, p31_eq, p32_eq, p33_eq, p34_eq, p35_eq, p36_eq, p37_eq, p38_eq, p39_eq, p40_eq, p41_eq, p42_eq, p43_eq, p44_eq, p45_eq, p46_eq, p47_eq, p48_eq, p49_eq, p50_eq, p51_eq, p52_eq, p55_eq]
  obtain ⟨u, r, j, rfl⟩ : ∃ (u : Fin 1) (r : Fin 256) (j : Fin 16), y = (ix3 u r j : S1x256x16.Idx) :=
    ⟨y 0, y 1, y 2, funext fun a => by fin_cases a <;> rfl⟩
  rw [emb1, SelectRef.refOut_apply]
  refine (nest_apply _ u r j).trans ?_
  exact word_it _ hq _ _ _ r (fun k => dist_blk m c t _ r k) j

theorem run_main' (hq : ∀ c : Dev nD, Cert.Pre_near_apart.fn (F := Ideal) (m ((c.tc : Thread nD τ).loc main_arg0)) = fun _ => 1#1) :
    θ_run defs (onTc (τ := τ) (main (F := Ideal))) ⟨m, fun _ => 0, ρ⟩ fun r => ∀ c : Dev nD,
      r.2.mem ((c.tc : Thread nD τ).loc main_v0) = SelectRef.refOut (F := Ideal) (m ((c.tc : Thread nD τ).loc main_arg0))
      ∧ r.2.mem ((c.tc : Thread nD τ).loc main_arg0) = m ((c.tc : Thread nD τ).loc main_arg0) :=
  (θ_run defs _ _).mono (fun r h c => ⟨(h c).1.trans (final_o m c (hq c)), (h c).2⟩) (Value.run_blocks (F := Ideal) m ρ)

theorem algebraic : Cert.algebraic_SelectIdeal_SelectRefIdeal_pre_near_apart := by
  intro m ρ m' ρ' hpre hagree
  refine ⟨fun c => SelectRef.refOut (F := Ideal) (m ((c.tc : Thread nD τ).loc main_arg0)), run_main' m ρ hpre, ?_⟩
  refine (θ_run Cert.SelectRefIdeal.defs _ _).mono (fun r h c => ?_) (SelectRef.run_main (F := Ideal) m' ρ')
  obtain ⟨hv, harg⟩ := h.1 c
  refine ⟨hv.trans ?_, harg⟩
  rw [hagree c]

end Cert.Proof.SelectValue

end
-- ==== Proof.lean ====
/-
  The proof of `Cert.Claim`: of each of the calls taken, the frames of the kernel, of its idealization and of the reference,
  that the idealization rewrites nothing, and that the two programs end with the same results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_idx_in_rows
public import proofs.«01_k».proof.Proof.Gen.Qkv
public import proofs.«01_k».proof.Proof.Gen.QkvIdeal
public import proofs.«01_k».proof.Proof.Gen.QkvRefIdeal
public import proofs.«01_k».proof.Proof.Gen.Out
public import proofs.«01_k».proof.Proof.Gen.OutIdeal
public import proofs.«01_k».proof.Proof.Gen.OutRefIdeal
public import proofs.«01_k».proof.Proof.Gen.Qkv.Skeleton
public import proofs.«01_k».proof.Proof.Gen.Qkv.Frame
public import proofs.«01_k».proof.Proof.Gen.QkvIdeal.Skeleton
public import proofs.«01_k».proof.Proof.Gen.QkvIdeal.Frame
public import proofs.«01_k».proof.Proof.Gen.Out.Skeleton
public import proofs.«01_k».proof.Proof.Gen.Out.Frame
public import proofs.«01_k».proof.Proof.Gen.OutIdeal.Skeleton
public import proofs.«01_k».proof.Proof.Gen.OutIdeal.Frame
public import proofs.«01_k».proof.Proof.Frames
public import proofs.«01_k».proof.Proof.Value
public import proofs.«01_k».proof.Proof.QkvFrames
public import proofs.«01_k».proof.Proof.QkvValue
public import proofs.«01_k».proof.Proof.OutFrames
public import proofs.«01_k».proof.Proof.OutValue
public import proofs.«01_k».proof.Proof.SelectFrames
public import proofs.«01_k».proof.Proof.SelectRef
public import proofs.«01_k».proof.Proof.SelectValue
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Qkv.Gen.facts,
    Cert.QkvIdeal.Gen.facts, Cert.QkvRefIdeal.Gen.facts, Cert.Out.Gen.facts, Cert.OutIdeal.Gen.facts,
    Cert.OutRefIdeal.Gen.facts, Cert.Select.Gen.facts, Cert.SelectIdeal.Gen.facts, Cert.SelectRefIdeal.Gen.facts,
    Cert.Pre_idx_in_rows.Gen.facts, Frames.facts_finite, Cert.Pre_near_apart.Gen.facts,
    Frames.frame_kernel, Frames.frame_ideal, Frames.frame_ideal_finite, Value.frame_ref, Value.frame_ref_finite,
    QkvFrames.frame_kernel, QkvFrames.frame_ideal, QkvRef.frame_ref,
    OutFrames.frame_kernel, OutFrames.frame_ideal, OutRef.frame_ref,
    SelectFrames.frame_kernel, SelectFrames.frame_ideal, SelectFrames.frame_ideal_apart, SelectRef.frame_ref,
    SelectRef.frame_ref_apart,
    trivial, Value.algebraic, trivial, QkvValue.algebraic, trivial, OutValue.algebraic,
    trivial, SelectValue.algebraic⟩

end Cert.Proof

end
